-- ==== Defs.lean ====
def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Bl (m : (ℓ : Loc Cert.Bl.nD Cert.Bl.τ Cert.Bl.sig) → Buf (Elt Bits) ℓ) : Prop :=
  True

def Pre_BlIdeal (m : (ℓ : Loc Cert.BlIdeal.nD Cert.BlIdeal.τ Cert.BlIdeal.sig) → Buf (Elt Ideal) ℓ) : Prop :=
  True

def Pre_BlIdeal_finite_bl [hPre_finite_bl : Cert.Pre_finite_bl.Facts] (m : (ℓ : Loc Cert.BlIdeal.nD Cert.BlIdeal.τ Cert.BlIdeal.sig) → Buf (Elt Ideal) ℓ) : Prop :=
  ∀ c : Dev Cert.BlIdeal.nD,
    (Cert.Pre_finite_bl.fn (F := Ideal) (m ((c.tc : Thread Cert.BlIdeal.nD Cert.BlIdeal.τ).loc Cert.BlIdeal.main_arg0)) (m ((c.tc : Thread Cert.BlIdeal.nD Cert.BlIdeal.τ).loc Cert.BlIdeal.main_arg1)) (m ((c.tc : Thread Cert.BlIdeal.nD Cert.BlIdeal.τ).loc Cert.BlIdeal.main_arg2)) (m ((c.tc : Thread Cert.BlIdeal.nD Cert.BlIdeal.τ).loc Cert.BlIdeal.main_arg3))).1 = (fun _ => 1#1)
    ∧ (Cert.Pre_finite_bl.fn (F := Ideal) (m ((c.tc : Thread Cert.BlIdeal.nD Cert.BlIdeal.τ).loc Cert.BlIdeal.main_arg0)) (m ((c.tc : Thread Cert.BlIdeal.nD Cert.BlIdeal.τ).loc Cert.BlIdeal.main_arg1)) (m ((c.tc : Thread Cert.BlIdeal.nD Cert.BlIdeal.τ).loc Cert.BlIdeal.main_arg2)) (m ((c.tc : Thread Cert.BlIdeal.nD Cert.BlIdeal.τ).loc Cert.BlIdeal.main_arg3))).2.1 = (fun _ => 1#1)
    ∧ (Cert.Pre_finite_bl.fn (F := Ideal) (m ((c.tc : Thread Cert.BlIdeal.nD Cert.BlIdeal.τ).loc Cert.BlIdeal.main_arg0)) (m ((c.tc : Thread Cert.BlIdeal.nD Cert.BlIdeal.τ).loc Cert.BlIdeal.main_arg1)) (m ((c.tc : Thread Cert.BlIdeal.nD Cert.BlIdeal.τ).loc Cert.BlIdeal.main_arg2)) (m ((c.tc : Thread Cert.BlIdeal.nD Cert.BlIdeal.τ).loc Cert.BlIdeal.main_arg3))).2.2 = (fun _ => 1#1)

def Pre_BlRefIdeal (m : (ℓ : Loc Cert.BlRefIdeal.nD Cert.BlRefIdeal.τ Cert.BlRefIdeal.sig) → Buf (Elt Ideal) ℓ) : Prop :=
  True

def Pre_BlRefIdeal_finite_bl [hPre_finite_bl : Cert.Pre_finite_bl.Facts] (m : (ℓ : Loc Cert.BlRefIdeal.nD Cert.BlRefIdeal.τ Cert.BlRefIdeal.sig) → Buf (Elt Ideal) ℓ) : Prop :=
  ∀ c : Dev Cert.BlRefIdeal.nD,
    (Cert.Pre_finite_bl.fn (F := Ideal) (m ((c.tc : Thread Cert.BlRefIdeal.nD Cert.BlRefIdeal.τ).loc Cert.BlRefIdeal.main_arg0)) (m ((c.tc : Thread Cert.BlRefIdeal.nD Cert.BlRefIdeal.τ).loc Cert.BlRefIdeal.main_arg1)) (m ((c.tc : Thread Cert.BlRefIdeal.nD Cert.BlRefIdeal.τ).loc Cert.BlRefIdeal.main_arg2)) (m ((c.tc : Thread Cert.BlRefIdeal.nD Cert.BlRefIdeal.τ).loc Cert.BlRefIdeal.main_arg3))).1 = (fun _ => 1#1)
    ∧ (Cert.Pre_finite_bl.fn (F := Ideal) (m ((c.tc : Thread Cert.BlRefIdeal.nD Cert.BlRefIdeal.τ).loc Cert.BlRefIdeal.main_arg0)) (m ((c.tc : Thread Cert.BlRefIdeal.nD Cert.BlRefIdeal.τ).loc Cert.BlRefIdeal.main_arg1)) (m ((c.tc : Thread Cert.BlRefIdeal.nD Cert.BlRefIdeal.τ).loc Cert.BlRefIdeal.main_arg2)) (m ((c.tc : Thread Cert.BlRefIdeal.nD Cert.BlRefIdeal.τ).loc Cert.BlRefIdeal.main_arg3))).2.1 = (fun _ => 1#1)
    ∧ (Cert.Pre_finite_bl.fn (F := Ideal) (m ((c.tc : Thread Cert.BlRefIdeal.nD Cert.BlRefIdeal.τ).loc Cert.BlRefIdeal.main_arg0)) (m ((c.tc : Thread Cert.BlRefIdeal.nD Cert.BlRefIdeal.τ).loc Cert.BlRefIdeal.main_arg1)) (m ((c.tc : Thread Cert.BlRefIdeal.nD Cert.BlRefIdeal.τ).loc Cert.BlRefIdeal.main_arg2)) (m ((c.tc : Thread Cert.BlRefIdeal.nD Cert.BlRefIdeal.τ).loc Cert.BlRefIdeal.main_arg3))).2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_S5post (m : (ℓ : Loc Cert.S5post.nD Cert.S5post.τ Cert.S5post.sig) → Buf (Elt Bits) ℓ) : Prop :=
  True

def Pre_S5postIdeal (m : (ℓ : Loc Cert.S5postIdeal.nD Cert.S5postIdeal.τ Cert.S5postIdeal.sig) → Buf (Elt Ideal) ℓ) : Prop :=
  True

def Pre_S5postIdeal_finite_s5post [hPre_finite_s5post : Cert.Pre_finite_s5post.Facts] (m : (ℓ : Loc Cert.S5postIdeal.nD Cert.S5postIdeal.τ Cert.S5postIdeal.sig) → Buf (Elt Ideal) ℓ) : Prop :=
  ∀ c : Dev Cert.S5postIdeal.nD,
    (Cert.Pre_finite_s5post.fn (F := Ideal) (m ((c.tc : Thread Cert.S5postIdeal.nD Cert.S5postIdeal.τ).loc Cert.S5postIdeal.main_arg0)) (m ((c.tc : Thread Cert.S5postIdeal.nD Cert.S5postIdeal.τ).loc Cert.S5postIdeal.main_arg1)) (m ((c.tc : Thread Cert.S5postIdeal.nD Cert.S5postIdeal.τ).loc Cert.S5postIdeal.main_arg2)) (m ((c.tc : Thread Cert.S5postIdeal.nD Cert.S5postIdeal.τ).loc Cert.S5postIdeal.main_arg3)) (m ((c.tc : Thread Cert.S5postIdeal.nD Cert.S5postIdeal.τ).loc Cert.S5postIdeal.main_arg4))).1 = (fun _ => 1#1)
    ∧ (Cert.Pre_finite_s5post.fn (F := Ideal) (m ((c.tc : Thread Cert.S5postIdeal.nD Cert.S5postIdeal.τ).loc Cert.S5postIdeal.main_arg0)) (m ((c.tc : Thread Cert.S5postIdeal.nD Cert.S5postIdeal.τ).loc Cert.S5postIdeal.main_arg1)) (m ((c.tc : Thread Cert.S5postIdeal.nD Cert.S5postIdeal.τ).loc Cert.S5postIdeal.main_arg2)) (m ((c.tc : Thread Cert.S5postIdeal.nD Cert.S5postIdeal.τ).loc Cert.S5postIdeal.main_arg3)) (m ((c.tc : Thread Cert.S5postIdeal.nD Cert.S5postIdeal.τ).loc Cert.S5postIdeal.main_arg4))).2.1 = (fun _ => 1#1)
    ∧ (Cert.Pre_finite_s5post.fn (F := Ideal) (m ((c.tc : Thread Cert.S5postIdeal.nD Cert.S5postIdeal.τ).loc Cert.S5postIdeal.main_arg0)) (m ((c.tc : Thread Cert.S5postIdeal.nD Cert.S5postIdeal.τ).loc Cert.S5postIdeal.main_arg1)) (m ((c.tc : Thread Cert.S5postIdeal.nD Cert.S5postIdeal.τ).loc Cert.S5postIdeal.main_arg2)) (m ((c.tc : Thread Cert.S5postIdeal.nD Cert.S5postIdeal.τ).loc Cert.S5postIdeal.main_arg3)) (m ((c.tc : Thread Cert.S5postIdeal.nD Cert.S5postIdeal.τ).loc Cert.S5postIdeal.main_arg4))).2.2.1 = (fun _ => 1#1)
    ∧ (Cert.Pre_finite_s5post.fn (F := Ideal) (m ((c.tc : Thread Cert.S5postIdeal.nD Cert.S5postIdeal.τ).loc Cert.S5postIdeal.main_arg0)) (m ((c.tc : Thread Cert.S5postIdeal.nD Cert.S5postIdeal.τ).loc Cert.S5postIdeal.main_arg1)) (m ((c.tc : Thread Cert.S5postIdeal.nD Cert.S5postIdeal.τ).loc Cert.S5postIdeal.main_arg2)) (m ((c.tc : Thread Cert.S5postIdeal.nD Cert.S5postIdeal.τ).loc Cert.S5postIdeal.main_arg3)) (m ((c.tc : Thread Cert.S5postIdeal.nD Cert.S5postIdeal.τ).loc Cert.S5postIdeal.main_arg4))).2.2.2.1 = (fun _ => 1#1)
    ∧ (Cert.Pre_finite_s5post.fn (F := Ideal) (m ((c.tc : Thread Cert.S5postIdeal.nD Cert.S5postIdeal.τ).loc Cert.S5postIdeal.main_arg0)) (m ((c.tc : Thread Cert.S5postIdeal.nD Cert.S5postIdeal.τ).loc Cert.S5postIdeal.main_arg1)) (m ((c.tc : Thread Cert.S5postIdeal.nD Cert.S5postIdeal.τ).loc Cert.S5postIdeal.main_arg2)) (m ((c.tc : Thread Cert.S5postIdeal.nD Cert.S5postIdeal.τ).loc Cert.S5postIdeal.main_arg3)) (m ((c.tc : Thread Cert.S5postIdeal.nD Cert.S5postIdeal.τ).loc Cert.S5postIdeal.main_arg4))).2.2.2.2 = (fun _ => 1#1)

def Pre_S5postRefIdeal (m : (ℓ : Loc Cert.S5postRefIdeal.nD Cert.S5postRefIdeal.τ Cert.S5postRefIdeal.sig) → Buf (Elt Ideal) ℓ) : Prop :=
  True

def Pre_S5postRefIdeal_finite_s5post [hPre_finite_s5post : Cert.Pre_finite_s5post.Facts] (m : (ℓ : Loc Cert.S5postRefIdeal.nD Cert.S5postRefIdeal.τ Cert.S5postRefIdeal.sig) → Buf (Elt Ideal) ℓ) : Prop :=
  ∀ c : Dev Cert.S5postRefIdeal.nD,
    (Cert.Pre_finite_s5post.fn (F := Ideal) (m ((c.tc : Thread Cert.S5postRefIdeal.nD Cert.S5postRefIdeal.τ).loc Cert.S5postRefIdeal.main_arg0)) (m ((c.tc : Thread Cert.S5postRefIdeal.nD Cert.S5postRefIdeal.τ).loc Cert.S5postRefIdeal.main_arg1)) (m ((c.tc : Thread Cert.S5postRefIdeal.nD Cert.S5postRefIdeal.τ).loc Cert.S5postRefIdeal.main_arg2)) (m ((c.tc : Thread Cert.S5postRefIdeal.nD Cert.S5postRefIdeal.τ).loc Cert.S5postRefIdeal.main_arg3)) (m ((c.tc : Thread Cert.S5postRefIdeal.nD Cert.S5postRefIdeal.τ).loc Cert.S5postRefIdeal.main_arg4))).1 = (fun _ => 1#1)
    ∧ (Cert.Pre_finite_s5post.fn (F := Ideal) (m ((c.tc : Thread Cert.S5postRefIdeal.nD Cert.S5postRefIdeal.τ).loc Cert.S5postRefIdeal.main_arg0)) (m ((c.tc : Thread Cert.S5postRefIdeal.nD Cert.S5postRefIdeal.τ).loc Cert.S5postRefIdeal.main_arg1)) (m ((c.tc : Thread Cert.S5postRefIdeal.nD Cert.S5postRefIdeal.τ).loc Cert.S5postRefIdeal.main_arg2)) (m ((c.tc : Thread Cert.S5postRefIdeal.nD Cert.S5postRefIdeal.τ).loc Cert.S5postRefIdeal.main_arg3)) (m ((c.tc : Thread Cert.S5postRefIdeal.nD Cert.S5postRefIdeal.τ).loc Cert.S5postRefIdeal.main_arg4))).2.1 = (fun _ => 1#1)
    ∧ (Cert.Pre_finite_s5post.fn (F := Ideal) (m ((c.tc : Thread Cert.S5postRefIdeal.nD Cert.S5postRefIdeal.τ).loc Cert.S5postRefIdeal.main_arg0)) (m ((c.tc : Thread Cert.S5postRefIdeal.nD Cert.S5postRefIdeal.τ).loc Cert.S5postRefIdeal.main_arg1)) (m ((c.tc : Thread Cert.S5postRefIdeal.nD Cert.S5postRefIdeal.τ).loc Cert.S5postRefIdeal.main_arg2)) (m ((c.tc : Thread Cert.S5postRefIdeal.nD Cert.S5postRefIdeal.τ).loc Cert.S5postRefIdeal.main_arg3)) (m ((c.tc : Thread Cert.S5postRefIdeal.nD Cert.S5postRefIdeal.τ).loc Cert.S5postRefIdeal.main_arg4))).2.2.1 = (fun _ => 1#1)
    ∧ (Cert.Pre_finite_s5post.fn (F := Ideal) (m ((c.tc : Thread Cert.S5postRefIdeal.nD Cert.S5postRefIdeal.τ).loc Cert.S5postRefIdeal.main_arg0)) (m ((c.tc : Thread Cert.S5postRefIdeal.nD Cert.S5postRefIdeal.τ).loc Cert.S5postRefIdeal.main_arg1)) (m ((c.tc : Thread Cert.S5postRefIdeal.nD Cert.S5postRefIdeal.τ).loc Cert.S5postRefIdeal.main_arg2)) (m ((c.tc : Thread Cert.S5postRefIdeal.nD Cert.S5postRefIdeal.τ).loc Cert.S5postRefIdeal.main_arg3)) (m ((c.tc : Thread Cert.S5postRefIdeal.nD Cert.S5postRefIdeal.τ).loc Cert.S5postRefIdeal.main_arg4))).2.2.2.1 = (fun _ => 1#1)
    ∧ (Cert.Pre_finite_s5post.fn (F := Ideal) (m ((c.tc : Thread Cert.S5postRefIdeal.nD Cert.S5postRefIdeal.τ).loc Cert.S5postRefIdeal.main_arg0)) (m ((c.tc : Thread Cert.S5postRefIdeal.nD Cert.S5postRefIdeal.τ).loc Cert.S5postRefIdeal.main_arg1)) (m ((c.tc : Thread Cert.S5postRefIdeal.nD Cert.S5postRefIdeal.τ).loc Cert.S5postRefIdeal.main_arg2)) (m ((c.tc : Thread Cert.S5postRefIdeal.nD Cert.S5postRefIdeal.τ).loc Cert.S5postRefIdeal.main_arg3)) (m ((c.tc : Thread Cert.S5postRefIdeal.nD Cert.S5postRefIdeal.τ).loc Cert.S5postRefIdeal.main_arg4))).2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_decaying [hPre_decaying : Cert.Pre_decaying.Facts] (m : (ℓ : Loc Cert.GatesIdeal.nD Cert.GatesIdeal.τ Cert.GatesIdeal.sig) → Buf (Elt Ideal) ℓ) : Prop :=
  ∀ c : Dev Cert.GatesIdeal.nD,
    (Cert.Pre_decaying.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).1 = (fun _ => 1#1)
    ∧ (Cert.Pre_decaying.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.1 = (fun _ => 1#1)
    ∧ (Cert.Pre_decaying.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.2.1 = (fun _ => 1#1)
    ∧ (Cert.Pre_decaying.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.2.2.1 = (fun _ => 1#1)
    ∧ (Cert.Pre_decaying.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.2.2.2.1 = (fun _ => 1#1)
    ∧ (Cert.Pre_decaying.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.2.2.2.2.1 = (fun _ => 1#1)
    ∧ (Cert.Pre_decaying.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.2.2.2.2.2.1 = (fun _ => 1#1)
    ∧ (Cert.Pre_decaying.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.2.2.2.2.2.2.1 = (fun _ => 1#1)
    ∧ (Cert.Pre_decaying.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.2.2.2.2.2.2.2.1 = (fun _ => 1#1)
    ∧ (Cert.Pre_decaying.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.2.2.2.2.2.2.2.2.1 = (fun _ => 1#1)
    ∧ (Cert.Pre_decaying.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5)) (m ((c.tc : Thread Cert.GatesIdeal.nD Cert.GatesIdeal.τ).loc Cert.GatesIdeal.main_arg6)) (m ((c.tc : Thread Cert.GatesIdeal.nD Cert.GatesIdeal.τ).loc Cert.GatesIdeal.main_arg7)) (m ((c.tc : Thread Cert.GatesIdeal.nD Cert.GatesIdeal.τ).loc Cert.GatesIdeal.main_arg8)) (m ((c.tc : Thread Cert.GatesIdeal.nD Cert.GatesIdeal.τ).loc Cert.GatesIdeal.main_arg9))).2.2.2.2.2.2.2.2.2.2 = (fun _ => 1#1)

def Pre_GatesRefIdeal (m : (ℓ : Loc Cert.GatesRefIdeal.nD Cert.GatesRefIdeal.τ Cert.GatesRefIdeal.sig) → Buf (Elt Ideal) ℓ) : Prop :=
  True

def Pre_GatesRefIdeal_decaying [hPre_decaying : Cert.Pre_decaying.Facts] (m : (ℓ : Loc Cert.GatesRefIdeal.nD Cert.GatesRefIdeal.τ Cert.GatesRefIdeal.sig) → Buf (Elt Ideal) ℓ) : Prop :=
  ∀ c : Dev Cert.GatesRefIdeal.nD,
    (Cert.Pre_decaying.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7)) (m ((c.tc : Thread Cert.GatesRefIdeal.nD Cert.GatesRefIdeal.τ).loc Cert.GatesRefIdeal.main_arg8)) (m ((c.tc : Thread Cert.GatesRefIdeal.nD Cert.GatesRefIdeal.τ).loc Cert.GatesRefIdeal.main_arg9))).1 = (fun _ => 1#1)
    ∧ (Cert.Pre_decaying.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7)) (m ((c.tc : Thread Cert.GatesRefIdeal.nD Cert.GatesRefIdeal.τ).loc Cert.GatesRefIdeal.main_arg8)) (m ((c.tc : Thread Cert.GatesRefIdeal.nD Cert.GatesRefIdeal.τ).loc Cert.GatesRefIdeal.main_arg9))).2.1 = (fun _ => 1#1)
    ∧ (Cert.Pre_decaying.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7)) (m ((c.tc : Thread Cert.GatesRefIdeal.nD Cert.GatesRefIdeal.τ).loc Cert.GatesRefIdeal.main_arg8)) (m ((c.tc : Thread Cert.GatesRefIdeal.nD Cert.GatesRefIdeal.τ).loc Cert.GatesRefIdeal.main_arg9))).2.2.1 = (fun _ => 1#1)
    ∧ (Cert.Pre_decaying.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7)) (m ((c.tc : Thread Cert.GatesRefIdeal.nD Cert.GatesRefIdeal.τ).loc Cert.GatesRefIdeal.main_arg8)) (m ((c.tc : Thread Cert.GatesRefIdeal.nD Cert.GatesRefIdeal.τ).loc Cert.GatesRefIdeal.main_arg9))).2.2.2.1 = (fun _ => 1#1)
    ∧ (Cert.Pre_decaying.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7)) (m ((c.tc : Thread Cert.GatesRefIdeal.nD Cert.GatesRefIdeal.τ).loc Cert.GatesRefIdeal.main_arg8)) (m ((c.tc : Thread Cert.GatesRefIdeal.nD Cert.GatesRefIdeal.τ).loc Cert.GatesRefIdeal.main_arg9))).2.2.2.2.1 = (fun _ => 1#1)
    ∧ (Cert.Pre_decaying.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7)) (m ((c.tc : Thread Cert.GatesRefIdeal.nD Cert.GatesRefIdeal.τ).loc Cert.GatesRefIdeal.main_arg8)) (m ((c.tc : Thread Cert.GatesRefIdeal.nD Cert.GatesRefIdeal.τ).loc Cert.GatesRefIdeal.main_arg9))).2.2.2.2.2.1 = (fun _ => 1#1)
    ∧ (Cert.Pre_decaying.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7)) (m ((c.tc : Thread Cert.GatesRefIdeal.nD Cert.GatesRefIdeal.τ).loc Cert.GatesRefIdeal.main_arg8)) (m ((c.tc : Thread Cert.GatesRefIdeal.nD Cert.GatesRefIdeal.τ).loc Cert.GatesRefIdeal.main_arg9))).2.2.2.2.2.2.1 = (fun _ => 1#1)
    ∧ (Cert.Pre_decaying.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7)) (m ((c.tc : Thread Cert.GatesRefIdeal.nD Cert.GatesRefIdeal.τ).loc Cert.GatesRefIdeal.main_arg8)) (m ((c.tc : Thread Cert.GatesRefIdeal.nD Cert.GatesRefIdeal.τ).loc Cert.GatesRefIdeal.main_arg9))).2.2.2.2.2.2.2.1 = (fun _ => 1#1)
    ∧ (Cert.Pre_decaying.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7)) (m ((c.tc : Thread Cert.GatesRefIdeal.nD Cert.GatesRefIdeal.τ).loc Cert.GatesRefIdeal.main_arg8)) (m ((c.tc : Thread Cert.GatesRefIdeal.nD Cert.GatesRefIdeal.τ).loc Cert.GatesRefIdeal.main_arg9))).2.2.2.2.2.2.2.2.1 = (fun _ => 1#1)
    ∧ (Cert.Pre_decaying.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7)) (m ((c.tc : Thread Cert.GatesRefIdeal.nD Cert.GatesRefIdeal.τ).loc Cert.GatesRefIdeal.main_arg8)) (m ((c.tc : Thread Cert.GatesRefIdeal.nD Cert.GatesRefIdeal.τ).loc Cert.GatesRefIdeal.main_arg9))).2.2.2.2.2.2.2.2.2.1 = (fun _ => 1#1)
    ∧ (Cert.Pre_decaying.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5)) (m ((c.tc : Thread Cert.GatesRefIdeal.nD Cert.GatesRefIdeal.τ).loc Cert.GatesRefIdeal.main_arg6)) (m ((c.tc : Thread Cert.GatesRefIdeal.nD Cert.GatesRefIdeal.τ).loc Cert.GatesRefIdeal.main_arg7)) (m ((c.tc : Thread Cert.GatesRefIdeal.nD Cert.GatesRefIdeal.τ).loc Cert.GatesRefIdeal.main_arg8)) (m ((c.tc : Thread Cert.GatesRefIdeal.nD Cert.GatesRefIdeal.τ).loc Cert.GatesRefIdeal.main_arg9))).2.2.2.2.2.2.2.2.2.2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_invertible [hPre_invertible : Cert.Pre_invertible.Facts] (m : (ℓ : Loc Cert.PrepIdeal.nD Cert.PrepIdeal.τ Cert.PrepIdeal.sig) → Buf (Elt Ideal) ℓ) : Prop :=
  ∀ c : Dev Cert.PrepIdeal.nD,
    (Cert.Pre_invertible.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).1 = (fun _ => 1#1)
    ∧ (Cert.Pre_invertible.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.1 = (fun _ => 1#1)
    ∧ (Cert.Pre_invertible.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.1 = (fun _ => 1#1)
    ∧ (Cert.Pre_invertible.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.2.1 = (fun _ => 1#1)
    ∧ (Cert.Pre_invertible.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.2.2.1 = (fun _ => 1#1)
    ∧ (Cert.Pre_invertible.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.2.2.2.1 = (fun _ => 1#1)
    ∧ (Cert.Pre_invertible.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.2.2.2.2.1 = (fun _ => 1#1)
    ∧ (Cert.Pre_invertible.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.2.2.2.2.2.1 = (fun _ => 1#1)
    ∧ (Cert.Pre_invertible.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.2.2.2.2.2.2.1 = (fun _ => 1#1)
    ∧ (Cert.Pre_invertible.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.2.2.2.2.2.2.2 = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_invertible [hPre_invertible : Cert.Pre_invertible.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_invertible.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).1 = (fun _ => 1#1)
    ∧ (Cert.Pre_invertible.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).2.1 = (fun _ => 1#1)
    ∧ (Cert.Pre_invertible.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).2.2.1 = (fun _ => 1#1)
    ∧ (Cert.Pre_invertible.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).2.2.2.1 = (fun _ => 1#1)
    ∧ (Cert.Pre_invertible.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).2.2.2.2.1 = (fun _ => 1#1)
    ∧ (Cert.Pre_invertible.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).2.2.2.2.2.1 = (fun _ => 1#1)
    ∧ (Cert.Pre_invertible.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).2.2.2.2.2.2.1 = (fun _ => 1#1)
    ∧ (Cert.Pre_invertible.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).2.2.2.2.2.2.2.1 = (fun _ => 1#1)
    ∧ (Cert.Pre_invertible.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).2.2.2.2.2.2.2.2.1 = (fun _ => 1#1)
    ∧ (Cert.Pre_invertible.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))).2.2.2.2.2.2.2.2.2 = (fun _ => 1#1)

def Pre_Scanb (m : (ℓ : Loc Cert.Scanb.nD Cert.Scanb.τ Cert.Scanb.sig) → Buf (Elt Bits) ℓ) : Prop :=
  True

def Pre_ScanbIdeal (m : (ℓ : Loc Cert.ScanbIdeal.nD Cert.ScanbIdeal.τ Cert.ScanbIdeal.sig) → Buf (Elt Ideal) ℓ) : Prop :=
  True

def Pre_ScanbIdeal_finite_scanb [hPre_finite_scanb : Cert.Pre_finite_scanb.Facts] (m : (ℓ : Loc Cert.ScanbIdeal.nD Cert.ScanbIdeal.τ Cert.ScanbIdeal.sig) → Buf (Elt Ideal) ℓ) : Prop :=
  ∀ c : Dev Cert.ScanbIdeal.nD,
    (Cert.Pre_finite_scanb.fn (F := Ideal) (m ((c.tc : Thread Cert.ScanbIdeal.nD Cert.ScanbIdeal.τ).loc Cert.ScanbIdeal.main_arg0)) (m ((c.tc : Thread Cert.ScanbIdeal.nD Cert.ScanbIdeal.τ).loc Cert.ScanbIdeal.main_arg1))).1 = (fun _ => 1#1)
    ∧ (Cert.Pre_finite_scanb.fn (F := Ideal) (m ((c.tc : Thread Cert.ScanbIdeal.nD Cert.ScanbIdeal.τ).loc Cert.ScanbIdeal.main_arg0)) (m ((c.tc : Thread Cert.ScanbIdeal.nD Cert.ScanbIdeal.τ).loc Cert.ScanbIdeal.main_arg1))).2 = (fun _ => 1#1)

def Pre_ScanbRefIdeal (m : (ℓ : Loc Cert.ScanbRefIdeal.nD Cert.ScanbRefIdeal.τ Cert.ScanbRefIdeal.sig) → Buf (Elt Ideal) ℓ) : Prop :=
  True

def Pre_ScanbRefIdeal_finite_scanb [hPre_finite_scanb : Cert.Pre_finite_scanb.Facts] (m : (ℓ : Loc Cert.ScanbRefIdeal.nD Cert.ScanbRefIdeal.τ Cert.ScanbRefIdeal.sig) → Buf (Elt Ideal) ℓ) : Prop :=
  ∀ c : Dev Cert.ScanbRefIdeal.nD,
    (Cert.Pre_finite_scanb.fn (F := Ideal) (m ((c.tc : Thread Cert.ScanbRefIdeal.nD Cert.ScanbRefIdeal.τ).loc Cert.ScanbRefIdeal.main_arg0)) (m ((c.tc : Thread Cert.ScanbRefIdeal.nD Cert.ScanbRefIdeal.τ).loc Cert.ScanbRefIdeal.main_arg1))).1 = (fun _ => 1#1)
    ∧ (Cert.Pre_finite_scanb.fn (F := Ideal) (m ((c.tc : Thread Cert.ScanbRefIdeal.nD Cert.ScanbRefIdeal.τ).loc Cert.ScanbRefIdeal.main_arg0)) (m ((c.tc : Thread Cert.ScanbRefIdeal.nD Cert.ScanbRefIdeal.τ).loc Cert.ScanbRefIdeal.main_arg1))).2 = (fun _ => 1#1)

def Pre_Fgates (m : (ℓ : Loc Cert.Fgates.nD Cert.Fgates.τ Cert.Fgates.sig) → Buf (Elt Bits) ℓ) : Prop :=
  True

def Pre_FgatesIdeal (m : (ℓ : Loc Cert.FgatesIdeal.nD Cert.FgatesIdeal.τ Cert.FgatesIdeal.sig) → Buf (Elt Ideal) ℓ) : Prop :=
  True

def Pre_FgatesIdeal_decaying_forward [hPre_decaying_forward : Cert.Pre_decaying_forward.Facts] (m : (ℓ : Loc Cert.FgatesIdeal.nD Cert.FgatesIdeal.τ Cert.FgatesIdeal.sig) → Buf (Elt Ideal) ℓ) : Prop :=
  ∀ c : Dev Cert.FgatesIdeal.nD,
    (Cert.Pre_decaying_forward.fn (F := Ideal) (m ((c.tc : Thread Cert.FgatesIdeal.nD Cert.FgatesIdeal.τ).loc Cert.FgatesIdeal.main_arg0)) (m ((c.tc : Thread Cert.FgatesIdeal.nD Cert.FgatesIdeal.τ).loc Cert.FgatesIdeal.main_arg1)) (m ((c.tc : Thread Cert.FgatesIdeal.nD Cert.FgatesIdeal.τ).loc Cert.FgatesIdeal.main_arg2)) (m ((c.tc : Thread Cert.FgatesIdeal.nD Cert.FgatesIdeal.τ).loc Cert.FgatesIdeal.main_arg3)) (m ((c.tc : Thread Cert.FgatesIdeal.nD Cert.FgatesIdeal.τ).loc Cert.FgatesIdeal.main_arg4)) (m ((c.tc : Thread Cert.FgatesIdeal.nD Cert.FgatesIdeal.τ).loc Cert.FgatesIdeal.main_arg5)) (m ((c.tc : Thread Cert.FgatesIdeal.nD Cert.FgatesIdeal.τ).loc Cert.FgatesIdeal.main_arg6)) (m ((c.tc : Thread Cert.FgatesIdeal.nD Cert.FgatesIdeal.τ).loc Cert.FgatesIdeal.main_arg7))).1 = (fun _ => 1#1)
    ∧ (Cert.Pre_decaying_forward.fn (F := Ideal) (m ((c.tc : Thread Cert.FgatesIdeal.nD Cert.FgatesIdeal.τ).loc Cert.FgatesIdeal.main_arg0)) (m ((c.tc : Thread Cert.FgatesIdeal.nD Cert.FgatesIdeal.τ).loc Cert.FgatesIdeal.main_arg1)) (m ((c.tc : Thread Cert.FgatesIdeal.nD Cert.FgatesIdeal.τ).loc Cert.FgatesIdeal.main_arg2)) (m ((c.tc : Thread Cert.FgatesIdeal.nD Cert.FgatesIdeal.τ).loc Cert.FgatesIdeal.main_arg3)) (m ((c.tc : Thread Cert.FgatesIdeal.nD Cert.FgatesIdeal.τ).loc Cert.FgatesIdeal.main_arg4)) (m ((c.tc : Thread Cert.FgatesIdeal.nD Cert.FgatesIdeal.τ).loc Cert.FgatesIdeal.main_arg5)) (m ((c.tc : Thread Cert.FgatesIdeal.nD Cert.FgatesIdeal.τ).loc Cert.FgatesIdeal.main_arg6)) (m ((c.tc : Thread Cert.FgatesIdeal.nD Cert.FgatesIdeal.τ).loc Cert.FgatesIdeal.main_arg7))).2.1 = (fun _ => 1#1)
    ∧ (Cert.Pre_decaying_forward.fn (F := Ideal) (m ((c.tc : Thread Cert.FgatesIdeal.nD Cert.FgatesIdeal.τ).loc Cert.FgatesIdeal.main_arg0)) (m ((c.tc : Thread Cert.FgatesIdeal.nD Cert.FgatesIdeal.τ).loc Cert.FgatesIdeal.main_arg1)) (m ((c.tc : Thread Cert.FgatesIdeal.nD Cert.FgatesIdeal.τ).loc Cert.FgatesIdeal.main_arg2)) (m ((c.tc : Thread Cert.FgatesIdeal.nD Cert.FgatesIdeal.τ).loc Cert.FgatesIdeal.main_arg3)) (m ((c.tc : Thread Cert.FgatesIdeal.nD Cert.FgatesIdeal.τ).loc Cert.FgatesIdeal.main_arg4)) (m ((c.tc : Thread Cert.FgatesIdeal.nD Cert.FgatesIdeal.τ).loc Cert.FgatesIdeal.main_arg5)) (m ((c.tc : Thread Cert.FgatesIdeal.nD Cert.FgatesIdeal.τ).loc Cert.FgatesIdeal.main_arg6)) (m ((c.tc : Thread Cert.FgatesIdeal.nD Cert.FgatesIdeal.τ).loc Cert.FgatesIdeal.main_arg7))).2.2.1 = (fun _ => 1#1)
    ∧ (Cert.Pre_decaying_forward.fn (F := Ideal) (m ((c.tc : Thread Cert.FgatesIdeal.nD Cert.FgatesIdeal.τ).loc Cert.FgatesIdeal.main_arg0)) (m ((c.tc : Thread Cert.FgatesIdeal.nD Cert.FgatesIdeal.τ).loc Cert.FgatesIdeal.main_arg1)) (m ((c.tc : Thread Cert.FgatesIdeal.nD Cert.FgatesIdeal.τ).loc Cert.FgatesIdeal.main_arg2)) (m ((c.tc : Thread Cert.FgatesIdeal.nD Cert.FgatesIdeal.τ).loc Cert.FgatesIdeal.main_arg3)) (m ((c.tc : Thread Cert.FgatesIdeal.nD Cert.FgatesIdeal.τ).loc Cert.FgatesIdeal.main_arg4)) (m ((c.tc : Thread Cert.FgatesIdeal.nD Cert.FgatesIdeal.τ).loc Cert.FgatesIdeal.main_arg5)) (m ((c.tc : Thread Cert.FgatesIdeal.nD Cert.FgatesIdeal.τ).loc Cert.FgatesIdeal.main_arg6)) (m ((c.tc : Thread Cert.FgatesIdeal.nD Cert.FgatesIdeal.τ).loc Cert.FgatesIdeal.main_arg7))).2.2.2.1 = (fun _ => 1#1)
    ∧ (Cert.Pre_decaying_forward.fn (F := Ideal) (m ((c.tc : Thread Cert.FgatesIdeal.nD Cert.FgatesIdeal.τ).loc Cert.FgatesIdeal.main_arg0)) (m ((c.tc : Thread Cert.FgatesIdeal.nD Cert.FgatesIdeal.τ).loc Cert.FgatesIdeal.main_arg1)) (m ((c.tc : Thread Cert.FgatesIdeal.nD Cert.FgatesIdeal.τ).loc Cert.FgatesIdeal.main_arg2)) (m ((c.tc : Thread Cert.FgatesIdeal.nD Cert.FgatesIdeal.τ).loc Cert.FgatesIdeal.main_arg3)) (m ((c.tc : Thread Cert.FgatesIdeal.nD Cert.FgatesIdeal.τ).loc Cert.FgatesIdeal.main_arg4)) (m ((c.tc : Thread Cert.FgatesIdeal.nD Cert.FgatesIdeal.τ).loc Cert.FgatesIdeal.main_arg5)) (m ((c.tc : Thread Cert.FgatesIdeal.nD Cert.FgatesIdeal.τ).loc Cert.FgatesIdeal.main_arg6)) (m ((c.tc : Thread Cert.FgatesIdeal.nD Cert.FgatesIdeal.τ).loc Cert.FgatesIdeal.main_arg7))).2.2.2.2.1 = (fun _ => 1#1)
    ∧ (Cert.Pre_decaying_forward.fn (F := Ideal) (m ((c.tc : Thread Cert.FgatesIdeal.nD Cert.FgatesIdeal.τ).loc Cert.FgatesIdeal.main_arg0)) (m ((c.tc : Thread Cert.FgatesIdeal.nD Cert.FgatesIdeal.τ).loc Cert.FgatesIdeal.main_arg1)) (m ((c.tc : Thread Cert.FgatesIdeal.nD Cert.FgatesIdeal.τ).loc Cert.FgatesIdeal.main_arg2)) (m ((c.tc : Thread Cert.FgatesIdeal.nD Cert.FgatesIdeal.τ).loc Cert.FgatesIdeal.main_arg3)) (m ((c.tc : Thread Cert.FgatesIdeal.nD Cert.FgatesIdeal.τ).loc Cert.FgatesIdeal.main_arg4)) (m ((c.tc : Thread Cert.FgatesIdeal.nD Cert.FgatesIdeal.τ).loc Cert.FgatesIdeal.main_arg5)) (m ((c.tc : Thread Cert.FgatesIdeal.nD Cert.FgatesIdeal.τ).loc Cert.FgatesIdeal.main_arg6)) (m ((c.tc : Thread Cert.FgatesIdeal.nD Cert.FgatesIdeal.τ).loc Cert.FgatesIdeal.main_arg7))).2.2.2.2.2.1 = (fun _ => 1#1)
    ∧ (Cert.Pre_decaying_forward.fn (F := Ideal) (m ((c.tc : Thread Cert.FgatesIdeal.nD Cert.FgatesIdeal.τ).loc Cert.FgatesIdeal.main_arg0)) (m ((c.tc : Thread Cert.FgatesIdeal.nD Cert.FgatesIdeal.τ).loc Cert.FgatesIdeal.main_arg1)) (m ((c.tc : Thread Cert.FgatesIdeal.nD Cert.FgatesIdeal.τ).loc Cert.FgatesIdeal.main_arg2)) (m ((c.tc : Thread Cert.FgatesIdeal.nD Cert.FgatesIdeal.τ).loc Cert.FgatesIdeal.main_arg3)) (m ((c.tc : Thread Cert.FgatesIdeal.nD Cert.FgatesIdeal.τ).loc Cert.FgatesIdeal.main_arg4)) (m ((c.tc : Thread Cert.FgatesIdeal.nD Cert.FgatesIdeal.τ).loc Cert.FgatesIdeal.main_arg5)) (m ((c.tc : Thread Cert.FgatesIdeal.nD Cert.FgatesIdeal.τ).loc Cert.FgatesIdeal.main_arg6)) (m ((c.tc : Thread Cert.FgatesIdeal.nD Cert.FgatesIdeal.τ).loc Cert.FgatesIdeal.main_arg7))).2.2.2.2.2.2.1 = (fun _ => 1#1)
    ∧ (Cert.Pre_decaying_forward.fn (F := Ideal) (m ((c.tc : Thread Cert.FgatesIdeal.nD Cert.FgatesIdeal.τ).loc Cert.FgatesIdeal.main_arg0)) (m ((c.tc : Thread Cert.FgatesIdeal.nD Cert.FgatesIdeal.τ).loc Cert.FgatesIdeal.main_arg1)) (m ((c.tc : Thread Cert.FgatesIdeal.nD Cert.FgatesIdeal.τ).loc Cert.FgatesIdeal.main_arg2)) (m ((c.tc : Thread Cert.FgatesIdeal.nD Cert.FgatesIdeal.τ).loc Cert.FgatesIdeal.main_arg3)) (m ((c.tc : Thread Cert.FgatesIdeal.nD Cert.FgatesIdeal.τ).loc Cert.FgatesIdeal.main_arg4)) (m ((c.tc : Thread Cert.FgatesIdeal.nD Cert.FgatesIdeal.τ).loc Cert.FgatesIdeal.main_arg5)) (m ((c.tc : Thread Cert.FgatesIdeal.nD Cert.FgatesIdeal.τ).loc Cert.FgatesIdeal.main_arg6)) (m ((c.tc : Thread Cert.FgatesIdeal.nD Cert.FgatesIdeal.τ).loc Cert.FgatesIdeal.main_arg7))).2.2.2.2.2.2.2.1 = (fun _ => 1#1)
    ∧ (Cert.Pre_decaying_forward.fn (F := Ideal) (m ((c.tc : Thread Cert.FgatesIdeal.nD Cert.FgatesIdeal.τ).loc Cert.FgatesIdeal.main_arg0)) (m ((c.tc : Thread Cert.FgatesIdeal.nD Cert.FgatesIdeal.τ).loc Cert.FgatesIdeal.main_arg1)) (m ((c.tc : Thread Cert.FgatesIdeal.nD Cert.FgatesIdeal.τ).loc Cert.FgatesIdeal.main_arg2)) (m ((c.tc : Thread Cert.FgatesIdeal.nD Cert.FgatesIdeal.τ).loc Cert.FgatesIdeal.main_arg3)) (m ((c.tc : Thread Cert.FgatesIdeal.nD Cert.FgatesIdeal.τ).loc Cert.FgatesIdeal.main_arg4)) (m ((c.tc : Thread Cert.FgatesIdeal.nD Cert.FgatesIdeal.τ).loc Cert.FgatesIdeal.main_arg5)) (m ((c.tc : Thread Cert.FgatesIdeal.nD Cert.FgatesIdeal.τ).loc Cert.FgatesIdeal.main_arg6)) (m ((c.tc : Thread Cert.FgatesIdeal.nD Cert.FgatesIdeal.τ).loc Cert.FgatesIdeal.main_arg7))).2.2.2.2.2.2.2.2 = (fun _ => 1#1)

def Pre_FgatesRefIdeal (m : (ℓ : Loc Cert.FgatesRefIdeal.nD Cert.FgatesRefIdeal.τ Cert.FgatesRefIdeal.sig) → Buf (Elt Ideal) ℓ) : Prop :=
  True

def Pre_FgatesRefIdeal_decaying_forward [hPre_decaying_forward : Cert.Pre_decaying_forward.Facts] (m : (ℓ : Loc Cert.FgatesRefIdeal.nD Cert.FgatesRefIdeal.τ Cert.FgatesRefIdeal.sig) → Buf (Elt Ideal) ℓ) : Prop :=
  ∀ c : Dev Cert.FgatesRefIdeal.nD,
    (Cert.Pre_decaying_forward.fn (F := Ideal) (m ((c.tc : Thread Cert.FgatesRefIdeal.nD Cert.FgatesRefIdeal.τ).loc Cert.FgatesRefIdeal.main_arg0)) (m ((c.tc : Thread Cert.FgatesRefIdeal.nD Cert.FgatesRefIdeal.τ).loc Cert.FgatesRefIdeal.main_arg1)) (m ((c.tc : Thread Cert.FgatesRefIdeal.nD Cert.FgatesRefIdeal.τ).loc Cert.FgatesRefIdeal.main_arg2)) (m ((c.tc : Thread Cert.FgatesRefIdeal.nD Cert.FgatesRefIdeal.τ).loc Cert.FgatesRefIdeal.main_arg3)) (m ((c.tc : Thread Cert.FgatesRefIdeal.nD Cert.FgatesRefIdeal.τ).loc Cert.FgatesRefIdeal.main_arg4)) (m ((c.tc : Thread Cert.FgatesRefIdeal.nD Cert.FgatesRefIdeal.τ).loc Cert.FgatesRefIdeal.main_arg5)) (m ((c.tc : Thread Cert.FgatesRefIdeal.nD Cert.FgatesRefIdeal.τ).loc Cert.FgatesRefIdeal.main_arg6)) (m ((c.tc : Thread Cert.FgatesRefIdeal.nD Cert.FgatesRefIdeal.τ).loc Cert.FgatesRefIdeal.main_arg7))).1 = (fun _ => 1#1)
    ∧ (Cert.Pre_decaying_forward.fn (F := Ideal) (m ((c.tc : Thread Cert.FgatesRefIdeal.nD Cert.FgatesRefIdeal.τ).loc Cert.FgatesRefIdeal.main_arg0)) (m ((c.tc : Thread Cert.FgatesRefIdeal.nD Cert.FgatesRefIdeal.τ).loc Cert.FgatesRefIdeal.main_arg1)) (m ((c.tc : Thread Cert.FgatesRefIdeal.nD Cert.FgatesRefIdeal.τ).loc Cert.FgatesRefIdeal.main_arg2)) (m ((c.tc : Thread Cert.FgatesRefIdeal.nD Cert.FgatesRefIdeal.τ).loc Cert.FgatesRefIdeal.main_arg3)) (m ((c.tc : Thread Cert.FgatesRefIdeal.nD Cert.FgatesRefIdeal.τ).loc Cert.FgatesRefIdeal.main_arg4)) (m ((c.tc : Thread Cert.FgatesRefIdeal.nD Cert.FgatesRefIdeal.τ).loc Cert.FgatesRefIdeal.main_arg5)) (m ((c.tc : Thread Cert.FgatesRefIdeal.nD Cert.FgatesRefIdeal.τ).loc Cert.FgatesRefIdeal.main_arg6)) (m ((c.tc : Thread Cert.FgatesRefIdeal.nD Cert.FgatesRefIdeal.τ).loc Cert.FgatesRefIdeal.main_arg7))).2.1 = (fun _ => 1#1)
    ∧ (Cert.Pre_decaying_forward.fn (F := Ideal) (m ((c.tc : Thread Cert.FgatesRefIdeal.nD Cert.FgatesRefIdeal.τ).loc Cert.FgatesRefIdeal.main_arg0)) (m ((c.tc : Thread Cert.FgatesRefIdeal.nD Cert.FgatesRefIdeal.τ).loc Cert.FgatesRefIdeal.main_arg1)) (m ((c.tc : Thread Cert.FgatesRefIdeal.nD Cert.FgatesRefIdeal.τ).loc Cert.FgatesRefIdeal.main_arg2)) (m ((c.tc : Thread Cert.FgatesRefIdeal.nD Cert.FgatesRefIdeal.τ).loc Cert.FgatesRefIdeal.main_arg3)) (m ((c.tc : Thread Cert.FgatesRefIdeal.nD Cert.FgatesRefIdeal.τ).loc Cert.FgatesRefIdeal.main_arg4)) (m ((c.tc : Thread Cert.FgatesRefIdeal.nD Cert.FgatesRefIdeal.τ).loc Cert.FgatesRefIdeal.main_arg5)) (m ((c.tc : Thread Cert.FgatesRefIdeal.nD Cert.FgatesRefIdeal.τ).loc Cert.FgatesRefIdeal.main_arg6)) (m ((c.tc : Thread Cert.FgatesRefIdeal.nD Cert.FgatesRefIdeal.τ).loc Cert.FgatesRefIdeal.main_arg7))).2.2.1 = (fun _ => 1#1)
    ∧ (Cert.Pre_decaying_forward.fn (F := Ideal) (m ((c.tc : Thread Cert.FgatesRefIdeal.nD Cert.FgatesRefIdeal.τ).loc Cert.FgatesRefIdeal.main_arg0)) (m ((c.tc : Thread Cert.FgatesRefIdeal.nD Cert.FgatesRefIdeal.τ).loc Cert.FgatesRefIdeal.main_arg1)) (m ((c.tc : Thread Cert.FgatesRefIdeal.nD Cert.FgatesRefIdeal.τ).loc Cert.FgatesRefIdeal.main_arg2)) (m ((c.tc : Thread Cert.FgatesRefIdeal.nD Cert.FgatesRefIdeal.τ).loc Cert.FgatesRefIdeal.main_arg3)) (m ((c.tc : Thread Cert.FgatesRefIdeal.nD Cert.FgatesRefIdeal.τ).loc Cert.FgatesRefIdeal.main_arg4)) (m ((c.tc : Thread Cert.FgatesRefIdeal.nD Cert.FgatesRefIdeal.τ).loc Cert.FgatesRefIdeal.main_arg5)) (m ((c.tc : Thread Cert.FgatesRefIdeal.nD Cert.FgatesRefIdeal.τ).loc Cert.FgatesRefIdeal.main_arg6)) (m ((c.tc : Thread Cert.FgatesRefIdeal.nD Cert.FgatesRefIdeal.τ).loc Cert.FgatesRefIdeal.main_arg7))).2.2.2.1 = (fun _ => 1#1)
    ∧ (Cert.Pre_decaying_forward.fn (F := Ideal) (m ((c.tc : Thread Cert.FgatesRefIdeal.nD Cert.FgatesRefIdeal.τ).loc Cert.FgatesRefIdeal.main_arg0)) (m ((c.tc : Thread Cert.FgatesRefIdeal.nD Cert.FgatesRefIdeal.τ).loc Cert.FgatesRefIdeal.main_arg1)) (m ((c.tc : Thread Cert.FgatesRefIdeal.nD Cert.FgatesRefIdeal.τ).loc Cert.FgatesRefIdeal.main_arg2)) (m ((c.tc : Thread Cert.FgatesRefIdeal.nD Cert.FgatesRefIdeal.τ).loc Cert.FgatesRefIdeal.main_arg3)) (m ((c.tc : Thread Cert.FgatesRefIdeal.nD Cert.FgatesRefIdeal.τ).loc Cert.FgatesRefIdeal.main_arg4)) (m ((c.tc : Thread Cert.FgatesRefIdeal.nD Cert.FgatesRefIdeal.τ).loc Cert.FgatesRefIdeal.main_arg5)) (m ((c.tc : Thread Cert.FgatesRefIdeal.nD Cert.FgatesRefIdeal.τ).loc Cert.FgatesRefIdeal.main_arg6)) (m ((c.tc : Thread Cert.FgatesRefIdeal.nD Cert.FgatesRefIdeal.τ).loc Cert.FgatesRefIdeal.main_arg7))).2.2.2.2.1 = (fun _ => 1#1)
    ∧ (Cert.Pre_decaying_forward.fn (F := Ideal) (m ((c.tc : Thread Cert.FgatesRefIdeal.nD Cert.FgatesRefIdeal.τ).loc Cert.FgatesRefIdeal.main_arg0)) (m ((c.tc : Thread Cert.FgatesRefIdeal.nD Cert.FgatesRefIdeal.τ).loc Cert.FgatesRefIdeal.main_arg1)) (m ((c.tc : Thread Cert.FgatesRefIdeal.nD Cert.FgatesRefIdeal.τ).loc Cert.FgatesRefIdeal.main_arg2)) (m ((c.tc : Thread Cert.FgatesRefIdeal.nD Cert.FgatesRefIdeal.τ).loc Cert.FgatesRefIdeal.main_arg3)) (m ((c.tc : Thread Cert.FgatesRefIdeal.nD Cert.FgatesRefIdeal.τ).loc Cert.FgatesRefIdeal.main_arg4)) (m ((c.tc : Thread Cert.FgatesRefIdeal.nD Cert.FgatesRefIdeal.τ).loc Cert.FgatesRefIdeal.main_arg5)) (m ((c.tc : Thread Cert.FgatesRefIdeal.nD Cert.FgatesRefIdeal.τ).loc Cert.FgatesRefIdeal.main_arg6)) (m ((c.tc : Thread Cert.FgatesRefIdeal.nD Cert.FgatesRefIdeal.τ).loc Cert.FgatesRefIdeal.main_arg7))).2.2.2.2.2.1 = (fun _ => 1#1)
    ∧ (Cert.Pre_decaying_forward.fn (F := Ideal) (m ((c.tc : Thread Cert.FgatesRefIdeal.nD Cert.FgatesRefIdeal.τ).loc Cert.FgatesRefIdeal.main_arg0)) (m ((c.tc : Thread Cert.FgatesRefIdeal.nD Cert.FgatesRefIdeal.τ).loc Cert.FgatesRefIdeal.main_arg1)) (m ((c.tc : Thread Cert.FgatesRefIdeal.nD Cert.FgatesRefIdeal.τ).loc Cert.FgatesRefIdeal.main_arg2)) (m ((c.tc : Thread Cert.FgatesRefIdeal.nD Cert.FgatesRefIdeal.τ).loc Cert.FgatesRefIdeal.main_arg3)) (m ((c.tc : Thread Cert.FgatesRefIdeal.nD Cert.FgatesRefIdeal.τ).loc Cert.FgatesRefIdeal.main_arg4)) (m ((c.tc : Thread Cert.FgatesRefIdeal.nD Cert.FgatesRefIdeal.τ).loc Cert.FgatesRefIdeal.main_arg5)) (m ((c.tc : Thread Cert.FgatesRefIdeal.nD Cert.FgatesRefIdeal.τ).loc Cert.FgatesRefIdeal.main_arg6)) (m ((c.tc : Thread Cert.FgatesRefIdeal.nD Cert.FgatesRefIdeal.τ).loc Cert.FgatesRefIdeal.main_arg7))).2.2.2.2.2.2.1 = (fun _ => 1#1)
    ∧ (Cert.Pre_decaying_forward.fn (F := Ideal) (m ((c.tc : Thread Cert.FgatesRefIdeal.nD Cert.FgatesRefIdeal.τ).loc Cert.FgatesRefIdeal.main_arg0)) (m ((c.tc : Thread Cert.FgatesRefIdeal.nD Cert.FgatesRefIdeal.τ).loc Cert.FgatesRefIdeal.main_arg1)) (m ((c.tc : Thread Cert.FgatesRefIdeal.nD Cert.FgatesRefIdeal.τ).loc Cert.FgatesRefIdeal.main_arg2)) (m ((c.tc : Thread Cert.FgatesRefIdeal.nD Cert.FgatesRefIdeal.τ).loc Cert.FgatesRefIdeal.main_arg3)) (m ((c.tc : Thread Cert.FgatesRefIdeal.nD Cert.FgatesRefIdeal.τ).loc Cert.FgatesRefIdeal.main_arg4)) (m ((c.tc : Thread Cert.FgatesRefIdeal.nD Cert.FgatesRefIdeal.τ).loc Cert.FgatesRefIdeal.main_arg5)) (m ((c.tc : Thread Cert.FgatesRefIdeal.nD Cert.FgatesRefIdeal.τ).loc Cert.FgatesRefIdeal.main_arg6)) (m ((c.tc : Thread Cert.FgatesRefIdeal.nD Cert.FgatesRefIdeal.τ).loc Cert.FgatesRefIdeal.main_arg7))).2.2.2.2.2.2.2.1 = (fun _ => 1#1)
    ∧ (Cert.Pre_decaying_forward.fn (F := Ideal) (m ((c.tc : Thread Cert.FgatesRefIdeal.nD Cert.FgatesRefIdeal.τ).loc Cert.FgatesRefIdeal.main_arg0)) (m ((c.tc : Thread Cert.FgatesRefIdeal.nD Cert.FgatesRefIdeal.τ).loc Cert.FgatesRefIdeal.main_arg1)) (m ((c.tc : Thread Cert.FgatesRefIdeal.nD Cert.FgatesRefIdeal.τ).loc Cert.FgatesRefIdeal.main_arg2)) (m ((c.tc : Thread Cert.FgatesRefIdeal.nD Cert.FgatesRefIdeal.τ).loc Cert.FgatesRefIdeal.main_arg3)) (m ((c.tc : Thread Cert.FgatesRefIdeal.nD Cert.FgatesRefIdeal.τ).loc Cert.FgatesRefIdeal.main_arg4)) (m ((c.tc : Thread Cert.FgatesRefIdeal.nD Cert.FgatesRefIdeal.τ).loc Cert.FgatesRefIdeal.main_arg5)) (m ((c.tc : Thread Cert.FgatesRefIdeal.nD Cert.FgatesRefIdeal.τ).loc Cert.FgatesRefIdeal.main_arg6)) (m ((c.tc : Thread Cert.FgatesRefIdeal.nD Cert.FgatesRefIdeal.τ).loc Cert.FgatesRefIdeal.main_arg7))).2.2.2.2.2.2.2.2 = (fun _ => 1#1)

def Pre_Fmerge (m : (ℓ : Loc Cert.Fmerge.nD Cert.Fmerge.τ Cert.Fmerge.sig) → Buf (Elt Bits) ℓ) : Prop :=
  True

def Pre_FmergeIdeal (m : (ℓ : Loc Cert.FmergeIdeal.nD Cert.FmergeIdeal.τ Cert.FmergeIdeal.sig) → Buf (Elt Ideal) ℓ) : Prop :=
  True

def Pre_FmergeRefIdeal (m : (ℓ : Loc Cert.FmergeRefIdeal.nD Cert.FmergeRefIdeal.τ Cert.FmergeRefIdeal.sig) → Buf (Elt Ideal) ℓ) : Prop :=
  True

def Pre_Fs5post (m : (ℓ : Loc Cert.Fs5post.nD Cert.Fs5post.τ Cert.Fs5post.sig) → Buf (Elt Bits) ℓ) : Prop :=
  True

def Pre_Fs5postIdeal (m : (ℓ : Loc Cert.Fs5postIdeal.nD Cert.Fs5postIdeal.τ Cert.Fs5postIdeal.sig) → Buf (Elt Ideal) ℓ) : Prop :=
  True

def Pre_Fs5postRefIdeal (m : (ℓ : Loc Cert.Fs5postRefIdeal.nD Cert.Fs5postRefIdeal.τ Cert.Fs5postRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def Pre_Fple (m : (ℓ : Loc Cert.Fple.nD Cert.Fple.τ Cert.Fple.sig) → Buf (Elt Bits) ℓ) : Prop :=
  True

def Pre_FpleIdeal (m : (ℓ : Loc Cert.FpleIdeal.nD Cert.FpleIdeal.τ Cert.FpleIdeal.sig) → Buf (Elt Ideal) ℓ) : Prop :=
  True

def Pre_FpleRefIdeal (m : (ℓ : Loc Cert.FpleRefIdeal.nD Cert.FpleRefIdeal.τ Cert.FpleRefIdeal.sig) → Buf (Elt Ideal) ℓ) : Prop :=
  True

def Pre_Fprep (m : (ℓ : Loc Cert.Fprep.nD Cert.Fprep.τ Cert.Fprep.sig) → Buf (Elt Bits) ℓ) : Prop :=
  True

def Pre_FprepIdeal (m : (ℓ : Loc Cert.FprepIdeal.nD Cert.FprepIdeal.τ Cert.FprepIdeal.sig) → Buf (Elt Ideal) ℓ) : Prop :=
  True

def Pre_FprepRefIdeal (m : (ℓ : Loc Cert.FprepRefIdeal.nD Cert.FprepRefIdeal.τ Cert.FprepRefIdeal.sig) → Buf (Elt Ideal) ℓ) : Prop :=
  True

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Bl [hBl : Cert.Bl.Facts] : Prop :=
  ∀ (m : (ℓ : Loc Cert.Bl.nD Cert.Bl.τ Cert.Bl.sig) → Buf (Elt Bits) ℓ) (g : Dev Cert.Bl.nD → PrngReg), Pre_Bl m →
    θ_run (Cert.Bl.defs (F := Bits)) (onTc (τ := Cert.Bl.τ) (Cert.Bl.main (F := Bits))) ⟨m, fun _ => 0, g⟩ (fun r => (∀ c : Dev Cert.Bl.nD,
      r.2.mem ((c.tc : Thread Cert.Bl.nD Cert.Bl.τ).loc Cert.Bl.main_arg0) = m ((c.tc : Thread Cert.Bl.nD Cert.Bl.τ).loc Cert.Bl.main_arg0)
      ∧ r.2.mem ((c.tc : Thread Cert.Bl.nD Cert.Bl.τ).loc Cert.Bl.main_arg1) = m ((c.tc : Thread Cert.Bl.nD Cert.Bl.τ).loc Cert.Bl.main_arg1)
      ∧ r.2.mem ((c.tc : Thread Cert.Bl.nD Cert.Bl.τ).loc Cert.Bl.main_arg2) = m ((c.tc : Thread Cert.Bl.nD Cert.Bl.τ).loc Cert.Bl.main_arg2)
      ∧ r.2.mem ((c.tc : Thread Cert.Bl.nD Cert.Bl.τ).loc Cert.Bl.main_arg3) = m ((c.tc : Thread Cert.Bl.nD Cert.Bl.τ).loc Cert.Bl.main_arg3))
      ∧ r.2.sem = fun _ => 0)

def quiescent_BlIdeal [hBlIdeal : Cert.BlIdeal.Facts] : Prop :=
  ∀ (m : (ℓ : Loc Cert.BlIdeal.nD Cert.BlIdeal.τ Cert.BlIdeal.sig) → Buf (Elt Ideal) ℓ) (g : Dev Cert.BlIdeal.nD → PrngReg), Pre_BlIdeal m →
    θ_run (Cert.BlIdeal.defs (F := Ideal)) (onTc (τ := Cert.BlIdeal.τ) (Cert.BlIdeal.main (F := Ideal))) ⟨m, fun _ => 0, g⟩ (fun r => (∀ c : Dev Cert.BlIdeal.nD,
      r.2.mem ((c.tc : Thread Cert.BlIdeal.nD Cert.BlIdeal.τ).loc Cert.BlIdeal.main_arg0) = m ((c.tc : Thread Cert.BlIdeal.nD Cert.BlIdeal.τ).loc Cert.BlIdeal.main_arg0)
      ∧ r.2.mem ((c.tc : Thread Cert.BlIdeal.nD Cert.BlIdeal.τ).loc Cert.BlIdeal.main_arg1) = m ((c.tc : Thread Cert.BlIdeal.nD Cert.BlIdeal.τ).loc Cert.BlIdeal.main_arg1)
      ∧ r.2.mem ((c.tc : Thread Cert.BlIdeal.nD Cert.BlIdeal.τ).loc Cert.BlIdeal.main_arg2) = m ((c.tc : Thread Cert.BlIdeal.nD Cert.BlIdeal.τ).loc Cert.BlIdeal.main_arg2)
      ∧ r.2.mem ((c.tc : Thread Cert.BlIdeal.nD Cert.BlIdeal.τ).loc Cert.BlIdeal.main_arg3) = m ((c.tc : Thread Cert.BlIdeal.nD Cert.BlIdeal.τ).loc Cert.BlIdeal.main_arg3))
      ∧ r.2.sem = fun _ => 0)

def quiescent_BlIdeal_pre_finite_bl [hBlIdeal : Cert.BlIdeal.Facts] [hPre_finite_bl : Cert.Pre_finite_bl.Facts] : Prop :=
  ∀ (m : (ℓ : Loc Cert.BlIdeal.nD Cert.BlIdeal.τ Cert.BlIdeal.sig) → Buf (Elt Ideal) ℓ) (g : Dev Cert.BlIdeal.nD → PrngReg), Pre_BlIdeal_finite_bl m →
    θ_run (Cert.BlIdeal.defs (F := Ideal)) (onTc (τ := Cert.BlIdeal.τ) (Cert.BlIdeal.main (F := Ideal))) ⟨m, fun _ => 0, g⟩ (fun r => (∀ c : Dev Cert.BlIdeal.nD,
      r.2.mem ((c.tc : Thread Cert.BlIdeal.nD Cert.BlIdeal.τ).loc Cert.BlIdeal.main_arg0) = m ((c.tc : Thread Cert.BlIdeal.nD Cert.BlIdeal.τ).loc Cert.BlIdeal.main_arg0)
      ∧ r.2.mem ((c.tc : Thread Cert.BlIdeal.nD Cert.BlIdeal.τ).loc Cert.BlIdeal.main_arg1) = m ((c.tc : Thread Cert.BlIdeal.nD Cert.BlIdeal.τ).loc Cert.BlIdeal.main_arg1)
      ∧ r.2.mem ((c.tc : Thread Cert.BlIdeal.nD Cert.BlIdeal.τ).loc Cert.BlIdeal.main_arg2) = m ((c.tc : Thread Cert.BlIdeal.nD Cert.BlIdeal.τ).loc Cert.BlIdeal.main_arg2)
      ∧ r.2.mem ((c.tc : Thread Cert.BlIdeal.nD Cert.BlIdeal.τ).loc Cert.BlIdeal.main_arg3) = m ((c.tc : Thread Cert.BlIdeal.nD Cert.BlIdeal.τ).loc Cert.BlIdeal.main_arg3))
      ∧ r.2.sem = fun _ => 0)

def quiescent_BlRefIdeal [hBlRefIdeal : Cert.BlRefIdeal.Facts] : Prop :=
  ∀ (m : (ℓ : Loc Cert.BlRefIdeal.nD Cert.BlRefIdeal.τ Cert.BlRefIdeal.sig) → Buf (Elt Ideal) ℓ) (g : Dev Cert.BlRefIdeal.nD → PrngReg), Pre_BlRefIdeal m →
    θ_run (Cert.BlRefIdeal.defs (F := Ideal)) (onTc (τ := Cert.BlRefIdeal.τ) (Cert.BlRefIdeal.main (F := Ideal))) ⟨m, fun _ => 0, g⟩ (fun r => (∀ c : Dev Cert.BlRefIdeal.nD,
      r.2.mem ((c.tc : Thread Cert.BlRefIdeal.nD Cert.BlRefIdeal.τ).loc Cert.BlRefIdeal.main_arg0) = m ((c.tc : Thread Cert.BlRefIdeal.nD Cert.BlRefIdeal.τ).loc Cert.BlRefIdeal.main_arg0)
      ∧ r.2.mem ((c.tc : Thread Cert.BlRefIdeal.nD Cert.BlRefIdeal.τ).loc Cert.BlRefIdeal.main_arg1) = m ((c.tc : Thread Cert.BlRefIdeal.nD Cert.BlRefIdeal.τ).loc Cert.BlRefIdeal.main_arg1)
      ∧ r.2.mem ((c.tc : Thread Cert.BlRefIdeal.nD Cert.BlRefIdeal.τ).loc Cert.BlRefIdeal.main_arg2) = m ((c.tc : Thread Cert.BlRefIdeal.nD Cert.BlRefIdeal.τ).loc Cert.BlRefIdeal.main_arg2)
      ∧ r.2.mem ((c.tc : Thread Cert.BlRefIdeal.nD Cert.BlRefIdeal.τ).loc Cert.BlRefIdeal.main_arg3) = m ((c.tc : Thread Cert.BlRefIdeal.nD Cert.BlRefIdeal.τ).loc Cert.BlRefIdeal.main_arg3))
      ∧ r.2.sem = fun _ => 0)

def quiescent_BlRefIdeal_pre_finite_bl [hBlRefIdeal : Cert.BlRefIdeal.Facts] [hPre_finite_bl : Cert.Pre_finite_bl.Facts] : Prop :=
  ∀ (m : (ℓ : Loc Cert.BlRefIdeal.nD Cert.BlRefIdeal.τ Cert.BlRefIdeal.sig) → Buf (Elt Ideal) ℓ) (g : Dev Cert.BlRefIdeal.nD → PrngReg), Pre_BlRefIdeal_finite_bl m →
    θ_run (Cert.BlRefIdeal.defs (F := Ideal)) (onTc (τ := Cert.BlRefIdeal.τ) (Cert.BlRefIdeal.main (F := Ideal))) ⟨m, fun _ => 0, g⟩ (fun r => (∀ c : Dev Cert.BlRefIdeal.nD,
      r.2.mem ((c.tc : Thread Cert.BlRefIdeal.nD Cert.BlRefIdeal.τ).loc Cert.BlRefIdeal.main_arg0) = m ((c.tc : Thread Cert.BlRefIdeal.nD Cert.BlRefIdeal.τ).loc Cert.BlRefIdeal.main_arg0)
      ∧ r.2.mem ((c.tc : Thread Cert.BlRefIdeal.nD Cert.BlRefIdeal.τ).loc Cert.BlRefIdeal.main_arg1) = m ((c.tc : Thread Cert.BlRefIdeal.nD Cert.BlRefIdeal.τ).loc Cert.BlRefIdeal.main_arg1)
      ∧ r.2.mem ((c.tc : Thread Cert.BlRefIdeal.nD Cert.BlRefIdeal.τ).loc Cert.BlRefIdeal.main_arg2) = m ((c.tc : Thread Cert.BlRefIdeal.nD Cert.BlRefIdeal.τ).loc Cert.BlRefIdeal.main_arg2)
      ∧ r.2.mem ((c.tc : Thread Cert.BlRefIdeal.nD Cert.BlRefIdeal.τ).loc Cert.BlRefIdeal.main_arg3) = m ((c.tc : Thread Cert.BlRefIdeal.nD Cert.BlRefIdeal.τ).loc Cert.BlRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_S5post [hS5post : Cert.S5post.Facts] : Prop :=
  ∀ (m : (ℓ : Loc Cert.S5post.nD Cert.S5post.τ Cert.S5post.sig) → Buf (Elt Bits) ℓ) (g : Dev Cert.S5post.nD → PrngReg), Pre_S5post m →
    θ_run (Cert.S5post.defs (F := Bits)) (onTc (τ := Cert.S5post.τ) (Cert.S5post.main (F := Bits))) ⟨m, fun _ => 0, g⟩ (fun r => (∀ c : Dev Cert.S5post.nD,
      r.2.mem ((c.tc : Thread Cert.S5post.nD Cert.S5post.τ).loc Cert.S5post.main_arg0) = m ((c.tc : Thread Cert.S5post.nD Cert.S5post.τ).loc Cert.S5post.main_arg0)
      ∧ r.2.mem ((c.tc : Thread Cert.S5post.nD Cert.S5post.τ).loc Cert.S5post.main_arg1) = m ((c.tc : Thread Cert.S5post.nD Cert.S5post.τ).loc Cert.S5post.main_arg1)
      ∧ r.2.mem ((c.tc : Thread Cert.S5post.nD Cert.S5post.τ).loc Cert.S5post.main_arg2) = m ((c.tc : Thread Cert.S5post.nD Cert.S5post.τ).loc Cert.S5post.main_arg2)
      ∧ r.2.mem ((c.tc : Thread Cert.S5post.nD Cert.S5post.τ).loc Cert.S5post.main_arg3) = m ((c.tc : Thread Cert.S5post.nD Cert.S5post.τ).loc Cert.S5post.main_arg3)
      ∧ r.2.mem ((c.tc : Thread Cert.S5post.nD Cert.S5post.τ).loc Cert.S5post.main_arg4) = m ((c.tc : Thread Cert.S5post.nD Cert.S5post.τ).loc Cert.S5post.main_arg4))
      ∧ r.2.sem = fun _ => 0)

def quiescent_S5postIdeal [hS5postIdeal : Cert.S5postIdeal.Facts] : Prop :=
  ∀ (m : (ℓ : Loc Cert.S5postIdeal.nD Cert.S5postIdeal.τ Cert.S5postIdeal.sig) → Buf (Elt Ideal) ℓ) (g : Dev Cert.S5postIdeal.nD → PrngReg), Pre_S5postIdeal m →
    θ_run (Cert.S5postIdeal.defs (F := Ideal)) (onTc (τ := Cert.S5postIdeal.τ) (Cert.S5postIdeal.main (F := Ideal))) ⟨m, fun _ => 0, g⟩ (fun r => (∀ c : Dev Cert.S5postIdeal.nD,
      r.2.mem ((c.tc : Thread Cert.S5postIdeal.nD Cert.S5postIdeal.τ).loc Cert.S5postIdeal.main_arg0) = m ((c.tc : Thread Cert.S5postIdeal.nD Cert.S5postIdeal.τ).loc Cert.S5postIdeal.main_arg0)
      ∧ r.2.mem ((c.tc : Thread Cert.S5postIdeal.nD Cert.S5postIdeal.τ).loc Cert.S5postIdeal.main_arg1) = m ((c.tc : Thread Cert.S5postIdeal.nD Cert.S5postIdeal.τ).loc Cert.S5postIdeal.main_arg1)
      ∧ r.2.mem ((c.tc : Thread Cert.S5postIdeal.nD Cert.S5postIdeal.τ).loc Cert.S5postIdeal.main_arg2) = m ((c.tc : Thread Cert.S5postIdeal.nD Cert.S5postIdeal.τ).loc Cert.S5postIdeal.main_arg2)
      ∧ r.2.mem ((c.tc : Thread Cert.S5postIdeal.nD Cert.S5postIdeal.τ).loc Cert.S5postIdeal.main_arg3) = m ((c.tc : Thread Cert.S5postIdeal.nD Cert.S5postIdeal.τ).loc Cert.S5postIdeal.main_arg3)
      ∧ r.2.mem ((c.tc : Thread Cert.S5postIdeal.nD Cert.S5postIdeal.τ).loc Cert.S5postIdeal.main_arg4) = m ((c.tc : Thread Cert.S5postIdeal.nD Cert.S5postIdeal.τ).loc Cert.S5postIdeal.main_arg4))
      ∧ r.2.sem = fun _ => 0)

def quiescent_S5postIdeal_pre_finite_s5post [hS5postIdeal : Cert.S5postIdeal.Facts] [hPre_finite_s5post : Cert.Pre_finite_s5post.Facts] : Prop :=
  ∀ (m : (ℓ : Loc Cert.S5postIdeal.nD Cert.S5postIdeal.τ Cert.S5postIdeal.sig) → Buf (Elt Ideal) ℓ) (g : Dev Cert.S5postIdeal.nD → PrngReg), Pre_S5postIdeal_finite_s5post m →
    θ_run (Cert.S5postIdeal.defs (F := Ideal)) (onTc (τ := Cert.S5postIdeal.τ) (Cert.S5postIdeal.main (F := Ideal))) ⟨m, fun _ => 0, g⟩ (fun r => (∀ c : Dev Cert.S5postIdeal.nD,
      r.2.mem ((c.tc : Thread Cert.S5postIdeal.nD Cert.S5postIdeal.τ).loc Cert.S5postIdeal.main_arg0) = m ((c.tc : Thread Cert.S5postIdeal.nD Cert.S5postIdeal.τ).loc Cert.S5postIdeal.main_arg0)
      ∧ r.2.mem ((c.tc : Thread Cert.S5postIdeal.nD Cert.S5postIdeal.τ).loc Cert.S5postIdeal.main_arg1) = m ((c.tc : Thread Cert.S5postIdeal.nD Cert.S5postIdeal.τ).loc Cert.S5postIdeal.main_arg1)
      ∧ r.2.mem ((c.tc : Thread Cert.S5postIdeal.nD Cert.S5postIdeal.τ).loc Cert.S5postIdeal.main_arg2) = m ((c.tc : Thread Cert.S5postIdeal.nD Cert.S5postIdeal.τ).loc Cert.S5postIdeal.main_arg2)
      ∧ r.2.mem ((c.tc : Thread Cert.S5postIdeal.nD Cert.S5postIdeal.τ).loc Cert.S5postIdeal.main_arg3) = m ((c.tc : Thread Cert.S5postIdeal.nD Cert.S5postIdeal.τ).loc Cert.S5postIdeal.main_arg3)
      ∧ r.2.mem ((c.tc : Thread Cert.S5postIdeal.nD Cert.S5postIdeal.τ).loc Cert.S5postIdeal.main_arg4) = m ((c.tc : Thread Cert.S5postIdeal.nD Cert.S5postIdeal.τ).loc Cert.S5postIdeal.main_arg4))
      ∧ r.2.sem = fun _ => 0)

def quiescent_S5postRefIdeal [hS5postRefIdeal : Cert.S5postRefIdeal.Facts] : Prop :=
  ∀ (m : (ℓ : Loc Cert.S5postRefIdeal.nD Cert.S5postRefIdeal.τ Cert.S5postRefIdeal.sig) → Buf (Elt Ideal) ℓ) (g : Dev Cert.S5postRefIdeal.nD → PrngReg), Pre_S5postRefIdeal m →
    θ_run (Cert.S5postRefIdeal.defs (F := Ideal)) (onTc (τ := Cert.S5postRefIdeal.τ) (Cert.S5postRefIdeal.main (F := Ideal))) ⟨m, fun _ => 0, g⟩ (fun r => (∀ c : Dev Cert.S5postRefIdeal.nD,
      r.2.mem ((c.tc : Thread Cert.S5postRefIdeal.nD Cert.S5postRefIdeal.τ).loc Cert.S5postRefIdeal.main_arg0) = m ((c.tc : Thread Cert.S5postRefIdeal.nD Cert.S5postRefIdeal.τ).loc Cert.S5postRefIdeal.main_arg0)
      ∧ r.2.mem ((c.tc : Thread Cert.S5postRefIdeal.nD Cert.S5postRefIdeal.τ).loc Cert.S5postRefIdeal.main_arg1) = m ((c.tc : Thread Cert.S5postRefIdeal.nD Cert.S5postRefIdeal.τ).loc Cert.S5postRefIdeal.main_arg1)
      ∧ r.2.mem ((c.tc : Thread Cert.S5postRefIdeal.nD Cert.S5postRefIdeal.τ).loc Cert.S5postRefIdeal.main_arg2) = m ((c.tc : Thread Cert.S5postRefIdeal.nD Cert.S5postRefIdeal.τ).loc Cert.S5postRefIdeal.main_arg2)
      ∧ r.2.mem ((c.tc : Thread Cert.S5postRefIdeal.nD Cert.S5postRefIdeal.τ).loc Cert.S5postRefIdeal.main_arg3) = m ((c.tc : Thread Cert.S5postRefIdeal.nD Cert.S5postRefIdeal.τ).loc Cert.S5postRefIdeal.main_arg3)
      ∧ r.2.mem ((c.tc : Thread Cert.S5postRefIdeal.nD Cert.S5postRefIdeal.τ).loc Cert.S5postRefIdeal.main_arg4) = m ((c.tc : Thread Cert.S5postRefIdeal.nD Cert.S5postRefIdeal.τ).loc Cert.S5postRefIdeal.main_arg4))
      ∧ r.2.sem = fun _ => 0)

def quiescent_S5postRefIdeal_pre_finite_s5post [hS5postRefIdeal : Cert.S5postRefIdeal.Facts] [hPre_finite_s5post : Cert.Pre_finite_s5post.Facts] : Prop :=
  ∀ (m : (ℓ : Loc Cert.S5postRefIdeal.nD Cert.S5postRefIdeal.τ Cert.S5postRefIdeal.sig) → Buf (Elt Ideal) ℓ) (g : Dev Cert.S5postRefIdeal.nD → PrngReg), Pre_S5postRefIdeal_finite_s5post m →
    θ_run (Cert.S5postRefIdeal.defs (F := Ideal)) (onTc (τ := Cert.S5postRefIdeal.τ) (Cert.S5postRefIdeal.main (F := Ideal))) ⟨m, fun _ => 0, g⟩ (fun r => (∀ c : Dev Cert.S5postRefIdeal.nD,
      r.2.mem ((c.tc : Thread Cert.S5postRefIdeal.nD Cert.S5postRefIdeal.τ).loc Cert.S5postRefIdeal.main_arg0) = m ((c.tc : Thread Cert.S5postRefIdeal.nD Cert.S5postRefIdeal.τ).loc Cert.S5postRefIdeal.main_arg0)
      ∧ r.2.mem ((c.tc : Thread Cert.S5postRefIdeal.nD Cert.S5postRefIdeal.τ).loc Cert.S5postRefIdeal.main_arg1) = m ((c.tc : Thread Cert.S5postRefIdeal.nD Cert.S5postRefIdeal.τ).loc Cert.S5postRefIdeal.main_arg1)
      ∧ r.2.mem ((c.tc : Thread Cert.S5postRefIdeal.nD Cert.S5postRefIdeal.τ).loc Cert.S5postRefIdeal.main_arg2) = m ((c.tc : Thread Cert.S5postRefIdeal.nD Cert.S5postRefIdeal.τ).loc Cert.S5postRefIdeal.main_arg2)
      ∧ r.2.mem ((c.tc : Thread Cert.S5postRefIdeal.nD Cert.S5postRefIdeal.τ).loc Cert.S5postRefIdeal.main_arg3) = m ((c.tc : Thread Cert.S5postRefIdeal.nD Cert.S5postRefIdeal.τ).loc Cert.S5postRefIdeal.main_arg3)
      ∧ r.2.mem ((c.tc : Thread Cert.S5postRefIdeal.nD Cert.S5postRefIdeal.τ).loc Cert.S5postRefIdeal.main_arg4) = m ((c.tc : Thread Cert.S5postRefIdeal.nD Cert.S5postRefIdeal.τ).loc Cert.S5postRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8)
      ∧ r.2.mem ((c.tc : Thread Cert.In.nD Cert.In.τ).loc Cert.In.main_arg9) = m ((c.tc : Thread Cert.In.nD Cert.In.τ).loc Cert.In.main_arg9))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5)
      ∧ r.2.mem ((c.tc : Thread Cert.Gates.nD Cert.Gates.τ).loc Cert.Gates.main_arg6) = m ((c.tc : Thread Cert.Gates.nD Cert.Gates.τ).loc Cert.Gates.main_arg6)
      ∧ r.2.mem ((c.tc : Thread Cert.Gates.nD Cert.Gates.τ).loc Cert.Gates.main_arg7) = m ((c.tc : Thread Cert.Gates.nD Cert.Gates.τ).loc Cert.Gates.main_arg7)
      ∧ r.2.mem ((c.tc : Thread Cert.Gates.nD Cert.Gates.τ).loc Cert.Gates.main_arg8) = m ((c.tc : Thread Cert.Gates.nD Cert.Gates.τ).loc Cert.Gates.main_arg8)
      ∧ r.2.mem ((c.tc : Thread Cert.Gates.nD Cert.Gates.τ).loc Cert.Gates.main_arg9) = m ((c.tc : Thread Cert.Gates.nD Cert.Gates.τ).loc Cert.Gates.main_arg9))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
      ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7)
      ∧ r.2.mem ((c.tc : Thread Cert.GatesIdeal.nD Cert.GatesIdeal.τ).loc Cert.GatesIdeal.main_arg8) = m ((c.tc : Thread Cert.GatesIdeal.nD Cert.GatesIdeal.τ).loc Cert.GatesIdeal.main_arg8)
      ∧ r.2.mem ((c.tc : Thread Cert.GatesIdeal.nD Cert.GatesIdeal.τ).loc Cert.GatesIdeal.main_arg9) = m ((c.tc : Thread Cert.GatesIdeal.nD Cert.GatesIdeal.τ).loc Cert.GatesIdeal.main_arg9))
      ∧ r.2.sem = fun _ => 0)

def quiescent_GatesIdeal_pre_decaying [hGatesIdeal : Cert.GatesIdeal.Facts] [hPre_decaying : Cert.Pre_decaying.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_decaying m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
      ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7)
      ∧ r.2.mem ((c.tc : Thread Cert.GatesIdeal.nD Cert.GatesIdeal.τ).loc Cert.GatesIdeal.main_arg8) = m ((c.tc : Thread Cert.GatesIdeal.nD Cert.GatesIdeal.τ).loc Cert.GatesIdeal.main_arg8)
      ∧ r.2.mem ((c.tc : Thread Cert.GatesIdeal.nD Cert.GatesIdeal.τ).loc Cert.GatesIdeal.main_arg9) = m ((c.tc : Thread Cert.GatesIdeal.nD Cert.GatesIdeal.τ).loc Cert.GatesIdeal.main_arg9))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4)
      ∧ r.2.mem ((c.tc : Thread Cert.GatesRefIdeal.nD Cert.GatesRefIdeal.τ).loc Cert.GatesRefIdeal.main_arg5) = m ((c.tc : Thread Cert.GatesRefIdeal.nD Cert.GatesRefIdeal.τ).loc Cert.GatesRefIdeal.main_arg5)
      ∧ r.2.mem ((c.tc : Thread Cert.GatesRefIdeal.nD Cert.GatesRefIdeal.τ).loc Cert.GatesRefIdeal.main_arg6) = m ((c.tc : Thread Cert.GatesRefIdeal.nD Cert.GatesRefIdeal.τ).loc Cert.GatesRefIdeal.main_arg6)
      ∧ r.2.mem ((c.tc : Thread Cert.GatesRefIdeal.nD Cert.GatesRefIdeal.τ).loc Cert.GatesRefIdeal.main_arg7) = m ((c.tc : Thread Cert.GatesRefIdeal.nD Cert.GatesRefIdeal.τ).loc Cert.GatesRefIdeal.main_arg7)
      ∧ r.2.mem ((c.tc : Thread Cert.GatesRefIdeal.nD Cert.GatesRefIdeal.τ).loc Cert.GatesRefIdeal.main_arg8) = m ((c.tc : Thread Cert.GatesRefIdeal.nD Cert.GatesRefIdeal.τ).loc Cert.GatesRefIdeal.main_arg8)
      ∧ r.2.mem ((c.tc : Thread Cert.GatesRefIdeal.nD Cert.GatesRefIdeal.τ).loc Cert.GatesRefIdeal.main_arg9) = m ((c.tc : Thread Cert.GatesRefIdeal.nD Cert.GatesRefIdeal.τ).loc Cert.GatesRefIdeal.main_arg9))
      ∧ r.2.sem = fun _ => 0)

def quiescent_GatesRefIdeal_pre_decaying [hGatesRefIdeal : Cert.GatesRefIdeal.Facts] [hPre_decaying : Cert.Pre_decaying.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal_decaying m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4)
      ∧ r.2.mem ((c.tc : Thread Cert.GatesRefIdeal.nD Cert.GatesRefIdeal.τ).loc Cert.GatesRefIdeal.main_arg5) = m ((c.tc : Thread Cert.GatesRefIdeal.nD Cert.GatesRefIdeal.τ).loc Cert.GatesRefIdeal.main_arg5)
      ∧ r.2.mem ((c.tc : Thread Cert.GatesRefIdeal.nD Cert.GatesRefIdeal.τ).loc Cert.GatesRefIdeal.main_arg6) = m ((c.tc : Thread Cert.GatesRefIdeal.nD Cert.GatesRefIdeal.τ).loc Cert.GatesRefIdeal.main_arg6)
      ∧ r.2.mem ((c.tc : Thread Cert.GatesRefIdeal.nD Cert.GatesRefIdeal.τ).loc Cert.GatesRefIdeal.main_arg7) = m ((c.tc : Thread Cert.GatesRefIdeal.nD Cert.GatesRefIdeal.τ).loc Cert.GatesRefIdeal.main_arg7)
      ∧ r.2.mem ((c.tc : Thread Cert.GatesRefIdeal.nD Cert.GatesRefIdeal.τ).loc Cert.GatesRefIdeal.main_arg8) = m ((c.tc : Thread Cert.GatesRefIdeal.nD Cert.GatesRefIdeal.τ).loc Cert.GatesRefIdeal.main_arg8)
      ∧ r.2.mem ((c.tc : Thread Cert.GatesRefIdeal.nD Cert.GatesRefIdeal.τ).loc Cert.GatesRefIdeal.main_arg9) = m ((c.tc : Thread Cert.GatesRefIdeal.nD Cert.GatesRefIdeal.τ).loc Cert.GatesRefIdeal.main_arg9))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepIdeal_pre_invertible [hPrepIdeal : Cert.PrepIdeal.Facts] [hPre_invertible : Cert.Pre_invertible.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_invertible m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_PrepRefIdeal_pre_invertible [hPrepRefIdeal : Cert.PrepRefIdeal.Facts] [hPre_invertible : Cert.Pre_invertible.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_invertible m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_Scanb [hScanb : Cert.Scanb.Facts] : Prop :=
  ∀ (m : (ℓ : Loc Cert.Scanb.nD Cert.Scanb.τ Cert.Scanb.sig) → Buf (Elt Bits) ℓ) (g : Dev Cert.Scanb.nD → PrngReg), Pre_Scanb m →
    θ_run (Cert.Scanb.defs (F := Bits)) (onTc (τ := Cert.Scanb.τ) (Cert.Scanb.main (F := Bits))) ⟨m, fun _ => 0, g⟩ (fun r => (∀ c : Dev Cert.Scanb.nD,
      r.2.mem ((c.tc : Thread Cert.Scanb.nD Cert.Scanb.τ).loc Cert.Scanb.main_arg0) = m ((c.tc : Thread Cert.Scanb.nD Cert.Scanb.τ).loc Cert.Scanb.main_arg0)
      ∧ r.2.mem ((c.tc : Thread Cert.Scanb.nD Cert.Scanb.τ).loc Cert.Scanb.main_arg1) = m ((c.tc : Thread Cert.Scanb.nD Cert.Scanb.τ).loc Cert.Scanb.main_arg1))
      ∧ r.2.sem = fun _ => 0)

def quiescent_ScanbIdeal [hScanbIdeal : Cert.ScanbIdeal.Facts] : Prop :=
  ∀ (m : (ℓ : Loc Cert.ScanbIdeal.nD Cert.ScanbIdeal.τ Cert.ScanbIdeal.sig) → Buf (Elt Ideal) ℓ) (g : Dev Cert.ScanbIdeal.nD → PrngReg), Pre_ScanbIdeal m →
    θ_run (Cert.ScanbIdeal.defs (F := Ideal)) (onTc (τ := Cert.ScanbIdeal.τ) (Cert.ScanbIdeal.main (F := Ideal))) ⟨m, fun _ => 0, g⟩ (fun r => (∀ c : Dev Cert.ScanbIdeal.nD,
      r.2.mem ((c.tc : Thread Cert.ScanbIdeal.nD Cert.ScanbIdeal.τ).loc Cert.ScanbIdeal.main_arg0) = m ((c.tc : Thread Cert.ScanbIdeal.nD Cert.ScanbIdeal.τ).loc Cert.ScanbIdeal.main_arg0)
      ∧ r.2.mem ((c.tc : Thread Cert.ScanbIdeal.nD Cert.ScanbIdeal.τ).loc Cert.ScanbIdeal.main_arg1) = m ((c.tc : Thread Cert.ScanbIdeal.nD Cert.ScanbIdeal.τ).loc Cert.ScanbIdeal.main_arg1))
      ∧ r.2.sem = fun _ => 0)

def quiescent_ScanbIdeal_pre_finite_scanb [hScanbIdeal : Cert.ScanbIdeal.Facts] [hPre_finite_scanb : Cert.Pre_finite_scanb.Facts] : Prop :=
  ∀ (m : (ℓ : Loc Cert.ScanbIdeal.nD Cert.ScanbIdeal.τ Cert.ScanbIdeal.sig) → Buf (Elt Ideal) ℓ) (g : Dev Cert.ScanbIdeal.nD → PrngReg), Pre_ScanbIdeal_finite_scanb m →
    θ_run (Cert.ScanbIdeal.defs (F := Ideal)) (onTc (τ := Cert.ScanbIdeal.τ) (Cert.ScanbIdeal.main (F := Ideal))) ⟨m, fun _ => 0, g⟩ (fun r => (∀ c : Dev Cert.ScanbIdeal.nD,
      r.2.mem ((c.tc : Thread Cert.ScanbIdeal.nD Cert.ScanbIdeal.τ).loc Cert.ScanbIdeal.main_arg0) = m ((c.tc : Thread Cert.ScanbIdeal.nD Cert.ScanbIdeal.τ).loc Cert.ScanbIdeal.main_arg0)
      ∧ r.2.mem ((c.tc : Thread Cert.ScanbIdeal.nD Cert.ScanbIdeal.τ).loc Cert.ScanbIdeal.main_arg1) = m ((c.tc : Thread Cert.ScanbIdeal.nD Cert.ScanbIdeal.τ).loc Cert.ScanbIdeal.main_arg1))
      ∧ r.2.sem = fun _ => 0)

def quiescent_ScanbRefIdeal [hScanbRefIdeal : Cert.ScanbRefIdeal.Facts] : Prop :=
  ∀ (m : (ℓ : Loc Cert.ScanbRefIdeal.nD Cert.ScanbRefIdeal.τ Cert.ScanbRefIdeal.sig) → Buf (Elt Ideal) ℓ) (g : Dev Cert.ScanbRefIdeal.nD → PrngReg), Pre_ScanbRefIdeal m →
    θ_run (Cert.ScanbRefIdeal.defs (F := Ideal)) (onTc (τ := Cert.ScanbRefIdeal.τ) (Cert.ScanbRefIdeal.main (F := Ideal))) ⟨m, fun _ => 0, g⟩ (fun r => (∀ c : Dev Cert.ScanbRefIdeal.nD,
      r.2.mem ((c.tc : Thread Cert.ScanbRefIdeal.nD Cert.ScanbRefIdeal.τ).loc Cert.ScanbRefIdeal.main_arg0) = m ((c.tc : Thread Cert.ScanbRefIdeal.nD Cert.ScanbRefIdeal.τ).loc Cert.ScanbRefIdeal.main_arg0)
      ∧ r.2.mem ((c.tc : Thread Cert.ScanbRefIdeal.nD Cert.ScanbRefIdeal.τ).loc Cert.ScanbRefIdeal.main_arg1) = m ((c.tc : Thread Cert.ScanbRefIdeal.nD Cert.ScanbRefIdeal.τ).loc Cert.ScanbRefIdeal.main_arg1))
      ∧ r.2.sem = fun _ => 0)

def quiescent_ScanbRefIdeal_pre_finite_scanb [hScanbRefIdeal : Cert.ScanbRefIdeal.Facts] [hPre_finite_scanb : Cert.Pre_finite_scanb.Facts] : Prop :=
  ∀ (m : (ℓ : Loc Cert.ScanbRefIdeal.nD Cert.ScanbRefIdeal.τ Cert.ScanbRefIdeal.sig) → Buf (Elt Ideal) ℓ) (g : Dev Cert.ScanbRefIdeal.nD → PrngReg), Pre_ScanbRefIdeal_finite_scanb m →
    θ_run (Cert.ScanbRefIdeal.defs (F := Ideal)) (onTc (τ := Cert.ScanbRefIdeal.τ) (Cert.ScanbRefIdeal.main (F := Ideal))) ⟨m, fun _ => 0, g⟩ (fun r => (∀ c : Dev Cert.ScanbRefIdeal.nD,
      r.2.mem ((c.tc : Thread Cert.ScanbRefIdeal.nD Cert.ScanbRefIdeal.τ).loc Cert.ScanbRefIdeal.main_arg0) = m ((c.tc : Thread Cert.ScanbRefIdeal.nD Cert.ScanbRefIdeal.τ).loc Cert.ScanbRefIdeal.main_arg0)
      ∧ r.2.mem ((c.tc : Thread Cert.ScanbRefIdeal.nD Cert.ScanbRefIdeal.τ).loc Cert.ScanbRefIdeal.main_arg1) = m ((c.tc : Thread Cert.ScanbRefIdeal.nD Cert.ScanbRefIdeal.τ).loc Cert.ScanbRefIdeal.main_arg1))
      ∧ r.2.sem = fun _ => 0)

def quiescent_Fgates [hFgates : Cert.Fgates.Facts] : Prop :=
  ∀ (m : (ℓ : Loc Cert.Fgates.nD Cert.Fgates.τ Cert.Fgates.sig) → Buf (Elt Bits) ℓ) (g : Dev Cert.Fgates.nD → PrngReg), Pre_Fgates m →
    θ_run (Cert.Fgates.defs (F := Bits)) (onTc (τ := Cert.Fgates.τ) (Cert.Fgates.main (F := Bits))) ⟨m, fun _ => 0, g⟩ (fun r => (∀ c : Dev Cert.Fgates.nD,
      r.2.mem ((c.tc : Thread Cert.Fgates.nD Cert.Fgates.τ).loc Cert.Fgates.main_arg0) = m ((c.tc : Thread Cert.Fgates.nD Cert.Fgates.τ).loc Cert.Fgates.main_arg0)
      ∧ r.2.mem ((c.tc : Thread Cert.Fgates.nD Cert.Fgates.τ).loc Cert.Fgates.main_arg1) = m ((c.tc : Thread Cert.Fgates.nD Cert.Fgates.τ).loc Cert.Fgates.main_arg1)
      ∧ r.2.mem ((c.tc : Thread Cert.Fgates.nD Cert.Fgates.τ).loc Cert.Fgates.main_arg2) = m ((c.tc : Thread Cert.Fgates.nD Cert.Fgates.τ).loc Cert.Fgates.main_arg2)
      ∧ r.2.mem ((c.tc : Thread Cert.Fgates.nD Cert.Fgates.τ).loc Cert.Fgates.main_arg3) = m ((c.tc : Thread Cert.Fgates.nD Cert.Fgates.τ).loc Cert.Fgates.main_arg3)
      ∧ r.2.mem ((c.tc : Thread Cert.Fgates.nD Cert.Fgates.τ).loc Cert.Fgates.main_arg4) = m ((c.tc : Thread Cert.Fgates.nD Cert.Fgates.τ).loc Cert.Fgates.main_arg4)
      ∧ r.2.mem ((c.tc : Thread Cert.Fgates.nD Cert.Fgates.τ).loc Cert.Fgates.main_arg5) = m ((c.tc : Thread Cert.Fgates.nD Cert.Fgates.τ).loc Cert.Fgates.main_arg5)
      ∧ r.2.mem ((c.tc : Thread Cert.Fgates.nD Cert.Fgates.τ).loc Cert.Fgates.main_arg6) = m ((c.tc : Thread Cert.Fgates.nD Cert.Fgates.τ).loc Cert.Fgates.main_arg6)
      ∧ r.2.mem ((c.tc : Thread Cert.Fgates.nD Cert.Fgates.τ).loc Cert.Fgates.main_arg7) = m ((c.tc : Thread Cert.Fgates.nD Cert.Fgates.τ).loc Cert.Fgates.main_arg7))
      ∧ r.2.sem = fun _ => 0)

def quiescent_FgatesIdeal [hFgatesIdeal : Cert.FgatesIdeal.Facts] : Prop :=
  ∀ (m : (ℓ : Loc Cert.FgatesIdeal.nD Cert.FgatesIdeal.τ Cert.FgatesIdeal.sig) → Buf (Elt Ideal) ℓ) (g : Dev Cert.FgatesIdeal.nD → PrngReg), Pre_FgatesIdeal m →
    θ_run (Cert.FgatesIdeal.defs (F := Ideal)) (onTc (τ := Cert.FgatesIdeal.τ) (Cert.FgatesIdeal.main (F := Ideal))) ⟨m, fun _ => 0, g⟩ (fun r => (∀ c : Dev Cert.FgatesIdeal.nD,
      r.2.mem ((c.tc : Thread Cert.FgatesIdeal.nD Cert.FgatesIdeal.τ).loc Cert.FgatesIdeal.main_arg0) = m ((c.tc : Thread Cert.FgatesIdeal.nD Cert.FgatesIdeal.τ).loc Cert.FgatesIdeal.main_arg0)
      ∧ r.2.mem ((c.tc : Thread Cert.FgatesIdeal.nD Cert.FgatesIdeal.τ).loc Cert.FgatesIdeal.main_arg1) = m ((c.tc : Thread Cert.FgatesIdeal.nD Cert.FgatesIdeal.τ).loc Cert.FgatesIdeal.main_arg1)
      ∧ r.2.mem ((c.tc : Thread Cert.FgatesIdeal.nD Cert.FgatesIdeal.τ).loc Cert.FgatesIdeal.main_arg2) = m ((c.tc : Thread Cert.FgatesIdeal.nD Cert.FgatesIdeal.τ).loc Cert.FgatesIdeal.main_arg2)
      ∧ r.2.mem ((c.tc : Thread Cert.FgatesIdeal.nD Cert.FgatesIdeal.τ).loc Cert.FgatesIdeal.main_arg3) = m ((c.tc : Thread Cert.FgatesIdeal.nD Cert.FgatesIdeal.τ).loc Cert.FgatesIdeal.main_arg3)
      ∧ r.2.mem ((c.tc : Thread Cert.FgatesIdeal.nD Cert.FgatesIdeal.τ).loc Cert.FgatesIdeal.main_arg4) = m ((c.tc : Thread Cert.FgatesIdeal.nD Cert.FgatesIdeal.τ).loc Cert.FgatesIdeal.main_arg4)
      ∧ r.2.mem ((c.tc : Thread Cert.FgatesIdeal.nD Cert.FgatesIdeal.τ).loc Cert.FgatesIdeal.main_arg5) = m ((c.tc : Thread Cert.FgatesIdeal.nD Cert.FgatesIdeal.τ).loc Cert.FgatesIdeal.main_arg5)
      ∧ r.2.mem ((c.tc : Thread Cert.FgatesIdeal.nD Cert.FgatesIdeal.τ).loc Cert.FgatesIdeal.main_arg6) = m ((c.tc : Thread Cert.FgatesIdeal.nD Cert.FgatesIdeal.τ).loc Cert.FgatesIdeal.main_arg6)
      ∧ r.2.mem ((c.tc : Thread Cert.FgatesIdeal.nD Cert.FgatesIdeal.τ).loc Cert.FgatesIdeal.main_arg7) = m ((c.tc : Thread Cert.FgatesIdeal.nD Cert.FgatesIdeal.τ).loc Cert.FgatesIdeal.main_arg7))
      ∧ r.2.sem = fun _ => 0)

def quiescent_FgatesIdeal_pre_decaying_forward [hFgatesIdeal : Cert.FgatesIdeal.Facts] [hPre_decaying_forward : Cert.Pre_decaying_forward.Facts] : Prop :=
  ∀ (m : (ℓ : Loc Cert.FgatesIdeal.nD Cert.FgatesIdeal.τ Cert.FgatesIdeal.sig) → Buf (Elt Ideal) ℓ) (g : Dev Cert.FgatesIdeal.nD → PrngReg), Pre_FgatesIdeal_decaying_forward m →
    θ_run (Cert.FgatesIdeal.defs (F := Ideal)) (onTc (τ := Cert.FgatesIdeal.τ) (Cert.FgatesIdeal.main (F := Ideal))) ⟨m, fun _ => 0, g⟩ (fun r => (∀ c : Dev Cert.FgatesIdeal.nD,
      r.2.mem ((c.tc : Thread Cert.FgatesIdeal.nD Cert.FgatesIdeal.τ).loc Cert.FgatesIdeal.main_arg0) = m ((c.tc : Thread Cert.FgatesIdeal.nD Cert.FgatesIdeal.τ).loc Cert.FgatesIdeal.main_arg0)
      ∧ r.2.mem ((c.tc : Thread Cert.FgatesIdeal.nD Cert.FgatesIdeal.τ).loc Cert.FgatesIdeal.main_arg1) = m ((c.tc : Thread Cert.FgatesIdeal.nD Cert.FgatesIdeal.τ).loc Cert.FgatesIdeal.main_arg1)
      ∧ r.2.mem ((c.tc : Thread Cert.FgatesIdeal.nD Cert.FgatesIdeal.τ).loc Cert.FgatesIdeal.main_arg2) = m ((c.tc : Thread Cert.FgatesIdeal.nD Cert.FgatesIdeal.τ).loc Cert.FgatesIdeal.main_arg2)
      ∧ r.2.mem ((c.tc : Thread Cert.FgatesIdeal.nD Cert.FgatesIdeal.τ).loc Cert.FgatesIdeal.main_arg3) = m ((c.tc : Thread Cert.FgatesIdeal.nD Cert.FgatesIdeal.τ).loc Cert.FgatesIdeal.main_arg3)
      ∧ r.2.mem ((c.tc : Thread Cert.FgatesIdeal.nD Cert.FgatesIdeal.τ).loc Cert.FgatesIdeal.main_arg4) = m ((c.tc : Thread Cert.FgatesIdeal.nD Cert.FgatesIdeal.τ).loc Cert.FgatesIdeal.main_arg4)
      ∧ r.2.mem ((c.tc : Thread Cert.FgatesIdeal.nD Cert.FgatesIdeal.τ).loc Cert.FgatesIdeal.main_arg5) = m ((c.tc : Thread Cert.FgatesIdeal.nD Cert.FgatesIdeal.τ).loc Cert.FgatesIdeal.main_arg5)
      ∧ r.2.mem ((c.tc : Thread Cert.FgatesIdeal.nD Cert.FgatesIdeal.τ).loc Cert.FgatesIdeal.main_arg6) = m ((c.tc : Thread Cert.FgatesIdeal.nD Cert.FgatesIdeal.τ).loc Cert.FgatesIdeal.main_arg6)
      ∧ r.2.mem ((c.tc : Thread Cert.FgatesIdeal.nD Cert.FgatesIdeal.τ).loc Cert.FgatesIdeal.main_arg7) = m ((c.tc : Thread Cert.FgatesIdeal.nD Cert.FgatesIdeal.τ).loc Cert.FgatesIdeal.main_arg7))
      ∧ r.2.sem = fun _ => 0)

def quiescent_FgatesRefIdeal [hFgatesRefIdeal : Cert.FgatesRefIdeal.Facts] : Prop :=
  ∀ (m : (ℓ : Loc Cert.FgatesRefIdeal.nD Cert.FgatesRefIdeal.τ Cert.FgatesRefIdeal.sig) → Buf (Elt Ideal) ℓ) (g : Dev Cert.FgatesRefIdeal.nD → PrngReg), Pre_FgatesRefIdeal m →
    θ_run (Cert.FgatesRefIdeal.defs (F := Ideal)) (onTc (τ := Cert.FgatesRefIdeal.τ) (Cert.FgatesRefIdeal.main (F := Ideal))) ⟨m, fun _ => 0, g⟩ (fun r => (∀ c : Dev Cert.FgatesRefIdeal.nD,
      r.2.mem ((c.tc : Thread Cert.FgatesRefIdeal.nD Cert.FgatesRefIdeal.τ).loc Cert.FgatesRefIdeal.main_arg0) = m ((c.tc : Thread Cert.FgatesRefIdeal.nD Cert.FgatesRefIdeal.τ).loc Cert.FgatesRefIdeal.main_arg0)
      ∧ r.2.mem ((c.tc : Thread Cert.FgatesRefIdeal.nD Cert.FgatesRefIdeal.τ).loc Cert.FgatesRefIdeal.main_arg1) = m ((c.tc : Thread Cert.FgatesRefIdeal.nD Cert.FgatesRefIdeal.τ).loc Cert.FgatesRefIdeal.main_arg1)
      ∧ r.2.mem ((c.tc : Thread Cert.FgatesRefIdeal.nD Cert.FgatesRefIdeal.τ).loc Cert.FgatesRefIdeal.main_arg2) = m ((c.tc : Thread Cert.FgatesRefIdeal.nD Cert.FgatesRefIdeal.τ).loc Cert.FgatesRefIdeal.main_arg2)
      ∧ r.2.mem ((c.tc : Thread Cert.FgatesRefIdeal.nD Cert.FgatesRefIdeal.τ).loc Cert.FgatesRefIdeal.main_arg3) = m ((c.tc : Thread Cert.FgatesRefIdeal.nD Cert.FgatesRefIdeal.τ).loc Cert.FgatesRefIdeal.main_arg3)
      ∧ r.2.mem ((c.tc : Thread Cert.FgatesRefIdeal.nD Cert.FgatesRefIdeal.τ).loc Cert.FgatesRefIdeal.main_arg4) = m ((c.tc : Thread Cert.FgatesRefIdeal.nD Cert.FgatesRefIdeal.τ).loc Cert.FgatesRefIdeal.main_arg4)
      ∧ r.2.mem ((c.tc : Thread Cert.FgatesRefIdeal.nD Cert.FgatesRefIdeal.τ).loc Cert.FgatesRefIdeal.main_arg5) = m ((c.tc : Thread Cert.FgatesRefIdeal.nD Cert.FgatesRefIdeal.τ).loc Cert.FgatesRefIdeal.main_arg5)
      ∧ r.2.mem ((c.tc : Thread Cert.FgatesRefIdeal.nD Cert.FgatesRefIdeal.τ).loc Cert.FgatesRefIdeal.main_arg6) = m ((c.tc : Thread Cert.FgatesRefIdeal.nD Cert.FgatesRefIdeal.τ).loc Cert.FgatesRefIdeal.main_arg6)
      ∧ r.2.mem ((c.tc : Thread Cert.FgatesRefIdeal.nD Cert.FgatesRefIdeal.τ).loc Cert.FgatesRefIdeal.main_arg7) = m ((c.tc : Thread Cert.FgatesRefIdeal.nD Cert.FgatesRefIdeal.τ).loc Cert.FgatesRefIdeal.main_arg7))
      ∧ r.2.sem = fun _ => 0)

def quiescent_FgatesRefIdeal_pre_decaying_forward [hFgatesRefIdeal : Cert.FgatesRefIdeal.Facts] [hPre_decaying_forward : Cert.Pre_decaying_forward.Facts] : Prop :=
  ∀ (m : (ℓ : Loc Cert.FgatesRefIdeal.nD Cert.FgatesRefIdeal.τ Cert.FgatesRefIdeal.sig) → Buf (Elt Ideal) ℓ) (g : Dev Cert.FgatesRefIdeal.nD → PrngReg), Pre_FgatesRefIdeal_decaying_forward m →
    θ_run (Cert.FgatesRefIdeal.defs (F := Ideal)) (onTc (τ := Cert.FgatesRefIdeal.τ) (Cert.FgatesRefIdeal.main (F := Ideal))) ⟨m, fun _ => 0, g⟩ (fun r => (∀ c : Dev Cert.FgatesRefIdeal.nD,
      r.2.mem ((c.tc : Thread Cert.FgatesRefIdeal.nD Cert.FgatesRefIdeal.τ).loc Cert.FgatesRefIdeal.main_arg0) = m ((c.tc : Thread Cert.FgatesRefIdeal.nD Cert.FgatesRefIdeal.τ).loc Cert.FgatesRefIdeal.main_arg0)
      ∧ r.2.mem ((c.tc : Thread Cert.FgatesRefIdeal.nD Cert.FgatesRefIdeal.τ).loc Cert.FgatesRefIdeal.main_arg1) = m ((c.tc : Thread Cert.FgatesRefIdeal.nD Cert.FgatesRefIdeal.τ).loc Cert.FgatesRefIdeal.main_arg1)
      ∧ r.2.mem ((c.tc : Thread Cert.FgatesRefIdeal.nD Cert.FgatesRefIdeal.τ).loc Cert.FgatesRefIdeal.main_arg2) = m ((c.tc : Thread Cert.FgatesRefIdeal.nD Cert.FgatesRefIdeal.τ).loc Cert.FgatesRefIdeal.main_arg2)
      ∧ r.2.mem ((c.tc : Thread Cert.FgatesRefIdeal.nD Cert.FgatesRefIdeal.τ).loc Cert.FgatesRefIdeal.main_arg3) = m ((c.tc : Thread Cert.FgatesRefIdeal.nD Cert.FgatesRefIdeal.τ).loc Cert.FgatesRefIdeal.main_arg3)
      ∧ r.2.mem ((c.tc : Thread Cert.FgatesRefIdeal.nD Cert.FgatesRefIdeal.τ).loc Cert.FgatesRefIdeal.main_arg4) = m ((c.tc : Thread Cert.FgatesRefIdeal.nD Cert.FgatesRefIdeal.τ).loc Cert.FgatesRefIdeal.main_arg4)
      ∧ r.2.mem ((c.tc : Thread Cert.FgatesRefIdeal.nD Cert.FgatesRefIdeal.τ).loc Cert.FgatesRefIdeal.main_arg5) = m ((c.tc : Thread Cert.FgatesRefIdeal.nD Cert.FgatesRefIdeal.τ).loc Cert.FgatesRefIdeal.main_arg5)
      ∧ r.2.mem ((c.tc : Thread Cert.FgatesRefIdeal.nD Cert.FgatesRefIdeal.τ).loc Cert.FgatesRefIdeal.main_arg6) = m ((c.tc : Thread Cert.FgatesRefIdeal.nD Cert.FgatesRefIdeal.τ).loc Cert.FgatesRefIdeal.main_arg6)
      ∧ r.2.mem ((c.tc : Thread Cert.FgatesRefIdeal.nD Cert.FgatesRefIdeal.τ).loc Cert.FgatesRefIdeal.main_arg7) = m ((c.tc : Thread Cert.FgatesRefIdeal.nD Cert.FgatesRefIdeal.τ).loc Cert.FgatesRefIdeal.main_arg7))
      ∧ r.2.sem = fun _ => 0)

def quiescent_Fmerge [hFmerge : Cert.Fmerge.Facts] : Prop :=
  ∀ (m : (ℓ : Loc Cert.Fmerge.nD Cert.Fmerge.τ Cert.Fmerge.sig) → Buf (Elt Bits) ℓ) (g : Dev Cert.Fmerge.nD → PrngReg), Pre_Fmerge m →
    θ_run (Cert.Fmerge.defs (F := Bits)) (onTc (τ := Cert.Fmerge.τ) (Cert.Fmerge.main (F := Bits))) ⟨m, fun _ => 0, g⟩ (fun r => (∀ c : Dev Cert.Fmerge.nD,
      r.2.mem ((c.tc : Thread Cert.Fmerge.nD Cert.Fmerge.τ).loc Cert.Fmerge.main_arg0) = m ((c.tc : Thread Cert.Fmerge.nD Cert.Fmerge.τ).loc Cert.Fmerge.main_arg0)
      ∧ r.2.mem ((c.tc : Thread Cert.Fmerge.nD Cert.Fmerge.τ).loc Cert.Fmerge.main_arg1) = m ((c.tc : Thread Cert.Fmerge.nD Cert.Fmerge.τ).loc Cert.Fmerge.main_arg1)
      ∧ r.2.mem ((c.tc : Thread Cert.Fmerge.nD Cert.Fmerge.τ).loc Cert.Fmerge.main_arg2) = m ((c.tc : Thread Cert.Fmerge.nD Cert.Fmerge.τ).loc Cert.Fmerge.main_arg2)
      ∧ r.2.mem ((c.tc : Thread Cert.Fmerge.nD Cert.Fmerge.τ).loc Cert.Fmerge.main_arg3) = m ((c.tc : Thread Cert.Fmerge.nD Cert.Fmerge.τ).loc Cert.Fmerge.main_arg3)
      ∧ r.2.mem ((c.tc : Thread Cert.Fmerge.nD Cert.Fmerge.τ).loc Cert.Fmerge.main_arg4) = m ((c.tc : Thread Cert.Fmerge.nD Cert.Fmerge.τ).loc Cert.Fmerge.main_arg4)
      ∧ r.2.mem ((c.tc : Thread Cert.Fmerge.nD Cert.Fmerge.τ).loc Cert.Fmerge.main_arg5) = m ((c.tc : Thread Cert.Fmerge.nD Cert.Fmerge.τ).loc Cert.Fmerge.main_arg5)
      ∧ r.2.mem ((c.tc : Thread Cert.Fmerge.nD Cert.Fmerge.τ).loc Cert.Fmerge.main_arg6) = m ((c.tc : Thread Cert.Fmerge.nD Cert.Fmerge.τ).loc Cert.Fmerge.main_arg6)
      ∧ r.2.mem ((c.tc : Thread Cert.Fmerge.nD Cert.Fmerge.τ).loc Cert.Fmerge.main_arg7) = m ((c.tc : Thread Cert.Fmerge.nD Cert.Fmerge.τ).loc Cert.Fmerge.main_arg7)
      ∧ r.2.mem ((c.tc : Thread Cert.Fmerge.nD Cert.Fmerge.τ).loc Cert.Fmerge.main_arg8) = m ((c.tc : Thread Cert.Fmerge.nD Cert.Fmerge.τ).loc Cert.Fmerge.main_arg8))
      ∧ r.2.sem = fun _ => 0)

def quiescent_FmergeIdeal [hFmergeIdeal : Cert.FmergeIdeal.Facts] : Prop :=
  ∀ (m : (ℓ : Loc Cert.FmergeIdeal.nD Cert.FmergeIdeal.τ Cert.FmergeIdeal.sig) → Buf (Elt Ideal) ℓ) (g : Dev Cert.FmergeIdeal.nD → PrngReg), Pre_FmergeIdeal m →
    θ_run (Cert.FmergeIdeal.defs (F := Ideal)) (onTc (τ := Cert.FmergeIdeal.τ) (Cert.FmergeIdeal.main (F := Ideal))) ⟨m, fun _ => 0, g⟩ (fun r => (∀ c : Dev Cert.FmergeIdeal.nD,
      r.2.mem ((c.tc : Thread Cert.FmergeIdeal.nD Cert.FmergeIdeal.τ).loc Cert.FmergeIdeal.main_arg0) = m ((c.tc : Thread Cert.FmergeIdeal.nD Cert.FmergeIdeal.τ).loc Cert.FmergeIdeal.main_arg0)
      ∧ r.2.mem ((c.tc : Thread Cert.FmergeIdeal.nD Cert.FmergeIdeal.τ).loc Cert.FmergeIdeal.main_arg1) = m ((c.tc : Thread Cert.FmergeIdeal.nD Cert.FmergeIdeal.τ).loc Cert.FmergeIdeal.main_arg1)
      ∧ r.2.mem ((c.tc : Thread Cert.FmergeIdeal.nD Cert.FmergeIdeal.τ).loc Cert.FmergeIdeal.main_arg2) = m ((c.tc : Thread Cert.FmergeIdeal.nD Cert.FmergeIdeal.τ).loc Cert.FmergeIdeal.main_arg2)
      ∧ r.2.mem ((c.tc : Thread Cert.FmergeIdeal.nD Cert.FmergeIdeal.τ).loc Cert.FmergeIdeal.main_arg3) = m ((c.tc : Thread Cert.FmergeIdeal.nD Cert.FmergeIdeal.τ).loc Cert.FmergeIdeal.main_arg3)
      ∧ r.2.mem ((c.tc : Thread Cert.FmergeIdeal.nD Cert.FmergeIdeal.τ).loc Cert.FmergeIdeal.main_arg4) = m ((c.tc : Thread Cert.FmergeIdeal.nD Cert.FmergeIdeal.τ).loc Cert.FmergeIdeal.main_arg4)
      ∧ r.2.mem ((c.tc : Thread Cert.FmergeIdeal.nD Cert.FmergeIdeal.τ).loc Cert.FmergeIdeal.main_arg5) = m ((c.tc : Thread Cert.FmergeIdeal.nD Cert.FmergeIdeal.τ).loc Cert.FmergeIdeal.main_arg5)
      ∧ r.2.mem ((c.tc : Thread Cert.FmergeIdeal.nD Cert.FmergeIdeal.τ).loc Cert.FmergeIdeal.main_arg6) = m ((c.tc : Thread Cert.FmergeIdeal.nD Cert.FmergeIdeal.τ).loc Cert.FmergeIdeal.main_arg6)
      ∧ r.2.mem ((c.tc : Thread Cert.FmergeIdeal.nD Cert.FmergeIdeal.τ).loc Cert.FmergeIdeal.main_arg7) = m ((c.tc : Thread Cert.FmergeIdeal.nD Cert.FmergeIdeal.τ).loc Cert.FmergeIdeal.main_arg7)
      ∧ r.2.mem ((c.tc : Thread Cert.FmergeIdeal.nD Cert.FmergeIdeal.τ).loc Cert.FmergeIdeal.main_arg8) = m ((c.tc : Thread Cert.FmergeIdeal.nD Cert.FmergeIdeal.τ).loc Cert.FmergeIdeal.main_arg8))
      ∧ r.2.sem = fun _ => 0)

def quiescent_FmergeRefIdeal [hFmergeRefIdeal : Cert.FmergeRefIdeal.Facts] : Prop :=
  ∀ (m : (ℓ : Loc Cert.FmergeRefIdeal.nD Cert.FmergeRefIdeal.τ Cert.FmergeRefIdeal.sig) → Buf (Elt Ideal) ℓ) (g : Dev Cert.FmergeRefIdeal.nD → PrngReg), Pre_FmergeRefIdeal m →
    θ_run (Cert.FmergeRefIdeal.defs (F := Ideal)) (onTc (τ := Cert.FmergeRefIdeal.τ) (Cert.FmergeRefIdeal.main (F := Ideal))) ⟨m, fun _ => 0, g⟩ (fun r => (∀ c : Dev Cert.FmergeRefIdeal.nD,
      r.2.mem ((c.tc : Thread Cert.FmergeRefIdeal.nD Cert.FmergeRefIdeal.τ).loc Cert.FmergeRefIdeal.main_arg0) = m ((c.tc : Thread Cert.FmergeRefIdeal.nD Cert.FmergeRefIdeal.τ).loc Cert.FmergeRefIdeal.main_arg0)
      ∧ r.2.mem ((c.tc : Thread Cert.FmergeRefIdeal.nD Cert.FmergeRefIdeal.τ).loc Cert.FmergeRefIdeal.main_arg1) = m ((c.tc : Thread Cert.FmergeRefIdeal.nD Cert.FmergeRefIdeal.τ).loc Cert.FmergeRefIdeal.main_arg1)
      ∧ r.2.mem ((c.tc : Thread Cert.FmergeRefIdeal.nD Cert.FmergeRefIdeal.τ).loc Cert.FmergeRefIdeal.main_arg2) = m ((c.tc : Thread Cert.FmergeRefIdeal.nD Cert.FmergeRefIdeal.τ).loc Cert.FmergeRefIdeal.main_arg2)
      ∧ r.2.mem ((c.tc : Thread Cert.FmergeRefIdeal.nD Cert.FmergeRefIdeal.τ).loc Cert.FmergeRefIdeal.main_arg3) = m ((c.tc : Thread Cert.FmergeRefIdeal.nD Cert.FmergeRefIdeal.τ).loc Cert.FmergeRefIdeal.main_arg3)
      ∧ r.2.mem ((c.tc : Thread Cert.FmergeRefIdeal.nD Cert.FmergeRefIdeal.τ).loc Cert.FmergeRefIdeal.main_arg4) = m ((c.tc : Thread Cert.FmergeRefIdeal.nD Cert.FmergeRefIdeal.τ).loc Cert.FmergeRefIdeal.main_arg4)
      ∧ r.2.mem ((c.tc : Thread Cert.FmergeRefIdeal.nD Cert.FmergeRefIdeal.τ).loc Cert.FmergeRefIdeal.main_arg5) = m ((c.tc : Thread Cert.FmergeRefIdeal.nD Cert.FmergeRefIdeal.τ).loc Cert.FmergeRefIdeal.main_arg5)
      ∧ r.2.mem ((c.tc : Thread Cert.FmergeRefIdeal.nD Cert.FmergeRefIdeal.τ).loc Cert.FmergeRefIdeal.main_arg6) = m ((c.tc : Thread Cert.FmergeRefIdeal.nD Cert.FmergeRefIdeal.τ).loc Cert.FmergeRefIdeal.main_arg6)
      ∧ r.2.mem ((c.tc : Thread Cert.FmergeRefIdeal.nD Cert.FmergeRefIdeal.τ).loc Cert.FmergeRefIdeal.main_arg7) = m ((c.tc : Thread Cert.FmergeRefIdeal.nD Cert.FmergeRefIdeal.τ).loc Cert.FmergeRefIdeal.main_arg7)
      ∧ r.2.mem ((c.tc : Thread Cert.FmergeRefIdeal.nD Cert.FmergeRefIdeal.τ).loc Cert.FmergeRefIdeal.main_arg8) = m ((c.tc : Thread Cert.FmergeRefIdeal.nD Cert.FmergeRefIdeal.τ).loc Cert.FmergeRefIdeal.main_arg8))
      ∧ r.2.sem = fun _ => 0)

def quiescent_Fs5post [hFs5post : Cert.Fs5post.Facts] : Prop :=
  ∀ (m : (ℓ : Loc Cert.Fs5post.nD Cert.Fs5post.τ Cert.Fs5post.sig) → Buf (Elt Bits) ℓ) (g : Dev Cert.Fs5post.nD → PrngReg), Pre_Fs5post m →
    θ_run (Cert.Fs5post.defs (F := Bits)) (onTc (τ := Cert.Fs5post.τ) (Cert.Fs5post.main (F := Bits))) ⟨m, fun _ => 0, g⟩ (fun r => (∀ c : Dev Cert.Fs5post.nD,
      r.2.mem ((c.tc : Thread Cert.Fs5post.nD Cert.Fs5post.τ).loc Cert.Fs5post.main_arg0) = m ((c.tc : Thread Cert.Fs5post.nD Cert.Fs5post.τ).loc Cert.Fs5post.main_arg0)
      ∧ r.2.mem ((c.tc : Thread Cert.Fs5post.nD Cert.Fs5post.τ).loc Cert.Fs5post.main_arg1) = m ((c.tc : Thread Cert.Fs5post.nD Cert.Fs5post.τ).loc Cert.Fs5post.main_arg1)
      ∧ r.2.mem ((c.tc : Thread Cert.Fs5post.nD Cert.Fs5post.τ).loc Cert.Fs5post.main_arg2) = m ((c.tc : Thread Cert.Fs5post.nD Cert.Fs5post.τ).loc Cert.Fs5post.main_arg2)
      ∧ r.2.mem ((c.tc : Thread Cert.Fs5post.nD Cert.Fs5post.τ).loc Cert.Fs5post.main_arg3) = m ((c.tc : Thread Cert.Fs5post.nD Cert.Fs5post.τ).loc Cert.Fs5post.main_arg3))
      ∧ r.2.sem = fun _ => 0)

def quiescent_Fs5postIdeal [hFs5postIdeal : Cert.Fs5postIdeal.Facts] : Prop :=
  ∀ (m : (ℓ : Loc Cert.Fs5postIdeal.nD Cert.Fs5postIdeal.τ Cert.Fs5postIdeal.sig) → Buf (Elt Ideal) ℓ) (g : Dev Cert.Fs5postIdeal.nD → PrngReg), Pre_Fs5postIdeal m →
    θ_run (Cert.Fs5postIdeal.defs (F := Ideal)) (onTc (τ := Cert.Fs5postIdeal.τ) (Cert.Fs5postIdeal.main (F := Ideal))) ⟨m, fun _ => 0, g⟩ (fun r => (∀ c : Dev Cert.Fs5postIdeal.nD,
      r.2.mem ((c.tc : Thread Cert.Fs5postIdeal.nD Cert.Fs5postIdeal.τ).loc Cert.Fs5postIdeal.main_arg0) = m ((c.tc : Thread Cert.Fs5postIdeal.nD Cert.Fs5postIdeal.τ).loc Cert.Fs5postIdeal.main_arg0)
      ∧ r.2.mem ((c.tc : Thread Cert.Fs5postIdeal.nD Cert.Fs5postIdeal.τ).loc Cert.Fs5postIdeal.main_arg1) = m ((c.tc : Thread Cert.Fs5postIdeal.nD Cert.Fs5postIdeal.τ).loc Cert.Fs5postIdeal.main_arg1)
      ∧ r.2.mem ((c.tc : Thread Cert.Fs5postIdeal.nD Cert.Fs5postIdeal.τ).loc Cert.Fs5postIdeal.main_arg2) = m ((c.tc : Thread Cert.Fs5postIdeal.nD Cert.Fs5postIdeal.τ).loc Cert.Fs5postIdeal.main_arg2)
      ∧ r.2.mem ((c.tc : Thread Cert.Fs5postIdeal.nD Cert.Fs5postIdeal.τ).loc Cert.Fs5postIdeal.main_arg3) = m ((c.tc : Thread Cert.Fs5postIdeal.nD Cert.Fs5postIdeal.τ).loc Cert.Fs5postIdeal.main_arg3))
      ∧ r.2.sem = fun _ => 0)

def quiescent_Fs5postRefIdeal [hFs5postRefIdeal : Cert.Fs5postRefIdeal.Facts] : Prop :=
  ∀ (m : (ℓ : Loc Cert.Fs5postRefIdeal.nD Cert.Fs5postRefIdeal.τ Cert.Fs5postRefIdeal.sig) → Buf (Elt Ideal) ℓ) (g : Dev Cert.Fs5postRefIdeal.nD → PrngReg), Pre_Fs5postRefIdeal m →
    θ_run (Cert.Fs5postRefIdeal.defs (F := Ideal)) (onTc (τ := Cert.Fs5postRefIdeal.τ) (Cert.Fs5postRefIdeal.main (F := Ideal))) ⟨m, fun _ => 0, g⟩ (fun r => (∀ c : Dev Cert.Fs5postRefIdeal.nD,
      r.2.mem ((c.tc : Thread Cert.Fs5postRefIdeal.nD Cert.Fs5postRefIdeal.τ).loc Cert.Fs5postRefIdeal.main_arg0) = m ((c.tc : Thread Cert.Fs5postRefIdeal.nD Cert.Fs5postRefIdeal.τ).loc Cert.Fs5postRefIdeal.main_arg0)
      ∧ r.2.mem ((c.tc : Thread Cert.Fs5postRefIdeal.nD Cert.Fs5postRefIdeal.τ).loc Cert.Fs5postRefIdeal.main_arg1) = m ((c.tc : Thread Cert.Fs5postRefIdeal.nD Cert.Fs5postRefIdeal.τ).loc Cert.Fs5postRefIdeal.main_arg1)
      ∧ r.2.mem ((c.tc : Thread Cert.Fs5postRefIdeal.nD Cert.Fs5postRefIdeal.τ).loc Cert.Fs5postRefIdeal.main_arg2) = m ((c.tc : Thread Cert.Fs5postRefIdeal.nD Cert.Fs5postRefIdeal.τ).loc Cert.Fs5postRefIdeal.main_arg2)
      ∧ r.2.mem ((c.tc : Thread Cert.Fs5postRefIdeal.nD Cert.Fs5postRefIdeal.τ).loc Cert.Fs5postRefIdeal.main_arg3) = m ((c.tc : Thread Cert.Fs5postRefIdeal.nD Cert.Fs5postRefIdeal.τ).loc Cert.Fs5postRefIdeal.main_arg3))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1)
      ∧ r.2.mem ((c.tc : Thread Cert.Fin.nD Cert.Fin.τ).loc Cert.Fin.main_arg2) = m ((c.tc : Thread Cert.Fin.nD Cert.Fin.τ).loc Cert.Fin.main_arg2))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
      ∧ r.2.mem ((c.tc : Thread Cert.FinIdeal.nD Cert.FinIdeal.τ).loc Cert.FinIdeal.main_arg2) = m ((c.tc : Thread Cert.FinIdeal.nD Cert.FinIdeal.τ).loc Cert.FinIdeal.main_arg2))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1)
      ∧ r.2.mem ((c.tc : Thread Cert.FinRefIdeal.nD Cert.FinRefIdeal.τ).loc Cert.FinRefIdeal.main_arg2) = m ((c.tc : Thread Cert.FinRefIdeal.nD Cert.FinRefIdeal.τ).loc Cert.FinRefIdeal.main_arg2))
      ∧ r.2.sem = fun _ => 0)

def quiescent_Fple [hFple : Cert.Fple.Facts] : Prop :=
  ∀ (m : (ℓ : Loc Cert.Fple.nD Cert.Fple.τ Cert.Fple.sig) → Buf (Elt Bits) ℓ) (g : Dev Cert.Fple.nD → PrngReg), Pre_Fple m →
    θ_run (Cert.Fple.defs (F := Bits)) (onTc (τ := Cert.Fple.τ) (Cert.Fple.main (F := Bits))) ⟨m, fun _ => 0, g⟩ (fun r => (∀ c : Dev Cert.Fple.nD,
      r.2.mem ((c.tc : Thread Cert.Fple.nD Cert.Fple.τ).loc Cert.Fple.main_arg0) = m ((c.tc : Thread Cert.Fple.nD Cert.Fple.τ).loc Cert.Fple.main_arg0)
      ∧ r.2.mem ((c.tc : Thread Cert.Fple.nD Cert.Fple.τ).loc Cert.Fple.main_arg1) = m ((c.tc : Thread Cert.Fple.nD Cert.Fple.τ).loc Cert.Fple.main_arg1)
      ∧ r.2.mem ((c.tc : Thread Cert.Fple.nD Cert.Fple.τ).loc Cert.Fple.main_arg2) = m ((c.tc : Thread Cert.Fple.nD Cert.Fple.τ).loc Cert.Fple.main_arg2)
      ∧ r.2.mem ((c.tc : Thread Cert.Fple.nD Cert.Fple.τ).loc Cert.Fple.main_arg3) = m ((c.tc : Thread Cert.Fple.nD Cert.Fple.τ).loc Cert.Fple.main_arg3))
      ∧ r.2.sem = fun _ => 0)

def quiescent_FpleIdeal [hFpleIdeal : Cert.FpleIdeal.Facts] : Prop :=
  ∀ (m : (ℓ : Loc Cert.FpleIdeal.nD Cert.FpleIdeal.τ Cert.FpleIdeal.sig) → Buf (Elt Ideal) ℓ) (g : Dev Cert.FpleIdeal.nD → PrngReg), Pre_FpleIdeal m →
    θ_run (Cert.FpleIdeal.defs (F := Ideal)) (onTc (τ := Cert.FpleIdeal.τ) (Cert.FpleIdeal.main (F := Ideal))) ⟨m, fun _ => 0, g⟩ (fun r => (∀ c : Dev Cert.FpleIdeal.nD,
      r.2.mem ((c.tc : Thread Cert.FpleIdeal.nD Cert.FpleIdeal.τ).loc Cert.FpleIdeal.main_arg0) = m ((c.tc : Thread Cert.FpleIdeal.nD Cert.FpleIdeal.τ).loc Cert.FpleIdeal.main_arg0)
      ∧ r.2.mem ((c.tc : Thread Cert.FpleIdeal.nD Cert.FpleIdeal.τ).loc Cert.FpleIdeal.main_arg1) = m ((c.tc : Thread Cert.FpleIdeal.nD Cert.FpleIdeal.τ).loc Cert.FpleIdeal.main_arg1)
      ∧ r.2.mem ((c.tc : Thread Cert.FpleIdeal.nD Cert.FpleIdeal.τ).loc Cert.FpleIdeal.main_arg2) = m ((c.tc : Thread Cert.FpleIdeal.nD Cert.FpleIdeal.τ).loc Cert.FpleIdeal.main_arg2)
      ∧ r.2.mem ((c.tc : Thread Cert.FpleIdeal.nD Cert.FpleIdeal.τ).loc Cert.FpleIdeal.main_arg3) = m ((c.tc : Thread Cert.FpleIdeal.nD Cert.FpleIdeal.τ).loc Cert.FpleIdeal.main_arg3))
      ∧ r.2.sem = fun _ => 0)

def quiescent_FpleRefIdeal [hFpleRefIdeal : Cert.FpleRefIdeal.Facts] : Prop :=
  ∀ (m : (ℓ : Loc Cert.FpleRefIdeal.nD Cert.FpleRefIdeal.τ Cert.FpleRefIdeal.sig) → Buf (Elt Ideal) ℓ) (g : Dev Cert.FpleRefIdeal.nD → PrngReg), Pre_FpleRefIdeal m →
    θ_run (Cert.FpleRefIdeal.defs (F := Ideal)) (onTc (τ := Cert.FpleRefIdeal.τ) (Cert.FpleRefIdeal.main (F := Ideal))) ⟨m, fun _ => 0, g⟩ (fun r => (∀ c : Dev Cert.FpleRefIdeal.nD,
      r.2.mem ((c.tc : Thread Cert.FpleRefIdeal.nD Cert.FpleRefIdeal.τ).loc Cert.FpleRefIdeal.main_arg0) = m ((c.tc : Thread Cert.FpleRefIdeal.nD Cert.FpleRefIdeal.τ).loc Cert.FpleRefIdeal.main_arg0)
      ∧ r.2.mem ((c.tc : Thread Cert.FpleRefIdeal.nD Cert.FpleRefIdeal.τ).loc Cert.FpleRefIdeal.main_arg1) = m ((c.tc : Thread Cert.FpleRefIdeal.nD Cert.FpleRefIdeal.τ).loc Cert.FpleRefIdeal.main_arg1)
      ∧ r.2.mem ((c.tc : Thread Cert.FpleRefIdeal.nD Cert.FpleRefIdeal.τ).loc Cert.FpleRefIdeal.main_arg2) = m ((c.tc : Thread Cert.FpleRefIdeal.nD Cert.FpleRefIdeal.τ).loc Cert.FpleRefIdeal.main_arg2)
      ∧ r.2.mem ((c.tc : Thread Cert.FpleRefIdeal.nD Cert.FpleRefIdeal.τ).loc Cert.FpleRefIdeal.main_arg3) = m ((c.tc : Thread Cert.FpleRefIdeal.nD Cert.FpleRefIdeal.τ).loc Cert.FpleRefIdeal.main_arg3))
      ∧ r.2.sem = fun _ => 0)

def quiescent_Fprep [hFprep : Cert.Fprep.Facts] : Prop :=
  ∀ (m : (ℓ : Loc Cert.Fprep.nD Cert.Fprep.τ Cert.Fprep.sig) → Buf (Elt Bits) ℓ) (g : Dev Cert.Fprep.nD → PrngReg), Pre_Fprep m →
    θ_run (Cert.Fprep.defs (F := Bits)) (onTc (τ := Cert.Fprep.τ) (Cert.Fprep.main (F := Bits))) ⟨m, fun _ => 0, g⟩ (fun r => (∀ c : Dev Cert.Fprep.nD,
      r.2.mem ((c.tc : Thread Cert.Fprep.nD Cert.Fprep.τ).loc Cert.Fprep.main_arg0) = m ((c.tc : Thread Cert.Fprep.nD Cert.Fprep.τ).loc Cert.Fprep.main_arg0)
      ∧ r.2.mem ((c.tc : Thread Cert.Fprep.nD Cert.Fprep.τ).loc Cert.Fprep.main_arg1) = m ((c.tc : Thread Cert.Fprep.nD Cert.Fprep.τ).loc Cert.Fprep.main_arg1)
      ∧ r.2.mem ((c.tc : Thread Cert.Fprep.nD Cert.Fprep.τ).loc Cert.Fprep.main_arg2) = m ((c.tc : Thread Cert.Fprep.nD Cert.Fprep.τ).loc Cert.Fprep.main_arg2)
      ∧ r.2.mem ((c.tc : Thread Cert.Fprep.nD Cert.Fprep.τ).loc Cert.Fprep.main_arg3) = m ((c.tc : Thread Cert.Fprep.nD Cert.Fprep.τ).loc Cert.Fprep.main_arg3)
      ∧ r.2.mem ((c.tc : Thread Cert.Fprep.nD Cert.Fprep.τ).loc Cert.Fprep.main_arg4) = m ((c.tc : Thread Cert.Fprep.nD Cert.Fprep.τ).loc Cert.Fprep.main_arg4))
      ∧ r.2.sem = fun _ => 0)

def quiescent_FprepIdeal [hFprepIdeal : Cert.FprepIdeal.Facts] : Prop :=
  ∀ (m : (ℓ : Loc Cert.FprepIdeal.nD Cert.FprepIdeal.τ Cert.FprepIdeal.sig) → Buf (Elt Ideal) ℓ) (g : Dev Cert.FprepIdeal.nD → PrngReg), Pre_FprepIdeal m →
    θ_run (Cert.FprepIdeal.defs (F := Ideal)) (onTc (τ := Cert.FprepIdeal.τ) (Cert.FprepIdeal.main (F := Ideal))) ⟨m, fun _ => 0, g⟩ (fun r => (∀ c : Dev Cert.FprepIdeal.nD,
      r.2.mem ((c.tc : Thread Cert.FprepIdeal.nD Cert.FprepIdeal.τ).loc Cert.FprepIdeal.main_arg0) = m ((c.tc : Thread Cert.FprepIdeal.nD Cert.FprepIdeal.τ).loc Cert.FprepIdeal.main_arg0)
      ∧ r.2.mem ((c.tc : Thread Cert.FprepIdeal.nD Cert.FprepIdeal.τ).loc Cert.FprepIdeal.main_arg1) = m ((c.tc : Thread Cert.FprepIdeal.nD Cert.FprepIdeal.τ).loc Cert.FprepIdeal.main_arg1)
      ∧ r.2.mem ((c.tc : Thread Cert.FprepIdeal.nD Cert.FprepIdeal.τ).loc Cert.FprepIdeal.main_arg2) = m ((c.tc : Thread Cert.FprepIdeal.nD Cert.FprepIdeal.τ).loc Cert.FprepIdeal.main_arg2)
      ∧ r.2.mem ((c.tc : Thread Cert.FprepIdeal.nD Cert.FprepIdeal.τ).loc Cert.FprepIdeal.main_arg3) = m ((c.tc : Thread Cert.FprepIdeal.nD Cert.FprepIdeal.τ).loc Cert.FprepIdeal.main_arg3)
      ∧ r.2.mem ((c.tc : Thread Cert.FprepIdeal.nD Cert.FprepIdeal.τ).loc Cert.FprepIdeal.main_arg4) = m ((c.tc : Thread Cert.FprepIdeal.nD Cert.FprepIdeal.τ).loc Cert.FprepIdeal.main_arg4))
      ∧ r.2.sem = fun _ => 0)

def quiescent_FprepRefIdeal [hFprepRefIdeal : Cert.FprepRefIdeal.Facts] : Prop :=
  ∀ (m : (ℓ : Loc Cert.FprepRefIdeal.nD Cert.FprepRefIdeal.τ Cert.FprepRefIdeal.sig) → Buf (Elt Ideal) ℓ) (g : Dev Cert.FprepRefIdeal.nD → PrngReg), Pre_FprepRefIdeal m →
    θ_run (Cert.FprepRefIdeal.defs (F := Ideal)) (onTc (τ := Cert.FprepRefIdeal.τ) (Cert.FprepRefIdeal.main (F := Ideal))) ⟨m, fun _ => 0, g⟩ (fun r => (∀ c : Dev Cert.FprepRefIdeal.nD,
      r.2.mem ((c.tc : Thread Cert.FprepRefIdeal.nD Cert.FprepRefIdeal.τ).loc Cert.FprepRefIdeal.main_arg0) = m ((c.tc : Thread Cert.FprepRefIdeal.nD Cert.FprepRefIdeal.τ).loc Cert.FprepRefIdeal.main_arg0)
      ∧ r.2.mem ((c.tc : Thread Cert.FprepRefIdeal.nD Cert.FprepRefIdeal.τ).loc Cert.FprepRefIdeal.main_arg1) = m ((c.tc : Thread Cert.FprepRefIdeal.nD Cert.FprepRefIdeal.τ).loc Cert.FprepRefIdeal.main_arg1)
      ∧ r.2.mem ((c.tc : Thread Cert.FprepRefIdeal.nD Cert.FprepRefIdeal.τ).loc Cert.FprepRefIdeal.main_arg2) = m ((c.tc : Thread Cert.FprepRefIdeal.nD Cert.FprepRefIdeal.τ).loc Cert.FprepRefIdeal.main_arg2)
      ∧ r.2.mem ((c.tc : Thread Cert.FprepRefIdeal.nD Cert.FprepRefIdeal.τ).loc Cert.FprepRefIdeal.main_arg3) = m ((c.tc : Thread Cert.FprepRefIdeal.nD Cert.FprepRefIdeal.τ).loc Cert.FprepRefIdeal.main_arg3)
      ∧ r.2.mem ((c.tc : Thread Cert.FprepRefIdeal.nD Cert.FprepRefIdeal.τ).loc Cert.FprepRefIdeal.main_arg4) = m ((c.tc : Thread Cert.FprepRefIdeal.nD Cert.FprepRefIdeal.τ).loc Cert.FprepRefIdeal.main_arg4))
      ∧ r.2.sem = fun _ => 0)

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v2_0)) (v1 : (c : Dev Cert.PleIdeal.nD) → Buf (Elt Ideal) ((c.tc : Thread Cert.PleIdeal.nD Cert.PleIdeal.τ).loc Cert.PleIdeal.main_v2_1)) (v2 : (c : Dev Cert.PleIdeal.nD) → Buf (Elt Ideal) ((c.tc : Thread Cert.PleIdeal.nD Cert.PleIdeal.τ).loc Cert.PleIdeal.main_v2_2)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2_0) = v0 c
          ∧ r.2.mem ((c.tc : Thread Cert.PleIdeal.nD Cert.PleIdeal.τ).loc Cert.PleIdeal.main_v2_1) = v1 c
          ∧ r.2.mem ((c.tc : Thread Cert.PleIdeal.nD Cert.PleIdeal.τ).loc Cert.PleIdeal.main_v2_2) = v2 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v20) = v0 c
          ∧ r.2.mem ((c.tc : Thread Cert.PleRefIdeal.nD Cert.PleRefIdeal.τ).loc Cert.PleRefIdeal.main_v22) = v1 c
          ∧ r.2.mem ((c.tc : Thread Cert.PleRefIdeal.nD Cert.PleRefIdeal.τ).loc Cert.PleRefIdeal.main_v18) = v2 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v24) = v0 c
          ∧ r.2.mem ((c.tc : Thread Cert.LossRefIdeal.nD Cert.LossRefIdeal.τ).loc Cert.LossRefIdeal.main_v25) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Bl_BlIdeal : Prop :=
  True

def algebraic_BlIdeal_BlRefIdeal_pre_finite_bl [hBlIdeal : Cert.BlIdeal.Facts] [hBlRefIdeal : Cert.BlRefIdeal.Facts] [hPre_finite_bl : Cert.Pre_finite_bl.Facts] : Prop :=
  ∀ (m : (ℓ : Loc Cert.BlIdeal.nD Cert.BlIdeal.τ Cert.BlIdeal.sig) → Buf (Elt Ideal) ℓ) (g : Dev Cert.BlIdeal.nD → PrngReg)
    (m' : (ℓ : Loc Cert.BlRefIdeal.nD Cert.BlRefIdeal.τ Cert.BlRefIdeal.sig) → Buf (Elt Ideal) ℓ) (g' : Dev Cert.BlRefIdeal.nD → PrngReg), Pre_BlIdeal_finite_bl m →
    (∀ c : Dev Cert.BlIdeal.nD,
      m' ((c.tc : Thread Cert.BlRefIdeal.nD Cert.BlRefIdeal.τ).loc Cert.BlRefIdeal.main_arg0) = m ((c.tc : Thread Cert.BlIdeal.nD Cert.BlIdeal.τ).loc Cert.BlIdeal.main_arg0)
      ∧ m' ((c.tc : Thread Cert.BlRefIdeal.nD Cert.BlRefIdeal.τ).loc Cert.BlRefIdeal.main_arg1) = m ((c.tc : Thread Cert.BlIdeal.nD Cert.BlIdeal.τ).loc Cert.BlIdeal.main_arg1)
      ∧ m' ((c.tc : Thread Cert.BlRefIdeal.nD Cert.BlRefIdeal.τ).loc Cert.BlRefIdeal.main_arg2) = m ((c.tc : Thread Cert.BlIdeal.nD Cert.BlIdeal.τ).loc Cert.BlIdeal.main_arg2)
      ∧ m' ((c.tc : Thread Cert.BlRefIdeal.nD Cert.BlRefIdeal.τ).loc Cert.BlRefIdeal.main_arg3) = m ((c.tc : Thread Cert.BlIdeal.nD Cert.BlIdeal.τ).loc Cert.BlIdeal.main_arg3)) →
    ∃ (v0 : (c : Dev Cert.BlIdeal.nD) → Buf (Elt Ideal) ((c.tc : Thread Cert.BlIdeal.nD Cert.BlIdeal.τ).loc Cert.BlIdeal.main_v3_0)) (v1 : (c : Dev Cert.BlIdeal.nD) → Buf (Elt Ideal) ((c.tc : Thread Cert.BlIdeal.nD Cert.BlIdeal.τ).loc Cert.BlIdeal.main_v3_1)) (v2 : (c : Dev Cert.BlIdeal.nD) → Buf (Elt Ideal) ((c.tc : Thread Cert.BlIdeal.nD Cert.BlIdeal.τ).loc Cert.BlIdeal.main_v3_2)),
      θ_run (Cert.BlIdeal.defs (F := Ideal)) (onTc (τ := Cert.BlIdeal.τ) (Cert.BlIdeal.main (F := Ideal))) ⟨m, fun _ => 0, g⟩ (fun r => ∀ c : Dev Cert.BlIdeal.nD,
          r.2.mem ((c.tc : Thread Cert.BlIdeal.nD Cert.BlIdeal.τ).loc Cert.BlIdeal.main_v3_0) = v0 c
          ∧ r.2.mem ((c.tc : Thread Cert.BlIdeal.nD Cert.BlIdeal.τ).loc Cert.BlIdeal.main_v3_1) = v1 c
          ∧ r.2.mem ((c.tc : Thread Cert.BlIdeal.nD Cert.BlIdeal.τ).loc Cert.BlIdeal.main_v3_2) = v2 c
          ∧ r.2.mem ((c.tc : Thread Cert.BlIdeal.nD Cert.BlIdeal.τ).loc Cert.BlIdeal.main_arg0) = m ((c.tc : Thread Cert.BlIdeal.nD Cert.BlIdeal.τ).loc Cert.BlIdeal.main_arg0)
          ∧ r.2.mem ((c.tc : Thread Cert.BlIdeal.nD Cert.BlIdeal.τ).loc Cert.BlIdeal.main_arg1) = m ((c.tc : Thread Cert.BlIdeal.nD Cert.BlIdeal.τ).loc Cert.BlIdeal.main_arg1)
          ∧ r.2.mem ((c.tc : Thread Cert.BlIdeal.nD Cert.BlIdeal.τ).loc Cert.BlIdeal.main_arg2) = m ((c.tc : Thread Cert.BlIdeal.nD Cert.BlIdeal.τ).loc Cert.BlIdeal.main_arg2)
          ∧ r.2.mem ((c.tc : Thread Cert.BlIdeal.nD Cert.BlIdeal.τ).loc Cert.BlIdeal.main_arg3) = m ((c.tc : Thread Cert.BlIdeal.nD Cert.BlIdeal.τ).loc Cert.BlIdeal.main_arg3))
      ∧ θ_run (Cert.BlRefIdeal.defs (F := Ideal)) (onTc (τ := Cert.BlRefIdeal.τ) (Cert.BlRefIdeal.main (F := Ideal))) ⟨m', fun _ => 0, g'⟩ (fun r => ∀ c : Dev Cert.BlRefIdeal.nD,
          r.2.mem ((c.tc : Thread Cert.BlRefIdeal.nD Cert.BlRefIdeal.τ).loc Cert.BlRefIdeal.main_v7) = v0 c
          ∧ r.2.mem ((c.tc : Thread Cert.BlRefIdeal.nD Cert.BlRefIdeal.τ).loc Cert.BlRefIdeal.main_v9) = v1 c
          ∧ r.2.mem ((c.tc : Thread Cert.BlRefIdeal.nD Cert.BlRefIdeal.τ).loc Cert.BlRefIdeal.main_v4) = v2 c
          ∧ r.2.mem ((c.tc : Thread Cert.BlRefIdeal.nD Cert.BlRefIdeal.τ).loc Cert.BlRefIdeal.main_arg0) = m' ((c.tc : Thread Cert.BlRefIdeal.nD Cert.BlRefIdeal.τ).loc Cert.BlRefIdeal.main_arg0)
          ∧ r.2.mem ((c.tc : Thread Cert.BlRefIdeal.nD Cert.BlRefIdeal.τ).loc Cert.BlRefIdeal.main_arg1) = m' ((c.tc : Thread Cert.BlRefIdeal.nD Cert.BlRefIdeal.τ).loc Cert.BlRefIdeal.main_arg1)
          ∧ r.2.mem ((c.tc : Thread Cert.BlRefIdeal.nD Cert.BlRefIdeal.τ).loc Cert.BlRefIdeal.main_arg2) = m' ((c.tc : Thread Cert.BlRefIdeal.nD Cert.BlRefIdeal.τ).loc Cert.BlRefIdeal.main_arg2)
          ∧ r.2.mem ((c.tc : Thread Cert.BlRefIdeal.nD Cert.BlRefIdeal.τ).loc Cert.BlRefIdeal.main_arg3) = m' ((c.tc : Thread Cert.BlRefIdeal.nD Cert.BlRefIdeal.τ).loc Cert.BlRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)) (v2 : (c : Dev Cert.ConvIdeal.nD) → Buf (Elt Ideal) ((c.tc : Thread Cert.ConvIdeal.nD Cert.ConvIdeal.τ).loc Cert.ConvIdeal.main_v2_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_v2_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v82) = v0 c
          ∧ r.2.mem ((c.tc : Thread Cert.ConvRefIdeal.nD Cert.ConvRefIdeal.τ).loc Cert.ConvRefIdeal.main_v77) = v1 c
          ∧ r.2.mem ((c.tc : Thread Cert.ConvRefIdeal.nD Cert.ConvRefIdeal.τ).loc Cert.ConvRefIdeal.main_v83) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_S5post_S5postIdeal : Prop :=
  IdealRules.named_const.Statement Cert.S5postIdeal.κ "gelu_c" .f32 0x3D372713#32 ((8943 / 200000 : ℝ) : EReal)
  ∧ IdealRules.named_const.Statement Cert.S5postIdeal.κ "gelu_c3" .f32 0x3E095D4F#32 ((26829 / 200000 : ℝ) : EReal)

def algebraic_S5postIdeal_S5postRefIdeal_pre_finite_s5post [hS5postIdeal : Cert.S5postIdeal.Facts] [hS5postRefIdeal : Cert.S5postRefIdeal.Facts] [hPre_finite_s5post : Cert.Pre_finite_s5post.Facts] : Prop :=
  ∀ (m : (ℓ : Loc Cert.S5postIdeal.nD Cert.S5postIdeal.τ Cert.S5postIdeal.sig) → Buf (Elt Ideal) ℓ) (g : Dev Cert.S5postIdeal.nD → PrngReg)
    (m' : (ℓ : Loc Cert.S5postRefIdeal.nD Cert.S5postRefIdeal.τ Cert.S5postRefIdeal.sig) → Buf (Elt Ideal) ℓ) (g' : Dev Cert.S5postRefIdeal.nD → PrngReg), Pre_S5postIdeal_finite_s5post m →
    (∀ c : Dev Cert.S5postIdeal.nD,
      m' ((c.tc : Thread Cert.S5postRefIdeal.nD Cert.S5postRefIdeal.τ).loc Cert.S5postRefIdeal.main_arg0) = m ((c.tc : Thread Cert.S5postIdeal.nD Cert.S5postIdeal.τ).loc Cert.S5postIdeal.main_arg0)
      ∧ m' ((c.tc : Thread Cert.S5postRefIdeal.nD Cert.S5postRefIdeal.τ).loc Cert.S5postRefIdeal.main_arg1) = m ((c.tc : Thread Cert.S5postIdeal.nD Cert.S5postIdeal.τ).loc Cert.S5postIdeal.main_arg1)
      ∧ m' ((c.tc : Thread Cert.S5postRefIdeal.nD Cert.S5postRefIdeal.τ).loc Cert.S5postRefIdeal.main_arg2) = m ((c.tc : Thread Cert.S5postIdeal.nD Cert.S5postIdeal.τ).loc Cert.S5postIdeal.main_arg2)
      ∧ m' ((c.tc : Thread Cert.S5postRefIdeal.nD Cert.S5postRefIdeal.τ).loc Cert.S5postRefIdeal.main_arg3) = m ((c.tc : Thread Cert.S5postIdeal.nD Cert.S5postIdeal.τ).loc Cert.S5postIdeal.main_arg3)
      ∧ m' ((c.tc : Thread Cert.S5postRefIdeal.nD Cert.S5postRefIdeal.τ).loc Cert.S5postRefIdeal.main_arg4) = m ((c.tc : Thread Cert.S5postIdeal.nD Cert.S5postIdeal.τ).loc Cert.S5postIdeal.main_arg4)) →
    ∃ (v0 : (c : Dev Cert.S5postIdeal.nD) → Buf (Elt Ideal) ((c.tc : Thread Cert.S5postIdeal.nD Cert.S5postIdeal.τ).loc Cert.S5postIdeal.main_v4_0)) (v1 : (c : Dev Cert.S5postIdeal.nD) → Buf (Elt Ideal) ((c.tc : Thread Cert.S5postIdeal.nD Cert.S5postIdeal.τ).loc Cert.S5postIdeal.main_v4_1)) (v2 : (c : Dev Cert.S5postIdeal.nD) → Buf (Elt Ideal) ((c.tc : Thread Cert.S5postIdeal.nD Cert.S5postIdeal.τ).loc Cert.S5postIdeal.main_v4_2)) (v3 : (c : Dev Cert.S5postIdeal.nD) → Buf (Elt Ideal) ((c.tc : Thread Cert.S5postIdeal.nD Cert.S5postIdeal.τ).loc Cert.S5postIdeal.main_v4_3)),
      θ_run (Cert.S5postIdeal.defs (F := Ideal)) (onTc (τ := Cert.S5postIdeal.τ) (Cert.S5postIdeal.main (F := Ideal))) ⟨m, fun _ => 0, g⟩ (fun r => ∀ c : Dev Cert.S5postIdeal.nD,
          r.2.mem ((c.tc : Thread Cert.S5postIdeal.nD Cert.S5postIdeal.τ).loc Cert.S5postIdeal.main_v4_0) = v0 c
          ∧ r.2.mem ((c.tc : Thread Cert.S5postIdeal.nD Cert.S5postIdeal.τ).loc Cert.S5postIdeal.main_v4_1) = v1 c
          ∧ r.2.mem ((c.tc : Thread Cert.S5postIdeal.nD Cert.S5postIdeal.τ).loc Cert.S5postIdeal.main_v4_2) = v2 c
          ∧ r.2.mem ((c.tc : Thread Cert.S5postIdeal.nD Cert.S5postIdeal.τ).loc Cert.S5postIdeal.main_v4_3) = v3 c
          ∧ r.2.mem ((c.tc : Thread Cert.S5postIdeal.nD Cert.S5postIdeal.τ).loc Cert.S5postIdeal.main_arg0) = m ((c.tc : Thread Cert.S5postIdeal.nD Cert.S5postIdeal.τ).loc Cert.S5postIdeal.main_arg0)
          ∧ r.2.mem ((c.tc : Thread Cert.S5postIdeal.nD Cert.S5postIdeal.τ).loc Cert.S5postIdeal.main_arg1) = m ((c.tc : Thread Cert.S5postIdeal.nD Cert.S5postIdeal.τ).loc Cert.S5postIdeal.main_arg1)
          ∧ r.2.mem ((c.tc : Thread Cert.S5postIdeal.nD Cert.S5postIdeal.τ).loc Cert.S5postIdeal.main_arg2) = m ((c.tc : Thread Cert.S5postIdeal.nD Cert.S5postIdeal.τ).loc Cert.S5postIdeal.main_arg2)
          ∧ r.2.mem ((c.tc : Thread Cert.S5postIdeal.nD Cert.S5postIdeal.τ).loc Cert.S5postIdeal.main_arg3) = m ((c.tc : Thread Cert.S5postIdeal.nD Cert.S5postIdeal.τ).loc Cert.S5postIdeal.main_arg3)
          ∧ r.2.mem ((c.tc : Thread Cert.S5postIdeal.nD Cert.S5postIdeal.τ).loc Cert.S5postIdeal.main_arg4) = m ((c.tc : Thread Cert.S5postIdeal.nD Cert.S5postIdeal.τ).loc Cert.S5postIdeal.main_arg4))
      ∧ θ_run (Cert.S5postRefIdeal.defs (F := Ideal)) (onTc (τ := Cert.S5postRefIdeal.τ) (Cert.S5postRefIdeal.main (F := Ideal))) ⟨m', fun _ => 0, g'⟩ (fun r => ∀ c : Dev Cert.S5postRefIdeal.nD,
          r.2.mem ((c.tc : Thread Cert.S5postRefIdeal.nD Cert.S5postRefIdeal.τ).loc Cert.S5postRefIdeal.main_v65) = v0 c
          ∧ r.2.mem ((c.tc : Thread Cert.S5postRefIdeal.nD Cert.S5postRefIdeal.τ).loc Cert.S5postRefIdeal.main_v66) = v1 c
          ∧ r.2.mem ((c.tc : Thread Cert.S5postRefIdeal.nD Cert.S5postRefIdeal.τ).loc Cert.S5postRefIdeal.main_v40) = v2 c
          ∧ r.2.mem ((c.tc : Thread Cert.S5postRefIdeal.nD Cert.S5postRefIdeal.τ).loc Cert.S5postRefIdeal.main_v50) = v3 c
          ∧ r.2.mem ((c.tc : Thread Cert.S5postRefIdeal.nD Cert.S5postRefIdeal.τ).loc Cert.S5postRefIdeal.main_arg0) = m' ((c.tc : Thread Cert.S5postRefIdeal.nD Cert.S5postRefIdeal.τ).loc Cert.S5postRefIdeal.main_arg0)
          ∧ r.2.mem ((c.tc : Thread Cert.S5postRefIdeal.nD Cert.S5postRefIdeal.τ).loc Cert.S5postRefIdeal.main_arg1) = m' ((c.tc : Thread Cert.S5postRefIdeal.nD Cert.S5postRefIdeal.τ).loc Cert.S5postRefIdeal.main_arg1)
          ∧ r.2.mem ((c.tc : Thread Cert.S5postRefIdeal.nD Cert.S5postRefIdeal.τ).loc Cert.S5postRefIdeal.main_arg2) = m' ((c.tc : Thread Cert.S5postRefIdeal.nD Cert.S5postRefIdeal.τ).loc Cert.S5postRefIdeal.main_arg2)
          ∧ r.2.mem ((c.tc : Thread Cert.S5postRefIdeal.nD Cert.S5postRefIdeal.τ).loc Cert.S5postRefIdeal.main_arg3) = m' ((c.tc : Thread Cert.S5postRefIdeal.nD Cert.S5postRefIdeal.τ).loc Cert.S5postRefIdeal.main_arg3)
          ∧ r.2.mem ((c.tc : Thread Cert.S5postRefIdeal.nD Cert.S5postRefIdeal.τ).loc Cert.S5postRefIdeal.main_arg4) = m' ((c.tc : Thread Cert.S5postRefIdeal.nD Cert.S5postRefIdeal.τ).loc Cert.S5postRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v23_0)) (v1 : (c : Dev Cert.MergeIdeal.nD) → Buf (Elt Ideal) ((c.tc : Thread Cert.MergeIdeal.nD Cert.MergeIdeal.τ).loc Cert.MergeIdeal.main_v23_1)) (v2 : (c : Dev Cert.MergeIdeal.nD) → Buf (Elt Ideal) ((c.tc : Thread Cert.MergeIdeal.nD Cert.MergeIdeal.τ).loc Cert.MergeIdeal.main_v23_2)) (v3 : (c : Dev Cert.MergeIdeal.nD) → Buf (Elt Ideal) ((c.tc : Thread Cert.MergeIdeal.nD Cert.MergeIdeal.τ).loc Cert.MergeIdeal.main_v23_3)) (v4 : (c : Dev Cert.MergeIdeal.nD) → Buf (Elt Ideal) ((c.tc : Thread Cert.MergeIdeal.nD Cert.MergeIdeal.τ).loc Cert.MergeIdeal.main_v23_4)) (v5 : (c : Dev Cert.MergeIdeal.nD) → Buf (Elt Ideal) ((c.tc : Thread Cert.MergeIdeal.nD Cert.MergeIdeal.τ).loc Cert.MergeIdeal.main_v23_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v23_0) = v0 c
          ∧ r.2.mem ((c.tc : Thread Cert.MergeIdeal.nD Cert.MergeIdeal.τ).loc Cert.MergeIdeal.main_v23_1) = v1 c
          ∧ r.2.mem ((c.tc : Thread Cert.MergeIdeal.nD Cert.MergeIdeal.τ).loc Cert.MergeIdeal.main_v23_2) = v2 c
          ∧ r.2.mem ((c.tc : Thread Cert.MergeIdeal.nD Cert.MergeIdeal.τ).loc Cert.MergeIdeal.main_v23_3) = v3 c
          ∧ r.2.mem ((c.tc : Thread Cert.MergeIdeal.nD Cert.MergeIdeal.τ).loc Cert.MergeIdeal.main_v23_4) = v4 c
          ∧ r.2.mem ((c.tc : Thread Cert.MergeIdeal.nD Cert.MergeIdeal.τ).loc Cert.MergeIdeal.main_v23_5) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v67) = v0 c
          ∧ r.2.mem ((c.tc : Thread Cert.MergeRefIdeal.nD Cert.MergeRefIdeal.τ).loc Cert.MergeRefIdeal.main_v68) = v1 c
          ∧ r.2.mem ((c.tc : Thread Cert.MergeRefIdeal.nD Cert.MergeRefIdeal.τ).loc Cert.MergeRefIdeal.main_v69) = v2 c
          ∧ r.2.mem ((c.tc : Thread Cert.MergeRefIdeal.nD Cert.MergeRefIdeal.τ).loc Cert.MergeRefIdeal.main_v70) = v3 c
          ∧ r.2.mem ((c.tc : Thread Cert.MergeRefIdeal.nD Cert.MergeRefIdeal.τ).loc Cert.MergeRefIdeal.main_v59) = v4 c
          ∧ r.2.mem ((c.tc : Thread Cert.MergeRefIdeal.nD Cert.MergeRefIdeal.τ).loc Cert.MergeRefIdeal.main_v71) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)
      ∧ m' ((c.tc : Thread Cert.InRefIdeal.nD Cert.InRefIdeal.τ).loc Cert.InRefIdeal.main_arg8) = m ((c.tc : Thread Cert.InIdeal.nD Cert.InIdeal.τ).loc Cert.InIdeal.main_arg8)
      ∧ m' ((c.tc : Thread Cert.InRefIdeal.nD Cert.InRefIdeal.τ).loc Cert.InRefIdeal.main_arg9) = m ((c.tc : Thread Cert.InIdeal.nD Cert.InIdeal.τ).loc Cert.InIdeal.main_arg9)) →
    ∃ (v0 : (c : Dev Cert.InIdeal.nD) → Buf (Elt Ideal) ((c.tc : Thread Cert.InIdeal.nD Cert.InIdeal.τ).loc Cert.InIdeal.main_v10_0)) (v1 : (c : Dev Cert.InIdeal.nD) → Buf (Elt Ideal) ((c.tc : Thread Cert.InIdeal.nD Cert.InIdeal.τ).loc Cert.InIdeal.main_v10_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v10_0) = v0 c
          ∧ r.2.mem ((c.tc : Thread Cert.InIdeal.nD Cert.InIdeal.τ).loc Cert.InIdeal.main_v10_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8)
          ∧ r.2.mem ((c.tc : Thread Cert.InIdeal.nD Cert.InIdeal.τ).loc Cert.InIdeal.main_arg9) = m ((c.tc : Thread Cert.InIdeal.nD Cert.InIdeal.τ).loc Cert.InIdeal.main_arg9))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v47) = v0 c
          ∧ r.2.mem ((c.tc : Thread Cert.InRefIdeal.nD Cert.InRefIdeal.τ).loc Cert.InRefIdeal.main_v48) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9))

def preserves_Gates_GatesIdeal : Prop :=
  True

def algebraic_GatesIdeal_GatesRefIdeal_pre_decaying [hGatesIdeal : Cert.GatesIdeal.Facts] [hGatesRefIdeal : Cert.GatesRefIdeal.Facts] [hPre_decaying : Cert.Pre_decaying.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal_decaying m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)
      ∧ m' ((c.tc : Thread Cert.GatesRefIdeal.nD Cert.GatesRefIdeal.τ).loc Cert.GatesRefIdeal.main_arg5) = m ((c.tc : Thread Cert.GatesIdeal.nD Cert.GatesIdeal.τ).loc Cert.GatesIdeal.main_arg5)
      ∧ m' ((c.tc : Thread Cert.GatesRefIdeal.nD Cert.GatesRefIdeal.τ).loc Cert.GatesRefIdeal.main_arg6) = m ((c.tc : Thread Cert.GatesIdeal.nD Cert.GatesIdeal.τ).loc Cert.GatesIdeal.main_arg6)
      ∧ m' ((c.tc : Thread Cert.GatesRefIdeal.nD Cert.GatesRefIdeal.τ).loc Cert.GatesRefIdeal.main_arg7) = m ((c.tc : Thread Cert.GatesIdeal.nD Cert.GatesIdeal.τ).loc Cert.GatesIdeal.main_arg7)
      ∧ m' ((c.tc : Thread Cert.GatesRefIdeal.nD Cert.GatesRefIdeal.τ).loc Cert.GatesRefIdeal.main_arg8) = m ((c.tc : Thread Cert.GatesIdeal.nD Cert.GatesIdeal.τ).loc Cert.GatesIdeal.main_arg8)
      ∧ m' ((c.tc : Thread Cert.GatesRefIdeal.nD Cert.GatesRefIdeal.τ).loc Cert.GatesRefIdeal.main_arg9) = m ((c.tc : Thread Cert.GatesIdeal.nD Cert.GatesIdeal.τ).loc Cert.GatesIdeal.main_arg9)) →
    ∃ (v0 : (c : Dev Cert.GatesIdeal.nD) → Buf (Elt Ideal) ((c.tc : Thread Cert.GatesIdeal.nD Cert.GatesIdeal.τ).loc Cert.GatesIdeal.main_v7_0)) (v1 : (c : Dev Cert.GatesIdeal.nD) → Buf (Elt Ideal) ((c.tc : Thread Cert.GatesIdeal.nD Cert.GatesIdeal.τ).loc Cert.GatesIdeal.main_v7_1)) (v2 : (c : Dev Cert.GatesIdeal.nD) → Buf (Elt Ideal) ((c.tc : Thread Cert.GatesIdeal.nD Cert.GatesIdeal.τ).loc Cert.GatesIdeal.main_v7_2)) (v3 : (c : Dev Cert.GatesIdeal.nD) → Buf (Elt Ideal) ((c.tc : Thread Cert.GatesIdeal.nD Cert.GatesIdeal.τ).loc Cert.GatesIdeal.main_v7_3)) (v4 : (c : Dev Cert.GatesIdeal.nD) → Buf (Elt Ideal) ((c.tc : Thread Cert.GatesIdeal.nD Cert.GatesIdeal.τ).loc Cert.GatesIdeal.main_v7_4)) (v5 : (c : Dev Cert.GatesIdeal.nD) → Buf (Elt Ideal) ((c.tc : Thread Cert.GatesIdeal.nD Cert.GatesIdeal.τ).loc Cert.GatesIdeal.main_v7_5)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v7_0) = v0 c
          ∧ r.2.mem ((c.tc : Thread Cert.GatesIdeal.nD Cert.GatesIdeal.τ).loc Cert.GatesIdeal.main_v7_1) = v1 c
          ∧ r.2.mem ((c.tc : Thread Cert.GatesIdeal.nD Cert.GatesIdeal.τ).loc Cert.GatesIdeal.main_v7_2) = v2 c
          ∧ r.2.mem ((c.tc : Thread Cert.GatesIdeal.nD Cert.GatesIdeal.τ).loc Cert.GatesIdeal.main_v7_3) = v3 c
          ∧ r.2.mem ((c.tc : Thread Cert.GatesIdeal.nD Cert.GatesIdeal.τ).loc Cert.GatesIdeal.main_v7_4) = v4 c
          ∧ r.2.mem ((c.tc : Thread Cert.GatesIdeal.nD Cert.GatesIdeal.τ).loc Cert.GatesIdeal.main_v7_5) = v5 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
          ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
          ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7)
          ∧ r.2.mem ((c.tc : Thread Cert.GatesIdeal.nD Cert.GatesIdeal.τ).loc Cert.GatesIdeal.main_arg8) = m ((c.tc : Thread Cert.GatesIdeal.nD Cert.GatesIdeal.τ).loc Cert.GatesIdeal.main_arg8)
          ∧ r.2.mem ((c.tc : Thread Cert.GatesIdeal.nD Cert.GatesIdeal.τ).loc Cert.GatesIdeal.main_arg9) = m ((c.tc : Thread Cert.GatesIdeal.nD Cert.GatesIdeal.τ).loc Cert.GatesIdeal.main_arg9))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v135) = v0 c
          ∧ r.2.mem ((c.tc : Thread Cert.GatesRefIdeal.nD Cert.GatesRefIdeal.τ).loc Cert.GatesRefIdeal.main_v132) = v1 c
          ∧ r.2.mem ((c.tc : Thread Cert.GatesRefIdeal.nD Cert.GatesRefIdeal.τ).loc Cert.GatesRefIdeal.main_v110) = v2 c
          ∧ r.2.mem ((c.tc : Thread Cert.GatesRefIdeal.nD Cert.GatesRefIdeal.τ).loc Cert.GatesRefIdeal.main_v136) = v3 c
          ∧ r.2.mem ((c.tc : Thread Cert.GatesRefIdeal.nD Cert.GatesRefIdeal.τ).loc Cert.GatesRefIdeal.main_v137) = v4 c
          ∧ r.2.mem ((c.tc : Thread Cert.GatesRefIdeal.nD Cert.GatesRefIdeal.τ).loc Cert.GatesRefIdeal.main_v138) = v5 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4)
          ∧ r.2.mem ((c.tc : Thread Cert.GatesRefIdeal.nD Cert.GatesRefIdeal.τ).loc Cert.GatesRefIdeal.main_arg5) = m' ((c.tc : Thread Cert.GatesRefIdeal.nD Cert.GatesRefIdeal.τ).loc Cert.GatesRefIdeal.main_arg5)
          ∧ r.2.mem ((c.tc : Thread Cert.GatesRefIdeal.nD Cert.GatesRefIdeal.τ).loc Cert.GatesRefIdeal.main_arg6) = m' ((c.tc : Thread Cert.GatesRefIdeal.nD Cert.GatesRefIdeal.τ).loc Cert.GatesRefIdeal.main_arg6)
          ∧ r.2.mem ((c.tc : Thread Cert.GatesRefIdeal.nD Cert.GatesRefIdeal.τ).loc Cert.GatesRefIdeal.main_arg7) = m' ((c.tc : Thread Cert.GatesRefIdeal.nD Cert.GatesRefIdeal.τ).loc Cert.GatesRefIdeal.main_arg7)
          ∧ r.2.mem ((c.tc : Thread Cert.GatesRefIdeal.nD Cert.GatesRefIdeal.τ).loc Cert.GatesRefIdeal.main_arg8) = m' ((c.tc : Thread Cert.GatesRefIdeal.nD Cert.GatesRefIdeal.τ).loc Cert.GatesRefIdeal.main_arg8)
          ∧ r.2.mem ((c.tc : Thread Cert.GatesRefIdeal.nD Cert.GatesRefIdeal.τ).loc Cert.GatesRefIdeal.main_arg9) = m' ((c.tc : Thread Cert.GatesRefIdeal.nD Cert.GatesRefIdeal.τ).loc Cert.GatesRefIdeal.main_arg9))

def preserves_Prep_PrepIdeal : Prop :=
  True

def algebraic_PrepIdeal_PrepRefIdeal_pre_invertible [hPrepIdeal : Cert.PrepIdeal.Facts] [hPrepRefIdeal : Cert.PrepRefIdeal.Facts] [hPre_invertible : Cert.Pre_invertible.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_invertible m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)) →
    ∃ (v0 : (c : Dev Cert.PrepIdeal.nD) → Buf (Elt Ideal) ((c.tc : Thread Cert.PrepIdeal.nD Cert.PrepIdeal.τ).loc Cert.PrepIdeal.main_v26)) (v1 : (c : Dev Cert.PrepIdeal.nD) → Buf (Elt Ideal) ((c.tc : Thread Cert.PrepIdeal.nD Cert.PrepIdeal.τ).loc Cert.PrepIdeal.main_v28)) (v2 : (c : Dev Cert.PrepIdeal.nD) → Buf (Elt Ideal) ((c.tc : Thread Cert.PrepIdeal.nD Cert.PrepIdeal.τ).loc Cert.PrepIdeal.main_v30)) (v3 : (c : Dev Cert.PrepIdeal.nD) → Buf (Elt Ideal) ((c.tc : Thread Cert.PrepIdeal.nD Cert.PrepIdeal.τ).loc Cert.PrepIdeal.main_v32)) (v4 : (c : Dev Cert.PrepIdeal.nD) → Buf (Elt Ideal) ((c.tc : Thread Cert.PrepIdeal.nD Cert.PrepIdeal.τ).loc Cert.PrepIdeal.main_v34)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v26) = v0 c
          ∧ r.2.mem ((c.tc : Thread Cert.PrepIdeal.nD Cert.PrepIdeal.τ).loc Cert.PrepIdeal.main_v28) = v1 c
          ∧ r.2.mem ((c.tc : Thread Cert.PrepIdeal.nD Cert.PrepIdeal.τ).loc Cert.PrepIdeal.main_v30) = v2 c
          ∧ r.2.mem ((c.tc : Thread Cert.PrepIdeal.nD Cert.PrepIdeal.τ).loc Cert.PrepIdeal.main_v32) = v3 c
          ∧ r.2.mem ((c.tc : Thread Cert.PrepIdeal.nD Cert.PrepIdeal.τ).loc Cert.PrepIdeal.main_v34) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v141) = v0 c
          ∧ r.2.mem ((c.tc : Thread Cert.PrepRefIdeal.nD Cert.PrepRefIdeal.τ).loc Cert.PrepRefIdeal.main_v133) = v1 c
          ∧ r.2.mem ((c.tc : Thread Cert.PrepRefIdeal.nD Cert.PrepRefIdeal.τ).loc Cert.PrepRefIdeal.main_v143) = v2 c
          ∧ r.2.mem ((c.tc : Thread Cert.PrepRefIdeal.nD Cert.PrepRefIdeal.τ).loc Cert.PrepRefIdeal.main_v75) = v3 c
          ∧ r.2.mem ((c.tc : Thread Cert.PrepRefIdeal.nD Cert.PrepRefIdeal.τ).loc Cert.PrepRefIdeal.main_v67) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8))

def preserves_Scanb_ScanbIdeal : Prop :=
  True

def algebraic_ScanbIdeal_ScanbRefIdeal_pre_finite_scanb [hScanbIdeal : Cert.ScanbIdeal.Facts] [hScanbRefIdeal : Cert.ScanbRefIdeal.Facts] [hPre_finite_scanb : Cert.Pre_finite_scanb.Facts] : Prop :=
  ∀ (m : (ℓ : Loc Cert.ScanbIdeal.nD Cert.ScanbIdeal.τ Cert.ScanbIdeal.sig) → Buf (Elt Ideal) ℓ) (g : Dev Cert.ScanbIdeal.nD → PrngReg)
    (m' : (ℓ : Loc Cert.ScanbRefIdeal.nD Cert.ScanbRefIdeal.τ Cert.ScanbRefIdeal.sig) → Buf (Elt Ideal) ℓ) (g' : Dev Cert.ScanbRefIdeal.nD → PrngReg), Pre_ScanbIdeal_finite_scanb m →
    (∀ c : Dev Cert.ScanbIdeal.nD,
      m' ((c.tc : Thread Cert.ScanbRefIdeal.nD Cert.ScanbRefIdeal.τ).loc Cert.ScanbRefIdeal.main_arg0) = m ((c.tc : Thread Cert.ScanbIdeal.nD Cert.ScanbIdeal.τ).loc Cert.ScanbIdeal.main_arg0)
      ∧ m' ((c.tc : Thread Cert.ScanbRefIdeal.nD Cert.ScanbRefIdeal.τ).loc Cert.ScanbRefIdeal.main_arg1) = m ((c.tc : Thread Cert.ScanbIdeal.nD Cert.ScanbIdeal.τ).loc Cert.ScanbIdeal.main_arg1)) →
    ∃ (v0 : (c : Dev Cert.ScanbIdeal.nD) → Buf (Elt Ideal) ((c.tc : Thread Cert.ScanbIdeal.nD Cert.ScanbIdeal.τ).loc Cert.ScanbIdeal.main_v0)),
      θ_run (Cert.ScanbIdeal.defs (F := Ideal)) (onTc (τ := Cert.ScanbIdeal.τ) (Cert.ScanbIdeal.main (F := Ideal))) ⟨m, fun _ => 0, g⟩ (fun r => ∀ c : Dev Cert.ScanbIdeal.nD,
          r.2.mem ((c.tc : Thread Cert.ScanbIdeal.nD Cert.ScanbIdeal.τ).loc Cert.ScanbIdeal.main_v0) = v0 c
          ∧ r.2.mem ((c.tc : Thread Cert.ScanbIdeal.nD Cert.ScanbIdeal.τ).loc Cert.ScanbIdeal.main_arg0) = m ((c.tc : Thread Cert.ScanbIdeal.nD Cert.ScanbIdeal.τ).loc Cert.ScanbIdeal.main_arg0)
          ∧ r.2.mem ((c.tc : Thread Cert.ScanbIdeal.nD Cert.ScanbIdeal.τ).loc Cert.ScanbIdeal.main_arg1) = m ((c.tc : Thread Cert.ScanbIdeal.nD Cert.ScanbIdeal.τ).loc Cert.ScanbIdeal.main_arg1))
      ∧ θ_run (Cert.ScanbRefIdeal.defs (F := Ideal)) (onTc (τ := Cert.ScanbRefIdeal.τ) (Cert.ScanbRefIdeal.main (F := Ideal))) ⟨m', fun _ => 0, g'⟩ (fun r => ∀ c : Dev Cert.ScanbRefIdeal.nD,
          r.2.mem ((c.tc : Thread Cert.ScanbRefIdeal.nD Cert.ScanbRefIdeal.τ).loc Cert.ScanbRefIdeal.main_v2_4) = v0 c
          ∧ r.2.mem ((c.tc : Thread Cert.ScanbRefIdeal.nD Cert.ScanbRefIdeal.τ).loc Cert.ScanbRefIdeal.main_arg0) = m' ((c.tc : Thread Cert.ScanbRefIdeal.nD Cert.ScanbRefIdeal.τ).loc Cert.ScanbRefIdeal.main_arg0)
          ∧ r.2.mem ((c.tc : Thread Cert.ScanbRefIdeal.nD Cert.ScanbRefIdeal.τ).loc Cert.ScanbRefIdeal.main_arg1) = m' ((c.tc : Thread Cert.ScanbRefIdeal.nD Cert.ScanbRefIdeal.τ).loc Cert.ScanbRefIdeal.main_arg1))

def preserves_Fgates_FgatesIdeal : Prop :=
  True

def algebraic_FgatesIdeal_FgatesRefIdeal_pre_decaying_forward [hFgatesIdeal : Cert.FgatesIdeal.Facts] [hFgatesRefIdeal : Cert.FgatesRefIdeal.Facts] [hPre_decaying_forward : Cert.Pre_decaying_forward.Facts] : Prop :=
  ∀ (m : (ℓ : Loc Cert.FgatesIdeal.nD Cert.FgatesIdeal.τ Cert.FgatesIdeal.sig) → Buf (Elt Ideal) ℓ) (g : Dev Cert.FgatesIdeal.nD → PrngReg)
    (m' : (ℓ : Loc Cert.FgatesRefIdeal.nD Cert.FgatesRefIdeal.τ Cert.FgatesRefIdeal.sig) → Buf (Elt Ideal) ℓ) (g' : Dev Cert.FgatesRefIdeal.nD → PrngReg), Pre_FgatesIdeal_decaying_forward m →
    (∀ c : Dev Cert.FgatesIdeal.nD,
      m' ((c.tc : Thread Cert.FgatesRefIdeal.nD Cert.FgatesRefIdeal.τ).loc Cert.FgatesRefIdeal.main_arg0) = m ((c.tc : Thread Cert.FgatesIdeal.nD Cert.FgatesIdeal.τ).loc Cert.FgatesIdeal.main_arg0)
      ∧ m' ((c.tc : Thread Cert.FgatesRefIdeal.nD Cert.FgatesRefIdeal.τ).loc Cert.FgatesRefIdeal.main_arg1) = m ((c.tc : Thread Cert.FgatesIdeal.nD Cert.FgatesIdeal.τ).loc Cert.FgatesIdeal.main_arg1)
      ∧ m' ((c.tc : Thread Cert.FgatesRefIdeal.nD Cert.FgatesRefIdeal.τ).loc Cert.FgatesRefIdeal.main_arg2) = m ((c.tc : Thread Cert.FgatesIdeal.nD Cert.FgatesIdeal.τ).loc Cert.FgatesIdeal.main_arg2)
      ∧ m' ((c.tc : Thread Cert.FgatesRefIdeal.nD Cert.FgatesRefIdeal.τ).loc Cert.FgatesRefIdeal.main_arg3) = m ((c.tc : Thread Cert.FgatesIdeal.nD Cert.FgatesIdeal.τ).loc Cert.FgatesIdeal.main_arg3)
      ∧ m' ((c.tc : Thread Cert.FgatesRefIdeal.nD Cert.FgatesRefIdeal.τ).loc Cert.FgatesRefIdeal.main_arg4) = m ((c.tc : Thread Cert.FgatesIdeal.nD Cert.FgatesIdeal.τ).loc Cert.FgatesIdeal.main_arg4)
      ∧ m' ((c.tc : Thread Cert.FgatesRefIdeal.nD Cert.FgatesRefIdeal.τ).loc Cert.FgatesRefIdeal.main_arg5) = m ((c.tc : Thread Cert.FgatesIdeal.nD Cert.FgatesIdeal.τ).loc Cert.FgatesIdeal.main_arg5)
      ∧ m' ((c.tc : Thread Cert.FgatesRefIdeal.nD Cert.FgatesRefIdeal.τ).loc Cert.FgatesRefIdeal.main_arg6) = m ((c.tc : Thread Cert.FgatesIdeal.nD Cert.FgatesIdeal.τ).loc Cert.FgatesIdeal.main_arg6)
      ∧ m' ((c.tc : Thread Cert.FgatesRefIdeal.nD Cert.FgatesRefIdeal.τ).loc Cert.FgatesRefIdeal.main_arg7) = m ((c.tc : Thread Cert.FgatesIdeal.nD Cert.FgatesIdeal.τ).loc Cert.FgatesIdeal.main_arg7)) →
    ∃ (v0 : (c : Dev Cert.FgatesIdeal.nD) → Buf (Elt Ideal) ((c.tc : Thread Cert.FgatesIdeal.nD Cert.FgatesIdeal.τ).loc Cert.FgatesIdeal.main_v7_0)) (v1 : (c : Dev Cert.FgatesIdeal.nD) → Buf (Elt Ideal) ((c.tc : Thread Cert.FgatesIdeal.nD Cert.FgatesIdeal.τ).loc Cert.FgatesIdeal.main_v7_1)),
      θ_run (Cert.FgatesIdeal.defs (F := Ideal)) (onTc (τ := Cert.FgatesIdeal.τ) (Cert.FgatesIdeal.main (F := Ideal))) ⟨m, fun _ => 0, g⟩ (fun r => ∀ c : Dev Cert.FgatesIdeal.nD,
          r.2.mem ((c.tc : Thread Cert.FgatesIdeal.nD Cert.FgatesIdeal.τ).loc Cert.FgatesIdeal.main_v7_0) = v0 c
          ∧ r.2.mem ((c.tc : Thread Cert.FgatesIdeal.nD Cert.FgatesIdeal.τ).loc Cert.FgatesIdeal.main_v7_1) = v1 c
          ∧ r.2.mem ((c.tc : Thread Cert.FgatesIdeal.nD Cert.FgatesIdeal.τ).loc Cert.FgatesIdeal.main_arg0) = m ((c.tc : Thread Cert.FgatesIdeal.nD Cert.FgatesIdeal.τ).loc Cert.FgatesIdeal.main_arg0)
          ∧ r.2.mem ((c.tc : Thread Cert.FgatesIdeal.nD Cert.FgatesIdeal.τ).loc Cert.FgatesIdeal.main_arg1) = m ((c.tc : Thread Cert.FgatesIdeal.nD Cert.FgatesIdeal.τ).loc Cert.FgatesIdeal.main_arg1)
          ∧ r.2.mem ((c.tc : Thread Cert.FgatesIdeal.nD Cert.FgatesIdeal.τ).loc Cert.FgatesIdeal.main_arg2) = m ((c.tc : Thread Cert.FgatesIdeal.nD Cert.FgatesIdeal.τ).loc Cert.FgatesIdeal.main_arg2)
          ∧ r.2.mem ((c.tc : Thread Cert.FgatesIdeal.nD Cert.FgatesIdeal.τ).loc Cert.FgatesIdeal.main_arg3) = m ((c.tc : Thread Cert.FgatesIdeal.nD Cert.FgatesIdeal.τ).loc Cert.FgatesIdeal.main_arg3)
          ∧ r.2.mem ((c.tc : Thread Cert.FgatesIdeal.nD Cert.FgatesIdeal.τ).loc Cert.FgatesIdeal.main_arg4) = m ((c.tc : Thread Cert.FgatesIdeal.nD Cert.FgatesIdeal.τ).loc Cert.FgatesIdeal.main_arg4)
          ∧ r.2.mem ((c.tc : Thread Cert.FgatesIdeal.nD Cert.FgatesIdeal.τ).loc Cert.FgatesIdeal.main_arg5) = m ((c.tc : Thread Cert.FgatesIdeal.nD Cert.FgatesIdeal.τ).loc Cert.FgatesIdeal.main_arg5)
          ∧ r.2.mem ((c.tc : Thread Cert.FgatesIdeal.nD Cert.FgatesIdeal.τ).loc Cert.FgatesIdeal.main_arg6) = m ((c.tc : Thread Cert.FgatesIdeal.nD Cert.FgatesIdeal.τ).loc Cert.FgatesIdeal.main_arg6)
          ∧ r.2.mem ((c.tc : Thread Cert.FgatesIdeal.nD Cert.FgatesIdeal.τ).loc Cert.FgatesIdeal.main_arg7) = m ((c.tc : Thread Cert.FgatesIdeal.nD Cert.FgatesIdeal.τ).loc Cert.FgatesIdeal.main_arg7))
      ∧ θ_run (Cert.FgatesRefIdeal.defs (F := Ideal)) (onTc (τ := Cert.FgatesRefIdeal.τ) (Cert.FgatesRefIdeal.main (F := Ideal))) ⟨m', fun _ => 0, g'⟩ (fun r => ∀ c : Dev Cert.FgatesRefIdeal.nD,
          r.2.mem ((c.tc : Thread Cert.FgatesRefIdeal.nD Cert.FgatesRefIdeal.τ).loc Cert.FgatesRefIdeal.main_v65) = v0 c
          ∧ r.2.mem ((c.tc : Thread Cert.FgatesRefIdeal.nD Cert.FgatesRefIdeal.τ).loc Cert.FgatesRefIdeal.main_v72) = v1 c
          ∧ r.2.mem ((c.tc : Thread Cert.FgatesRefIdeal.nD Cert.FgatesRefIdeal.τ).loc Cert.FgatesRefIdeal.main_arg0) = m' ((c.tc : Thread Cert.FgatesRefIdeal.nD Cert.FgatesRefIdeal.τ).loc Cert.FgatesRefIdeal.main_arg0)
          ∧ r.2.mem ((c.tc : Thread Cert.FgatesRefIdeal.nD Cert.FgatesRefIdeal.τ).loc Cert.FgatesRefIdeal.main_arg1) = m' ((c.tc : Thread Cert.FgatesRefIdeal.nD Cert.FgatesRefIdeal.τ).loc Cert.FgatesRefIdeal.main_arg1)
          ∧ r.2.mem ((c.tc : Thread Cert.FgatesRefIdeal.nD Cert.FgatesRefIdeal.τ).loc Cert.FgatesRefIdeal.main_arg2) = m' ((c.tc : Thread Cert.FgatesRefIdeal.nD Cert.FgatesRefIdeal.τ).loc Cert.FgatesRefIdeal.main_arg2)
          ∧ r.2.mem ((c.tc : Thread Cert.FgatesRefIdeal.nD Cert.FgatesRefIdeal.τ).loc Cert.FgatesRefIdeal.main_arg3) = m' ((c.tc : Thread Cert.FgatesRefIdeal.nD Cert.FgatesRefIdeal.τ).loc Cert.FgatesRefIdeal.main_arg3)
          ∧ r.2.mem ((c.tc : Thread Cert.FgatesRefIdeal.nD Cert.FgatesRefIdeal.τ).loc Cert.FgatesRefIdeal.main_arg4) = m' ((c.tc : Thread Cert.FgatesRefIdeal.nD Cert.FgatesRefIdeal.τ).loc Cert.FgatesRefIdeal.main_arg4)
          ∧ r.2.mem ((c.tc : Thread Cert.FgatesRefIdeal.nD Cert.FgatesRefIdeal.τ).loc Cert.FgatesRefIdeal.main_arg5) = m' ((c.tc : Thread Cert.FgatesRefIdeal.nD Cert.FgatesRefIdeal.τ).loc Cert.FgatesRefIdeal.main_arg5)
          ∧ r.2.mem ((c.tc : Thread Cert.FgatesRefIdeal.nD Cert.FgatesRefIdeal.τ).loc Cert.FgatesRefIdeal.main_arg6) = m' ((c.tc : Thread Cert.FgatesRefIdeal.nD Cert.FgatesRefIdeal.τ).loc Cert.FgatesRefIdeal.main_arg6)
          ∧ r.2.mem ((c.tc : Thread Cert.FgatesRefIdeal.nD Cert.FgatesRefIdeal.τ).loc Cert.FgatesRefIdeal.main_arg7) = m' ((c.tc : Thread Cert.FgatesRefIdeal.nD Cert.FgatesRefIdeal.τ).loc Cert.FgatesRefIdeal.main_arg7))

def preserves_Fmerge_FmergeIdeal : Prop :=
  True

def algebraic_FmergeIdeal_FmergeRefIdeal [hFmergeIdeal : Cert.FmergeIdeal.Facts] [hFmergeRefIdeal : Cert.FmergeRefIdeal.Facts] : Prop :=
  ∀ (m : (ℓ : Loc Cert.FmergeIdeal.nD Cert.FmergeIdeal.τ Cert.FmergeIdeal.sig) → Buf (Elt Ideal) ℓ) (g : Dev Cert.FmergeIdeal.nD → PrngReg)
    (m' : (ℓ : Loc Cert.FmergeRefIdeal.nD Cert.FmergeRefIdeal.τ Cert.FmergeRefIdeal.sig) → Buf (Elt Ideal) ℓ) (g' : Dev Cert.FmergeRefIdeal.nD → PrngReg), Pre_FmergeIdeal m →
    (∀ c : Dev Cert.FmergeIdeal.nD,
      m' ((c.tc : Thread Cert.FmergeRefIdeal.nD Cert.FmergeRefIdeal.τ).loc Cert.FmergeRefIdeal.main_arg0) = m ((c.tc : Thread Cert.FmergeIdeal.nD Cert.FmergeIdeal.τ).loc Cert.FmergeIdeal.main_arg0)
      ∧ m' ((c.tc : Thread Cert.FmergeRefIdeal.nD Cert.FmergeRefIdeal.τ).loc Cert.FmergeRefIdeal.main_arg1) = m ((c.tc : Thread Cert.FmergeIdeal.nD Cert.FmergeIdeal.τ).loc Cert.FmergeIdeal.main_arg1)
      ∧ m' ((c.tc : Thread Cert.FmergeRefIdeal.nD Cert.FmergeRefIdeal.τ).loc Cert.FmergeRefIdeal.main_arg2) = m ((c.tc : Thread Cert.FmergeIdeal.nD Cert.FmergeIdeal.τ).loc Cert.FmergeIdeal.main_arg2)
      ∧ m' ((c.tc : Thread Cert.FmergeRefIdeal.nD Cert.FmergeRefIdeal.τ).loc Cert.FmergeRefIdeal.main_arg3) = m ((c.tc : Thread Cert.FmergeIdeal.nD Cert.FmergeIdeal.τ).loc Cert.FmergeIdeal.main_arg3)
      ∧ m' ((c.tc : Thread Cert.FmergeRefIdeal.nD Cert.FmergeRefIdeal.τ).loc Cert.FmergeRefIdeal.main_arg4) = m ((c.tc : Thread Cert.FmergeIdeal.nD Cert.FmergeIdeal.τ).loc Cert.FmergeIdeal.main_arg4)
      ∧ m' ((c.tc : Thread Cert.FmergeRefIdeal.nD Cert.FmergeRefIdeal.τ).loc Cert.FmergeRefIdeal.main_arg5) = m ((c.tc : Thread Cert.FmergeIdeal.nD Cert.FmergeIdeal.τ).loc Cert.FmergeIdeal.main_arg5)
      ∧ m' ((c.tc : Thread Cert.FmergeRefIdeal.nD Cert.FmergeRefIdeal.τ).loc Cert.FmergeRefIdeal.main_arg6) = m ((c.tc : Thread Cert.FmergeIdeal.nD Cert.FmergeIdeal.τ).loc Cert.FmergeIdeal.main_arg6)
      ∧ m' ((c.tc : Thread Cert.FmergeRefIdeal.nD Cert.FmergeRefIdeal.τ).loc Cert.FmergeRefIdeal.main_arg7) = m ((c.tc : Thread Cert.FmergeIdeal.nD Cert.FmergeIdeal.τ).loc Cert.FmergeIdeal.main_arg7)
      ∧ m' ((c.tc : Thread Cert.FmergeRefIdeal.nD Cert.FmergeRefIdeal.τ).loc Cert.FmergeRefIdeal.main_arg8) = m ((c.tc : Thread Cert.FmergeIdeal.nD Cert.FmergeIdeal.τ).loc Cert.FmergeIdeal.main_arg8)) →
    ∃ (v0 : (c : Dev Cert.FmergeIdeal.nD) → Buf (Elt Ideal) ((c.tc : Thread Cert.FmergeIdeal.nD Cert.FmergeIdeal.τ).loc Cert.FmergeIdeal.main_v7_0)) (v1 : (c : Dev Cert.FmergeIdeal.nD) → Buf (Elt Ideal) ((c.tc : Thread Cert.FmergeIdeal.nD Cert.FmergeIdeal.τ).loc Cert.FmergeIdeal.main_v7_1)) (v2 : (c : Dev Cert.FmergeIdeal.nD) → Buf (Elt Ideal) ((c.tc : Thread Cert.FmergeIdeal.nD Cert.FmergeIdeal.τ).loc Cert.FmergeIdeal.main_v7_2)),
      θ_run (Cert.FmergeIdeal.defs (F := Ideal)) (onTc (τ := Cert.FmergeIdeal.τ) (Cert.FmergeIdeal.main (F := Ideal))) ⟨m, fun _ => 0, g⟩ (fun r => ∀ c : Dev Cert.FmergeIdeal.nD,
          r.2.mem ((c.tc : Thread Cert.FmergeIdeal.nD Cert.FmergeIdeal.τ).loc Cert.FmergeIdeal.main_v7_0) = v0 c
          ∧ r.2.mem ((c.tc : Thread Cert.FmergeIdeal.nD Cert.FmergeIdeal.τ).loc Cert.FmergeIdeal.main_v7_1) = v1 c
          ∧ r.2.mem ((c.tc : Thread Cert.FmergeIdeal.nD Cert.FmergeIdeal.τ).loc Cert.FmergeIdeal.main_v7_2) = v2 c
          ∧ r.2.mem ((c.tc : Thread Cert.FmergeIdeal.nD Cert.FmergeIdeal.τ).loc Cert.FmergeIdeal.main_arg0) = m ((c.tc : Thread Cert.FmergeIdeal.nD Cert.FmergeIdeal.τ).loc Cert.FmergeIdeal.main_arg0)
          ∧ r.2.mem ((c.tc : Thread Cert.FmergeIdeal.nD Cert.FmergeIdeal.τ).loc Cert.FmergeIdeal.main_arg1) = m ((c.tc : Thread Cert.FmergeIdeal.nD Cert.FmergeIdeal.τ).loc Cert.FmergeIdeal.main_arg1)
          ∧ r.2.mem ((c.tc : Thread Cert.FmergeIdeal.nD Cert.FmergeIdeal.τ).loc Cert.FmergeIdeal.main_arg2) = m ((c.tc : Thread Cert.FmergeIdeal.nD Cert.FmergeIdeal.τ).loc Cert.FmergeIdeal.main_arg2)
          ∧ r.2.mem ((c.tc : Thread Cert.FmergeIdeal.nD Cert.FmergeIdeal.τ).loc Cert.FmergeIdeal.main_arg3) = m ((c.tc : Thread Cert.FmergeIdeal.nD Cert.FmergeIdeal.τ).loc Cert.FmergeIdeal.main_arg3)
          ∧ r.2.mem ((c.tc : Thread Cert.FmergeIdeal.nD Cert.FmergeIdeal.τ).loc Cert.FmergeIdeal.main_arg4) = m ((c.tc : Thread Cert.FmergeIdeal.nD Cert.FmergeIdeal.τ).loc Cert.FmergeIdeal.main_arg4)
          ∧ r.2.mem ((c.tc : Thread Cert.FmergeIdeal.nD Cert.FmergeIdeal.τ).loc Cert.FmergeIdeal.main_arg5) = m ((c.tc : Thread Cert.FmergeIdeal.nD Cert.FmergeIdeal.τ).loc Cert.FmergeIdeal.main_arg5)
          ∧ r.2.mem ((c.tc : Thread Cert.FmergeIdeal.nD Cert.FmergeIdeal.τ).loc Cert.FmergeIdeal.main_arg6) = m ((c.tc : Thread Cert.FmergeIdeal.nD Cert.FmergeIdeal.τ).loc Cert.FmergeIdeal.main_arg6)
          ∧ r.2.mem ((c.tc : Thread Cert.FmergeIdeal.nD Cert.FmergeIdeal.τ).loc Cert.FmergeIdeal.main_arg7) = m ((c.tc : Thread Cert.FmergeIdeal.nD Cert.FmergeIdeal.τ).loc Cert.FmergeIdeal.main_arg7)
          ∧ r.2.mem ((c.tc : Thread Cert.FmergeIdeal.nD Cert.FmergeIdeal.τ).loc Cert.FmergeIdeal.main_arg8) = m ((c.tc : Thread Cert.FmergeIdeal.nD Cert.FmergeIdeal.τ).loc Cert.FmergeIdeal.main_arg8))
      ∧ θ_run (Cert.FmergeRefIdeal.defs (F := Ideal)) (onTc (τ := Cert.FmergeRefIdeal.τ) (Cert.FmergeRefIdeal.main (F := Ideal))) ⟨m', fun _ => 0, g'⟩ (fun r => ∀ c : Dev Cert.FmergeRefIdeal.nD,
          r.2.mem ((c.tc : Thread Cert.FmergeRefIdeal.nD Cert.FmergeRefIdeal.τ).loc Cert.FmergeRefIdeal.main_v32) = v0 c
          ∧ r.2.mem ((c.tc : Thread Cert.FmergeRefIdeal.nD Cert.FmergeRefIdeal.τ).loc Cert.FmergeRefIdeal.main_v33) = v1 c
          ∧ r.2.mem ((c.tc : Thread Cert.FmergeRefIdeal.nD Cert.FmergeRefIdeal.τ).loc Cert.FmergeRefIdeal.main_v34) = v2 c
          ∧ r.2.mem ((c.tc : Thread Cert.FmergeRefIdeal.nD Cert.FmergeRefIdeal.τ).loc Cert.FmergeRefIdeal.main_arg0) = m' ((c.tc : Thread Cert.FmergeRefIdeal.nD Cert.FmergeRefIdeal.τ).loc Cert.FmergeRefIdeal.main_arg0)
          ∧ r.2.mem ((c.tc : Thread Cert.FmergeRefIdeal.nD Cert.FmergeRefIdeal.τ).loc Cert.FmergeRefIdeal.main_arg1) = m' ((c.tc : Thread Cert.FmergeRefIdeal.nD Cert.FmergeRefIdeal.τ).loc Cert.FmergeRefIdeal.main_arg1)
          ∧ r.2.mem ((c.tc : Thread Cert.FmergeRefIdeal.nD Cert.FmergeRefIdeal.τ).loc Cert.FmergeRefIdeal.main_arg2) = m' ((c.tc : Thread Cert.FmergeRefIdeal.nD Cert.FmergeRefIdeal.τ).loc Cert.FmergeRefIdeal.main_arg2)
          ∧ r.2.mem ((c.tc : Thread Cert.FmergeRefIdeal.nD Cert.FmergeRefIdeal.τ).loc Cert.FmergeRefIdeal.main_arg3) = m' ((c.tc : Thread Cert.FmergeRefIdeal.nD Cert.FmergeRefIdeal.τ).loc Cert.FmergeRefIdeal.main_arg3)
          ∧ r.2.mem ((c.tc : Thread Cert.FmergeRefIdeal.nD Cert.FmergeRefIdeal.τ).loc Cert.FmergeRefIdeal.main_arg4) = m' ((c.tc : Thread Cert.FmergeRefIdeal.nD Cert.FmergeRefIdeal.τ).loc Cert.FmergeRefIdeal.main_arg4)
          ∧ r.2.mem ((c.tc : Thread Cert.FmergeRefIdeal.nD Cert.FmergeRefIdeal.τ).loc Cert.FmergeRefIdeal.main_arg5) = m' ((c.tc : Thread Cert.FmergeRefIdeal.nD Cert.FmergeRefIdeal.τ).loc Cert.FmergeRefIdeal.main_arg5)
          ∧ r.2.mem ((c.tc : Thread Cert.FmergeRefIdeal.nD Cert.FmergeRefIdeal.τ).loc Cert.FmergeRefIdeal.main_arg6) = m' ((c.tc : Thread Cert.FmergeRefIdeal.nD Cert.FmergeRefIdeal.τ).loc Cert.FmergeRefIdeal.main_arg6)
          ∧ r.2.mem ((c.tc : Thread Cert.FmergeRefIdeal.nD Cert.FmergeRefIdeal.τ).loc Cert.FmergeRefIdeal.main_arg7) = m' ((c.tc : Thread Cert.FmergeRefIdeal.nD Cert.FmergeRefIdeal.τ).loc Cert.FmergeRefIdeal.main_arg7)
          ∧ r.2.mem ((c.tc : Thread Cert.FmergeRefIdeal.nD Cert.FmergeRefIdeal.τ).loc Cert.FmergeRefIdeal.main_arg8) = m' ((c.tc : Thread Cert.FmergeRefIdeal.nD Cert.FmergeRefIdeal.τ).loc Cert.FmergeRefIdeal.main_arg8))

def preserves_Fs5post_Fs5postIdeal : Prop :=
  IdealRules.named_const.Statement Cert.Fs5postIdeal.κ "gelu_c" .f32 0x3D372713#32 ((8943 / 200000 : ℝ) : EReal)

def algebraic_Fs5postIdeal_Fs5postRefIdeal [hFs5postIdeal : Cert.Fs5postIdeal.Facts] [hFs5postRefIdeal : Cert.Fs5postRefIdeal.Facts] : Prop :=
  ∀ (m : (ℓ : Loc Cert.Fs5postIdeal.nD Cert.Fs5postIdeal.τ Cert.Fs5postIdeal.sig) → Buf (Elt Ideal) ℓ) (g : Dev Cert.Fs5postIdeal.nD → PrngReg)
    (m' : (ℓ : Loc Cert.Fs5postRefIdeal.nD Cert.Fs5postRefIdeal.τ Cert.Fs5postRefIdeal.sig) → Buf (Elt Ideal) ℓ) (g' : Dev Cert.Fs5postRefIdeal.nD → PrngReg), Pre_Fs5postIdeal m →
    (∀ c : Dev Cert.Fs5postIdeal.nD,
      m' ((c.tc : Thread Cert.Fs5postRefIdeal.nD Cert.Fs5postRefIdeal.τ).loc Cert.Fs5postRefIdeal.main_arg0) = m ((c.tc : Thread Cert.Fs5postIdeal.nD Cert.Fs5postIdeal.τ).loc Cert.Fs5postIdeal.main_arg0)
      ∧ m' ((c.tc : Thread Cert.Fs5postRefIdeal.nD Cert.Fs5postRefIdeal.τ).loc Cert.Fs5postRefIdeal.main_arg1) = m ((c.tc : Thread Cert.Fs5postIdeal.nD Cert.Fs5postIdeal.τ).loc Cert.Fs5postIdeal.main_arg1)
      ∧ m' ((c.tc : Thread Cert.Fs5postRefIdeal.nD Cert.Fs5postRefIdeal.τ).loc Cert.Fs5postRefIdeal.main_arg2) = m ((c.tc : Thread Cert.Fs5postIdeal.nD Cert.Fs5postIdeal.τ).loc Cert.Fs5postIdeal.main_arg2)
      ∧ m' ((c.tc : Thread Cert.Fs5postRefIdeal.nD Cert.Fs5postRefIdeal.τ).loc Cert.Fs5postRefIdeal.main_arg3) = m ((c.tc : Thread Cert.Fs5postIdeal.nD Cert.Fs5postIdeal.τ).loc Cert.Fs5postIdeal.main_arg3)) →
    ∃ (v0 : (c : Dev Cert.Fs5postIdeal.nD) → Buf (Elt Ideal) ((c.tc : Thread Cert.Fs5postIdeal.nD Cert.Fs5postIdeal.τ).loc Cert.Fs5postIdeal.main_v3)),
      θ_run (Cert.Fs5postIdeal.defs (F := Ideal)) (onTc (τ := Cert.Fs5postIdeal.τ) (Cert.Fs5postIdeal.main (F := Ideal))) ⟨m, fun _ => 0, g⟩ (fun r => ∀ c : Dev Cert.Fs5postIdeal.nD,
          r.2.mem ((c.tc : Thread Cert.Fs5postIdeal.nD Cert.Fs5postIdeal.τ).loc Cert.Fs5postIdeal.main_v3) = v0 c
          ∧ r.2.mem ((c.tc : Thread Cert.Fs5postIdeal.nD Cert.Fs5postIdeal.τ).loc Cert.Fs5postIdeal.main_arg0) = m ((c.tc : Thread Cert.Fs5postIdeal.nD Cert.Fs5postIdeal.τ).loc Cert.Fs5postIdeal.main_arg0)
          ∧ r.2.mem ((c.tc : Thread Cert.Fs5postIdeal.nD Cert.Fs5postIdeal.τ).loc Cert.Fs5postIdeal.main_arg1) = m ((c.tc : Thread Cert.Fs5postIdeal.nD Cert.Fs5postIdeal.τ).loc Cert.Fs5postIdeal.main_arg1)
          ∧ r.2.mem ((c.tc : Thread Cert.Fs5postIdeal.nD Cert.Fs5postIdeal.τ).loc Cert.Fs5postIdeal.main_arg2) = m ((c.tc : Thread Cert.Fs5postIdeal.nD Cert.Fs5postIdeal.τ).loc Cert.Fs5postIdeal.main_arg2)
          ∧ r.2.mem ((c.tc : Thread Cert.Fs5postIdeal.nD Cert.Fs5postIdeal.τ).loc Cert.Fs5postIdeal.main_arg3) = m ((c.tc : Thread Cert.Fs5postIdeal.nD Cert.Fs5postIdeal.τ).loc Cert.Fs5postIdeal.main_arg3))
      ∧ θ_run (Cert.Fs5postRefIdeal.defs (F := Ideal)) (onTc (τ := Cert.Fs5postRefIdeal.τ) (Cert.Fs5postRefIdeal.main (F := Ideal))) ⟨m', fun _ => 0, g'⟩ (fun r => ∀ c : Dev Cert.Fs5postRefIdeal.nD,
          r.2.mem ((c.tc : Thread Cert.Fs5postRefIdeal.nD Cert.Fs5postRefIdeal.τ).loc Cert.Fs5postRefIdeal.main_v28) = v0 c
          ∧ r.2.mem ((c.tc : Thread Cert.Fs5postRefIdeal.nD Cert.Fs5postRefIdeal.τ).loc Cert.Fs5postRefIdeal.main_arg0) = m' ((c.tc : Thread Cert.Fs5postRefIdeal.nD Cert.Fs5postRefIdeal.τ).loc Cert.Fs5postRefIdeal.main_arg0)
          ∧ r.2.mem ((c.tc : Thread Cert.Fs5postRefIdeal.nD Cert.Fs5postRefIdeal.τ).loc Cert.Fs5postRefIdeal.main_arg1) = m' ((c.tc : Thread Cert.Fs5postRefIdeal.nD Cert.Fs5postRefIdeal.τ).loc Cert.Fs5postRefIdeal.main_arg1)
          ∧ r.2.mem ((c.tc : Thread Cert.Fs5postRefIdeal.nD Cert.Fs5postRefIdeal.τ).loc Cert.Fs5postRefIdeal.main_arg2) = m' ((c.tc : Thread Cert.Fs5postRefIdeal.nD Cert.Fs5postRefIdeal.τ).loc Cert.Fs5postRefIdeal.main_arg2)
          ∧ r.2.mem ((c.tc : Thread Cert.Fs5postRefIdeal.nD Cert.Fs5postRefIdeal.τ).loc Cert.Fs5postRefIdeal.main_arg3) = m' ((c.tc : Thread Cert.Fs5postRefIdeal.nD Cert.Fs5postRefIdeal.τ).loc Cert.Fs5postRefIdeal.main_arg3))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)
      ∧ m' ((c.tc : Thread Cert.FinRefIdeal.nD Cert.FinRefIdeal.τ).loc Cert.FinRefIdeal.main_arg2) = m ((c.tc : Thread Cert.FinIdeal.nD Cert.FinIdeal.τ).loc Cert.FinIdeal.main_arg2)) →
    ∃ (v0 : (c : Dev Cert.FinIdeal.nD) → Buf (Elt Ideal) ((c.tc : Thread Cert.FinIdeal.nD Cert.FinIdeal.τ).loc Cert.FinIdeal.main_v4_0)) (v1 : (c : Dev Cert.FinIdeal.nD) → Buf (Elt Ideal) ((c.tc : Thread Cert.FinIdeal.nD Cert.FinIdeal.τ).loc Cert.FinIdeal.main_v4_1)) (v2 : (c : Dev Cert.FinIdeal.nD) → Buf (Elt Ideal) ((c.tc : Thread Cert.FinIdeal.nD Cert.FinIdeal.τ).loc Cert.FinIdeal.main_v4_2)) (v3 : (c : Dev Cert.FinIdeal.nD) → Buf (Elt Ideal) ((c.tc : Thread Cert.FinIdeal.nD Cert.FinIdeal.τ).loc Cert.FinIdeal.main_v4_3)) (v4 : (c : Dev Cert.FinIdeal.nD) → Buf (Elt Ideal) ((c.tc : Thread Cert.FinIdeal.nD Cert.FinIdeal.τ).loc Cert.FinIdeal.main_v4_4)) (v5 : (c : Dev Cert.FinIdeal.nD) → Buf (Elt Ideal) ((c.tc : Thread Cert.FinIdeal.nD Cert.FinIdeal.τ).loc Cert.FinIdeal.main_v4_5)) (v6 : (c : Dev Cert.FinIdeal.nD) → Buf (Elt Ideal) ((c.tc : Thread Cert.FinIdeal.nD Cert.FinIdeal.τ).loc Cert.FinIdeal.main_v4_6)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v4_0) = v0 c
          ∧ r.2.mem ((c.tc : Thread Cert.FinIdeal.nD Cert.FinIdeal.τ).loc Cert.FinIdeal.main_v4_1) = v1 c
          ∧ r.2.mem ((c.tc : Thread Cert.FinIdeal.nD Cert.FinIdeal.τ).loc Cert.FinIdeal.main_v4_2) = v2 c
          ∧ r.2.mem ((c.tc : Thread Cert.FinIdeal.nD Cert.FinIdeal.τ).loc Cert.FinIdeal.main_v4_3) = v3 c
          ∧ r.2.mem ((c.tc : Thread Cert.FinIdeal.nD Cert.FinIdeal.τ).loc Cert.FinIdeal.main_v4_4) = v4 c
          ∧ r.2.mem ((c.tc : Thread Cert.FinIdeal.nD Cert.FinIdeal.τ).loc Cert.FinIdeal.main_v4_5) = v5 c
          ∧ r.2.mem ((c.tc : Thread Cert.FinIdeal.nD Cert.FinIdeal.τ).loc Cert.FinIdeal.main_v4_6) = v6 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
          ∧ r.2.mem ((c.tc : Thread Cert.FinIdeal.nD Cert.FinIdeal.τ).loc Cert.FinIdeal.main_arg2) = m ((c.tc : Thread Cert.FinIdeal.nD Cert.FinIdeal.τ).loc Cert.FinIdeal.main_arg2))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v20) = v0 c
          ∧ r.2.mem ((c.tc : Thread Cert.FinRefIdeal.nD Cert.FinRefIdeal.τ).loc Cert.FinRefIdeal.main_v21) = v1 c
          ∧ r.2.mem ((c.tc : Thread Cert.FinRefIdeal.nD Cert.FinRefIdeal.τ).loc Cert.FinRefIdeal.main_v22) = v2 c
          ∧ r.2.mem ((c.tc : Thread Cert.FinRefIdeal.nD Cert.FinRefIdeal.τ).loc Cert.FinRefIdeal.main_v23) = v3 c
          ∧ r.2.mem ((c.tc : Thread Cert.FinRefIdeal.nD Cert.FinRefIdeal.τ).loc Cert.FinRefIdeal.main_v24) = v4 c
          ∧ r.2.mem ((c.tc : Thread Cert.FinRefIdeal.nD Cert.FinRefIdeal.τ).loc Cert.FinRefIdeal.main_v25) = v5 c
          ∧ r.2.mem ((c.tc : Thread Cert.FinRefIdeal.nD Cert.FinRefIdeal.τ).loc Cert.FinRefIdeal.main_v26) = v6 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1)
          ∧ r.2.mem ((c.tc : Thread Cert.FinRefIdeal.nD Cert.FinRefIdeal.τ).loc Cert.FinRefIdeal.main_arg2) = m' ((c.tc : Thread Cert.FinRefIdeal.nD Cert.FinRefIdeal.τ).loc Cert.FinRefIdeal.main_arg2))

def preserves_Fple_FpleIdeal : Prop :=
  True

def algebraic_FpleIdeal_FpleRefIdeal [hFpleIdeal : Cert.FpleIdeal.Facts] [hFpleRefIdeal : Cert.FpleRefIdeal.Facts] : Prop :=
  ∀ (m : (ℓ : Loc Cert.FpleIdeal.nD Cert.FpleIdeal.τ Cert.FpleIdeal.sig) → Buf (Elt Ideal) ℓ) (g : Dev Cert.FpleIdeal.nD → PrngReg)
    (m' : (ℓ : Loc Cert.FpleRefIdeal.nD Cert.FpleRefIdeal.τ Cert.FpleRefIdeal.sig) → Buf (Elt Ideal) ℓ) (g' : Dev Cert.FpleRefIdeal.nD → PrngReg), Pre_FpleIdeal m →
    (∀ c : Dev Cert.FpleIdeal.nD,
      m' ((c.tc : Thread Cert.FpleRefIdeal.nD Cert.FpleRefIdeal.τ).loc Cert.FpleRefIdeal.main_arg0) = m ((c.tc : Thread Cert.FpleIdeal.nD Cert.FpleIdeal.τ).loc Cert.FpleIdeal.main_arg0)
      ∧ m' ((c.tc : Thread Cert.FpleRefIdeal.nD Cert.FpleRefIdeal.τ).loc Cert.FpleRefIdeal.main_arg1) = m ((c.tc : Thread Cert.FpleIdeal.nD Cert.FpleIdeal.τ).loc Cert.FpleIdeal.main_arg1)
      ∧ m' ((c.tc : Thread Cert.FpleRefIdeal.nD Cert.FpleRefIdeal.τ).loc Cert.FpleRefIdeal.main_arg2) = m ((c.tc : Thread Cert.FpleIdeal.nD Cert.FpleIdeal.τ).loc Cert.FpleIdeal.main_arg2)
      ∧ m' ((c.tc : Thread Cert.FpleRefIdeal.nD Cert.FpleRefIdeal.τ).loc Cert.FpleRefIdeal.main_arg3) = m ((c.tc : Thread Cert.FpleIdeal.nD Cert.FpleIdeal.τ).loc Cert.FpleIdeal.main_arg3)) →
    ∃ (v0 : (c : Dev Cert.FpleIdeal.nD) → Buf (Elt Ideal) ((c.tc : Thread Cert.FpleIdeal.nD Cert.FpleIdeal.τ).loc Cert.FpleIdeal.main_v2)),
      θ_run (Cert.FpleIdeal.defs (F := Ideal)) (onTc (τ := Cert.FpleIdeal.τ) (Cert.FpleIdeal.main (F := Ideal))) ⟨m, fun _ => 0, g⟩ (fun r => ∀ c : Dev Cert.FpleIdeal.nD,
          r.2.mem ((c.tc : Thread Cert.FpleIdeal.nD Cert.FpleIdeal.τ).loc Cert.FpleIdeal.main_v2) = v0 c
          ∧ r.2.mem ((c.tc : Thread Cert.FpleIdeal.nD Cert.FpleIdeal.τ).loc Cert.FpleIdeal.main_arg0) = m ((c.tc : Thread Cert.FpleIdeal.nD Cert.FpleIdeal.τ).loc Cert.FpleIdeal.main_arg0)
          ∧ r.2.mem ((c.tc : Thread Cert.FpleIdeal.nD Cert.FpleIdeal.τ).loc Cert.FpleIdeal.main_arg1) = m ((c.tc : Thread Cert.FpleIdeal.nD Cert.FpleIdeal.τ).loc Cert.FpleIdeal.main_arg1)
          ∧ r.2.mem ((c.tc : Thread Cert.FpleIdeal.nD Cert.FpleIdeal.τ).loc Cert.FpleIdeal.main_arg2) = m ((c.tc : Thread Cert.FpleIdeal.nD Cert.FpleIdeal.τ).loc Cert.FpleIdeal.main_arg2)
          ∧ r.2.mem ((c.tc : Thread Cert.FpleIdeal.nD Cert.FpleIdeal.τ).loc Cert.FpleIdeal.main_arg3) = m ((c.tc : Thread Cert.FpleIdeal.nD Cert.FpleIdeal.τ).loc Cert.FpleIdeal.main_arg3))
      ∧ θ_run (Cert.FpleRefIdeal.defs (F := Ideal)) (onTc (τ := Cert.FpleRefIdeal.τ) (Cert.FpleRefIdeal.main (F := Ideal))) ⟨m', fun _ => 0, g'⟩ (fun r => ∀ c : Dev Cert.FpleRefIdeal.nD,
          r.2.mem ((c.tc : Thread Cert.FpleRefIdeal.nD Cert.FpleRefIdeal.τ).loc Cert.FpleRefIdeal.main_v9) = v0 c
          ∧ r.2.mem ((c.tc : Thread Cert.FpleRefIdeal.nD Cert.FpleRefIdeal.τ).loc Cert.FpleRefIdeal.main_arg0) = m' ((c.tc : Thread Cert.FpleRefIdeal.nD Cert.FpleRefIdeal.τ).loc Cert.FpleRefIdeal.main_arg0)
          ∧ r.2.mem ((c.tc : Thread Cert.FpleRefIdeal.nD Cert.FpleRefIdeal.τ).loc Cert.FpleRefIdeal.main_arg1) = m' ((c.tc : Thread Cert.FpleRefIdeal.nD Cert.FpleRefIdeal.τ).loc Cert.FpleRefIdeal.main_arg1)
          ∧ r.2.mem ((c.tc : Thread Cert.FpleRefIdeal.nD Cert.FpleRefIdeal.τ).loc Cert.FpleRefIdeal.main_arg2) = m' ((c.tc : Thread Cert.FpleRefIdeal.nD Cert.FpleRefIdeal.τ).loc Cert.FpleRefIdeal.main_arg2)
          ∧ r.2.mem ((c.tc : Thread Cert.FpleRefIdeal.nD Cert.FpleRefIdeal.τ).loc Cert.FpleRefIdeal.main_arg3) = m' ((c.tc : Thread Cert.FpleRefIdeal.nD Cert.FpleRefIdeal.τ).loc Cert.FpleRefIdeal.main_arg3))

def preserves_Fprep_FprepIdeal : Prop :=
  True

def algebraic_FprepIdeal_FprepRefIdeal [hFprepIdeal : Cert.FprepIdeal.Facts] [hFprepRefIdeal : Cert.FprepRefIdeal.Facts] : Prop :=
  ∀ (m : (ℓ : Loc Cert.FprepIdeal.nD Cert.FprepIdeal.τ Cert.FprepIdeal.sig) → Buf (Elt Ideal) ℓ) (g : Dev Cert.FprepIdeal.nD → PrngReg)
    (m' : (ℓ : Loc Cert.FprepRefIdeal.nD Cert.FprepRefIdeal.τ Cert.FprepRefIdeal.sig) → Buf (Elt Ideal) ℓ) (g' : Dev Cert.FprepRefIdeal.nD → PrngReg), Pre_FprepIdeal m →
    (∀ c : Dev Cert.FprepIdeal.nD,
      m' ((c.tc : Thread Cert.FprepRefIdeal.nD Cert.FprepRefIdeal.τ).loc Cert.FprepRefIdeal.main_arg0) = m ((c.tc : Thread Cert.FprepIdeal.nD Cert.FprepIdeal.τ).loc Cert.FprepIdeal.main_arg0)
      ∧ m' ((c.tc : Thread Cert.FprepRefIdeal.nD Cert.FprepRefIdeal.τ).loc Cert.FprepRefIdeal.main_arg1) = m ((c.tc : Thread Cert.FprepIdeal.nD Cert.FprepIdeal.τ).loc Cert.FprepIdeal.main_arg1)
      ∧ m' ((c.tc : Thread Cert.FprepRefIdeal.nD Cert.FprepRefIdeal.τ).loc Cert.FprepRefIdeal.main_arg2) = m ((c.tc : Thread Cert.FprepIdeal.nD Cert.FprepIdeal.τ).loc Cert.FprepIdeal.main_arg2)
      ∧ m' ((c.tc : Thread Cert.FprepRefIdeal.nD Cert.FprepRefIdeal.τ).loc Cert.FprepRefIdeal.main_arg3) = m ((c.tc : Thread Cert.FprepIdeal.nD Cert.FprepIdeal.τ).loc Cert.FprepIdeal.main_arg3)
      ∧ m' ((c.tc : Thread Cert.FprepRefIdeal.nD Cert.FprepRefIdeal.τ).loc Cert.FprepRefIdeal.main_arg4) = m ((c.tc : Thread Cert.FprepIdeal.nD Cert.FprepIdeal.τ).loc Cert.FprepIdeal.main_arg4)) →
    ∃ (v0 : (c : Dev Cert.FprepIdeal.nD) → Buf (Elt Ideal) ((c.tc : Thread Cert.FprepIdeal.nD Cert.FprepIdeal.τ).loc Cert.FprepIdeal.main_v18)) (v1 : (c : Dev Cert.FprepIdeal.nD) → Buf (Elt Ideal) ((c.tc : Thread Cert.FprepIdeal.nD Cert.FprepIdeal.τ).loc Cert.FprepIdeal.main_v21)) (v2 : (c : Dev Cert.FprepIdeal.nD) → Buf (Elt Ideal) ((c.tc : Thread Cert.FprepIdeal.nD Cert.FprepIdeal.τ).loc Cert.FprepIdeal.main_v22)) (v3 : (c : Dev Cert.FprepIdeal.nD) → Buf (Elt Ideal) ((c.tc : Thread Cert.FprepIdeal.nD Cert.FprepIdeal.τ).loc Cert.FprepIdeal.main_v23)),
      θ_run (Cert.FprepIdeal.defs (F := Ideal)) (onTc (τ := Cert.FprepIdeal.τ) (Cert.FprepIdeal.main (F := Ideal))) ⟨m, fun _ => 0, g⟩ (fun r => ∀ c : Dev Cert.FprepIdeal.nD,
          r.2.mem ((c.tc : Thread Cert.FprepIdeal.nD Cert.FprepIdeal.τ).loc Cert.FprepIdeal.main_v18) = v0 c
          ∧ r.2.mem ((c.tc : Thread Cert.FprepIdeal.nD Cert.FprepIdeal.τ).loc Cert.FprepIdeal.main_v21) = v1 c
          ∧ r.2.mem ((c.tc : Thread Cert.FprepIdeal.nD Cert.FprepIdeal.τ).loc Cert.FprepIdeal.main_v22) = v2 c
          ∧ r.2.mem ((c.tc : Thread Cert.FprepIdeal.nD Cert.FprepIdeal.τ).loc Cert.FprepIdeal.main_v23) = v3 c
          ∧ r.2.mem ((c.tc : Thread Cert.FprepIdeal.nD Cert.FprepIdeal.τ).loc Cert.FprepIdeal.main_arg0) = m ((c.tc : Thread Cert.FprepIdeal.nD Cert.FprepIdeal.τ).loc Cert.FprepIdeal.main_arg0)
          ∧ r.2.mem ((c.tc : Thread Cert.FprepIdeal.nD Cert.FprepIdeal.τ).loc Cert.FprepIdeal.main_arg1) = m ((c.tc : Thread Cert.FprepIdeal.nD Cert.FprepIdeal.τ).loc Cert.FprepIdeal.main_arg1)
          ∧ r.2.mem ((c.tc : Thread Cert.FprepIdeal.nD Cert.FprepIdeal.τ).loc Cert.FprepIdeal.main_arg2) = m ((c.tc : Thread Cert.FprepIdeal.nD Cert.FprepIdeal.τ).loc Cert.FprepIdeal.main_arg2)
          ∧ r.2.mem ((c.tc : Thread Cert.FprepIdeal.nD Cert.FprepIdeal.τ).loc Cert.FprepIdeal.main_arg3) = m ((c.tc : Thread Cert.FprepIdeal.nD Cert.FprepIdeal.τ).loc Cert.FprepIdeal.main_arg3)
          ∧ r.2.mem ((c.tc : Thread Cert.FprepIdeal.nD Cert.FprepIdeal.τ).loc Cert.FprepIdeal.main_arg4) = m ((c.tc : Thread Cert.FprepIdeal.nD Cert.FprepIdeal.τ).loc Cert.FprepIdeal.main_arg4))
      ∧ θ_run (Cert.FprepRefIdeal.defs (F := Ideal)) (onTc (τ := Cert.FprepRefIdeal.τ) (Cert.FprepRefIdeal.main (F := Ideal))) ⟨m', fun _ => 0, g'⟩ (fun r => ∀ c : Dev Cert.FprepRefIdeal.nD,
          r.2.mem ((c.tc : Thread Cert.FprepRefIdeal.nD Cert.FprepRefIdeal.τ).loc Cert.FprepRefIdeal.main_v8) = v0 c
          ∧ r.2.mem ((c.tc : Thread Cert.FprepRefIdeal.nD Cert.FprepRefIdeal.τ).loc Cert.FprepRefIdeal.main_v12) = v1 c
          ∧ r.2.mem ((c.tc : Thread Cert.FprepRefIdeal.nD Cert.FprepRefIdeal.τ).loc Cert.FprepRefIdeal.main_v42) = v2 c
          ∧ r.2.mem ((c.tc : Thread Cert.FprepRefIdeal.nD Cert.FprepRefIdeal.τ).loc Cert.FprepRefIdeal.main_v43) = v3 c
          ∧ r.2.mem ((c.tc : Thread Cert.FprepRefIdeal.nD Cert.FprepRefIdeal.τ).loc Cert.FprepRefIdeal.main_arg0) = m' ((c.tc : Thread Cert.FprepRefIdeal.nD Cert.FprepRefIdeal.τ).loc Cert.FprepRefIdeal.main_arg0)
          ∧ r.2.mem ((c.tc : Thread Cert.FprepRefIdeal.nD Cert.FprepRefIdeal.τ).loc Cert.FprepRefIdeal.main_arg1) = m' ((c.tc : Thread Cert.FprepRefIdeal.nD Cert.FprepRefIdeal.τ).loc Cert.FprepRefIdeal.main_arg1)
          ∧ r.2.mem ((c.tc : Thread Cert.FprepRefIdeal.nD Cert.FprepRefIdeal.τ).loc Cert.FprepRefIdeal.main_arg2) = m' ((c.tc : Thread Cert.FprepRefIdeal.nD Cert.FprepRefIdeal.τ).loc Cert.FprepRefIdeal.main_arg2)
          ∧ r.2.mem ((c.tc : Thread Cert.FprepRefIdeal.nD Cert.FprepRefIdeal.τ).loc Cert.FprepRefIdeal.main_arg3) = m' ((c.tc : Thread Cert.FprepRefIdeal.nD Cert.FprepRefIdeal.τ).loc Cert.FprepRefIdeal.main_arg3)
          ∧ r.2.mem ((c.tc : Thread Cert.FprepRefIdeal.nD Cert.FprepRefIdeal.τ).loc Cert.FprepRefIdeal.main_arg4) = m' ((c.tc : Thread Cert.FprepRefIdeal.nD Cert.FprepRefIdeal.τ).loc Cert.FprepRefIdeal.main_arg4))

def Claim : Prop :=
  ∃ (hPle : Cert.Ple.Facts) (hPleIdeal : Cert.PleIdeal.Facts) (hPleRefIdeal : Cert.PleRefIdeal.Facts) (hLoss : Cert.Loss.Facts) (hLossIdeal : Cert.LossIdeal.Facts) (hLossRefIdeal : Cert.LossRefIdeal.Facts) (hBl : Cert.Bl.Facts) (hBlIdeal : Cert.BlIdeal.Facts) (hBlRefIdeal : Cert.BlRefIdeal.Facts) (hConv : Cert.Conv.Facts) (hConvIdeal : Cert.ConvIdeal.Facts) (hConvRefIdeal : Cert.ConvRefIdeal.Facts) (hS5post : Cert.S5post.Facts) (hS5postIdeal : Cert.S5postIdeal.Facts) (hS5postRefIdeal : Cert.S5postRefIdeal.Facts) (hMerge : Cert.Merge.Facts) (hMergeIdeal : Cert.MergeIdeal.Facts) (hMergeRefIdeal : Cert.MergeRefIdeal.Facts) (hIn : Cert.In.Facts) (hInIdeal : Cert.InIdeal.Facts) (hInRefIdeal : Cert.InRefIdeal.Facts) (hGates : Cert.Gates.Facts) (hGatesIdeal : Cert.GatesIdeal.Facts) (hGatesRefIdeal : Cert.GatesRefIdeal.Facts) (hPrep : Cert.Prep.Facts) (hPrepIdeal : Cert.PrepIdeal.Facts) (hPrepRefIdeal : Cert.PrepRefIdeal.Facts) (hScanb : Cert.Scanb.Facts) (hScanbIdeal : Cert.ScanbIdeal.Facts) (hScanbRefIdeal : Cert.ScanbRefIdeal.Facts) (hFgates : Cert.Fgates.Facts) (hFgatesIdeal : Cert.FgatesIdeal.Facts) (hFgatesRefIdeal : Cert.FgatesRefIdeal.Facts) (hFmerge : Cert.Fmerge.Facts) (hFmergeIdeal : Cert.FmergeIdeal.Facts) (hFmergeRefIdeal : Cert.FmergeRefIdeal.Facts) (hFs5post : Cert.Fs5post.Facts) (hFs5postIdeal : Cert.Fs5postIdeal.Facts) (hFs5postRefIdeal : Cert.Fs5postRefIdeal.Facts) (hFin : Cert.Fin.Facts) (hFinIdeal : Cert.FinIdeal.Facts) (hFinRefIdeal : Cert.FinRefIdeal.Facts) (hFple : Cert.Fple.Facts) (hFpleIdeal : Cert.FpleIdeal.Facts) (hFpleRefIdeal : Cert.FpleRefIdeal.Facts) (hFprep : Cert.Fprep.Facts) (hFprepIdeal : Cert.FprepIdeal.Facts) (hFprepRefIdeal : Cert.FprepRefIdeal.Facts) (hPre_finite_bl : Cert.Pre_finite_bl.Facts) (hPre_finite_s5post : Cert.Pre_finite_s5post.Facts) (hPre_decaying : Cert.Pre_decaying.Facts) (hPre_invertible : Cert.Pre_invertible.Facts) (hPre_finite_scanb : Cert.Pre_finite_scanb.Facts) (hPre_decaying_forward : Cert.Pre_decaying_forward.Facts),
    quiescent_Ple (hPle := hPle)
    ∧ quiescent_PleIdeal (hPleIdeal := hPleIdeal)
    ∧ quiescent_PleRefIdeal (hPleRefIdeal := hPleRefIdeal)
    ∧ quiescent_Loss (hLoss := hLoss)
    ∧ quiescent_LossIdeal (hLossIdeal := hLossIdeal)
    ∧ quiescent_LossRefIdeal (hLossRefIdeal := hLossRefIdeal)
    ∧ quiescent_Bl (hBl := hBl)
    ∧ quiescent_BlIdeal (hBlIdeal := hBlIdeal)
    ∧ quiescent_BlIdeal_pre_finite_bl (hBlIdeal := hBlIdeal) (hPre_finite_bl := hPre_finite_bl)
    ∧ quiescent_BlRefIdeal (hBlRefIdeal := hBlRefIdeal)
    ∧ quiescent_BlRefIdeal_pre_finite_bl (hBlRefIdeal := hBlRefIdeal) (hPre_finite_bl := hPre_finite_bl)
    ∧ quiescent_Conv (hConv := hConv)
    ∧ quiescent_ConvIdeal (hConvIdeal := hConvIdeal)
    ∧ quiescent_ConvRefIdeal (hConvRefIdeal := hConvRefIdeal)
    ∧ quiescent_S5post (hS5post := hS5post)
    ∧ quiescent_S5postIdeal (hS5postIdeal := hS5postIdeal)
    ∧ quiescent_S5postIdeal_pre_finite_s5post (hS5postIdeal := hS5postIdeal) (hPre_finite_s5post := hPre_finite_s5post)
    ∧ quiescent_S5postRefIdeal (hS5postRefIdeal := hS5postRefIdeal)
    ∧ quiescent_S5postRefIdeal_pre_finite_s5post (hS5postRefIdeal := hS5postRefIdeal) (hPre_finite_s5post := hPre_finite_s5post)
    ∧ quiescent_Merge (hMerge := hMerge)
    ∧ quiescent_MergeIdeal (hMergeIdeal := hMergeIdeal)
    ∧ quiescent_MergeRefIdeal (hMergeRefIdeal := hMergeRefIdeal)
    ∧ quiescent_In (hIn := hIn)
    ∧ quiescent_InIdeal (hInIdeal := hInIdeal)
    ∧ quiescent_InRefIdeal (hInRefIdeal := hInRefIdeal)
    ∧ quiescent_Gates (hGates := hGates)
    ∧ quiescent_GatesIdeal (hGatesIdeal := hGatesIdeal)
    ∧ quiescent_GatesIdeal_pre_decaying (hGatesIdeal := hGatesIdeal) (hPre_decaying := hPre_decaying)
    ∧ quiescent_GatesRefIdeal (hGatesRefIdeal := hGatesRefIdeal)
    ∧ quiescent_GatesRefIdeal_pre_decaying (hGatesRefIdeal := hGatesRefIdeal) (hPre_decaying := hPre_decaying)
    ∧ quiescent_Prep (hPrep := hPrep)
    ∧ quiescent_PrepIdeal (hPrepIdeal := hPrepIdeal)
    ∧ quiescent_PrepIdeal_pre_invertible (hPrepIdeal := hPrepIdeal) (hPre_invertible := hPre_invertible)
    ∧ quiescent_PrepRefIdeal (hPrepRefIdeal := hPrepRefIdeal)
    ∧ quiescent_PrepRefIdeal_pre_invertible (hPrepRefIdeal := hPrepRefIdeal) (hPre_invertible := hPre_invertible)
    ∧ quiescent_Scanb (hScanb := hScanb)
    ∧ quiescent_ScanbIdeal (hScanbIdeal := hScanbIdeal)
    ∧ quiescent_ScanbIdeal_pre_finite_scanb (hScanbIdeal := hScanbIdeal) (hPre_finite_scanb := hPre_finite_scanb)
    ∧ quiescent_ScanbRefIdeal (hScanbRefIdeal := hScanbRefIdeal)
    ∧ quiescent_ScanbRefIdeal_pre_finite_scanb (hScanbRefIdeal := hScanbRefIdeal) (hPre_finite_scanb := hPre_finite_scanb)
    ∧ quiescent_Fgates (hFgates := hFgates)
    ∧ quiescent_FgatesIdeal (hFgatesIdeal := hFgatesIdeal)
    ∧ quiescent_FgatesIdeal_pre_decaying_forward (hFgatesIdeal := hFgatesIdeal) (hPre_decaying_forward := hPre_decaying_forward)
    ∧ quiescent_FgatesRefIdeal (hFgatesRefIdeal := hFgatesRefIdeal)
    ∧ quiescent_FgatesRefIdeal_pre_decaying_forward (hFgatesRefIdeal := hFgatesRefIdeal) (hPre_decaying_forward := hPre_decaying_forward)
    ∧ quiescent_Fmerge (hFmerge := hFmerge)
    ∧ quiescent_FmergeIdeal (hFmergeIdeal := hFmergeIdeal)
    ∧ quiescent_FmergeRefIdeal (hFmergeRefIdeal := hFmergeRefIdeal)
    ∧ quiescent_Fs5post (hFs5post := hFs5post)
    ∧ quiescent_Fs5postIdeal (hFs5postIdeal := hFs5postIdeal)
    ∧ quiescent_Fs5postRefIdeal (hFs5postRefIdeal := hFs5postRefIdeal)
    ∧ quiescent_Fin (hFin := hFin)
    ∧ quiescent_FinIdeal (hFinIdeal := hFinIdeal)
    ∧ quiescent_FinRefIdeal (hFinRefIdeal := hFinRefIdeal)
    ∧ quiescent_Fple (hFple := hFple)
    ∧ quiescent_FpleIdeal (hFpleIdeal := hFpleIdeal)
    ∧ quiescent_FpleRefIdeal (hFpleRefIdeal := hFpleRefIdeal)
    ∧ quiescent_Fprep (hFprep := hFprep)
    ∧ quiescent_FprepIdeal (hFprepIdeal := hFprepIdeal)
    ∧ quiescent_FprepRefIdeal (hFprepRefIdeal := hFprepRefIdeal)
    ∧ preserves_Ple_PleIdeal
    ∧ algebraic_PleIdeal_PleRefIdeal (hPleIdeal := hPleIdeal) (hPleRefIdeal := hPleRefIdeal)
    ∧ preserves_Loss_LossIdeal
    ∧ algebraic_LossIdeal_LossRefIdeal (hLossIdeal := hLossIdeal) (hLossRefIdeal := hLossRefIdeal)
    ∧ preserves_Bl_BlIdeal
    ∧ algebraic_BlIdeal_BlRefIdeal_pre_finite_bl (hBlIdeal := hBlIdeal) (hBlRefIdeal := hBlRefIdeal) (hPre_finite_bl := hPre_finite_bl)
    ∧ preserves_Conv_ConvIdeal
    ∧ algebraic_ConvIdeal_ConvRefIdeal (hConvIdeal := hConvIdeal) (hConvRefIdeal := hConvRefIdeal)
    ∧ preserves_S5post_S5postIdeal
    ∧ algebraic_S5postIdeal_S5postRefIdeal_pre_finite_s5post (hS5postIdeal := hS5postIdeal) (hS5postRefIdeal := hS5postRefIdeal) (hPre_finite_s5post := hPre_finite_s5post)
    ∧ preserves_Merge_MergeIdeal
    ∧ algebraic_MergeIdeal_MergeRefIdeal (hMergeIdeal := hMergeIdeal) (hMergeRefIdeal := hMergeRefIdeal)
    ∧ preserves_In_InIdeal
    ∧ algebraic_InIdeal_InRefIdeal (hInIdeal := hInIdeal) (hInRefIdeal := hInRefIdeal)
    ∧ preserves_Gates_GatesIdeal
    ∧ algebraic_GatesIdeal_GatesRefIdeal_pre_decaying (hGatesIdeal := hGatesIdeal) (hGatesRefIdeal := hGatesRefIdeal) (hPre_decaying := hPre_decaying)
    ∧ preserves_Prep_PrepIdeal
    ∧ algebraic_PrepIdeal_PrepRefIdeal_pre_invertible (hPrepIdeal := hPrepIdeal) (hPrepRefIdeal := hPrepRefIdeal) (hPre_invertible := hPre_invertible)
    ∧ preserves_Scanb_ScanbIdeal
    ∧ algebraic_ScanbIdeal_ScanbRefIdeal_pre_finite_scanb (hScanbIdeal := hScanbIdeal) (hScanbRefIdeal := hScanbRefIdeal) (hPre_finite_scanb := hPre_finite_scanb)
    ∧ preserves_Fgates_FgatesIdeal
    ∧ algebraic_FgatesIdeal_FgatesRefIdeal_pre_decaying_forward (hFgatesIdeal := hFgatesIdeal) (hFgatesRefIdeal := hFgatesRefIdeal) (hPre_decaying_forward := hPre_decaying_forward)
    ∧ preserves_Fmerge_FmergeIdeal
    ∧ algebraic_FmergeIdeal_FmergeRefIdeal (hFmergeIdeal := hFmergeIdeal) (hFmergeRefIdeal := hFmergeRefIdeal)
    ∧ preserves_Fs5post_Fs5postIdeal
    ∧ algebraic_Fs5postIdeal_Fs5postRefIdeal (hFs5postIdeal := hFs5postIdeal) (hFs5postRefIdeal := hFs5postRefIdeal)
    ∧ preserves_Fin_FinIdeal
    ∧ algebraic_FinIdeal_FinRefIdeal (hFinIdeal := hFinIdeal) (hFinRefIdeal := hFinRefIdeal)
    ∧ preserves_Fple_FpleIdeal
    ∧ algebraic_FpleIdeal_FpleRefIdeal (hFpleIdeal := hFpleIdeal) (hFpleRefIdeal := hFpleRefIdeal)
    ∧ preserves_Fprep_FprepIdeal
    ∧ algebraic_FprepIdeal_FprepRefIdeal (hFprepIdeal := hFprepIdeal) (hFprepRefIdeal := hFprepRefIdeal)
-- ==== Pre_decaying.lean ====
abbrev S8192x1280 : Shape := ⟨2, ![8192, 1280]⟩
abbrev S4x1280 : Shape := ⟨2, ![4, 1280]⟩
abbrev S1280 : Shape := ⟨1, ![1280]⟩
abbrev S10x128x128 : Shape := ⟨3, ![10, 128, 128]⟩
abbrev S_ : Shape := ⟨0, ![]⟩
abbrev S3x1280 : Shape := ⟨2, ![3, 1280]⟩
abbrev S8195x1280 : Shape := ⟨2, ![8195, 1280]⟩
abbrev S1x1280 : Shape := ⟨2, ![1, 1280]⟩
abbrev S8192x10x128 : Shape := ⟨3, ![8192, 10, 128]⟩
abbrev S10x128x8192 : Shape := ⟨3, ![10, 128, 8192]⟩

class Facts : Prop where
  bcast_S_S3x1280 : S_.BroadcastsInDim S3x1280 (![] : Fin 0 → Fin S3x1280.rank)
  concatenates_S3x1280_S8192x1280_S8195x1280_d0 : Shape.Concatenates [S3x1280, S8192x1280] S8195x1280 0
  slices_S8195x1280_S8192x1280_0_0 : S8195x1280.Slices ![0, 0] S8192x1280
  slices_S4x1280_S1x1280_0_0 : S4x1280.Slices ![0, 0] S1x1280
  shapeCasts_S1x1280_S1280 : S1x1280.ShapeCasts S1280
  bcast_S1280_S1x1280_1 : S1280.BroadcastsInDim S1x1280 (![1] : Fin 1 → Fin S1x1280.rank)
  bcast_S1x1280_S8192x1280_0_1 : S1x1280.BroadcastsInDim S8192x1280 (![0, 1] : Fin 2 → Fin S8192x1280.rank)
  slices_S8195x1280_S8192x1280_1_0 : S8195x1280.Slices ![1, 0] S8192x1280
  slices_S4x1280_S1x1280_1_0 : S4x1280.Slices ![1, 0] S1x1280
  slices_S8195x1280_S8192x1280_2_0 : S8195x1280.Slices ![2, 0] S8192x1280
  slices_S4x1280_S1x1280_2_0 : S4x1280.Slices ![2, 0] S1x1280
  slices_S8195x1280_S8192x1280_3_0 : S8195x1280.Slices ![3, 0] S8192x1280
  slices_S4x1280_S1x1280_3_0 : S4x1280.Slices ![3, 0] S1x1280
  shapeCasts_S8192x1280_S8192x10x128 : S8192x1280.ShapeCasts S8192x10x128
  transposes_S10x128x8192_S8192x10x128_2_0_1 : S10x128x8192.Transposes [2, 0, 1] S8192x10x128
  shapeCasts_S8192x10x128_S8192x1280 : S8192x10x128.ShapeCasts S8192x1280
  bcast_S_S8192x1280 : S_.BroadcastsInDim S8192x1280 (![] : Fin 0 → Fin S8192x1280.rank)
  bcast_S_S1280 : S_.BroadcastsInDim S1280 (![] : Fin 0 → Fin S1280.rank)
  bcast_S_S4x1280 : S_.BroadcastsInDim S4x1280 (![] : Fin 0 → Fin S4x1280.rank)
  bcast_S_S10x128x128 : S_.BroadcastsInDim S10x128x128 (![] : Fin 0 → Fin S10x128x128.rank)
  dot_S10x128x128_S8192x10x128_S10x128x8192_1_2_2_0_0_1_wf : DotDims.WF S10x128x128 S8192x10x128 S10x128x8192 [1] [2] [2] [0] [0] [1]

variable [Facts]

def dot_S10x128x128_S8192x10x128_S10x128x8192_1_2_2_0_0_1 : DotDims S10x128x128 S8192x10x128 S10x128x8192 where
  lhsContracting := [1]
  rhsContracting := [2]
  lhsNonContracting := [2]
  rhsNonContracting := [0]
  lhsBatch := [0]
  rhsBatch := [1]
  wf := dot_S10x128x128_S8192x10x128_S10x128x8192_1_2_2_0_0_1_wf
def fn_softplus {F : FTy → Type} [FloatOps F] (arg0 : FVec F S1280 .f32) : FVec F S1280 .f32 :=
  let cst : FVec F S_ .f32 := constant S_ .f32 0x00000000#32
  let v0 : FVec F S1280 .f32 := broadcastInDim S1280 ![] bcast_S_S1280 cst
  let v1 : FVec F S1280 .f32 := maximumf arg0 v0
  let v2 : FVec F S1280 .f32 := broadcastInDim S1280 ![] bcast_S_S1280 cst
  let v3 : FVec F S1280 .f32 := subf arg0 v2
  let v4 : IVec S1280 1 := cmpf .une v3 v3
  let v5 : FVec F S1280 .f32 := broadcastInDim S1280 ![] bcast_S_S1280 cst
  let v6 : FVec F S1280 .f32 := addf arg0 v5
  let v7 : FVec F S1280 .f32 := Host.absf v3
  let v8 : FVec F S1280 .f32 := Host.negf v7
  let v9 : FVec F S1280 .f32 := Host.exp v8
  let v10 : FVec F S1280 .f32 := Host.log1p v9
  let v11 : FVec F S1280 .f32 := addf v1 v10
  let v12 : FVec F S1280 .f32 := select v4 v6 v11
  v12

def fn_part5 {F : FTy → Type} [FloatOps F] (main_arg8 : FVec F S1280 .f32) (main_arg9 : FVec F S1280 .f32) (main_v55 : IVec S8192x1280 1) (main_v60 : IVec S8192x1280 1) (main_v65 : IVec S8192x1280 1) (main_v70 : IVec S8192x1280 1) (main_v75 : IVec S4x1280 1) (main_v80 : IVec S1280 1) (main_v85 : IVec S10x128x128 1) (main_v90 : IVec S1280 1) (main_v95 : IVec S10x128x128 1) (main_v96 : FVec F S1280 .f32) : IVec S8192x1280 1 × IVec S8192x1280 1 × IVec S8192x1280 1 × IVec S8192x1280 1 × IVec S4x1280 1 × IVec S1280 1 × IVec S10x128x128 1 × IVec S1280 1 × IVec S10x128x128 1 × IVec S1280 1 × IVec S1280 1 :=
  let main_v97 : IVec S1280 1 := cmpf .olt main_arg8 main_v96
  let main_cst_22 : FVec F S_ .f32 := constant S_ .f32 0xFF800000#32
  let main_v98 : FVec F S1280 .f32 := broadcastInDim S1280 ![] bcast_S_S1280 main_cst_22
  let main_v99 : IVec S1280 1 := cmpf .ogt main_arg8 main_v98
  let main_v100 : IVec S1280 1 := andi main_v97 main_v99
  let main_cst_23 : FVec F S_ .f32 := constant S_ .f32 0x7F800000#32
  let main_v101 : FVec F S1280 .f32 := broadcastInDim S1280 ![] bcast_S_S1280 main_cst_23
  let main_v102 : IVec S1280 1 := cmpf .olt main_arg9 main_v101
  let main_cst_24 : FVec F S_ .f32 := constant S_ .f32 0xFF800000#32
  let main_v103 : FVec F S1280 .f32 := broadcastInDim S1280 ![] bcast_S_S1280 main_cst_24
  let main_v104 : IVec S1280 1 := cmpf .ogt main_arg9 main_v103
  let main_v105 : IVec S1280 1 := andi main_v102 main_v104
  (main_v55, main_v60, main_v65, main_v70, main_v75, main_v80, main_v85, main_v90, main_v95, main_v100, main_v105)

def fn_part4 {F : FTy → Type} [FloatOps F] (main_arg5 : FVec F S10x128x128 .f32) (main_arg6 : FVec F S1280 .f32) (main_arg7 : FVec F S10x128x128 .f32) (main_arg8 : FVec F S1280 .f32) (main_arg9 : FVec F S1280 .f32) (main_v55 : IVec S8192x1280 1) (main_v60 : IVec S8192x1280 1) (main_v65 : IVec S8192x1280 1) (main_v70 : IVec S8192x1280 1) (main_v75 : IVec S4x1280 1) (main_v77 : IVec S1280 1) (main_v79 : IVec S1280 1) : IVec S8192x1280 1 × IVec S8192x1280 1 × IVec S8192x1280 1 × IVec S8192x1280 1 × IVec S4x1280 1 × IVec S1280 1 × IVec S10x128x128 1 × IVec S1280 1 × IVec S10x128x128 1 × IVec S1280 1 × IVec S1280 1 :=
  let main_v80 : IVec S1280 1 := andi main_v77 main_v79
  let main_cst_15 : FVec F S_ .f32 := constant S_ .f32 0x7F800000#32
  let main_v81 : FVec F S10x128x128 .f32 := broadcastInDim S10x128x128 ![] bcast_S_S10x128x128 main_cst_15
  let main_v82 : IVec S10x128x128 1 := cmpf .olt main_arg5 main_v81
  let main_cst_16 : FVec F S_ .f32 := constant S_ .f32 0xFF800000#32
  let main_v83 : FVec F S10x128x128 .f32 := broadcastInDim S10x128x128 ![] bcast_S_S10x128x128 main_cst_16
  let main_v84 : IVec S10x128x128 1 := cmpf .ogt main_arg5 main_v83
  let main_v85 : IVec S10x128x128 1 := andi main_v82 main_v84
  let main_cst_17 : FVec F S_ .f32 := constant S_ .f32 0x7F800000#32
  let main_v86 : FVec F S1280 .f32 := broadcastInDim S1280 ![] bcast_S_S1280 main_cst_17
  let main_v87 : IVec S1280 1 := cmpf .olt main_arg6 main_v86
  let main_cst_18 : FVec F S_ .f32 := constant S_ .f32 0xFF800000#32
  let main_v88 : FVec F S1280 .f32 := broadcastInDim S1280 ![] bcast_S_S1280 main_cst_18
  let main_v89 : IVec S1280 1 := cmpf .ogt main_arg6 main_v88
  let main_v90 : IVec S1280 1 := andi main_v87 main_v89
  let main_cst_19 : FVec F S_ .f32 := constant S_ .f32 0x7F800000#32
  let main_v91 : FVec F S10x128x128 .f32 := broadcastInDim S10x128x128 ![] bcast_S_S10x128x128 main_cst_19
  let main_v92 : IVec S10x128x128 1 := cmpf .olt main_arg7 main_v91
  let main_cst_20 : FVec F S_ .f32 := constant S_ .f32 0xFF800000#32
  let main_v93 : FVec F S10x128x128 .f32 := broadcastInDim S10x128x128 ![] bcast_S_S10x128x128 main_cst_20
  let main_v94 : IVec S10x128x128 1 := cmpf .ogt main_arg7 main_v93
  let main_v95 : IVec S10x128x128 1 := andi main_v92 main_v94
  let main_cst_21 : FVec F S_ .f32 := constant S_ .f32 0x7F800000#32
  let main_v96 : FVec F S1280 .f32 := broadcastInDim S1280 ![] bcast_S_S1280 main_cst_21
  fn_part5 (F := F) main_arg8 main_arg9 main_v55 main_v60 main_v65 main_v70 main_v75 main_v80 main_v85 main_v90 main_v95 main_v96

def fn_part3 {F : FTy → Type} [FloatOps F] (main_arg1 : FVec F S8192x1280 .f32) (main_arg2 : FVec F S8192x1280 .f32) (main_arg3 : FVec F S4x1280 .f32) (main_arg4 : FVec F S1280 .f32) (main_arg5 : FVec F S10x128x128 .f32) (main_arg6 : FVec F S1280 .f32) (main_arg7 : FVec F S10x128x128 .f32) (main_arg8 : FVec F S1280 .f32) (main_arg9 : FVec F S1280 .f32) (main_v55 : IVec S8192x1280 1) (main_v60 : IVec S8192x1280 1) (main_v62 : IVec S8192x1280 1) : IVec S8192x1280 1 × IVec S8192x1280 1 × IVec S8192x1280 1 × IVec S8192x1280 1 × IVec S4x1280 1 × IVec S1280 1 × IVec S10x128x128 1 × IVec S1280 1 × IVec S10x128x128 1 × IVec S1280 1 × IVec S1280 1 :=
  let main_cst_8 : FVec F S_ .f32 := constant S_ .f32 0xFF800000#32
  let main_v63 : FVec F S8192x1280 .f32 := broadcastInDim S8192x1280 ![] bcast_S_S8192x1280 main_cst_8
  let main_v64 : IVec S8192x1280 1 := cmpf .ogt main_arg1 main_v63
  let main_v65 : IVec S8192x1280 1 := andi main_v62 main_v64
  let main_cst_9 : FVec F S_ .f32 := constant S_ .f32 0x7F800000#32
  let main_v66 : FVec F S8192x1280 .f32 := broadcastInDim S8192x1280 ![] bcast_S_S8192x1280 main_cst_9
  let main_v67 : IVec S8192x1280 1 := cmpf .olt main_arg2 main_v66
  let main_cst_10 : FVec F S_ .f32 := constant S_ .f32 0xFF800000#32
  let main_v68 : FVec F S8192x1280 .f32 := broadcastInDim S8192x1280 ![] bcast_S_S8192x1280 main_cst_10
  let main_v69 : IVec S8192x1280 1 := cmpf .ogt main_arg2 main_v68
  let main_v70 : IVec S8192x1280 1 := andi main_v67 main_v69
  let main_cst_11 : FVec F S_ .f32 := constant S_ .f32 0x7F800000#32
  let main_v71 : FVec F S4x1280 .f32 := broadcastInDim S4x1280 ![] bcast_S_S4x1280 main_cst_11
  let main_v72 : IVec S4x1280 1 := cmpf .olt main_arg3 main_v71
  let main_cst_12 : FVec F S_ .f32 := constant S_ .f32 0xFF800000#32
  let main_v73 : FVec F S4x1280 .f32 := broadcastInDim S4x1280 ![] bcast_S_S4x1280 main_cst_12
  let main_v74 : IVec S4x1280 1 := cmpf .ogt main_arg3 main_v73
  let main_v75 : IVec S4x1280 1 := andi main_v72 main_v74
  let main_cst_13 : FVec F S_ .f32 := constant S_ .f32 0x7F800000#32
  let main_v76 : FVec F S1280 .f32 := broadcastInDim S1280 ![] bcast_S_S1280 main_cst_13
  let main_v77 : IVec S1280 1 := cmpf .olt main_arg4 main_v76
  let main_cst_14 : FVec F S_ .f32 := constant S_ .f32 0xFF800000#32
  let main_v78 : FVec F S1280 .f32 := broadcastInDim S1280 ![] bcast_S_S1280 main_cst_14
  let main_v79 : IVec S1280 1 := cmpf .ogt main_arg4 main_v78
  fn_part4 (F := F) main_arg5 main_arg6 main_arg7 main_arg8 main_arg9 main_v55 main_v60 main_v65 main_v70 main_v75 main_v77 main_v79

def fn_part2 {F : FTy → Type} [FloatOps F] (main_arg0 : FVec F S8192x1280 .f32) (main_arg1 : FVec F S8192x1280 .f32) (main_arg2 : FVec F S8192x1280 .f32) (main_arg3 : FVec F S4x1280 .f32) (main_arg4 : FVec F S1280 .f32) (main_arg5 : FVec F S10x128x128 .f32) (main_arg6 : FVec F S1280 .f32) (main_arg7 : FVec F S10x128x128 .f32) (main_arg8 : FVec F S1280 .f32) (main_arg9 : FVec F S1280 .f32) (main_v44 : FVec F S8192x1280 .f32) : IVec S8192x1280 1 × IVec S8192x1280 1 × IVec S8192x1280 1 × IVec S8192x1280 1 × IVec S4x1280 1 × IVec S1280 1 × IVec S10x128x128 1 × IVec S1280 1 × IVec S10x128x128 1 × IVec S1280 1 × IVec S1280 1 :=
  let main_cst_2 : FVec F S_ .f32 := constant S_ .f32 0xC1000000#32
  let main_v45 : FVec F S8192x1280 .f32 := broadcastInDim S8192x1280 ![] bcast_S_S8192x1280 main_cst_2
  let main_v46 : FVec F S8192x1280 .f32 := mulf main_v45 main_v44
  let main_v47 : FVec F S1280 .f32 := Host.negf main_arg9
  let main_v48 : FVec F S1280 .f32 := fn_softplus (F := F) main_v47
  let main_v49 : FVec F S1x1280 .f32 := broadcastInDim S1x1280 ![1] bcast_S1280_S1x1280_1 main_v48
  let main_v50 : FVec F S8192x1280 .f32 := broadcastInDim S8192x1280 ![0, 1] bcast_S1x1280_S8192x1280_0_1 main_v49
  let main_v51 : FVec F S8192x1280 .f32 := mulf main_v46 main_v50
  let main_cst_3 : FVec F S_ .f32 := constant S_ .f32 0x40000000#32
  let main_v52 : FVec F S8192x1280 .f32 := broadcastInDim S8192x1280 ![] bcast_S_S8192x1280 main_cst_3
  let main_v53 : FVec F S8192x1280 .f32 := mulf main_v52 main_v51
  let main_cst_4 : FVec F S_ .f32 := constant S_ .f32 0xBE4CCCCD#32
  let main_v54 : FVec F S8192x1280 .f32 := broadcastInDim S8192x1280 ![] bcast_S_S8192x1280 main_cst_4
  let main_v55 : IVec S8192x1280 1 := cmpf .ole main_v53 main_v54
  let main_cst_5 : FVec F S_ .f32 := constant S_ .f32 0x7F800000#32
  let main_v56 : FVec F S8192x1280 .f32 := broadcastInDim S8192x1280 ![] bcast_S_S8192x1280 main_cst_5
  let main_v57 : IVec S8192x1280 1 := cmpf .olt main_arg0 main_v56
  let main_cst_6 : FVec F S_ .f32 := constant S_ .f32 0xFF800000#32
  let main_v58 : FVec F S8192x1280 .f32 := broadcastInDim S8192x1280 ![] bcast_S_S8192x1280 main_cst_6
  let main_v59 : IVec S8192x1280 1 := cmpf .ogt main_arg0 main_v58
  let main_v60 : IVec S8192x1280 1 := andi main_v57 main_v59
  let main_cst_7 : FVec F S_ .f32 := constant S_ .f32 0x7F800000#32
  let main_v61 : FVec F S8192x1280 .f32 := broadcastInDim S8192x1280 ![] bcast_S_S8192x1280 main_cst_7
  let main_v62 : IVec S8192x1280 1 := cmpf .olt main_arg1 main_v61
  fn_part3 (F := F) main_arg1 main_arg2 main_arg3 main_arg4 main_arg5 main_arg6 main_arg7 main_arg8 main_arg9 main_v55 main_v60 main_v62

def fn_part1 {F : FTy → Type} [FloatOps F] (main_arg0 : FVec F S8192x1280 .f32) (main_arg1 : FVec F S8192x1280 .f32) (main_arg2 : FVec F S8192x1280 .f32) (main_arg3 : FVec F S4x1280 .f32) (main_arg4 : FVec F S1280 .f32) (main_arg5 : FVec F S10x128x128 .f32) (main_arg6 : FVec F S1280 .f32) (main_arg7 : FVec F S10x128x128 .f32) (main_arg8 : FVec F S1280 .f32) (main_arg9 : FVec F S1280 .f32) (main_v21 : FVec F S8192x1280 .f32) (main_v22 : FVec F S8192x1280 .f32) : IVec S8192x1280 1 × IVec S8192x1280 1 × IVec S8192x1280 1 × IVec S8192x1280 1 × IVec S4x1280 1 × IVec S1280 1 × IVec S10x128x128 1 × IVec S1280 1 × IVec S10x128x128 1 × IVec S1280 1 × IVec S1280 1 :=
  let main_v23 : FVec F S1x1280 .f32 := (extractStridedSlice S1x1280 ![3, 0] · slices_S4x1280_S1x1280_3_0) main_arg3
  let main_v24 : FVec F S1280 .f32 := shapeCast S1280 main_v23 shapeCasts_S1x1280_S1280
  let main_v25 : FVec F S1x1280 .f32 := broadcastInDim S1x1280 ![1] bcast_S1280_S1x1280_1 main_v24
  let main_v26 : FVec F S8192x1280 .f32 := broadcastInDim S8192x1280 ![0, 1] bcast_S1x1280_S8192x1280_0_1 main_v25
  let main_v27 : FVec F S8192x1280 .f32 := mulf main_v22 main_v26
  let main_v28 : FVec F S8192x1280 .f32 := addf main_v21 main_v27
  let main_v29 : FVec F S1x1280 .f32 := broadcastInDim S1x1280 ![1] bcast_S1280_S1x1280_1 main_arg4
  let main_v30 : FVec F S8192x1280 .f32 := broadcastInDim S8192x1280 ![0, 1] bcast_S1x1280_S8192x1280_0_1 main_v29
  let main_v31 : FVec F S8192x1280 .f32 := addf main_v28 main_v30
  let main_v32 : FVec F S8192x10x128 .f32 := shapeCast S8192x10x128 main_v31 shapeCasts_S8192x1280_S8192x10x128
  let main_v33 : FVec F S10x128x8192 .f32 := (fun l r => Host.dotGeneral dot_S10x128x128_S8192x10x128_S10x128x8192_1_2_2_0_0_1 none l r) main_arg5 main_v32
  let main_v34 : FVec F S8192x10x128 .f32 := (transpose S8192x10x128 [2, 0, 1] · transposes_S10x128x8192_S8192x10x128_2_0_1) main_v33
  let main_v35 : FVec F S8192x1280 .f32 := shapeCast S8192x1280 main_v34 shapeCasts_S8192x10x128_S8192x1280
  let main_v36 : FVec F S1x1280 .f32 := broadcastInDim S1x1280 ![1] bcast_S1280_S1x1280_1 main_arg6
  let main_v37 : FVec F S8192x1280 .f32 := broadcastInDim S8192x1280 ![0, 1] bcast_S1x1280_S8192x1280_0_1 main_v36
  let main_v38 : FVec F S8192x1280 .f32 := addf main_v35 main_v37
  let main_v39 : FVec F S8192x1280 .f32 := Host.negf main_v38
  let main_v40 : FVec F S8192x1280 .f32 := Host.exp main_v39
  let main_cst_0 : FVec F S_ .f32 := constant S_ .f32 0x3F800000#32
  let main_v41 : FVec F S8192x1280 .f32 := broadcastInDim S8192x1280 ![] bcast_S_S8192x1280 main_cst_0
  let main_v42 : FVec F S8192x1280 .f32 := addf main_v41 main_v40
  let main_cst_1 : FVec F S_ .f32 := constant S_ .f32 0x3F800000#32
  let main_v43 : FVec F S8192x1280 .f32 := broadcastInDim S8192x1280 ![] bcast_S_S8192x1280 main_cst_1
  let main_v44 : FVec F S8192x1280 .f32 := Host.divf main_v43 main_v42
  fn_part2 (F := F) main_arg0 main_arg1 main_arg2 main_arg3 main_arg4 main_arg5 main_arg6 main_arg7 main_arg8 main_arg9 main_v44

def fn {F : FTy → Type} [FloatOps F] (main_arg0 : FVec F S8192x1280 .f32) (main_arg1 : FVec F S8192x1280 .f32) (main_arg2 : FVec F S8192x1280 .f32) (main_arg3 : FVec F S4x1280 .f32) (main_arg4 : FVec F S1280 .f32) (main_arg5 : FVec F S10x128x128 .f32) (main_arg6 : FVec F S1280 .f32) (main_arg7 : FVec F S10x128x128 .f32) (main_arg8 : FVec F S1280 .f32) (main_arg9 : FVec F S1280 .f32) : IVec S8192x1280 1 × IVec S8192x1280 1 × IVec S8192x1280 1 × IVec S8192x1280 1 × IVec S4x1280 1 × IVec S1280 1 × IVec S10x128x128 1 × IVec S1280 1 × IVec S10x128x128 1 × IVec S1280 1 × IVec S1280 1 :=
  let main_cst : FVec F S_ .f32 := constant S_ .f32 0x00000000#32
  let main_v0 : FVec F S3x1280 .f32 := broadcastInDim S3x1280 ![] bcast_S_S3x1280 main_cst
  let main_v1 : FVec F S8195x1280 .f32 := (fun a b => concatenate S8195x1280 0 [⟨S3x1280, a⟩, ⟨S8192x1280, b⟩] concatenates_S3x1280_S8192x1280_S8195x1280_d0) main_v0 main_arg2
  let main_v2 : FVec F S8192x1280 .f32 := (extractStridedSlice S8192x1280 ![0, 0] · slices_S8195x1280_S8192x1280_0_0) main_v1
  let main_v3 : FVec F S1x1280 .f32 := (extractStridedSlice S1x1280 ![0, 0] · slices_S4x1280_S1x1280_0_0) main_arg3
  let main_v4 : FVec F S1280 .f32 := shapeCast S1280 main_v3 shapeCasts_S1x1280_S1280
  let main_v5 : FVec F S1x1280 .f32 := broadcastInDim S1x1280 ![1] bcast_S1280_S1x1280_1 main_v4
  let main_v6 : FVec F S8192x1280 .f32 := broadcastInDim S8192x1280 ![0, 1] bcast_S1x1280_S8192x1280_0_1 main_v5
  let main_v7 : FVec F S8192x1280 .f32 := mulf main_v2 main_v6
  let main_v8 : FVec F S8192x1280 .f32 := (extractStridedSlice S8192x1280 ![1, 0] · slices_S8195x1280_S8192x1280_1_0) main_v1
  let main_v9 : FVec F S1x1280 .f32 := (extractStridedSlice S1x1280 ![1, 0] · slices_S4x1280_S1x1280_1_0) main_arg3
  let main_v10 : FVec F S1280 .f32 := shapeCast S1280 main_v9 shapeCasts_S1x1280_S1280
  let main_v11 : FVec F S1x1280 .f32 := broadcastInDim S1x1280 ![1] bcast_S1280_S1x1280_1 main_v10
  let main_v12 : FVec F S8192x1280 .f32 := broadcastInDim S8192x1280 ![0, 1] bcast_S1x1280_S8192x1280_0_1 main_v11
  let main_v13 : FVec F S8192x1280 .f32 := mulf main_v8 main_v12
  let main_v14 : FVec F S8192x1280 .f32 := addf main_v7 main_v13
  let main_v15 : FVec F S8192x1280 .f32 := (extractStridedSlice S8192x1280 ![2, 0] · slices_S8195x1280_S8192x1280_2_0) main_v1
  let main_v16 : FVec F S1x1280 .f32 := (extractStridedSlice S1x1280 ![2, 0] · slices_S4x1280_S1x1280_2_0) main_arg3
  let main_v17 : FVec F S1280 .f32 := shapeCast S1280 main_v16 shapeCasts_S1x1280_S1280
  let main_v18 : FVec F S1x1280 .f32 := broadcastInDim S1x1280 ![1] bcast_S1280_S1x1280_1 main_v17
  let main_v19 : FVec F S8192x1280 .f32 := broadcastInDim S8192x1280 ![0, 1] bcast_S1x1280_S8192x1280_0_1 main_v18
  let main_v20 : FVec F S8192x1280 .f32 := mulf main_v15 main_v19
  let main_v21 : FVec F S8192x1280 .f32 := addf main_v14 main_v20
  let main_v22 : FVec F S8192x1280 .f32 := (extractStridedSlice S8192x1280 ![3, 0] · slices_S8195x1280_S8192x1280_3_0) main_v1
  fn_part1 (F := F) main_arg0 main_arg1 main_arg2 main_arg3 main_arg4 main_arg5 main_arg6 main_arg7 main_arg8 main_arg9 main_v21 main_v22
-- ==== Pre_decaying_forward.lean ====
abbrev S8192x1280 : Shape := ⟨2, ![8192, 1280]⟩
abbrev S4x1280 : Shape := ⟨2, ![4, 1280]⟩
abbrev S1280 : Shape := ⟨1, ![1280]⟩
abbrev S10x128x128 : Shape := ⟨3, ![10, 128, 128]⟩
abbrev S_ : Shape := ⟨0, ![]⟩
abbrev S3x1280 : Shape := ⟨2, ![3, 1280]⟩
abbrev S8195x1280 : Shape := ⟨2, ![8195, 1280]⟩
abbrev S1x1280 : Shape := ⟨2, ![1, 1280]⟩
abbrev S8192x10x128 : Shape := ⟨3, ![8192, 10, 128]⟩
abbrev S10x128x8192 : Shape := ⟨3, ![10, 128, 8192]⟩

class Facts : Prop where
  bcast_S_S3x1280 : S_.BroadcastsInDim S3x1280 (![] : Fin 0 → Fin S3x1280.rank)
  concatenates_S3x1280_S8192x1280_S8195x1280_d0 : Shape.Concatenates [S3x1280, S8192x1280] S8195x1280 0
  slices_S8195x1280_S8192x1280_0_0 : S8195x1280.Slices ![0, 0] S8192x1280
  slices_S4x1280_S1x1280_0_0 : S4x1280.Slices ![0, 0] S1x1280
  shapeCasts_S1x1280_S1280 : S1x1280.ShapeCasts S1280
  bcast_S1280_S1x1280_1 : S1280.BroadcastsInDim S1x1280 (![1] : Fin 1 → Fin S1x1280.rank)
  bcast_S1x1280_S8192x1280_0_1 : S1x1280.BroadcastsInDim S8192x1280 (![0, 1] : Fin 2 → Fin S8192x1280.rank)
  slices_S8195x1280_S8192x1280_1_0 : S8195x1280.Slices ![1, 0] S8192x1280
  slices_S4x1280_S1x1280_1_0 : S4x1280.Slices ![1, 0] S1x1280
  slices_S8195x1280_S8192x1280_2_0 : S8195x1280.Slices ![2, 0] S8192x1280
  slices_S4x1280_S1x1280_2_0 : S4x1280.Slices ![2, 0] S1x1280
  slices_S8195x1280_S8192x1280_3_0 : S8195x1280.Slices ![3, 0] S8192x1280
  slices_S4x1280_S1x1280_3_0 : S4x1280.Slices ![3, 0] S1x1280
  shapeCasts_S8192x1280_S8192x10x128 : S8192x1280.ShapeCasts S8192x10x128
  transposes_S10x128x8192_S8192x10x128_2_0_1 : S10x128x8192.Transposes [2, 0, 1] S8192x10x128
  shapeCasts_S8192x10x128_S8192x1280 : S8192x10x128.ShapeCasts S8192x1280
  bcast_S_S8192x1280 : S_.BroadcastsInDim S8192x1280 (![] : Fin 0 → Fin S8192x1280.rank)
  bcast_S_S1280 : S_.BroadcastsInDim S1280 (![] : Fin 0 → Fin S1280.rank)
  bcast_S_S4x1280 : S_.BroadcastsInDim S4x1280 (![] : Fin 0 → Fin S4x1280.rank)
  bcast_S_S10x128x128 : S_.BroadcastsInDim S10x128x128 (![] : Fin 0 → Fin S10x128x128.rank)
  dot_S10x128x128_S8192x10x128_S10x128x8192_1_2_2_0_0_1_wf : DotDims.WF S10x128x128 S8192x10x128 S10x128x8192 [1] [2] [2] [0] [0] [1]

variable [Facts]

def dot_S10x128x128_S8192x10x128_S10x128x8192_1_2_2_0_0_1 : DotDims S10x128x128 S8192x10x128 S10x128x8192 where
  lhsContracting := [1]
  rhsContracting := [2]
  lhsNonContracting := [2]
  rhsNonContracting := [0]
  lhsBatch := [0]
  rhsBatch := [1]
  wf := dot_S10x128x128_S8192x10x128_S10x128x8192_1_2_2_0_0_1_wf
def fn_softplus {F : FTy → Type} [FloatOps F] (arg0 : FVec F S1280 .f32) : FVec F S1280 .f32 :=
  let cst : FVec F S_ .f32 := constant S_ .f32 0x00000000#32
  let v0 : FVec F S1280 .f32 := broadcastInDim S1280 ![] bcast_S_S1280 cst
  let v1 : FVec F S1280 .f32 := maximumf arg0 v0
  let v2 : FVec F S1280 .f32 := broadcastInDim S1280 ![] bcast_S_S1280 cst
  let v3 : FVec F S1280 .f32 := subf arg0 v2
  let v4 : IVec S1280 1 := cmpf .une v3 v3
  let v5 : FVec F S1280 .f32 := broadcastInDim S1280 ![] bcast_S_S1280 cst
  let v6 : FVec F S1280 .f32 := addf arg0 v5
  let v7 : FVec F S1280 .f32 := Host.absf v3
  let v8 : FVec F S1280 .f32 := Host.negf v7
  let v9 : FVec F S1280 .f32 := Host.exp v8
  let v10 : FVec F S1280 .f32 := Host.log1p v9
  let v11 : FVec F S1280 .f32 := addf v1 v10
  let v12 : FVec F S1280 .f32 := select v4 v6 v11
  v12

def fn_part4 {F : FTy → Type} [FloatOps F] (main_arg5 : FVec F S10x128x128 .f32) (main_arg6 : FVec F S1280 .f32) (main_arg7 : FVec F S1280 .f32) (main_v55 : IVec S8192x1280 1) (main_v60 : IVec S8192x1280 1) (main_v65 : IVec S4x1280 1) (main_v70 : IVec S1280 1) (main_v75 : IVec S10x128x128 1) (main_v77 : IVec S1280 1) (main_v79 : IVec S1280 1) : IVec S8192x1280 1 × IVec S8192x1280 1 × IVec S4x1280 1 × IVec S1280 1 × IVec S10x128x128 1 × IVec S1280 1 × IVec S10x128x128 1 × IVec S1280 1 × IVec S1280 1 :=
  let main_v80 : IVec S1280 1 := andi main_v77 main_v79
  let main_cst_15 : FVec F S_ .f32 := constant S_ .f32 0x7F800000#32
  let main_v81 : FVec F S10x128x128 .f32 := broadcastInDim S10x128x128 ![] bcast_S_S10x128x128 main_cst_15
  let main_v82 : IVec S10x128x128 1 := cmpf .olt main_arg5 main_v81
  let main_cst_16 : FVec F S_ .f32 := constant S_ .f32 0xFF800000#32
  let main_v83 : FVec F S10x128x128 .f32 := broadcastInDim S10x128x128 ![] bcast_S_S10x128x128 main_cst_16
  let main_v84 : IVec S10x128x128 1 := cmpf .ogt main_arg5 main_v83
  let main_v85 : IVec S10x128x128 1 := andi main_v82 main_v84
  let main_cst_17 : FVec F S_ .f32 := constant S_ .f32 0x7F800000#32
  let main_v86 : FVec F S1280 .f32 := broadcastInDim S1280 ![] bcast_S_S1280 main_cst_17
  let main_v87 : IVec S1280 1 := cmpf .olt main_arg6 main_v86
  let main_cst_18 : FVec F S_ .f32 := constant S_ .f32 0xFF800000#32
  let main_v88 : FVec F S1280 .f32 := broadcastInDim S1280 ![] bcast_S_S1280 main_cst_18
  let main_v89 : IVec S1280 1 := cmpf .ogt main_arg6 main_v88
  let main_v90 : IVec S1280 1 := andi main_v87 main_v89
  let main_cst_19 : FVec F S_ .f32 := constant S_ .f32 0x7F800000#32
  let main_v91 : FVec F S1280 .f32 := broadcastInDim S1280 ![] bcast_S_S1280 main_cst_19
  let main_v92 : IVec S1280 1 := cmpf .olt main_arg7 main_v91
  let main_cst_20 : FVec F S_ .f32 := constant S_ .f32 0xFF800000#32
  let main_v93 : FVec F S1280 .f32 := broadcastInDim S1280 ![] bcast_S_S1280 main_cst_20
  let main_v94 : IVec S1280 1 := cmpf .ogt main_arg7 main_v93
  let main_v95 : IVec S1280 1 := andi main_v92 main_v94
  (main_v55, main_v60, main_v65, main_v70, main_v75, main_v80, main_v85, main_v90, main_v95)

def fn_part3 {F : FTy → Type} [FloatOps F] (main_arg1 : FVec F S4x1280 .f32) (main_arg2 : FVec F S1280 .f32) (main_arg3 : FVec F S10x128x128 .f32) (main_arg4 : FVec F S1280 .f32) (main_arg5 : FVec F S10x128x128 .f32) (main_arg6 : FVec F S1280 .f32) (main_arg7 : FVec F S1280 .f32) (main_v55 : IVec S8192x1280 1) (main_v60 : IVec S8192x1280 1) (main_v62 : IVec S4x1280 1) : IVec S8192x1280 1 × IVec S8192x1280 1 × IVec S4x1280 1 × IVec S1280 1 × IVec S10x128x128 1 × IVec S1280 1 × IVec S10x128x128 1 × IVec S1280 1 × IVec S1280 1 :=
  let main_cst_8 : FVec F S_ .f32 := constant S_ .f32 0xFF800000#32
  let main_v63 : FVec F S4x1280 .f32 := broadcastInDim S4x1280 ![] bcast_S_S4x1280 main_cst_8
  let main_v64 : IVec S4x1280 1 := cmpf .ogt main_arg1 main_v63
  let main_v65 : IVec S4x1280 1 := andi main_v62 main_v64
  let main_cst_9 : FVec F S_ .f32 := constant S_ .f32 0x7F800000#32
  let main_v66 : FVec F S1280 .f32 := broadcastInDim S1280 ![] bcast_S_S1280 main_cst_9
  let main_v67 : IVec S1280 1 := cmpf .olt main_arg2 main_v66
  let main_cst_10 : FVec F S_ .f32 := constant S_ .f32 0xFF800000#32
  let main_v68 : FVec F S1280 .f32 := broadcastInDim S1280 ![] bcast_S_S1280 main_cst_10
  let main_v69 : IVec S1280 1 := cmpf .ogt main_arg2 main_v68
  let main_v70 : IVec S1280 1 := andi main_v67 main_v69
  let main_cst_11 : FVec F S_ .f32 := constant S_ .f32 0x7F800000#32
  let main_v71 : FVec F S10x128x128 .f32 := broadcastInDim S10x128x128 ![] bcast_S_S10x128x128 main_cst_11
  let main_v72 : IVec S10x128x128 1 := cmpf .olt main_arg3 main_v71
  let main_cst_12 : FVec F S_ .f32 := constant S_ .f32 0xFF800000#32
  let main_v73 : FVec F S10x128x128 .f32 := broadcastInDim S10x128x128 ![] bcast_S_S10x128x128 main_cst_12
  let main_v74 : IVec S10x128x128 1 := cmpf .ogt main_arg3 main_v73
  let main_v75 : IVec S10x128x128 1 := andi main_v72 main_v74
  let main_cst_13 : FVec F S_ .f32 := constant S_ .f32 0x7F800000#32
  let main_v76 : FVec F S1280 .f32 := broadcastInDim S1280 ![] bcast_S_S1280 main_cst_13
  let main_v77 : IVec S1280 1 := cmpf .olt main_arg4 main_v76
  let main_cst_14 : FVec F S_ .f32 := constant S_ .f32 0xFF800000#32
  let main_v78 : FVec F S1280 .f32 := broadcastInDim S1280 ![] bcast_S_S1280 main_cst_14
  let main_v79 : IVec S1280 1 := cmpf .ogt main_arg4 main_v78
  fn_part4 (F := F) main_arg5 main_arg6 main_arg7 main_v55 main_v60 main_v65 main_v70 main_v75 main_v77 main_v79

def fn_part2 {F : FTy → Type} [FloatOps F] (main_arg0 : FVec F S8192x1280 .f32) (main_arg1 : FVec F S4x1280 .f32) (main_arg2 : FVec F S1280 .f32) (main_arg3 : FVec F S10x128x128 .f32) (main_arg4 : FVec F S1280 .f32) (main_arg5 : FVec F S10x128x128 .f32) (main_arg6 : FVec F S1280 .f32) (main_arg7 : FVec F S1280 .f32) (main_v44 : FVec F S8192x1280 .f32) : IVec S8192x1280 1 × IVec S8192x1280 1 × IVec S4x1280 1 × IVec S1280 1 × IVec S10x128x128 1 × IVec S1280 1 × IVec S10x128x128 1 × IVec S1280 1 × IVec S1280 1 :=
  let main_cst_2 : FVec F S_ .f32 := constant S_ .f32 0xC1000000#32
  let main_v45 : FVec F S8192x1280 .f32 := broadcastInDim S8192x1280 ![] bcast_S_S8192x1280 main_cst_2
  let main_v46 : FVec F S8192x1280 .f32 := mulf main_v45 main_v44
  let main_v47 : FVec F S1280 .f32 := Host.negf main_arg7
  let main_v48 : FVec F S1280 .f32 := fn_softplus (F := F) main_v47
  let main_v49 : FVec F S1x1280 .f32 := broadcastInDim S1x1280 ![1] bcast_S1280_S1x1280_1 main_v48
  let main_v50 : FVec F S8192x1280 .f32 := broadcastInDim S8192x1280 ![0, 1] bcast_S1x1280_S8192x1280_0_1 main_v49
  let main_v51 : FVec F S8192x1280 .f32 := mulf main_v46 main_v50
  let main_cst_3 : FVec F S_ .f32 := constant S_ .f32 0x40000000#32
  let main_v52 : FVec F S8192x1280 .f32 := broadcastInDim S8192x1280 ![] bcast_S_S8192x1280 main_cst_3
  let main_v53 : FVec F S8192x1280 .f32 := mulf main_v52 main_v51
  let main_cst_4 : FVec F S_ .f32 := constant S_ .f32 0xBE4CCCCD#32
  let main_v54 : FVec F S8192x1280 .f32 := broadcastInDim S8192x1280 ![] bcast_S_S8192x1280 main_cst_4
  let main_v55 : IVec S8192x1280 1 := cmpf .ole main_v53 main_v54
  let main_cst_5 : FVec F S_ .f32 := constant S_ .f32 0x7F800000#32
  let main_v56 : FVec F S8192x1280 .f32 := broadcastInDim S8192x1280 ![] bcast_S_S8192x1280 main_cst_5
  let main_v57 : IVec S8192x1280 1 := cmpf .olt main_arg0 main_v56
  let main_cst_6 : FVec F S_ .f32 := constant S_ .f32 0xFF800000#32
  let main_v58 : FVec F S8192x1280 .f32 := broadcastInDim S8192x1280 ![] bcast_S_S8192x1280 main_cst_6
  let main_v59 : IVec S8192x1280 1 := cmpf .ogt main_arg0 main_v58
  let main_v60 : IVec S8192x1280 1 := andi main_v57 main_v59
  let main_cst_7 : FVec F S_ .f32 := constant S_ .f32 0x7F800000#32
  let main_v61 : FVec F S4x1280 .f32 := broadcastInDim S4x1280 ![] bcast_S_S4x1280 main_cst_7
  let main_v62 : IVec S4x1280 1 := cmpf .olt main_arg1 main_v61
  fn_part3 (F := F) main_arg1 main_arg2 main_arg3 main_arg4 main_arg5 main_arg6 main_arg7 main_v55 main_v60 main_v62

def fn_part1 {F : FTy → Type} [FloatOps F] (main_arg0 : FVec F S8192x1280 .f32) (main_arg1 : FVec F S4x1280 .f32) (main_arg2 : FVec F S1280 .f32) (main_arg3 : FVec F S10x128x128 .f32) (main_arg4 : FVec F S1280 .f32) (main_arg5 : FVec F S10x128x128 .f32) (main_arg6 : FVec F S1280 .f32) (main_arg7 : FVec F S1280 .f32) (main_v21 : FVec F S8192x1280 .f32) (main_v22 : FVec F S8192x1280 .f32) : IVec S8192x1280 1 × IVec S8192x1280 1 × IVec S4x1280 1 × IVec S1280 1 × IVec S10x128x128 1 × IVec S1280 1 × IVec S10x128x128 1 × IVec S1280 1 × IVec S1280 1 :=
  let main_v23 : FVec F S1x1280 .f32 := (extractStridedSlice S1x1280 ![3, 0] · slices_S4x1280_S1x1280_3_0) main_arg1
  let main_v24 : FVec F S1280 .f32 := shapeCast S1280 main_v23 shapeCasts_S1x1280_S1280
  let main_v25 : FVec F S1x1280 .f32 := broadcastInDim S1x1280 ![1] bcast_S1280_S1x1280_1 main_v24
  let main_v26 : FVec F S8192x1280 .f32 := broadcastInDim S8192x1280 ![0, 1] bcast_S1x1280_S8192x1280_0_1 main_v25
  let main_v27 : FVec F S8192x1280 .f32 := mulf main_v22 main_v26
  let main_v28 : FVec F S8192x1280 .f32 := addf main_v21 main_v27
  let main_v29 : FVec F S1x1280 .f32 := broadcastInDim S1x1280 ![1] bcast_S1280_S1x1280_1 main_arg2
  let main_v30 : FVec F S8192x1280 .f32 := broadcastInDim S8192x1280 ![0, 1] bcast_S1x1280_S8192x1280_0_1 main_v29
  let main_v31 : FVec F S8192x1280 .f32 := addf main_v28 main_v30
  let main_v32 : FVec F S8192x10x128 .f32 := shapeCast S8192x10x128 main_v31 shapeCasts_S8192x1280_S8192x10x128
  let main_v33 : FVec F S10x128x8192 .f32 := (fun l r => Host.dotGeneral dot_S10x128x128_S8192x10x128_S10x128x8192_1_2_2_0_0_1 none l r) main_arg3 main_v32
  let main_v34 : FVec F S8192x10x128 .f32 := (transpose S8192x10x128 [2, 0, 1] · transposes_S10x128x8192_S8192x10x128_2_0_1) main_v33
  let main_v35 : FVec F S8192x1280 .f32 := shapeCast S8192x1280 main_v34 shapeCasts_S8192x10x128_S8192x1280
  let main_v36 : FVec F S1x1280 .f32 := broadcastInDim S1x1280 ![1] bcast_S1280_S1x1280_1 main_arg4
  let main_v37 : FVec F S8192x1280 .f32 := broadcastInDim S8192x1280 ![0, 1] bcast_S1x1280_S8192x1280_0_1 main_v36
  let main_v38 : FVec F S8192x1280 .f32 := addf main_v35 main_v37
  let main_v39 : FVec F S8192x1280 .f32 := Host.negf main_v38
  let main_v40 : FVec F S8192x1280 .f32 := Host.exp main_v39
  let main_cst_0 : FVec F S_ .f32 := constant S_ .f32 0x3F800000#32
  let main_v41 : FVec F S8192x1280 .f32 := broadcastInDim S8192x1280 ![] bcast_S_S8192x1280 main_cst_0
  let main_v42 : FVec F S8192x1280 .f32 := addf main_v41 main_v40
  let main_cst_1 : FVec F S_ .f32 := constant S_ .f32 0x3F800000#32
  let main_v43 : FVec F S8192x1280 .f32 := broadcastInDim S8192x1280 ![] bcast_S_S8192x1280 main_cst_1
  let main_v44 : FVec F S8192x1280 .f32 := Host.divf main_v43 main_v42
  fn_part2 (F := F) main_arg0 main_arg1 main_arg2 main_arg3 main_arg4 main_arg5 main_arg6 main_arg7 main_v44

def fn {F : FTy → Type} [FloatOps F] (main_arg0 : FVec F S8192x1280 .f32) (main_arg1 : FVec F S4x1280 .f32) (main_arg2 : FVec F S1280 .f32) (main_arg3 : FVec F S10x128x128 .f32) (main_arg4 : FVec F S1280 .f32) (main_arg5 : FVec F S10x128x128 .f32) (main_arg6 : FVec F S1280 .f32) (main_arg7 : FVec F S1280 .f32) : IVec S8192x1280 1 × IVec S8192x1280 1 × IVec S4x1280 1 × IVec S1280 1 × IVec S10x128x128 1 × IVec S1280 1 × IVec S10x128x128 1 × IVec S1280 1 × IVec S1280 1 :=
  let main_cst : FVec F S_ .f32 := constant S_ .f32 0x00000000#32
  let main_v0 : FVec F S3x1280 .f32 := broadcastInDim S3x1280 ![] bcast_S_S3x1280 main_cst
  let main_v1 : FVec F S8195x1280 .f32 := (fun a b => concatenate S8195x1280 0 [⟨S3x1280, a⟩, ⟨S8192x1280, b⟩] concatenates_S3x1280_S8192x1280_S8195x1280_d0) main_v0 main_arg0
  let main_v2 : FVec F S8192x1280 .f32 := (extractStridedSlice S8192x1280 ![0, 0] · slices_S8195x1280_S8192x1280_0_0) main_v1
  let main_v3 : FVec F S1x1280 .f32 := (extractStridedSlice S1x1280 ![0, 0] · slices_S4x1280_S1x1280_0_0) main_arg1
  let main_v4 : FVec F S1280 .f32 := shapeCast S1280 main_v3 shapeCasts_S1x1280_S1280
  let main_v5 : FVec F S1x1280 .f32 := broadcastInDim S1x1280 ![1] bcast_S1280_S1x1280_1 main_v4
  let main_v6 : FVec F S8192x1280 .f32 := broadcastInDim S8192x1280 ![0, 1] bcast_S1x1280_S8192x1280_0_1 main_v5
  let main_v7 : FVec F S8192x1280 .f32 := mulf main_v2 main_v6
  let main_v8 : FVec F S8192x1280 .f32 := (extractStridedSlice S8192x1280 ![1, 0] · slices_S8195x1280_S8192x1280_1_0) main_v1
  let main_v9 : FVec F S1x1280 .f32 := (extractStridedSlice S1x1280 ![1, 0] · slices_S4x1280_S1x1280_1_0) main_arg1
  let main_v10 : FVec F S1280 .f32 := shapeCast S1280 main_v9 shapeCasts_S1x1280_S1280
  let main_v11 : FVec F S1x1280 .f32 := broadcastInDim S1x1280 ![1] bcast_S1280_S1x1280_1 main_v10
  let main_v12 : FVec F S8192x1280 .f32 := broadcastInDim S8192x1280 ![0, 1] bcast_S1x1280_S8192x1280_0_1 main_v11
  let main_v13 : FVec F S8192x1280 .f32 := mulf main_v8 main_v12
  let main_v14 : FVec F S8192x1280 .f32 := addf main_v7 main_v13
  let main_v15 : FVec F S8192x1280 .f32 := (extractStridedSlice S8192x1280 ![2, 0] · slices_S8195x1280_S8192x1280_2_0) main_v1
  let main_v16 : FVec F S1x1280 .f32 := (extractStridedSlice S1x1280 ![2, 0] · slices_S4x1280_S1x1280_2_0) main_arg1
  let main_v17 : FVec F S1280 .f32 := shapeCast S1280 main_v16 shapeCasts_S1x1280_S1280
  let main_v18 : FVec F S1x1280 .f32 := broadcastInDim S1x1280 ![1] bcast_S1280_S1x1280_1 main_v17
  let main_v19 : FVec F S8192x1280 .f32 := broadcastInDim S8192x1280 ![0, 1] bcast_S1x1280_S8192x1280_0_1 main_v18
  let main_v20 : FVec F S8192x1280 .f32 := mulf main_v15 main_v19
  let main_v21 : FVec F S8192x1280 .f32 := addf main_v14 main_v20
  let main_v22 : FVec F S8192x1280 .f32 := (extractStridedSlice S8192x1280 ![3, 0] · slices_S8195x1280_S8192x1280_3_0) main_v1
  fn_part1 (F := F) main_arg0 main_arg1 main_arg2 main_arg3 main_arg4 main_arg5 main_arg6 main_arg7 main_v21 main_v22
-- ==== Pre_finite_bl.lean ====
abbrev S8192x1024 : Shape := ⟨2, ![8192, 1024]⟩
abbrev S8192x1280 : Shape := ⟨2, ![8192, 1280]⟩
abbrev S1280x1024 : Shape := ⟨2, ![1280, 1024]⟩
abbrev S_ : Shape := ⟨0, ![]⟩

class Facts : Prop where
  bcast_S_S8192x1024 : S_.BroadcastsInDim S8192x1024 (![] : Fin 0 → Fin S8192x1024.rank)
  bcast_S_S8192x1280 : S_.BroadcastsInDim S8192x1280 (![] : Fin 0 → Fin S8192x1280.rank)
  bcast_S_S1280x1024 : S_.BroadcastsInDim S1280x1024 (![] : Fin 0 → Fin S1280x1024.rank)

variable [Facts]

def fn {F : FTy → Type} [FloatOps F] (main_arg0 : FVec F S8192x1024 .f32) (main_arg1 : FVec F S8192x1280 .f32) (main_arg2 : FVec F S8192x1280 .f32) (main_arg3 : FVec F S1280x1024 .f32) : IVec S8192x1024 1 × IVec S8192x1280 1 × IVec S1280x1024 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_v4 : IVec S8192x1024 1 := andi main_v1 main_v3
  let main_cst_1 : FVec F S_ .f32 := constant S_ .f32 0x7F800000#32
  let main_v5 : FVec F S8192x1280 .f32 := broadcastInDim S8192x1280 ![] bcast_S_S8192x1280 main_cst_1
  let main_v6 : IVec S8192x1280 1 := cmpf .olt main_arg1 main_v5
  let main_cst_2 : FVec F S_ .f32 := constant S_ .f32 0xFF800000#32
  let main_v7 : FVec F S8192x1280 .f32 := broadcastInDim S8192x1280 ![] bcast_S_S8192x1280 main_cst_2
  let main_v8 : IVec S8192x1280 1 := cmpf .ogt main_arg1 main_v7
  let main_v9 : IVec S8192x1280 1 := andi main_v6 main_v8
  let main_cst_3 : FVec F S_ .f32 := constant S_ .f32 0x7F800000#32
  let main_v10 : FVec F S1280x1024 .f32 := broadcastInDim S1280x1024 ![] bcast_S_S1280x1024 main_cst_3
  let main_v11 : IVec S1280x1024 1 := cmpf .olt main_arg3 main_v10
  let main_cst_4 : FVec F S_ .f32 := constant S_ .f32 0xFF800000#32
  let main_v12 : FVec F S1280x1024 .f32 := broadcastInDim S1280x1024 ![] bcast_S_S1280x1024 main_cst_4
  let main_v13 : IVec S1280x1024 1 := cmpf .ogt main_arg3 main_v12
  let main_v14 : IVec S1280x1024 1 := andi main_v11 main_v13
  (main_v4, main_v9, main_v14)
-- ==== Pre_finite_s5post.lean ====
abbrev S8192x1024 : Shape := ⟨2, ![8192, 1024]⟩
abbrev S8192x512 : Shape := ⟨2, ![8192, 512]⟩
abbrev S512x1024 : Shape := ⟨2, ![512, 1024]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S512x1024 : S_.BroadcastsInDim S512x1024 (![] : Fin 0 → Fin S512x1024.rank)

variable [Facts]

def fn_part1 {F : FTy → Type} [FloatOps F] (main_arg3 : FVec F S512x1024 .f32) (main_arg4 : FVec F S512x1024 .f32) (main_v4 : IVec S8192x1024 1) (main_v9 : IVec S8192x512 1) (main_v14 : IVec S8192x512 1) (main_v16 : IVec S512x1024 1) : IVec S8192x1024 1 × IVec S8192x512 1 × IVec S8192x512 1 × IVec S512x1024 1 × IVec S512x1024 1 :=
  let main_cst_6 : FVec F S_ .f32 := constant S_ .f32 0xFF800000#32
  let main_v17 : FVec F S512x1024 .f32 := broadcastInDim S512x1024 ![] bcast_S_S512x1024 main_cst_6
  let main_v18 : IVec S512x1024 1 := cmpf .ogt main_arg3 main_v17
  let main_v19 : IVec S512x1024 1 := andi main_v16 main_v18
  let main_cst_7 : FVec F S_ .f32 := constant S_ .f32 0x7F800000#32
  let main_v20 : FVec F S512x1024 .f32 := broadcastInDim S512x1024 ![] bcast_S_S512x1024 main_cst_7
  let main_v21 : IVec S512x1024 1 := cmpf .olt main_arg4 main_v20
  let main_cst_8 : FVec F S_ .f32 := constant S_ .f32 0xFF800000#32
  let main_v22 : FVec F S512x1024 .f32 := broadcastInDim S512x1024 ![] bcast_S_S512x1024 main_cst_8
  let main_v23 : IVec S512x1024 1 := cmpf .ogt main_arg4 main_v22
  let main_v24 : IVec S512x1024 1 := andi main_v21 main_v23
  (main_v4, main_v9, main_v14, main_v19, main_v24)

def fn {F : FTy → Type} [FloatOps F] (main_arg0 : FVec F S8192x1024 .f32) (main_arg1 : FVec F S8192x512 .f32) (main_arg2 : FVec F S8192x512 .f32) (main_arg3 : FVec F S512x1024 .f32) (main_arg4 : FVec F S512x1024 .f32) : IVec S8192x1024 1 × IVec S8192x512 1 × IVec S8192x512 1 × IVec S512x1024 1 × IVec S512x1024 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_v4 : IVec S8192x1024 1 := andi main_v1 main_v3
  let main_cst_1 : FVec F S_ .f32 := constant S_ .f32 0x7F800000#32
  let main_v5 : FVec F S8192x512 .f32 := broadcastInDim S8192x512 ![] bcast_S_S8192x512 main_cst_1
  let main_v6 : IVec S8192x512 1 := cmpf .olt main_arg1 main_v5
  let main_cst_2 : FVec F S_ .f32 := constant S_ .f32 0xFF800000#32
  let main_v7 : FVec F S8192x512 .f32 := broadcastInDim S8192x512 ![] bcast_S_S8192x512 main_cst_2
  let main_v8 : IVec S8192x512 1 := cmpf .ogt main_arg1 main_v7
  let main_v9 : IVec S8192x512 1 := andi main_v6 main_v8
  let main_cst_3 : FVec F S_ .f32 := constant S_ .f32 0x7F800000#32
  let main_v10 : FVec F S8192x512 .f32 := broadcastInDim S8192x512 ![] bcast_S_S8192x512 main_cst_3
  let main_v11 : IVec S8192x512 1 := cmpf .olt main_arg2 main_v10
  let main_cst_4 : FVec F S_ .f32 := constant S_ .f32 0xFF800000#32
  let main_v12 : FVec F S8192x512 .f32 := broadcastInDim S8192x512 ![] bcast_S_S8192x512 main_cst_4
  let main_v13 : IVec S8192x512 1 := cmpf .ogt main_arg2 main_v12
  let main_v14 : IVec S8192x512 1 := andi main_v11 main_v13
  let main_cst_5 : FVec F S_ .f32 := constant S_ .f32 0x7F800000#32
  let main_v15 : FVec F S512x1024 .f32 := broadcastInDim S512x1024 ![] bcast_S_S512x1024 main_cst_5
  let main_v16 : IVec S512x1024 1 := cmpf .olt main_arg3 main_v15
  fn_part1 (F := F) main_arg3 main_arg4 main_v4 main_v9 main_v14 main_v16
-- ==== Pre_finite_scanb.lean ====
abbrev S8192x1280 : Shape := ⟨2, ![8192, 1280]⟩
abbrev S_ : Shape := ⟨0, ![]⟩

class Facts : Prop where
  bcast_S_S8192x1280 : S_.BroadcastsInDim S8192x1280 (![] : Fin 0 → Fin S8192x1280.rank)

variable [Facts]

def fn {F : FTy → Type} [FloatOps F] (main_arg0 : FVec F S8192x1280 .f32) (main_arg1 : FVec F S8192x1280 .f32) : IVec S8192x1280 1 × IVec S8192x1280 1 :=
  let main_cst : FVec F S_ .f32 := constant S_ .f32 0x7F800000#32
  let main_v0 : FVec F S8192x1280 .f32 := broadcastInDim S8192x1280 ![] bcast_S_S8192x1280 main_cst
  let main_v1 : IVec S8192x1280 1 := cmpf .olt main_arg0 main_v0
  let main_cst_0 : FVec F S_ .f32 := constant S_ .f32 0xFF800000#32
  let main_v2 : FVec F S8192x1280 .f32 := broadcastInDim S8192x1280 ![] bcast_S_S8192x1280 main_cst_0
  let main_v3 : IVec S8192x1280 1 := cmpf .ogt main_arg0 main_v2
  let main_v4 : IVec S8192x1280 1 := andi main_v1 main_v3
  let main_cst_1 : FVec F S_ .f32 := constant S_ .f32 0x7F800000#32
  let main_v5 : FVec F S8192x1280 .f32 := broadcastInDim S8192x1280 ![] bcast_S_S8192x1280 main_cst_1
  let main_v6 : IVec S8192x1280 1 := cmpf .olt main_arg1 main_v5
  let main_cst_2 : FVec F S_ .f32 := constant S_ .f32 0xFF800000#32
  let main_v7 : FVec F S8192x1280 .f32 := broadcastInDim S8192x1280 ![] bcast_S_S8192x1280 main_cst_2
  let main_v8 : IVec S8192x1280 1 := cmpf .ogt main_arg1 main_v7
  let main_v9 : IVec S8192x1280 1 := andi main_v6 main_v8
  (main_v4, main_v9)
-- ==== Pre_invertible.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S_ : Shape := ⟨0, ![]⟩

class Facts : Prop where
  bcast_S_S32x64 : S_.BroadcastsInDim S32x64 (![] : Fin 0 → Fin S32x64.rank)
  bcast_S_S32 : S_.BroadcastsInDim S32 (![] : Fin 0 → Fin S32.rank)
  bcast_S_S32x64x16 : S_.BroadcastsInDim S32x64x16 (![] : Fin 0 → Fin S32x64x16.rank)
  bcast_S_S32x16x64 : S_.BroadcastsInDim S32x16x64 (![] : Fin 0 → Fin S32x16x64.rank)

variable [Facts]

def fn_part2 {F : FTy → Type} [FloatOps F] (main_arg6 : FVec F S32x64 .f32) (main_arg7 : FVec F S32x16x64 .f32) (main_arg8 : FVec F S32x16x64 .f32) (main_v4 : IVec S32x64 1) (main_v9 : IVec S32x64 1) (main_v14 : IVec S32x64 1) (main_v19 : IVec S32 1) (main_v24 : IVec S32x64x16 1) (main_v29 : IVec S32x64x16 1) (main_v34 : IVec S32x64 1) : IVec S32x64 1 × IVec S32x64 1 × IVec S32x64 1 × IVec S32 1 × IVec S32x64x16 1 × IVec S32x64x16 1 × IVec S32x64 1 × IVec S32x64 1 × IVec S32x16x64 1 × IVec S32x16x64 1 :=
  let main_cst_12 : FVec F S_ .f32 := constant S_ .f32 0x7F800000#32
  let main_v35 : FVec F S32x64 .f32 := broadcastInDim S32x64 ![] bcast_S_S32x64 main_cst_12
  let main_v36 : IVec S32x64 1 := cmpf .olt main_arg6 main_v35
  let main_cst_13 : FVec F S_ .f32 := constant S_ .f32 0xFF800000#32
  let main_v37 : FVec F S32x64 .f32 := broadcastInDim S32x64 ![] bcast_S_S32x64 main_cst_13
  let main_v38 : IVec S32x64 1 := cmpf .ogt main_arg6 main_v37
  let main_v39 : IVec S32x64 1 := andi main_v36 main_v38
  let main_cst_14 : FVec F S_ .f32 := constant S_ .f32 0x7F800000#32
  let main_v40 : FVec F S32x16x64 .f32 := broadcastInDim S32x16x64 ![] bcast_S_S32x16x64 main_cst_14
  let main_v41 : IVec S32x16x64 1 := cmpf .olt main_arg7 main_v40
  let main_cst_15 : FVec F S_ .f32 := constant S_ .f32 0xFF800000#32
  let main_v42 : FVec F S32x16x64 .f32 := broadcastInDim S32x16x64 ![] bcast_S_S32x16x64 main_cst_15
  let main_v43 : IVec S32x16x64 1 := cmpf .ogt main_arg7 main_v42
  let main_v44 : IVec S32x16x64 1 := andi main_v41 main_v43
  let main_cst_16 : FVec F S_ .f32 := constant S_ .f32 0x7F800000#32
  let main_v45 : FVec F S32x16x64 .f32 := broadcastInDim S32x16x64 ![] bcast_S_S32x16x64 main_cst_16
  let main_v46 : IVec S32x16x64 1 := cmpf .olt main_arg8 main_v45
  let main_cst_17 : FVec F S_ .f32 := constant S_ .f32 0xFF800000#32
  let main_v47 : FVec F S32x16x64 .f32 := broadcastInDim S32x16x64 ![] bcast_S_S32x16x64 main_cst_17
  let main_v48 : IVec S32x16x64 1 := cmpf .ogt main_arg8 main_v47
  let main_v49 : IVec S32x16x64 1 := andi main_v46 main_v48
  (main_v4, main_v9, main_v14, main_v19, main_v24, main_v29, main_v34, main_v39, main_v44, main_v49)

def fn_part1 {F : FTy → Type} [FloatOps F] (main_arg2 : FVec F S32 .f32) (main_arg3 : FVec F S32x64x16 .f32) (main_arg4 : FVec F S32x64x16 .f32) (main_arg5 : FVec F S32x64 .f32) (main_arg6 : FVec F S32x64 .f32) (main_arg7 : FVec F S32x16x64 .f32) (main_arg8 : FVec F S32x16x64 .f32) (main_v4 : IVec S32x64 1) (main_v9 : IVec S32x64 1) (main_v14 : IVec S32x64 1) (main_v16 : IVec S32 1) (main_cst_5 : FVec F S_ .f32) : IVec S32x64 1 × IVec S32x64 1 × IVec S32x64 1 × IVec S32 1 × IVec S32x64x16 1 × IVec S32x64x16 1 × IVec S32x64 1 × IVec S32x64 1 × IVec S32x16x64 1 × IVec S32x16x64 1 :=
  let main_v17 : FVec F S32 .f32 := broadcastInDim S32 ![] bcast_S_S32 main_cst_5
  let main_v18 : IVec S32 1 := cmpf .ogt main_arg2 main_v17
  let main_v19 : IVec S32 1 := andi main_v16 main_v18
  let main_cst_6 : FVec F S_ .f32 := constant S_ .f32 0x7F800000#32
  let main_v20 : FVec F S32x64x16 .f32 := broadcastInDim S32x64x16 ![] bcast_S_S32x64x16 main_cst_6
  let main_v21 : IVec S32x64x16 1 := cmpf .olt main_arg3 main_v20
  let main_cst_7 : FVec F S_ .f32 := constant S_ .f32 0xFF800000#32
  let main_v22 : FVec F S32x64x16 .f32 := broadcastInDim S32x64x16 ![] bcast_S_S32x64x16 main_cst_7
  let main_v23 : IVec S32x64x16 1 := cmpf .ogt main_arg3 main_v22
  let main_v24 : IVec S32x64x16 1 := andi main_v21 main_v23
  let main_cst_8 : FVec F S_ .f32 := constant S_ .f32 0x7F800000#32
  let main_v25 : FVec F S32x64x16 .f32 := broadcastInDim S32x64x16 ![] bcast_S_S32x64x16 main_cst_8
  let main_v26 : IVec S32x64x16 1 := cmpf .olt main_arg4 main_v25
  let main_cst_9 : FVec F S_ .f32 := constant S_ .f32 0xFF800000#32
  let main_v27 : FVec F S32x64x16 .f32 := broadcastInDim S32x64x16 ![] bcast_S_S32x64x16 main_cst_9
  let main_v28 : IVec S32x64x16 1 := cmpf .ogt main_arg4 main_v27
  let main_v29 : IVec S32x64x16 1 := andi main_v26 main_v28
  let main_cst_10 : FVec F S_ .f32 := constant S_ .f32 0x7F800000#32
  let main_v30 : FVec F S32x64 .f32 := broadcastInDim S32x64 ![] bcast_S_S32x64 main_cst_10
  let main_v31 : IVec S32x64 1 := cmpf .olt main_arg5 main_v30
  let main_cst_11 : FVec F S_ .f32 := constant S_ .f32 0xFF800000#32
  let main_v32 : FVec F S32x64 .f32 := broadcastInDim S32x64 ![] bcast_S_S32x64 main_cst_11
  let main_v33 : IVec S32x64 1 := cmpf .ogt main_arg5 main_v32
  let main_v34 : IVec S32x64 1 := andi main_v31 main_v33
  fn_part2 (F := F) main_arg6 main_arg7 main_arg8 main_v4 main_v9 main_v14 main_v19 main_v24 main_v29 main_v34

def fn {F : FTy → Type} [FloatOps F] (main_arg0 : FVec F S32x64 .f32) (main_arg1 : FVec F S32x64 .f32) (main_arg2 : FVec F S32 .f32) (main_arg3 : FVec F S32x64x16 .f32) (main_arg4 : FVec F S32x64x16 .f32) (main_arg5 : FVec F S32x64 .f32) (main_arg6 : FVec F S32x64 .f32) (main_arg7 : FVec F S32x16x64 .f32) (main_arg8 : FVec F S32x16x64 .f32) : IVec S32x64 1 × IVec S32x64 1 × IVec S32x64 1 × IVec S32 1 × IVec S32x64x16 1 × IVec S32x64x16 1 × IVec S32x64 1 × IVec S32x64 1 × IVec S32x16x64 1 × IVec S32x16x64 1 :=
  let main_v0 : FVec F S32x64 .f32 := mulf main_arg0 main_arg0
  let main_v1 : FVec F S32x64 .f32 := mulf main_arg1 main_arg1
  let main_v2 : FVec F S32x64 .f32 := addf main_v0 main_v1
  let main_cst : FVec F S_ .f32 := constant S_ .f32 0x00000000#32
  let main_v3 : FVec F S32x64 .f32 := broadcastInDim S32x64 ![] bcast_S_S32x64 main_cst
  let main_v4 : IVec S32x64 1 := cmpf .ogt main_v2 main_v3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_arg0 main_v5
  let main_cst_1 : FVec F S_ .f32 := constant S_ .f32 0xFF800000#32
  let main_v7 : FVec F S32x64 .f32 := broadcastInDim S32x64 ![] bcast_S_S32x64 main_cst_1
  let main_v8 : IVec S32x64 1 := cmpf .ogt main_arg0 main_v7
  let main_v9 : IVec S32x64 1 := andi main_v6 main_v8
  let main_cst_2 : FVec F S_ .f32 := constant S_ .f32 0x7F800000#32
  let main_v10 : FVec F S32x64 .f32 := broadcastInDim S32x64 ![] bcast_S_S32x64 main_cst_2
  let main_v11 : IVec S32x64 1 := cmpf .olt main_arg1 main_v10
  let main_cst_3 : FVec F S_ .f32 := constant S_ .f32 0xFF800000#32
  let main_v12 : FVec F S32x64 .f32 := broadcastInDim S32x64 ![] bcast_S_S32x64 main_cst_3
  let main_v13 : IVec S32x64 1 := cmpf .ogt main_arg1 main_v12
  let main_v14 : IVec S32x64 1 := andi main_v11 main_v13
  let main_cst_4 : FVec F S_ .f32 := constant S_ .f32 0x7F800000#32
  let main_v15 : FVec F S32 .f32 := broadcastInDim S32 ![] bcast_S_S32 main_cst_4
  let main_v16 : IVec S32 1 := cmpf .olt main_arg2 main_v15
  let main_cst_5 : FVec F S_ .f32 := constant S_ .f32 0xFF800000#32
  fn_part1 (F := F) main_arg2 main_arg3 main_arg4 main_arg5 main_arg6 main_arg7 main_arg8 main_v4 main_v9 main_v14 main_v16 main_cst_5
-- ==== Ple.lean ====
abbrev S8192x1024 : Shape := ⟨2, ![8192, 1024]⟩
abbrev S8192x256 : Shape := ⟨2, ![8192, 256]⟩
abbrev S256x1024 : Shape := ⟨2, ![256, 1024]⟩
abbrev S1024x1024 : Shape := ⟨2, ![1024, 1024]⟩
abbrev S512x1024 : Shape := ⟨2, ![512, 1024]⟩
abbrev S512x256 : Shape := ⟨2, ![512, 256]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S256x1024, .f32⟩
  | .hbm, ⟨4, _⟩ => ⟨S1024x1024, .f32⟩
  | .hbm, ⟨5, _⟩ => ⟨S256x1024, .bf16⟩
  | .hbm, ⟨6, _⟩ => ⟨S1024x1024, .bf16⟩
  | .hbm, ⟨7, _⟩ => ⟨S8192x1024, .f32⟩
  | .hbm, ⟨8, _⟩ => ⟨S256x1024, .f32⟩
  | .hbm, ⟨9, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S256x1024, .f32⟩
  | .local _ .vmem, ⟨11, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PleRefIdeal.lean ====
abbrev S8192x1024 : Shape := ⟨2, ![8192, 1024]⟩
abbrev S8192x256 : Shape := ⟨2, ![8192, 256]⟩
abbrev S256x1024 : Shape := ⟨2, ![256, 1024]⟩
abbrev S1024x1024 : Shape := ⟨2, ![1024, 1024]⟩
abbrev S_ : Shape := ⟨0, ![]⟩
abbrev S1024x256 : Shape := ⟨2, ![1024, 256]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S256x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1024x1024, .f32⟩
  | .hbm, ⟨26, _⟩ => ⟨S1024x1024, .f32⟩
  | .hbm, ⟨27, _⟩ => ⟨S8192x1024, .f32⟩
  | .hbm, ⟨28, _⟩ => ⟨S8192x1024, .f32⟩
  | .hbm, ⟨29, _⟩ => ⟨S1024x256, .f32⟩
  | .hbm, ⟨30, _⟩ => ⟨S256x1024, .f32⟩
  | .hbm, ⟨31, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Loss.lean ====
abbrev S8192x1024 : Shape := ⟨2, ![8192, 1024]⟩
abbrev S8192x256 : Shape := ⟨2, ![8192, 256]⟩
abbrev S256x1024 : Shape := ⟨2, ![256, 1024]⟩
abbrev S1024x1024 : Shape := ⟨2, ![1024, 1024]⟩
abbrev S1x1 : Shape := ⟨2, ![1, 1]⟩
abbrev S512x1024 : Shape := ⟨2, ![512, 1024]⟩
abbrev S512x256 : Shape := ⟨2, ![512, 256]⟩
abbrev S1024 : Shape := ⟨1, ![1024]⟩
abbrev S1x1024 : Shape := ⟨2, ![1, 1024]⟩
abbrev S1 : Shape := ⟨1, ![1]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S256x1024, .f32⟩
  | .hbm, ⟨4, _⟩ => ⟨S1024x1024, .f32⟩
  | .hbm, ⟨5, _⟩ => ⟨S256x1024, .bf16⟩
  | .hbm, ⟨6, _⟩ => ⟨S1024x1024, .bf16⟩
  | .hbm, ⟨7, _⟩ => ⟨S8192x1024, .f32⟩
  | .hbm, ⟨8, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S256x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8192x1024 : Shape := ⟨2, ![8192, 1024]⟩
abbrev S8192x256 : Shape := ⟨2, ![8192, 256]⟩
abbrev S256x1024 : Shape := ⟨2, ![256, 1024]⟩
abbrev S1024x1024 : Shape := ⟨2, ![1024, 1024]⟩
abbrev S_ : Shape := ⟨0, ![]⟩
abbrev S8192 : Shape := ⟨1, ![8192]⟩
abbrev S1x1 : Shape := ⟨2, ![1, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S256x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S8192x1024, .f32⟩
  | .hbm, ⟨39, _⟩ => ⟨S8192x1024, .f32⟩
  | .hbm, ⟨40, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_cst_7 : Ref sig .tc := ⟨.hbm, 32, rfl⟩
abbrev main_v19 : Ref sig .tc := ⟨.hbm, 33, rfl⟩
abbrev main_v20 : Ref sig .tc := ⟨.hbm, 34, rfl⟩
abbrev main_cst_8 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Bl.lean ====
abbrev S8192x1024 : Shape := ⟨2, ![8192, 1024]⟩
abbrev S8192x1280 : Shape := ⟨2, ![8192, 1280]⟩
abbrev S1280x1024 : Shape := ⟨2, ![1280, 1024]⟩
abbrev S512x1024 : Shape := ⟨2, ![512, 1024]⟩
abbrev S512x1280 : Shape := ⟨2, ![512, 1280]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1280, .f32⟩
  | .hbm, ⟨2, _⟩ => ⟨S8192x1280, .f32⟩
  | .hbm, ⟨3, _⟩ => ⟨S1280x1024, .f32⟩
  | .hbm, ⟨4, _⟩ => ⟨S8192x1280, .bf16⟩
  | .hbm, ⟨5, _⟩ => ⟨S1280x1024, .bf16⟩
  | .hbm, ⟨6, _⟩ => ⟨S8192x1024, .bf16⟩
  | .hbm, ⟨7, _⟩ => ⟨S8192x1280, .f32⟩
  | .hbm, ⟨8, _⟩ => ⟨S8192x1280, .bf16⟩
  | .hbm, ⟨9, _⟩ => ⟨S1280x1024, .f32⟩
  | .local _ .vmem, ⟨0, _⟩ => ⟨S512x1024, .bf16⟩
  | .local _ .vmem, ⟨1, _⟩ => ⟨S512x1024, .bf16⟩
  | .local _ .vmem, ⟨2, _⟩ => ⟨S512x1280, .f32⟩
  | .local _ .vmem, ⟨3, _⟩ => ⟨S512x1280, .f32⟩
  | .local _ .vmem, ⟨4, _⟩ => ⟨S512x1280, .bf16⟩
  | .local _ .vmem, ⟨5, _⟩ => ⟨S512x1280, .bf16⟩
  | .local _ .vmem, ⟨6, _⟩ => ⟨S1280x1024, .bf16⟩
  | .local _ .vmem, ⟨7, _⟩ => ⟨S512x1280, .f32⟩
  | .local _ .vmem, ⟨8, _⟩ => ⟨S512x1280, .f32⟩
  | .local _ .vmem, ⟨9, _⟩ => ⟨S512x1280, .bf16⟩
  | .local _ .vmem, ⟨10, _⟩ => ⟨S512x1280, .bf16⟩
  | .local _ .vmem, ⟨11, _⟩ => ⟨S1280x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1280x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1280x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BlRefIdeal.lean ====
abbrev S8192x1024 : Shape := ⟨2, ![8192, 1024]⟩
abbrev S8192x1280 : Shape := ⟨2, ![8192, 1280]⟩
abbrev S1280x1024 : Shape := ⟨2, ![1280, 1024]⟩
abbrev S_ : Shape := ⟨0, ![]⟩
abbrev S1024x1280 : Shape := ⟨2, ![1024, 1280]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1280, .f32⟩
  | .hbm, ⟨2, _⟩ => ⟨S8192x1280, .f32⟩
  | .hbm, ⟨3, _⟩ => ⟨S1280x1024, .f32⟩
  | .hbm, ⟨4, _⟩ => ⟨S8192x1280, .f32⟩
  | .hbm, ⟨5, _⟩ => ⟨S8192x1280, .f32⟩
  | .hbm, ⟨6, _⟩ => ⟨S_, .f32⟩
  | .hbm, ⟨7, _⟩ => ⟨S8192x1280, .f32⟩
  | .hbm, ⟨8, _⟩ => ⟨S8192x1280, .f32⟩
  | .hbm, ⟨9, _⟩ => ⟨S_, .f32⟩
  | .hbm, ⟨10, _⟩ => ⟨S8192x1280, .f32⟩
  | .hbm, ⟨11, _⟩ => ⟨S8192x1280, .f32⟩
  | .hbm, ⟨12, _⟩ => ⟨S_, .f32⟩
  | .hbm, ⟨13, _⟩ => ⟨S8192x1280, .f32⟩
  | .hbm, ⟨14, _⟩ => ⟨S8192x1280, .f32⟩
  | .hbm, ⟨15, _⟩ => ⟨S8192x1280, .f32⟩
  | .hbm, ⟨16, _⟩ => ⟨S8192x1280, .f32⟩
  | .hbm, ⟨17, _⟩ => ⟨S8192x1280, .f32⟩
  | .hbm, ⟨18, _⟩ => ⟨S8192x1024, .f32⟩
  | .hbm, ⟨19, _⟩ => ⟨S1024x1280, .f32⟩
  | .hbm, ⟨20, _⟩ => ⟨S1280x1024, .f32⟩
  | .hbm, ⟨21, _⟩ => ⟨S8192x1280, .f32⟩
  | .hbm, ⟨22, _⟩ => ⟨S8192x1280, .f32⟩
  | .hbm, ⟨23, _⟩ => ⟨S8192x1280, .f32⟩
  | .hbm, ⟨24, _⟩ => ⟨S8192x1280, .f32⟩
  | .hbm, ⟨25, _⟩ => ⟨S8192x1280, .f32⟩
  | .hbm, ⟨26, _⟩ => ⟨S8192x1280, .f32⟩
  | .hbm, ⟨27, _⟩ => ⟨S8192x1280, .f32⟩
  | .hbm, ⟨28, _⟩ => ⟨S8192x1280, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== Conv.lean ====
abbrev S8192x1280 : Shape := ⟨2, ![8192, 1280]⟩
abbrev S4x1280 : Shape := ⟨2, ![4, 1280]⟩
abbrev S1x1280 : Shape := ⟨2, ![1, 1280]⟩
abbrev S512x1280 : Shape := ⟨2, ![512, 1280]⟩
abbrev S16x1280 : Shape := ⟨2, ![16, 1280]⟩
abbrev S8x1280 : Shape := ⟨2, ![8, 1280]⟩
abbrev S1280 : Shape := ⟨1, ![1280]⟩
abbrev S504x1280 : Shape := ⟨2, ![504, 1280]⟩

abbrev nBuf : Space → Nat
  | .hbm => 8
  | .vmem => 13
  | .smem => 0
  | _ => 0

abbrev bufTy : (tb : Table) → Fin (tcTables nBuf tb) → BufTy
  | .hbm, ⟨0, _⟩ => ⟨S8192x1280, .f32⟩
  | .hbm, ⟨1, _⟩ => ⟨S8192x1280, .f32⟩
  | .hbm, ⟨2, _⟩ => ⟨S4x1280, .f32⟩
  | .hbm, ⟨3, _⟩ => ⟨S8192x1280, .bf16⟩
  | .hbm, ⟨4, _⟩ => ⟨S8192x1280, .bf16⟩
  | .hbm, ⟨5, _⟩ => ⟨S8192x1280, .bf16⟩
  | .hbm, ⟨6, _⟩ => ⟨S4x1280, .f32⟩
  | .hbm, ⟨7, _⟩ => ⟨S1x1280, .f32⟩
  | .local _ .vmem, ⟨0, _⟩ => ⟨S512x1280, .bf16⟩
  | .local _ .vmem, ⟨1, _⟩ => ⟨S512x1280, .bf16⟩
  | .local _ .vmem, ⟨2, _⟩ => ⟨S16x1280, .bf16⟩
  | .local _ .vmem, ⟨3, _⟩ => ⟨S16x1280, .bf16⟩
  | .local _ .vmem, ⟨4, _⟩ => ⟨S512x1280, .bf16⟩
  | .local _ .vmem, ⟨5, _⟩ => ⟨S512x1280, .bf16⟩
  | .local _ .vmem, ⟨6, _⟩ => ⟨S16x1280, .bf16⟩
  | .local _ .vmem, ⟨7, _⟩ => ⟨S16x1280, .bf16⟩
  | .local _ .vmem, ⟨8, _⟩ => ⟨S4x1280, .f32⟩
  | .local _ .vmem, ⟨9, _⟩ => ⟨S512x1280, .bf16⟩
  | .local _ .vmem, ⟨10, _⟩ => ⟨S512x1280, .bf16⟩
  | .local _ .vmem, ⟨11, _⟩ => ⟨S4x1280, .f32⟩
  | .local _ .vmem, ⟨12, _⟩ => ⟨S1x1280, .f32⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvRefIdeal.lean ====
abbrev S8192x1280 : Shape := ⟨2, ![8192, 1280]⟩
abbrev S4x1280 : Shape := ⟨2, ![4, 1280]⟩
abbrev S_ : Shape := ⟨0, ![]⟩
abbrev S1280 : Shape := ⟨1, ![1280]⟩
abbrev S3x1280 : Shape := ⟨2, ![3, 1280]⟩
abbrev S8195x1280 : Shape := ⟨2, ![8195, 1280]⟩
abbrev S1x1280 : Shape := ⟨2, ![1, 1280]⟩

abbrev nBuf : Space → Nat
  | .hbm => 108
  | .vmem => 0
  | .smem => 0
  | _ => 0

abbrev bufTy : (tb : Table) → Fin (tcTables nBuf tb) → BufTy
  | .hbm, ⟨0, _⟩ => ⟨S8192x1280, .f32⟩
  | .hbm, ⟨1, _⟩ => ⟨S8192x1280, .f32⟩
  | .hbm, ⟨2, _⟩ => ⟨S4x1280, .f32⟩
  | .hbm, ⟨3, _⟩ => ⟨S_, .f32⟩
  | .hbm, ⟨4, _⟩ => ⟨S1280, .f32⟩
  | .hbm, ⟨5, _⟩ => ⟨S_, .f32⟩
  | .hbm, ⟨6, _⟩ => ⟨S3x1280, .f32⟩
  | .hbm, ⟨7, _⟩ => ⟨S8195x1280, .f32⟩
  | .hbm, ⟨8, _⟩ => ⟨S_, .f32⟩
  | .hbm, ⟨9, _⟩ => ⟨S3x1280, .f32⟩
  | .hbm, ⟨10, _⟩ => ⟨S8192x1280, .f32⟩
  | .hbm, ⟨11, _⟩ => ⟨S1x1280, .f32⟩
  | .hbm, ⟨12, _⟩ => ⟨S1280, .f32⟩
  | .hbm, ⟨13, _⟩ => ⟨S1x1280, .f32⟩
  | .hbm, ⟨14, _⟩ => ⟨S8192x1280, .f32⟩
  | .hbm, ⟨15, _⟩ => ⟨S8192x1280, .f32⟩
  | .hbm, ⟨16, _⟩ => ⟨S8192x1280, .f32⟩
  | .hbm, ⟨17, _⟩ => ⟨S1x1280, .f32⟩
  | .hbm, ⟨18, _⟩ => ⟨S1280, .f32⟩
  | .hbm, ⟨19, _⟩ => ⟨S1x1280, .f32⟩
  | .hbm, ⟨20, _⟩ => ⟨S8192x1280, .f32⟩
  | .hbm, ⟨21, _⟩ => ⟨S8192x1280, .f32⟩
  | .hbm, ⟨22, _⟩ => ⟨S8192x1280, .f32⟩
  | .hbm, ⟨23, _⟩ => ⟨S8192x1280, .f32⟩
  | .hbm, ⟨24, _⟩ => ⟨S1x1280, .f32⟩
  | .hbm, ⟨25, _⟩ => ⟨S1280, .f32⟩
  | .hbm, ⟨26, _⟩ => ⟨S1x1280, .f32⟩
  | .hbm, ⟨27, _⟩ => ⟨S8192x1280, .f32⟩
  | .hbm, ⟨28, _⟩ => ⟨S8192x1280, .f32⟩
  | .hbm, ⟨29, _⟩ => ⟨S8192x1280, .f32⟩
  | .hbm, ⟨30, _⟩ => ⟨S8192x1280, .f32⟩
  | .hbm, ⟨31, _⟩ => ⟨S1x1280, .f32⟩
  | .hbm, ⟨32, _⟩ => ⟨S1280, .f32⟩
  | .hbm, ⟨33, _⟩ => ⟨S1x1280, .f32⟩
  | .hbm, ⟨34, _⟩ => ⟨S8192x1280, .f32⟩
  | .hbm, ⟨35, _⟩ => ⟨S8192x1280, .f32⟩
  | .hbm, ⟨36, _⟩ => ⟨S8192x1280, .f32⟩
  | .hbm, ⟨37, _⟩ => ⟨S1x1280, .f32⟩
  | .hbm, ⟨38, _⟩ => ⟨S8192x1280, .f32⟩
  | .hbm, ⟨39, _⟩ => ⟨S8192x1280, .f32⟩
  | .hbm, ⟨40, _⟩ => ⟨S8192x1280, .f32⟩
  | .hbm, ⟨41, _⟩ => ⟨S_, .f32⟩
  | .hbm, ⟨42, _⟩ => ⟨S1280, .f32⟩
  | .hbm, ⟨43, _⟩ => ⟨S1x1280, .f32⟩
  | .hbm, ⟨44, _⟩ => ⟨S_, .f32⟩
  | .hbm, ⟨45, _⟩ => ⟨S1280, .f32⟩
  | .hbm, ⟨46, _⟩ => ⟨S8192x1280, .f32⟩
  | .hbm, ⟨47, _⟩ => ⟨S_, .f32⟩
  | .hbm, ⟨48, _⟩ => ⟨S1280, .f32⟩
  | .hbm, ⟨49, _⟩ => ⟨S1x1280, .f32⟩
  | .hbm, ⟨50, _⟩ => ⟨S8192x1280, .f32⟩
  | .hbm, ⟨51, _⟩ => ⟨S8192x1280, .f32⟩
  | .hbm, ⟨52, _⟩ => ⟨S_, .f32⟩
  | .hbm, ⟨53, _⟩ => ⟨S1280, .f32⟩
  | .hbm, ⟨54, _⟩ => ⟨S1x1280, .f32⟩
  | .hbm, ⟨55, _⟩ => ⟨S_, .f32⟩
  | .hbm, ⟨56, _⟩ => ⟨S4x1280, .f32⟩
  | .hbm, ⟨57, _⟩ => ⟨S_, .f32⟩
  | .hbm, ⟨58, _⟩ => ⟨S8195x1280, .f32⟩
  | .hbm, ⟨59, _⟩ => ⟨S8192x1280, .f32⟩
  | .hbm, ⟨60, _⟩ => ⟨S_, .f32⟩
  | .hbm, ⟨61, _⟩ => ⟨S1280, .f32⟩
  | .hbm, ⟨62, _⟩ => ⟨S1x1280, .f32⟩
  | .hbm, ⟨63, _⟩ => ⟨S8192x1280, .f32⟩
  | .hbm, ⟨64, _⟩ => ⟨S8192x1280, .f32⟩
  | .hbm, ⟨65, _⟩ => ⟨S_, .f32⟩
  | .hbm, ⟨66, _⟩ => ⟨S1280, .f32⟩
  | .hbm, ⟨67, _⟩ => ⟨S1x1280, .f32⟩
  | .hbm, ⟨68, _⟩ => ⟨S_, .f32⟩
  | .hbm, ⟨69, _⟩ => ⟨S4x1280, .f32⟩
  | .hbm, ⟨70, _⟩ => ⟨S4x1280, .f32⟩
  | .hbm, ⟨71, _⟩ => ⟨S_, .f32⟩
  | .hbm, ⟨72, _⟩ => ⟨S8195x1280, .f32⟩
  | .hbm, ⟨73, _⟩ => ⟨S8195x1280, .f32⟩
  | .hbm, ⟨74, _⟩ => ⟨S8192x1280, .f32⟩
  | .hbm, ⟨75, _⟩ => ⟨S_, .f32⟩
  | .hbm, ⟨76, _⟩ => ⟨S1280, .f32⟩
  | .hbm, ⟨77, _⟩ => ⟨S1x1280, .f32⟩
  | .hbm, ⟨78, _⟩ => ⟨S8192x1280, .f32⟩
  | .hbm, ⟨79, _⟩ => ⟨S8192x1280, .f32⟩
  | .hbm, ⟨80, _⟩ => ⟨S_, .f32⟩
  | .hbm, ⟨81, _⟩ => ⟨S1280, .f32⟩
  | .hbm, ⟨82, _⟩ => ⟨S1x1280, .f32⟩
  | .hbm, ⟨83, _⟩ => ⟨S_, .f32⟩
  | .hbm, ⟨84, _⟩ => ⟨S4x1280, .f32⟩
  | .hbm, ⟨85, _⟩ => ⟨S4x1280, .f32⟩
  | .hbm, ⟨86, _⟩ => ⟨S_, .f32⟩
  | .hbm, ⟨87, _⟩ => ⟨S8195x1280, .f32⟩
  | .hbm, ⟨88, _⟩ => ⟨S8195x1280, .f32⟩
  | .hbm, ⟨89, _⟩ => ⟨S8192x1280, .f32⟩
  | .hbm, ⟨90, _⟩ => ⟨S_, .f32⟩
  | .hbm, ⟨91, _⟩ => ⟨S1280, .f32⟩
  | .hbm, ⟨92, _⟩ => ⟨S1x1280, .f32⟩
  | .hbm, ⟨93, _⟩ => ⟨S8192x1280, .f32⟩
  | .hbm, ⟨94, _⟩ => ⟨S8192x1280, .f32⟩
  | .hbm, ⟨95, _⟩ => ⟨S_, .f32⟩
  | .hbm, ⟨96, _⟩ => ⟨S1280, .f32⟩
  | .hbm, ⟨97, _⟩ => ⟨S1x1280, .f32⟩
  | .hbm, ⟨98, _⟩ => ⟨S_, .f32⟩
  | .hbm, ⟨99, _⟩ => ⟨S4x1280, .f32⟩
  | .hbm, ⟨100, _⟩ => ⟨S4x1280, .f32⟩
  | .hbm, ⟨101, _⟩ => ⟨S_, .f32⟩
  | .hbm, ⟨102, _⟩ => ⟨S8195x1280, .f32⟩
  | .hbm, ⟨103, _⟩ => ⟨S8195x1280, .f32⟩
  | .hbm, ⟨104, _⟩ => ⟨S3x1280, .f32⟩
  | .hbm, ⟨105, _⟩ => ⟨S8192x1280, .f32⟩
  | .hbm, ⟨106, _⟩ => ⟨S8192x1280, .bf16⟩
  | .hbm, ⟨107, _⟩ => ⟨S1x1280, .f32⟩
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_13 : Ref sig .tc := ⟨.hbm, 80, rfl⟩
abbrev main_v63 : Ref sig .tc := ⟨.hbm, 81, rfl⟩
abbrev main_v64 : Ref sig .tc := ⟨.hbm, 82, rfl⟩
abbrev main_cst_14 : Ref sig .tc := ⟨.hbm, 83, rfl⟩
abbrev main_v65 : Ref sig .tc := ⟨.hbm, 84, rfl⟩
abbrev main_v66 : Ref sig .tc := ⟨.hbm, 85, rfl⟩
abbrev main_cst_15 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_16 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_17 : Ref sig .tc := ⟨.hbm, 95, rfl⟩
abbrev main_v74 : Ref sig .tc := ⟨.hbm, 96, rfl⟩
abbrev main_v75 : Ref sig .tc := ⟨.hbm, 97, rfl⟩
abbrev main_cst_18 : Ref sig .tc := ⟨.hbm, 98, rfl⟩
abbrev main_v76 : Ref sig .tc := ⟨.hbm, 99, rfl⟩
abbrev main_v77 : Ref sig .tc := ⟨.hbm, 100, rfl⟩
abbrev main_cst_19 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩

abbrev nD : Nat := 1
abbrev τ : Topo := Topo.v7x

variable {F : FTy → Type} [FloatOps F]
-- ==== S5post.lean ====
abbrev S8192x1024 : Shape := ⟨2, ![8192, 1024]⟩
abbrev S8192x512 : Shape := ⟨2, ![8192, 512]⟩
abbrev S512x1024 : Shape := ⟨2, ![512, 1024]⟩
abbrev S512x512 : Shape := ⟨2, ![512, 512]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S512x1024, .f32⟩
  | .hbm, ⟨4, _⟩ => ⟨S512x1024, .f32⟩
  | .hbm, ⟨5, _⟩ => ⟨S8192x512, .bf16⟩
  | .hbm, ⟨6, _⟩ => ⟨S512x1024, .bf16⟩
  | .hbm, ⟨7, _⟩ => ⟨S512x1024, .bf16⟩
  | .hbm, ⟨8, _⟩ => ⟨S8192x1024, .bf16⟩
  | .hbm, ⟨9, _⟩ => ⟨S8192x512, .f32⟩
  | .hbm, ⟨10, _⟩ => ⟨S8192x512, .bf16⟩
  | .hbm, ⟨11, _⟩ => ⟨S512x1024, .f32⟩
  | .hbm, ⟨12, _⟩ => ⟨S512x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== S5postIdeal.lean ====
variable {F : FTy → Type} [FloatOps F] [Named F]
def κ : String → Option EReal := fun
  | "gelu_c" => some ((8943 / 200000 : ℝ) : EReal)
  | "gelu_c3" => some ((26829 / 200000 : ℝ) : EReal)
  | _ => none
-- ==== S5postRefIdeal.lean ====
abbrev S8192x1024 : Shape := ⟨2, ![8192, 1024]⟩
abbrev S8192x512 : Shape := ⟨2, ![8192, 512]⟩
abbrev S512x1024 : Shape := ⟨2, ![512, 1024]⟩
abbrev S_ : Shape := ⟨0, ![]⟩
abbrev S1024x512 : Shape := ⟨2, ![1024, 512]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S512x1024, .f32⟩
  | .hbm, ⟨4, _⟩ => ⟨S512x1024, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x1024, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S8192x512, .f32⟩
  | .hbm, ⟨59, _⟩ => ⟨S8192x512, .f32⟩
  | .hbm, ⟨60, _⟩ => ⟨S_, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x1024, .f32⟩
  | .hbm, ⟨67, _⟩ => ⟨S1024x512, .f32⟩
  | .hbm, ⟨68, _⟩ => ⟨S512x1024, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x1024, .f32⟩
  | .hbm, ⟨80, _⟩ => ⟨S1024x512, .f32⟩
  | .hbm, ⟨81, _⟩ => ⟨S512x1024, .f32⟩
  | .hbm, ⟨82, _⟩ => ⟨S8192x512, .f32⟩
  | .hbm, ⟨83, _⟩ => ⟨S8192x512, .f32⟩
  | .hbm, ⟨84, _⟩ => ⟨S8192x512, .f32⟩
  | .hbm, ⟨85, _⟩ => ⟨S_, .f32⟩
  | .hbm, ⟨86, _⟩ => ⟨S8192x512, .f32⟩
  | .hbm, ⟨87, _⟩ => ⟨S8192x512, .f32⟩
  | .hbm, ⟨88, _⟩ => ⟨S8192x512, .f32⟩
  | .hbm, ⟨89, _⟩ => ⟨S_, .f32⟩
  | .hbm, ⟨90, _⟩ => ⟨S8192x512, .f32⟩
  | .hbm, ⟨91, _⟩ => ⟨S8192x512, .f32⟩
  | .hbm, ⟨92, _⟩ => ⟨S8192x512, .f32⟩
  | .hbm, ⟨93, _⟩ => ⟨S_, .f32⟩
  | .hbm, ⟨94, _⟩ => ⟨S8192x512, .f32⟩
  | .hbm, ⟨95, _⟩ => ⟨S8192x512, .f32⟩
  | .hbm, ⟨96, _⟩ => ⟨S_, .f32⟩
  | .hbm, ⟨97, _⟩ => ⟨S8192x512, .f32⟩
  | .hbm, ⟨98, _⟩ => ⟨S8192x512, .f32⟩
  | .hbm, ⟨99, _⟩ => ⟨S8192x512, .f32⟩
  | .hbm, ⟨100, _⟩ => ⟨S8192x512, .f32⟩
  | .hbm, ⟨101, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v36_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v36_1 : Ref sig .tc := ⟨.hbm, 63, rfl⟩
abbrev main_v36_0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_12 : Ref sig .tc := ⟨.hbm, 93, rfl⟩
abbrev main_v60 : Ref sig .tc := ⟨.hbm, 94, rfl⟩
abbrev main_v61 : Ref sig .tc := ⟨.hbm, 95, rfl⟩
abbrev main_cst_13 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩

abbrev nD : Nat := 1
abbrev τ : Topo := Topo.v7x

variable {F : FTy → Type} [FloatOps F]
-- ==== Merge.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S512x1024 : Shape := ⟨2, ![512, 1024]⟩
abbrev S512 : Shape := ⟨1, ![512]⟩
abbrev S512x1 : Shape := ⟨2, ![512, 1]⟩

abbrev nBuf : Space → Nat
  | .hbm => 40
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S8192x1024, .bf16⟩
  | .hbm, ⟨31, _⟩ => ⟨S8192x1024, .bf16⟩
  | .hbm, ⟨32, _⟩ => ⟨S8192x1024, .bf16⟩
  | .hbm, ⟨33, _⟩ => ⟨S8192x1024, .bf16⟩
  | .hbm, ⟨34, _⟩ => ⟨S8192x1024, .bf16⟩
  | .hbm, ⟨35, _⟩ => ⟨S8192x1024, .bf16⟩
  | .hbm, ⟨36, _⟩ => ⟨S8192x1024, .bf16⟩
  | .hbm, ⟨37, _⟩ => ⟨S8192x1024, .bf16⟩
  | .hbm, ⟨38, _⟩ => ⟨S1024x1024, .f32⟩
  | .hbm, ⟨39, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S1024x1024, .f32⟩
  | .local _ .vmem, ⟨23, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev main_v23_4 : Ref sig .tc := ⟨.hbm, 38, rfl⟩
abbrev main_v23_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MergeRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S1024x1024, .f32⟩
  | .hbm, ⟨81, _⟩ => ⟨S1024x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .bf16⟩
  | .hbm, ⟨90, _⟩ => ⟨S8192x1024, .bf16⟩
  | .hbm, ⟨91, _⟩ => ⟨S8192x1024, .bf16⟩
  | .hbm, ⟨92, _⟩ => ⟨S8192x1024, .bf16⟩
  | .hbm, ⟨93, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== In.lean ====
abbrev S8192x1024 : Shape := ⟨2, ![8192, 1024]⟩
abbrev S8192x512 : Shape := ⟨2, ![8192, 512]⟩
abbrev S8192x1280 : Shape := ⟨2, ![8192, 1280]⟩
abbrev S1024 : Shape := ⟨1, ![1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S1x1024 : Shape := ⟨2, ![1, 1024]⟩
abbrev S256x1024 : Shape := ⟨2, ![256, 1024]⟩
abbrev S256x512 : Shape := ⟨2, ![256, 512]⟩
abbrev S256x1280 : Shape := ⟨2, ![256, 1280]⟩
abbrev S1x1024x1408 : Shape := ⟨3, ![1, 1024, 1408]⟩
abbrev S1024x1408 : Shape := ⟨2, ![1024, 1408]⟩
abbrev S256x5632 : Shape := ⟨2, ![256, 5632]⟩
abbrev S256x1408 : Shape := ⟨2, ![256, 1408]⟩
abbrev S256 : Shape := ⟨1, ![256]⟩
abbrev S256x1 : Shape := ⟨2, ![256, 1]⟩

abbrev nBuf : Space → Nat
  | .hbm => 22
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x1280, .f32⟩
  | .hbm, ⟨5, _⟩ => ⟨S8192x1280, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S1024x5632, .f32⟩
  | .hbm, ⟨10, _⟩ => ⟨S1024x5632, .bf16⟩
  | .hbm, ⟨11, _⟩ => ⟨S1024x4x1408, .bf16⟩
  | .hbm, ⟨12, _⟩ => ⟨S4x1024x1408, .bf16⟩
  | .hbm, ⟨13, _⟩ => ⟨S1x1024, .f32⟩
  | .hbm, ⟨14, _⟩ => ⟨S8192x512, .bf16⟩
  | .hbm, ⟨15, _⟩ => ⟨S8192x512, .bf16⟩
  | .hbm, ⟨16, _⟩ => ⟨S8192x1280, .bf16⟩
  | .hbm, ⟨17, _⟩ => ⟨S8192x1280, .bf16⟩
  | .hbm, ⟨18, _⟩ => ⟨S8192x1024, .bf16⟩
  | .hbm, ⟨19, _⟩ => ⟨S8192x1024, .bf16⟩
  | .hbm, ⟨20, _⟩ => ⟨S8192x1024, .f32⟩
  | .hbm, ⟨21, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x1280, .bf16⟩
  | .local _ .vmem, ⟨10, _⟩ => ⟨S256x1280, .bf16⟩
  | .local _ .vmem, ⟨11, _⟩ => ⟨S256x1280, .bf16⟩
  | .local _ .vmem, ⟨12, _⟩ => ⟨S256x1280, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S1x1024x1408, .bf16⟩
  | .local _ .vmem, ⟨18, _⟩ => ⟨S1x1024x1408, .bf16⟩
  | .local _ .vmem, ⟨19, _⟩ => ⟨S1x1024x1408, .bf16⟩
  | .local _ .vmem, ⟨20, _⟩ => ⟨S1x1024x1408, .bf16⟩
  | .local _ .vmem, ⟨21, _⟩ => ⟨S256x1024, .f32⟩
  | .local _ .vmem, ⟨22, _⟩ => ⟨S256x1024, .f32⟩
  | .local _ .vmem, ⟨23, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024x1408 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1408 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1408 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x1408 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== InRefIdeal.lean ====
abbrev S8192x1024 : Shape := ⟨2, ![8192, 1024]⟩
abbrev S8192x512 : Shape := ⟨2, ![8192, 512]⟩
abbrev S8192x1280 : Shape := ⟨2, ![8192, 1280]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S5632x1024 : Shape := ⟨2, ![5632, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x1280, .f32⟩
  | .hbm, ⟨5, _⟩ => ⟨S8192x1280, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S1024x5632, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x5632, .f32⟩
  | .hbm, ⟨31, _⟩ => ⟨S8192x512, .f32⟩
  | .hbm, ⟨32, _⟩ => ⟨S8192x512, .f32⟩
  | .hbm, ⟨33, _⟩ => ⟨S8192x1280, .f32⟩
  | .hbm, ⟨34, _⟩ => ⟨S8192x1280, .f32⟩
  | .hbm, ⟨35, _⟩ => ⟨S8192x1024, .f32⟩
  | .hbm, ⟨36, _⟩ => ⟨S8192x1024, .f32⟩
  | .hbm, ⟨37, _⟩ => ⟨S8192x5632, .f32⟩
  | .hbm, ⟨38, _⟩ => ⟨S5632x1024, .f32⟩
  | .hbm, ⟨39, _⟩ => ⟨S1024x5632, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Gates.lean ====
abbrev S8192x1280 : Shape := ⟨2, ![8192, 1280]⟩
abbrev S4x1280 : Shape := ⟨2, ![4, 1280]⟩
abbrev S1280 : Shape := ⟨1, ![1280]⟩
abbrev S10x128x128 : Shape := ⟨3, ![10, 128, 128]⟩
abbrev S1x1280 : Shape := ⟨2, ![1, 1280]⟩
abbrev S512x1280 : Shape := ⟨2, ![512, 1280]⟩
abbrev S8x1280 : Shape := ⟨2, ![8, 1280]⟩
abbrev S16x1280 : Shape := ⟨2, ![16, 1280]⟩
abbrev S504x1280 : Shape := ⟨2, ![504, 1280]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 23
  | .vmem => 24
  | .smem => 0
  | _ => 0

abbrev bufTy : (tb : Table) → Fin (tcTables nBuf tb) → BufTy
  | .hbm, ⟨0, _⟩ => ⟨S8192x1280, .f32⟩
  | .hbm, ⟨1, _⟩ => ⟨S8192x1280, .f32⟩
  | .hbm, ⟨2, _⟩ => ⟨S8192x1280, .f32⟩
  | .hbm, ⟨3, _⟩ => ⟨S4x1280, .f32⟩
  | .hbm, ⟨4, _⟩ => ⟨S1280, .f32⟩
  | .hbm, ⟨5, _⟩ => ⟨S10x128x128, .f32⟩
  | .hbm, ⟨6, _⟩ => ⟨S1280, .f32⟩
  | .hbm, ⟨7, _⟩ => ⟨S10x128x128, .f32⟩
  | .hbm, ⟨8, _⟩ => ⟨S1280, .f32⟩
  | .hbm, ⟨9, _⟩ => ⟨S1280, .f32⟩
  | .hbm, ⟨10, _⟩ => ⟨S8192x1280, .bf16⟩
  | .hbm, ⟨11, _⟩ => ⟨S1x1280, .f32⟩
  | .hbm, ⟨12, _⟩ => ⟨S10x128x128, .bf16⟩
  | .hbm, ⟨13, _⟩ => ⟨S10x128x128, .bf16⟩
  | .hbm, ⟨14, _⟩ => ⟨S1x1280, .f32⟩
  | .hbm, ⟨15, _⟩ => ⟨S1x1280, .f32⟩
  | .hbm, ⟨16, _⟩ => ⟨S1x1280, .f32⟩
  | .hbm, ⟨17, _⟩ => ⟨S8192x1280, .bf16⟩
  | .hbm, ⟨18, _⟩ => ⟨S10x128x128, .f32⟩
  | .hbm, ⟨19, _⟩ => ⟨S10x128x128, .f32⟩
  | .hbm, ⟨20, _⟩ => ⟨S1x1280, .f32⟩
  | .hbm, ⟨21, _⟩ => ⟨S1x1280, .f32⟩
  | .hbm, ⟨22, _⟩ => ⟨S1x1280, .f32⟩
  | .local _ .vmem, ⟨0, _⟩ => ⟨S512x1280, .f32⟩
  | .local _ .vmem, ⟨1, _⟩ => ⟨S512x1280, .f32⟩
  | .local _ .vmem, ⟨2, _⟩ => ⟨S512x1280, .f32⟩
  | .local _ .vmem, ⟨3, _⟩ => ⟨S512x1280, .f32⟩
  | .local _ .vmem, ⟨4, _⟩ => ⟨S8x1280, .f32⟩
  | .local _ .vmem, ⟨5, _⟩ => ⟨S8x1280, .f32⟩
  | .local _ .vmem, ⟨6, _⟩ => ⟨S512x1280, .bf16⟩
  | .local _ .vmem, ⟨7, _⟩ => ⟨S512x1280, .bf16⟩
  | .local _ .vmem, ⟨8, _⟩ => ⟨S16x1280, .bf16⟩
  | .local _ .vmem, ⟨9, _⟩ => ⟨S16x1280, .bf16⟩
  | .local _ .vmem, ⟨10, _⟩ => ⟨S4x1280, .f32⟩
  | .local _ .vmem, ⟨11, _⟩ => ⟨S1x1280, .f32⟩
  | .local _ .vmem, ⟨12, _⟩ => ⟨S10x128x128, .bf16⟩
  | .local _ .vmem, ⟨13, _⟩ => ⟨S1x1280, .f32⟩
  | .local _ .vmem, ⟨14, _⟩ => ⟨S10x128x128, .bf16⟩
  | .local _ .vmem, ⟨15, _⟩ => ⟨S1x1280, .f32⟩
  | .local _ .vmem, ⟨16, _⟩ => ⟨S1x1280, .f32⟩
  | .local _ .vmem, ⟨17, _⟩ => ⟨S512x1280, .bf16⟩
  | .local _ .vmem, ⟨18, _⟩ => ⟨S512x1280, .bf16⟩
  | .local _ .vmem, ⟨19, _⟩ => ⟨S10x128x128, .f32⟩
  | .local _ .vmem, ⟨20, _⟩ => ⟨S10x128x128, .f32⟩
  | .local _ .vmem, ⟨21, _⟩ => ⟨S1x1280, .f32⟩
  | .local _ .vmem, ⟨22, _⟩ => ⟨S1x1280, .f32⟩
  | .local _ .vmem, ⟨23, _⟩ => ⟨S1x1280, .f32⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1280 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S10x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S10x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1280 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1280 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1280 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== GatesRefIdeal.lean ====
abbrev S8192x1280 : Shape := ⟨2, ![8192, 1280]⟩
abbrev S4x1280 : Shape := ⟨2, ![4, 1280]⟩
abbrev S1280 : Shape := ⟨1, ![1280]⟩
abbrev S10x128x128 : Shape := ⟨3, ![10, 128, 128]⟩
abbrev S_ : Shape := ⟨0, ![]⟩
abbrev S3x1280 : Shape := ⟨2, ![3, 1280]⟩
abbrev S8195x1280 : Shape := ⟨2, ![8195, 1280]⟩
abbrev S1x1280 : Shape := ⟨2, ![1, 1280]⟩
abbrev S8191x1280 : Shape := ⟨2, ![8191, 1280]⟩
abbrev S8192x10x128 : Shape := ⟨3, ![8192, 10, 128]⟩
abbrev S10x128x8192 : Shape := ⟨3, ![10, 128, 8192]⟩
abbrev S10x8192x128 : Shape := ⟨3, ![10, 8192, 128]⟩

abbrev nBuf : Space → Nat
  | .hbm => 213
  | .vmem => 0
  | .smem => 0
  | _ => 0

abbrev hbmTy0_0 (i : Nat) : BufTy := match i % 128 with
  | 0 => ⟨S8192x1280, .f32⟩
  | 1 => ⟨S8192x1280, .f32⟩
  | 2 => ⟨S8192x1280, .f32⟩
  | 3 => ⟨S4x1280, .f32⟩
  | 4 => ⟨S1280, .f32⟩
  | 5 => ⟨S10x128x128, .f32⟩
  | 6 => ⟨S1280, .f32⟩
  | 7 => ⟨S10x128x128, .f32⟩
  | 8 => ⟨S1280, .f32⟩
  | 9 => ⟨S1280, .f32⟩
  | 10 => ⟨S_, .f32⟩
  | 11 => ⟨S3x1280, .f32⟩
  | 12 => ⟨S8195x1280, .f32⟩
  | 13 => ⟨S8192x1280, .f32⟩
  | 14 => ⟨S1x1280, .f32⟩
  | 15 => ⟨S1280, .f32⟩
  | 16 => ⟨S1x1280, .f32⟩
  | 17 => ⟨S8192x1280, .f32⟩
  | 18 => ⟨S8192x1280, .f32⟩
  | 19 => ⟨S8192x1280, .f32⟩
  | 20 => ⟨S1x1280, .f32⟩
  | 21 => ⟨S1280, .f32⟩
  | 22 => ⟨S1x1280, .f32⟩
  | 23 => ⟨S8192x1280, .f32⟩
  | 24 => ⟨S8192x1280, .f32⟩
  | 25 => ⟨S8192x1280, .f32⟩
  | 26 => ⟨S8192x1280, .f32⟩
  | 27 => ⟨S1x1280, .f32⟩
  | 28 => ⟨S1280, .f32⟩
  | 29 => ⟨S1x1280, .f32⟩
  | 30 => ⟨S8192x1280, .f32⟩
  | 31 => ⟨S8192x1280, .f32⟩
  | 32 => ⟨S8192x1280, .f32⟩
  | 33 => ⟨S8192x1280, .f32⟩
  | 34 => ⟨S1x1280, .f32⟩
  | 35 => ⟨S1280, .f32⟩
  | 36 => ⟨S1x1280, .f32⟩
  | 37 => ⟨S8192x1280, .f32⟩
  | 38 => ⟨S8192x1280, .f32⟩
  | 39 => ⟨S8192x1280, .f32⟩
  | 40 => ⟨S1x1280, .f32⟩
  | 41 => ⟨S8192x1280, .f32⟩
  | 42 => ⟨S8192x1280, .f32⟩
  | 43 => ⟨S_, .f32⟩
  | 44 => ⟨S1x1280, .f32⟩
  | 45 => ⟨S8191x1280, .f32⟩
  | 46 => ⟨S8192x1280, .f32⟩
  | 47 => ⟨S8192x10x128, .f32⟩
  | 48 => ⟨S10x128x8192, .f32⟩
  | 49 => ⟨S8192x10x128, .f32⟩
  | 50 => ⟨S8192x1280, .f32⟩
  | 51 => ⟨S1x1280, .f32⟩
  | 52 => ⟨S8192x1280, .f32⟩
  | 53 => ⟨S8192x1280, .f32⟩
  | 54 => ⟨S8192x1280, .f32⟩
  | 55 => ⟨S8192x1280, .f32⟩
  | 56 => ⟨S_, .f32⟩
  | 57 => ⟨S8192x1280, .f32⟩
  | 58 => ⟨S8192x1280, .f32⟩
  | 59 => ⟨S_, .f32⟩
  | 60 => ⟨S8192x1280, .f32⟩
  | 61 => ⟨S8192x1280, .f32⟩
  | 62 => ⟨S_, .f32⟩
  | 63 => ⟨S8192x1280, .f32⟩
  | 64 => ⟨S8192x1280, .f32⟩
  | 65 => ⟨S8192x1280, .f32⟩
  | 66 => ⟨S_, .f32⟩
  | 67 => ⟨S8192x1280, .f32⟩
  | 68 => ⟨S8192x1280, .f32⟩
  | 69 => ⟨S1280, .f32⟩
  | 70 => ⟨S_, .f32⟩
  | 71 => ⟨S1280, .f32⟩
  | 72 => ⟨S1280, .f32⟩
  | 73 => ⟨S1280, .f32⟩
  | 74 => ⟨S1280, .f32⟩
  | 75 => ⟨S1280, .i1⟩
  | 76 => ⟨S1280, .f32⟩
  | 77 => ⟨S1280, .f32⟩
  | 78 => ⟨S1280, .f32⟩
  | 79 => ⟨S1280, .f32⟩
  | 80 => ⟨S1280, .f32⟩
  | 81 => ⟨S1280, .f32⟩
  | 82 => ⟨S1280, .f32⟩
  | 83 => ⟨S1280, .f32⟩
  | 84 => ⟨S_, .f32⟩
  | 85 => ⟨S1280, .f32⟩
  | 86 => ⟨S1280, .i1⟩
  | 87 => ⟨S_, .f32⟩
  | 88 => ⟨S1280, .f32⟩
  | 89 => ⟨S1280, .f32⟩
  | 90 => ⟨S_, .f32⟩
  | 91 => ⟨S1280, .f32⟩
  | 92 => ⟨S1280, .i1⟩
  | 93 => ⟨S_, .f32⟩
  | 94 => ⟨S1280, .f32⟩
  | 95 => ⟨S1280, .f32⟩
  | 96 => ⟨S1280, .f32⟩
  | 97 => ⟨S1280, .f32⟩
  | 98 => ⟨S_, .f32⟩
  | 99 => ⟨S_, .f32⟩
  | 100 => ⟨S_, .i1⟩
  | 101 => ⟨S_, .f32⟩
  | 102 => ⟨S_, .f32⟩
  | 103 => ⟨S_, .f32⟩
  | 104 => ⟨S_, .f32⟩
  | 105 => ⟨S1280, .f32⟩
  | 106 => ⟨S1280, .i1⟩
  | 107 => ⟨S_, .f32⟩
  | 108 => ⟨S1280, .f32⟩
  | 109 => ⟨S1280, .f32⟩
  | 110 => ⟨S1280, .f32⟩
  | 111 => ⟨S1280, .f32⟩
  | 112 => ⟨S1280, .f32⟩
  | 113 => ⟨S_, .f32⟩
  | 114 => ⟨S1280, .f32⟩
  | 115 => ⟨S1280, .f32⟩
  | 116 => ⟨S1x1280, .f32⟩
  | 117 => ⟨S8192x1280, .f32⟩
  | 118 => ⟨S8192x1280, .f32⟩
  | 119 => ⟨S8192x10x128, .f32⟩
  | 120 => ⟨S10x128x8192, .f32⟩
  | 121 => ⟨S8192x10x128, .f32⟩
  | 122 => ⟨S8192x1280, .f32⟩
  | 123 => ⟨S1x1280, .f32⟩
  | 124 => ⟨S8192x1280, .f32⟩
  | 125 => ⟨S8192x1280, .f32⟩
  | 126 => ⟨S8192x1280, .f32⟩
  | 127 => ⟨S8192x1280, .f32⟩
  | _ => ⟨S8192x1280, .f32⟩

abbrev hbmTy0_1 (i : Nat) : BufTy := match i % 128 with
  | 0 => ⟨S_, .f32⟩
  | 1 => ⟨S8192x1280, .f32⟩
  | 2 => ⟨S8192x1280, .f32⟩
  | 3 => ⟨S_, .f32⟩
  | 4 => ⟨S8192x1280, .f32⟩
  | 5 => ⟨S8192x1280, .f32⟩
  | 6 => ⟨S_, .f32⟩
  | 7 => ⟨S8192x1280, .f32⟩
  | 8 => ⟨S8192x1280, .f32⟩
  | 9 => ⟨S8192x1280, .f32⟩
  | 10 => ⟨S8192x1280, .f32⟩
  | 11 => ⟨S_, .f32⟩
  | 12 => ⟨S8192x1280, .f32⟩
  | 13 => ⟨S8192x1280, .f32⟩
  | 14 => ⟨S8192x1280, .f32⟩
  | 15 => ⟨S8192x1280, .f32⟩
  | 16 => ⟨S8192x1280, .f32⟩
  | 17 => ⟨S8192x1280, .f32⟩
  | 18 => ⟨S_, .f32⟩
  | 19 => ⟨S8192x1280, .f32⟩
  | 20 => ⟨S8192x1280, .f32⟩
  | 21 => ⟨S8192x1280, .f32⟩
  | 22 => ⟨S8192x1280, .f32⟩
  | 23 => ⟨S8192x1280, .f32⟩
  | 24 => ⟨S8192x1280, .f32⟩
  | 25 => ⟨S8192x1280, .f32⟩
  | 26 => ⟨S8192x1280, .f32⟩
  | 27 => ⟨S8192x1280, .f32⟩
  | 28 => ⟨S8192x1280, .f32⟩
  | 29 => ⟨S8192x1280, .f32⟩
  | 30 => ⟨S8192x1280, .f32⟩
  | 31 => ⟨S8192x1280, .f32⟩
  | 32 => ⟨S8192x1280, .f32⟩
  | 33 => ⟨S8192x1280, .f32⟩
  | 34 => ⟨S8192x1280, .f32⟩
  | 35 => ⟨S_, .f32⟩
  | 36 => ⟨S8192x1280, .f32⟩
  | 37 => ⟨S8192x1280, .f32⟩
  | 38 => ⟨S8192x1280, .f32⟩
  | 39 => ⟨S8192x1280, .f32⟩
  | 40 => ⟨S8192x1280, .f32⟩
  | 41 => ⟨S_, .f32⟩
  | 42 => ⟨S1280, .f32⟩
  | 43 => ⟨S1x1280, .f32⟩
  | 44 => ⟨S_, .f32⟩
  | 45 => ⟨S1280, .f32⟩
  | 46 => ⟨S8192x10x128, .f32⟩
  | 47 => ⟨S10x128x8192, .f32⟩
  | 48 => ⟨S10x8192x128, .f32⟩
  | 49 => ⟨S8192x10x128, .f32⟩
  | 50 => ⟨S10x128x128, .f32⟩
  | 51 => ⟨S10x128x128, .f32⟩
  | 52 => ⟨S8192x1280, .f32⟩
  | 53 => ⟨S8192x1280, .f32⟩
  | 54 => ⟨S8192x1280, .f32⟩
  | 55 => ⟨S_, .f32⟩
  | 56 => ⟨S1280, .f32⟩
  | 57 => ⟨S1x1280, .f32⟩
  | 58 => ⟨S8192x1280, .f32⟩
  | 59 => ⟨S8192x1280, .f32⟩
  | 60 => ⟨S_, .f32⟩
  | 61 => ⟨S1280, .f32⟩
  | 62 => ⟨S1280, .f32⟩
  | 63 => ⟨S1280, .f32⟩
  | 64 => ⟨S_, .f32⟩
  | 65 => ⟨S8192x1280, .f32⟩
  | 66 => ⟨S8192x1280, .f32⟩
  | 67 => ⟨S8192x1280, .f32⟩
  | 68 => ⟨S_, .f32⟩
  | 69 => ⟨S1280, .f32⟩
  | 70 => ⟨S1x1280, .f32⟩
  | 71 => ⟨S_, .f32⟩
  | 72 => ⟨S1280, .f32⟩
  | 73 => ⟨S8192x10x128, .f32⟩
  | 74 => ⟨S10x128x8192, .f32⟩
  | 75 => ⟨S10x8192x128, .f32⟩
  | 76 => ⟨S8192x10x128, .f32⟩
  | 77 => ⟨S10x128x128, .f32⟩
  | 78 => ⟨S10x128x128, .f32⟩
  | 79 => ⟨S8192x1280, .f32⟩
  | 80 => ⟨S8192x1280, .f32⟩
  | 81 => ⟨S8192x1280, .bf16⟩
  | 82 => ⟨S1x1280, .f32⟩
  | 83 => ⟨S1x1280, .f32⟩
  | 84 => ⟨S1x1280, .f32⟩
  | _ => ⟨S8192x1280, .f32⟩

abbrev hbmTy (i : Nat) : BufTy := match i / 128 with
  | 0 => hbmTy0_0 i
  | 1 => hbmTy0_1 i
  | _ => ⟨S8192x1280, .f32⟩

abbrev bufTy : (tb : Table) → Fin (tcTables nBuf tb) → BufTy
  | .hbm, ⟨i, _⟩ => hbmTy i
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_0 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_1 : Ref sig .tc := ⟨.hbm, 56, rfl⟩
abbrev main_v44 : Ref sig .tc := ⟨.hbm, 57, rfl⟩
abbrev main_v45 : Ref sig .tc := ⟨.hbm, 58, rfl⟩
abbrev main_cst_2 : Ref sig .tc := ⟨.hbm, 59, rfl⟩
abbrev main_v46 : Ref sig .tc := ⟨.hbm, 60, rfl⟩
abbrev main_v47 : Ref sig .tc := ⟨.hbm, 61, rfl⟩
abbrev main_cst_3 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_4 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_call0_cst : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_v7 : Ref sig .tc := ⟨.hbm, 78, rfl⟩
abbrev main_call0_v8 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_v54_0 : Ref sig .tc := ⟨.hbm, 83, rfl⟩
abbrev main_call0_cst_0 : Ref sig .tc := ⟨.hbm, 84, rfl⟩
abbrev main_call0_v13 : Ref sig .tc := ⟨.hbm, 85, rfl⟩
abbrev main_call0_v14 : Ref sig .tc := ⟨.hbm, 86, rfl⟩
abbrev main_call0_cst_1 : Ref sig .tc := ⟨.hbm, 87, rfl⟩
abbrev main_call0_v15 : Ref sig .tc := ⟨.hbm, 88, rfl⟩
abbrev main_call0_v16 : Ref sig .tc := ⟨.hbm, 89, rfl⟩
abbrev main_call0_cst_2 : Ref sig .tc := ⟨.hbm, 90, rfl⟩
abbrev main_call0_v17 : Ref sig .tc := ⟨.hbm, 91, rfl⟩
abbrev main_call0_v18 : Ref sig .tc := ⟨.hbm, 92, rfl⟩
abbrev main_call0_cst_3 : Ref sig .tc := ⟨.hbm, 93, rfl⟩
abbrev main_call0_v19 : Ref sig .tc := ⟨.hbm, 94, rfl⟩
abbrev main_call0_v20 : Ref sig .tc := ⟨.hbm, 95, rfl⟩
abbrev main_call0_v21 : Ref sig .tc := ⟨.hbm, 96, rfl⟩
abbrev main_v54_1 : Ref sig .tc := ⟨.hbm, 97, rfl⟩
abbrev main_call0_cst_4 : Ref sig .tc := ⟨.hbm, 98, rfl⟩
abbrev main_call0_cst_5 : Ref sig .tc := ⟨.hbm, 99, rfl⟩
abbrev main_call0_v23 : Ref sig .tc := ⟨.hbm, 100, rfl⟩
abbrev main_call0_cst_6 : Ref sig .tc := ⟨.hbm, 101, rfl⟩
abbrev main_call0_cst_7 : Ref sig .tc := ⟨.hbm, 102, rfl⟩
abbrev main_call0_v24 : Ref sig .tc := ⟨.hbm, 103, rfl⟩
abbrev main_call0_cst_8 : Ref sig .tc := ⟨.hbm, 104, rfl⟩
abbrev main_call0_v25 : Ref sig .tc := ⟨.hbm, 105, rfl⟩
abbrev main_call0_v26 : Ref sig .tc := ⟨.hbm, 106, rfl⟩
abbrev main_call0_cst_9 : Ref sig .tc := ⟨.hbm, 107, rfl⟩
abbrev main_call0_v27 : Ref sig .tc := ⟨.hbm, 108, rfl⟩
abbrev main_call0_v28 : Ref sig .tc := ⟨.hbm, 109, rfl⟩
abbrev main_call0_v29 : Ref sig .tc := ⟨.hbm, 110, rfl⟩
abbrev main_call0_v30 : Ref sig .tc := ⟨.hbm, 111, rfl⟩
abbrev main_call0_v31 : Ref sig .tc := ⟨.hbm, 112, rfl⟩
abbrev main_call0_cst_10 : Ref sig .tc := ⟨.hbm, 113, rfl⟩
abbrev main_call0_v32 : Ref sig .tc := ⟨.hbm, 114, rfl⟩
abbrev main_v54_2 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_5 : Ref sig .tc := ⟨.hbm, 128, rfl⟩
abbrev main_v67 : Ref sig .tc := ⟨.hbm, 129, rfl⟩
abbrev main_v68 : Ref sig .tc := ⟨.hbm, 130, rfl⟩
abbrev main_cst_6 : Ref sig .tc := ⟨.hbm, 131, rfl⟩
abbrev main_v69 : Ref sig .tc := ⟨.hbm, 132, rfl⟩
abbrev main_v70 : Ref sig .tc := ⟨.hbm, 133, rfl⟩
abbrev main_cst_7 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_cst_8 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_cst_9 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_cst_10 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_cst_11 : Ref sig .tc := ⟨.hbm, 169, rfl⟩
abbrev main_v102 : Ref sig .tc := ⟨.hbm, 170, rfl⟩
abbrev main_v103 : Ref sig .tc := ⟨.hbm, 171, rfl⟩
abbrev main_cst_12 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_cst_13 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_cst_14 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_cst_15 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_cst_16 : Ref sig .tc := ⟨.hbm, 196, rfl⟩
abbrev main_v124 : Ref sig .tc := ⟨.hbm, 197, rfl⟩
abbrev main_v125 : Ref sig .tc := ⟨.hbm, 198, rfl⟩
abbrev main_cst_17 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩

abbrev nD : Nat := 1
abbrev τ : Topo := Topo.v7x

variable {F : FTy → Type} [FloatOps F]
-- ==== Prep.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S_ : Shape := ⟨0, ![]⟩
abbrev S1 : Shape := ⟨1, ![1]⟩
abbrev S512x64 : Shape := ⟨2, ![512, 64]⟩
abbrev S32x1 : Shape := ⟨2, ![32, 1]⟩
abbrev S32x1x64 : Shape := ⟨3, ![32, 1, 64]⟩

abbrev nBuf : Space → Nat
  | .hbm => 54
  | .vmem => 14
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x64, .f32⟩
  | .hbm, ⟨6, _⟩ => ⟨S32x64, .f32⟩
  | .hbm, ⟨7, _⟩ => ⟨S32x16x64, .f32⟩
  | .hbm, ⟨8, _⟩ => ⟨S32x16x64, .f32⟩
  | .hbm, ⟨9, _⟩ => ⟨S_, .f32⟩
  | .hbm, ⟨10, _⟩ => ⟨S32x16x64, .f32⟩
  | .hbm, ⟨11, _⟩ => ⟨S_, .i32⟩
  | .hbm, ⟨12, _⟩ => ⟨S1, .i32⟩
  | .hbm, ⟨13, _⟩ => ⟨S32x16x64, .f32⟩
  | .hbm, ⟨14, _⟩ => ⟨S512x64, .f32⟩
  | .hbm, ⟨15, _⟩ => ⟨S_, .i32⟩
  | .hbm, ⟨16, _⟩ => ⟨S1, .i32⟩
  | .hbm, ⟨17, _⟩ => ⟨S32x16x64, .f32⟩
  | .hbm, ⟨18, _⟩ => ⟨S512x64, .f32⟩
  | .hbm, ⟨19, _⟩ => ⟨S512x64, .f32⟩
  | .hbm, ⟨20, _⟩ => ⟨S512x64, .f32⟩
  | .hbm, ⟨21, _⟩ => ⟨S32x1, .f32⟩
  | .hbm, ⟨22, _⟩ => ⟨S32x64, .f32⟩
  | .hbm, ⟨23, _⟩ => ⟨S32x1x64, .f32⟩
  | .hbm, ⟨24, _⟩ => ⟨S32x16x64, .f32⟩
  | .hbm, ⟨25, _⟩ => ⟨S512x64, .f32⟩
  | .hbm, ⟨26, _⟩ => ⟨S32x1x64, .f32⟩
  | .hbm, ⟨27, _⟩ => ⟨S32x16x64, .f32⟩
  | .hbm, ⟨28, _⟩ => ⟨S512x64, .f32⟩
  | .hbm, ⟨29, _⟩ => ⟨S32x1x64, .f32⟩
  | .hbm, ⟨30, _⟩ => ⟨S32x16x64, .f32⟩
  | .hbm, ⟨31, _⟩ => ⟨S512x64, .f32⟩
  | .hbm, ⟨32, _⟩ => ⟨S32x16x64, .f32⟩
  | .hbm, ⟨33, _⟩ => ⟨S512x64, .f32⟩
  | .hbm, ⟨34, _⟩ => ⟨S32x16x64, .f32⟩
  | .hbm, ⟨35, _⟩ => ⟨S512x64, .f32⟩
  | .hbm, ⟨36, _⟩ => ⟨S512x64, .f32⟩
  | .hbm, ⟨37, _⟩ => ⟨S512x64, .f32⟩
  | .hbm, ⟨38, _⟩ => ⟨S512x64, .f32⟩
  | .hbm, ⟨39, _⟩ => ⟨S512x64, .f32⟩
  | .hbm, ⟨40, _⟩ => ⟨S512x64, .f32⟩
  | .hbm, ⟨41, _⟩ => ⟨S32x16x64, .f32⟩
  | .hbm, ⟨42, _⟩ => ⟨S_, .f32⟩
  | .hbm, ⟨43, _⟩ => ⟨S32x64, .f32⟩
  | .hbm, ⟨44, _⟩ => ⟨S32x16x64, .f32⟩
  | .hbm, ⟨45, _⟩ => ⟨S_, .f32⟩
  | .hbm, ⟨46, _⟩ => ⟨S32x64, .f32⟩
  | .hbm, ⟨47, _⟩ => ⟨S32x16x64, .f32⟩
  | .hbm, ⟨48, _⟩ => ⟨S_, .f32⟩
  | .hbm, ⟨49, _⟩ => ⟨S32, .f32⟩
  | .hbm, ⟨50, _⟩ => ⟨S32x16x64, .f32⟩
  | .hbm, ⟨51, _⟩ => ⟨S32x64x16, .f32⟩
  | .hbm, ⟨52, _⟩ => ⟨S32x16x64, .f32⟩
  | .hbm, ⟨53, _⟩ => ⟨S32x64x16, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v24_3 : Ref sig .tc := ⟨.hbm, 39, rfl⟩
abbrev main_v24_4 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== PrepRefIdeal.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x1 : Shape := ⟨2, ![32, 1]⟩
abbrev S_ : Shape := ⟨0, ![]⟩
abbrev S32x64x1 : Shape := ⟨3, ![32, 64, 1]⟩

abbrev nBuf : Space → Nat
  | .hbm => 169
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x64, .f32⟩
  | 6 => ⟨S32x64, .f32⟩
  | 7 => ⟨S32x16x64, .f32⟩
  | 8 => ⟨S32x16x64, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S_, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S_, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S_, .f32⟩
  | 47 => ⟨S32x64, .f32⟩
  | 48 => ⟨S32x64, .f32⟩
  | 49 => ⟨S32x64x1, .f32⟩
  | 50 => ⟨S32x64x16, .f32⟩
  | 51 => ⟨S32x64x16, .f32⟩
  | 52 => ⟨S32x64x1, .f32⟩
  | 53 => ⟨S32x64x16, .f32⟩
  | 54 => ⟨S32x64x16, .f32⟩
  | 55 => ⟨S32x64x16, .f32⟩
  | 56 => ⟨S32x64x1, .f32⟩
  | 57 => ⟨S32x64x16, .f32⟩
  | 58 => ⟨S32x64x16, .f32⟩
  | 59 => ⟨S32x64x1, .f32⟩
  | 60 => ⟨S32x64x16, .f32⟩
  | 61 => ⟨S32x64x16, .f32⟩
  | 62 => ⟨S32x64x16, .f32⟩
  | 63 => ⟨S32x64x16, .f32⟩
  | 64 => ⟨S32x64x16, .f32⟩
  | 65 => ⟨S32x64x16, .f32⟩
  | 66 => ⟨S32x64x16, .f32⟩
  | 67 => ⟨S32x64x16, .f32⟩
  | 68 => ⟨S_, .f32⟩
  | 69 => ⟨S32x64, .f32⟩
  | 70 => ⟨S32x64x1, .f32⟩
  | 71 => ⟨S_, .f32⟩
  | 72 => ⟨S32x64, .f32⟩
  | 73 => ⟨S32x64x16, .f32⟩
  | 74 => ⟨S32x64x16, .f32⟩
  | 75 => ⟨S32x64x16, .f32⟩
  | 76 => ⟨S_, .f32⟩
  | 77 => ⟨S32x64, .f32⟩
  | 78 => ⟨S32x64x1, .f32⟩
  | 79 => ⟨S_, .f32⟩
  | 80 => ⟨S32x64, .f32⟩
  | 81 => ⟨S32x64x16, .f32⟩
  | 82 => ⟨S32x64x16, .f32⟩
  | 83 => ⟨S32x64x16, .f32⟩
  | 84 => ⟨S32x64x16, .f32⟩
  | 85 => ⟨S32x64x16, .f32⟩
  | 86 => ⟨S_, .f32⟩
  | 87 => ⟨S32x64, .f32⟩
  | 88 => ⟨S32x64x1, .f32⟩
  | 89 => ⟨S_, .f32⟩
  | 90 => ⟨S32x64, .f32⟩
  | 91 => ⟨S32x64, .f32⟩
  | 92 => ⟨S32x64x16, .f32⟩
  | 93 => ⟨S32x64x16, .f32⟩
  | 94 => ⟨S32x64x16, .f32⟩
  | 95 => ⟨S32x64x16, .f32⟩
  | 96 => ⟨S_, .f32⟩
  | 97 => ⟨S32x64, .f32⟩
  | 98 => ⟨S32x64x1, .f32⟩
  | 99 => ⟨S_, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S_, .f32⟩
  | 11 => ⟨S32, .f32⟩
  | 12 => ⟨S32x1, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S_, .f32⟩
  | 23 => ⟨S32, .f32⟩
  | 24 => ⟨S32x1, .f32⟩
  | 25 => ⟨S32x1, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S_, .f32⟩
  | 32 => ⟨S32, .f32⟩
  | 33 => ⟨S32x1, .f32⟩
  | 34 => ⟨S32x1, .f32⟩
  | 35 => ⟨S32x64, .f32⟩
  | 36 => ⟨S32x64, .f32⟩
  | 37 => ⟨S32x64, .f32⟩
  | 38 => ⟨S_, .f32⟩
  | 39 => ⟨S32, .f32⟩
  | 40 => ⟨S32, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_cst_6 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_7 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_9 : Ref sig .tc := ⟨.hbm, 96, rfl⟩
abbrev main_v77 : Ref sig .tc := ⟨.hbm, 97, rfl⟩
abbrev main_v78 : Ref sig .tc := ⟨.hbm, 98, rfl⟩
abbrev main_cst_10 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_11 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_cst_12 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_cst_13 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_cst_14 : Ref sig .tc := ⟨.hbm, 166, rfl⟩
abbrev main_v142 : Ref sig .tc := ⟨.hbm, 167, rfl⟩
abbrev main_v143 : Ref sig .tc := ⟨.hbm, 168, rfl⟩

abbrev nD : Nat := 1
abbrev τ : Topo := Topo.v7x

variable {F : FTy → Type} [FloatOps F]
-- ==== Scanb.lean ====
abbrev S8192x1280 : Shape := ⟨2, ![8192, 1280]⟩
abbrev S1024x1280 : Shape := ⟨2, ![1024, 1280]⟩
abbrev S8x1280 : Shape := ⟨2, ![8, 1280]⟩
abbrev S8x128 : Shape := ⟨2, ![8, 128]⟩
abbrev S1x128 : Shape := ⟨2, ![1, 128]⟩

abbrev nBuf : Space → Nat
  | .hbm => 3
  | .vmem => 8
  | .smem => 0
  | _ => 0

abbrev bufTy : (tb : Table) → Fin (tcTables nBuf tb) → BufTy
  | .hbm, ⟨0, _⟩ => ⟨S8192x1280, .f32⟩
  | .hbm, ⟨1, _⟩ => ⟨S8192x1280, .f32⟩
  | .hbm, ⟨2, _⟩ => ⟨S8192x1280, .f32⟩
  | .local _ .vmem, ⟨0, _⟩ => ⟨S1024x1280, .f32⟩
  | .local _ .vmem, ⟨1, _⟩ => ⟨S1024x1280, .f32⟩
  | .local _ .vmem, ⟨2, _⟩ => ⟨S1024x1280, .f32⟩
  | .local _ .vmem, ⟨3, _⟩ => ⟨S1024x1280, .f32⟩
  | .local _ .vmem, ⟨4, _⟩ => ⟨S1024x1280, .f32⟩
  | .local _ .vmem, ⟨5, _⟩ => ⟨S1024x1280, .f32⟩
  | .local _ .vmem, ⟨6, _⟩ => ⟨S8x1280, .f32⟩
  | .local _ .vmem, ⟨7, _⟩ => ⟨S8x1280, .f32⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_16 : BitVec 32 := 0#32
  let c128_i32 : BitVec 32 := 128#32
  let v14 : BitVec 32 := Scalar.addi c0_i32_16 c128_i32
  let c1_i32 : BitVec 32 := 1#32
  ⟨c0_i32_16, v14, c1_i32⟩
def k0_mult1 (k0_t1 : Fin k0_t1_loop.trips) : BitVec 32 :=
  let c127_i32 : BitVec 32 := 127#32
  let c0_i32_16 : BitVec 32 := 0#32
  let c1_i32 : BitVec 32 := 1#32
  let arg6 : BitVec 32 := Scf.iv c0_i32_16 c1_i32 k0_t1
  let v88 : BitVec 32 := Scalar.subi c127_i32 arg6
  let c8_i32 : BitVec 32 := 8#32
  let v89 : BitVec 32 := Scalar.muli v88 c8_i32
  v89
def k0_off1 (k0_t1 : Fin k0_t1_loop.trips) : Fin 2 → Nat :=
  let c127_i32 : BitVec 32 := 127#32
  let c0_i32_16 : BitVec 32 := 0#32
  let c1_i32 : BitVec 32 := 1#32
  let arg6 : BitVec 32 := Scf.iv c0_i32_16 c1_i32 k0_t1
  let v88 : BitVec 32 := Scalar.subi c127_i32 arg6
  let c8_i32 : BitVec 32 := 8#32
  let v89 : BitVec 32 := Scalar.muli v88 c8_i32
  let v90 : BitVec 32 := v89
  let v91 : Index := Scalar.indexCast v90
  let c0_77 : Index := 0#32
  ![v91.toNat, 0]
def k0_off2 (k0_t1 : Fin k0_t1_loop.trips) : Fin 2 → Nat :=
  let c127_i32 : BitVec 32 := 127#32
  let c0_i32_16 : BitVec 32 := 0#32
  let c1_i32 : BitVec 32 := 1#32
  let arg6 : BitVec 32 := Scf.iv c0_i32_16 c1_i32 k0_t1
  let v88 : BitVec 32 := Scalar.subi c127_i32 arg6
  let c8_i32 : BitVec 32 := 8#32
  let v89 : BitVec 32 := Scalar.muli v88 c8_i32
  let v90 : BitVec 32 := v89
  let v139 : Index := Scalar.indexCast v90
  let c128_88 : Index := 128#32
  ![v139.toNat, 128]
def k0_off3 (k0_t1 : Fin k0_t1_loop.trips) : Fin 2 → Nat :=
  let c127_i32 : BitVec 32 := 127#32
  let c0_i32_16 : BitVec 32 := 0#32
  let c1_i32 : BitVec 32 := 1#32
  let arg6 : BitVec 32 := Scf.iv c0_i32_16 c1_i32 k0_t1
  let v88 : BitVec 32 := Scalar.subi c127_i32 arg6
  let c8_i32 : BitVec 32 := 8#32
  let v89 : BitVec 32 := Scalar.muli v88 c8_i32
  let v90 : BitVec 32 := v89
  let v187 : Index := Scalar.indexCast v90
  let c256_105 : Index := 256#32
  ![v187.toNat, 256]
def k0_off4 (k0_t1 : Fin k0_t1_loop.trips) : Fin 2 → Nat :=
  let c127_i32 : BitVec 32 := 127#32
  let c0_i32_16 : BitVec 32 := 0#32
  let c1_i32 : BitVec 32 := 1#32
  let arg6 : BitVec 32 := Scf.iv c0_i32_16 c1_i32 k0_t1
  let v88 : BitVec 32 := Scalar.subi c127_i32 arg6
  let c8_i32 : BitVec 32 := 8#32
  let v89 : BitVec 32 := Scalar.muli v88 c8_i32
  let v90 : BitVec 32 := v89
  let v235 : Index := Scalar.indexCast v90
  let c384_122 : Index := 384#32
  ![v235.toNat, 384]
def k0_off5 (k0_t1 : Fin k0_t1_loop.trips) : Fin 2 → Nat :=
  let c127_i32 : BitVec 32 := 127#32
  let c0_i32_16 : BitVec 32 := 0#32
  let c1_i32 : BitVec 32 := 1#32
  let arg6 : BitVec 32 := Scf.iv c0_i32_16 c1_i32 k0_t1
  let v88 : BitVec 32 := Scalar.subi c127_i32 arg6
  let c8_i32 : BitVec 32 := 8#32
  let v89 : BitVec 32 := Scalar.muli v88 c8_i32
  let v90 : BitVec 32 := v89
  let v283 : Index := Scalar.indexCast v90
  let c512_139 : Index := 512#32
  ![v283.toNat, 512]
@[reducible] def k0_t2_loop : Scf.Loop 32 :=
  let c0_i32_53 : BitVec 32 := 0#32
  let c128_i32_54 : BitVec 32 := 128#32
  let v56 : BitVec 32 := Scalar.addi c0_i32_53 c128_i32_54
  let c1_i32_55 : BitVec 32 := 1#32
  ⟨c0_i32_53, v56, c1_i32_55⟩
def k0_mult2 (k0_t2 : Fin k0_t2_loop.trips) : BitVec 32 :=
  let c127_i32 : BitVec 32 := 127#32
  let c0_i32_53 : BitVec 32 := 0#32
  let c1_i32_55 : BitVec 32 := 1#32
  let arg6 : BitVec 32 := Scf.iv c0_i32_53 c1_i32_55 k0_t2
  let v88 : BitVec 32 := Scalar.subi c127_i32 arg6
  let c8_i32 : BitVec 32 := 8#32
  let v89 : BitVec 32 := Scalar.muli v88 c8_i32
  v89
def k0_off6 (k0_t2 : Fin k0_t2_loop.trips) : Fin 2 → Nat :=
  let c127_i32 : BitVec 32 := 127#32
  let c0_i32_53 : BitVec 32 := 0#32
  let c1_i32_55 : BitVec 32 := 1#32
  let arg6 : BitVec 32 := Scf.iv c0_i32_53 c1_i32_55 k0_t2
  let v88 : BitVec 32 := Scalar.subi c127_i32 arg6
  let c8_i32 : BitVec 32 := 8#32
  let v89 : BitVec 32 := Scalar.muli v88 c8_i32
  let v90 : BitVec 32 := v89
  let v91 : Index := Scalar.indexCast v90
  let c640_77 : Index := 640#32
  ![v91.toNat, 640]
def k0_off7 (k0_t2 : Fin k0_t2_loop.trips) : Fin 2 → Nat :=
  let c127_i32 : BitVec 32 := 127#32
  let c0_i32_53 : BitVec 32 := 0#32
  let c1_i32_55 : BitVec 32 := 1#32
  let arg6 : BitVec 32 := Scf.iv c0_i32_53 c1_i32_55 k0_t2
  let v88 : BitVec 32 := Scalar.subi c127_i32 arg6
  let c8_i32 : BitVec 32 := 8#32
  let v89 : BitVec 32 := Scalar.muli v88 c8_i32
  let v90 : BitVec 32 := v89
  let v139 : Index := Scalar.indexCast v90
  let c768_88 : Index := 768#32
  ![v139.toNat, 768]
def k0_off8 (k0_t2 : Fin k0_t2_loop.trips) : Fin 2 → Nat :=
  let c127_i32 : BitVec 32 := 127#32
  let c0_i32_53 : BitVec 32 := 0#32
  let c1_i32_55 : BitVec 32 := 1#32
  let arg6 : BitVec 32 := Scf.iv c0_i32_53 c1_i32_55 k0_t2
  let v88 : BitVec 32 := Scalar.subi c127_i32 arg6
  let c8_i32 : BitVec 32 := 8#32
  let v89 : BitVec 32 := Scalar.muli v88 c8_i32
  let v90 : BitVec 32 := v89
  let v187 : Index := Scalar.indexCast v90
  let c896_105 : Index := 896#32
  ![v187.toNat, 896]
def k0_off9 (k0_t2 : Fin k0_t2_loop.trips) : Fin 2 → Nat :=
  let c127_i32 : BitVec 32 := 127#32
  let c0_i32_53 : BitVec 32 := 0#32
  let c1_i32_55 : BitVec 32 := 1#32
  let arg6 : BitVec 32 := Scf.iv c0_i32_53 c1_i32_55 k0_t2
  let v88 : BitVec 32 := Scalar.subi c127_i32 arg6
  let c8_i32 : BitVec 32 := 8#32
  let v89 : BitVec 32 := Scalar.muli v88 c8_i32
  let v90 : BitVec 32 := v89
  let v235 : Index := Scalar.indexCast v90
  let c1024_122 : Index := 1024#32
  ![v235.toNat, 1024]
def k0_off10 (k0_t2 : Fin k0_t2_loop.trips) : Fin 2 → Nat :=
  let c127_i32 : BitVec 32 := 127#32
  let c0_i32_53 : BitVec 32 := 0#32
  let c1_i32_55 : BitVec 32 := 1#32
  let arg6 : BitVec 32 := Scf.iv c0_i32_53 c1_i32_55 k0_t2
  let v88 : BitVec 32 := Scalar.subi c127_i32 arg6
  let c8_i32 : BitVec 32 := 8#32
  let v89 : BitVec 32 := Scalar.muli v88 c8_i32
  let v90 : BitVec 32 := v89
  let v283 : Index := Scalar.indexCast v90
  let c1152_139 : Index := 1152#32
  ![v283.toNat, 1152]
def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ScanbRefIdeal.lean ====
abbrev S8192x1280 : Shape := ⟨2, ![8192, 1280]⟩
abbrev S_ : Shape := ⟨0, ![]⟩
abbrev S1280 : Shape := ⟨1, ![1280]⟩
abbrev S1x1280 : Shape := ⟨2, ![1, 1280]⟩

abbrev nBuf : Space → Nat
  | .hbm => 31
  | .vmem => 0
  | .smem => 0
  | _ => 0

abbrev bufTy : (tb : Table) → Fin (tcTables nBuf tb) → BufTy
  | .hbm, ⟨0, _⟩ => ⟨S8192x1280, .f32⟩
  | .hbm, ⟨1, _⟩ => ⟨S8192x1280, .f32⟩
  | .hbm, ⟨2, _⟩ => ⟨S_, .f32⟩
  | .hbm, ⟨3, _⟩ => ⟨S1280, .f32⟩
  | .hbm, ⟨4, _⟩ => ⟨S_, .f32⟩
  | .hbm, ⟨5, _⟩ => ⟨S8192x1280, .f32⟩
  | .hbm, ⟨6, _⟩ => ⟨S_, .i32⟩
  | .hbm, ⟨7, _⟩ => ⟨S8192x1280, .f32⟩
  | .hbm, ⟨8, _⟩ => ⟨S8192x1280, .f32⟩
  | .hbm, ⟨9, _⟩ => ⟨S_, .i32⟩
  | .hbm, ⟨10, _⟩ => ⟨S1280, .f32⟩
  | .hbm, ⟨11, _⟩ => ⟨S8192x1280, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1x1280, .f32⟩
  | .hbm, ⟨20, _⟩ => ⟨S1280, .f32⟩
  | .hbm, ⟨21, _⟩ => ⟨S_, .i32⟩
  | .hbm, ⟨22, _⟩ => ⟨S1x1280, .f32⟩
  | .hbm, ⟨23, _⟩ => ⟨S1280, .f32⟩
  | .hbm, ⟨24, _⟩ => ⟨S1280, .f32⟩
  | .hbm, ⟨25, _⟩ => ⟨S1280, .f32⟩
  | .hbm, ⟨26, _⟩ => ⟨S1x1280, .f32⟩
  | .hbm, ⟨27, _⟩ => ⟨S_, .i32⟩
  | .hbm, ⟨28, _⟩ => ⟨S8192x1280, .f32⟩
  | .hbm, ⟨29, _⟩ => ⟨S_, .i32⟩
  | .hbm, ⟨30, _⟩ => ⟨S_, .i32⟩
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_c : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_while0c_c_5 : Ref sig .tc := ⟨.hbm, 12, rfl⟩
abbrev main_while0c_v3 : Ref sig .tc := ⟨.hbm, 13, rfl⟩
abbrev main_while0b_c_5 : Ref sig .tc := ⟨.hbm, 14, rfl⟩
abbrev main_while0b_v3 : Ref sig .tc := ⟨.hbm, 15, rfl⟩
abbrev main_while0b_c_6 : Ref sig .tc := ⟨.hbm, 16, rfl⟩
abbrev main_while0b_v4 : Ref sig .tc := ⟨.hbm, 17, rfl⟩
abbrev main_while0b_call0_c : Ref sig .tc := ⟨.hbm, 18, rfl⟩
abbrev main_while0b_call0_v0 : Ref sig .tc := ⟨.hbm, 19, rfl⟩
abbrev main_while0b_v5 : Ref sig .tc := ⟨.hbm, 20, rfl⟩
abbrev main_while0b_call1_c : Ref sig .tc := ⟨.hbm, 21, rfl⟩
abbrev main_while0b_call1_v0 : Ref sig .tc := ⟨.hbm, 22, rfl⟩
abbrev main_while0b_v6 : Ref sig .tc := ⟨.hbm, 23, rfl⟩
abbrev main_while0b_v7 : Ref sig .tc := ⟨.hbm, 24, rfl⟩
abbrev main_while0b_v8 : Ref sig .tc := ⟨.hbm, 25, rfl⟩
abbrev main_while0b_call2_v0 : Ref sig .tc := ⟨.hbm, 26, rfl⟩
abbrev main_while0b_call2_c : Ref sig .tc := ⟨.hbm, 27, rfl⟩
abbrev main_while0b_v9 : Ref sig .tc := ⟨.hbm, 28, rfl⟩
abbrev main_while0b_c_7 : Ref sig .tc := ⟨.hbm, 29, rfl⟩
abbrev main_while0b_v10 : Ref sig .tc := ⟨.hbm, 30, rfl⟩

abbrev nD : Nat := 1
abbrev τ : Topo := Topo.v7x

variable {F : FTy → Type} [FloatOps F]

abbrev main_while0_count : Scf.Loop 32 := ⟨0#32, 8192#32, 1#32⟩
-- ==== Fgates.lean ====
abbrev S8192x1280 : Shape := ⟨2, ![8192, 1280]⟩
abbrev S4x1280 : Shape := ⟨2, ![4, 1280]⟩
abbrev S1280 : Shape := ⟨1, ![1280]⟩
abbrev S10x128x128 : Shape := ⟨3, ![10, 128, 128]⟩
abbrev S1x1280 : Shape := ⟨2, ![1, 1280]⟩
abbrev S512x1280 : Shape := ⟨2, ![512, 1280]⟩
abbrev S16x1280 : Shape := ⟨2, ![16, 1280]⟩
abbrev S8x1280 : Shape := ⟨2, ![8, 1280]⟩
abbrev S504x1280 : Shape := ⟨2, ![504, 1280]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 17
  | .vmem => 15
  | .smem => 0
  | _ => 0

abbrev bufTy : (tb : Table) → Fin (tcTables nBuf tb) → BufTy
  | .hbm, ⟨0, _⟩ => ⟨S8192x1280, .f32⟩
  | .hbm, ⟨1, _⟩ => ⟨S4x1280, .f32⟩
  | .hbm, ⟨2, _⟩ => ⟨S1280, .f32⟩
  | .hbm, ⟨3, _⟩ => ⟨S10x128x128, .f32⟩
  | .hbm, ⟨4, _⟩ => ⟨S1280, .f32⟩
  | .hbm, ⟨5, _⟩ => ⟨S10x128x128, .f32⟩
  | .hbm, ⟨6, _⟩ => ⟨S1280, .f32⟩
  | .hbm, ⟨7, _⟩ => ⟨S1280, .f32⟩
  | .hbm, ⟨8, _⟩ => ⟨S8192x1280, .bf16⟩
  | .hbm, ⟨9, _⟩ => ⟨S1x1280, .f32⟩
  | .hbm, ⟨10, _⟩ => ⟨S10x128x128, .bf16⟩
  | .hbm, ⟨11, _⟩ => ⟨S10x128x128, .bf16⟩
  | .hbm, ⟨12, _⟩ => ⟨S1x1280, .f32⟩
  | .hbm, ⟨13, _⟩ => ⟨S1x1280, .f32⟩
  | .hbm, ⟨14, _⟩ => ⟨S1x1280, .f32⟩
  | .hbm, ⟨15, _⟩ => ⟨S8192x1280, .f32⟩
  | .hbm, ⟨16, _⟩ => ⟨S8192x1280, .f32⟩
  | .local _ .vmem, ⟨0, _⟩ => ⟨S512x1280, .bf16⟩
  | .local _ .vmem, ⟨1, _⟩ => ⟨S512x1280, .bf16⟩
  | .local _ .vmem, ⟨2, _⟩ => ⟨S16x1280, .bf16⟩
  | .local _ .vmem, ⟨3, _⟩ => ⟨S16x1280, .bf16⟩
  | .local _ .vmem, ⟨4, _⟩ => ⟨S4x1280, .f32⟩
  | .local _ .vmem, ⟨5, _⟩ => ⟨S1x1280, .f32⟩
  | .local _ .vmem, ⟨6, _⟩ => ⟨S10x128x128, .bf16⟩
  | .local _ .vmem, ⟨7, _⟩ => ⟨S1x1280, .f32⟩
  | .local _ .vmem, ⟨8, _⟩ => ⟨S10x128x128, .bf16⟩
  | .local _ .vmem, ⟨9, _⟩ => ⟨S1x1280, .f32⟩
  | .local _ .vmem, ⟨10, _⟩ => ⟨S1x1280, .f32⟩
  | .local _ .vmem, ⟨11, _⟩ => ⟨S512x1280, .f32⟩
  | .local _ .vmem, ⟨12, _⟩ => ⟨S512x1280, .f32⟩
  | .local _ .vmem, ⟨13, _⟩ => ⟨S512x1280, .f32⟩
  | .local _ .vmem, ⟨14, _⟩ => ⟨S512x1280, .f32⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1280 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FgatesRefIdeal.lean ====
abbrev S8192x1280 : Shape := ⟨2, ![8192, 1280]⟩
abbrev S4x1280 : Shape := ⟨2, ![4, 1280]⟩
abbrev S1280 : Shape := ⟨1, ![1280]⟩
abbrev S10x128x128 : Shape := ⟨3, ![10, 128, 128]⟩
abbrev S_ : Shape := ⟨0, ![]⟩
abbrev S3x1280 : Shape := ⟨2, ![3, 1280]⟩
abbrev S8195x1280 : Shape := ⟨2, ![8195, 1280]⟩
abbrev S1x1280 : Shape := ⟨2, ![1, 1280]⟩
abbrev S8192x10x128 : Shape := ⟨3, ![8192, 10, 128]⟩
abbrev S10x128x8192 : Shape := ⟨3, ![10, 128, 8192]⟩

abbrev nBuf : Space → Nat
  | .hbm => 101
  | .vmem => 0
  | .smem => 0
  | _ => 0

abbrev bufTy : (tb : Table) → Fin (tcTables nBuf tb) → BufTy
  | .hbm, ⟨0, _⟩ => ⟨S8192x1280, .f32⟩
  | .hbm, ⟨1, _⟩ => ⟨S4x1280, .f32⟩
  | .hbm, ⟨2, _⟩ => ⟨S1280, .f32⟩
  | .hbm, ⟨3, _⟩ => ⟨S10x128x128, .f32⟩
  | .hbm, ⟨4, _⟩ => ⟨S1280, .f32⟩
  | .hbm, ⟨5, _⟩ => ⟨S10x128x128, .f32⟩
  | .hbm, ⟨6, _⟩ => ⟨S1280, .f32⟩
  | .hbm, ⟨7, _⟩ => ⟨S1280, .f32⟩
  | .hbm, ⟨8, _⟩ => ⟨S_, .f32⟩
  | .hbm, ⟨9, _⟩ => ⟨S3x1280, .f32⟩
  | .hbm, ⟨10, _⟩ => ⟨S8195x1280, .f32⟩
  | .hbm, ⟨11, _⟩ => ⟨S8192x1280, .f32⟩
  | .hbm, ⟨12, _⟩ => ⟨S1x1280, .f32⟩
  | .hbm, ⟨13, _⟩ => ⟨S1280, .f32⟩
  | .hbm, ⟨14, _⟩ => ⟨S1x1280, .f32⟩
  | .hbm, ⟨15, _⟩ => ⟨S8192x1280, .f32⟩
  | .hbm, ⟨16, _⟩ => ⟨S8192x1280, .f32⟩
  | .hbm, ⟨17, _⟩ => ⟨S8192x1280, .f32⟩
  | .hbm, ⟨18, _⟩ => ⟨S1x1280, .f32⟩
  | .hbm, ⟨19, _⟩ => ⟨S1280, .f32⟩
  | .hbm, ⟨20, _⟩ => ⟨S1x1280, .f32⟩
  | .hbm, ⟨21, _⟩ => ⟨S8192x1280, .f32⟩
  | .hbm, ⟨22, _⟩ => ⟨S8192x1280, .f32⟩
  | .hbm, ⟨23, _⟩ => ⟨S8192x1280, .f32⟩
  | .hbm, ⟨24, _⟩ => ⟨S8192x1280, .f32⟩
  | .hbm, ⟨25, _⟩ => ⟨S1x1280, .f32⟩
  | .hbm, ⟨26, _⟩ => ⟨S1280, .f32⟩
  | .hbm, ⟨27, _⟩ => ⟨S1x1280, .f32⟩
  | .hbm, ⟨28, _⟩ => ⟨S8192x1280, .f32⟩
  | .hbm, ⟨29, _⟩ => ⟨S8192x1280, .f32⟩
  | .hbm, ⟨30, _⟩ => ⟨S8192x1280, .f32⟩
  | .hbm, ⟨31, _⟩ => ⟨S8192x1280, .f32⟩
  | .hbm, ⟨32, _⟩ => ⟨S1x1280, .f32⟩
  | .hbm, ⟨33, _⟩ => ⟨S1280, .f32⟩
  | .hbm, ⟨34, _⟩ => ⟨S1x1280, .f32⟩
  | .hbm, ⟨35, _⟩ => ⟨S8192x1280, .f32⟩
  | .hbm, ⟨36, _⟩ => ⟨S8192x1280, .f32⟩
  | .hbm, ⟨37, _⟩ => ⟨S8192x1280, .f32⟩
  | .hbm, ⟨38, _⟩ => ⟨S1x1280, .f32⟩
  | .hbm, ⟨39, _⟩ => ⟨S8192x1280, .f32⟩
  | .hbm, ⟨40, _⟩ => ⟨S8192x1280, .f32⟩
  | .hbm, ⟨41, _⟩ => ⟨S8192x10x128, .f32⟩
  | .hbm, ⟨42, _⟩ => ⟨S10x128x8192, .f32⟩
  | .hbm, ⟨43, _⟩ => ⟨S8192x10x128, .f32⟩
  | .hbm, ⟨44, _⟩ => ⟨S8192x1280, .f32⟩
  | .hbm, ⟨45, _⟩ => ⟨S1x1280, .f32⟩
  | .hbm, ⟨46, _⟩ => ⟨S8192x1280, .f32⟩
  | .hbm, ⟨47, _⟩ => ⟨S8192x1280, .f32⟩
  | .hbm, ⟨48, _⟩ => ⟨S8192x1280, .f32⟩
  | .hbm, ⟨49, _⟩ => ⟨S8192x1280, .f32⟩
  | .hbm, ⟨50, _⟩ => ⟨S_, .f32⟩
  | .hbm, ⟨51, _⟩ => ⟨S8192x1280, .f32⟩
  | .hbm, ⟨52, _⟩ => ⟨S8192x1280, .f32⟩
  | .hbm, ⟨53, _⟩ => ⟨S_, .f32⟩
  | .hbm, ⟨54, _⟩ => ⟨S8192x1280, .f32⟩
  | .hbm, ⟨55, _⟩ => ⟨S8192x1280, .f32⟩
  | .hbm, ⟨56, _⟩ => ⟨S_, .f32⟩
  | .hbm, ⟨57, _⟩ => ⟨S8192x1280, .f32⟩
  | .hbm, ⟨58, _⟩ => ⟨S8192x1280, .f32⟩
  | .hbm, ⟨59, _⟩ => ⟨S1280, .f32⟩
  | .hbm, ⟨60, _⟩ => ⟨S_, .f32⟩
  | .hbm, ⟨61, _⟩ => ⟨S1280, .f32⟩
  | .hbm, ⟨62, _⟩ => ⟨S1280, .f32⟩
  | .hbm, ⟨63, _⟩ => ⟨S1280, .f32⟩
  | .hbm, ⟨64, _⟩ => ⟨S1280, .f32⟩
  | .hbm, ⟨65, _⟩ => ⟨S1280, .i1⟩
  | .hbm, ⟨66, _⟩ => ⟨S1280, .f32⟩
  | .hbm, ⟨67, _⟩ => ⟨S1280, .f32⟩
  | .hbm, ⟨68, _⟩ => ⟨S1280, .f32⟩
  | .hbm, ⟨69, _⟩ => ⟨S1280, .f32⟩
  | .hbm, ⟨70, _⟩ => ⟨S1280, .f32⟩
  | .hbm, ⟨71, _⟩ => ⟨S1280, .f32⟩
  | .hbm, ⟨72, _⟩ => ⟨S1280, .f32⟩
  | .hbm, ⟨73, _⟩ => ⟨S1280, .f32⟩
  | .hbm, ⟨74, _⟩ => ⟨S1x1280, .f32⟩
  | .hbm, ⟨75, _⟩ => ⟨S8192x1280, .f32⟩
  | .hbm, ⟨76, _⟩ => ⟨S8192x1280, .f32⟩
  | .hbm, ⟨77, _⟩ => ⟨S8192x10x128, .f32⟩
  | .hbm, ⟨78, _⟩ => ⟨S10x128x8192, .f32⟩
  | .hbm, ⟨79, _⟩ => ⟨S8192x10x128, .f32⟩
  | .hbm, ⟨80, _⟩ => ⟨S8192x1280, .f32⟩
  | .hbm, ⟨81, _⟩ => ⟨S1x1280, .f32⟩
  | .hbm, ⟨82, _⟩ => ⟨S8192x1280, .f32⟩
  | .hbm, ⟨83, _⟩ => ⟨S8192x1280, .f32⟩
  | .hbm, ⟨84, _⟩ => ⟨S8192x1280, .f32⟩
  | .hbm, ⟨85, _⟩ => ⟨S8192x1280, .f32⟩
  | .hbm, ⟨86, _⟩ => ⟨S_, .f32⟩
  | .hbm, ⟨87, _⟩ => ⟨S8192x1280, .f32⟩
  | .hbm, ⟨88, _⟩ => ⟨S8192x1280, .f32⟩
  | .hbm, ⟨89, _⟩ => ⟨S_, .f32⟩
  | .hbm, ⟨90, _⟩ => ⟨S8192x1280, .f32⟩
  | .hbm, ⟨91, _⟩ => ⟨S8192x1280, .f32⟩
  | .hbm, ⟨92, _⟩ => ⟨S8192x1280, .f32⟩
  | .hbm, ⟨93, _⟩ => ⟨S_, .f32⟩
  | .hbm, ⟨94, _⟩ => ⟨S8192x1280, .f32⟩
  | .hbm, ⟨95, _⟩ => ⟨S8192x1280, .f32⟩
  | .hbm, ⟨96, _⟩ => ⟨S8192x1280, .f32⟩
  | .hbm, ⟨97, _⟩ => ⟨S8192x1280, .f32⟩
  | .hbm, ⟨98, _⟩ => ⟨S8192x1280, .f32⟩
  | .hbm, ⟨99, _⟩ => ⟨S8192x1280, .f32⟩
  | .hbm, ⟨100, _⟩ => ⟨S8192x1280, .f32⟩
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_0 : Ref sig .tc := ⟨.hbm, 50, rfl⟩
abbrev main_v41 : Ref sig .tc := ⟨.hbm, 51, rfl⟩
abbrev main_v42 : Ref sig .tc := ⟨.hbm, 52, rfl⟩
abbrev main_cst_1 : Ref sig .tc := ⟨.hbm, 53, rfl⟩
abbrev main_v43 : Ref sig .tc := ⟨.hbm, 54, rfl⟩
abbrev main_v44 : Ref sig .tc := ⟨.hbm, 55, rfl⟩
abbrev main_cst_2 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_call0_cst : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_3 : Ref sig .tc := ⟨.hbm, 86, rfl⟩
abbrev main_v61 : Ref sig .tc := ⟨.hbm, 87, rfl⟩
abbrev main_v62 : Ref sig .tc := ⟨.hbm, 88, rfl⟩
abbrev main_cst_4 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_5 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩

abbrev nD : Nat := 1
abbrev τ : Topo := Topo.v7x

variable {F : FTy → Type} [FloatOps F]
-- ==== Fmerge.lean ====
abbrev S8192x1280 : Shape := ⟨2, ![8192, 1280]⟩
abbrev S8192x1024 : Shape := ⟨2, ![8192, 1024]⟩
abbrev S1280x1024 : Shape := ⟨2, ![1280, 1024]⟩
abbrev S1024x1024 : Shape := ⟨2, ![1024, 1024]⟩
abbrev S1024 : Shape := ⟨1, ![1024]⟩
abbrev S1x1024 : Shape := ⟨2, ![1, 1024]⟩
abbrev S512x1280 : Shape := ⟨2, ![512, 1280]⟩
abbrev S512x1024 : Shape := ⟨2, ![512, 1024]⟩
abbrev S512 : Shape := ⟨1, ![512]⟩
abbrev S512x1 : Shape := ⟨2, ![512, 1]⟩

abbrev nBuf : Space → Nat
  | .hbm => 19
  | .vmem => 21
  | .smem => 0
  | _ => 0

abbrev bufTy : (tb : Table) → Fin (tcTables nBuf tb) → BufTy
  | .hbm, ⟨0, _⟩ => ⟨S8192x1280, .f32⟩
  | .hbm, ⟨1, _⟩ => ⟨S8192x1280, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1280x1024, .f32⟩
  | .hbm, ⟨7, _⟩ => ⟨S1024x1024, .f32⟩
  | .hbm, ⟨8, _⟩ => ⟨S1024, .f32⟩
  | .hbm, ⟨9, _⟩ => ⟨S8192x1280, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S1280x1024, .bf16⟩
  | .hbm, ⟨14, _⟩ => ⟨S1024x1024, .bf16⟩
  | .hbm, ⟨15, _⟩ => ⟨S1x1024, .f32⟩
  | .hbm, ⟨16, _⟩ => ⟨S8192x1024, .f32⟩
  | .hbm, ⟨17, _⟩ => ⟨S8192x1024, .bf16⟩
  | .hbm, ⟨18, _⟩ => ⟨S8192x1024, .bf16⟩
  | .local _ .vmem, ⟨0, _⟩ => ⟨S512x1280, .f32⟩
  | .local _ .vmem, ⟨1, _⟩ => ⟨S512x1280, .f32⟩
  | .local _ .vmem, ⟨2, _⟩ => ⟨S512x1280, .bf16⟩
  | .local _ .vmem, ⟨3, _⟩ => ⟨S512x1280, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1280x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1280x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FmergeRefIdeal.lean ====
abbrev S8192x1280 : Shape := ⟨2, ![8192, 1280]⟩
abbrev S8192x1024 : Shape := ⟨2, ![8192, 1024]⟩
abbrev S1280x1024 : Shape := ⟨2, ![1280, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1280, .f32⟩
  | .hbm, ⟨1, _⟩ => ⟨S8192x1280, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1280x1024, .f32⟩
  | .hbm, ⟨7, _⟩ => ⟨S1024x1024, .f32⟩
  | .hbm, ⟨8, _⟩ => ⟨S1024, .f32⟩
  | .hbm, ⟨9, _⟩ => ⟨S8192x1280, .f32⟩
  | .hbm, ⟨10, _⟩ => ⟨S8192x1280, .f32⟩
  | .hbm, ⟨11, _⟩ => ⟨S_, .f32⟩
  | .hbm, ⟨12, _⟩ => ⟨S8192x1280, .f32⟩
  | .hbm, ⟨13, _⟩ => ⟨S8192x1280, .f32⟩
  | .hbm, ⟨14, _⟩ => ⟨S_, .f32⟩
  | .hbm, ⟨15, _⟩ => ⟨S8192x1280, .f32⟩
  | .hbm, ⟨16, _⟩ => ⟨S8192x1280, .f32⟩
  | .hbm, ⟨17, _⟩ => ⟨S8192x1280, .f32⟩
  | .hbm, ⟨18, _⟩ => ⟨S8192x1280, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S8192x1024, .bf16⟩
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]
-- ==== Fs5post.lean ====
abbrev S8192x512 : Shape := ⟨2, ![8192, 512]⟩
abbrev S512x1024 : Shape := ⟨2, ![512, 1024]⟩
abbrev S8192x1024 : Shape := ⟨2, ![8192, 1024]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x1024, .f32⟩
  | .hbm, ⟨3, _⟩ => ⟨S512x1024, .f32⟩
  | .hbm, ⟨4, _⟩ => ⟨S8192x512, .bf16⟩
  | .hbm, ⟨5, _⟩ => ⟨S512x1024, .bf16⟩
  | .hbm, ⟨6, _⟩ => ⟨S512x1024, .bf16⟩
  | .hbm, ⟨7, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Fs5postIdeal.lean ====
variable {F : FTy → Type} [FloatOps F] [Named F]
def κ : String → Option EReal := fun
  | "gelu_c" => some ((8943 / 200000 : ℝ) : EReal)
  | _ => none
-- ==== Fs5postRefIdeal.lean ====
abbrev S8192x512 : Shape := ⟨2, ![8192, 512]⟩
abbrev S512x1024 : Shape := ⟨2, ![512, 1024]⟩
abbrev S_ : Shape := ⟨0, ![]⟩
abbrev S8192x1024 : Shape := ⟨2, ![8192, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x1024, .f32⟩
  | .hbm, ⟨3, _⟩ => ⟨S512x1024, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x1024, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x1024, .f32⟩
  | .hbm, ⟨47, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Fin.lean ====
abbrev S8192x1024 : Shape := ⟨2, ![8192, 1024]⟩
abbrev S1024 : Shape := ⟨1, ![1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S1x1024 : Shape := ⟨2, ![1, 1024]⟩
abbrev S8192x512 : Shape := ⟨2, ![8192, 512]⟩
abbrev S8192x1280 : Shape := ⟨2, ![8192, 1280]⟩
abbrev S256x1024 : Shape := ⟨2, ![256, 1024]⟩
abbrev S1x1024x1408 : Shape := ⟨3, ![1, 1024, 1408]⟩
abbrev S256x512 : Shape := ⟨2, ![256, 512]⟩
abbrev S256x1280 : Shape := ⟨2, ![256, 1280]⟩
abbrev S1024x1408 : Shape := ⟨2, ![1024, 1408]⟩
abbrev S256 : Shape := ⟨1, ![256]⟩
abbrev S256x1 : Shape := ⟨2, ![256, 1]⟩
abbrev S256x1408 : Shape := ⟨2, ![256, 1408]⟩
abbrev S256x5632 : Shape := ⟨2, ![256, 5632]⟩

abbrev nBuf : Space → Nat
  | .hbm => 14
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S1024x5632, .bf16⟩
  | .hbm, ⟨4, _⟩ => ⟨S1024x4x1408, .bf16⟩
  | .hbm, ⟨5, _⟩ => ⟨S4x1024x1408, .bf16⟩
  | .hbm, ⟨6, _⟩ => ⟨S1x1024, .f32⟩
  | .hbm, ⟨7, _⟩ => ⟨S8192x512, .bf16⟩
  | .hbm, ⟨8, _⟩ => ⟨S8192x512, .bf16⟩
  | .hbm, ⟨9, _⟩ => ⟨S8192x1280, .bf16⟩
  | .hbm, ⟨10, _⟩ => ⟨S8192x1280, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x1280, .bf16⟩
  | .local _ .vmem, ⟨12, _⟩ => ⟨S256x1280, .bf16⟩
  | .local _ .vmem, ⟨13, _⟩ => ⟨S256x1280, .bf16⟩
  | .local _ .vmem, ⟨14, _⟩ => ⟨S256x1280, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev main_v4_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1280 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FinRefIdeal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x512 : Shape := ⟨2, ![8192, 512]⟩
abbrev S8192x1280 : Shape := ⟨2, ![8192, 1280]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x5632, .f32⟩
  | .hbm, ⟨20, _⟩ => ⟨S8192x512, .f32⟩
  | .hbm, ⟨21, _⟩ => ⟨S8192x512, .f32⟩
  | .hbm, ⟨22, _⟩ => ⟨S8192x1280, .f32⟩
  | .hbm, ⟨23, _⟩ => ⟨S8192x1280, .f32⟩
  | .hbm, ⟨24, _⟩ => ⟨S8192x1024, .f32⟩
  | .hbm, ⟨25, _⟩ => ⟨S8192x1024, .f32⟩
  | .hbm, ⟨26, _⟩ => ⟨S8192x512, .bf16⟩
  | .hbm, ⟨27, _⟩ => ⟨S8192x512, .bf16⟩
  | .hbm, ⟨28, _⟩ => ⟨S8192x1280, .bf16⟩
  | .hbm, ⟨29, _⟩ => ⟨S8192x1280, .bf16⟩
  | .hbm, ⟨30, _⟩ => ⟨S8192x1024, .bf16⟩
  | .hbm, ⟨31, _⟩ => ⟨S8192x1024, .bf16⟩
  | .hbm, ⟨32, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Fple.lean ====
abbrev S8192x1024 : Shape := ⟨2, ![8192, 1024]⟩
abbrev S8192x256 : Shape := ⟨2, ![8192, 256]⟩
abbrev S256x1024 : Shape := ⟨2, ![256, 1024]⟩
abbrev S1024x1024 : Shape := ⟨2, ![1024, 1024]⟩
abbrev S512x1024 : Shape := ⟨2, ![512, 1024]⟩
abbrev S512x256 : Shape := ⟨2, ![512, 256]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S256x1024, .f32⟩
  | .hbm, ⟨3, _⟩ => ⟨S1024x1024, .f32⟩
  | .hbm, ⟨4, _⟩ => ⟨S256x1024, .bf16⟩
  | .hbm, ⟨5, _⟩ => ⟨S1024x1024, .bf16⟩
  | .hbm, ⟨6, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S256x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FpleRefIdeal.lean ====
abbrev S8192x1024 : Shape := ⟨2, ![8192, 1024]⟩
abbrev S8192x256 : Shape := ⟨2, ![8192, 256]⟩
abbrev S256x1024 : Shape := ⟨2, ![256, 1024]⟩
abbrev S1024x1024 : Shape := ⟨2, ![1024, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S256x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Fprep.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S32x1x64 : Shape := ⟨3, ![32, 1, 64]⟩
abbrev S32x16x64 : Shape := ⟨3, ![32, 16, 64]⟩
abbrev S512x64 : Shape := ⟨2, ![512, 64]⟩

abbrev nBuf : Space → Nat
  | .hbm => 32
  | .vmem => 9
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x1, .f32⟩
  | .hbm, ⟨6, _⟩ => ⟨S32x64, .f32⟩
  | .hbm, ⟨7, _⟩ => ⟨S32x1x64, .f32⟩
  | .hbm, ⟨8, _⟩ => ⟨S32x16x64, .f32⟩
  | .hbm, ⟨9, _⟩ => ⟨S512x64, .f32⟩
  | .hbm, ⟨10, _⟩ => ⟨S32x1x64, .f32⟩
  | .hbm, ⟨11, _⟩ => ⟨S32x16x64, .f32⟩
  | .hbm, ⟨12, _⟩ => ⟨S512x64, .f32⟩
  | .hbm, ⟨13, _⟩ => ⟨S32x1x64, .f32⟩
  | .hbm, ⟨14, _⟩ => ⟨S32x16x64, .f32⟩
  | .hbm, ⟨15, _⟩ => ⟨S512x64, .f32⟩
  | .hbm, ⟨16, _⟩ => ⟨S32x16x64, .f32⟩
  | .hbm, ⟨17, _⟩ => ⟨S512x64, .f32⟩
  | .hbm, ⟨18, _⟩ => ⟨S32x16x64, .f32⟩
  | .hbm, ⟨19, _⟩ => ⟨S512x64, .f32⟩
  | .hbm, ⟨20, _⟩ => ⟨S512x64, .f32⟩
  | .hbm, ⟨21, _⟩ => ⟨S512x64, .f32⟩
  | .hbm, ⟨22, _⟩ => ⟨S512x64, .f32⟩
  | .hbm, ⟨23, _⟩ => ⟨S512x64, .f32⟩
  | .hbm, ⟨24, _⟩ => ⟨S32x16x64, .f32⟩
  | .hbm, ⟨25, _⟩ => ⟨S32x1x64, .f32⟩
  | .hbm, ⟨26, _⟩ => ⟨S32x64, .f32⟩
  | .hbm, ⟨27, _⟩ => ⟨S32x16x64, .f32⟩
  | .hbm, ⟨28, _⟩ => ⟨S32x1x64, .f32⟩
  | .hbm, ⟨29, _⟩ => ⟨S32x64, .f32⟩
  | .hbm, ⟨30, _⟩ => ⟨S32x16x64, .f32⟩
  | .hbm, ⟨31, _⟩ => ⟨S32x16x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev main_v15_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== FprepRefIdeal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x16x64 : Shape := ⟨3, ![32, 16, 64]⟩

abbrev nBuf : Space → Nat
  | .hbm => 51
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S_, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S_, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64x1, .f32⟩
  | .hbm, ⟨36, _⟩ => ⟨S32x64x16, .f32⟩
  | .hbm, ⟨37, _⟩ => ⟨S32x64x16, .f32⟩
  | .hbm, ⟨38, _⟩ => ⟨S32x64x1, .f32⟩
  | .hbm, ⟨39, _⟩ => ⟨S32x64x16, .f32⟩
  | .hbm, ⟨40, _⟩ => ⟨S32x64x16, .f32⟩
  | .hbm, ⟨41, _⟩ => ⟨S32x64x16, .f32⟩
  | .hbm, ⟨42, _⟩ => ⟨S32x64x1, .f32⟩
  | .hbm, ⟨43, _⟩ => ⟨S32x64x16, .f32⟩
  | .hbm, ⟨44, _⟩ => ⟨S32x64x16, .f32⟩
  | .hbm, ⟨45, _⟩ => ⟨S32x64x1, .f32⟩
  | .hbm, ⟨46, _⟩ => ⟨S32x64x16, .f32⟩
  | .hbm, ⟨47, _⟩ => ⟨S32x64x16, .f32⟩
  | .hbm, ⟨48, _⟩ => ⟨S32x64x16, .f32⟩
  | .hbm, ⟨49, _⟩ => ⟨S32x16x64, .f32⟩
  | .hbm, ⟨50, _⟩ => ⟨S32x16x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]
-- ==== Proof.Common.lean ====
/- What the row kernels' value proofs share: the logistic function written through `tanh`, the rows of a block of rows,
   and the running sum that an accumulator holds. -/
module

public import Idealize.ShloMosaic.Lib.Pointwise
public import Idealize.ShloMosaic.Lib.IdealHost
public import Idealize.ShloMosaic.Lib.Pipeline.Value

@[expose] public section

set_option maxRecDepth 16384

noncomputable section

namespace Cert.RowLib

open Idealize.ShloMosaic

/-- The word `0x3F000000` is one half. -/
theorem half_word : Ideal.ofBits .f32 0x3F000000#32 = ((1 / 2 : ℝ) : EReal) := by
  simp [Ideal.ofBits, Ideal.ieee, -EReal.coe_mul]; norm_num

/-- The logistic function as the kernels write it, through `tanh` of half the argument: on every extended real. -/
theorem half_tanh (x : EReal) :
    ((1 / 2 : ℝ) : EReal) * Ideal.tanh (((1 / 2 : ℝ) : EReal) * x) + ((1 / 2 : ℝ) : EReal) = Ideal.logistic x := by
  have e1 : (-1 : EReal) = ((-1 : ℝ) : EReal) := by norm_num
  have e2 : (1 : EReal) = ((1 : ℝ) : EReal) := by norm_num
  induction x with
  | bot =>
    rw [EReal.coe_mul_bot_of_pos (by norm_num), Ideal.tanh_bot, Ideal.logistic_bot, e1, ← EReal.coe_mul, ← EReal.coe_add]
    norm_num
  | top =>
    rw [EReal.coe_mul_top_of_pos (by norm_num), Ideal.tanh_top, Ideal.logistic_top, e2, ← EReal.coe_mul, ← EReal.coe_add]
    norm_num
  | coe x =>
    rw [← EReal.coe_mul, Ideal.tanh_coe, Ideal.logistic_coe, ← EReal.coe_mul, ← EReal.coe_add, EReal.coe_eq_coe_iff,
      Real.tanh_eq_sinh_div_cosh, Real.sinh_eq, Real.cosh_eq]
    have h : Real.exp (-x) = Real.exp (-(1 / 2 * x)) * Real.exp (-(1 / 2 * x)) := by rw [← Real.exp_add]; ring_nf
    have h1 : Real.exp (1 / 2 * x) * Real.exp (-(1 / 2 * x)) = 1 := by rw [← Real.exp_add]; simp
    have p := Real.exp_pos (1 / 2 * x)
    have q := Real.exp_pos (-(1 / 2 * x))
    rw [h]
    generalize Real.exp (1 / 2 * x) = a at *
    generalize Real.exp (-(1 / 2 * x)) = b at *
    field_simp
    nlinarith

/-- The row of an array of `R` rows that row `q` of block `s` (of `B` rows) is. -/
def row (R : ℕ) [NeZero R] {B : ℕ} (s : ℕ) (q : Fin B) : Fin R := ⟨(s * B + q) % R, Nat.mod_lt _ (NeZero.pos R)⟩

theorem row_val {R : ℕ} [NeZero R] {B T : ℕ} (hR : T * B = R) {s : ℕ} (hs : s < T) (q : Fin B) :
    (row R s q).val = s * B + q := by
  have h2 := q.isLt
  exact Nat.mod_eq_of_lt (by subst hR; nlinarith [Nat.mul_le_mul_right B (Nat.succ_le_of_lt hs)])

/-- Every row is a row of one of the blocks. -/
theorem exists_row {T B R : ℕ} [NeZero R] (hR : T * B = R) (r : Fin R) : ∃ s, s < T ∧ ∃ q : Fin B, row R s q = r := by
  have hB : 0 < B := Nat.pos_of_ne_zero fun h => NeZero.ne R (by rw [← hR, h, Nat.mul_zero])
  have hs : r.val / B < T := Nat.div_lt_of_lt_mul (by rw [Nat.mul_comm, hR]; exact r.isLt)
  refine ⟨r.val / B, hs, ⟨r.val % B, Nat.mod_lt _ hB⟩, Fin.ext ?_⟩
  rw [row_val hR hs, Nat.mul_comm]
  exact Nat.div_add_mod _ _

/-- A sum over all rows, block of rows by block of rows. -/
theorem sum_row {T B R : ℕ} [NeZero R] (hR : T * B = R) {M : Type*} [AddCommMonoid M] (f : Fin R → M) :
    ∑ s ∈ Finset.range T, ∑ q : Fin B, f (row R s q) = ∑ r, f r := by
  rw [← Fin.sum_univ_eq_sum_range (fun s => ∑ q : Fin B, f (row R s q)), ← Fintype.sum_prod_type']
  subst hR
  rw [← finProdFinEquiv.sum_comp f]
  refine Finset.sum_congr rfl fun p _ => congrArg f (Fin.ext ?_)
  rw [row_val rfl p.1.isLt]
  show p.1.val * B + p.2.val = p.2.val + B * p.1.val
  rw [Nat.mul_comm, Nat.add_comm]

/-- An accumulator that starts at its first addend and adds one more per point holds the sum of the addends so far. -/
theorem running {M : Type*} [AddCommMonoid M] {N : ℕ} (A : (n : ℕ) → n < N → M) (g : ℕ → M) (h0 : ∀ h, A 0 h = g 0)
    (hs : ∀ n h, A (n + 1) h = A n (Nat.lt_of_succ_lt h) + g (n + 1)) : ∀ n h, A n h = ∑ s ∈ Finset.range (n + 1), g s
  | 0, h => by rw [h0, Finset.sum_range_one]
  | n + 1, h => by rw [hs, running A g h0 hs n, Finset.sum_range_succ _ (n + 1)]

/-- A positive real factor goes inside a sum of extended reals, whatever the addends are. -/
theorem sum_mul_pos {ι : Type*} {c : ℝ} (hc : 0 < c) (s : Finset ι) (f : ι → EReal) :
    (∑ i ∈ s, f i) * (c : EReal) = ∑ i ∈ s, f i * (c : EReal) := by
  classical
  induction s using Finset.induction_on with
  | empty => simp
  | insert i s hi ih =>
    rw [Finset.sum_insert hi, Finset.sum_insert hi, ← ih,
      EReal.right_distrib_of_nonneg_of_ne_top (by exact_mod_cast hc.le) (EReal.coe_ne_top c)]

/-! ### The words the kernels and the references scale by -/

theorem word_1024th : Ideal.ofBits .f32 0x3A800000#32 = ((1 / 1024 : ℝ) : EReal) := by
  simp [Ideal.ofBits, Ideal.ieee, -EReal.coe_mul]; norm_num

theorem word_2048th : Ideal.ofBits .f32 0x3A000000#32 = ((1 / 2048 : ℝ) : EReal) := by
  simp [Ideal.ofBits, Ideal.ieee, -EReal.coe_mul]; norm_num

theorem word_1024 : Ideal.ofBits .f32 0x44800000#32 = ((1024 : ℝ) : EReal) := by
  simp [Ideal.ofBits, Ideal.ieee, -EReal.coe_mul]; norm_num

theorem word_2 : Ideal.ofBits .f32 0x40000000#32 = ((2 : ℝ) : EReal) := by
  simp [Ideal.ofBits, Ideal.ieee, -EReal.coe_mul]; norm_num

/-! ### Finite arrays -/

/-- Every entry of the array is a real number. -/
def IsReal {s : Shape} (x : s.Idx → EReal) : Prop := ∀ i, ∃ r : ℝ, x i = (r : EReal)

theorem word_top : Ideal.ofBits .f32 0x7F800000#32 = ⊤ := by simp [Ideal.ofBits, Ideal.ieee]

theorem word_bot : Ideal.ofBits .f32 0xFF800000#32 = ⊥ := by simp [Ideal.ofBits, Ideal.ieee]

/-- A number below the positive and above the negative infinity is real. -/
theorem real_of_cmp {x : EReal}
    (h : Ideal.cmp .olt x (Ideal.ofBits .f32 0x7F800000#32) &&& Ideal.cmp .ogt x (Ideal.ofBits .f32 0xFF800000#32) = 1#1) :
    ∃ r : ℝ, x = (r : EReal) := by
  rw [word_top, word_bot] at h
  induction x with
  | bot => exact absurd h (by simp [Ideal.cmp])
  | top => exact absurd h (by simp [Ideal.cmp])
  | coe r => exact ⟨r, rfl⟩

theorem real_mul {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

theorem real_add {x y : EReal} (hx : ∃ r : ℝ, x = (r : EReal)) (hy : ∃ r : ℝ, y = (r : EReal)) : ∃ r : ℝ, x + y = (r : EReal) := by
  obtain ⟨a, rfl⟩ := hx
  obtain ⟨b, rfl⟩ := hy
  exact ⟨a + b, (EReal.coe_add a b).symm⟩

theorem real_sum {ι : Type*} (s : Finset ι) {f : ι → EReal} (h : ∀ i, ∃ r : ℝ, f i = (r : EReal)) : ∃ r : ℝ, ∑ i ∈ s, f i = (r : EReal) := by
  choose g hg using h
  exact ⟨∑ i ∈ s, g i, by rw [Finset.sum_congr rfl fun i _ => hg i]; exact (map_sum (⟨⟨Real.toEReal, rfl⟩, EReal.coe_add⟩ : ℝ →+ EReal) g s).symm⟩

/-- Two arrays of two dimensions are equal where their entries are. -/
theorem ext2 {n0 n1 : Nat} {f g : (⟨2, ![n0, n1]⟩ : Shape).Idx → EReal} (h : ∀ a b, f (ix2 a b) = g (ix2 a b)) : f = g := by
  funext i
  rw [← ix2_eta i]
  exact h _ _

end Cert.RowLib

end
-- ==== Proof.PleKernel.lean ====
/- What the kernel of the gated projection's gradient leaves in its three result arrays, block of rows by block of rows. -/
module

public import proofs.«01_k».proof.Proof.Common
public import proofs.«01_k».proof.Proof.Gen.PleIdeal.Value

@[expose] public section

set_option maxRecDepth 16384

noncomputable section

namespace Cert.PleIdeal.Rows

open Cert.PleIdeal Cert.PleIdeal.Gen Cert.RowLib Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The last point. -/
abbrev tl : Fin grid0.N := ⟨15, lt_of_lt_of_eq (by decide) N_0.symm⟩

theorem hz : (![0, 0] : Fin 2 → Nat) = fun _ => 0 := funext fun a => by fin_cases a <;> rfl

/-! ## The blocks of the arguments -/

theorem at0 : ∀ t : Fin grid0.N, win0_0.index t 0 = t.val ∧ win0_0.index t 1 = 0 := by decide +kernel

theorem iblk0_apply (c : Dev nD) (t : Fin cfg0.N) (q : Fin 512) (k : Fin 1024) :
    iblk m c 0 t (ix2 q k) = V m c main_arg0 (ix2 (row 8192 t.val q) k) := by
  unfold iblk
  rw [View.read_apply, cast_eq]
  refine congrArg (V m c main_arg0) (Shape.idx_ext₂ ?_ ?_)
  · refine (Pipeline.Window.rect_emb_val win0_0 t _ 0).trans ((congrArg (· * 512 + q.val) (at0 t).1).trans ?_)
    exact (row_val (T := 16) (B := 512) rfl (lt_of_lt_of_eq t.isLt N_0) q).symm
  · exact Pipeline.Window.rect_emb_val_of_index_zero win0_0 t 1 (at0 t).2 _

theorem at1 : ∀ t : Fin grid0.N, win0_1.index t 0 = t.val ∧ win0_1.index t 1 = 0 := by decide +kernel

theorem iblk1_apply (c : Dev nD) (t : Fin cfg0.N) (q : Fin 512) (k : Fin 1024) :
    iblk m c 1 t (ix2 q k) = V m c main_arg1 (ix2 (row 8192 t.val q) k) := by
  unfold iblk
  rw [View.read_apply, cast_eq]
  refine congrArg (V m c main_arg1) (Shape.idx_ext₂ ?_ ?_)
  · refine (Pipeline.Window.rect_emb_val win0_1 t _ 0).trans ((congrArg (· * 512 + q.val) (at1 t).1).trans ?_)
    exact (row_val (T := 16) (B := 512) rfl (lt_of_lt_of_eq t.isLt N_0) q).symm
  · exact Pipeline.Window.rect_emb_val_of_index_zero win0_1 t 1 (at1 t).2 _

theorem at2 : ∀ t : Fin grid0.N, win0_2.index t 0 = t.val ∧ win0_2.index t 1 = 0 := by decide +kernel

theorem iblk2_apply (c : Dev nD) (t : Fin cfg0.N) (q : Fin 512) (k : Fin 256) :
    iblk m c 2 t (ix2 q k) = V m c main_arg2 (ix2 (row 8192 t.val q) k) := by
  unfold iblk
  rw [View.read_apply, cast_eq]
  refine congrArg (V m c main_arg2) (Shape.idx_ext₂ ?_ ?_)
  · refine (Pipeline.Window.rect_emb_val win0_2 t _ 0).trans ((congrArg (· * 512 + q.val) (at2 t).1).trans ?_)
    exact (row_val (T := 16) (B := 512) rfl (lt_of_lt_of_eq t.isLt N_0) q).symm
  · exact Pipeline.Window.rect_emb_val_of_index_zero win0_2 t 1 (at2 t).2 _

theorem at3 : ∀ t : Fin grid0.N, win0_3.index t 0 = 0 ∧ win0_3.index t 1 = 0 := by decide +kernel

theorem iblk3_eq (c : Dev nD) (t : Fin cfg0.N) : iblk m c 3 t = V m c main_v0 := by
  funext j
  unfold iblk
  rw [View.read_apply, cast_eq]
  refine congrArg (V m c main_v0) (Shape.idx_ext₂ ?_ ?_)
  · exact Pipeline.Window.rect_emb_val_of_index_zero win0_3 t 0 (at3 t).1 _
  · exact Pipeline.Window.rect_emb_val_of_index_zero win0_3 t 1 (at3 t).2 _

theorem at4 : ∀ t : Fin grid0.N, win0_4.index t 0 = 0 ∧ win0_4.index t 1 = 0 := by decide +kernel

theorem iblk4_eq (c : Dev nD) (t : Fin cfg0.N) : iblk m c 4 t = V m c main_v1 := by
  funext j
  unfold iblk
  rw [View.read_apply, cast_eq]
  refine congrArg (V m c main_v1) (Shape.idx_ext₂ ?_ ?_)
  · exact Pipeline.Window.rect_emb_val_of_index_zero win0_4 t 0 (at4 t).1 _
  · exact Pipeline.Window.rect_emb_val_of_index_zero win0_4 t 1 (at4 t).2 _

/-! ## What a point leaves -/

theorem outs_A (c : Dev nD) (t : Fin cfg0.N) (h : t.val % 16 = 0) : outsAt0 m c t.val t.isLt
    = (k0_pay8 (iblk m c 0 t) (iblk m c 1 t) (iblk m c 2 t) (iblk m c 3 t) (iblk m c 4 t),
       k0_pay2 (k0_pay9 (iblk m c 0 t) (iblk m c 1 t) (iblk m c 2 t) (iblk m c 4 t)) (k0_pay1 (F := Ideal)),
       k0_pay4 (k0_pay10 (iblk m c 0 t) (iblk m c 1 t) (iblk m c 2 t) (iblk m c 3 t) (iblk m c 4 t)) (k0_pay3 (F := Ideal))) := by
  refine (outsAt0_A m c t h h).trans (Prod.ext ?_ (Prod.ext ?_ ?_))
  · unfold out0_A_5
    rw [View.read_writes_eq_canon]
    · unfold kernelRun0_A
      dsimp only
      sl_unfold_words
      rw [View.canon_unit_zero hz]
      simp only [View.readAt_eq_ld, (hs0_0 t).read_unread, (hs0_1 t).read_unread, (hs0_2 t).read_unread, (hs0_3 t).read_unread, (hs0_4 t).read_unread,
        View.ld_unit_zero (S := S512x1024) hz, View.ld_unit_zero (S := S512x256) hz, View.ld_unit_zero (S := S256x1024) hz, View.ld_unit_zero (S := S1024x1024) hz]
    · intro y
      apply cover0_A_5
  · unfold out0_A_6
    rw [View.read_writes_eq_canon]
    · unfold kernelRun0_A
      dsimp only
      sl_unfold_words
      rw [View.canon_cons_unit_zero (S := S256x1024) hz, View.readCov_unit_zero (S := S256x1024) _ hz]
      simp only [View.readAt_eq_ld, (hs0_0 t).read_unread, (hs0_1 t).read_unread, (hs0_2 t).read_unread, (hs0_3 t).read_unread, (hs0_4 t).read_unread,
        View.ld_unit_zero (S := S512x1024) hz, View.ld_unit_zero (S := S512x256) hz, View.ld_unit_zero (S := S256x1024) hz, View.ld_unit_zero (S := S1024x1024) hz]
    · intro y
      apply cover0_A_6
  · unfold out0_A_7
    rw [View.read_writes_eq_canon]
    · unfold kernelRun0_A
      dsimp only
      sl_unfold_words
      rw [View.canon_cons_unit_zero (S := S1024x1024) hz, View.readCov_unit_zero (S := S1024x1024) _ hz]
      simp only [View.readAt_eq_ld, (hs0_0 t).read_unread, (hs0_1 t).read_unread, (hs0_2 t).read_unread, (hs0_3 t).read_unread, (hs0_4 t).read_unread,
        View.ld_unit_zero (S := S512x1024) hz, View.ld_unit_zero (S := S512x256) hz, View.ld_unit_zero (S := S256x1024) hz, View.ld_unit_zero (S := S1024x1024) hz]
    · intro y
      apply cover0_A_7

theorem outs_B (c : Dev nD) (t : Fin cfg0.N) (h : ¬t.val % 16 = 0) : outsAt0 m c t.val t.isLt
    = (k0_pay8 (iblk m c 0 t) (iblk m c 1 t) (iblk m c 2 t) (iblk m c 3 t) (iblk m c 4 t),
       k0_pay2 (k0_pay9 (iblk m c 0 t) (iblk m c 1 t) (iblk m c 2 t) (iblk m c 4 t)) (outsAt0 m c (t.val - 1) (Nat.lt_of_le_of_lt (Nat.sub_le _ _) t.isLt)).2.1,
       k0_pay4 (k0_pay10 (iblk m c 0 t) (iblk m c 1 t) (iblk m c 2 t) (iblk m c 3 t) (iblk m c 4 t)) (outsAt0 m c (t.val - 1) (Nat.lt_of_le_of_lt (Nat.sub_le _ _) t.isLt)).2.2) := by
  refine (outsAt0_B m c t h h).trans (Prod.ext ?_ (Prod.ext ?_ ?_))
  · unfold out0_B_5
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_6 t).read_unread, (hs0_7 t).read_unread,
        View.ld_unit_zero (S := S512x1024) hz, View.ld_unit_zero (S := S512x256) hz, View.ld_unit_zero (S := S256x1024) hz, View.ld_unit_zero (S := S1024x1024) hz]
    · intro y
      apply cover0_B_5
  · unfold out0_B_6
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_6 t).read_unread, (hs0_7 t).read_unread,
        View.ld_unit_zero (S := S512x1024) hz, View.ld_unit_zero (S := S512x256) hz, View.ld_unit_zero (S := S256x1024) hz, View.ld_unit_zero (S := S1024x1024) hz]
    · intro y
      apply cover0_B_6
  · unfold out0_B_7
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_6 t).read_unread, (hs0_7 t).read_unread,
        View.ld_unit_zero (S := S512x1024) hz, View.ld_unit_zero (S := S512x256) hz, View.ld_unit_zero (S := S256x1024) hz, View.ld_unit_zero (S := S1024x1024) hz]
    · intro y
      apply cover0_B_7

/-! ## The result arrays -/

theorem at5 : ∀ t : Fin grid0.N, win0_5.index t 0 = t.val ∧ win0_5.index t 1 = 0 := by decide +kernel

theorem final5 (c : Dev nD) (t : Fin cfg0.N) (q : Fin 512) (b : Fin 1024) :
    (dats m 0 c).arrAt 5 cfg0.N (ix2 (row 8192 t.val q) b) = (outsAt0 m c t.val t.isLt).1 (ix2 q b) := by
  have e : ((cfg0.win 5).blk t).view.emb (ix2 q b) = ix2 (row 8192 t.val q) b := Shape.idx_ext₂
    ((Pipeline.Window.rect_emb_val win0_5 t _ 0).trans ((congrArg (· * 512 + q.val) (at5 t).1).trans
      (row_val (T := 16) (B := 512) rfl (lt_of_lt_of_eq t.isLt N_0) q).symm))
    (Pipeline.Window.rect_emb_val_of_index_zero win0_5 t 1 (at5 t).2 _)
  refine (congrArg ((dats m 0 c).arrAt 5 cfg0.N) e.symm).trans
    (((dats m 0 c).arrAt_emb_eq_flushed 5 Value.disjoint5 t (flush0_5 t) (ix2 q b)).trans ?_)
  rw [Value.flushed5]
  rfl

theorem at6 : ∀ t : Fin grid0.N, win0_6.index t 0 = 0 ∧ win0_6.index t 1 = 0 := by decide +kernel

theorem final6 (c : Dev nD) :
    (dats m 0 c).arrAt 6 cfg0.N = (outsAt0 m c tl.val tl.isLt).2.1 := by
  refine (dats m 0 c).arrAt_eq_of_cover 6 _ (fun t hf => ?_) fun i => ?_
  · have ht : t.val = 15 := by
      have h1 := (flush0_6 t).mp hf
      have h2 := lt_of_lt_of_eq t.isLt N_0
      omega
    obtain rfl : t = tl := Fin.ext ht
    rw [Value.flushed6]
    generalize (outsAt0 m c tl.val tl.isLt).2.1 = G
    have hz' : (fun a => win0_6.index tl a * main_v2_1.ty.shape.size a) = fun _ => 0 :=
      funext fun a => by fin_cases a <;> decide +kernel
    exact (Memref.read_access_unit_zero (Elt Ideal) main_v2_1 hz' (fun a => by rw [congrFun hz' a]; simp) G).symm
  · refine ⟨tl, (flush0_6 _).mpr rfl, ?_⟩
    show i ∈ ((View.whole main_v2_1).slice (win0_6.rect tl)).set
    rw [View.set_slice_whole, Rect.mem_set_unit]
    have h0 : (i 0 : Nat) < 256 := (i 0).isLt
    have h1 : (i 1 : Nat) < 1024 := (i 1).isLt
    have e0 : win0_6.index tl 0 * 256 = 0 := by decide +kernel
    have e1 : win0_6.index tl 1 * 1024 = 0 := by decide +kernel
    intro a
    match a with
    | ⟨0, _⟩ => exact ⟨e0.trans_le (Nat.zero_le _), h0.trans_eq ((congrArg (· + 256) e0).trans (Nat.zero_add _)).symm⟩
    | ⟨1, _⟩ => exact ⟨e1.trans_le (Nat.zero_le _), h1.trans_eq ((congrArg (· + 1024) e1).trans (Nat.zero_add _)).symm⟩

theorem at7 : ∀ t : Fin grid0.N, win0_7.index t 0 = 0 ∧ win0_7.index t 1 = 0 := by decide +kernel

theorem final7 (c : Dev nD) :
    (dats m 0 c).arrAt 7 cfg0.N = (outsAt0 m c tl.val tl.isLt).2.2 := by
  refine (dats m 0 c).arrAt_eq_of_cover 7 _ (fun t hf => ?_) fun i => ?_
  · have ht : t.val = 15 := by
      have h1 := (flush0_7 t).mp hf
      have h2 := lt_of_lt_of_eq t.isLt N_0
      omega
    obtain rfl : t = tl := Fin.ext ht
    rw [Value.flushed7]
    generalize (outsAt0 m c tl.val tl.isLt).2.2 = G
    have hz' : (fun a => win0_7.index tl a * main_v2_2.ty.shape.size a) = fun _ => 0 :=
      funext fun a => by fin_cases a <;> decide +kernel
    exact (Memref.read_access_unit_zero (Elt Ideal) main_v2_2 hz' (fun a => by rw [congrFun hz' a]; simp) G).symm
  · refine ⟨tl, (flush0_7 _).mpr rfl, ?_⟩
    show i ∈ ((View.whole main_v2_2).slice (win0_7.rect tl)).set
    rw [View.set_slice_whole, Rect.mem_set_unit]
    have h0 : (i 0 : Nat) < 1024 := (i 0).isLt
    have h1 : (i 1 : Nat) < 1024 := (i 1).isLt
    have e0 : win0_7.index tl 0 * 1024 = 0 := by decide +kernel
    have e1 : win0_7.index tl 1 * 1024 = 0 := by decide +kernel
    intro a
    match a with
    | ⟨0, _⟩ => exact ⟨e0.trans_le (Nat.zero_le _), h0.trans_eq ((congrArg (· + 1024) e0).trans (Nat.zero_add _)).symm⟩
    | ⟨1, _⟩ => exact ⟨e1.trans_le (Nat.zero_le _), h1.trans_eq ((congrArg (· + 1024) e1).trans (Nat.zero_add _)).symm⟩

end Cert.PleIdeal.Rows

end
-- ==== Proof.PleValue.lean ====
/- The gradient of the gated per-row projection: the kernel's three result arrays and the derivative of the forward lines
   are the same functions of the arguments. -/
module

public import proofs.«01_k».proof.Proof.PleKernel
public import proofs.«01_k».proof.Proof.Gen.PleRefIdeal.Read

@[expose] public section

set_option maxRecDepth 16384

noncomputable section

open Cert.RowLib Idealize.ShloMosaic Idealize.ShloMosaic.TcCoe Idealize.SL.Sem

/-! ## The mathematics -/

namespace Cert.PleMath

variable (dx2 x1 : (⟨2, ![8192, 1024]⟩ : Shape).Idx → EReal) (p : (⟨2, ![8192, 256]⟩ : Shape).Idx → EReal)
  (w : (⟨2, ![256, 1024]⟩ : Shape).Idx → EReal) (wg : (⟨2, ![1024, 1024]⟩ : Shape).Idx → EReal)

/-- The gate of row `r`. -/
def gate (r : Fin 8192) (b : Fin 1024) : EReal := Ideal.logistic (∑ k : Fin 1024, x1 (ix2 r k) * wg (ix2 k b))

/-- The gradient of the gate's argument. -/
def dpre (r : Fin 8192) (b : Fin 1024) : EReal :=
  dx2 (ix2 r b) * (∑ k : Fin 256, p (ix2 r k) * w (ix2 k b)) * gate x1 wg r b * (1 - gate x1 wg r b)

def dx (r : Fin 8192) (b : Fin 1024) : EReal :=
  dx2 (ix2 r b) + ∑ k : Fin 1024, dpre dx2 x1 p w wg r k * wg (ix2 b k)

def dw (a : Fin 256) (b : Fin 1024) : EReal := ∑ r : Fin 8192, p (ix2 r a) * (dx2 (ix2 r b) * gate x1 wg r b)

def dwg (a b : Fin 1024) : EReal := ∑ r : Fin 8192, x1 (ix2 r a) * dpre dx2 x1 p w wg r b

end Cert.PleMath

/-! ## The kernel -/

namespace Cert.PleIdeal.Rows

open Cert.PleIdeal Cert.PleIdeal.Gen Cert.PleMath

variable (m : (ℓ : Loc nD τ sig) → Buf (Elt Ideal) ℓ) (ρ : Dev nD → PrngReg)

theorem V_v0 (c : Dev nD) : V m c main_v0 = truncf (F := Ideal) .bf16 (m ((c : Thread nD τ).loc main_arg3)) bitsLt_bf16_f32 := by
  unfold V
  simp only [hostOps0]
  after_results

theorem V_v1 (c : Dev nD) : V m c main_v1 = truncf (F := Ideal) .bf16 (m ((c : Thread nD τ).loc main_arg4)) bitsLt_bf16_f32 := by
  unfold V
  simp only [hostOps0]
  after_results

/-! ### The payloads, over blocks of rows -/

section Pay

variable {s : ℕ} {x0 x1 : S8192x1024.Idx → EReal} {x2 : S8192x256.Idx → EReal} {x3 : S256x1024.Idx → EReal} {x4 : S1024x1024.Idx → EReal}
  {v0 v1 : Vec Ideal S512x1024 .f32} {v2 : Vec Ideal S512x256 .f32} {v3 : Vec Ideal S256x1024 .bf16} {v5 : Vec Ideal S1024x1024 .bf16}
  (h0 : ∀ q k, v0 (ix2 q k) = x0 (ix2 (row 8192 s q) k)) (h1 : ∀ q k, v1 (ix2 q k) = x1 (ix2 (row 8192 s q) k))
  (h2 : ∀ q k, v2 (ix2 q k) = x2 (ix2 (row 8192 s q) k)) (h3 : ∀ j, v3 j = x3 j) (h5 : ∀ j, v5 j = x4 j)

include h1 h5 in
theorem pay6 (q : Fin 512) (b : Fin 1024) : k0_pay6 v1 v5 (ix2 q b) = gate x1 x4 (row 8192 s q) b := by
  unfold_payloads
  pointwise [half_word, h1, h5]
  exact half_tanh _

include h0 h1 h2 h3 h5 in
theorem pay7 (q : Fin 512) (b : Fin 1024) : k0_pay7 v0 v1 v2 v3 v5 (ix2 q b) = dpre x0 x1 x2 x3 x4 (row 8192 s q) b := by
  unfold k0_pay7
  pointwise [pay6 h1 h5, h0, h2, h3]
  rfl

include h0 h1 h2 h3 h5 in
theorem pay8 (q : Fin 512) (b : Fin 1024) : k0_pay8 v0 v1 v2 v3 v5 (ix2 q b) = dx x0 x1 x2 x3 x4 (row 8192 s q) b := by
  unfold k0_pay8 k0_pay5
  pointwise [pay7 h0 h1 h2 h3 h5, h0, h5]
  rfl

include h0 h1 h2 h5 in
theorem pay9 (a : Fin 256) (b : Fin 1024) : k0_pay9 v0 v1 v2 v5 (ix2 a b)
    = ∑ q : Fin 512, x2 (ix2 (row 8192 s q) a) * (x0 (ix2 (row 8192 s q) b) * gate x1 x4 (row 8192 s q) b) := by
  unfold k0_pay9
  pointwise [pay6 h1 h5, h0, h2]

include h0 h1 h2 h3 h5 in
theorem pay10 (a b : Fin 1024) : k0_pay10 v0 v1 v2 v3 v5 (ix2 a b)
    = ∑ q : Fin 512, x1 (ix2 (row 8192 s q) a) * dpre x0 x1 x2 x3 x4 (row 8192 s q) b := by
  unfold k0_pay10
  pointwise [pay7 h0 h1 h2 h3 h5, h1]

end Pay

/-! ### The arguments -/

abbrev a0 (c : Dev nD) : S8192x1024.Idx → EReal := m ((c : Thread nD τ).loc main_arg0)
abbrev a1 (c : Dev nD) : S8192x1024.Idx → EReal := m ((c : Thread nD τ).loc main_arg1)
abbrev a2 (c : Dev nD) : S8192x256.Idx → EReal := m ((c : Thread nD τ).loc main_arg2)
abbrev a3 (c : Dev nD) : S256x1024.Idx → EReal := m ((c : Thread nD τ).loc main_arg3)
abbrev a4 (c : Dev nD) : S1024x1024.Idx → EReal := m ((c : Thread nD τ).loc main_arg4)

theorem b0 (c : Dev nD) (t : Fin cfg0.N) (q : Fin 512) (k : Fin 1024) : iblk m c 0 t (ix2 q k) = a0 m c (ix2 (row 8192 t.val q) k) :=
  (iblk0_apply m c t q k).trans (congrFun (V_main_arg0 m c) _)
theorem b1 (c : Dev nD) (t : Fin cfg0.N) (q : Fin 512) (k : Fin 1024) : iblk m c 1 t (ix2 q k) = a1 m c (ix2 (row 8192 t.val q) k) :=
  (iblk1_apply m c t q k).trans (congrFun (V_main_arg1 m c) _)
theorem b2 (c : Dev nD) (t : Fin cfg0.N) (q : Fin 512) (k : Fin 256) : iblk m c 2 t (ix2 q k) = a2 m c (ix2 (row 8192 t.val q) k) :=
  (iblk2_apply m c t q k).trans (congrFun (V_main_arg2 m c) _)
theorem b3 (c : Dev nD) (t : Fin cfg0.N) (j : S256x1024.Idx) : iblk m c 3 t j = a3 m c j :=
  (congrFun (iblk3_eq m c t) j).trans (congrFun (V_v0 m c) j)
theorem b4 (c : Dev nD) (t : Fin cfg0.N) (j : S1024x1024.Idx) : iblk m c 4 t j = a4 m c j :=
  (congrFun (iblk4_eq m c t) j).trans (congrFun (V_v1 m c) j)

/-! ### The result arrays -/

theorem rows5 (c : Dev nD) (t : Fin cfg0.N) (q : Fin 512) (b : Fin 1024) :
    (outsAt0 m c t.val t.isLt).1 (ix2 q b) = dx (a0 m c) (a1 m c) (a2 m c) (a3 m c) (a4 m c) (row 8192 t.val q) b := by
  by_cases h : t.val % 16 = 0
  · rw [outs_A m c t h]
    exact pay8 (b0 m c t) (b1 m c t) (b2 m c t) (b3 m c t) (b4 m c t) q b
  · rw [outs_B m c t h]
    exact pay8 (b0 m c t) (b1 m c t) (b2 m c t) (b3 m c t) (b4 m c t) q b

theorem sum6 (c : Dev nD) (n : ℕ) (hn : n < cfg0.N) (a : Fin 256) (b : Fin 1024) : (outsAt0 m c n hn).2.1 (ix2 a b)
    = ∑ s ∈ Finset.range (n + 1), ∑ q : Fin 512, a2 m c (ix2 (row 8192 s q) a) * (a0 m c (ix2 (row 8192 s q) b) * gate (a1 m c) (a4 m c) (row 8192 s q) b) := by
  refine running (fun n h => (outsAt0 m c n h).2.1 (ix2 a b)) (fun s => ∑ q : Fin 512, a2 m c (ix2 (row 8192 s q) a) * (a0 m c (ix2 (row 8192 s q) b) * gate (a1 m c) (a4 m c) (row 8192 s q) b)) (fun h => ?_) (fun n h => ?_) n hn
  · rw [outs_A m c ⟨0, h⟩ rfl]
    unfold k0_pay2 k0_pay1
    pointwise
    exact pay9 (b0 m c ⟨0, h⟩) (b1 m c ⟨0, h⟩) (b2 m c ⟨0, h⟩) (b4 m c ⟨0, h⟩) a b
  · have hN := lt_of_lt_of_eq h N_0
    rw [outs_B m c ⟨n + 1, h⟩ (show ¬(n + 1) % 16 = 0 by omega)]
    unfold k0_pay2
    pointwise [pay9 (b0 m c ⟨n + 1, h⟩) (b1 m c ⟨n + 1, h⟩) (b2 m c ⟨n + 1, h⟩) (b4 m c ⟨n + 1, h⟩)]
    rfl

theorem sum7 (c : Dev nD) (n : ℕ) (hn : n < cfg0.N) (a b : Fin 1024) : (outsAt0 m c n hn).2.2 (ix2 a b)
    = ∑ s ∈ Finset.range (n + 1), ∑ q : Fin 512, a1 m c (ix2 (row 8192 s q) a) * dpre (a0 m c) (a1 m c) (a2 m c) (a3 m c) (a4 m c) (row 8192 s q) b := by
  refine running (fun n h => (outsAt0 m c n h).2.2 (ix2 a b)) (fun s => ∑ q : Fin 512, a1 m c (ix2 (row 8192 s q) a) * dpre (a0 m c) (a1 m c) (a2 m c) (a3 m c) (a4 m c) (row 8192 s q) b) (fun h => ?_) (fun n h => ?_) n hn
  · rw [outs_A m c ⟨0, h⟩ rfl]
    unfold k0_pay4 k0_pay3
    pointwise
    exact pay10 (b0 m c ⟨0, h⟩) (b1 m c ⟨0, h⟩) (b2 m c ⟨0, h⟩) (b3 m c ⟨0, h⟩) (b4 m c ⟨0, h⟩) a b
  · have hN := lt_of_lt_of_eq h N_0
    rw [outs_B m c ⟨n + 1, h⟩ (show ¬(n + 1) % 16 = 0 by omega)]
    unfold k0_pay4
    pointwise [pay10 (b0 m c ⟨n + 1, h⟩) (b1 m c ⟨n + 1, h⟩) (b2 m c ⟨n + 1, h⟩) (b3 m c ⟨n + 1, h⟩) (b4 m c ⟨n + 1, h⟩)]
    rfl

theorem res5 (c : Dev nD) (r : Fin 8192) (b : Fin 1024) :
    (dats m 0 c).arrAt 5 cfg0.N (ix2 r b) = dx (a0 m c) (a1 m c) (a2 m c) (a3 m c) (a4 m c) r b := by
  obtain ⟨s, hs, q, rfl⟩ := exists_row (T := 16) (B := 512) rfl r
  exact (final5 m c ⟨s, lt_of_lt_of_eq hs N_0.symm⟩ q b).trans (rows5 m c ⟨s, lt_of_lt_of_eq hs N_0.symm⟩ q b)

theorem res6 (c : Dev nD) (a : Fin 256) (b : Fin 1024) :
    (dats m 0 c).arrAt 6 cfg0.N (ix2 a b) = dw (a0 m c) (a1 m c) (a2 m c) (a4 m c) a b :=
  (congrFun (final6 m c) (ix2 a b)).trans ((sum6 m c 15 tl.isLt a b).trans
    (sum_row (T := 16) (B := 512) rfl fun r => a2 m c (ix2 r a) * (a0 m c (ix2 r b) * gate (a1 m c) (a4 m c) r b)))

theorem res7 (c : Dev nD) (a b : Fin 1024) :
    (dats m 0 c).arrAt 7 cfg0.N (ix2 a b) = dwg (a0 m c) (a1 m c) (a2 m c) (a3 m c) (a4 m c) a b :=
  (congrFun (final7 m c) (ix2 a b)).trans ((sum7 m c 15 tl.isLt a b).trans
    (sum_row (T := 16) (B := 512) rfl fun r => a1 m c (ix2 r a) * dpre (a0 m c) (a1 m c) (a2 m c) (a3 m c) (a4 m c) r b))

end Cert.PleIdeal.Rows

/-! ## The reference -/

namespace Cert.PleRefIdeal.Rows

open Cert.PleRefIdeal Cert.PleRefIdeal.Gen Cert.PleRefIdeal.Read Cert.PleMath

variable (x0 x1 : S8192x1024.Idx → EReal) (x2 : S8192x256.Idx → EReal) (x3 : S256x1024.Idx → EReal) (x4 : S1024x1024.Idx → EReal)

theorem gate_eq (r : Fin 8192) (b : Fin 1024) : val_main_v7 (F := Ideal) x1 x4 (ix2 r b) = gate x1 x4 r b := by
  unfold val_main_v7 val_main_v6 val_main_v5 val_main_v4 val_main_v3 val_main_v2 val_main_v1 val_main_cst val_main_cst_0
  pointwise
  rfl

theorem dpre_eq (r : Fin 8192) (b : Fin 1024) :
    val_main_v16 (F := Ideal) x0 x1 x2 x3 x4 (ix2 r b) = dpre x0 x1 x2 x3 x4 r b := by
  unfold val_main_v16 val_main_v14 val_main_v13 val_main_v10 val_main_v9 val_main_v8 val_main_cst_1 val_main_v0
  pointwise [gate_eq]
  unfold dpre
  ac_norm

theorem dx_eq (r : Fin 8192) (b : Fin 1024) :
    val_main_v20 (F := Ideal) x0 x1 x2 x3 x4 (ix2 r b) = dx x0 x1 x2 x3 x4 r b := by
  unfold val_main_v20 val_main_v19
  pointwise [dpre_eq]
  rfl

theorem dw_eq (a : Fin 256) (b : Fin 1024) : val_main_v22 (F := Ideal) x0 x1 x2 x4 (ix2 a b) = dw x0 x1 x2 x4 a b := by
  unfold val_main_v22 val_main_v21 val_main_v15 val_main_v13
  pointwise [gate_eq]
  exact Finset.sum_congr rfl fun r _ => mul_comm _ _

theorem dwg_eq (a b : Fin 1024) : val_main_v18 (F := Ideal) x0 x1 x2 x3 x4 (ix2 a b) = dwg x0 x1 x2 x3 x4 a b := by
  unfold val_main_v18 val_main_v17
  pointwise [dpre_eq]
  exact Finset.sum_congr rfl fun r _ => mul_comm _ _

end Cert.PleRefIdeal.Rows

end
-- ==== Proof.PleClaim.lean ====
/- The claim about the gradient of the gated per-row projection. -/
module

public import proofs.«01_k».proof.Defs
public import proofs.«01_k».proof.Proof.PleValue
public import proofs.«01_k».proof.Proof.Gen.PleRefIdeal.Run

@[expose] public section

set_option maxRecDepth 16384

noncomputable section

namespace Cert.Proof

open Cert.RowLib Idealize.ShloMosaic Idealize.ShloMosaic.TcCoe Idealize.SL.Sem

/-- The kernel's result arrays are those of the reference. -/
theorem ple_value :
    Cert.algebraic_PleIdeal_PleRefIdeal (hPleIdeal := Cert.PleIdeal.Gen.facts) (hPleRefIdeal := Cert.PleRefIdeal.Gen.facts) := by
  intro m g m' g' hpre hag
  refine ⟨fun c => (Cert.PleIdeal.Gen.dats m 0 c).arrAt 5 Cert.PleIdeal.cfg0.N, fun c => (Cert.PleIdeal.Gen.dats m 0 c).arrAt 6 Cert.PleIdeal.cfg0.N, fun c => (Cert.PleIdeal.Gen.dats m 0 c).arrAt 7 Cert.PleIdeal.cfg0.N,
    Cert.PleIdeal.Value.run_blocks m g, (θ_run _ _ _).mono (fun r h c => ?_) (Cert.PleRefIdeal.Value.run m' g')⟩
  obtain ⟨e0, e1, e2, e3, e4⟩ := hag c
  exact ⟨((h c).1.trans (Cert.PleRefIdeal.Read.val_main_v20_eq ..)).trans (ext2 fun a b => by
      rw [e0, e1, e2, e3, e4]
      exact (Cert.PleRefIdeal.Rows.dx_eq _ _ _ _ _  a b).trans (Cert.PleIdeal.Rows.res5 m c a b).symm),
    ((h c).2.1.trans (Cert.PleRefIdeal.Read.val_main_v22_eq ..)).trans (ext2 fun a b => by
      rw [e0, e1, e2, e4]
      exact (Cert.PleRefIdeal.Rows.dw_eq _ _ _ _  a b).trans (Cert.PleIdeal.Rows.res6 m c a b).symm),
    ((h c).2.2.1.trans (Cert.PleRefIdeal.Read.val_main_v18_eq ..)).trans (ext2 fun a b => by
      rw [e0, e1, e2, e3, e4]
      exact (Cert.PleRefIdeal.Rows.dwg_eq _ _ _ _ _  a b).trans (Cert.PleIdeal.Rows.res7 m c a b).symm),
    (h c).2.2.2⟩

end Cert.Proof

end
-- ==== Proof.LossKernel.lean ====
/- What the kernel of the loss and its gradient leaves in its two result arrays, block of rows by block of rows. -/
module

public import proofs.«01_k».proof.Proof.Common
public import proofs.«01_k».proof.Proof.Gen.LossIdeal.Value

@[expose] public section

set_option maxRecDepth 16384

noncomputable section

namespace Cert.LossIdeal.Rows

open Cert.LossIdeal Cert.LossIdeal.Gen Cert.RowLib Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The last point. -/
abbrev tl : Fin grid0.N := ⟨15, lt_of_lt_of_eq (by decide) N_0.symm⟩

theorem hz : (![0, 0] : Fin 2 → Nat) = fun _ => 0 := funext fun a => by fin_cases a <;> rfl

/-! ## The blocks of the arguments -/

theorem at0 : ∀ t : Fin grid0.N, win0_0.index t 0 = t.val ∧ win0_0.index t 1 = 0 := by decide +kernel

theorem iblk0_apply (c : Dev nD) (t : Fin cfg0.N) (q : Fin 512) (k : Fin 1024) :
    iblk m c 0 t (ix2 q k) = V m c main_arg0 (ix2 (row 8192 t.val q) k) := by
  unfold iblk
  rw [View.read_apply, cast_eq]
  refine congrArg (V m c main_arg0) (Shape.idx_ext₂ ?_ ?_)
  · refine (Pipeline.Window.rect_emb_val win0_0 t _ 0).trans ((congrArg (· * 512 + q.val) (at0 t).1).trans ?_)
    exact (row_val (T := 16) (B := 512) rfl (lt_of_lt_of_eq t.isLt N_0) q).symm
  · exact Pipeline.Window.rect_emb_val_of_index_zero win0_0 t 1 (at0 t).2 _

theorem at1 : ∀ t : Fin grid0.N, win0_1.index t 0 = t.val ∧ win0_1.index t 1 = 0 := by decide +kernel

theorem iblk1_apply (c : Dev nD) (t : Fin cfg0.N) (q : Fin 512) (k : Fin 256) :
    iblk m c 1 t (ix2 q k) = V m c main_arg1 (ix2 (row 8192 t.val q) k) := by
  unfold iblk
  rw [View.read_apply, cast_eq]
  refine congrArg (V m c main_arg1) (Shape.idx_ext₂ ?_ ?_)
  · refine (Pipeline.Window.rect_emb_val win0_1 t _ 0).trans ((congrArg (· * 512 + q.val) (at1 t).1).trans ?_)
    exact (row_val (T := 16) (B := 512) rfl (lt_of_lt_of_eq t.isLt N_0) q).symm
  · exact Pipeline.Window.rect_emb_val_of_index_zero win0_1 t 1 (at1 t).2 _

theorem at2 : ∀ t : Fin grid0.N, win0_2.index t 0 = 0 ∧ win0_2.index t 1 = 0 := by decide +kernel

theorem iblk2_eq (c : Dev nD) (t : Fin cfg0.N) : iblk m c 2 t = V m c main_v0 := by
  funext j
  unfold iblk
  rw [View.read_apply, cast_eq]
  refine congrArg (V m c main_v0) (Shape.idx_ext₂ ?_ ?_)
  · exact Pipeline.Window.rect_emb_val_of_index_zero win0_2 t 0 (at2 t).1 _
  · exact Pipeline.Window.rect_emb_val_of_index_zero win0_2 t 1 (at2 t).2 _

theorem at3 : ∀ t : Fin grid0.N, win0_3.index t 0 = 0 ∧ win0_3.index t 1 = 0 := by decide +kernel

theorem iblk3_eq (c : Dev nD) (t : Fin cfg0.N) : iblk m c 3 t = V m c main_v1 := by
  funext j
  unfold iblk
  rw [View.read_apply, cast_eq]
  refine congrArg (V m c main_v1) (Shape.idx_ext₂ ?_ ?_)
  · exact Pipeline.Window.rect_emb_val_of_index_zero win0_3 t 0 (at3 t).1 _
  · exact Pipeline.Window.rect_emb_val_of_index_zero win0_3 t 1 (at3 t).2 _

theorem at4 : ∀ t : Fin grid0.N, win0_4.index t 0 = t.val ∧ win0_4.index t 1 = 0 := by decide +kernel

theorem iblk4_apply (c : Dev nD) (t : Fin cfg0.N) (q : Fin 512) (k : Fin 1024) :
    iblk m c 4 t (ix2 q k) = V m c main_arg2 (ix2 (row 8192 t.val q) k) := by
  unfold iblk
  rw [View.read_apply, cast_eq]
  refine congrArg (V m c main_arg2) (Shape.idx_ext₂ ?_ ?_)
  · refine (Pipeline.Window.rect_emb_val win0_4 t _ 0).trans ((congrArg (· * 512 + q.val) (at4 t).1).trans ?_)
    exact (row_val (T := 16) (B := 512) rfl (lt_of_lt_of_eq t.isLt N_0) q).symm
  · exact Pipeline.Window.rect_emb_val_of_index_zero win0_4 t 1 (at4 t).2 _

/-! ## What a point leaves -/

theorem outs_A (c : Dev nD) (t : Fin cfg0.N) (h : t.val % 16 = 0) : outsAt0 m c t.val t.isLt
    = (k0_pay3 (iblk m c 0 t) (iblk m c 1 t) (iblk m c 2 t) (iblk m c 3 t) (iblk m c 4 t),
       k0_pay1 (k0_pay4 (iblk m c 0 t) (iblk m c 1 t) (iblk m c 2 t) (iblk m c 3 t) (iblk m c 4 t)) (k0_pay5 (F := Ideal))) := by
  refine (outsAt0_A m c t h).trans (Prod.ext ?_ ?_)
  · unfold out0_A_5
    rw [View.read_writes_eq_canon]
    · unfold kernelRun0_A
      dsimp only
      sl_unfold_words
      rw [View.canon_unit_zero hz]
      simp only [View.readAt_eq_ld, (hs0_0 t).read_unread, (hs0_1 t).read_unread, (hs0_2 t).read_unread, (hs0_3 t).read_unread, (hs0_4 t).read_unread,
        View.ld_unit_zero (S := S512x1024) hz, View.ld_unit_zero (S := S512x256) hz, View.ld_unit_zero (S := S256x1024) hz, View.ld_unit_zero (S := S1024x1024) hz, View.ld_unit_zero (S := S1x1) hz]
    · intro y
      apply cover0_A_5
  · unfold out0_A_6
    rw [View.read_writes_eq_canon]
    · unfold kernelRun0_A
      dsimp only
      sl_unfold_words
      rw [View.canon_cons_unit_zero (S := S1x1) hz, View.readCov_unit_zero (S := S1x1) _ hz]
      simp only [View.readAt_eq_ld, (hs0_0 t).read_unread, (hs0_1 t).read_unread, (hs0_2 t).read_unread, (hs0_3 t).read_unread, (hs0_4 t).read_unread,
        View.ld_unit_zero (S := S512x1024) hz, View.ld_unit_zero (S := S512x256) hz, View.ld_unit_zero (S := S256x1024) hz, View.ld_unit_zero (S := S1024x1024) hz, View.ld_unit_zero (S := S1x1) hz]
    · intro y
      apply cover0_A_6

theorem outs_B (c : Dev nD) (t : Fin cfg0.N) (h : ¬t.val % 16 = 0) : outsAt0 m c t.val t.isLt
    = (k0_pay3 (iblk m c 0 t) (iblk m c 1 t) (iblk m c 2 t) (iblk m c 3 t) (iblk m c 4 t),
       k0_pay1 (k0_pay4 (iblk m c 0 t) (iblk m c 1 t) (iblk m c 2 t) (iblk m c 3 t) (iblk m c 4 t)) (outsAt0 m c (t.val - 1) (Nat.lt_of_le_of_lt (Nat.sub_le _ _) t.isLt)).2) := by
  refine (outsAt0_B m c t h).trans (Prod.ext ?_ ?_)
  · unfold out0_B_5
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_6 t).read_unread,
        View.ld_unit_zero (S := S512x1024) hz, View.ld_unit_zero (S := S512x256) hz, View.ld_unit_zero (S := S256x1024) hz, View.ld_unit_zero (S := S1024x1024) hz, View.ld_unit_zero (S := S1x1) hz]
    · intro y
      apply cover0_B_5
  · unfold out0_B_6
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_6 t).read_unread,
        View.ld_unit_zero (S := S512x1024) hz, View.ld_unit_zero (S := S512x256) hz, View.ld_unit_zero (S := S256x1024) hz, View.ld_unit_zero (S := S1024x1024) hz, View.ld_unit_zero (S := S1x1) hz]
    · intro y
      apply cover0_B_6

/-! ## The result arrays -/

theorem at5 : ∀ t : Fin grid0.N, win0_5.index t 0 = t.val ∧ win0_5.index t 1 = 0 := by decide +kernel

theorem final5 (c : Dev nD) (t : Fin cfg0.N) (q : Fin 512) (b : Fin 1024) :
    (dats m 0 c).arrAt 5 cfg0.N (ix2 (row 8192 t.val q) b) = (outsAt0 m c t.val t.isLt).1 (ix2 q b) := by
  have e : ((cfg0.win 5).blk t).view.emb (ix2 q b) = ix2 (row 8192 t.val q) b := Shape.idx_ext₂
    ((Pipeline.Window.rect_emb_val win0_5 t _ 0).trans ((congrArg (· * 512 + q.val) (at5 t).1).trans
      (row_val (T := 16) (B := 512) rfl (lt_of_lt_of_eq t.isLt N_0) q).symm))
    (Pipeline.Window.rect_emb_val_of_index_zero win0_5 t 1 (at5 t).2 _)
  refine (congrArg ((dats m 0 c).arrAt 5 cfg0.N) e.symm).trans
    (((dats m 0 c).arrAt_emb_eq_flushed 5 Value.disjoint5 t (flush0_5 t) (ix2 q b)).trans ?_)
  rw [Value.flushed5]
  rfl

theorem at6 : ∀ t : Fin grid0.N, win0_6.index t 0 = 0 ∧ win0_6.index t 1 = 0 := by decide +kernel

theorem final6 (c : Dev nD) :
    (dats m 0 c).arrAt 6 cfg0.N = (outsAt0 m c tl.val tl.isLt).2 := by
  refine (dats m 0 c).arrAt_eq_of_cover 6 _ (fun t hf => ?_) fun i => ?_
  · have ht : t.val = 15 := by
      have h1 := (flush0_6 t).mp hf
      have h2 := lt_of_lt_of_eq t.isLt N_0
      omega
    obtain rfl : t = tl := Fin.ext ht
    rw [Value.flushed6]
    generalize (outsAt0 m c tl.val tl.isLt).2 = G
    have hz' : (fun a => win0_6.index tl a * main_v2_1.ty.shape.size a) = fun _ => 0 :=
      funext fun a => by fin_cases a <;> decide +kernel
    exact (Memref.read_access_unit_zero (Elt Ideal) main_v2_1 hz' (fun a => by rw [congrFun hz' a]; simp) G).symm
  · refine ⟨tl, (flush0_6 _).mpr rfl, ?_⟩
    show i ∈ ((View.whole main_v2_1).slice (win0_6.rect tl)).set
    rw [View.set_slice_whole, Rect.mem_set_unit]
    have h0 : (i 0 : Nat) < 1 := (i 0).isLt
    have h1 : (i 1 : Nat) < 1 := (i 1).isLt
    have e0 : win0_6.index tl 0 * 1 = 0 := by decide +kernel
    have e1 : win0_6.index tl 1 * 1 = 0 := by decide +kernel
    intro a
    match a with
    | ⟨0, _⟩ => exact ⟨e0.trans_le (Nat.zero_le _), h0.trans_eq ((congrArg (· + 1) e0).trans (Nat.zero_add _)).symm⟩
    | ⟨1, _⟩ => exact ⟨e1.trans_le (Nat.zero_le _), h1.trans_eq ((congrArg (· + 1) e1).trans (Nat.zero_add _)).symm⟩

end Cert.LossIdeal.Rows

end
-- ==== Proof.LossValue.lean ====
/- The loss and its gradient: the kernel's two result arrays and the reference's are the same functions of the arguments. -/
module

public import proofs.«01_k».proof.Proof.LossKernel
public import proofs.«01_k».proof.Proof.Gen.LossRefIdeal.Read

@[expose] public section

set_option maxRecDepth 16384

noncomputable section

open Cert.RowLib Idealize.ShloMosaic Idealize.ShloMosaic.TcCoe Idealize.SL.Sem

/-! ## The mathematics -/

namespace Cert.LossMath

variable (x1 : (⟨2, ![8192, 1024]⟩ : Shape).Idx → EReal) (p : (⟨2, ![8192, 256]⟩ : Shape).Idx → EReal)
  (tg : (⟨2, ![8192, 1024]⟩ : Shape).Idx → EReal) (w : (⟨2, ![256, 1024]⟩ : Shape).Idx → EReal)
  (wg : (⟨2, ![1024, 1024]⟩ : Shape).Idx → EReal)

/-- What the block's output misses its target by. -/
def err (r : Fin 8192) (b : Fin 1024) : EReal :=
  x1 (ix2 r b) + (∑ k : Fin 256, p (ix2 r k) * w (ix2 k b)) * Ideal.logistic (∑ k : Fin 1024, x1 (ix2 r k) * wg (ix2 k b))
    - tg (ix2 r b)

def dy (r : Fin 8192) (b : Fin 1024) : EReal := err x1 p tg w wg r b * ((1 / 1024 : ℝ) : EReal)

def sq (r : Fin 8192) (b : Fin 1024) : EReal := err x1 p tg w wg r b * err x1 p tg w wg r b

/-- Half the sum over the rows of the mean square. -/
def loss (a b : Fin 1) : EReal :=
  ((1 / 2 : ℝ) : EReal) * ∑ r : Fin 8192, (∑ k : Fin 1024, sq x1 p tg w wg r k) * ((1 / 1024 : ℝ) : EReal)

/-- The loss, block of rows by block of rows, with the scale inside. -/
theorem loss_blocks (a b : Fin 1) :
    ∑ s ∈ Finset.range 16, (∑ k : Fin 1024, ∑ q : Fin 512, sq x1 p tg w wg (row 8192 s q) k) * ((1 / 2048 : ℝ) : EReal)
      = loss x1 p tg w wg a b := by
  unfold loss
  rw [← sum_mul_pos (by norm_num) Finset.univ, mul_comm, mul_assoc, ← EReal.coe_mul, ← sum_mul_pos (by norm_num) (Finset.range 16)]
  congr 1
  · rw [← sum_row (T := 16) (B := 512) rfl]
    exact Finset.sum_congr rfl fun s _ => Finset.sum_comm
  · norm_num

end Cert.LossMath

/-! ## The kernel -/

namespace Cert.LossIdeal.Rows

open Cert.LossIdeal Cert.LossIdeal.Gen Cert.LossMath

variable (m : (ℓ : Loc nD τ sig) → Buf (Elt Ideal) ℓ) (ρ : Dev nD → PrngReg)

theorem V_v0 (c : Dev nD) : V m c main_v0 = truncf (F := Ideal) .bf16 (m ((c : Thread nD τ).loc main_arg3)) bitsLt_bf16_f32 := by
  unfold V
  simp only [hostOps0]
  after_results

theorem V_v1 (c : Dev nD) : V m c main_v1 = truncf (F := Ideal) .bf16 (m ((c : Thread nD τ).loc main_arg4)) bitsLt_bf16_f32 := by
  unfold V
  simp only [hostOps0]
  after_results

/-! ### The payloads, over blocks of rows -/

section Pay

variable {s : ℕ} {x0 : S8192x1024.Idx → EReal} {x1 : S8192x256.Idx → EReal} {x2 : S8192x1024.Idx → EReal} {x3 : S256x1024.Idx → EReal} {x4 : S1024x1024.Idx → EReal}
  {v0 : Vec Ideal S512x1024 .f32} {v1 : Vec Ideal S512x256 .f32} {v2 : Vec Ideal S256x1024 .bf16} {v4 : Vec Ideal S1024x1024 .bf16} {v6 : Vec Ideal S512x1024 .f32}
  (h0 : ∀ q k, v0 (ix2 q k) = x0 (ix2 (row 8192 s q) k)) (h1 : ∀ q k, v1 (ix2 q k) = x1 (ix2 (row 8192 s q) k))
  (h2 : ∀ j, v2 j = x3 j) (h4 : ∀ j, v4 j = x4 j) (h6 : ∀ q k, v6 (ix2 q k) = x2 (ix2 (row 8192 s q) k))

include h0 h1 h2 h4 h6

theorem pay2 (q : Fin 512) (b : Fin 1024) : k0_pay2 v0 v1 v2 v4 v6 (ix2 q b) = err x0 x1 x2 x3 x4 (row 8192 s q) b := by
  unfold_payloads
  pointwise [half_word, h0, h1, h2, h4, h6]
  rw [half_tanh]
  rfl

theorem pay3 (q : Fin 512) (b : Fin 1024) : k0_pay3 v0 v1 v2 v4 v6 (ix2 q b) = dy x0 x1 x2 x3 x4 (row 8192 s q) b := by
  unfold k0_pay3
  pointwise [pay2 h0 h1 h2 h4 h6, word_1024th]
  rfl

theorem pay4 (a b : Fin 1) : k0_pay4 v0 v1 v2 v4 v6 (ix2 a b)
    = (∑ k : Fin 1024, ∑ q : Fin 512, sq x0 x1 x2 x3 x4 (row 8192 s q) k) * ((1 / 2048 : ℝ) : EReal) := by
  unfold k0_pay4
  pointwise [pay2 h0 h1 h2 h4 h6, word_2048th]
  rfl

end Pay

/-! ### The arguments -/

abbrev a0 (c : Dev nD) : S8192x1024.Idx → EReal := m ((c : Thread nD τ).loc main_arg0)
abbrev a1 (c : Dev nD) : S8192x256.Idx → EReal := m ((c : Thread nD τ).loc main_arg1)
abbrev a2 (c : Dev nD) : S8192x1024.Idx → EReal := m ((c : Thread nD τ).loc main_arg2)
abbrev a3 (c : Dev nD) : S256x1024.Idx → EReal := m ((c : Thread nD τ).loc main_arg3)
abbrev a4 (c : Dev nD) : S1024x1024.Idx → EReal := m ((c : Thread nD τ).loc main_arg4)

theorem b0 (c : Dev nD) (t : Fin cfg0.N) (q : Fin 512) (k : Fin 1024) : iblk m c 0 t (ix2 q k) = a0 m c (ix2 (row 8192 t.val q) k) :=
  (iblk0_apply m c t q k).trans (congrFun (V_main_arg0 m c) _)
theorem b1 (c : Dev nD) (t : Fin cfg0.N) (q : Fin 512) (k : Fin 256) : iblk m c 1 t (ix2 q k) = a1 m c (ix2 (row 8192 t.val q) k) :=
  (iblk1_apply m c t q k).trans (congrFun (V_main_arg1 m c) _)
theorem b2 (c : Dev nD) (t : Fin cfg0.N) (j : S256x1024.Idx) : iblk m c 2 t j = a3 m c j :=
  (congrFun (iblk2_eq m c t) j).trans (congrFun (V_v0 m c) j)
theorem b3 (c : Dev nD) (t : Fin cfg0.N) (j : S1024x1024.Idx) : iblk m c 3 t j = a4 m c j :=
  (congrFun (iblk3_eq m c t) j).trans (congrFun (V_v1 m c) j)
theorem b4 (c : Dev nD) (t : Fin cfg0.N) (q : Fin 512) (k : Fin 1024) : iblk m c 4 t (ix2 q k) = a2 m c (ix2 (row 8192 t.val q) k) :=
  (iblk4_apply m c t q k).trans (congrFun (V_main_arg2 m c) _)

/-! ### The result arrays -/

theorem rows5 (c : Dev nD) (t : Fin cfg0.N) (q : Fin 512) (b : Fin 1024) :
    (outsAt0 m c t.val t.isLt).1 (ix2 q b) = dy (a0 m c) (a1 m c) (a2 m c) (a3 m c) (a4 m c) (row 8192 t.val q) b := by
  by_cases h : t.val % 16 = 0
  · rw [outs_A m c t h]
    exact pay3 (b0 m c t) (b1 m c t) (b2 m c t) (b3 m c t) (b4 m c t) q b
  · rw [outs_B m c t h]
    exact pay3 (b0 m c t) (b1 m c t) (b2 m c t) (b3 m c t) (b4 m c t) q b

theorem res5 (c : Dev nD) (r : Fin 8192) (b : Fin 1024) :
    (dats m 0 c).arrAt 5 cfg0.N (ix2 r b) = dy (a0 m c) (a1 m c) (a2 m c) (a3 m c) (a4 m c) r b := by
  obtain ⟨s, hs, q, rfl⟩ := exists_row (T := 16) (B := 512) rfl r
  exact (final5 m c ⟨s, lt_of_lt_of_eq hs N_0.symm⟩ q b).trans (rows5 m c ⟨s, lt_of_lt_of_eq hs N_0.symm⟩ q b)

theorem sum6 (c : Dev nD) (n : ℕ) (hn : n < cfg0.N) (a : Fin 1) (b : Fin 1) : (outsAt0 m c n hn).2 (ix2 a b)
    = ∑ s ∈ Finset.range (n + 1), (∑ k : Fin 1024, ∑ q : Fin 512, sq (a0 m c) (a1 m c) (a2 m c) (a3 m c) (a4 m c) (row 8192 s q) k) * ((1 / 2048 : ℝ) : EReal) := by
  refine running (fun n h => (outsAt0 m c n h).2 (ix2 a b)) (fun s => (∑ k : Fin 1024, ∑ q : Fin 512, sq (a0 m c) (a1 m c) (a2 m c) (a3 m c) (a4 m c) (row 8192 s q) k) * ((1 / 2048 : ℝ) : EReal)) (fun h => ?_) (fun n h => ?_) n hn
  · rw [outs_A m c ⟨0, h⟩ rfl]
    unfold k0_pay1 k0_pay5
    pointwise
    exact pay4 (b0 m c ⟨0, h⟩) (b1 m c ⟨0, h⟩) (b2 m c ⟨0, h⟩) (b3 m c ⟨0, h⟩) (b4 m c ⟨0, h⟩) a b
  · have hN := lt_of_lt_of_eq h N_0
    rw [outs_B m c ⟨n + 1, h⟩ (show ¬(n + 1) % 16 = 0 by omega)]
    unfold k0_pay1
    pointwise [pay4 (b0 m c ⟨n + 1, h⟩) (b1 m c ⟨n + 1, h⟩) (b2 m c ⟨n + 1, h⟩) (b3 m c ⟨n + 1, h⟩) (b4 m c ⟨n + 1, h⟩)]
    rfl

theorem res6 (c : Dev nD) (a : Fin 1) (b : Fin 1) :
    (dats m 0 c).arrAt 6 cfg0.N (ix2 a b) = loss (a0 m c) (a1 m c) (a2 m c) (a3 m c) (a4 m c) a b :=
  (congrFun (final6 m c) (ix2 a b)).trans ((sum6 m c 15 tl.isLt a b).trans
    (loss_blocks _ _ _ _ _ a b))

end Cert.LossIdeal.Rows

/-! ## The reference -/

namespace Cert.LossRefIdeal.Rows

open Cert.LossRefIdeal Cert.LossRefIdeal.Gen Cert.LossRefIdeal.Read Cert.LossMath

variable (x0 : S8192x1024.Idx → EReal) (x1 : S8192x256.Idx → EReal) (x2 : S8192x1024.Idx → EReal) (x3 : S256x1024.Idx → EReal) (x4 : S1024x1024.Idx → EReal)

theorem err_eq (r : Fin 8192) (b : Fin 1024) : val_main_v10 (F := Ideal) x0 x1 x2 x3 x4 (ix2 r b) = err x0 x1 x2 x3 x4 r b := by
  unfold val_main_v10 val_main_v9 val_main_v8 val_main_v7 val_main_v6 val_main_v5 val_main_v4 val_main_v3 val_main_v2 val_main_v1 val_main_v0
    val_main_cst val_main_cst_0
  pointwise
  rfl

theorem dy_eq (r : Fin 8192) (b : Fin 1024) : val_main_v24 (F := Ideal) x0 x1 x2 x3 x4 (ix2 r b) = dy x0 x1 x2 x3 x4 r b := by
  unfold val_main_v24 val_main_v23 val_main_v22 val_main_v21 val_main_v20 val_main_v19 val_main_v13 val_main_v12
    val_main_cst_1 val_main_cst_6 val_main_cst_7 val_main_cst_8
  pointwise [err_eq, half_word, word_1024, word_2]
  rw [← mul_assoc, mul_comm]
  unfold dy
  congr 1
  rw [Ideal.div_coe (by norm_num), ← EReal.coe_mul, ← EReal.coe_mul]
  norm_num

theorem loss_eq (a b : Fin 1) : val_main_v25 (F := Ideal) x0 x1 x2 x3 x4 (ix2 a b) = loss x0 x1 x2 x3 x4 a b := by
  unfold val_main_v25 val_main_v18 val_main_v17 val_main_v16 val_main_v15 val_main_v14 val_main_v11 val_main_cst_2 val_main_cst_3 val_main_cst_4 val_main_cst_5
  pointwise [err_eq, half_word, word_1024]
  unfold loss
  exact congrArg _ (Finset.sum_congr rfl fun r _ => Ideal.div_coe (by norm_num) _)

end Cert.LossRefIdeal.Rows

end
-- ==== Proof.LossClaim.lean ====
/- The claim about the loss and its gradient. -/
module

public import proofs.«01_k».proof.Defs
public import proofs.«01_k».proof.Proof.LossValue
public import proofs.«01_k».proof.Proof.Gen.LossRefIdeal.Run

@[expose] public section

set_option maxRecDepth 16384

noncomputable section

namespace Cert.Proof

open Cert.RowLib Idealize.ShloMosaic Idealize.ShloMosaic.TcCoe Idealize.SL.Sem

/-- The kernel's result arrays are those of the reference. -/
theorem loss_value :
    Cert.algebraic_LossIdeal_LossRefIdeal (hLossIdeal := Cert.LossIdeal.Gen.facts) (hLossRefIdeal := Cert.LossRefIdeal.Gen.facts) := by
  intro m g m' g' hpre hag
  refine ⟨fun c => (Cert.LossIdeal.Gen.dats m 0 c).arrAt 5 Cert.LossIdeal.cfg0.N, fun c => (Cert.LossIdeal.Gen.dats m 0 c).arrAt 6 Cert.LossIdeal.cfg0.N,
    Cert.LossIdeal.Value.run_blocks m g, (θ_run _ _ _).mono (fun r h c => ?_) (Cert.LossRefIdeal.Value.run m' g')⟩
  obtain ⟨e0, e1, e2, e3, e4⟩ := hag c
  exact ⟨((h c).1.trans (Cert.LossRefIdeal.Read.val_main_v24_eq ..)).trans (ext2 fun a b => by
      rw [e0, e1, e2, e3, e4]
      exact (Cert.LossRefIdeal.Rows.dy_eq _ _ _ _ _  a b).trans (Cert.LossIdeal.Rows.res5 m c a b).symm),
    ((h c).2.1.trans (Cert.LossRefIdeal.Read.val_main_v25_eq ..)).trans (ext2 fun a b => by
      rw [e0, e1, e2, e3, e4]
      exact (Cert.LossRefIdeal.Rows.loss_eq _ _ _ _ _  a b).trans (Cert.LossIdeal.Rows.res6 m c a b).symm),
    (h c).2.2⟩

end Cert.Proof

end
-- ==== Proof.BlKernel.lean ====
/- What the kernel of the gradient of the gate and projection behind the gated recurrence leaves in its three result arrays. -/
module

public import proofs.«01_k».proof.Proof.Common
public import proofs.«01_k».proof.Proof.Gen.BlIdeal.Value

@[expose] public section

set_option maxRecDepth 16384

noncomputable section

namespace Cert.BlIdeal.Rows

open Cert.BlIdeal Cert.BlIdeal.Gen Cert.RowLib Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The last point. -/
abbrev tl : Fin grid0.N := ⟨15, lt_of_lt_of_eq (by decide) N_0.symm⟩

theorem hz : (![0, 0] : Fin 2 → Nat) = fun _ => 0 := funext fun a => by fin_cases a <;> rfl

/-! ## The blocks of the arguments -/

theorem at0 : ∀ t : Fin grid0.N, win0_0.index t 0 = t.val ∧ win0_0.index t 1 = 0 := by decide +kernel

theorem iblk0_apply (c : Dev nD) (t : Fin cfg0.N) (q : Fin 512) (k : Fin 1024) :
    iblk m c 0 t (ix2 q k) = V m c main_v2 (ix2 (row 8192 t.val q) k) := by
  unfold iblk
  rw [View.read_apply, cast_eq]
  refine congrArg (V m c main_v2) (Shape.idx_ext₂ ?_ ?_)
  · refine (Pipeline.Window.rect_emb_val win0_0 t _ 0).trans ((congrArg (· * 512 + q.val) (at0 t).1).trans ?_)
    exact (row_val (T := 16) (B := 512) rfl (lt_of_lt_of_eq t.isLt N_0) q).symm
  · exact Pipeline.Window.rect_emb_val_of_index_zero win0_0 t 1 (at0 t).2 _

theorem at1 : ∀ t : Fin grid0.N, win0_1.index t 0 = t.val ∧ win0_1.index t 1 = 0 := by decide +kernel

theorem iblk1_apply (c : Dev nD) (t : Fin cfg0.N) (q : Fin 512) (k : Fin 1280) :
    iblk m c 1 t (ix2 q k) = V m c main_arg1 (ix2 (row 8192 t.val q) k) := by
  unfold iblk
  rw [View.read_apply, cast_eq]
  refine congrArg (V m c main_arg1) (Shape.idx_ext₂ ?_ ?_)
  · refine (Pipeline.Window.rect_emb_val win0_1 t _ 0).trans ((congrArg (· * 512 + q.val) (at1 t).1).trans ?_)
    exact (row_val (T := 16) (B := 512) rfl (lt_of_lt_of_eq t.isLt N_0) q).symm
  · exact Pipeline.Window.rect_emb_val_of_index_zero win0_1 t 1 (at1 t).2 _

theorem at2 : ∀ t : Fin grid0.N, win0_2.index t 0 = t.val ∧ win0_2.index t 1 = 0 := by decide +kernel

theorem iblk2_apply (c : Dev nD) (t : Fin cfg0.N) (q : Fin 512) (k : Fin 1280) :
    iblk m c 2 t (ix2 q k) = V m c main_v0 (ix2 (row 8192 t.val q) k) := by
  unfold iblk
  rw [View.read_apply, cast_eq]
  refine congrArg (V m c main_v0) (Shape.idx_ext₂ ?_ ?_)
  · refine (Pipeline.Window.rect_emb_val win0_2 t _ 0).trans ((congrArg (· * 512 + q.val) (at2 t).1).trans ?_)
    exact (row_val (T := 16) (B := 512) rfl (lt_of_lt_of_eq t.isLt N_0) q).symm
  · exact Pipeline.Window.rect_emb_val_of_index_zero win0_2 t 1 (at2 t).2 _

theorem at3 : ∀ t : Fin grid0.N, win0_3.index t 0 = 0 ∧ win0_3.index t 1 = 0 := by decide +kernel

theorem iblk3_eq (c : Dev nD) (t : Fin cfg0.N) : iblk m c 3 t = V m c main_v1 := by
  funext j
  unfold iblk
  rw [View.read_apply, cast_eq]
  refine congrArg (V m c main_v1) (Shape.idx_ext₂ ?_ ?_)
  · exact Pipeline.Window.rect_emb_val_of_index_zero win0_3 t 0 (at3 t).1 _
  · exact Pipeline.Window.rect_emb_val_of_index_zero win0_3 t 1 (at3 t).2 _

/-! ## What a point leaves -/

theorem outs_A (c : Dev nD) (t : Fin cfg0.N) (h : t.val % 16 = 0) : outsAt0 m c t.val t.isLt
    = (k0_pay8 (iblk m c 0 t) (iblk m c 2 t) (iblk m c 3 t),
       k0_pay10 (iblk m c 0 t) (iblk m c 1 t) (iblk m c 2 t) (iblk m c 3 t),
       k0_pay2 (k0_pay9 (iblk m c 0 t) (iblk m c 1 t) (iblk m c 2 t)) (k0_pay1 (F := Ideal))) := by
  refine (outsAt0_A m c t h).trans (Prod.ext ?_ (Prod.ext ?_ ?_))
  · unfold out0_A_4
    rw [View.read_writes_eq_canon]
    · unfold kernelRun0_A
      dsimp only
      sl_unfold_words
      rw [View.canon_unit_zero hz]
      simp only [View.readAt_eq_ld, (hs0_0 t).read_unread, (hs0_1 t).read_unread, (hs0_2 t).read_unread, (hs0_3 t).read_unread,
        View.ld_unit_zero (S := S512x1024) hz, View.ld_unit_zero (S := S512x1280) hz, View.ld_unit_zero (S := S1280x1024) hz]
    · intro y
      apply cover0_A_4
  · unfold out0_A_5
    rw [View.read_writes_eq_canon]
    · unfold kernelRun0_A
      dsimp only
      sl_unfold_words
      rw [View.canon_unit_zero hz]
      simp only [View.readAt_eq_ld, (hs0_0 t).read_unread, (hs0_1 t).read_unread, (hs0_2 t).read_unread, (hs0_3 t).read_unread,
        View.ld_unit_zero (S := S512x1024) hz, View.ld_unit_zero (S := S512x1280) hz, View.ld_unit_zero (S := S1280x1024) hz]
    · intro y
      apply cover0_A_5
  · unfold out0_A_6
    rw [View.read_writes_eq_canon]
    · unfold kernelRun0_A
      dsimp only
      sl_unfold_words
      rw [View.canon_cons_unit_zero (S := S1280x1024) hz, View.readCov_unit_zero (S := S1280x1024) _ hz]
      simp only [View.readAt_eq_ld, (hs0_0 t).read_unread, (hs0_1 t).read_unread, (hs0_2 t).read_unread, (hs0_3 t).read_unread,
        View.ld_unit_zero (S := S512x1024) hz, View.ld_unit_zero (S := S512x1280) hz, View.ld_unit_zero (S := S1280x1024) hz]
    · intro y
      apply cover0_A_6

theorem outs_B (c : Dev nD) (t : Fin cfg0.N) (h : ¬t.val % 16 = 0) : outsAt0 m c t.val t.isLt
    = (k0_pay8 (iblk m c 0 t) (iblk m c 2 t) (iblk m c 3 t),
       k0_pay10 (iblk m c 0 t) (iblk m c 1 t) (iblk m c 2 t) (iblk m c 3 t),
       k0_pay2 (k0_pay9 (iblk m c 0 t) (iblk m c 1 t) (iblk m c 2 t)) (outsAt0 m c (t.val - 1) (Nat.lt_of_le_of_lt (Nat.sub_le _ _) t.isLt)).2.2) := by
  refine (outsAt0_B m c t h).trans (Prod.ext ?_ (Prod.ext ?_ ?_))
  · unfold out0_B_4
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_6 t).read_unread,
        View.ld_unit_zero (S := S512x1024) hz, View.ld_unit_zero (S := S512x1280) hz, View.ld_unit_zero (S := S1280x1024) hz]
    · intro y
      apply cover0_B_4
  · unfold out0_B_5
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_6 t).read_unread,
        View.ld_unit_zero (S := S512x1024) hz, View.ld_unit_zero (S := S512x1280) hz, View.ld_unit_zero (S := S1280x1024) hz]
    · intro y
      apply cover0_B_5
  · unfold out0_B_6
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_6 t).read_unread,
        View.ld_unit_zero (S := S512x1024) hz, View.ld_unit_zero (S := S512x1280) hz, View.ld_unit_zero (S := S1280x1024) hz]
    · intro y
      apply cover0_B_6

/-! ## The result arrays -/

theorem at4 : ∀ t : Fin grid0.N, win0_4.index t 0 = t.val ∧ win0_4.index t 1 = 0 := by decide +kernel

theorem final4 (c : Dev nD) (t : Fin cfg0.N) (q : Fin 512) (b : Fin 1280) :
    (dats m 0 c).arrAt 4 cfg0.N (ix2 (row 8192 t.val q) b) = (outsAt0 m c t.val t.isLt).1 (ix2 q b) := by
  have e : ((cfg0.win 4).blk t).view.emb (ix2 q b) = ix2 (row 8192 t.val q) b := Shape.idx_ext₂
    ((Pipeline.Window.rect_emb_val win0_4 t _ 0).trans ((congrArg (· * 512 + q.val) (at4 t).1).trans
      (row_val (T := 16) (B := 512) rfl (lt_of_lt_of_eq t.isLt N_0) q).symm))
    (Pipeline.Window.rect_emb_val_of_index_zero win0_4 t 1 (at4 t).2 _)
  refine (congrArg ((dats m 0 c).arrAt 4 cfg0.N) e.symm).trans
    (((dats m 0 c).arrAt_emb_eq_flushed 4 Value.disjoint4 t (flush0_4 t) (ix2 q b)).trans ?_)
  rw [Value.flushed4]
  rfl

theorem at5 : ∀ t : Fin grid0.N, win0_5.index t 0 = t.val ∧ win0_5.index t 1 = 0 := by decide +kernel

theorem final5 (c : Dev nD) (t : Fin cfg0.N) (q : Fin 512) (b : Fin 1280) :
    (dats m 0 c).arrAt 5 cfg0.N (ix2 (row 8192 t.val q) b) = (outsAt0 m c t.val t.isLt).2.1 (ix2 q b) := by
  have e : ((cfg0.win 5).blk t).view.emb (ix2 q b) = ix2 (row 8192 t.val q) b := Shape.idx_ext₂
    ((Pipeline.Window.rect_emb_val win0_5 t _ 0).trans ((congrArg (· * 512 + q.val) (at5 t).1).trans
      (row_val (T := 16) (B := 512) rfl (lt_of_lt_of_eq t.isLt N_0) q).symm))
    (Pipeline.Window.rect_emb_val_of_index_zero win0_5 t 1 (at5 t).2 _)
  refine (congrArg ((dats m 0 c).arrAt 5 cfg0.N) e.symm).trans
    (((dats m 0 c).arrAt_emb_eq_flushed 5 Value.disjoint5 t (flush0_5 t) (ix2 q b)).trans ?_)
  rw [Value.flushed5]
  rfl

theorem at6 : ∀ t : Fin grid0.N, win0_6.index t 0 = 0 ∧ win0_6.index t 1 = 0 := by decide +kernel

theorem final6 (c : Dev nD) :
    (dats m 0 c).arrAt 6 cfg0.N = (outsAt0 m c tl.val tl.isLt).2.2 := by
  refine (dats m 0 c).arrAt_eq_of_cover 6 _ (fun t hf => ?_) fun i => ?_
  · have ht : t.val = 15 := by
      have h1 := (flush0_6 t).mp hf
      have h2 := lt_of_lt_of_eq t.isLt N_0
      omega
    obtain rfl : t = tl := Fin.ext ht
    rw [Value.flushed6]
    generalize (outsAt0 m c tl.val tl.isLt).2.2 = G
    have hz' : (fun a => win0_6.index tl a * main_v3_2.ty.shape.size a) = fun _ => 0 :=
      funext fun a => by fin_cases a <;> decide +kernel
    exact (Memref.read_access_unit_zero (Elt Ideal) main_v3_2 hz' (fun a => by rw [congrFun hz' a]; simp) G).symm
  · refine ⟨tl, (flush0_6 _).mpr rfl, ?_⟩
    show i ∈ ((View.whole main_v3_2).slice (win0_6.rect tl)).set
    rw [View.set_slice_whole, Rect.mem_set_unit]
    have h0 : (i 0 : Nat) < 1280 := (i 0).isLt
    have h1 : (i 1 : Nat) < 1024 := (i 1).isLt
    have e0 : win0_6.index tl 0 * 1280 = 0 := by decide +kernel
    have e1 : win0_6.index tl 1 * 1024 = 0 := by decide +kernel
    intro a
    match a with
    | ⟨0, _⟩ => exact ⟨e0.trans_le (Nat.zero_le _), h0.trans_eq ((congrArg (· + 1280) e0).trans (Nat.zero_add _)).symm⟩
    | ⟨1, _⟩ => exact ⟨e1.trans_le (Nat.zero_le _), h1.trans_eq ((congrArg (· + 1024) e1).trans (Nat.zero_add _)).symm⟩

end Cert.BlIdeal.Rows

end
-- ==== Proof.BlValue.lean ====
/- The gradient of the SiLU gate and the projection behind the gated recurrence: the kernel's three result arrays and the derivative of the
   forward lines are the same functions of the arguments. -/
module

public import proofs.«01_k».proof.Proof.BlKernel
public import proofs.«01_k».proof.Proof.Gen.BlRefIdeal.Read

@[expose] public section

set_option maxRecDepth 16384

noncomputable section

open Cert.RowLib Idealize.ShloMosaic Idealize.ShloMosaic.TcCoe Idealize.SL.Sem

/-! ## The mathematics -/

namespace Cert.BlMath

variable (dz : (⟨2, ![8192, 1024]⟩ : Shape).Idx → EReal) (hl lg : (⟨2, ![8192, 1280]⟩ : Shape).Idx → EReal)
  (w : (⟨2, ![1280, 1024]⟩ : Shape).Idx → EReal)

/-- The gradient of the gated states. -/
def dy (r : Fin 8192) (b : Fin 1280) : EReal := ∑ k : Fin 1024, dz (ix2 r k) * w (ix2 b k)

/-- The gate: the SiLU of the second projection. -/
def silu (r : Fin 8192) (b : Fin 1280) : EReal := lg (ix2 r b) * Ideal.logistic (lg (ix2 r b))

def dh (r : Fin 8192) (b : Fin 1280) : EReal := dy dz w r b * silu lg r b

def dlg (r : Fin 8192) (b : Fin 1280) : EReal :=
  dy dz w r b * hl (ix2 r b) * Ideal.logistic (lg (ix2 r b)) * (1 + lg (ix2 r b) * (1 - Ideal.logistic (lg (ix2 r b))))

def dw (a : Fin 1280) (b : Fin 1024) : EReal := ∑ r : Fin 8192, hl (ix2 r a) * silu lg r a * dz (ix2 r b)

/-- The derivative of `x ↦ x · logistic x`, scaled by a real number, as a product and as a sum: at every extended real. -/
theorem silu_grad (d : ℝ) (x : EReal) :
    (d : EReal) * Ideal.logistic x + x * (d : EReal) * (Ideal.logistic x * (1 - Ideal.logistic x))
      = (d : EReal) * Ideal.logistic x * (1 + x * (1 - Ideal.logistic x)) := by
  have e2 : (1 : EReal) = ((1 : ℝ) : EReal) := by norm_num
  induction x with
  | bot => rw [Ideal.logistic_bot]; simp
  | top =>
    have e3 : (1 : EReal) - 1 = 0 := by rw [e2, ← EReal.coe_sub]; norm_num
    rw [Ideal.logistic_top, e3]; simp
  | coe x =>
    rw [Ideal.logistic_coe, e2]
    simp only [← EReal.coe_mul, ← EReal.coe_add, ← EReal.coe_sub]
    congr 1
    ring

theorem dlg_eq (hdz : IsReal dz) (hhl : IsReal hl) (hw : IsReal w) (r : Fin 8192) (b : Fin 1280) :
    hl (ix2 r b) * dy dz w r b * Ideal.logistic (lg (ix2 r b))
      + lg (ix2 r b) * (hl (ix2 r b) * dy dz w r b) * (Ideal.logistic (lg (ix2 r b)) * (1 - Ideal.logistic (lg (ix2 r b))))
      = dlg dz hl lg w r b := by
  obtain ⟨d, hd⟩ : ∃ d : ℝ, hl (ix2 r b) * dy dz w r b = (d : EReal) :=
    real_mul (hhl _) (real_sum _ fun k => real_mul (hdz _) (hw _))
  unfold dlg
  rw [mul_comm (dy dz w r b), hd]
  exact silu_grad d _

end Cert.BlMath

/-! ## The kernel -/

namespace Cert.BlIdeal.Rows

open Cert.BlIdeal Cert.BlIdeal.Gen Cert.BlMath

variable (m : (ℓ : Loc nD τ sig) → Buf (Elt Ideal) ℓ) (ρ : Dev nD → PrngReg)

theorem V_v0 (c : Dev nD) : V m c main_v0 = truncf (F := Ideal) .bf16 (m ((c : Thread nD τ).loc main_arg2)) bitsLt_bf16_f32 := by
  unfold V
  simp only [hostOps0]
  after_results

theorem V_v1 (c : Dev nD) : V m c main_v1 = truncf (F := Ideal) .bf16 (m ((c : Thread nD τ).loc main_arg3)) bitsLt_bf16_f32 := by
  unfold V
  simp only [hostOps0]
  after_results

theorem V_v2 (c : Dev nD) : V m c main_v2 = truncf (F := Ideal) .bf16 (m ((c : Thread nD τ).loc main_arg0)) bitsLt_bf16_f32 := by
  unfold V
  simp only [hostOps0]
  after_results

/-! ### The payloads, over blocks of rows -/

section Pay

variable {s : ℕ} {x0 : S8192x1024.Idx → EReal} {x1 x2 : S8192x1280.Idx → EReal} {x3 : S1280x1024.Idx → EReal}
  {v0 : Vec Ideal S512x1024 .bf16} {v3 : Vec Ideal S512x1280 .f32} {v4 : Vec Ideal S512x1280 .bf16} {v7 : Vec Ideal S1280x1024 .bf16}
  (h0 : ∀ q k, v0 (ix2 q k) = x0 (ix2 (row 8192 s q) k)) (h1 : ∀ q k, v3 (ix2 q k) = x1 (ix2 (row 8192 s q) k))
  (h2 : ∀ q k, v4 (ix2 q k) = x2 (ix2 (row 8192 s q) k)) (h3 : ∀ j, v7 j = x3 j)

include h2 in
theorem pay5 (q : Fin 512) (b : Fin 1280) : k0_pay5 v4 (ix2 q b) = Ideal.logistic (x2 (ix2 (row 8192 s q) b)) := by
  unfold_payloads
  pointwise [half_word, h2]
  exact half_tanh _

include h2 in
theorem pay6 (q : Fin 512) (b : Fin 1280) : k0_pay6 v4 (ix2 q b) = silu x2 (row 8192 s q) b := by
  unfold k0_pay6 k0_pay4
  pointwise [pay5 h2, h2]
  rfl

include h0 h3 in
theorem pay7 (q : Fin 512) (b : Fin 1280) : k0_pay7 v0 v7 (ix2 q b) = dy x0 x3 (row 8192 s q) b := by
  unfold k0_pay7 k0_pay3
  pointwise [h0, h3]
  rfl

include h0 h2 h3 in
theorem pay8 (q : Fin 512) (b : Fin 1280) : k0_pay8 v0 v4 v7 (ix2 q b) = dh x0 x2 x3 (row 8192 s q) b := by
  unfold k0_pay8
  pointwise [pay6 h2, pay7 h0 h3]
  rfl

include h0 h1 h2 in
theorem pay9 (a : Fin 1280) (b : Fin 1024) : k0_pay9 v0 v3 v4 (ix2 a b)
    = ∑ q : Fin 512, x1 (ix2 (row 8192 s q) a) * silu x2 (row 8192 s q) a * x0 (ix2 (row 8192 s q) b) := by
  unfold k0_pay9 k0_pay3
  pointwise [pay6 h2, h0, h1]

include h0 h1 h2 h3 in
theorem pay10 (q : Fin 512) (b : Fin 1280) : k0_pay10 v0 v3 v4 v7 (ix2 q b) = dlg x0 x1 x2 x3 (row 8192 s q) b := by
  unfold k0_pay10 k0_pay4
  pointwise [pay5 h2, pay7 h0 h3, h1, h2]
  rfl

end Pay

/-! ### The arguments -/

abbrev a0 (c : Dev nD) : S8192x1024.Idx → EReal := m ((c : Thread nD τ).loc main_arg0)
abbrev a1 (c : Dev nD) : S8192x1280.Idx → EReal := m ((c : Thread nD τ).loc main_arg1)
abbrev a2 (c : Dev nD) : S8192x1280.Idx → EReal := m ((c : Thread nD τ).loc main_arg2)
abbrev a3 (c : Dev nD) : S1280x1024.Idx → EReal := m ((c : Thread nD τ).loc main_arg3)

theorem b0 (c : Dev nD) (t : Fin cfg0.N) (q : Fin 512) (k : Fin 1024) : iblk m c 0 t (ix2 q k) = a0 m c (ix2 (row 8192 t.val q) k) :=
  (iblk0_apply m c t q k).trans (congrFun (V_v2 m c) _)
theorem b1 (c : Dev nD) (t : Fin cfg0.N) (q : Fin 512) (k : Fin 1280) : iblk m c 1 t (ix2 q k) = a1 m c (ix2 (row 8192 t.val q) k) :=
  (iblk1_apply m c t q k).trans (congrFun (V_main_arg1 m c) _)
theorem b2 (c : Dev nD) (t : Fin cfg0.N) (q : Fin 512) (k : Fin 1280) : iblk m c 2 t (ix2 q k) = a2 m c (ix2 (row 8192 t.val q) k) :=
  (iblk2_apply m c t q k).trans (congrFun (V_v0 m c) _)
theorem b3 (c : Dev nD) (t : Fin cfg0.N) (j : S1280x1024.Idx) : iblk m c 3 t j = a3 m c j :=
  (congrFun (iblk3_eq m c t) j).trans (congrFun (V_v1 m c) j)

/-! ### The result arrays -/

theorem rows4 (c : Dev nD) (t : Fin cfg0.N) (q : Fin 512) (b : Fin 1280) :
    (outsAt0 m c t.val t.isLt).1 (ix2 q b) = dh (a0 m c) (a2 m c) (a3 m c) (row 8192 t.val q) b := by
  by_cases h : t.val % 16 = 0
  · rw [outs_A m c t h]
    exact pay8 (b0 m c t) (b2 m c t) (b3 m c t) q b
  · rw [outs_B m c t h]
    exact pay8 (b0 m c t) (b2 m c t) (b3 m c t) q b

theorem res4 (c : Dev nD) (r : Fin 8192) (b : Fin 1280) :
    (dats m 0 c).arrAt 4 cfg0.N (ix2 r b) = dh (a0 m c) (a2 m c) (a3 m c) r b := by
  obtain ⟨s, hs, q, rfl⟩ := exists_row (T := 16) (B := 512) rfl r
  exact (final4 m c ⟨s, lt_of_lt_of_eq hs N_0.symm⟩ q b).trans (rows4 m c ⟨s, lt_of_lt_of_eq hs N_0.symm⟩ q b)

theorem rows5 (c : Dev nD) (t : Fin cfg0.N) (q : Fin 512) (b : Fin 1280) :
    (outsAt0 m c t.val t.isLt).2.1 (ix2 q b) = dlg (a0 m c) (a1 m c) (a2 m c) (a3 m c) (row 8192 t.val q) b := by
  by_cases h : t.val % 16 = 0
  · rw [outs_A m c t h]
    exact pay10 (b0 m c t) (b1 m c t) (b2 m c t) (b3 m c t) q b
  · rw [outs_B m c t h]
    exact pay10 (b0 m c t) (b1 m c t) (b2 m c t) (b3 m c t) q b

theorem res5 (c : Dev nD) (r : Fin 8192) (b : Fin 1280) :
    (dats m 0 c).arrAt 5 cfg0.N (ix2 r b) = dlg (a0 m c) (a1 m c) (a2 m c) (a3 m c) r b := by
  obtain ⟨s, hs, q, rfl⟩ := exists_row (T := 16) (B := 512) rfl r
  exact (final5 m c ⟨s, lt_of_lt_of_eq hs N_0.symm⟩ q b).trans (rows5 m c ⟨s, lt_of_lt_of_eq hs N_0.symm⟩ q b)

theorem sum6 (c : Dev nD) (n : ℕ) (hn : n < cfg0.N) (a : Fin 1280) (b : Fin 1024) : (outsAt0 m c n hn).2.2 (ix2 a b)
    = ∑ s ∈ Finset.range (n + 1), ∑ q : Fin 512, a1 m c (ix2 (row 8192 s q) a) * silu (a2 m c) (row 8192 s q) a * a0 m c (ix2 (row 8192 s q) b) := by
  refine running (fun n h => (outsAt0 m c n h).2.2 (ix2 a b)) (fun s => ∑ q : Fin 512, a1 m c (ix2 (row 8192 s q) a) * silu (a2 m c) (row 8192 s q) a * a0 m c (ix2 (row 8192 s q) b)) (fun h => ?_) (fun n h => ?_) n hn
  · rw [outs_A m c ⟨0, h⟩ rfl]
    unfold k0_pay2 k0_pay1
    pointwise
    exact pay9 (b0 m c ⟨0, h⟩) (b1 m c ⟨0, h⟩) (b2 m c ⟨0, h⟩) a b
  · have hN := lt_of_lt_of_eq h N_0
    rw [outs_B m c ⟨n + 1, h⟩ (show ¬(n + 1) % 16 = 0 by omega)]
    unfold k0_pay2
    pointwise [pay9 (b0 m c ⟨n + 1, h⟩) (b1 m c ⟨n + 1, h⟩) (b2 m c ⟨n + 1, h⟩)]
    rfl

theorem res6 (c : Dev nD) (a : Fin 1280) (b : Fin 1024) :
    (dats m 0 c).arrAt 6 cfg0.N (ix2 a b) = dw (a0 m c) (a1 m c) (a2 m c) a b :=
  (congrFun (final6 m c) (ix2 a b)).trans ((sum6 m c 15 tl.isLt a b).trans
    (sum_row (T := 16) (B := 512) rfl fun r => a1 m c (ix2 r a) * silu (a2 m c) r a * a0 m c (ix2 r b)))

end Cert.BlIdeal.Rows

/-! ## The reference -/

namespace Cert.BlRefIdeal.Rows

open Cert.BlRefIdeal Cert.BlRefIdeal.Gen Cert.BlRefIdeal.Read Cert.BlMath

variable (x0 : S8192x1024.Idx → EReal) (x1 x2 : S8192x1280.Idx → EReal) (x3 : S1280x1024.Idx → EReal)

theorem gate_eq (r : Fin 8192) (b : Fin 1280) : val_main_v0_2 (F := Ideal) x2 (ix2 r b) = Ideal.logistic (x2 (ix2 r b)) := by
  unfold val_main_v0_2 val_main_call0_v4 val_main_call0_v3 val_main_call0_v2 val_main_call0_v1 val_main_call0_v0 val_main_call0_cst val_main_call0_cst_0
  pointwise
  rfl

theorem dy_eq (r : Fin 8192) (b : Fin 1280) : val_main_v5 (F := Ideal) x0 x3 (ix2 r b) = dy x0 x3 r b := by
  unfold val_main_v5
  pointwise
  rfl

theorem dh_eq (r : Fin 8192) (b : Fin 1280) : val_main_v7 (F := Ideal) x0 x2 x3 (ix2 r b) = dh x0 x2 x3 r b := by
  unfold val_main_v7 val_main_v0_0
  pointwise [dy_eq, gate_eq]
  rfl

theorem dlg_eq (hdz : IsReal x0) (hhl : IsReal x1) (hw : IsReal x3) (r : Fin 8192) (b : Fin 1280) :
    val_main_v9 (F := Ideal) x0 x1 x2 x3 (ix2 r b) = dlg x0 x1 x2 x3 r b := by
  unfold val_main_v9 val_main_v8 val_main_call1_v2 val_main_call1_v1 val_main_call1_v0 val_main_v6 val_main_v0_1 val_main_call0_v7 val_main_call0_v6
    val_main_call0_cst_1
  pointwise [dy_eq, gate_eq]
  exact BlMath.dlg_eq x0 x1 x2 x3 hdz hhl hw r b

theorem dw_eq (a : Fin 1280) (b : Fin 1024) : val_main_v4 (F := Ideal) x0 x1 x2 (ix2 a b) = dw x0 x1 x2 a b := by
  unfold val_main_v4 val_main_v3 val_main_v1 val_main_v0_0
  pointwise [gate_eq]
  exact Finset.sum_congr rfl fun r _ => mul_comm _ _

end Cert.BlRefIdeal.Rows

end
-- ==== Proof.BlClaim.lean ====
/- The claim about the gradient of the SiLU gate and its projection. -/
module

public import proofs.«01_k».proof.Defs
public import proofs.«01_k».proof.Proof.BlValue
public import proofs.«01_k».proof.Proof.Gen.BlRefIdeal.Run
public import proofs.«01_k».proof.Proof.Gen.Pre_finite_bl

@[expose] public section

set_option maxRecDepth 16384

noncomputable section

namespace Cert.Proof

open Cert.RowLib Idealize.ShloMosaic Idealize.ShloMosaic.TcCoe Idealize.SL.Sem

/-- The kernel's result arrays are those of the reference. -/
theorem bl_value :
    Cert.algebraic_BlIdeal_BlRefIdeal_pre_finite_bl (hBlIdeal := Cert.BlIdeal.Gen.facts) (hBlRefIdeal := Cert.BlRefIdeal.Gen.facts) (hPre_finite_bl := Cert.Pre_finite_bl.Gen.facts) := by
  intro m g m' g' hpre hag
  refine ⟨fun c => (Cert.BlIdeal.Gen.dats m 0 c).arrAt 4 Cert.BlIdeal.cfg0.N, fun c => (Cert.BlIdeal.Gen.dats m 0 c).arrAt 5 Cert.BlIdeal.cfg0.N, fun c => (Cert.BlIdeal.Gen.dats m 0 c).arrAt 6 Cert.BlIdeal.cfg0.N,
    Cert.BlIdeal.Value.run_blocks m g, (θ_run _ _ _).mono (fun r h c => ?_) (Cert.BlRefIdeal.Value.run m' g')⟩
  obtain ⟨e0, e1, e2, e3⟩ := hag c
  have f0 : IsReal (Cert.BlIdeal.Rows.a0 m c) := fun i => real_of_cmp (congrFun (hpre c).1 i)
  have f1 : IsReal (Cert.BlIdeal.Rows.a1 m c) := fun i => real_of_cmp (congrFun (hpre c).2.1 i)
  have f3 : IsReal (Cert.BlIdeal.Rows.a3 m c) := fun i => real_of_cmp (congrFun (hpre c).2.2 i)
  exact ⟨((h c).1.trans (Cert.BlRefIdeal.Read.val_main_v7_eq ..)).trans (ext2 fun a b => by
      rw [e0, e2, e3]
      exact (Cert.BlRefIdeal.Rows.dh_eq _ _ _  a b).trans (Cert.BlIdeal.Rows.res4 m c a b).symm),
    ((h c).2.1.trans (Cert.BlRefIdeal.Read.val_main_v9_eq ..)).trans (ext2 fun a b => by
      rw [e0, e1, e2, e3]
      exact (Cert.BlRefIdeal.Rows.dlg_eq _ _ _ _ f0 f1 f3 a b).trans (Cert.BlIdeal.Rows.res5 m c a b).symm),
    ((h c).2.2.1.trans (Cert.BlRefIdeal.Read.val_main_v4_eq ..)).trans (ext2 fun a b => by
      rw [e0, e1, e2]
      exact (Cert.BlRefIdeal.Rows.dw_eq _ _ _  a b).trans (Cert.BlIdeal.Rows.res6 m c a b).symm),
    (h c).2.2.2⟩

end Cert.Proof

end
-- ==== Proof.ConvKernel.lean ====
/- What the kernel of the gradient of the causal convolution leaves in its three result arrays. -/
module

public import proofs.«01_k».proof.Proof.Common
public import proofs.«01_k».proof.Proof.Gen.ConvIdeal.Value

@[expose] public section

set_option maxRecDepth 16384

noncomputable section

namespace Cert.ConvIdeal.Rows

open Cert.ConvIdeal Cert.ConvIdeal.Gen Cert.RowLib Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The last point. -/
abbrev tl : Fin grid0.N := ⟨15, lt_of_lt_of_eq (by decide) N_0.symm⟩

theorem hz : (![0, 0] : Fin 2 → Nat) = fun _ => 0 := funext fun a => by fin_cases a <;> rfl

theorem coord : ∀ t : Fin grid0.N, (grid0.coords t 0).val = t.val := by decide +kernel

/-! ## The rows next to a block -/

theorem at1 : ∀ t : Fin grid0.N, win0_1.index t 0 = min (32 * (t.val + 1)) 511 ∧ win0_1.index t 1 = 0 := by decide +kernel

theorem iblk1_apply (c : Dev nD) (t : Fin cfg0.N) (q : Fin 16) (k : Fin 1280) :
    iblk m c 1 t (ix2 q k) = V m c main_v1 (ix2 ⟨min (32 * (t.val + 1)) 511 * 16 + q.val, by omega⟩ k) := by
  unfold iblk
  rw [View.read_apply, cast_eq]
  refine congrArg (V m c main_v1) (Shape.idx_ext₂ ?_ ?_)
  · exact (Pipeline.Window.rect_emb_val win0_1 t _ 0).trans (congrArg (· * 16 + q.val) (at1 t).1)
  · exact Pipeline.Window.rect_emb_val_of_index_zero win0_1 t 1 (at1 t).2 _

theorem at3 : ∀ t : Fin grid0.N, win0_3.index t 0 = 32 * t.val - 1 ∧ win0_3.index t 1 = 0 := by decide +kernel

theorem iblk3_apply (c : Dev nD) (t : Fin cfg0.N) (q : Fin 16) (k : Fin 1280) :
    iblk m c 3 t (ix2 q k) = V m c main_v0 (ix2 ⟨(32 * t.val - 1) * 16 + q.val,
      by have := lt_of_lt_of_eq t.isLt N_0; have : (32 * t.val - 1) ≤ 479 := by omega
         omega⟩ k) := by
  unfold iblk
  rw [View.read_apply, cast_eq]
  refine congrArg (V m c main_v0) (Shape.idx_ext₂ ?_ ?_)
  · exact (Pipeline.Window.rect_emb_val win0_3 t _ 0).trans (congrArg (· * 16 + q.val) (at3 t).1)
  · exact Pipeline.Window.rect_emb_val_of_index_zero win0_3 t 1 (at3 t).2 _

/-! ## The blocks of the arguments -/

theorem at0 : ∀ t : Fin grid0.N, win0_0.index t 0 = t.val ∧ win0_0.index t 1 = 0 := by decide +kernel

theorem iblk0_apply (c : Dev nD) (t : Fin cfg0.N) (q : Fin 512) (k : Fin 1280) :
    iblk m c 0 t (ix2 q k) = V m c main_v1 (ix2 (row 8192 t.val q) k) := by
  unfold iblk
  rw [View.read_apply, cast_eq]
  refine congrArg (V m c main_v1) (Shape.idx_ext₂ ?_ ?_)
  · refine (Pipeline.Window.rect_emb_val win0_0 t _ 0).trans ((congrArg (· * 512 + q.val) (at0 t).1).trans ?_)
    exact (row_val (T := 16) (B := 512) rfl (lt_of_lt_of_eq t.isLt N_0) q).symm
  · exact Pipeline.Window.rect_emb_val_of_index_zero win0_0 t 1 (at0 t).2 _

theorem at2 : ∀ t : Fin grid0.N, win0_2.index t 0 = t.val ∧ win0_2.index t 1 = 0 := by decide +kernel

theorem iblk2_apply (c : Dev nD) (t : Fin cfg0.N) (q : Fin 512) (k : Fin 1280) :
    iblk m c 2 t (ix2 q k) = V m c main_v0 (ix2 (row 8192 t.val q) k) := by
  unfold iblk
  rw [View.read_apply, cast_eq]
  refine congrArg (V m c main_v0) (Shape.idx_ext₂ ?_ ?_)
  · refine (Pipeline.Window.rect_emb_val win0_2 t _ 0).trans ((congrArg (· * 512 + q.val) (at2 t).1).trans ?_)
    exact (row_val (T := 16) (B := 512) rfl (lt_of_lt_of_eq t.isLt N_0) q).symm
  · exact Pipeline.Window.rect_emb_val_of_index_zero win0_2 t 1 (at2 t).2 _

theorem at4 : ∀ t : Fin grid0.N, win0_4.index t 0 = 0 ∧ win0_4.index t 1 = 0 := by decide +kernel

theorem iblk4_eq (c : Dev nD) (t : Fin cfg0.N) : iblk m c 4 t = V m c main_arg2 := by
  funext j
  unfold iblk
  rw [View.read_apply, cast_eq]
  refine congrArg (V m c main_arg2) (Shape.idx_ext₂ ?_ ?_)
  · exact Pipeline.Window.rect_emb_val_of_index_zero win0_4 t 0 (at4 t).1 _
  · exact Pipeline.Window.rect_emb_val_of_index_zero win0_4 t 1 (at4 t).2 _

/-! ## What a point leaves -/

theorem outs_A (c : Dev nD) (t : Fin cfg0.N) (h : t.val % 16 = 0) : outsAt0 m c t.val t.isLt
    = (k0_pay1 (k0_pay15 (k0_pay6 (iblk m c 0 t)) (iblk m c 4 t) (k0_pay8 (grid0.coords t) (iblk m c 1 t)) (k0_pay11 (grid0.coords t) (iblk m c 0 t) (iblk m c 1 t) (iblk m c 4 t))),
       k0_pay3 (k0_pay10 (iblk m c 0 t) (iblk m c 2 t)) (k0_pay13 (k0_pay6 (iblk m c 0 t)) (k0_pay7 (iblk m c 2 t)) (k0_pay9 (grid0.coords t) (iblk m c 3 t)) (k0_pay12 (iblk m c 2 t))) (k0_pay14 (k0_pay6 (iblk m c 0 t)) (k0_pay7 (iblk m c 2 t)) (k0_pay9 (grid0.coords t) (iblk m c 3 t))) (k0_pay16 (k0_pay6 (iblk m c 0 t)) (k0_pay7 (iblk m c 2 t)) (k0_pay9 (grid0.coords t) (iblk m c 3 t))) (k0_pay2 (F := Ideal)),
       k0_pay5 (k0_pay6 (iblk m c 0 t)) (k0_pay4 (F := Ideal))) := by
  refine (outsAt0_A m c t h h).trans (Prod.ext ?_ (Prod.ext ?_ ?_))
  · unfold out0_A_5
    rw [View.read_writes_eq_canon]
    · unfold kernelRun0_A
      dsimp only
      sl_unfold_words
      rw [View.canon_unit_zero hz]
      simp only [View.readAt_eq_ld, (hs0_0 t).read_unread, (hs0_1 t).read_unread, (hs0_2 t).read_unread, (hs0_3 t).read_unread, (hs0_4 t).read_unread,
        View.ld_unit_zero (S := S512x1280) hz, View.ld_unit_zero (S := S16x1280) hz, View.ld_unit_zero (S := S4x1280) hz, View.ld_unit_zero (S := S1x1280) hz]
    · intro y
      apply cover0_A_5
  · unfold out0_A_6
    rw [View.read_writes_eq_canon]
    · unfold kernelRun0_A
      dsimp only
      sl_unfold_words
      rw [View.canon_cons_unit_zero (S := S4x1280) hz, View.readCov_unit_zero (S := S4x1280) _ hz]
      simp only [View.readAt_eq_ld, (hs0_0 t).read_unread, (hs0_1 t).read_unread, (hs0_2 t).read_unread, (hs0_3 t).read_unread, (hs0_4 t).read_unread,
        View.ld_unit_zero (S := S512x1280) hz, View.ld_unit_zero (S := S16x1280) hz, View.ld_unit_zero (S := S4x1280) hz, View.ld_unit_zero (S := S1x1280) hz]
    · intro y
      apply cover0_A_6
  · unfold out0_A_7
    rw [View.read_writes_eq_canon]
    · unfold kernelRun0_A
      dsimp only
      sl_unfold_words
      rw [View.canon_cons_unit_zero (S := S1x1280) hz, View.readCov_unit_zero (S := S1x1280) _ hz]
      simp only [View.readAt_eq_ld, (hs0_0 t).read_unread, (hs0_1 t).read_unread, (hs0_2 t).read_unread, (hs0_3 t).read_unread, (hs0_4 t).read_unread,
        View.ld_unit_zero (S := S512x1280) hz, View.ld_unit_zero (S := S16x1280) hz, View.ld_unit_zero (S := S4x1280) hz, View.ld_unit_zero (S := S1x1280) hz]
    · intro y
      apply cover0_A_7

theorem outs_B (c : Dev nD) (t : Fin cfg0.N) (h : ¬t.val % 16 = 0) : outsAt0 m c t.val t.isLt
    = (k0_pay1 (k0_pay15 (k0_pay6 (iblk m c 0 t)) (iblk m c 4 t) (k0_pay8 (grid0.coords t) (iblk m c 1 t)) (k0_pay11 (grid0.coords t) (iblk m c 0 t) (iblk m c 1 t) (iblk m c 4 t))),
       k0_pay3 (k0_pay10 (iblk m c 0 t) (iblk m c 2 t)) (k0_pay13 (k0_pay6 (iblk m c 0 t)) (k0_pay7 (iblk m c 2 t)) (k0_pay9 (grid0.coords t) (iblk m c 3 t)) (k0_pay12 (iblk m c 2 t))) (k0_pay14 (k0_pay6 (iblk m c 0 t)) (k0_pay7 (iblk m c 2 t)) (k0_pay9 (grid0.coords t) (iblk m c 3 t))) (k0_pay16 (k0_pay6 (iblk m c 0 t)) (k0_pay7 (iblk m c 2 t)) (k0_pay9 (grid0.coords t) (iblk m c 3 t))) (outsAt0 m c (t.val - 1) (Nat.lt_of_le_of_lt (Nat.sub_le _ _) t.isLt)).2.1,
       k0_pay5 (k0_pay6 (iblk m c 0 t)) (outsAt0 m c (t.val - 1) (Nat.lt_of_le_of_lt (Nat.sub_le _ _) t.isLt)).2.2) := by
  refine (outsAt0_B m c t h h).trans (Prod.ext ?_ (Prod.ext ?_ ?_))
  · unfold out0_B_5
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_6 t).read_unread, (hs0_7 t).read_unread,
        View.ld_unit_zero (S := S512x1280) hz, View.ld_unit_zero (S := S16x1280) hz, View.ld_unit_zero (S := S4x1280) hz, View.ld_unit_zero (S := S1x1280) hz]
    · intro y
      apply cover0_B_5
  · unfold out0_B_6
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_6 t).read_unread, (hs0_7 t).read_unread,
        View.ld_unit_zero (S := S512x1280) hz, View.ld_unit_zero (S := S16x1280) hz, View.ld_unit_zero (S := S4x1280) hz, View.ld_unit_zero (S := S1x1280) hz]
    · intro y
      apply cover0_B_6
  · unfold out0_B_7
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_6 t).read_unread, (hs0_7 t).read_unread,
        View.ld_unit_zero (S := S512x1280) hz, View.ld_unit_zero (S := S16x1280) hz, View.ld_unit_zero (S := S4x1280) hz, View.ld_unit_zero (S := S1x1280) hz]
    · intro y
      apply cover0_B_7

/-! ## The result arrays -/

theorem at5 : ∀ t : Fin grid0.N, win0_5.index t 0 = t.val ∧ win0_5.index t 1 = 0 := by decide +kernel

theorem final5 (c : Dev nD) (t : Fin cfg0.N) (q : Fin 512) (b : Fin 1280) :
    (dats m 0 c).arrAt 5 cfg0.N (ix2 (row 8192 t.val q) b) = (outsAt0 m c t.val t.isLt).1 (ix2 q b) := by
  have e : ((cfg0.win 5).blk t).view.emb (ix2 q b) = ix2 (row 8192 t.val q) b := Shape.idx_ext₂
    ((Pipeline.Window.rect_emb_val win0_5 t _ 0).trans ((congrArg (· * 512 + q.val) (at5 t).1).trans
      (row_val (T := 16) (B := 512) rfl (lt_of_lt_of_eq t.isLt N_0) q).symm))
    (Pipeline.Window.rect_emb_val_of_index_zero win0_5 t 1 (at5 t).2 _)
  refine (congrArg ((dats m 0 c).arrAt 5 cfg0.N) e.symm).trans
    (((dats m 0 c).arrAt_emb_eq_flushed 5 Value.disjoint5 t (flush0_5 t) (ix2 q b)).trans ?_)
  rw [Value.flushed5]
  rfl

theorem at6 : ∀ t : Fin grid0.N, win0_6.index t 0 = 0 ∧ win0_6.index t 1 = 0 := by decide +kernel

theorem final6 (c : Dev nD) :
    (dats m 0 c).arrAt 6 cfg0.N = (outsAt0 m c tl.val tl.isLt).2.1 := by
  refine (dats m 0 c).arrAt_eq_of_cover 6 _ (fun t hf => ?_) fun i => ?_
  · have ht : t.val = 15 := by
      have h1 := (flush0_6 t).mp hf
      have h2 := lt_of_lt_of_eq t.isLt N_0
      omega
    obtain rfl : t = tl := Fin.ext ht
    rw [Value.flushed6]
    generalize (outsAt0 m c tl.val tl.isLt).2.1 = G
    have hz' : (fun a => win0_6.index tl a * main_v2_1.ty.shape.size a) = fun _ => 0 :=
      funext fun a => by fin_cases a <;> decide +kernel
    exact (Memref.read_access_unit_zero (Elt Ideal) main_v2_1 hz' (fun a => by rw [congrFun hz' a]; simp) G).symm
  · refine ⟨tl, (flush0_6 _).mpr rfl, ?_⟩
    show i ∈ ((View.whole main_v2_1).slice (win0_6.rect tl)).set
    rw [View.set_slice_whole, Rect.mem_set_unit]
    have h0 : (i 0 : Nat) < 4 := (i 0).isLt
    have h1 : (i 1 : Nat) < 1280 := (i 1).isLt
    have e0 : win0_6.index tl 0 * 4 = 0 := by decide +kernel
    have e1 : win0_6.index tl 1 * 1280 = 0 := by decide +kernel
    intro a
    match a with
    | ⟨0, _⟩ => exact ⟨e0.trans_le (Nat.zero_le _), h0.trans_eq ((congrArg (· + 4) e0).trans (Nat.zero_add _)).symm⟩
    | ⟨1, _⟩ => exact ⟨e1.trans_le (Nat.zero_le _), h1.trans_eq ((congrArg (· + 1280) e1).trans (Nat.zero_add _)).symm⟩

theorem at7 : ∀ t : Fin grid0.N, win0_7.index t 0 = 0 ∧ win0_7.index t 1 = 0 := by decide +kernel

theorem final7 (c : Dev nD) :
    (dats m 0 c).arrAt 7 cfg0.N = (outsAt0 m c tl.val tl.isLt).2.2 := by
  refine (dats m 0 c).arrAt_eq_of_cover 7 _ (fun t hf => ?_) fun i => ?_
  · have ht : t.val = 15 := by
      have h1 := (flush0_7 t).mp hf
      have h2 := lt_of_lt_of_eq t.isLt N_0
      omega
    obtain rfl : t = tl := Fin.ext ht
    rw [Value.flushed7]
    generalize (outsAt0 m c tl.val tl.isLt).2.2 = G
    have hz' : (fun a => win0_7.index tl a * main_v2_2.ty.shape.size a) = fun _ => 0 :=
      funext fun a => by fin_cases a <;> decide +kernel
    exact (Memref.read_access_unit_zero (Elt Ideal) main_v2_2 hz' (fun a => by rw [congrFun hz' a]; simp) G).symm
  · refine ⟨tl, (flush0_7 _).mpr rfl, ?_⟩
    show i ∈ ((View.whole main_v2_2).slice (win0_7.rect tl)).set
    rw [View.set_slice_whole, Rect.mem_set_unit]
    have h0 : (i 0 : Nat) < 1 := (i 0).isLt
    have h1 : (i 1 : Nat) < 1280 := (i 1).isLt
    have e0 : win0_7.index tl 0 * 1 = 0 := by decide +kernel
    have e1 : win0_7.index tl 1 * 1280 = 0 := by decide +kernel
    intro a
    match a with
    | ⟨0, _⟩ => exact ⟨e0.trans_le (Nat.zero_le _), h0.trans_eq ((congrArg (· + 1) e0).trans (Nat.zero_add _)).symm⟩
    | ⟨1, _⟩ => exact ⟨e1.trans_le (Nat.zero_le _), h1.trans_eq ((congrArg (· + 1280) e1).trans (Nat.zero_add _)).symm⟩

end Cert.ConvIdeal.Rows

end
-- ==== Proof.ConvValue.lean ====
/- The gradient of the causal depthwise convolution: the kernel's three result arrays and the derivative of the forward lines are
   the same functions of the arguments. -/
module

public import proofs.«01_k».proof.Proof.ConvKernel
public import proofs.«01_k».proof.Proof.Gen.ConvRefIdeal.Read

@[expose] public section

set_option maxRecDepth 16384

noncomputable section

open Cert.RowLib Idealize.ShloMosaic Idealize.ShloMosaic.TcCoe Idealize.SL.Sem

/-! ## The mathematics -/

namespace Cert.ConvMath

variable (d x : (⟨2, ![8192, 1280]⟩ : Shape).Idx → EReal) (w : (⟨2, ![4, 1280]⟩ : Shape).Idx → EReal)

/-- The row `s` rows below row `r`, zero beyond the last. -/
def below (s : ℕ) (r : Fin 8192) (b : Fin 1280) : EReal := if h : r.val + s < 8192 then d (ix2 ⟨r.val + s, h⟩ b) else 0

/-- The row `s` rows above row `r`, zero before the first. -/
def above (s : ℕ) (r : Fin 8192) (b : Fin 1280) : EReal := if h : s ≤ r.val then x (ix2 ⟨r.val - s, by omega⟩ b) else 0

/-- The gradient of the convolution's input. -/
def dlr (r : Fin 8192) (b : Fin 1280) : EReal :=
  ((d (ix2 r b) * w (ix2 3 b) + below d 1 r b * w (ix2 2 b)) + below d 2 r b * w (ix2 1 b)) + below d 3 r b * w (ix2 0 b)

/-- The gradient of its four weights. -/
def dcw (a : Fin 4) (b : Fin 1280) : EReal := ∑ r : Fin 8192, d (ix2 r b) * above x (3 - a.val) r b

/-- The gradient of its bias. -/
def dcb (a : Fin 1) (b : Fin 1280) : EReal := ∑ r : Fin 8192, d (ix2 r b)

end Cert.ConvMath

/-! ## The kernel -/

namespace Cert.ConvIdeal.Rows

open Cert.ConvIdeal Cert.ConvIdeal.Gen Cert.ConvMath

variable (m : (ℓ : Loc nD τ sig) → Buf (Elt Ideal) ℓ) (ρ : Dev nD → PrngReg)

theorem V_v0 (c : Dev nD) : V m c main_v0 = truncf (F := Ideal) .bf16 (m ((c : Thread nD τ).loc main_arg1)) bitsLt_bf16_f32 := by
  unfold V
  simp only [hostOps0]
  after_results

theorem V_v1 (c : Dev nD) : V m c main_v1 = truncf (F := Ideal) .bf16 (m ((c : Thread nD τ).loc main_arg0)) bitsLt_bf16_f32 := by
  unfold V
  simp only [hostOps0]
  after_results

/-! ### The payloads, over blocks of rows -/

/-- One where the condition holds and zero where not: what the kernel multiplies the rows of a neighbouring block with. -/
theorem mask_lt {n : ℕ} (hn : n < 16) : ((((Scalar.extui (Scalar.cmpi .slt (BitVec.ofNat 32 n) 15#32) : BitVec 32).toInt : ℝ)) : EReal) = if n < 15 then 1 else 0 := by
  have e : (Scalar.extui (Scalar.cmpi .slt (BitVec.ofNat 32 n) 15#32) : BitVec 32).toInt = if n < 15 then 1 else 0 := by
    interval_cases n <;> rfl
  rw [e]
  split_ifs <;> simp

theorem mask_gt {n : ℕ} (hn : n < 16) : ((((Scalar.extui (Scalar.cmpi .sgt (BitVec.ofNat 32 n) 0#32) : BitVec 32).toInt : ℝ)) : EReal) = if 0 < n then 1 else 0 := by
  have e : (Scalar.extui (Scalar.cmpi .sgt (BitVec.ofNat 32 n) 0#32) : BitVec 32).toInt = if 0 < n then 1 else 0 := by
    interval_cases n <;> rfl
  rw [e]
  split_ifs <;> simp

section Shift

variable {s : ℕ} (hs : s < 16) {x0 : S8192x1280.Idx → EReal} {y : FVec Ideal S512x1280 .f32} {z : FVec Ideal S8x1280 .f32}
  (hy : ∀ q b, y (ix2 q b) = x0 (ix2 (row 8192 s q) b))
  (hz : ∀ q b, z (ix2 q b) = if h : (s + 1) * 512 + q.val < 8192 then x0 (ix2 ⟨(s + 1) * 512 + q.val, h⟩ b) else 0)
  (hp : ∀ q b, z (ix2 q b) = if h : 0 < s then x0 (ix2 ⟨s * 512 - 8 + q.val, by omega⟩ b) else 0)

/-- A block of rows moved up by 1, the first rows of the next block moved in behind. -/
def next1 (y : FVec Ideal S512x1280 .f32) (z : FVec Ideal S8x1280 .f32) : FVec Ideal S512x1280 .f32 :=
  concatenate S512x1280 0 [⟨S504x1280, extractStridedSlice S504x1280 ![0, 0] (dynamicRotate 0 511#32 none y rotates_S512x1280_d0) slices_S512x1280_o0_0_S504x1280⟩,
    ⟨S8x1280, extractStridedSlice S8x1280 ![0, 0] (dynamicRotate 0 15#32 none (concatenate S16x1280 0 [⟨S8x1280, extractStridedSlice S8x1280 ![504, 0] y slices_S512x1280_o504_0_S8x1280⟩,
      ⟨S8x1280, z⟩] concatenates_S8x1280_S8x1280_S16x1280_d0) rotates_S16x1280_d0) slices_S16x1280_o0_0_S8x1280⟩] concatenates_S504x1280_S8x1280_S512x1280_d0

include hs hy hz in
theorem next1_at (q : Fin 512) (b : Fin 1280) : next1 y z (ix2 q b) = below x0 1 (row 8192 s q) b := by
  have hr := row_val (R := 8192) (T := 16) (B := 512) rfl hs q
  unfold next1 below
  pointwise [hy, hz]
  split_ifs
  all_goals first
    | rfl
    | omega
    | skip
  all_goals try rw [dif_pos (by omega)]
  all_goals try rw [dif_neg (by omega)]
  all_goals refine congrArg (fun e => x0 (ix2 e b)) (Fin.ext ?_)
  all_goals try dsimp only
  all_goals try rw [hr]
  all_goals try rw [row_val (R := 8192) (T := 16) (B := 512) rfl hs]
  all_goals try dsimp only
  all_goals omega

/-- A block of rows moved up by 2, the first rows of the next block moved in behind. -/
def next2 (y : FVec Ideal S512x1280 .f32) (z : FVec Ideal S8x1280 .f32) : FVec Ideal S512x1280 .f32 :=
  concatenate S512x1280 0 [⟨S504x1280, extractStridedSlice S504x1280 ![0, 0] (dynamicRotate 0 510#32 none y rotates_S512x1280_d0) slices_S512x1280_o0_0_S504x1280⟩,
    ⟨S8x1280, extractStridedSlice S8x1280 ![0, 0] (dynamicRotate 0 14#32 none (concatenate S16x1280 0 [⟨S8x1280, extractStridedSlice S8x1280 ![504, 0] y slices_S512x1280_o504_0_S8x1280⟩,
      ⟨S8x1280, z⟩] concatenates_S8x1280_S8x1280_S16x1280_d0) rotates_S16x1280_d0) slices_S16x1280_o0_0_S8x1280⟩] concatenates_S504x1280_S8x1280_S512x1280_d0

include hs hy hz in
theorem next2_at (q : Fin 512) (b : Fin 1280) : next2 y z (ix2 q b) = below x0 2 (row 8192 s q) b := by
  have hr := row_val (R := 8192) (T := 16) (B := 512) rfl hs q
  unfold next2 below
  pointwise [hy, hz]
  split_ifs
  all_goals first
    | rfl
    | omega
    | skip
  all_goals try rw [dif_pos (by omega)]
  all_goals try rw [dif_neg (by omega)]
  all_goals refine congrArg (fun e => x0 (ix2 e b)) (Fin.ext ?_)
  all_goals try dsimp only
  all_goals try rw [hr]
  all_goals try rw [row_val (R := 8192) (T := 16) (B := 512) rfl hs]
  all_goals try dsimp only
  all_goals omega

/-- A block of rows moved up by 3, the first rows of the next block moved in behind. -/
def next3 (y : FVec Ideal S512x1280 .f32) (z : FVec Ideal S8x1280 .f32) : FVec Ideal S512x1280 .f32 :=
  concatenate S512x1280 0 [⟨S504x1280, extractStridedSlice S504x1280 ![0, 0] (dynamicRotate 0 509#32 none y rotates_S512x1280_d0) slices_S512x1280_o0_0_S504x1280⟩,
    ⟨S8x1280, extractStridedSlice S8x1280 ![0, 0] (dynamicRotate 0 13#32 none (concatenate S16x1280 0 [⟨S8x1280, extractStridedSlice S8x1280 ![504, 0] y slices_S512x1280_o504_0_S8x1280⟩,
      ⟨S8x1280, z⟩] concatenates_S8x1280_S8x1280_S16x1280_d0) rotates_S16x1280_d0) slices_S16x1280_o0_0_S8x1280⟩] concatenates_S504x1280_S8x1280_S512x1280_d0

include hs hy hz in
theorem next3_at (q : Fin 512) (b : Fin 1280) : next3 y z (ix2 q b) = below x0 3 (row 8192 s q) b := by
  have hr := row_val (R := 8192) (T := 16) (B := 512) rfl hs q
  unfold next3 below
  pointwise [hy, hz]
  split_ifs
  all_goals first
    | rfl
    | omega
    | skip
  all_goals try rw [dif_pos (by omega)]
  all_goals try rw [dif_neg (by omega)]
  all_goals refine congrArg (fun e => x0 (ix2 e b)) (Fin.ext ?_)
  all_goals try dsimp only
  all_goals try rw [hr]
  all_goals try rw [row_val (R := 8192) (T := 16) (B := 512) rfl hs]
  all_goals try dsimp only
  all_goals omega

/-- A block of rows moved down by 1, the last rows of the block before moved in ahead. -/
def prev1 (y : FVec Ideal S512x1280 .f32) (z : FVec Ideal S8x1280 .f32) : FVec Ideal S512x1280 .f32 :=
  concatenate S512x1280 0 [⟨S8x1280, extractStridedSlice S8x1280 ![8, 0] (dynamicRotate 0 1#32 none (concatenate S16x1280 0 [⟨S8x1280, z⟩,
      ⟨S8x1280, extractStridedSlice S8x1280 ![0, 0] y slices_S512x1280_o0_0_S8x1280⟩] concatenates_S8x1280_S8x1280_S16x1280_d0) rotates_S16x1280_d0) slices_S16x1280_o8_0_S8x1280⟩,
    ⟨S504x1280, extractStridedSlice S504x1280 ![8, 0] (dynamicRotate 0 1#32 none y rotates_S512x1280_d0) slices_S512x1280_o8_0_S504x1280⟩] concatenates_S8x1280_S504x1280_S512x1280_d0

include hs hy hp in
theorem prev1_at (q : Fin 512) (b : Fin 1280) : prev1 y z (ix2 q b) = above x0 1 (row 8192 s q) b := by
  have hr := row_val (R := 8192) (T := 16) (B := 512) rfl hs q
  unfold prev1 above
  pointwise [hy, hp]
  split_ifs
  all_goals first
    | rfl
    | omega
    | skip
  all_goals try rw [dif_pos (by omega)]
  all_goals try rw [dif_neg (by omega)]
  all_goals refine congrArg (fun e => x0 (ix2 e b)) (Fin.ext ?_)
  all_goals try dsimp only
  all_goals try rw [hr]
  all_goals try rw [row_val (R := 8192) (T := 16) (B := 512) rfl hs]
  all_goals try dsimp only
  all_goals omega

/-- A block of rows moved down by 2, the last rows of the block before moved in ahead. -/
def prev2 (y : FVec Ideal S512x1280 .f32) (z : FVec Ideal S8x1280 .f32) : FVec Ideal S512x1280 .f32 :=
  concatenate S512x1280 0 [⟨S8x1280, extractStridedSlice S8x1280 ![8, 0] (dynamicRotate 0 2#32 none (concatenate S16x1280 0 [⟨S8x1280, z⟩,
      ⟨S8x1280, extractStridedSlice S8x1280 ![0, 0] y slices_S512x1280_o0_0_S8x1280⟩] concatenates_S8x1280_S8x1280_S16x1280_d0) rotates_S16x1280_d0) slices_S16x1280_o8_0_S8x1280⟩,
    ⟨S504x1280, extractStridedSlice S504x1280 ![8, 0] (dynamicRotate 0 2#32 none y rotates_S512x1280_d0) slices_S512x1280_o8_0_S504x1280⟩] concatenates_S8x1280_S504x1280_S512x1280_d0

include hs hy hp in
theorem prev2_at (q : Fin 512) (b : Fin 1280) : prev2 y z (ix2 q b) = above x0 2 (row 8192 s q) b := by
  have hr := row_val (R := 8192) (T := 16) (B := 512) rfl hs q
  unfold prev2 above
  pointwise [hy, hp]
  split_ifs
  all_goals first
    | rfl
    | omega
    | skip
  all_goals try rw [dif_pos (by omega)]
  all_goals try rw [dif_neg (by omega)]
  all_goals refine congrArg (fun e => x0 (ix2 e b)) (Fin.ext ?_)
  all_goals try dsimp only
  all_goals try rw [hr]
  all_goals try rw [row_val (R := 8192) (T := 16) (B := 512) rfl hs]
  all_goals try dsimp only
  all_goals omega

/-- A block of rows moved down by 3, the last rows of the block before moved in ahead. -/
def prev3 (y : FVec Ideal S512x1280 .f32) (z : FVec Ideal S8x1280 .f32) : FVec Ideal S512x1280 .f32 :=
  concatenate S512x1280 0 [⟨S8x1280, extractStridedSlice S8x1280 ![8, 0] (dynamicRotate 0 3#32 none (concatenate S16x1280 0 [⟨S8x1280, z⟩,
      ⟨S8x1280, extractStridedSlice S8x1280 ![0, 0] y slices_S512x1280_o0_0_S8x1280⟩] concatenates_S8x1280_S8x1280_S16x1280_d0) rotates_S16x1280_d0) slices_S16x1280_o8_0_S8x1280⟩,
    ⟨S504x1280, extractStridedSlice S504x1280 ![8, 0] (dynamicRotate 0 3#32 none y rotates_S512x1280_d0) slices_S512x1280_o8_0_S504x1280⟩] concatenates_S8x1280_S504x1280_S512x1280_d0

include hs hy hp in
theorem prev3_at (q : Fin 512) (b : Fin 1280) : prev3 y z (ix2 q b) = above x0 3 (row 8192 s q) b := by
  have hr := row_val (R := 8192) (T := 16) (B := 512) rfl hs q
  unfold prev3 above
  pointwise [hy, hp]
  split_ifs
  all_goals first
    | rfl
    | omega
    | skip
  all_goals try rw [dif_pos (by omega)]
  all_goals try rw [dif_neg (by omega)]
  all_goals refine congrArg (fun e => x0 (ix2 e b)) (Fin.ext ?_)
  all_goals try dsimp only
  all_goals try rw [hr]
  all_goals try rw [row_val (R := 8192) (T := 16) (B := 512) rfl hs]
  all_goals try dsimp only
  all_goals omega

end Shift

section Before

variable {s : ℕ} (hs : s < 16) {x0 : S8192x1280.Idx → EReal} {y : FVec Ideal S512x1280 .f32} {z : FVec Ideal S8x1280 .f32}
  (hy : ∀ q b, y (ix2 q b) = x0 (ix2 (row 8192 s q) b))
  (hp : ∀ (q : Fin 8) b (h : s * 512 - 8 + q.val < 8192), z (ix2 q b) = if 0 < s then x0 (ix2 ⟨s * 512 - 8 + q.val, h⟩ b) else 0)

include hs hp in
theorem before (q : Fin 8) (b : Fin 1280) : z (ix2 q b) = if h : 0 < s then x0 (ix2 ⟨s * 512 - 8 + q.val, by omega⟩ b) else 0 := by
  rw [hp q b (by omega)]
  split_ifs <;> rfl

include hs hy hp

theorem prev1_of (q : Fin 512) (b : Fin 1280) : prev1 y z (ix2 q b) = above x0 1 (row 8192 s q) b :=
  prev1_at hs hy (before hs hp) q b

theorem prev2_of (q : Fin 512) (b : Fin 1280) : prev2 y z (ix2 q b) = above x0 2 (row 8192 s q) b :=
  prev2_at hs hy (before hs hp) q b

theorem prev3_of (q : Fin 512) (b : Fin 1280) : prev3 y z (ix2 q b) = above x0 3 (row 8192 s q) b :=
  prev3_at hs hy (before hs hp) q b

end Before

section Pay

variable {s : ℕ} {i : grid0.Coords} {x0 x1 : S8192x1280.Idx → EReal} {x2 : S4x1280.Idx → EReal}
  {v0 v7 : Vec Ideal S512x1280 .bf16} {v3 v10 : Vec Ideal S16x1280 .bf16} {v14 : Vec Ideal S4x1280 .f32}
  (hs : s < 16) (hi : (i 0).val = s)
  (h0 : ∀ q k, v0 (ix2 q k) = x0 (ix2 (row 8192 s q) k))
  (h1 : ∀ q k, v3 (ix2 q k) = x0 (ix2 ⟨min (32 * (s + 1)) 511 * 16 + q.val, by omega⟩ k))
  (h2 : ∀ q k, v7 (ix2 q k) = x1 (ix2 (row 8192 s q) k))
  (h3 : ∀ q k, v10 (ix2 q k) = x1 (ix2 ⟨(32 * s - 1) * 16 + q.val, by have : 32 * s - 1 ≤ 479 := by omega
                                                                      omega⟩ k))
  (h4 : ∀ j, v14 j = x2 j)

include h0 in
theorem pay6 (q : Fin 512) (b : Fin 1280) : k0_pay6 v0 (ix2 q b) = x0 (ix2 (row 8192 s q) b) := by
  unfold k0_pay6
  pointwise [h0]

include h2 in
theorem pay7 (q : Fin 512) (b : Fin 1280) : k0_pay7 v7 (ix2 q b) = x1 (ix2 (row 8192 s q) b) := by
  unfold k0_pay7
  pointwise [h2]

include hs hi h1 in
theorem pay8 (q : Fin 8) (b : Fin 1280) : k0_pay8 i v3 (ix2 q b)
    = if h : (s + 1) * 512 + q.val < 8192 then x0 (ix2 ⟨(s + 1) * 512 + q.val, h⟩ b) else 0 := by
  unfold k0_pay8
  pointwise [h1]
  rw [hi, mask_lt hs]
  by_cases h : s < 15
  · rw [if_pos h, dif_pos (by omega), mul_one]
    exact congrArg (fun e => x0 (ix2 e b)) (Fin.ext (show min (32 * (s + 1)) 511 * 16 + _ = (s + 1) * 512 + q.val by first | rfl | omega | (dsimp only; omega)))
  · rw [if_neg h, dif_neg (by omega), mul_zero]

include hs hi h3 in
theorem pay9 (q : Fin 8) (b : Fin 1280) : k0_pay9 i v10 (ix2 q b) = if h : 0 < s then x1 (ix2 ⟨s * 512 - 8 + q.val, by omega⟩ b) else 0 := by
  unfold k0_pay9
  pointwise [h3]
  rw [hi, mask_gt hs]
  by_cases h : 0 < s
  · rw [if_pos h, dif_pos h, mul_one]
    exact congrArg (fun e => x1 (ix2 e b)) (Fin.ext (show (32 * s - 1) * 16 + _ = s * 512 - 8 + q.val by first | rfl | omega | (dsimp only; omega)))
  · rw [if_neg h, dif_neg h, mul_zero]

include hs hi h0 h1 h4 in
theorem pay11 (q : Fin 512) (b : Fin 1280) : k0_pay11 i v0 v3 v14 (ix2 q b)
    = x0 (ix2 (row 8192 s q) b) * x2 (ix2 3 b) + below x0 1 (row 8192 s q) b * x2 (ix2 2 b) := by
  have e : k0_pay11 i v0 v3 v14 = addf (mulf (k0_pay6 v0) (broadcastTo S512x1280 (extractStridedSlice S1x1280 ![3, 0] v14 slices_S4x1280_o3_0_S1x1280) broadcasts_S1x1280_S512x1280))
    (mulf (next1 (k0_pay6 v0) (k0_pay8 i v3)) (broadcastTo S512x1280 (extractStridedSlice S1x1280 ![2, 0] v14 slices_S4x1280_o2_0_S1x1280) broadcasts_S1x1280_S512x1280)) := rfl
  rw [e]
  pointwise [pay6 h0, next1_at hs (pay6 h0) (pay8 hs hi h1), h4]

include hs hi h0 h1 h4 in
theorem pay1 (q : Fin 512) (b : Fin 1280) : k0_pay1 (k0_pay15 (k0_pay6 v0) v14 (k0_pay8 i v3) (k0_pay11 i v0 v3 v14)) (ix2 q b) = dlr x0 x2 (row 8192 s q) b := by
  have e : k0_pay15 (k0_pay6 v0) v14 (k0_pay8 i v3) (k0_pay11 i v0 v3 v14) = addf (addf (k0_pay11 i v0 v3 v14) (mulf (next2 (k0_pay6 v0) (k0_pay8 i v3)) (broadcastTo S512x1280 (extractStridedSlice S1x1280 ![1, 0] v14 slices_S4x1280_o1_0_S1x1280) broadcasts_S1x1280_S512x1280)))
    (mulf (next3 (k0_pay6 v0) (k0_pay8 i v3)) (broadcastTo S512x1280 (extractStridedSlice S1x1280 ![0, 0] v14 slices_S4x1280_o0_0_S1x1280) broadcasts_S1x1280_S512x1280)) := rfl
  unfold k0_pay1
  rw [e]
  pointwise [pay11 hs hi h0 h1 h4, next2_at hs (pay6 h0) (pay8 hs hi h1), next3_at hs (pay6 h0) (pay8 hs hi h1), h4]
  rfl

include h0 h2 in
theorem pay10 (a : Fin 1) (b : Fin 1280) : k0_pay10 v0 v7 (ix2 a b) = ∑ q : Fin 512, x0 (ix2 (row 8192 s q) b) * above x1 0 (row 8192 s q) b := by
  unfold k0_pay10
  pointwise [pay6 h0, pay7 h2]
  rfl

include hs hi h0 h2 h3 in
theorem pay13 (a : Fin 1) (b : Fin 1280) : k0_pay13 (k0_pay6 v0) (k0_pay7 v7) (k0_pay9 i v10) (k0_pay12 v7) (ix2 a b)
    = ∑ q : Fin 512, x0 (ix2 (row 8192 s q) b) * above x1 1 (row 8192 s q) b := by
  have e : k0_pay13 (k0_pay6 v0) (k0_pay7 v7) (k0_pay9 i v10) (k0_pay12 v7) = shapeCast S1x1280 (multiReduction .add [0] S1280 (mulf (k0_pay6 v0) (prev1 (k0_pay7 v7) (k0_pay9 i v10))) 0x00000000#32 reduces_S512x1280_S1280 (.inl rfl) rfl) shapeCasts_S1280_S1x1280 := rfl
  rw [e]
  pointwise [pay6 h0, prev1_at hs (pay7 h2) (pay9 hs hi h3)]

include hs hi h0 h2 h3 in
theorem pay14 (a : Fin 1) (b : Fin 1280) : k0_pay14 (k0_pay6 v0) (k0_pay7 v7) (k0_pay9 i v10) (ix2 a b)
    = ∑ q : Fin 512, x0 (ix2 (row 8192 s q) b) * above x1 2 (row 8192 s q) b := by
  have e : k0_pay14 (k0_pay6 v0) (k0_pay7 v7) (k0_pay9 i v10) = shapeCast S1x1280 (multiReduction .add [0] S1280 (mulf (k0_pay6 v0) (prev2 (k0_pay7 v7) (k0_pay9 i v10))) 0x00000000#32 reduces_S512x1280_S1280 (.inl rfl) rfl) shapeCasts_S1280_S1x1280 := rfl
  rw [e]
  pointwise [pay6 h0, prev2_at hs (pay7 h2) (pay9 hs hi h3)]

include hs hi h0 h2 h3 in
theorem pay16 (q : Fin 512) (b : Fin 1280) : k0_pay16 (k0_pay6 v0) (k0_pay7 v7) (k0_pay9 i v10) (ix2 q b)
    = x0 (ix2 (row 8192 s q) b) * above x1 3 (row 8192 s q) b := by
  have e : k0_pay16 (k0_pay6 v0) (k0_pay7 v7) (k0_pay9 i v10) = mulf (k0_pay6 v0) (prev3 (k0_pay7 v7) (k0_pay9 i v10)) := rfl
  rw [e]
  pointwise [pay6 h0, prev3_at hs (pay7 h2) (pay9 hs hi h3)]

include hs hi h0 h2 h3 in
theorem pay3 (y : Vec Ideal S4x1280 .f32) (a : Fin 4) (b : Fin 1280) :
    k0_pay3 (k0_pay10 v0 v7) (k0_pay13 (k0_pay6 v0) (k0_pay7 v7) (k0_pay9 i v10) (k0_pay12 v7)) (k0_pay14 (k0_pay6 v0) (k0_pay7 v7) (k0_pay9 i v10)) (k0_pay16 (k0_pay6 v0) (k0_pay7 v7) (k0_pay9 i v10)) y (ix2 a b)
    = y (ix2 a b) + ∑ q : Fin 512, x0 (ix2 (row 8192 s q) b) * above x1 (3 - a.val) (row 8192 s q) b := by
  unfold k0_pay3
  pointwise [pay16 hs hi h0 h2 h3, pay14 hs hi h0 h2 h3, pay13 hs hi h0 h2 h3, pay10 h0 h2]
  refine congrArg (y (ix2 a b) + ·) ?_
  match a with
  | 0 | 1 | 2 | 3 => rfl

include h0 in
theorem pay5 (y : Vec Ideal S1x1280 .f32) (a : Fin 1) (b : Fin 1280) : k0_pay5 (k0_pay6 v0) y (ix2 a b)
    = y (ix2 a b) + ∑ q : Fin 512, x0 (ix2 (row 8192 s q) b) := by
  unfold k0_pay5
  pointwise [pay6 h0]

end Pay

theorem zero2 (a : Fin 4) (b : Fin 1280) : k0_pay2 (F := Ideal) (ix2 a b) = 0 := by
  unfold k0_pay2
  pointwise

theorem zero4 (a : Fin 1) (b : Fin 1280) : k0_pay4 (F := Ideal) (ix2 a b) = 0 := by
  unfold k0_pay4
  pointwise

/-! ### The arguments -/

abbrev a0 (c : Dev nD) : S8192x1280.Idx → EReal := m ((c : Thread nD τ).loc main_arg0)
abbrev a1 (c : Dev nD) : S8192x1280.Idx → EReal := m ((c : Thread nD τ).loc main_arg1)
abbrev a2 (c : Dev nD) : S4x1280.Idx → EReal := m ((c : Thread nD τ).loc main_arg2)

theorem b0 (c : Dev nD) (t : Fin cfg0.N) (q : Fin 512) (k : Fin 1280) : iblk m c 0 t (ix2 q k) = a0 m c (ix2 (row 8192 t.val q) k) :=
  (iblk0_apply m c t q k).trans (congrFun (V_v1 m c) _)
theorem b2 (c : Dev nD) (t : Fin cfg0.N) (q : Fin 512) (k : Fin 1280) : iblk m c 2 t (ix2 q k) = a1 m c (ix2 (row 8192 t.val q) k) :=
  (iblk2_apply m c t q k).trans (congrFun (V_v0 m c) _)
theorem b4 (c : Dev nD) (t : Fin cfg0.N) (j : S4x1280.Idx) : iblk m c 4 t j = a2 m c j :=
  (congrFun (iblk4_eq m c t) j).trans (congrFun (V_main_arg2 m c) j)
theorem b1 (c : Dev nD) (t : Fin cfg0.N) (q : Fin 16) (k : Fin 1280) :
    iblk m c 1 t (ix2 q k) = a0 m c (ix2 ⟨min (32 * (t.val + 1)) 511 * 16 + q.val, by omega⟩ k) :=
  (iblk1_apply m c t q k).trans (congrFun (V_v1 m c) _)

theorem b3 (c : Dev nD) (t : Fin cfg0.N) (q : Fin 16) (k : Fin 1280) :
    iblk m c 3 t (ix2 q k) = a1 m c (ix2 ⟨(32 * t.val - 1) * 16 + q.val,
      by have := lt_of_lt_of_eq t.isLt N_0; have : (32 * t.val - 1) ≤ 479 := by omega
         omega⟩ k) :=
  (iblk3_apply m c t q k).trans (congrFun (V_v0 m c) _)

theorem b90 (m : (ℓ : Loc nD τ sig) → Buf (Elt Ideal) ℓ) (c : Dev nD) (t : Fin cfg0.N) : t.val < 16 := lt_of_lt_of_eq t.isLt N_0

theorem b91 (m : (ℓ : Loc nD τ sig) → Buf (Elt Ideal) ℓ) (c : Dev nD) (t : Fin cfg0.N) : (grid0.coords t 0).val = t.val := coord t

/-! ### The result arrays -/

theorem rows5 (c : Dev nD) (t : Fin cfg0.N) (q : Fin 512) (b : Fin 1280) :
    (outsAt0 m c t.val t.isLt).1 (ix2 q b) = dlr (a0 m c) (a2 m c) (row 8192 t.val q) b := by
  by_cases h : t.val % 16 = 0
  · rw [outs_A m c t h]
    exact pay1 (b90 m c t) (b91 m c t) (b0 m c t) (b1 m c t) (b4 m c t) q b
  · rw [outs_B m c t h]
    exact pay1 (b90 m c t) (b91 m c t) (b0 m c t) (b1 m c t) (b4 m c t) q b

theorem res5 (c : Dev nD) (r : Fin 8192) (b : Fin 1280) :
    (dats m 0 c).arrAt 5 cfg0.N (ix2 r b) = dlr (a0 m c) (a2 m c) r b := by
  obtain ⟨s, hs, q, rfl⟩ := exists_row (T := 16) (B := 512) rfl r
  exact (final5 m c ⟨s, lt_of_lt_of_eq hs N_0.symm⟩ q b).trans (rows5 m c ⟨s, lt_of_lt_of_eq hs N_0.symm⟩ q b)

theorem sum6 (c : Dev nD) (n : ℕ) (hn : n < cfg0.N) (a : Fin 4) (b : Fin 1280) : (outsAt0 m c n hn).2.1 (ix2 a b)
    = ∑ s ∈ Finset.range (n + 1), ∑ q : Fin 512, a0 m c (ix2 (row 8192 s q) b) * above (a1 m c) (3 - a.val) (row 8192 s q) b := by
  refine running (fun n h => (outsAt0 m c n h).2.1 (ix2 a b)) (fun s => ∑ q : Fin 512, a0 m c (ix2 (row 8192 s q) b) * above (a1 m c) (3 - a.val) (row 8192 s q) b) (fun h => ?_) (fun n h => ?_) n hn
  · rw [outs_A m c ⟨0, h⟩ rfl]
    exact (pay3 (b90 m c ⟨0, h⟩) (b91 m c ⟨0, h⟩) (b0 m c ⟨0, h⟩) (b2 m c ⟨0, h⟩) (b3 m c ⟨0, h⟩) _ a b).trans ((congrArg (· + _) (zero2 a b)).trans (zero_add _))
  · have hN := lt_of_lt_of_eq h N_0
    rw [outs_B m c ⟨n + 1, h⟩ (show ¬(n + 1) % 16 = 0 by omega)]
    exact pay3 (b90 m c ⟨n + 1, h⟩) (b91 m c ⟨n + 1, h⟩) (b0 m c ⟨n + 1, h⟩) (b2 m c ⟨n + 1, h⟩) (b3 m c ⟨n + 1, h⟩) _ a b

theorem res6 (c : Dev nD) (a : Fin 4) (b : Fin 1280) :
    (dats m 0 c).arrAt 6 cfg0.N (ix2 a b) = dcw (a0 m c) (a1 m c) a b :=
  (congrFun (final6 m c) (ix2 a b)).trans ((sum6 m c 15 tl.isLt a b).trans
    (sum_row (T := 16) (B := 512) rfl fun r => a0 m c (ix2 r b) * above (a1 m c) (3 - a.val) r b))

theorem sum7 (c : Dev nD) (n : ℕ) (hn : n < cfg0.N) (a : Fin 1) (b : Fin 1280) : (outsAt0 m c n hn).2.2 (ix2 a b)
    = ∑ s ∈ Finset.range (n + 1), ∑ q : Fin 512, a0 m c (ix2 (row 8192 s q) b) := by
  refine running (fun n h => (outsAt0 m c n h).2.2 (ix2 a b)) (fun s => ∑ q : Fin 512, a0 m c (ix2 (row 8192 s q) b)) (fun h => ?_) (fun n h => ?_) n hn
  · rw [outs_A m c ⟨0, h⟩ rfl]
    exact (pay5 (b0 m c ⟨0, h⟩) _ a b).trans ((congrArg (· + _) (zero4 a b)).trans (zero_add _))
  · have hN := lt_of_lt_of_eq h N_0
    rw [outs_B m c ⟨n + 1, h⟩ (show ¬(n + 1) % 16 = 0 by omega)]
    exact pay5 (b0 m c ⟨n + 1, h⟩) _ a b

theorem res7 (c : Dev nD) (a : Fin 1) (b : Fin 1280) :
    (dats m 0 c).arrAt 7 cfg0.N (ix2 a b) = dcb (a0 m c) a b :=
  (congrFun (final7 m c) (ix2 a b)).trans ((sum7 m c 15 tl.isLt a b).trans
    (sum_row (T := 16) (B := 512) rfl fun r => a0 m c (ix2 r b)))

end Cert.ConvIdeal.Rows

/-! ## The reference -/

namespace Cert.ConvRefIdeal.Rows

open Cert.ConvRefIdeal Cert.ConvRefIdeal.Gen Cert.ConvRefIdeal.Read Cert.ConvMath

variable (x0 x1 : S8192x1280.Idx → EReal) (x2 : S4x1280.Idx → EReal)

theorem dlr_eq (r : Fin 8192) (b : Fin 1280) : val_main_v82 (F := Ideal) x0 x2 (ix2 r b) = dlr x0 x2 r b := by
  unfold val_main_v82 val_main_v81 val_main_v79 val_main_v78 val_main_v73 val_main_v72 val_main_v7 val_main_v6 val_main_v5 val_main_v68 val_main_v67 val_main_v62 val_main_v61 val_main_v13 val_main_v12 val_main_v11 val_main_v57 val_main_v56 val_main_v51 val_main_v50 val_main_v20 val_main_v19 val_main_v18 val_main_v46 val_main_v42 val_main_v41 val_main_v27 val_main_v26 val_main_v25 val_main_v34 val_main_cst_7 val_main_cst_11 val_main_cst_15 val_main_cst_19
  unfold dlr below
  pointwise
  refine congrArg₂ (· + ·) (congrArg₂ (· + ·) (congrArg (x0 (ix2 r b) * x2 (ix2 3 b) + ·) ?_) ?_) ?_ <;> split_ifs <;> first
    | exact (zero_mul _).symm
    | omega
    | exact congrArg (fun e => x0 (ix2 e b) * _) (Fin.ext (by first | rfl | omega | (dsimp only; omega)))

theorem above3 (r : Fin 8192) (b : Fin 1280) : val_main_v4 (F := Ideal) x1 (ix2 r b) = above x1 3 r b := by
  unfold val_main_v4 val_main_v2 val_main_v1 val_main_cst_0 above
  pointwise
  try split_ifs
  all_goals try rw [dif_pos (by omega)]
  all_goals try rw [dif_neg (by omega)]
  all_goals first
    | rfl
    | omega
    | exact congrArg (fun e => x1 (ix2 e b)) (Fin.ext (by first | rfl | omega | (dsimp only; omega)))

theorem above2 (r : Fin 8192) (b : Fin 1280) : val_main_v10 (F := Ideal) x1 (ix2 r b) = above x1 2 r b := by
  unfold val_main_v10 val_main_v2 val_main_v1 val_main_cst_0 above
  pointwise
  try split_ifs
  all_goals try rw [dif_pos (by omega)]
  all_goals try rw [dif_neg (by omega)]
  all_goals first
    | rfl
    | omega
    | exact congrArg (fun e => x1 (ix2 e b)) (Fin.ext (by first | rfl | omega | (dsimp only; omega)))

theorem above1 (r : Fin 8192) (b : Fin 1280) : val_main_v17 (F := Ideal) x1 (ix2 r b) = above x1 1 r b := by
  unfold val_main_v17 val_main_v2 val_main_v1 val_main_cst_0 above
  pointwise
  try split_ifs
  all_goals try rw [dif_pos (by omega)]
  all_goals try rw [dif_neg (by omega)]
  all_goals first
    | rfl
    | omega
    | exact congrArg (fun e => x1 (ix2 e b)) (Fin.ext (by first | rfl | omega | (dsimp only; omega)))

theorem above0 (r : Fin 8192) (b : Fin 1280) : val_main_v24 (F := Ideal) x1 (ix2 r b) = above x1 0 r b := by
  unfold val_main_v24 val_main_v2 val_main_v1 val_main_cst_0 above
  pointwise
  try split_ifs
  all_goals try rw [dif_pos (by omega)]
  all_goals try rw [dif_neg (by omega)]
  all_goals first
    | rfl
    | omega
    | exact congrArg (fun e => x1 (ix2 e b)) (Fin.ext (by first | rfl | omega | (dsimp only; omega)))

theorem dcw_eq (a : Fin 4) (b : Fin 1280) : val_main_v77 (F := Ideal) x0 x1 (ix2 a b) = dcw x0 x1 a b := by
  unfold val_main_v77 val_main_v76 val_main_v75 val_main_v74 val_main_v71 val_main_v70 val_main_v69 val_main_v66 val_main_v65 val_main_v64 val_main_v63 val_main_v60 val_main_v59 val_main_v58 val_main_v55 val_main_v54 val_main_v53 val_main_v52 val_main_v49 val_main_v48 val_main_v47 val_main_v45 val_main_v44 val_main_v43 val_main_v40 val_main_v39 val_main_v38 val_main_v34 val_main_cst_4 val_main_cst_5 val_main_cst_6 val_main_cst_8 val_main_cst_9 val_main_cst_10 val_main_cst_12 val_main_cst_13 val_main_cst_14 val_main_cst_16 val_main_cst_17 val_main_cst_18
  unfold dcw
  pointwise [above0, above1, above2, above3]
  simp only [Fin.sum_univ_one]
  match a with
  | 0 | 1 | 2 | 3 => simp [mul_comm]

theorem dcb_eq (a : Fin 1) (b : Fin 1280) : val_main_v83 (F := Ideal) x0 (ix2 a b) = dcb x0 a b := by
  unfold val_main_v83 val_main_v37 val_main_v36 val_main_v35 val_main_cst_2 val_main_cst_3
  pointwise
  exact Fin.sum_univ_one _

end Cert.ConvRefIdeal.Rows

end
-- ==== Proof.ConvClaim.lean ====
/- The claim about the gradient of the causal convolution. -/
module

public import proofs.«01_k».proof.Defs
public import proofs.«01_k».proof.Proof.ConvValue
public import proofs.«01_k».proof.Proof.Gen.ConvRefIdeal.Run

@[expose] public section

set_option maxRecDepth 16384
set_option maxHeartbeats 1600000

noncomputable section

namespace Cert.Proof

open Cert.RowLib Idealize.ShloMosaic Idealize.ShloMosaic.TcCoe Idealize.SL.Sem

/-- The kernel's result arrays are those of the reference. -/
theorem conv_value :
    Cert.algebraic_ConvIdeal_ConvRefIdeal (hConvIdeal := Cert.ConvIdeal.Gen.facts) (hConvRefIdeal := Cert.ConvRefIdeal.Gen.facts) := by
  intro m g m' g' hpre hag
  refine ⟨fun c => (Cert.ConvIdeal.Gen.dats m 0 c).arrAt 5 Cert.ConvIdeal.cfg0.N, fun c => (Cert.ConvIdeal.Gen.dats m 0 c).arrAt 6 Cert.ConvIdeal.cfg0.N, fun c => (Cert.ConvIdeal.Gen.dats m 0 c).arrAt 7 Cert.ConvIdeal.cfg0.N,
    Cert.ConvIdeal.Value.run_blocks m g, (θ_run _ _ _).mono (fun r h c => ?_) (Cert.ConvRefIdeal.Value.run m' g')⟩
  obtain ⟨e0, e1, e2⟩ := hag c
  exact ⟨((h c).1.trans (Cert.ConvRefIdeal.Read.val_main_v82_eq (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg2)))).trans (ext2 fun a b => by
      rw [e0, e2]
      exact (Cert.ConvRefIdeal.Rows.dlr_eq _ _  a b).trans (Cert.ConvIdeal.Rows.res5 m c a b).symm),
    ((h c).2.1.trans (Cert.ConvRefIdeal.Read.val_main_v77_eq (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg1)))).trans (ext2 fun a b => by
      rw [e0, e1]
      exact (Cert.ConvRefIdeal.Rows.dcw_eq _ _  a b).trans (Cert.ConvIdeal.Rows.res6 m c a b).symm),
    ((h c).2.2.1.trans (Cert.ConvRefIdeal.Read.val_main_v83_eq (m' ((c.tc : Thread Cert.ConvRefIdeal.nD Cert.ConvRefIdeal.τ).loc Cert.ConvRefIdeal.main_arg0)))).trans (ext2 fun a b => by
      rw [e0]
      exact (Cert.ConvRefIdeal.Rows.dcb_eq _  a b).trans (Cert.ConvIdeal.Rows.res7 m c a b).symm),
    (h c).2.2.2⟩

end Cert.Proof

end
-- ==== Proof.S5postKernel.lean ====
/- What the kernel of the gradient of the first branch's activations and projections leaves in its four result arrays. -/
module

public import proofs.«01_k».proof.Proof.Common
public import proofs.«01_k».proof.Proof.Gen.S5postIdeal.Value

@[expose] public section

set_option maxRecDepth 16384

noncomputable section

namespace Cert.S5postIdeal.Rows

open Cert.S5postIdeal Cert.S5postIdeal.Gen Cert.RowLib Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The last point. -/
abbrev tl : Fin grid0.N := ⟨15, lt_of_lt_of_eq (by decide) N_0.symm⟩

theorem hz : (![0, 0] : Fin 2 → Nat) = fun _ => 0 := funext fun a => by fin_cases a <;> rfl

/-! ## The blocks of the arguments -/

theorem at0 : ∀ t : Fin grid0.N, win0_0.index t 0 = t.val ∧ win0_0.index t 1 = 0 := by decide +kernel

theorem iblk0_apply (c : Dev nD) (t : Fin cfg0.N) (q : Fin 512) (k : Fin 1024) :
    iblk m c 0 t (ix2 q k) = V m c main_v3 (ix2 (row 8192 t.val q) k) := by
  unfold iblk
  rw [View.read_apply, cast_eq]
  refine congrArg (V m c main_v3) (Shape.idx_ext₂ ?_ ?_)
  · refine (Pipeline.Window.rect_emb_val win0_0 t _ 0).trans ((congrArg (· * 512 + q.val) (at0 t).1).trans ?_)
    exact (row_val (T := 16) (B := 512) rfl (lt_of_lt_of_eq t.isLt N_0) q).symm
  · exact Pipeline.Window.rect_emb_val_of_index_zero win0_0 t 1 (at0 t).2 _

theorem at1 : ∀ t : Fin grid0.N, win0_1.index t 0 = t.val ∧ win0_1.index t 1 = 0 := by decide +kernel

theorem iblk1_apply (c : Dev nD) (t : Fin cfg0.N) (q : Fin 512) (k : Fin 512) :
    iblk m c 1 t (ix2 q k) = V m c main_arg1 (ix2 (row 8192 t.val q) k) := by
  unfold iblk
  rw [View.read_apply, cast_eq]
  refine congrArg (V m c main_arg1) (Shape.idx_ext₂ ?_ ?_)
  · refine (Pipeline.Window.rect_emb_val win0_1 t _ 0).trans ((congrArg (· * 512 + q.val) (at1 t).1).trans ?_)
    exact (row_val (T := 16) (B := 512) rfl (lt_of_lt_of_eq t.isLt N_0) q).symm
  · exact Pipeline.Window.rect_emb_val_of_index_zero win0_1 t 1 (at1 t).2 _

theorem at2 : ∀ t : Fin grid0.N, win0_2.index t 0 = t.val ∧ win0_2.index t 1 = 0 := by decide +kernel

theorem iblk2_apply (c : Dev nD) (t : Fin cfg0.N) (q : Fin 512) (k : Fin 512) :
    iblk m c 2 t (ix2 q k) = V m c main_v0 (ix2 (row 8192 t.val q) k) := by
  unfold iblk
  rw [View.read_apply, cast_eq]
  refine congrArg (V m c main_v0) (Shape.idx_ext₂ ?_ ?_)
  · refine (Pipeline.Window.rect_emb_val win0_2 t _ 0).trans ((congrArg (· * 512 + q.val) (at2 t).1).trans ?_)
    exact (row_val (T := 16) (B := 512) rfl (lt_of_lt_of_eq t.isLt N_0) q).symm
  · exact Pipeline.Window.rect_emb_val_of_index_zero win0_2 t 1 (at2 t).2 _

theorem at3 : ∀ t : Fin grid0.N, win0_3.index t 0 = 0 ∧ win0_3.index t 1 = 0 := by decide +kernel

theorem iblk3_eq (c : Dev nD) (t : Fin cfg0.N) : iblk m c 3 t = V m c main_v1 := by
  funext j
  unfold iblk
  rw [View.read_apply, cast_eq]
  refine congrArg (V m c main_v1) (Shape.idx_ext₂ ?_ ?_)
  · exact Pipeline.Window.rect_emb_val_of_index_zero win0_3 t 0 (at3 t).1 _
  · exact Pipeline.Window.rect_emb_val_of_index_zero win0_3 t 1 (at3 t).2 _

theorem at4 : ∀ t : Fin grid0.N, win0_4.index t 0 = 0 ∧ win0_4.index t 1 = 0 := by decide +kernel

theorem iblk4_eq (c : Dev nD) (t : Fin cfg0.N) : iblk m c 4 t = V m c main_v2 := by
  funext j
  unfold iblk
  rw [View.read_apply, cast_eq]
  refine congrArg (V m c main_v2) (Shape.idx_ext₂ ?_ ?_)
  · exact Pipeline.Window.rect_emb_val_of_index_zero win0_4 t 0 (at4 t).1 _
  · exact Pipeline.Window.rect_emb_val_of_index_zero win0_4 t 1 (at4 t).2 _

/-! ## What a point leaves -/

theorem outs_A (c : Dev nD) (t : Fin cfg0.N) (h : t.val % 16 = 0) : outsAt0 m c t.val t.isLt
    = (k0_pay1 (k0_pay16 (k0_pay13 (iblk m c 1 t)) (k0_pay14 (iblk m c 1 t)) (k0_pay15 (iblk m c 1 t))) (k0_pay26 (k0_pay7 (iblk m c 0 t)) (k0_pay8 (iblk m c 2 t)) (k0_pay9 (iblk m c 3 t)) (k0_pay10 (iblk m c 4 t)) (k0_pay12 (iblk m c 1 t))),
       k0_pay2 (k0_pay25 (k0_pay7 (iblk m c 0 t)) (k0_pay8 (iblk m c 2 t)) (k0_pay9 (iblk m c 3 t)) (k0_pay10 (iblk m c 4 t)) (k0_pay12 (iblk m c 1 t))),
       k0_pay4 (k0_pay7 (iblk m c 0 t)) (k0_pay22 (k0_pay8 (iblk m c 2 t)) (k0_pay9 (iblk m c 3 t)) (k0_pay12 (iblk m c 1 t))) (k0_pay3 (F := Ideal)),
       k0_pay6 (k0_pay12 (iblk m c 1 t)) (k0_pay24 (k0_pay7 (iblk m c 0 t)) (k0_pay8 (iblk m c 2 t)) (k0_pay9 (iblk m c 3 t)) (k0_pay10 (iblk m c 4 t)) (k0_pay12 (iblk m c 1 t))) (k0_pay5 (F := Ideal))) := by
  refine (outsAt0_A m c t h h).trans (Prod.ext ?_ (Prod.ext ?_ (Prod.ext ?_ ?_)))
  · unfold out0_A_5
    rw [View.read_writes_eq_canon]
    · unfold kernelRun0_A
      dsimp only
      sl_unfold_words
      rw [View.canon_unit_zero hz]
      simp only [View.readAt_eq_ld, (hs0_0 t).read_unread, (hs0_1 t).read_unread, (hs0_2 t).read_unread, (hs0_3 t).read_unread, (hs0_4 t).read_unread,
        View.ld_unit_zero (S := S512x1024) hz, View.ld_unit_zero (S := S512x512) hz]
    · intro y
      apply cover0_A_5
  · unfold out0_A_6
    rw [View.read_writes_eq_canon]
    · unfold kernelRun0_A
      dsimp only
      sl_unfold_words
      rw [View.canon_unit_zero hz]
      simp only [View.readAt_eq_ld, (hs0_0 t).read_unread, (hs0_1 t).read_unread, (hs0_2 t).read_unread, (hs0_3 t).read_unread, (hs0_4 t).read_unread,
        View.ld_unit_zero (S := S512x1024) hz, View.ld_unit_zero (S := S512x512) hz]
    · intro y
      apply cover0_A_6
  · unfold out0_A_7
    rw [View.read_writes_eq_canon]
    · unfold kernelRun0_A
      dsimp only
      sl_unfold_words
      rw [View.canon_cons_unit_zero (S := S512x1024) hz, View.readCov_unit_zero (S := S512x1024) _ hz]
      simp only [View.readAt_eq_ld, (hs0_0 t).read_unread, (hs0_1 t).read_unread, (hs0_2 t).read_unread, (hs0_3 t).read_unread, (hs0_4 t).read_unread,
        View.ld_unit_zero (S := S512x1024) hz, View.ld_unit_zero (S := S512x512) hz]
    · intro y
      apply cover0_A_7
  · unfold out0_A_8
    rw [View.read_writes_eq_canon]
    · unfold kernelRun0_A
      dsimp only
      sl_unfold_words
      rw [View.canon_cons_unit_zero (S := S512x1024) hz, View.readCov_unit_zero (S := S512x1024) _ hz]
      simp only [View.readAt_eq_ld, (hs0_0 t).read_unread, (hs0_1 t).read_unread, (hs0_2 t).read_unread, (hs0_3 t).read_unread, (hs0_4 t).read_unread,
        View.ld_unit_zero (S := S512x1024) hz, View.ld_unit_zero (S := S512x512) hz]
    · intro y
      apply cover0_A_8

theorem outs_B (c : Dev nD) (t : Fin cfg0.N) (h : ¬t.val % 16 = 0) : outsAt0 m c t.val t.isLt
    = (k0_pay1 (k0_pay16 (k0_pay13 (iblk m c 1 t)) (k0_pay14 (iblk m c 1 t)) (k0_pay15 (iblk m c 1 t))) (k0_pay26 (k0_pay7 (iblk m c 0 t)) (k0_pay8 (iblk m c 2 t)) (k0_pay9 (iblk m c 3 t)) (k0_pay10 (iblk m c 4 t)) (k0_pay12 (iblk m c 1 t))),
       k0_pay2 (k0_pay25 (k0_pay7 (iblk m c 0 t)) (k0_pay8 (iblk m c 2 t)) (k0_pay9 (iblk m c 3 t)) (k0_pay10 (iblk m c 4 t)) (k0_pay12 (iblk m c 1 t))),
       k0_pay4 (k0_pay7 (iblk m c 0 t)) (k0_pay22 (k0_pay8 (iblk m c 2 t)) (k0_pay9 (iblk m c 3 t)) (k0_pay12 (iblk m c 1 t))) (outsAt0 m c (t.val - 1) (Nat.lt_of_le_of_lt (Nat.sub_le _ _) t.isLt)).2.2.1,
       k0_pay6 (k0_pay12 (iblk m c 1 t)) (k0_pay24 (k0_pay7 (iblk m c 0 t)) (k0_pay8 (iblk m c 2 t)) (k0_pay9 (iblk m c 3 t)) (k0_pay10 (iblk m c 4 t)) (k0_pay12 (iblk m c 1 t))) (outsAt0 m c (t.val - 1) (Nat.lt_of_le_of_lt (Nat.sub_le _ _) t.isLt)).2.2.2) := by
  refine (outsAt0_B m c t h h).trans (Prod.ext ?_ (Prod.ext ?_ (Prod.ext ?_ ?_)))
  · unfold out0_B_5
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_7 t).read_unread, (hs0_8 t).read_unread,
        View.ld_unit_zero (S := S512x1024) hz, View.ld_unit_zero (S := S512x512) hz]
    · intro y
      apply cover0_B_5
  · unfold out0_B_6
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_7 t).read_unread, (hs0_8 t).read_unread,
        View.ld_unit_zero (S := S512x1024) hz, View.ld_unit_zero (S := S512x512) hz]
    · intro y
      apply cover0_B_6
  · unfold out0_B_7
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_7 t).read_unread, (hs0_8 t).read_unread,
        View.ld_unit_zero (S := S512x1024) hz, View.ld_unit_zero (S := S512x512) hz]
    · intro y
      apply cover0_B_7
  · unfold out0_B_8
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_7 t).read_unread, (hs0_8 t).read_unread,
        View.ld_unit_zero (S := S512x1024) hz, View.ld_unit_zero (S := S512x512) hz]
    · intro y
      apply cover0_B_8

/-! ## The result arrays -/

theorem at5 : ∀ t : Fin grid0.N, win0_5.index t 0 = t.val ∧ win0_5.index t 1 = 0 := by decide +kernel

theorem final5 (c : Dev nD) (t : Fin cfg0.N) (q : Fin 512) (b : Fin 512) :
    (dats m 0 c).arrAt 5 cfg0.N (ix2 (row 8192 t.val q) b) = (outsAt0 m c t.val t.isLt).1 (ix2 q b) := by
  have e : ((cfg0.win 5).blk t).view.emb (ix2 q b) = ix2 (row 8192 t.val q) b := Shape.idx_ext₂
    ((Pipeline.Window.rect_emb_val win0_5 t _ 0).trans ((congrArg (· * 512 + q.val) (at5 t).1).trans
      (row_val (T := 16) (B := 512) rfl (lt_of_lt_of_eq t.isLt N_0) q).symm))
    (Pipeline.Window.rect_emb_val_of_index_zero win0_5 t 1 (at5 t).2 _)
  refine (congrArg ((dats m 0 c).arrAt 5 cfg0.N) e.symm).trans
    (((dats m 0 c).arrAt_emb_eq_flushed 5 Value.disjoint5 t (flush0_5 t) (ix2 q b)).trans ?_)
  rw [Value.flushed5]
  rfl

theorem at6 : ∀ t : Fin grid0.N, win0_6.index t 0 = t.val ∧ win0_6.index t 1 = 0 := by decide +kernel

theorem final6 (c : Dev nD) (t : Fin cfg0.N) (q : Fin 512) (b : Fin 512) :
    (dats m 0 c).arrAt 6 cfg0.N (ix2 (row 8192 t.val q) b) = (outsAt0 m c t.val t.isLt).2.1 (ix2 q b) := by
  have e : ((cfg0.win 6).blk t).view.emb (ix2 q b) = ix2 (row 8192 t.val q) b := Shape.idx_ext₂
    ((Pipeline.Window.rect_emb_val win0_6 t _ 0).trans ((congrArg (· * 512 + q.val) (at6 t).1).trans
      (row_val (T := 16) (B := 512) rfl (lt_of_lt_of_eq t.isLt N_0) q).symm))
    (Pipeline.Window.rect_emb_val_of_index_zero win0_6 t 1 (at6 t).2 _)
  refine (congrArg ((dats m 0 c).arrAt 6 cfg0.N) e.symm).trans
    (((dats m 0 c).arrAt_emb_eq_flushed 6 Value.disjoint6 t (flush0_6 t) (ix2 q b)).trans ?_)
  rw [Value.flushed6]
  rfl

theorem at7 : ∀ t : Fin grid0.N, win0_7.index t 0 = 0 ∧ win0_7.index t 1 = 0 := by decide +kernel

theorem final7 (c : Dev nD) :
    (dats m 0 c).arrAt 7 cfg0.N = (outsAt0 m c tl.val tl.isLt).2.2.1 := by
  refine (dats m 0 c).arrAt_eq_of_cover 7 _ (fun t hf => ?_) fun i => ?_
  · have ht : t.val = 15 := by
      have h1 := (flush0_7 t).mp hf
      have h2 := lt_of_lt_of_eq t.isLt N_0
      omega
    obtain rfl : t = tl := Fin.ext ht
    rw [Value.flushed7]
    generalize (outsAt0 m c tl.val tl.isLt).2.2.1 = G
    have hz' : (fun a => win0_7.index tl a * main_v4_2.ty.shape.size a) = fun _ => 0 :=
      funext fun a => by fin_cases a <;> decide +kernel
    exact (Memref.read_access_unit_zero (Elt Ideal) main_v4_2 hz' (fun a => by rw [congrFun hz' a]; simp) G).symm
  · refine ⟨tl, (flush0_7 _).mpr rfl, ?_⟩
    show i ∈ ((View.whole main_v4_2).slice (win0_7.rect tl)).set
    rw [View.set_slice_whole, Rect.mem_set_unit]
    have h0 : (i 0 : Nat) < 512 := (i 0).isLt
    have h1 : (i 1 : Nat) < 1024 := (i 1).isLt
    have e0 : win0_7.index tl 0 * 512 = 0 := by decide +kernel
    have e1 : win0_7.index tl 1 * 1024 = 0 := by decide +kernel
    intro a
    match a with
    | ⟨0, _⟩ => exact ⟨e0.trans_le (Nat.zero_le _), h0.trans_eq ((congrArg (· + 512) e0).trans (Nat.zero_add _)).symm⟩
    | ⟨1, _⟩ => exact ⟨e1.trans_le (Nat.zero_le _), h1.trans_eq ((congrArg (· + 1024) e1).trans (Nat.zero_add _)).symm⟩

theorem at8 : ∀ t : Fin grid0.N, win0_8.index t 0 = 0 ∧ win0_8.index t 1 = 0 := by decide +kernel

theorem final8 (c : Dev nD) :
    (dats m 0 c).arrAt 8 cfg0.N = (outsAt0 m c tl.val tl.isLt).2.2.2 := by
  refine (dats m 0 c).arrAt_eq_of_cover 8 _ (fun t hf => ?_) fun i => ?_
  · have ht : t.val = 15 := by
      have h1 := (flush0_8 t).mp hf
      have h2 := lt_of_lt_of_eq t.isLt N_0
      omega
    obtain rfl : t = tl := Fin.ext ht
    rw [Value.flushed8]
    generalize (outsAt0 m c tl.val tl.isLt).2.2.2 = G
    have hz' : (fun a => win0_8.index tl a * main_v4_3.ty.shape.size a) = fun _ => 0 :=
      funext fun a => by fin_cases a <;> decide +kernel
    exact (Memref.read_access_unit_zero (Elt Ideal) main_v4_3 hz' (fun a => by rw [congrFun hz' a]; simp) G).symm
  · refine ⟨tl, (flush0_8 _).mpr rfl, ?_⟩
    show i ∈ ((View.whole main_v4_3).slice (win0_8.rect tl)).set
    rw [View.set_slice_whole, Rect.mem_set_unit]
    have h0 : (i 0 : Nat) < 512 := (i 0).isLt
    have h1 : (i 1 : Nat) < 1024 := (i 1).isLt
    have e0 : win0_8.index tl 0 * 512 = 0 := by decide +kernel
    have e1 : win0_8.index tl 1 * 1024 = 0 := by decide +kernel
    intro a
    match a with
    | ⟨0, _⟩ => exact ⟨e0.trans_le (Nat.zero_le _), h0.trans_eq ((congrArg (· + 512) e0).trans (Nat.zero_add _)).symm⟩
    | ⟨1, _⟩ => exact ⟨e1.trans_le (Nat.zero_le _), h1.trans_eq ((congrArg (· + 1024) e1).trans (Nat.zero_add _)).symm⟩

end Cert.S5postIdeal.Rows

end
-- ==== Proof.S5postValue.lean ====
/- The gradient of the GELU, the gated linear unit, the SiLU gate and the two projections of the first branch: the kernel's four result arrays
   and the derivative of the forward lines are the same functions of the arguments. -/
module

public import proofs.«01_k».proof.Proof.S5postKernel
public import proofs.«01_k».proof.Proof.Gen.S5postRefIdeal.Read
public import proofs.«01_k».proof.Proof.BlValue

@[expose] public section

set_option maxRecDepth 16384

noncomputable section

open Cert.RowLib Idealize.ShloMosaic Idealize.ShloMosaic.TcCoe Idealize.SL.Sem

/-! ## The mathematics -/

namespace Cert.S5postMath

variable (dz : (⟨2, ![8192, 1024]⟩ : Shape).Idx → EReal) (x g : (⟨2, ![8192, 512]⟩ : Shape).Idx → EReal)
  (wg wb : (⟨2, ![512, 1024]⟩ : Shape).Idx → EReal)

/-- The polynomial's constant, and three times it. -/
def cc : EReal := ((8943 / 200000 : ℝ) : EReal)

def cc3 : EReal := ((26829 / 200000 : ℝ) : EReal)

/-- The float word next to the root of `2 / π`. -/
def kk : EReal := Ideal.ofBits .f32 0x3F4C422A#32

theorem kk_real : ∃ r : ℝ, kk = (r : EReal) :=
  ⟨13386282 / 16777216, by unfold kk; simp [Ideal.ofBits, Ideal.ieee, -EReal.coe_mul]; norm_num⟩

/-- The hyperbolic tangent inside the GELU. -/
def th (x : EReal) : EReal := Ideal.tanh (kk * (x + cc * x * x * x))

def gelu (x : EReal) : EReal := ((1 / 2 : ℝ) : EReal) * x * (1 + th x)

/-- The derivative of the GELU, as the kernel writes it. -/
def dgelu (x : EReal) : EReal :=
  ((1 / 2 : ℝ) : EReal) * (1 + th x) + ((1 / 2 : ℝ) : EReal) * x * (1 - th x * th x) * kk * (1 + cc3 * x * x)

/-- The gated linear unit's projection, and its two halves. -/
def glu (r : Fin 8192) (j : Fin 1024) : EReal := ∑ k : Fin 512, gelu (x (ix2 r k)) * wg (ix2 k j)

def ga (r : Fin 8192) (b : Fin 512) : EReal := glu x wg r ⟨b.val, by omega⟩

def sb (r : Fin 8192) (b : Fin 512) : EReal := Ideal.logistic (glu x wg r ⟨512 + b.val, by omega⟩)

def silu (r : Fin 8192) (b : Fin 512) : EReal := g (ix2 r b) * Ideal.logistic (g (ix2 r b))

def dy (r : Fin 8192) (b : Fin 512) : EReal := ∑ k : Fin 1024, dz (ix2 r k) * wb (ix2 b k)

/-- The gradient of the gated linear unit's first half, and of its second. -/
def du (r : Fin 8192) (b : Fin 512) : EReal := dy dz wb r b * sb x wg r b * silu g r b

def dv (r : Fin 8192) (b : Fin 512) : EReal :=
  dy dz wb r b * ga x wg r b * silu g r b * sb x wg r b * (1 - sb x wg r b)

def dglu (r : Fin 8192) (j : Fin 1024) : EReal :=
  if h : j.val < 512 then du dz x g wg wb r ⟨j.val, h⟩ else dv dz x g wg wb r ⟨j.val - 512, by omega⟩

def back (r : Fin 8192) (b : Fin 512) : EReal := ∑ k : Fin 1024, dglu dz x g wg wb r k * wg (ix2 b k)

def dys (r : Fin 8192) (b : Fin 512) : EReal := back dz x g wg wb r b * dgelu (x (ix2 r b))

def dg (r : Fin 8192) (b : Fin 512) : EReal :=
  dy dz wb r b * ga x wg r b * sb x wg r b * Ideal.logistic (g (ix2 r b)) * (1 + g (ix2 r b) * (1 - Ideal.logistic (g (ix2 r b))))

def dwb (a : Fin 512) (b : Fin 1024) : EReal := ∑ r : Fin 8192, ga x wg r a * sb x wg r a * silu g r a * dz (ix2 r b)

def dwg (a : Fin 512) (b : Fin 1024) : EReal := ∑ r : Fin 8192, gelu (x (ix2 r a)) * dglu dz x g wg wb r b

section Real

variable {dz x g wg wb} (hdz : IsReal dz) (hx : IsReal x) (hg : IsReal g) (hwg : IsReal wg) (hwb : IsReal wb)

theorem real_one : ∃ r : ℝ, (1 : EReal) = (r : EReal) := ⟨1, rfl⟩

theorem real_logistic {y : EReal} (hy : ∃ r : ℝ, y = (r : EReal)) : ∃ r : ℝ, Ideal.logistic y = (r : EReal) := by
  obtain ⟨a, rfl⟩ := hy
  exact ⟨_, Ideal.logistic_coe a⟩

theorem real_one_sub {y : EReal} (hy : ∃ r : ℝ, y = (r : EReal)) : ∃ r : ℝ, 1 - y = (r : EReal) := by
  obtain ⟨a, rfl⟩ := hy
  exact ⟨1 - a, by rw [EReal.coe_sub]; rfl⟩

theorem real_th {y : EReal} (hy : ∃ r : ℝ, y = (r : EReal)) : ∃ r : ℝ, th y = (r : EReal) := by
  have h : ∃ r : ℝ, kk * (y + cc * y * y * y) = (r : EReal) :=
    real_mul kk_real (real_add hy (real_mul (real_mul (real_mul ⟨_, rfl⟩ hy) hy) hy))
  obtain ⟨a, ha⟩ := h
  exact ⟨_, (congrArg Ideal.tanh ha).trans (Ideal.tanh_coe a)⟩

theorem real_gelu {y : EReal} (hy : ∃ r : ℝ, y = (r : EReal)) : ∃ r : ℝ, gelu y = (r : EReal) :=
  real_mul (real_mul ⟨_, rfl⟩ hy) (real_add real_one (real_th hy))

include hx hwg in
theorem real_glu (r : Fin 8192) (j : Fin 1024) : ∃ y : ℝ, glu x wg r j = (y : EReal) :=
  real_sum _ fun k => real_mul (real_gelu (hx _)) (hwg _)

include hg in
theorem real_silu (r : Fin 8192) (b : Fin 512) : ∃ y : ℝ, silu g r b = (y : EReal) := real_mul (hg _) (real_logistic (hg _))

include hdz hwb in
theorem real_dy (r : Fin 8192) (b : Fin 512) : ∃ y : ℝ, dy dz wb r b = (y : EReal) := real_sum _ fun k => real_mul (hdz _) (hwb _)

include hdz hx hg hwg hwb in
theorem real_dglu (r : Fin 8192) (j : Fin 1024) : ∃ y : ℝ, dglu dz x g wg wb r j = (y : EReal) := by
  have hs : ∀ b, ∃ y : ℝ, sb x wg r b = (y : EReal) := fun b => real_logistic (real_glu hx hwg r _)
  unfold dglu
  split
  · exact real_mul (real_mul (real_dy hdz hwb r _) (hs _)) (real_silu hg r _)
  · exact real_mul (real_mul (real_mul (real_mul (real_dy hdz hwb r _) (real_glu hx hwg r _)) (real_silu hg r _)) (hs _)) (real_one_sub (hs _))

include hdz hx hg hwg hwb in
theorem real_back (r : Fin 8192) (b : Fin 512) : ∃ y : ℝ, back dz x g wg wb r b = (y : EReal) :=
  real_sum _ fun k => real_mul (real_dglu hdz hx hg hwg hwb r k) (hwg _)

/-- The derivative of the GELU, scaled by a real number, as a sum over the paths to the argument. -/
theorem gelu_grad {d y : EReal} (hd : ∃ r : ℝ, d = (r : EReal)) (hy : ∃ r : ℝ, y = (r : EReal)) :
    d * (((1 / 2 : ℝ) : EReal) * (1 + th y)) + kk * (((1 / 2 : ℝ) : EReal) * (y * d) * ((1 + th y) * (1 - th y)))
      + cc * (kk * (((1 / 2 : ℝ) : EReal) * (y * d) * ((1 + th y) * (1 - th y)))) * (((3 : ℝ) : EReal) * (y * y))
      = d * dgelu y := by
  obtain ⟨t, ht⟩ := real_th hy
  obtain ⟨k, hk⟩ := kk_real
  obtain ⟨d, rfl⟩ := hd
  obtain ⟨y, rfl⟩ := hy
  unfold dgelu cc cc3
  rw [ht, hk, show (1 : EReal) = ((1 : ℝ) : EReal) from rfl]
  simp only [← EReal.coe_mul, ← EReal.coe_add, ← EReal.coe_sub]
  congr 1
  ring

include hdz hx hwg hwb in
theorem dg_eq (r : Fin 8192) (b : Fin 512) :
    ga x wg r b * sb x wg r b * dy dz wb r b * Ideal.logistic (g (ix2 r b))
      + g (ix2 r b) * (ga x wg r b * sb x wg r b * dy dz wb r b)
        * (Ideal.logistic (g (ix2 r b)) * (1 - Ideal.logistic (g (ix2 r b)))) = dg dz x g wg wb r b := by
  obtain ⟨d, hd⟩ : ∃ d : ℝ, ga x wg r b * sb x wg r b * dy dz wb r b = (d : EReal) :=
    real_mul (real_mul (real_glu hx hwg r _) (real_logistic (real_glu hx hwg r _))) (real_dy hdz hwb r b)
  unfold dg
  rw [mul_assoc (dy dz wb r b), mul_comm (dy dz wb r b), hd]
  exact BlMath.silu_grad d _

end Real

end Cert.S5postMath

/-! ## The kernel -/

namespace Cert.S5postIdeal.Rows

open Cert.S5postIdeal Cert.S5postIdeal.Gen Cert.S5postMath

variable (m : (ℓ : Loc nD τ sig) → Buf (Elt Ideal) ℓ) (ρ : Dev nD → PrngReg)

theorem V_v0 (c : Dev nD) : V m c main_v0 = truncf (F := Ideal) .bf16 (m ((c : Thread nD τ).loc main_arg2)) bitsLt_bf16_f32 := by
  unfold V
  simp only [hostOps0]
  after_results

theorem V_v1 (c : Dev nD) : V m c main_v1 = truncf (F := Ideal) .bf16 (m ((c : Thread nD τ).loc main_arg3)) bitsLt_bf16_f32 := by
  unfold V
  simp only [hostOps0]
  after_results

theorem V_v2 (c : Dev nD) : V m c main_v2 = truncf (F := Ideal) .bf16 (m ((c : Thread nD τ).loc main_arg4)) bitsLt_bf16_f32 := by
  unfold V
  simp only [hostOps0]
  after_results

theorem V_v3 (c : Dev nD) : V m c main_v3 = truncf (F := Ideal) .bf16 (m ((c : Thread nD τ).loc main_arg0)) bitsLt_bf16_f32 := by
  unfold V
  simp only [hostOps0]
  after_results

/-! ### The payloads, over blocks of rows -/

theorem named_c : Named.named (F := Ideal) Cert.S5postIdeal.κ "gelu_c" (φ := .f32) 0x3D372713#32 = cc :=
  IdealRules.named_const.ideal_named_scalar _ _ _ _ rfl

theorem named_c3 : Named.named (F := Ideal) Cert.S5postIdeal.κ "gelu_c3" (φ := .f32) 0x3E095D4F#32 = cc3 :=
  IdealRules.named_const.ideal_named_scalar _ _ _ _ rfl

section Pay

variable {s : ℕ} {x0 : S8192x1024.Idx → EReal} {x1 x2 : S8192x512.Idx → EReal} {x3 x4 : S512x1024.Idx → EReal}
  {v0 : Vec Ideal S512x1024 .bf16} {v3 : Vec Ideal S512x512 .f32} {v4 : Vec Ideal S512x512 .bf16} {v7 v9 : Vec Ideal S512x1024 .bf16}
  (h0 : ∀ q k, v0 (ix2 q k) = x0 (ix2 (row 8192 s q) k)) (h1 : ∀ q k, v3 (ix2 q k) = x1 (ix2 (row 8192 s q) k))
  (h2 : ∀ q k, v4 (ix2 q k) = x2 (ix2 (row 8192 s q) k)) (h3 : ∀ j, v7 j = x3 j) (h4 : ∀ j, v9 j = x4 j)

include h0 in
theorem pay7 (q : Fin 512) (b : Fin 1024) : k0_pay7 v0 (ix2 q b) = x0 (ix2 (row 8192 s q) b) := by
  unfold k0_pay7
  pointwise [h0]

include h2 in
theorem pay8 (q : Fin 512) (b : Fin 512) : k0_pay8 v4 (ix2 q b) = x2 (ix2 (row 8192 s q) b) := by
  unfold k0_pay8
  pointwise [h2]

include h3 in
theorem pay9 (q : Fin 512) (b : Fin 1024) : k0_pay9 v7 (ix2 q b) = x3 (ix2 q b) := by
  unfold k0_pay9
  pointwise [h3]

include h4 in
theorem pay10 (q : Fin 512) (b : Fin 1024) : k0_pay10 v9 (ix2 q b) = x4 (ix2 q b) := by
  unfold k0_pay10
  pointwise [h4]

include h1 in
theorem pay11 (q : Fin 512) (b : Fin 512) : k0_pay11 v3 (ix2 q b) = th (x1 (ix2 (row 8192 s q) b)) := by
  unfold k0_pay11
  pointwise [h1, named_c]
  rfl

include h1 in
theorem pay12 (q : Fin 512) (b : Fin 512) : k0_pay12 v3 (ix2 q b) = gelu (x1 (ix2 (row 8192 s q) b)) := by
  unfold k0_pay12
  pointwise [h1, pay11 h1, half_word]
  rfl

include h1 in
theorem pay16 (q : Fin 512) (b : Fin 512) : k0_pay16 (k0_pay13 v3) (k0_pay14 v3) (k0_pay15 v3) (ix2 q b)
    = dgelu (x1 (ix2 (row 8192 s q) b)) := by
  unfold k0_pay16 k0_pay13 k0_pay14 k0_pay15
  pointwise [h1, pay11 h1, half_word, named_c3]
  rfl

include h1 h3 in
theorem pay17 (q : Fin 512) (b : Fin 1024) : k0_pay17 (k0_pay9 v7) (k0_pay12 v3) (ix2 q b) = glu x1 x3 (row 8192 s q) b := by
  unfold k0_pay17
  pointwise [pay12 h1, pay9 h3]
  rfl

include h1 h3 in
theorem pay18 (q : Fin 512) (b : Fin 512) : k0_pay18 (k0_pay9 v7) (k0_pay12 v3) (ix2 q b) = ga x1 x3 (row 8192 s q) b := by
  unfold k0_pay18
  pointwise [pay17 h1 h3]
  rfl

include h1 h3 in
theorem pay19 (q : Fin 512) (b : Fin 512) : k0_pay19 (k0_pay9 v7) (k0_pay12 v3) (ix2 q b) = sb x1 x3 (row 8192 s q) b := by
  unfold k0_pay19
  pointwise [pay17 h1 h3, half_word]
  exact half_tanh _

include h2 in
theorem pay20 (q : Fin 512) (b : Fin 512) : k0_pay20 (k0_pay8 v4) (ix2 q b) = Ideal.logistic (x2 (ix2 (row 8192 s q) b)) := by
  unfold k0_pay20
  pointwise [pay8 h2, half_word]
  exact half_tanh _

include h2 in
theorem pay21 (q : Fin 512) (b : Fin 512) : k0_pay21 (k0_pay8 v4) (ix2 q b) = silu x2 (row 8192 s q) b := by
  unfold k0_pay21
  pointwise [pay8 h2, pay20 h2]
  rfl

include h0 h4 in
theorem pay23 (q : Fin 512) (b : Fin 512) : k0_pay23 (k0_pay7 v0) (k0_pay10 v9) (ix2 q b) = dy x0 x4 (row 8192 s q) b := by
  unfold k0_pay23
  pointwise [pay7 h0, pay10 h4]
  rfl

include h0 h1 h2 h3 h4 in
theorem pay24 (q : Fin 512) (b : Fin 1024) : k0_pay24 (k0_pay7 v0) (k0_pay8 v4) (k0_pay9 v7) (k0_pay10 v9) (k0_pay12 v3) (ix2 q b) = dglu x0 x1 x2 x3 x4 (row 8192 s q) b := by
  unfold k0_pay24
  pointwise [pay23 h0 h4, pay19 h1 h3, pay21 h2, pay18 h1 h3]
  rfl

include h0 h1 h2 h3 h4 in
theorem pay2 (q : Fin 512) (b : Fin 512) : k0_pay2 (k0_pay25 (k0_pay7 v0) (k0_pay8 v4) (k0_pay9 v7) (k0_pay10 v9) (k0_pay12 v3)) (ix2 q b) = dg x0 x1 x2 x3 x4 (row 8192 s q) b := by
  unfold k0_pay2 k0_pay25
  pointwise [pay23 h0 h4, pay19 h1 h3, pay20 h2, pay18 h1 h3, pay8 h2]
  rfl

include h0 h1 h2 h3 h4 in
theorem pay1 (q : Fin 512) (b : Fin 512) : k0_pay1 (k0_pay16 (k0_pay13 v3) (k0_pay14 v3) (k0_pay15 v3)) (k0_pay26 (k0_pay7 v0) (k0_pay8 v4) (k0_pay9 v7) (k0_pay10 v9) (k0_pay12 v3)) (ix2 q b)
    = dys x0 x1 x2 x3 x4 (row 8192 s q) b := by
  unfold k0_pay1 k0_pay26
  pointwise [pay16 h1, pay24 h0 h1 h2 h3 h4, pay9 h3]
  rfl

include h0 h1 h2 h3 in
theorem pay4 (y : Vec Ideal S512x1024 .f32) (a : Fin 512) (b : Fin 1024) :
    k0_pay4 (k0_pay7 v0) (k0_pay22 (k0_pay8 v4) (k0_pay9 v7) (k0_pay12 v3)) y (ix2 a b) = y (ix2 a b)
      + ∑ q : Fin 512, ga x1 x3 (row 8192 s q) a * sb x1 x3 (row 8192 s q) a * silu x2 (row 8192 s q) a * x0 (ix2 (row 8192 s q) b) := by
  unfold k0_pay4 k0_pay22
  pointwise [pay18 h1 h3, pay19 h1 h3, pay21 h2, pay7 h0]

include h0 h1 h2 h3 h4 in
theorem pay6 (y : Vec Ideal S512x1024 .f32) (a : Fin 512) (b : Fin 1024) :
    k0_pay6 (k0_pay12 v3) (k0_pay24 (k0_pay7 v0) (k0_pay8 v4) (k0_pay9 v7) (k0_pay10 v9) (k0_pay12 v3)) y (ix2 a b) = y (ix2 a b)
      + ∑ q : Fin 512, gelu (x1 (ix2 (row 8192 s q) a)) * dglu x0 x1 x2 x3 x4 (row 8192 s q) b := by
  unfold k0_pay6
  pointwise [pay12 h1, pay24 h0 h1 h2 h3 h4]

end Pay

theorem zero3 (a : Fin 512) (b : Fin 1024) : k0_pay3 (F := Ideal) (ix2 a b) = 0 := by
  unfold k0_pay3
  pointwise

theorem zero5 (a : Fin 512) (b : Fin 1024) : k0_pay5 (F := Ideal) (ix2 a b) = 0 := by
  unfold k0_pay5
  pointwise

/-! ### The arguments -/

abbrev a0 (c : Dev nD) : S8192x1024.Idx → EReal := m ((c : Thread nD τ).loc main_arg0)
abbrev a1 (c : Dev nD) : S8192x512.Idx → EReal := m ((c : Thread nD τ).loc main_arg1)
abbrev a2 (c : Dev nD) : S8192x512.Idx → EReal := m ((c : Thread nD τ).loc main_arg2)
abbrev a3 (c : Dev nD) : S512x1024.Idx → EReal := m ((c : Thread nD τ).loc main_arg3)
abbrev a4 (c : Dev nD) : S512x1024.Idx → EReal := m ((c : Thread nD τ).loc main_arg4)

theorem b0 (c : Dev nD) (t : Fin cfg0.N) (q : Fin 512) (k : Fin 1024) : iblk m c 0 t (ix2 q k) = a0 m c (ix2 (row 8192 t.val q) k) :=
  (iblk0_apply m c t q k).trans (congrFun (V_v3 m c) _)
theorem b1 (c : Dev nD) (t : Fin cfg0.N) (q : Fin 512) (k : Fin 512) : iblk m c 1 t (ix2 q k) = a1 m c (ix2 (row 8192 t.val q) k) :=
  (iblk1_apply m c t q k).trans (congrFun (V_main_arg1 m c) _)
theorem b2 (c : Dev nD) (t : Fin cfg0.N) (q : Fin 512) (k : Fin 512) : iblk m c 2 t (ix2 q k) = a2 m c (ix2 (row 8192 t.val q) k) :=
  (iblk2_apply m c t q k).trans (congrFun (V_v0 m c) _)
theorem b3 (c : Dev nD) (t : Fin cfg0.N) (j : S512x1024.Idx) : iblk m c 3 t j = a3 m c j :=
  (congrFun (iblk3_eq m c t) j).trans (congrFun (V_v1 m c) j)
theorem b4 (c : Dev nD) (t : Fin cfg0.N) (j : S512x1024.Idx) : iblk m c 4 t j = a4 m c j :=
  (congrFun (iblk4_eq m c t) j).trans (congrFun (V_v2 m c) j)

/-! ### The result arrays -/

theorem rows5 (c : Dev nD) (t : Fin cfg0.N) (q : Fin 512) (b : Fin 512) :
    (outsAt0 m c t.val t.isLt).1 (ix2 q b) = dys (a0 m c) (a1 m c) (a2 m c) (a3 m c) (a4 m c) (row 8192 t.val q) b := by
  by_cases h : t.val % 16 = 0
  · rw [outs_A m c t h]
    exact pay1 (b0 m c t) (b1 m c t) (b2 m c t) (b3 m c t) (b4 m c t) q b
  · rw [outs_B m c t h]
    exact pay1 (b0 m c t) (b1 m c t) (b2 m c t) (b3 m c t) (b4 m c t) q b

theorem res5 (c : Dev nD) (r : Fin 8192) (b : Fin 512) :
    (dats m 0 c).arrAt 5 cfg0.N (ix2 r b) = dys (a0 m c) (a1 m c) (a2 m c) (a3 m c) (a4 m c) r b := by
  obtain ⟨s, hs, q, rfl⟩ := exists_row (T := 16) (B := 512) rfl r
  exact (final5 m c ⟨s, lt_of_lt_of_eq hs N_0.symm⟩ q b).trans (rows5 m c ⟨s, lt_of_lt_of_eq hs N_0.symm⟩ q b)

theorem rows6 (c : Dev nD) (t : Fin cfg0.N) (q : Fin 512) (b : Fin 512) :
    (outsAt0 m c t.val t.isLt).2.1 (ix2 q b) = dg (a0 m c) (a1 m c) (a2 m c) (a3 m c) (a4 m c) (row 8192 t.val q) b := by
  by_cases h : t.val % 16 = 0
  · rw [outs_A m c t h]
    exact pay2 (b0 m c t) (b1 m c t) (b2 m c t) (b3 m c t) (b4 m c t) q b
  · rw [outs_B m c t h]
    exact pay2 (b0 m c t) (b1 m c t) (b2 m c t) (b3 m c t) (b4 m c t) q b

theorem res6 (c : Dev nD) (r : Fin 8192) (b : Fin 512) :
    (dats m 0 c).arrAt 6 cfg0.N (ix2 r b) = dg (a0 m c) (a1 m c) (a2 m c) (a3 m c) (a4 m c) r b := by
  obtain ⟨s, hs, q, rfl⟩ := exists_row (T := 16) (B := 512) rfl r
  exact (final6 m c ⟨s, lt_of_lt_of_eq hs N_0.symm⟩ q b).trans (rows6 m c ⟨s, lt_of_lt_of_eq hs N_0.symm⟩ q b)

theorem sum7 (c : Dev nD) (n : ℕ) (hn : n < cfg0.N) (a : Fin 512) (b : Fin 1024) : (outsAt0 m c n hn).2.2.1 (ix2 a b)
    = ∑ s ∈ Finset.range (n + 1), ∑ q : Fin 512, ga (a1 m c) (a3 m c) (row 8192 s q) a * sb (a1 m c) (a3 m c) (row 8192 s q) a * silu (a2 m c) (row 8192 s q) a * a0 m c (ix2 (row 8192 s q) b) := by
  refine running (fun n h => (outsAt0 m c n h).2.2.1 (ix2 a b)) (fun s => ∑ q : Fin 512, ga (a1 m c) (a3 m c) (row 8192 s q) a * sb (a1 m c) (a3 m c) (row 8192 s q) a * silu (a2 m c) (row 8192 s q) a * a0 m c (ix2 (row 8192 s q) b)) (fun h => ?_) (fun n h => ?_) n hn
  · rw [outs_A m c ⟨0, h⟩ rfl]
    exact (pay4 (b0 m c ⟨0, h⟩) (b1 m c ⟨0, h⟩) (b2 m c ⟨0, h⟩) (b3 m c ⟨0, h⟩) _ a b).trans ((congrArg (· + _) (zero3 a b)).trans (zero_add _))
  · have hN := lt_of_lt_of_eq h N_0
    rw [outs_B m c ⟨n + 1, h⟩ (show ¬(n + 1) % 16 = 0 by omega)]
    exact pay4 (b0 m c ⟨n + 1, h⟩) (b1 m c ⟨n + 1, h⟩) (b2 m c ⟨n + 1, h⟩) (b3 m c ⟨n + 1, h⟩) _ a b

theorem res7 (c : Dev nD) (a : Fin 512) (b : Fin 1024) :
    (dats m 0 c).arrAt 7 cfg0.N (ix2 a b) = dwb (a0 m c) (a1 m c) (a2 m c) (a3 m c) a b :=
  (congrFun (final7 m c) (ix2 a b)).trans ((sum7 m c 15 tl.isLt a b).trans
    (sum_row (T := 16) (B := 512) rfl fun r => ga (a1 m c) (a3 m c) r a * sb (a1 m c) (a3 m c) r a * silu (a2 m c) r a * a0 m c (ix2 r b)))

theorem sum8 (c : Dev nD) (n : ℕ) (hn : n < cfg0.N) (a : Fin 512) (b : Fin 1024) : (outsAt0 m c n hn).2.2.2 (ix2 a b)
    = ∑ s ∈ Finset.range (n + 1), ∑ q : Fin 512, gelu (a1 m c (ix2 (row 8192 s q) a)) * dglu (a0 m c) (a1 m c) (a2 m c) (a3 m c) (a4 m c) (row 8192 s q) b := by
  refine running (fun n h => (outsAt0 m c n h).2.2.2 (ix2 a b)) (fun s => ∑ q : Fin 512, gelu (a1 m c (ix2 (row 8192 s q) a)) * dglu (a0 m c) (a1 m c) (a2 m c) (a3 m c) (a4 m c) (row 8192 s q) b) (fun h => ?_) (fun n h => ?_) n hn
  · rw [outs_A m c ⟨0, h⟩ rfl]
    exact (pay6 (b0 m c ⟨0, h⟩) (b1 m c ⟨0, h⟩) (b2 m c ⟨0, h⟩) (b3 m c ⟨0, h⟩) (b4 m c ⟨0, h⟩) _ a b).trans ((congrArg (· + _) (zero5 a b)).trans (zero_add _))
  · have hN := lt_of_lt_of_eq h N_0
    rw [outs_B m c ⟨n + 1, h⟩ (show ¬(n + 1) % 16 = 0 by omega)]
    exact pay6 (b0 m c ⟨n + 1, h⟩) (b1 m c ⟨n + 1, h⟩) (b2 m c ⟨n + 1, h⟩) (b3 m c ⟨n + 1, h⟩) (b4 m c ⟨n + 1, h⟩) _ a b

theorem res8 (c : Dev nD) (a : Fin 512) (b : Fin 1024) :
    (dats m 0 c).arrAt 8 cfg0.N (ix2 a b) = dwg (a0 m c) (a1 m c) (a2 m c) (a3 m c) (a4 m c) a b :=
  (congrFun (final8 m c) (ix2 a b)).trans ((sum8 m c 15 tl.isLt a b).trans
    (sum_row (T := 16) (B := 512) rfl fun r => gelu (a1 m c (ix2 r a)) * dglu (a0 m c) (a1 m c) (a2 m c) (a3 m c) (a4 m c) r b))

end Cert.S5postIdeal.Rows

/-! ## The reference -/

namespace Cert.S5postRefIdeal.Rows

open Cert.S5postRefIdeal Cert.S5postRefIdeal.Gen Cert.S5postRefIdeal.Read Cert.S5postMath

variable (x0 : S8192x1024.Idx → EReal) (x1 x2 : S8192x512.Idx → EReal) (x3 x4 : S512x1024.Idx → EReal)

theorem word_3 : Ideal.ofBits .f32 0x40400000#32 = ((3 : ℝ) : EReal) := by
  simp [Ideal.ofBits, Ideal.ieee, -EReal.coe_mul]; norm_num

theorem word_44715 : Ideal.ofBits .f32 0x472EAB00#32 = ((44715 : ℝ) : EReal) := by
  simp [Ideal.ofBits, Ideal.ieee, -EReal.coe_mul]; norm_num

theorem word_million : Ideal.ofBits .f32 0x49742400#32 = ((1000000 : ℝ) : EReal) := by
  simp [Ideal.ofBits, Ideal.ieee, -EReal.coe_mul]; norm_num

/-- Times the numerator, over the denominator. -/
theorem quotient_eq (y : EReal) : Ideal.div (((44715 : ℝ) : EReal) * y) ((1000000 : ℝ) : EReal) = cc * y := by
  rw [Ideal.div_coe (by norm_num), mul_right_comm, ← EReal.coe_mul]
  unfold cc
  norm_num

theorem quotient_eq' (y : EReal) : ((44715 : ℝ) : EReal) * Ideal.div y ((1000000 : ℝ) : EReal) = cc * y := by
  rw [← quotient_eq, Ideal.div_coe (by norm_num), Ideal.div_coe (by norm_num), mul_assoc]

theorem th_eq (r : Fin 8192) (b : Fin 512) : val_main_v12 (F := Ideal) x1 (ix2 r b) = th (x1 (ix2 r b)) := by
  unfold val_main_v12 val_main_v11 val_main_v10 val_main_v9 val_main_v8 val_main_v7 val_main_v6 val_main_v5 val_main_v1 val_main_v0 val_main_cst_0
    val_main_cst_1 val_main_cst_2
  pointwise [word_44715, word_million, quotient_eq]
  unfold th
  rw [mul_assoc cc, mul_assoc cc]
  rfl

theorem phi_eq (r : Fin 8192) (b : Fin 512) : val_main_v21 (F := Ideal) x1 (ix2 r b) = ((1 / 2 : ℝ) : EReal) * (1 + th (x1 (ix2 r b))) := by
  unfold val_main_v21 val_main_v20 val_main_v19 val_main_v18 val_main_cst_5 val_main_cst_6
  pointwise [th_eq, half_word]

theorem gelu_eq (r : Fin 8192) (b : Fin 512) : val_main_v22 (F := Ideal) x1 (ix2 r b) = gelu (x1 (ix2 r b)) := by
  unfold val_main_v22
  pointwise [phi_eq]
  unfold gelu
  rw [← mul_assoc, mul_comm (x1 _)]

theorem glu_eq (r : Fin 8192) (b : Fin 1024) : val_main_v23 (F := Ideal) x1 x3 (ix2 r b) = glu x1 x3 r b := by
  unfold val_main_v23
  pointwise [gelu_eq]
  rfl

theorem ga_eq (r : Fin 8192) (b : Fin 512) : val_main_v24 (F := Ideal) x1 x3 (ix2 r b) = ga x1 x3 r b := by
  unfold val_main_v24
  pointwise [glu_eq]
  rfl

theorem sb_eq (r : Fin 8192) (b : Fin 512) : val_main_v31 (F := Ideal) x1 x3 (ix2 r b) = sb x1 x3 r b := by
  unfold val_main_v31 val_main_v30 val_main_v29 val_main_v28 val_main_v27 val_main_v26 val_main_v25 val_main_cst_7 val_main_cst_8
  pointwise [glu_eq]
  rfl

theorem gate_eq (r : Fin 8192) (b : Fin 512) : val_main_v36_2 (F := Ideal) x2 (ix2 r b) = Ideal.logistic (x2 (ix2 r b)) := by
  unfold val_main_v36_2 val_main_call0_v4 val_main_call0_v3 val_main_call0_v2 val_main_call0_v1 val_main_call0_v0 val_main_call0_cst val_main_call0_cst_0
  pointwise
  rfl

theorem silu_eq (r : Fin 8192) (b : Fin 512) : val_main_v36_0 (F := Ideal) x2 (ix2 r b) = silu x2 r b := by
  unfold val_main_v36_0
  pointwise [gate_eq]
  rfl

theorem dy_eq (r : Fin 8192) (b : Fin 512) : val_main_v41 (F := Ideal) x0 x4 (ix2 r b) = dy x0 x4 r b := by
  unfold val_main_v41
  pointwise
  rfl

theorem du_eq (r : Fin 8192) (b : Fin 512) : val_main_v46 (F := Ideal) x0 x1 x2 x3 x4 (ix2 r b) = du x0 x1 x2 x3 x4 r b := by
  unfold val_main_v46 val_main_v43
  pointwise [dy_eq, silu_eq, sb_eq]
  unfold du
  ac_rfl

theorem dv_eq (r : Fin 8192) (b : Fin 512) : val_main_v47 (F := Ideal) x0 x1 x2 x3 x4 (ix2 r b) = dv x0 x1 x2 x3 x4 r b := by
  unfold val_main_v47 val_main_v45 val_main_v43 val_main_v34 val_main_v33 val_main_v32 val_main_cst_9
  pointwise [dy_eq, silu_eq, sb_eq, ga_eq]
  unfold dv
  generalize 1 - sb x1 x3 r b = u
  ac_rfl

theorem dglu_eq (r : Fin 8192) (b : Fin 1024) : val_main_v48 (F := Ideal) x0 x1 x2 x3 x4 (ix2 r b) = dglu x0 x1 x2 x3 x4 r b := by
  unfold val_main_v48
  pointwise [du_eq, dv_eq]
  rfl

theorem back_eq (r : Fin 8192) (b : Fin 512) : val_main_v51 (F := Ideal) x0 x1 x2 x3 x4 (ix2 r b) = back x0 x1 x2 x3 x4 r b := by
  unfold val_main_v51
  pointwise [dglu_eq]
  rfl

theorem dys_eq (f0 : IsReal x0) (f1 : IsReal x1) (f2 : IsReal x2) (f3 : IsReal x3) (f4 : IsReal x4) (r : Fin 8192) (b : Fin 512) :
    val_main_v65 (F := Ideal) x0 x1 x2 x3 x4 (ix2 r b) = dys x0 x1 x2 x3 x4 r b := by
  unfold val_main_v65 val_main_v64 val_main_v63 val_main_v62 val_main_v61 val_main_v60 val_main_v59 val_main_v58 val_main_v57 val_main_v56 val_main_v55
    val_main_v54 val_main_v53 val_main_v52 val_main_v17 val_main_v16 val_main_v15 val_main_v14 val_main_v13 val_main_v4 val_main_v3 val_main_v2
    val_main_cst val_main_cst_3 val_main_cst_4 val_main_cst_10 val_main_cst_11 val_main_cst_12 val_main_cst_13
  pointwise [back_eq, phi_eq, th_eq, half_word, word_3, word_44715, word_million, quotient_eq']
  exact gelu_grad (real_back f0 f1 f2 f3 f4 r b) (f1 _)

theorem dg_eq (f0 : IsReal x0) (f1 : IsReal x1) (f3 : IsReal x3) (f4 : IsReal x4) (r : Fin 8192) (b : Fin 512) :
    val_main_v66 (F := Ideal) x0 x1 x2 x3 x4 (ix2 r b) = dg x0 x1 x2 x3 x4 r b := by
  unfold val_main_v66 val_main_v44 val_main_call1_v2 val_main_call1_v1 val_main_call1_v0 val_main_v42 val_main_v35 val_main_v36_1 val_main_call0_v7 val_main_call0_v6
    val_main_call0_cst_1
  pointwise [dy_eq, gate_eq, ga_eq, sb_eq]
  exact S5postMath.dg_eq f0 f1 f3 f4 r b

theorem dwb_eq (a : Fin 512) (b : Fin 1024) : val_main_v40 (F := Ideal) x0 x1 x2 x3 (ix2 a b) = dwb x0 x1 x2 x3 a b := by
  unfold val_main_v40 val_main_v39 val_main_v37 val_main_v35
  pointwise [ga_eq, sb_eq, silu_eq]
  exact Finset.sum_congr rfl fun r _ => mul_comm _ _

theorem dwg_eq (a : Fin 512) (b : Fin 1024) : val_main_v50 (F := Ideal) x0 x1 x2 x3 x4 (ix2 a b) = dwg x0 x1 x2 x3 x4 a b := by
  unfold val_main_v50 val_main_v49
  pointwise [dglu_eq, gelu_eq]
  exact Finset.sum_congr rfl fun r _ => mul_comm _ _

end Cert.S5postRefIdeal.Rows

end
-- ==== Proof.S5postClaim.lean ====
/- The claim about the gradient of the first branch's activations and projections. -/
module

public import proofs.«01_k».proof.Defs
public import proofs.«01_k».proof.Proof.S5postValue
public import proofs.«01_k».proof.Proof.Gen.S5postRefIdeal.Run
public import proofs.«01_k».proof.Proof.Gen.Pre_finite_s5post

@[expose] public section

set_option maxRecDepth 16384

noncomputable section

namespace Cert.Proof

open Cert.RowLib Idealize.ShloMosaic Idealize.ShloMosaic.TcCoe Idealize.SL.Sem

/-- The kernel's result arrays are those of the reference. -/
theorem s5post_value :
    Cert.algebraic_S5postIdeal_S5postRefIdeal_pre_finite_s5post (hS5postIdeal := Cert.S5postIdeal.Gen.facts) (hS5postRefIdeal := Cert.S5postRefIdeal.Gen.facts) (hPre_finite_s5post := Cert.Pre_finite_s5post.Gen.facts) := by
  intro m g m' g' hpre hag
  refine ⟨fun c => (Cert.S5postIdeal.Gen.dats m 0 c).arrAt 5 Cert.S5postIdeal.cfg0.N, fun c => (Cert.S5postIdeal.Gen.dats m 0 c).arrAt 6 Cert.S5postIdeal.cfg0.N, fun c => (Cert.S5postIdeal.Gen.dats m 0 c).arrAt 7 Cert.S5postIdeal.cfg0.N, fun c => (Cert.S5postIdeal.Gen.dats m 0 c).arrAt 8 Cert.S5postIdeal.cfg0.N,
    Cert.S5postIdeal.Value.run_blocks m g, (θ_run _ _ _).mono (fun r h c => ?_) (Cert.S5postRefIdeal.Value.run m' g')⟩
  obtain ⟨e0, e1, e2, e3, e4⟩ := hag c
  have f0 : IsReal (Cert.S5postIdeal.Rows.a0 m c) := fun i => real_of_cmp (congrFun (hpre c).1 i)
  have f1 : IsReal (Cert.S5postIdeal.Rows.a1 m c) := fun i => real_of_cmp (congrFun (hpre c).2.1 i)
  have f2 : IsReal (Cert.S5postIdeal.Rows.a2 m c) := fun i => real_of_cmp (congrFun (hpre c).2.2.1 i)
  have f3 : IsReal (Cert.S5postIdeal.Rows.a3 m c) := fun i => real_of_cmp (congrFun (hpre c).2.2.2.1 i)
  have f4 : IsReal (Cert.S5postIdeal.Rows.a4 m c) := fun i => real_of_cmp (congrFun (hpre c).2.2.2.2 i)
  exact ⟨((h c).1.trans (Cert.S5postRefIdeal.Read.val_main_v65_eq ..)).trans (ext2 fun a b => by
      rw [e0, e1, e2, e3, e4]
      exact (Cert.S5postRefIdeal.Rows.dys_eq _ _ _ _ _ f0 f1 f2 f3 f4 a b).trans (Cert.S5postIdeal.Rows.res5 m c a b).symm),
    ((h c).2.1.trans (Cert.S5postRefIdeal.Read.val_main_v66_eq ..)).trans (ext2 fun a b => by
      rw [e0, e1, e2, e3, e4]
      exact (Cert.S5postRefIdeal.Rows.dg_eq _ _ _ _ _ f0 f1 f3 f4 a b).trans (Cert.S5postIdeal.Rows.res6 m c a b).symm),
    ((h c).2.2.1.trans (Cert.S5postRefIdeal.Read.val_main_v40_eq ..)).trans (ext2 fun a b => by
      rw [e0, e1, e2, e3]
      exact (Cert.S5postRefIdeal.Rows.dwb_eq _ _ _ _  a b).trans (Cert.S5postIdeal.Rows.res7 m c a b).symm),
    ((h c).2.2.2.1.trans (Cert.S5postRefIdeal.Read.val_main_v50_eq ..)).trans (ext2 fun a b => by
      rw [e0, e1, e2, e3, e4]
      exact (Cert.S5postRefIdeal.Rows.dwg_eq _ _ _ _ _  a b).trans (Cert.S5postIdeal.Rows.res8 m c a b).symm),
    (h c).2.2.2.2⟩

end Cert.Proof

end
-- ==== Proof.MergeKernel.lean ====
/- What the kernel of the gradient of the merge of the two branches leaves in its six result arrays. -/
module

public import proofs.«01_k».proof.Proof.Common
public import proofs.«01_k».proof.Proof.Gen.MergeIdeal.Value

@[expose] public section

set_option maxRecDepth 16384

noncomputable section

namespace Cert.MergeIdeal.Rows

open Cert.MergeIdeal Cert.MergeIdeal.Gen Cert.RowLib Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The last point. -/
abbrev tl : Fin grid0.N := ⟨15, lt_of_lt_of_eq (by decide) N_0.symm⟩

theorem hz : (![0, 0] : Fin 2 → Nat) = fun _ => 0 := funext fun a => by fin_cases a <;> rfl

/-! ## The blocks of the arguments -/

theorem at0 : ∀ t : Fin grid0.N, win0_0.index t 0 = t.val ∧ win0_0.index t 1 = 0 := by decide +kernel

theorem iblk0_apply (c : Dev nD) (t : Fin cfg0.N) (q : Fin 512) (k : Fin 1024) :
    iblk m c 0 t (ix2 q k) = V m c main_arg0 (ix2 (row 8192 t.val q) k) := by
  unfold iblk
  rw [View.read_apply, cast_eq]
  refine congrArg (V m c main_arg0) (Shape.idx_ext₂ ?_ ?_)
  · refine (Pipeline.Window.rect_emb_val win0_0 t _ 0).trans ((congrArg (· * 512 + q.val) (at0 t).1).trans ?_)
    exact (row_val (T := 16) (B := 512) rfl (lt_of_lt_of_eq t.isLt N_0) q).symm
  · exact Pipeline.Window.rect_emb_val_of_index_zero win0_0 t 1 (at0 t).2 _

theorem at1 : ∀ t : Fin grid0.N, win0_1.index t 0 = t.val ∧ win0_1.index t 1 = 0 := by decide +kernel

theorem iblk1_apply (c : Dev nD) (t : Fin cfg0.N) (q : Fin 512) (k : Fin 1024) :
    iblk m c 1 t (ix2 q k) = V m c main_v18 (ix2 (row 8192 t.val q) k) := by
  unfold iblk
  rw [View.read_apply, cast_eq]
  refine congrArg (V m c main_v18) (Shape.idx_ext₂ ?_ ?_)
  · refine (Pipeline.Window.rect_emb_val win0_1 t _ 0).trans ((congrArg (· * 512 + q.val) (at1 t).1).trans ?_)
    exact (row_val (T := 16) (B := 512) rfl (lt_of_lt_of_eq t.isLt N_0) q).symm
  · exact Pipeline.Window.rect_emb_val_of_index_zero win0_1 t 1 (at1 t).2 _

theorem at2 : ∀ t : Fin grid0.N, win0_2.index t 0 = t.val ∧ win0_2.index t 1 = 0 := by decide +kernel

theorem iblk2_apply (c : Dev nD) (t : Fin cfg0.N) (q : Fin 512) (k : Fin 1024) :
    iblk m c 2 t (ix2 q k) = V m c main_v19 (ix2 (row 8192 t.val q) k) := by
  unfold iblk
  rw [View.read_apply, cast_eq]
  refine congrArg (V m c main_v19) (Shape.idx_ext₂ ?_ ?_)
  · refine (Pipeline.Window.rect_emb_val win0_2 t _ 0).trans ((congrArg (· * 512 + q.val) (at2 t).1).trans ?_)
    exact (row_val (T := 16) (B := 512) rfl (lt_of_lt_of_eq t.isLt N_0) q).symm
  · exact Pipeline.Window.rect_emb_val_of_index_zero win0_2 t 1 (at2 t).2 _

theorem at3 : ∀ t : Fin grid0.N, win0_3.index t 0 = t.val ∧ win0_3.index t 1 = 0 := by decide +kernel

theorem iblk3_apply (c : Dev nD) (t : Fin cfg0.N) (q : Fin 512) (k : Fin 1024) :
    iblk m c 3 t (ix2 q k) = V m c main_v20 (ix2 (row 8192 t.val q) k) := by
  unfold iblk
  rw [View.read_apply, cast_eq]
  refine congrArg (V m c main_v20) (Shape.idx_ext₂ ?_ ?_)
  · refine (Pipeline.Window.rect_emb_val win0_3 t _ 0).trans ((congrArg (· * 512 + q.val) (at3 t).1).trans ?_)
    exact (row_val (T := 16) (B := 512) rfl (lt_of_lt_of_eq t.isLt N_0) q).symm
  · exact Pipeline.Window.rect_emb_val_of_index_zero win0_3 t 1 (at3 t).2 _

theorem at4 : ∀ t : Fin grid0.N, win0_4.index t 0 = t.val ∧ win0_4.index t 1 = 0 := by decide +kernel

theorem iblk4_apply (c : Dev nD) (t : Fin cfg0.N) (q : Fin 512) (k : Fin 1024) :
    iblk m c 4 t (ix2 q k) = V m c main_v21 (ix2 (row 8192 t.val q) k) := by
  unfold iblk
  rw [View.read_apply, cast_eq]
  refine congrArg (V m c main_v21) (Shape.idx_ext₂ ?_ ?_)
  · refine (Pipeline.Window.rect_emb_val win0_4 t _ 0).trans ((congrArg (· * 512 + q.val) (at4 t).1).trans ?_)
    exact (row_val (T := 16) (B := 512) rfl (lt_of_lt_of_eq t.isLt N_0) q).symm
  · exact Pipeline.Window.rect_emb_val_of_index_zero win0_4 t 1 (at4 t).2 _

theorem at5 : ∀ t : Fin grid0.N, win0_5.index t 0 = t.val ∧ win0_5.index t 1 = 0 := by decide +kernel

theorem iblk5_apply (c : Dev nD) (t : Fin cfg0.N) (q : Fin 512) (k : Fin 1024) :
    iblk m c 5 t (ix2 q k) = V m c main_v22 (ix2 (row 8192 t.val q) k) := by
  unfold iblk
  rw [View.read_apply, cast_eq]
  refine congrArg (V m c main_v22) (Shape.idx_ext₂ ?_ ?_)
  · refine (Pipeline.Window.rect_emb_val win0_5 t _ 0).trans ((congrArg (· * 512 + q.val) (at5 t).1).trans ?_)
    exact (row_val (T := 16) (B := 512) rfl (lt_of_lt_of_eq t.isLt N_0) q).symm
  · exact Pipeline.Window.rect_emb_val_of_index_zero win0_5 t 1 (at5 t).2 _

theorem at6 : ∀ t : Fin grid0.N, win0_6.index t 0 = 0 ∧ win0_6.index t 1 = 0 := by decide +kernel

theorem iblk6_eq (c : Dev nD) (t : Fin cfg0.N) : iblk m c 6 t = V m c main_v0 := by
  funext j
  unfold iblk
  rw [View.read_apply, cast_eq]
  refine congrArg (V m c main_v0) (Shape.idx_ext₂ ?_ ?_)
  · exact Pipeline.Window.rect_emb_val_of_index_zero win0_6 t 0 (at6 t).1 _
  · exact Pipeline.Window.rect_emb_val_of_index_zero win0_6 t 1 (at6 t).2 _

theorem at7 : ∀ t : Fin grid0.N, win0_7.index t 0 = 0 ∧ win0_7.index t 1 = 0 := by decide +kernel

theorem iblk7_eq (c : Dev nD) (t : Fin cfg0.N) : iblk m c 7 t = V m c main_v1 := by
  funext j
  unfold iblk
  rw [View.read_apply, cast_eq]
  refine congrArg (V m c main_v1) (Shape.idx_ext₂ ?_ ?_)
  · exact Pipeline.Window.rect_emb_val_of_index_zero win0_7 t 0 (at7 t).1 _
  · exact Pipeline.Window.rect_emb_val_of_index_zero win0_7 t 1 (at7 t).2 _

/-! ## What a point leaves -/

theorem outs_A (c : Dev nD) (t : Fin cfg0.N) (h : t.val % 16 = 0) : outsAt0 m c t.val t.isLt
    = (k0_pay25 (k0_pay10 (iblk m c 4 t)) (k0_pay12 (iblk m c 6 t)) (k0_pay13 (iblk m c 1 t)) (k0_pay14 (iblk m c 1 t)) (k0_pay15 (iblk m c 0 t) (iblk m c 7 t)) (k0_pay16 (iblk m c 0 t) (iblk m c 1 t) (iblk m c 7 t)),
       k0_pay26 (k0_pay11 (iblk m c 5 t)) (k0_pay12 (iblk m c 6 t)) (k0_pay13 (iblk m c 1 t)) (k0_pay14 (iblk m c 1 t)) (k0_pay15 (iblk m c 0 t) (iblk m c 7 t)) (k0_pay16 (iblk m c 0 t) (iblk m c 1 t) (iblk m c 7 t)),
       k0_pay1 (k0_pay21 (k0_pay8 (iblk m c 2 t)) (k0_pay10 (iblk m c 4 t)) (k0_pay12 (iblk m c 6 t)) (k0_pay13 (iblk m c 1 t)) (k0_pay14 (iblk m c 1 t)) (k0_pay15 (iblk m c 0 t) (iblk m c 7 t)) (k0_pay16 (iblk m c 0 t) (iblk m c 1 t) (iblk m c 7 t))),
       k0_pay2 (k0_pay22 (k0_pay9 (iblk m c 3 t)) (k0_pay11 (iblk m c 5 t)) (k0_pay12 (iblk m c 6 t)) (k0_pay13 (iblk m c 1 t)) (k0_pay14 (iblk m c 1 t)) (k0_pay15 (iblk m c 0 t) (iblk m c 7 t)) (k0_pay16 (iblk m c 0 t) (iblk m c 1 t) (iblk m c 7 t))),
       k0_pay4 (k0_pay23 (k0_pay8 (iblk m c 2 t)) (k0_pay9 (iblk m c 3 t)) (k0_pay10 (iblk m c 4 t)) (k0_pay11 (iblk m c 5 t)) (k0_pay13 (iblk m c 1 t)) (k0_pay14 (iblk m c 1 t)) (k0_pay15 (iblk m c 0 t) (iblk m c 7 t)) (k0_pay16 (iblk m c 0 t) (iblk m c 1 t) (iblk m c 7 t))) (k0_pay3 (F := Ideal)),
       k0_pay6 (k0_pay24 (iblk m c 0 t) (k0_pay14 (iblk m c 1 t))) (k0_pay5 (F := Ideal))) := by
  refine (outsAt0_A m c t h h).trans (Prod.ext ?_ (Prod.ext ?_ (Prod.ext ?_ (Prod.ext ?_ (Prod.ext ?_ ?_)))))
  · unfold out0_A_8
    rw [View.read_writes_eq_canon]
    · unfold kernelRun0_A
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
        View.ld_unit_zero (S := S512x1024) hz, View.ld_unit_zero (S := S1024x1024) hz, View.ld_unit_zero (S := S1x1024) hz]
    · intro y
      apply cover0_A_8
  · unfold out0_A_9
    rw [View.read_writes_eq_canon]
    · unfold kernelRun0_A
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
        View.ld_unit_zero (S := S512x1024) hz, View.ld_unit_zero (S := S1024x1024) hz, View.ld_unit_zero (S := S1x1024) hz]
    · intro y
      apply cover0_A_9
  · unfold out0_A_10
    rw [View.read_writes_eq_canon]
    · unfold kernelRun0_A
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
        View.ld_unit_zero (S := S512x1024) hz, View.ld_unit_zero (S := S1024x1024) hz, View.ld_unit_zero (S := S1x1024) hz]
    · intro y
      apply cover0_A_10
  · unfold out0_A_11
    rw [View.read_writes_eq_canon]
    · unfold kernelRun0_A
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
        View.ld_unit_zero (S := S512x1024) hz, View.ld_unit_zero (S := S1024x1024) hz, View.ld_unit_zero (S := S1x1024) hz]
    · intro y
      apply cover0_A_11
  · unfold out0_A_12
    rw [View.read_writes_eq_canon]
    · unfold kernelRun0_A
      dsimp only
      sl_unfold_words
      rw [View.canon_cons_unit_zero (S := S1024x1024) hz, View.readCov_unit_zero (S := S1024x1024) _ hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
        View.ld_unit_zero (S := S512x1024) hz, View.ld_unit_zero (S := S1024x1024) hz, View.ld_unit_zero (S := S1x1024) hz]
    · intro y
      apply cover0_A_12
  · unfold out0_A_13
    rw [View.read_writes_eq_canon]
    · unfold kernelRun0_A
      dsimp only
      sl_unfold_words
      rw [View.canon_cons_unit_zero (S := S1x1024) hz, View.readCov_unit_zero (S := S1x1024) _ hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
        View.ld_unit_zero (S := S512x1024) hz, View.ld_unit_zero (S := S1024x1024) hz, View.ld_unit_zero (S := S1x1024) hz]
    · intro y
      apply cover0_A_13

theorem outs_B (c : Dev nD) (t : Fin cfg0.N) (h : ¬t.val % 16 = 0) : outsAt0 m c t.val t.isLt
    = (k0_pay25 (k0_pay10 (iblk m c 4 t)) (k0_pay12 (iblk m c 6 t)) (k0_pay13 (iblk m c 1 t)) (k0_pay14 (iblk m c 1 t)) (k0_pay15 (iblk m c 0 t) (iblk m c 7 t)) (k0_pay16 (iblk m c 0 t) (iblk m c 1 t) (iblk m c 7 t)),
       k0_pay26 (k0_pay11 (iblk m c 5 t)) (k0_pay12 (iblk m c 6 t)) (k0_pay13 (iblk m c 1 t)) (k0_pay14 (iblk m c 1 t)) (k0_pay15 (iblk m c 0 t) (iblk m c 7 t)) (k0_pay16 (iblk m c 0 t) (iblk m c 1 t) (iblk m c 7 t)),
       k0_pay1 (k0_pay21 (k0_pay8 (iblk m c 2 t)) (k0_pay10 (iblk m c 4 t)) (k0_pay12 (iblk m c 6 t)) (k0_pay13 (iblk m c 1 t)) (k0_pay14 (iblk m c 1 t)) (k0_pay15 (iblk m c 0 t) (iblk m c 7 t)) (k0_pay16 (iblk m c 0 t) (iblk m c 1 t) (iblk m c 7 t))),
       k0_pay2 (k0_pay22 (k0_pay9 (iblk m c 3 t)) (k0_pay11 (iblk m c 5 t)) (k0_pay12 (iblk m c 6 t)) (k0_pay13 (iblk m c 1 t)) (k0_pay14 (iblk m c 1 t)) (k0_pay15 (iblk m c 0 t) (iblk m c 7 t)) (k0_pay16 (iblk m c 0 t) (iblk m c 1 t) (iblk m c 7 t))),
       k0_pay4 (k0_pay23 (k0_pay8 (iblk m c 2 t)) (k0_pay9 (iblk m c 3 t)) (k0_pay10 (iblk m c 4 t)) (k0_pay11 (iblk m c 5 t)) (k0_pay13 (iblk m c 1 t)) (k0_pay14 (iblk m c 1 t)) (k0_pay15 (iblk m c 0 t) (iblk m c 7 t)) (k0_pay16 (iblk m c 0 t) (iblk m c 1 t) (iblk m c 7 t))) (outsAt0 m c (t.val - 1) (Nat.lt_of_le_of_lt (Nat.sub_le _ _) t.isLt)).2.2.2.2.1,
       k0_pay6 (k0_pay24 (iblk m c 0 t) (k0_pay14 (iblk m c 1 t))) (outsAt0 m c (t.val - 1) (Nat.lt_of_le_of_lt (Nat.sub_le _ _) t.isLt)).2.2.2.2.2) := by
  refine (outsAt0_B m c t h h).trans (Prod.ext ?_ (Prod.ext ?_ (Prod.ext ?_ (Prod.ext ?_ (Prod.ext ?_ ?_)))))
  · unfold out0_B_8
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_12 t).read_unread, (hs0_13 t).read_unread,
        View.ld_unit_zero (S := S512x1024) hz, View.ld_unit_zero (S := S1024x1024) hz, View.ld_unit_zero (S := S1x1024) hz]
    · intro y
      apply cover0_B_8
  · unfold out0_B_9
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_12 t).read_unread, (hs0_13 t).read_unread,
        View.ld_unit_zero (S := S512x1024) hz, View.ld_unit_zero (S := S1024x1024) hz, View.ld_unit_zero (S := S1x1024) hz]
    · intro y
      apply cover0_B_9
  · unfold out0_B_10
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_12 t).read_unread, (hs0_13 t).read_unread,
        View.ld_unit_zero (S := S512x1024) hz, View.ld_unit_zero (S := S1024x1024) hz, View.ld_unit_zero (S := S1x1024) hz]
    · intro y
      apply cover0_B_10
  · unfold out0_B_11
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_12 t).read_unread, (hs0_13 t).read_unread,
        View.ld_unit_zero (S := S512x1024) hz, View.ld_unit_zero (S := S1024x1024) hz, View.ld_unit_zero (S := S1x1024) hz]
    · intro y
      apply cover0_B_11
  · unfold out0_B_12
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_12 t).read_unread, (hs0_13 t).read_unread,
        View.ld_unit_zero (S := S512x1024) hz, View.ld_unit_zero (S := S1024x1024) hz, View.ld_unit_zero (S := S1x1024) hz]
    · intro y
      apply cover0_B_12
  · unfold out0_B_13
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_12 t).read_unread, (hs0_13 t).read_unread,
        View.ld_unit_zero (S := S512x1024) hz, View.ld_unit_zero (S := S1024x1024) hz, View.ld_unit_zero (S := S1x1024) hz]
    · intro y
      apply cover0_B_13

/-! ## The result arrays -/

theorem at8 : ∀ t : Fin grid0.N, win0_8.index t 0 = t.val ∧ win0_8.index t 1 = 0 := by decide +kernel

theorem final8 (c : Dev nD) (t : Fin cfg0.N) (q : Fin 512) (b : Fin 1024) :
    (dats m 0 c).arrAt 8 cfg0.N (ix2 (row 8192 t.val q) b) = (outsAt0 m c t.val t.isLt).1 (ix2 q b) := by
  have e : ((cfg0.win 8).blk t).view.emb (ix2 q b) = ix2 (row 8192 t.val q) b := Shape.idx_ext₂
    ((Pipeline.Window.rect_emb_val win0_8 t _ 0).trans ((congrArg (· * 512 + q.val) (at8 t).1).trans
      (row_val (T := 16) (B := 512) rfl (lt_of_lt_of_eq t.isLt N_0) q).symm))
    (Pipeline.Window.rect_emb_val_of_index_zero win0_8 t 1 (at8 t).2 _)
  refine (congrArg ((dats m 0 c).arrAt 8 cfg0.N) e.symm).trans
    (((dats m 0 c).arrAt_emb_eq_flushed 8 Value.disjoint8 t (flush0_8 t) (ix2 q b)).trans ?_)
  rw [Value.flushed8]
  rfl

theorem at9 : ∀ t : Fin grid0.N, win0_9.index t 0 = t.val ∧ win0_9.index t 1 = 0 := by decide +kernel

theorem final9 (c : Dev nD) (t : Fin cfg0.N) (q : Fin 512) (b : Fin 1024) :
    (dats m 0 c).arrAt 9 cfg0.N (ix2 (row 8192 t.val q) b) = (outsAt0 m c t.val t.isLt).2.1 (ix2 q b) := by
  have e : ((cfg0.win 9).blk t).view.emb (ix2 q b) = ix2 (row 8192 t.val q) b := Shape.idx_ext₂
    ((Pipeline.Window.rect_emb_val win0_9 t _ 0).trans ((congrArg (· * 512 + q.val) (at9 t).1).trans
      (row_val (T := 16) (B := 512) rfl (lt_of_lt_of_eq t.isLt N_0) q).symm))
    (Pipeline.Window.rect_emb_val_of_index_zero win0_9 t 1 (at9 t).2 _)
  refine (congrArg ((dats m 0 c).arrAt 9 cfg0.N) e.symm).trans
    (((dats m 0 c).arrAt_emb_eq_flushed 9 Value.disjoint9 t (flush0_9 t) (ix2 q b)).trans ?_)
  rw [Value.flushed9]
  rfl

theorem at10 : ∀ t : Fin grid0.N, win0_10.index t 0 = t.val ∧ win0_10.index t 1 = 0 := by decide +kernel

theorem final10 (c : Dev nD) (t : Fin cfg0.N) (q : Fin 512) (b : Fin 1024) :
    (dats m 0 c).arrAt 10 cfg0.N (ix2 (row 8192 t.val q) b) = (outsAt0 m c t.val t.isLt).2.2.1 (ix2 q b) := by
  have e : ((cfg0.win 10).blk t).view.emb (ix2 q b) = ix2 (row 8192 t.val q) b := Shape.idx_ext₂
    ((Pipeline.Window.rect_emb_val win0_10 t _ 0).trans ((congrArg (· * 512 + q.val) (at10 t).1).trans
      (row_val (T := 16) (B := 512) rfl (lt_of_lt_of_eq t.isLt N_0) q).symm))
    (Pipeline.Window.rect_emb_val_of_index_zero win0_10 t 1 (at10 t).2 _)
  refine (congrArg ((dats m 0 c).arrAt 10 cfg0.N) e.symm).trans
    (((dats m 0 c).arrAt_emb_eq_flushed 10 Value.disjoint10 t (flush0_10 t) (ix2 q b)).trans ?_)
  rw [Value.flushed10]
  rfl

theorem at11 : ∀ t : Fin grid0.N, win0_11.index t 0 = t.val ∧ win0_11.index t 1 = 0 := by decide +kernel

theorem final11 (c : Dev nD) (t : Fin cfg0.N) (q : Fin 512) (b : Fin 1024) :
    (dats m 0 c).arrAt 11 cfg0.N (ix2 (row 8192 t.val q) b) = (outsAt0 m c t.val t.isLt).2.2.2.1 (ix2 q b) := by
  have e : ((cfg0.win 11).blk t).view.emb (ix2 q b) = ix2 (row 8192 t.val q) b := Shape.idx_ext₂
    ((Pipeline.Window.rect_emb_val win0_11 t _ 0).trans ((congrArg (· * 512 + q.val) (at11 t).1).trans
      (row_val (T := 16) (B := 512) rfl (lt_of_lt_of_eq t.isLt N_0) q).symm))
    (Pipeline.Window.rect_emb_val_of_index_zero win0_11 t 1 (at11 t).2 _)
  refine (congrArg ((dats m 0 c).arrAt 11 cfg0.N) e.symm).trans
    (((dats m 0 c).arrAt_emb_eq_flushed 11 Value.disjoint11 t (flush0_11 t) (ix2 q b)).trans ?_)
  rw [Value.flushed11]
  rfl

theorem at12 : ∀ t : Fin grid0.N, win0_12.index t 0 = 0 ∧ win0_12.index t 1 = 0 := by decide +kernel

theorem final12 (c : Dev nD) :
    (dats m 0 c).arrAt 12 cfg0.N = (outsAt0 m c tl.val tl.isLt).2.2.2.2.1 := by
  refine (dats m 0 c).arrAt_eq_of_cover 12 _ (fun t hf => ?_) fun i => ?_
  · have ht : t.val = 15 := by
      have h1 := (flush0_12 t).mp hf
      have h2 := lt_of_lt_of_eq t.isLt N_0
      omega
    obtain rfl : t = tl := Fin.ext ht
    rw [Value.flushed12]
    generalize (outsAt0 m c tl.val tl.isLt).2.2.2.2.1 = G
    have hz' : (fun a => win0_12.index tl a * main_v23_4.ty.shape.size a) = fun _ => 0 :=
      funext fun a => by fin_cases a <;> decide +kernel
    exact (Memref.read_access_unit_zero (Elt Ideal) main_v23_4 hz' (fun a => by rw [congrFun hz' a]; simp) G).symm
  · refine ⟨tl, (flush0_12 _).mpr rfl, ?_⟩
    show i ∈ ((View.whole main_v23_4).slice (win0_12.rect tl)).set
    rw [View.set_slice_whole, Rect.mem_set_unit]
    have h0 : (i 0 : Nat) < 1024 := (i 0).isLt
    have h1 : (i 1 : Nat) < 1024 := (i 1).isLt
    have e0 : win0_12.index tl 0 * 1024 = 0 := by decide +kernel
    have e1 : win0_12.index tl 1 * 1024 = 0 := by decide +kernel
    intro a
    match a with
    | ⟨0, _⟩ => exact ⟨e0.trans_le (Nat.zero_le _), h0.trans_eq ((congrArg (· + 1024) e0).trans (Nat.zero_add _)).symm⟩
    | ⟨1, _⟩ => exact ⟨e1.trans_le (Nat.zero_le _), h1.trans_eq ((congrArg (· + 1024) e1).trans (Nat.zero_add _)).symm⟩

theorem at13 : ∀ t : Fin grid0.N, win0_13.index t 0 = 0 ∧ win0_13.index t 1 = 0 := by decide +kernel

theorem final13 (c : Dev nD) :
    (dats m 0 c).arrAt 13 cfg0.N = (outsAt0 m c tl.val tl.isLt).2.2.2.2.2 := by
  refine (dats m 0 c).arrAt_eq_of_cover 13 _ (fun t hf => ?_) fun i => ?_
  · have ht : t.val = 15 := by
      have h1 := (flush0_13 t).mp hf
      have h2 := lt_of_lt_of_eq t.isLt N_0
      omega
    obtain rfl : t = tl := Fin.ext ht
    rw [Value.flushed13]
    generalize (outsAt0 m c tl.val tl.isLt).2.2.2.2.2 = G
    have hz' : (fun a => win0_13.index tl a * main_v23_5.ty.shape.size a) = fun _ => 0 :=
      funext fun a => by fin_cases a <;> decide +kernel
    exact (Memref.read_access_unit_zero (Elt Ideal) main_v23_5 hz' (fun a => by rw [congrFun hz' a]; simp) G).symm
  · refine ⟨tl, (flush0_13 _).mpr rfl, ?_⟩
    show i ∈ ((View.whole main_v23_5).slice (win0_13.rect tl)).set
    rw [View.set_slice_whole, Rect.mem_set_unit]
    have h0 : (i 0 : Nat) < 1 := (i 0).isLt
    have h1 : (i 1 : Nat) < 1024 := (i 1).isLt
    have e0 : win0_13.index tl 0 * 1 = 0 := by decide +kernel
    have e1 : win0_13.index tl 1 * 1024 = 0 := by decide +kernel
    intro a
    match a with
    | ⟨0, _⟩ => exact ⟨e0.trans_le (Nat.zero_le _), h0.trans_eq ((congrArg (· + 1) e0).trans (Nat.zero_add _)).symm⟩
    | ⟨1, _⟩ => exact ⟨e1.trans_le (Nat.zero_le _), h1.trans_eq ((congrArg (· + 1024) e1).trans (Nat.zero_add _)).symm⟩

end Cert.MergeIdeal.Rows

end
-- ==== Proof.Norm.lean ====
/- The gradient of a norm by the root of the mean square, over the extended reals. -/
module

public import proofs.«01_k».proof.Proof.Common

@[expose] public section

noncomputable section

namespace Cert.RowLib

open Idealize.ShloMosaic

theorem word_neg_half : Ideal.ofBits .f32 0xBF000000#32 = ((-1 / 2 : ℝ) : EReal) := by
  simp [Ideal.ofBits, Ideal.ieee, -EReal.coe_mul, -EReal.coe_neg]; norm_num

/-- The small number under the root is positive. -/
theorem eps_pos : (0 : EReal) < Ideal.ofBits .f32 0x358637BD#32 := by
  rw [show Ideal.ofBits .f32 0x358637BD#32 = ((8796093 / 8796093022208 : ℝ) : EReal) by
    simp [Ideal.ofBits, Ideal.ieee, -EReal.coe_mul]; norm_num]
  exact_mod_cast (by norm_num : (0 : ℝ) < 8796093 / 8796093022208)

theorem mul_self_nonneg' (x : EReal) : 0 ≤ x * x := by
  induction x with
  | bot => simp
  | top => simp
  | coe r => exact_mod_cast mul_self_nonneg r

/-- The mean square of a row, and the small number, is positive. -/
theorem mean_sq_pos {n : ℕ} (y : Fin n → EReal) {k : ℝ} (hk : 0 < k) :
    0 < Ideal.div (∑ i, y i * y i) (k : EReal) + Ideal.ofBits .f32 0x358637BD#32 := by
  rw [Ideal.div_coe hk.ne']
  refine lt_of_lt_of_le eps_pos (le_add_of_nonneg_left (mul_nonneg (Finset.sum_nonneg fun i _ => mul_self_nonneg' _)
    (by exact_mod_cast (one_div_pos.mpr hk).le)))

/-- The gradient of the norm's quotient, in the kernel's form and as the sum over the three paths to an entry: at every extended real. -/
theorem rms_grad {n : ℕ} {v : EReal} (hv : 0 < v) (d y : EReal) (f g : Fin n → EReal) :
    d * Ideal.rsqrt v
      + y * Ideal.div ((∑ i, g i * f i) * (((-1 / 2 : ℝ) : EReal) * Ideal.div (Ideal.rsqrt v) v)) ((1024 : ℝ) : EReal)
      + Ideal.div ((∑ i, g i * f i) * (((-1 / 2 : ℝ) : EReal) * Ideal.div (Ideal.rsqrt v) v)) ((1024 : ℝ) : EReal) * y
    = Ideal.rsqrt v * (d - y * Ideal.rsqrt v * Ideal.div (∑ i, f i * (g i * Ideal.rsqrt v)) ((1024 : ℝ) : EReal)) := by
  simp only [Ideal.div_coe (show (1024 : ℝ) ≠ 0 by norm_num)]
  induction v with
  | bot => exact absurd hv (by simp)
  | top => simp [Ideal.div]
  | coe v =>
    have h : 0 < v := by exact_mod_cast hv
    have hs : 0 < Real.sqrt v := Real.sqrt_pos.mpr h
    have e : Ideal.rsqrt (v : EReal) = (((Real.sqrt v)⁻¹ : ℝ) : EReal) := by
      rw [Ideal.rsqrt_coe, if_neg (not_lt.mpr h.le), if_neg h.ne']
    rw [e, Ideal.div_coe h.ne']
    have e2 : ∑ i, f i * (g i * (((Real.sqrt v)⁻¹ : ℝ) : EReal)) = (∑ i, g i * f i) * (((Real.sqrt v)⁻¹ : ℝ) : EReal) := by
      rw [sum_mul_pos (inv_pos.mpr hs)]
      exact Finset.sum_congr rfl fun i _ => by rw [← mul_assoc, mul_comm (f i)]
    rw [e2]
    generalize (∑ i, g i * f i) = S
    have hr : (0 : EReal) ≤ (((Real.sqrt v)⁻¹ : ℝ) : EReal) := by exact_mod_cast (inv_pos.mpr hs).le
    rw [sub_eq_add_neg, EReal.left_distrib_of_nonneg_of_ne_top hr (EReal.coe_ne_top _), add_assoc]
    congr 1
    · exact mul_comm _ _
    · rw [mul_comm (S * _ * _) y]
      have h2 : ∀ z : EReal, z + z = z * ((2 : ℝ) : EReal) := fun z => by
        rw [show ((2 : ℝ) : EReal) = 1 + 1 by rw [← EReal.coe_one, ← EReal.coe_add]; norm_num,
          EReal.left_distrib_of_nonneg (by norm_num) (by norm_num), mul_one]
      have h3 : (Real.sqrt v)⁻¹ * (Real.sqrt v)⁻¹ = 1 / v := by
        rw [← mul_inv, Real.mul_self_sqrt h.le, one_div]
      rw [h2]
      have e3 : y * (S * (((-1 / 2 : ℝ) : EReal) * ((((Real.sqrt v)⁻¹ : ℝ) : EReal) * ((1 / v : ℝ) : EReal))) * ((1 / 1024 : ℝ) : EReal)) * ((2 : ℝ) : EReal)
          = y * S * ((-1 / 2 * ((Real.sqrt v)⁻¹ * (1 / v)) * (1 / 1024) * 2 : ℝ) : EReal) := by
        simp only [EReal.coe_mul, mul_assoc]
      have e4 : (((Real.sqrt v)⁻¹ : ℝ) : EReal) * -(y * (((Real.sqrt v)⁻¹ : ℝ) : EReal) * (S * (((Real.sqrt v)⁻¹ : ℝ) : EReal) * ((1 / 1024 : ℝ) : EReal)))
          = y * S * ((-((Real.sqrt v)⁻¹ * (Real.sqrt v)⁻¹ * (Real.sqrt v)⁻¹ * (1 / 1024)) : ℝ) : EReal) := by
        rw [mul_neg, EReal.coe_neg, mul_neg]
        simp only [EReal.coe_mul]
        congr 1
        ac_rfl
      rw [e3, e4, h3]
      congr 2
      ring

end Cert.RowLib

end
-- ==== Proof.MergeValue.lean ====
/- The gradient of the two branches' gates, of the output projection and of the norm behind it: the kernel's six result arrays and the derivative
   of the forward lines are the same functions of the arguments. -/
module

public import proofs.«01_k».proof.Proof.MergeKernel
public import proofs.«01_k».proof.Proof.Gen.MergeRefIdeal.Read
public import proofs.«01_k».proof.Proof.Norm

@[expose] public section

set_option maxRecDepth 16384

noncomputable section

open Cert.RowLib Idealize.ShloMosaic Idealize.ShloMosaic.TcCoe Idealize.SL.Sem

/-! ## The mathematics -/

namespace Cert.MergeMath

variable (dx zs zl gs gl : (⟨2, ![8192, 1024]⟩ : Shape).Idx → EReal) (w : (⟨2, ![1024, 1024]⟩ : Shape).Idx → EReal)
  (gp : (⟨1, ![1024]⟩ : Shape).Idx → EReal)

/-- The two branches behind their gates, added. -/
def merged (r : Fin 8192) (b : Fin 1024) : EReal :=
  Ideal.logistic (gs (ix2 r b)) * zs (ix2 r b) + Ideal.logistic (gl (ix2 r b)) * zl (ix2 r b)

def mix (r : Fin 8192) (b : Fin 1024) : EReal := ∑ k : Fin 1024, merged zs zl gs gl r k * w (ix2 k b)

/-- The mean square of a row of the projection, and the small number. -/
def sq (r : Fin 8192) : EReal :=
  Ideal.div (∑ k : Fin 1024, mix zs zl gs gl w r k * mix zs zl gs gl w r k) ((1024 : ℝ) : EReal) + Ideal.ofBits .f32 0x358637BD#32

def nrm (r : Fin 8192) (b : Fin 1024) : EReal := mix zs zl gs gl w r b * Ideal.rsqrt (sq zs zl gs gl w r)

def dn (r : Fin 8192) (b : Fin 1024) : EReal := dx (ix2 r b) * gp (ix1 b)

/-- The gradient of the projection's result. -/
def dmix (r : Fin 8192) (b : Fin 1024) : EReal :=
  Ideal.rsqrt (sq zs zl gs gl w r) * (dn dx gp r b - nrm zs zl gs gl w r b
    * Ideal.div (∑ k : Fin 1024, dn dx gp r k * nrm zs zl gs gl w r k) ((1024 : ℝ) : EReal))

/-- The gradient of the merged branches. -/
def dm (r : Fin 8192) (b : Fin 1024) : EReal := ∑ k : Fin 1024, dmix dx zs zl gs gl w gp r k * w (ix2 b k)

def dzs (r : Fin 8192) (b : Fin 1024) : EReal := dm dx zs zl gs gl w gp r b * Ideal.logistic (gs (ix2 r b))

def dzl (r : Fin 8192) (b : Fin 1024) : EReal := dm dx zs zl gs gl w gp r b * Ideal.logistic (gl (ix2 r b))

def dgs (r : Fin 8192) (b : Fin 1024) : EReal :=
  dm dx zs zl gs gl w gp r b * zs (ix2 r b) * Ideal.logistic (gs (ix2 r b)) * (1 - Ideal.logistic (gs (ix2 r b)))

def dgl (r : Fin 8192) (b : Fin 1024) : EReal :=
  dm dx zs zl gs gl w gp r b * zl (ix2 r b) * Ideal.logistic (gl (ix2 r b)) * (1 - Ideal.logistic (gl (ix2 r b)))

def dw (a b : Fin 1024) : EReal := ∑ r : Fin 8192, merged zs zl gs gl r a * dmix dx zs zl gs gl w gp r b

def dgp (a : Fin 1) (b : Fin 1024) : EReal := ∑ r : Fin 8192, dx (ix2 r b) * nrm zs zl gs gl w r b

end Cert.MergeMath

/-! ## The kernel -/

namespace Cert.MergeIdeal.Rows

open Cert.MergeIdeal Cert.MergeIdeal.Gen Cert.MergeMath

variable (m : (ℓ : Loc nD τ sig) → Buf (Elt Ideal) ℓ) (ρ : Dev nD → PrngReg)

/-- The logistic function as the host's operations write it. -/
def gate (x : FVec Ideal S8192x1024 .f32) : FVec Ideal S8192x1024 .f32 :=
  Host.divf (broadcastInDim S8192x1024 ![] bcast_S_S8192x1024 (constant S_ .f32 0x3F800000#32))
    (addf (broadcastInDim S8192x1024 ![] bcast_S_S8192x1024 (constant S_ .f32 0x3F800000#32)) (Host.exp (Host.negf x)))

theorem V_v0 (c : Dev nD) : V m c main_v0 = truncf (F := Ideal) .bf16 (m ((c : Thread nD τ).loc main_arg5)) bitsLt_bf16_f32 := by
  unfold V
  simp only [hostOps0]
  after_results

theorem V_v1 (c : Dev nD) : V m c main_v1 = shapeCast S1x1024 (m ((c : Thread nD τ).loc main_arg6)) shapeCasts_S1024_S1x1024 := by
  unfold V
  simp only [hostOps0]
  after_results
  rfl

theorem V_v18 (c : Dev nD) : V m c main_v18 = truncf (F := Ideal) .bf16 (Host.dotGeneral (F := Ideal) (φ₁ := .f32) (φ₂ := .f32) dot_S8192x1024_S1024x1024_S8192x1024_1_0_0_1_n_n none
      (addf (mulf (gate (m ((c : Thread nD τ).loc main_arg3))) (m ((c : Thread nD τ).loc main_arg1)))
        (mulf (gate (m ((c : Thread nD τ).loc main_arg4))) (m ((c : Thread nD τ).loc main_arg2)))) (m ((c : Thread nD τ).loc main_arg5))) bitsLt_bf16_f32 := by
  unfold V
  simp only [hostOps0]
  after_results
  rfl

theorem V_v19 (c : Dev nD) : V m c main_v19 = truncf (F := Ideal) .bf16 (m ((c : Thread nD τ).loc main_arg1)) bitsLt_bf16_f32 := by
  unfold V
  simp only [hostOps0]
  after_results

theorem V_v20 (c : Dev nD) : V m c main_v20 = truncf (F := Ideal) .bf16 (m ((c : Thread nD τ).loc main_arg2)) bitsLt_bf16_f32 := by
  unfold V
  simp only [hostOps0]
  after_results

theorem V_v21 (c : Dev nD) : V m c main_v21 = truncf (F := Ideal) .bf16 (m ((c : Thread nD τ).loc main_arg3)) bitsLt_bf16_f32 := by
  unfold V
  simp only [hostOps0]
  after_results

theorem V_v22 (c : Dev nD) : V m c main_v22 = truncf (F := Ideal) .bf16 (m ((c : Thread nD τ).loc main_arg4)) bitsLt_bf16_f32 := by
  unfold V
  simp only [hostOps0]
  after_results

/-! ### The payloads, over blocks of rows -/

section Pay

variable {s : ℕ} {x0 x1 x2 x3 x4 : S8192x1024.Idx → EReal} {x5 : S1024x1024.Idx → EReal} {x6 : S1024.Idx → EReal}
  {v0 : Vec Ideal S512x1024 .f32} {v1 v4 v7 v10 v13 : Vec Ideal S512x1024 .bf16} {v16 : Vec Ideal S1024x1024 .bf16} {v18 : Vec Ideal S1x1024 .f32}
  (h0 : ∀ q k, v0 (ix2 q k) = x0 (ix2 (row 8192 s q) k)) (h1 : ∀ q k, v1 (ix2 q k) = mix x1 x2 x3 x4 x5 (row 8192 s q) k)
  (h2 : ∀ q k, v4 (ix2 q k) = x1 (ix2 (row 8192 s q) k)) (h3 : ∀ q k, v7 (ix2 q k) = x2 (ix2 (row 8192 s q) k))
  (h4 : ∀ q k, v10 (ix2 q k) = x3 (ix2 (row 8192 s q) k)) (h5 : ∀ q k, v13 (ix2 q k) = x4 (ix2 (row 8192 s q) k))
  (h6 : ∀ j, v16 j = x5 j) (h7 : ∀ a k, v18 (ix2 a k) = x6 (ix1 k))

include h1 in
theorem pay7 (q : Fin 512) (b : Fin 1024) : k0_pay7 v1 (ix2 q b) = mix x1 x2 x3 x4 x5 (row 8192 s q) b := by
  unfold k0_pay7
  pointwise [h1]

include h2 in
theorem pay8 (q : Fin 512) (b : Fin 1024) : k0_pay8 v4 (ix2 q b) = x1 (ix2 (row 8192 s q) b) := by
  unfold k0_pay8
  pointwise [h2]

include h3 in
theorem pay9 (q : Fin 512) (b : Fin 1024) : k0_pay9 v7 (ix2 q b) = x2 (ix2 (row 8192 s q) b) := by
  unfold k0_pay9
  pointwise [h3]

include h4 in
theorem pay10 (q : Fin 512) (b : Fin 1024) : k0_pay10 v10 (ix2 q b) = x3 (ix2 (row 8192 s q) b) := by
  unfold k0_pay10
  pointwise [h4]

include h5 in
theorem pay11 (q : Fin 512) (b : Fin 1024) : k0_pay11 v13 (ix2 q b) = x4 (ix2 (row 8192 s q) b) := by
  unfold k0_pay11
  pointwise [h5]

include h6 in
theorem pay12 (q : Fin 1024) (b : Fin 1024) : k0_pay12 v16 (ix2 q b) = x5 (ix2 q b) := by
  unfold k0_pay12
  pointwise [h6]

include h1 in
theorem pay13 (q : Fin 512) (b : Fin 1) : k0_pay13 v1 (ix2 q b) = Ideal.rsqrt (sq x1 x2 x3 x4 x5 (row 8192 s q)) := by
  unfold k0_pay13
  pointwise [pay7 h1, word_1024]
  rfl

include h1 in
theorem pay14 (q : Fin 512) (b : Fin 1024) : k0_pay14 v1 (ix2 q b) = nrm x1 x2 x3 x4 x5 (row 8192 s q) b := by
  unfold k0_pay14
  pointwise [pay7 h1, pay13 h1]
  rfl

include h0 h7 in
theorem pay15 (q : Fin 512) (b : Fin 1024) : k0_pay15 v0 v18 (ix2 q b) = dn x0 x6 (row 8192 s q) b := by
  unfold k0_pay15
  pointwise [h0, h7]
  rfl

include h0 h1 h7 in
theorem pay16 (q : Fin 512) (b : Fin 1024) : k0_pay16 v0 v1 v18 (ix2 q b)
    = Ideal.div (∑ k : Fin 1024, dn x0 x6 (row 8192 s q) k * nrm x1 x2 x3 x4 x5 (row 8192 s q) k) ((1024 : ℝ) : EReal) := by
  unfold k0_pay16
  pointwise [pay14 h1, pay15 h0 h7, word_1024]

include h0 h1 h7 in
theorem pay17 (q : Fin 512) (b : Fin 1024) : k0_pay17 (k0_pay13 v1) (k0_pay14 v1) (k0_pay15 v0 v18) (k0_pay16 v0 v1 v18) (ix2 q b) = dmix x0 x1 x2 x3 x4 x5 x6 (row 8192 s q) b := by
  unfold k0_pay17
  pointwise [pay13 h1, pay14 h1, pay15 h0 h7, pay16 h0 h1 h7]
  rfl

include h4 in
theorem pay18 (q : Fin 512) (b : Fin 1024) : k0_pay18 (k0_pay10 v10) (ix2 q b) = Ideal.logistic (x3 (ix2 (row 8192 s q) b)) := by
  unfold k0_pay18
  pointwise [pay10 h4, half_word]
  exact half_tanh _

include h5 in
theorem pay19 (q : Fin 512) (b : Fin 1024) : k0_pay19 (k0_pay11 v13) (ix2 q b) = Ideal.logistic (x4 (ix2 (row 8192 s q) b)) := by
  unfold k0_pay19
  pointwise [pay11 h5, half_word]
  exact half_tanh _

include h0 h1 h6 h7 in
theorem pay20 (q : Fin 512) (b : Fin 1024) : k0_pay20 (k0_pay12 v16) (k0_pay13 v1) (k0_pay14 v1) (k0_pay15 v0 v18) (k0_pay16 v0 v1 v18) (ix2 q b) = dm x0 x1 x2 x3 x4 x5 x6 (row 8192 s q) b := by
  unfold k0_pay20
  pointwise [pay17 h0 h1 h7, pay12 h6]
  rfl

include h0 h1 h4 h6 h7 in
theorem pay25 (q : Fin 512) (b : Fin 1024) : k0_pay25 (k0_pay10 v10) (k0_pay12 v16) (k0_pay13 v1) (k0_pay14 v1) (k0_pay15 v0 v18) (k0_pay16 v0 v1 v18) (ix2 q b) = dzs x0 x1 x2 x3 x4 x5 x6 (row 8192 s q) b := by
  unfold k0_pay25
  pointwise [pay20 h0 h1 h6 h7, pay18 h4]
  rfl

include h0 h1 h5 h6 h7 in
theorem pay26 (q : Fin 512) (b : Fin 1024) : k0_pay26 (k0_pay11 v13) (k0_pay12 v16) (k0_pay13 v1) (k0_pay14 v1) (k0_pay15 v0 v18) (k0_pay16 v0 v1 v18) (ix2 q b) = dzl x0 x1 x2 x3 x4 x5 x6 (row 8192 s q) b := by
  unfold k0_pay26
  pointwise [pay20 h0 h1 h6 h7, pay19 h5]
  rfl

include h0 h1 h2 h4 h6 h7 in
theorem pay1 (q : Fin 512) (b : Fin 1024) : k0_pay1 (k0_pay21 (k0_pay8 v4) (k0_pay10 v10) (k0_pay12 v16) (k0_pay13 v1) (k0_pay14 v1) (k0_pay15 v0 v18) (k0_pay16 v0 v1 v18)) (ix2 q b) = dgs x0 x1 x2 x3 x4 x5 x6 (row 8192 s q) b := by
  unfold k0_pay1 k0_pay21
  pointwise [pay20 h0 h1 h6 h7, pay18 h4, pay8 h2]
  rfl

include h0 h1 h3 h5 h6 h7 in
theorem pay2 (q : Fin 512) (b : Fin 1024) : k0_pay2 (k0_pay22 (k0_pay9 v7) (k0_pay11 v13) (k0_pay12 v16) (k0_pay13 v1) (k0_pay14 v1) (k0_pay15 v0 v18) (k0_pay16 v0 v1 v18)) (ix2 q b) = dgl x0 x1 x2 x3 x4 x5 x6 (row 8192 s q) b := by
  unfold k0_pay2 k0_pay22
  pointwise [pay20 h0 h1 h6 h7, pay19 h5, pay9 h3]
  rfl

include h0 h1 h2 h3 h4 h5 h7 in
theorem pay4 (y : Vec Ideal S1024x1024 .f32) (a b : Fin 1024) : k0_pay4 (k0_pay23 (k0_pay8 v4) (k0_pay9 v7) (k0_pay10 v10) (k0_pay11 v13) (k0_pay13 v1) (k0_pay14 v1) (k0_pay15 v0 v18) (k0_pay16 v0 v1 v18)) y (ix2 a b)
    = y (ix2 a b) + ∑ q : Fin 512, merged x1 x2 x3 x4 (row 8192 s q) a * dmix x0 x1 x2 x3 x4 x5 x6 (row 8192 s q) b := by
  unfold k0_pay4 k0_pay23
  pointwise [pay17 h0 h1 h7, pay18 h4, pay19 h5, pay8 h2, pay9 h3]
  rfl

include h0 h1 in
theorem pay6 (y : Vec Ideal S1x1024 .f32) (a : Fin 1) (b : Fin 1024) : k0_pay6 (k0_pay24 v0 (k0_pay14 v1)) y (ix2 a b)
    = y (ix2 a b) + ∑ q : Fin 512, x0 (ix2 (row 8192 s q) b) * nrm x1 x2 x3 x4 x5 (row 8192 s q) b := by
  unfold k0_pay6 k0_pay24
  pointwise [pay14 h1, h0]

end Pay

theorem zero3 (a b : Fin 1024) : k0_pay3 (F := Ideal) (ix2 a b) = 0 := by
  unfold k0_pay3
  pointwise

theorem zero5 (a : Fin 1) (b : Fin 1024) : k0_pay5 (F := Ideal) (ix2 a b) = 0 := by
  unfold k0_pay5
  pointwise

/-! ### The arguments -/

abbrev a0 (c : Dev nD) : S8192x1024.Idx → EReal := m ((c : Thread nD τ).loc main_arg0)
abbrev a1 (c : Dev nD) : S8192x1024.Idx → EReal := m ((c : Thread nD τ).loc main_arg1)
abbrev a2 (c : Dev nD) : S8192x1024.Idx → EReal := m ((c : Thread nD τ).loc main_arg2)
abbrev a3 (c : Dev nD) : S8192x1024.Idx → EReal := m ((c : Thread nD τ).loc main_arg3)
abbrev a4 (c : Dev nD) : S8192x1024.Idx → EReal := m ((c : Thread nD τ).loc main_arg4)
abbrev a5 (c : Dev nD) : S1024x1024.Idx → EReal := m ((c : Thread nD τ).loc main_arg5)
abbrev a6 (c : Dev nD) : S1024.Idx → EReal := m ((c : Thread nD τ).loc main_arg6)

theorem b0 (c : Dev nD) (t : Fin cfg0.N) (q : Fin 512) (k : Fin 1024) : iblk m c 0 t (ix2 q k) = a0 m c (ix2 (row 8192 t.val q) k) :=
  (iblk0_apply m c t q k).trans (congrFun (V_main_arg0 m c) _)
theorem b2 (c : Dev nD) (t : Fin cfg0.N) (q : Fin 512) (k : Fin 1024) : iblk m c 2 t (ix2 q k) = a1 m c (ix2 (row 8192 t.val q) k) :=
  (iblk2_apply m c t q k).trans (congrFun (V_v19 m c) _)
theorem b3 (c : Dev nD) (t : Fin cfg0.N) (q : Fin 512) (k : Fin 1024) : iblk m c 3 t (ix2 q k) = a2 m c (ix2 (row 8192 t.val q) k) :=
  (iblk3_apply m c t q k).trans (congrFun (V_v20 m c) _)
theorem b4 (c : Dev nD) (t : Fin cfg0.N) (q : Fin 512) (k : Fin 1024) : iblk m c 4 t (ix2 q k) = a3 m c (ix2 (row 8192 t.val q) k) :=
  (iblk4_apply m c t q k).trans (congrFun (V_v21 m c) _)
theorem b5 (c : Dev nD) (t : Fin cfg0.N) (q : Fin 512) (k : Fin 1024) : iblk m c 5 t (ix2 q k) = a4 m c (ix2 (row 8192 t.val q) k) :=
  (iblk5_apply m c t q k).trans (congrFun (V_v22 m c) _)
theorem b6 (c : Dev nD) (t : Fin cfg0.N) (j : S1024x1024.Idx) : iblk m c 6 t j = a5 m c j :=
  (congrFun (iblk6_eq m c t) j).trans (congrFun (V_v0 m c) j)
theorem b1 (c : Dev nD) (t : Fin cfg0.N) (q : Fin 512) (k : Fin 1024) :
    iblk m c 1 t (ix2 q k) = mix (a1 m c) (a2 m c) (a3 m c) (a4 m c) (a5 m c) (row 8192 t.val q) k := by
  refine (iblk1_apply m c t q k).trans ((congrFun (V_v18 m c) _).trans ?_)
  unfold gate
  pointwise
  rfl

theorem b7 (c : Dev nD) (t : Fin cfg0.N) (a : Fin 1) (k : Fin 1024) : iblk m c 7 t (ix2 a k) = a6 m c (ix1 k) := by
  refine (congrFun (iblk7_eq m c t) _).trans ((congrFun (V_v1 m c) _).trans ?_)
  pointwise

/-! ### The result arrays -/

theorem rows8 (c : Dev nD) (t : Fin cfg0.N) (q : Fin 512) (b : Fin 1024) :
    (outsAt0 m c t.val t.isLt).1 (ix2 q b) = dzs (a0 m c) (a1 m c) (a2 m c) (a3 m c) (a4 m c) (a5 m c) (a6 m c) (row 8192 t.val q) b := by
  by_cases h : t.val % 16 = 0
  · rw [outs_A m c t h]
    exact pay25 (b0 m c t) (b1 m c t) (b4 m c t) (b6 m c t) (b7 m c t) q b
  · rw [outs_B m c t h]
    exact pay25 (b0 m c t) (b1 m c t) (b4 m c t) (b6 m c t) (b7 m c t) q b

theorem res8 (c : Dev nD) (r : Fin 8192) (b : Fin 1024) :
    (dats m 0 c).arrAt 8 cfg0.N (ix2 r b) = dzs (a0 m c) (a1 m c) (a2 m c) (a3 m c) (a4 m c) (a5 m c) (a6 m c) r b := by
  obtain ⟨s, hs, q, rfl⟩ := exists_row (T := 16) (B := 512) rfl r
  exact (final8 m c ⟨s, lt_of_lt_of_eq hs N_0.symm⟩ q b).trans (rows8 m c ⟨s, lt_of_lt_of_eq hs N_0.symm⟩ q b)

theorem rows9 (c : Dev nD) (t : Fin cfg0.N) (q : Fin 512) (b : Fin 1024) :
    (outsAt0 m c t.val t.isLt).2.1 (ix2 q b) = dzl (a0 m c) (a1 m c) (a2 m c) (a3 m c) (a4 m c) (a5 m c) (a6 m c) (row 8192 t.val q) b := by
  by_cases h : t.val % 16 = 0
  · rw [outs_A m c t h]
    exact pay26 (b0 m c t) (b1 m c t) (b5 m c t) (b6 m c t) (b7 m c t) q b
  · rw [outs_B m c t h]
    exact pay26 (b0 m c t) (b1 m c t) (b5 m c t) (b6 m c t) (b7 m c t) q b

theorem res9 (c : Dev nD) (r : Fin 8192) (b : Fin 1024) :
    (dats m 0 c).arrAt 9 cfg0.N (ix2 r b) = dzl (a0 m c) (a1 m c) (a2 m c) (a3 m c) (a4 m c) (a5 m c) (a6 m c) r b := by
  obtain ⟨s, hs, q, rfl⟩ := exists_row (T := 16) (B := 512) rfl r
  exact (final9 m c ⟨s, lt_of_lt_of_eq hs N_0.symm⟩ q b).trans (rows9 m c ⟨s, lt_of_lt_of_eq hs N_0.symm⟩ q b)

theorem rows10 (c : Dev nD) (t : Fin cfg0.N) (q : Fin 512) (b : Fin 1024) :
    (outsAt0 m c t.val t.isLt).2.2.1 (ix2 q b) = dgs (a0 m c) (a1 m c) (a2 m c) (a3 m c) (a4 m c) (a5 m c) (a6 m c) (row 8192 t.val q) b := by
  by_cases h : t.val % 16 = 0
  · rw [outs_A m c t h]
    exact pay1 (b0 m c t) (b1 m c t) (b2 m c t) (b4 m c t) (b6 m c t) (b7 m c t) q b
  · rw [outs_B m c t h]
    exact pay1 (b0 m c t) (b1 m c t) (b2 m c t) (b4 m c t) (b6 m c t) (b7 m c t) q b

theorem res10 (c : Dev nD) (r : Fin 8192) (b : Fin 1024) :
    (dats m 0 c).arrAt 10 cfg0.N (ix2 r b) = dgs (a0 m c) (a1 m c) (a2 m c) (a3 m c) (a4 m c) (a5 m c) (a6 m c) r b := by
  obtain ⟨s, hs, q, rfl⟩ := exists_row (T := 16) (B := 512) rfl r
  exact (final10 m c ⟨s, lt_of_lt_of_eq hs N_0.symm⟩ q b).trans (rows10 m c ⟨s, lt_of_lt_of_eq hs N_0.symm⟩ q b)

theorem rows11 (c : Dev nD) (t : Fin cfg0.N) (q : Fin 512) (b : Fin 1024) :
    (outsAt0 m c t.val t.isLt).2.2.2.1 (ix2 q b) = dgl (a0 m c) (a1 m c) (a2 m c) (a3 m c) (a4 m c) (a5 m c) (a6 m c) (row 8192 t.val q) b := by
  by_cases h : t.val % 16 = 0
  · rw [outs_A m c t h]
    exact pay2 (b0 m c t) (b1 m c t) (b3 m c t) (b5 m c t) (b6 m c t) (b7 m c t) q b
  · rw [outs_B m c t h]
    exact pay2 (b0 m c t) (b1 m c t) (b3 m c t) (b5 m c t) (b6 m c t) (b7 m c t) q b

theorem res11 (c : Dev nD) (r : Fin 8192) (b : Fin 1024) :
    (dats m 0 c).arrAt 11 cfg0.N (ix2 r b) = dgl (a0 m c) (a1 m c) (a2 m c) (a3 m c) (a4 m c) (a5 m c) (a6 m c) r b := by
  obtain ⟨s, hs, q, rfl⟩ := exists_row (T := 16) (B := 512) rfl r
  exact (final11 m c ⟨s, lt_of_lt_of_eq hs N_0.symm⟩ q b).trans (rows11 m c ⟨s, lt_of_lt_of_eq hs N_0.symm⟩ q b)

theorem sum12 (c : Dev nD) (n : ℕ) (hn : n < cfg0.N) (a : Fin 1024) (b : Fin 1024) : (outsAt0 m c n hn).2.2.2.2.1 (ix2 a b)
    = ∑ s ∈ Finset.range (n + 1), ∑ q : Fin 512, merged (a1 m c) (a2 m c) (a3 m c) (a4 m c) (row 8192 s q) a * dmix (a0 m c) (a1 m c) (a2 m c) (a3 m c) (a4 m c) (a5 m c) (a6 m c) (row 8192 s q) b := by
  refine running (fun n h => (outsAt0 m c n h).2.2.2.2.1 (ix2 a b)) (fun s => ∑ q : Fin 512, merged (a1 m c) (a2 m c) (a3 m c) (a4 m c) (row 8192 s q) a * dmix (a0 m c) (a1 m c) (a2 m c) (a3 m c) (a4 m c) (a5 m c) (a6 m c) (row 8192 s q) b) (fun h => ?_) (fun n h => ?_) n hn
  · rw [outs_A m c ⟨0, h⟩ rfl]
    exact (pay4 (b0 m c ⟨0, h⟩) (b1 m c ⟨0, h⟩) (b2 m c ⟨0, h⟩) (b3 m c ⟨0, h⟩) (b4 m c ⟨0, h⟩) (b5 m c ⟨0, h⟩) (b7 m c ⟨0, h⟩) _ a b).trans ((congrArg (· + _) (zero3 a b)).trans (zero_add _))
  · have hN := lt_of_lt_of_eq h N_0
    rw [outs_B m c ⟨n + 1, h⟩ (show ¬(n + 1) % 16 = 0 by omega)]
    exact pay4 (b0 m c ⟨n + 1, h⟩) (b1 m c ⟨n + 1, h⟩) (b2 m c ⟨n + 1, h⟩) (b3 m c ⟨n + 1, h⟩) (b4 m c ⟨n + 1, h⟩) (b5 m c ⟨n + 1, h⟩) (b7 m c ⟨n + 1, h⟩) _ a b

theorem res12 (c : Dev nD) (a : Fin 1024) (b : Fin 1024) :
    (dats m 0 c).arrAt 12 cfg0.N (ix2 a b) = dw (a0 m c) (a1 m c) (a2 m c) (a3 m c) (a4 m c) (a5 m c) (a6 m c) a b :=
  (congrFun (final12 m c) (ix2 a b)).trans ((sum12 m c 15 tl.isLt a b).trans
    (sum_row (T := 16) (B := 512) rfl fun r => merged (a1 m c) (a2 m c) (a3 m c) (a4 m c) r a * dmix (a0 m c) (a1 m c) (a2 m c) (a3 m c) (a4 m c) (a5 m c) (a6 m c) r b))

theorem sum13 (c : Dev nD) (n : ℕ) (hn : n < cfg0.N) (a : Fin 1) (b : Fin 1024) : (outsAt0 m c n hn).2.2.2.2.2 (ix2 a b)
    = ∑ s ∈ Finset.range (n + 1), ∑ q : Fin 512, a0 m c (ix2 (row 8192 s q) b) * nrm (a1 m c) (a2 m c) (a3 m c) (a4 m c) (a5 m c) (row 8192 s q) b := by
  refine running (fun n h => (outsAt0 m c n h).2.2.2.2.2 (ix2 a b)) (fun s => ∑ q : Fin 512, a0 m c (ix2 (row 8192 s q) b) * nrm (a1 m c) (a2 m c) (a3 m c) (a4 m c) (a5 m c) (row 8192 s q) b) (fun h => ?_) (fun n h => ?_) n hn
  · rw [outs_A m c ⟨0, h⟩ rfl]
    exact (pay6 (b0 m c ⟨0, h⟩) (b1 m c ⟨0, h⟩) _ a b).trans ((congrArg (· + _) (zero5 a b)).trans (zero_add _))
  · have hN := lt_of_lt_of_eq h N_0
    rw [outs_B m c ⟨n + 1, h⟩ (show ¬(n + 1) % 16 = 0 by omega)]
    exact pay6 (b0 m c ⟨n + 1, h⟩) (b1 m c ⟨n + 1, h⟩) _ a b

theorem res13 (c : Dev nD) (a : Fin 1) (b : Fin 1024) :
    (dats m 0 c).arrAt 13 cfg0.N (ix2 a b) = dgp (a0 m c) (a1 m c) (a2 m c) (a3 m c) (a4 m c) (a5 m c) a b :=
  (congrFun (final13 m c) (ix2 a b)).trans ((sum13 m c 15 tl.isLt a b).trans
    (sum_row (T := 16) (B := 512) rfl fun r => a0 m c (ix2 r b) * nrm (a1 m c) (a2 m c) (a3 m c) (a4 m c) (a5 m c) r b))

end Cert.MergeIdeal.Rows

/-! ## The reference -/

namespace Cert.MergeRefIdeal.Rows

open Cert.MergeRefIdeal Cert.MergeRefIdeal.Gen Cert.MergeRefIdeal.Read Cert.MergeMath

variable (x0 x1 x2 x3 x4 : S8192x1024.Idx → EReal) (x5 : S1024x1024.Idx → EReal) (x6 : S1024.Idx → EReal)

theorem gs_eq (r : Fin 8192) (b : Fin 1024) : val_main_v5 (F := Ideal) x3 (ix2 r b) = Ideal.logistic (x3 (ix2 r b)) := by
  unfold val_main_v5 val_main_v4 val_main_v3 val_main_v2 val_main_v1 val_main_v0 val_main_cst val_main_cst_0
  pointwise
  rfl

theorem gl_eq (r : Fin 8192) (b : Fin 1024) : val_main_v15 (F := Ideal) x4 (ix2 r b) = Ideal.logistic (x4 (ix2 r b)) := by
  unfold val_main_v15 val_main_v14 val_main_v13 val_main_v12 val_main_v11 val_main_v10 val_main_cst_2 val_main_cst_3
  pointwise
  rfl

theorem merged_eq (r : Fin 8192) (b : Fin 1024) : val_main_v20 (F := Ideal) x1 x2 x3 x4 (ix2 r b) = merged x1 x2 x3 x4 r b := by
  unfold val_main_v20 val_main_v19 val_main_v9
  pointwise [gs_eq, gl_eq]
  rfl

theorem mix_eq (r : Fin 8192) (b : Fin 1024) : val_main_v21 (F := Ideal) x1 x2 x3 x4 x5 (ix2 r b) = mix x1 x2 x3 x4 x5 r b := by
  unfold val_main_v21
  pointwise [merged_eq]
  rfl

theorem sq_eq (r : Fin 8192) (b : Fin 1) : val_main_v28 (F := Ideal) x1 x2 x3 x4 x5 (ix2 r b) = sq x1 x2 x3 x4 x5 r := by
  unfold val_main_v28 val_main_v27 val_main_v26 val_main_v25 val_main_v24 val_main_v23 val_main_v22 val_main_cst_5 val_main_cst_6 val_main_cst_7
  pointwise [mix_eq, word_1024]
  rfl

theorem dn_eq (r : Fin 8192) (b : Fin 1024) : val_main_v42 (F := Ideal) x0 x6 (ix2 r b) = dn x0 x6 r b := by
  unfold val_main_v42 val_main_v41 val_main_v35
  pointwise
  rfl

theorem dmix_eq (r : Fin 8192) (b : Fin 1024) : val_main_v57 (F := Ideal) x0 x1 x2 x3 x4 x5 x6 (ix2 r b) = dmix x0 x1 x2 x3 x4 x5 x6 r b := by
  unfold val_main_v57 val_main_v56 val_main_v55 val_main_v54 val_main_v53 val_main_v52 val_main_v51 val_main_v50 val_main_v49 val_main_v48 val_main_v47 val_main_v46 val_main_v45 val_main_v44 val_main_v32 val_main_v31 val_main_v30 val_main_v29 val_main_cst_8 val_main_cst_11 val_main_cst_12 val_main_cst_13
  pointwise [mix_eq, sq_eq, dn_eq, word_1024, word_neg_half]
  simp only [Fin.sum_univ_one]
  exact rms_grad (mean_sq_pos (mix x1 x2 x3 x4 x5 r) (k := 1024) (by norm_num)) (dn x0 x6 r b) (mix x1 x2 x3 x4 x5 r b) (dn x0 x6 r) (mix x1 x2 x3 x4 x5 r)

theorem dm_eq (r : Fin 8192) (b : Fin 1024) : val_main_v60 (F := Ideal) x0 x1 x2 x3 x4 x5 x6 (ix2 r b) = dm x0 x1 x2 x3 x4 x5 x6 r b := by
  unfold val_main_v60
  pointwise [dmix_eq]
  rfl

theorem dzs_eq (r : Fin 8192) (b : Fin 1024) : val_main_v67 (F := Ideal) x0 x1 x2 x3 x4 x5 x6 (ix2 r b) = dzs x0 x1 x2 x3 x4 x5 x6 r b := by
  unfold val_main_v67 val_main_v64
  pointwise [dm_eq, gs_eq]
  exact mul_comm _ _

theorem dzl_eq (r : Fin 8192) (b : Fin 1024) : val_main_v68 (F := Ideal) x0 x1 x2 x3 x4 x5 x6 (ix2 r b) = dzl x0 x1 x2 x3 x4 x5 x6 r b := by
  unfold val_main_v68 val_main_v61
  pointwise [dm_eq, gl_eq]
  exact mul_comm _ _

theorem dgs_eq (r : Fin 8192) (b : Fin 1024) : val_main_v69 (F := Ideal) x0 x1 x2 x3 x4 x5 x6 (ix2 r b) = dgs x0 x1 x2 x3 x4 x5 x6 r b := by
  unfold val_main_v69 val_main_v66 val_main_v65 val_main_v8 val_main_v7 val_main_v6 val_main_cst_1
  pointwise [dm_eq, gs_eq]
  exact (mul_assoc _ _ _).symm

theorem dgl_eq (r : Fin 8192) (b : Fin 1024) : val_main_v70 (F := Ideal) x0 x1 x2 x3 x4 x5 x6 (ix2 r b) = dgl x0 x1 x2 x3 x4 x5 x6 r b := by
  unfold val_main_v70 val_main_v63 val_main_v62 val_main_v18 val_main_v17 val_main_v16 val_main_cst_4
  pointwise [dm_eq, gl_eq]
  exact (mul_assoc _ _ _).symm

theorem dw_eq (a b : Fin 1024) : val_main_v59 (F := Ideal) x0 x1 x2 x3 x4 x5 x6 (ix2 a b) = dw x0 x1 x2 x3 x4 x5 x6 a b := by
  unfold val_main_v59 val_main_v58
  pointwise [dmix_eq, merged_eq]
  exact Finset.sum_congr rfl fun r _ => mul_comm _ _

theorem dgp_eq (a : Fin 1) (b : Fin 1024) : val_main_v71 (F := Ideal) x0 x1 x2 x3 x4 x5 (ix2 a b) = dgp x0 x1 x2 x3 x4 x5 a b := by
  unfold val_main_v71 val_main_v43 val_main_v40 val_main_v39 val_main_v38 val_main_v34 val_main_v33 val_main_v29 val_main_cst_9 val_main_cst_10
  pointwise [mix_eq, sq_eq]
  simp only [Fin.sum_univ_one]
  exact Finset.sum_congr rfl fun r _ => mul_comm _ _

end Cert.MergeRefIdeal.Rows

end
-- ==== Proof.MergeClaim.lean ====
/- The claim about the gradient of the merge of the two branches. -/
module

public import proofs.«01_k».proof.Defs
public import proofs.«01_k».proof.Proof.MergeValue
public import proofs.«01_k».proof.Proof.Gen.MergeRefIdeal.Run

@[expose] public section

set_option maxRecDepth 16384
set_option maxHeartbeats 1600000

noncomputable section

namespace Cert.Proof

open Cert.RowLib Idealize.ShloMosaic Idealize.ShloMosaic.TcCoe Idealize.SL.Sem

/-- The kernel's result arrays are those of the reference. -/
theorem merge_value :
    Cert.algebraic_MergeIdeal_MergeRefIdeal (hMergeIdeal := Cert.MergeIdeal.Gen.facts) (hMergeRefIdeal := Cert.MergeRefIdeal.Gen.facts) := by
  intro m g m' g' hpre hag
  refine ⟨fun c => (Cert.MergeIdeal.Gen.dats m 0 c).arrAt 8 Cert.MergeIdeal.cfg0.N, fun c => (Cert.MergeIdeal.Gen.dats m 0 c).arrAt 9 Cert.MergeIdeal.cfg0.N, fun c => (Cert.MergeIdeal.Gen.dats m 0 c).arrAt 10 Cert.MergeIdeal.cfg0.N, fun c => (Cert.MergeIdeal.Gen.dats m 0 c).arrAt 11 Cert.MergeIdeal.cfg0.N, fun c => (Cert.MergeIdeal.Gen.dats m 0 c).arrAt 12 Cert.MergeIdeal.cfg0.N, fun c => (Cert.MergeIdeal.Gen.dats m 0 c).arrAt 13 Cert.MergeIdeal.cfg0.N,
    Cert.MergeIdeal.Value.run_blocks m g, (θ_run _ _ _).mono (fun r h c => ?_) (Cert.MergeRefIdeal.Value.run m' g')⟩
  obtain ⟨e0, e1, e2, e3, e4, e5, e6⟩ := hag c
  exact ⟨((h c).1.trans (Cert.MergeRefIdeal.Read.val_main_v67_eq m' c)).trans (ext2 fun a b => by
      rw [e0, e1, e2, e3, e4, e5, e6]
      exact (Cert.MergeRefIdeal.Rows.dzs_eq _ _ _ _ _ _ _  a b).trans (Cert.MergeIdeal.Rows.res8 m c a b).symm),
    ((h c).2.1.trans (Cert.MergeRefIdeal.Read.val_main_v68_eq m' c)).trans (ext2 fun a b => by
      rw [e0, e1, e2, e3, e4, e5, e6]
      exact (Cert.MergeRefIdeal.Rows.dzl_eq _ _ _ _ _ _ _  a b).trans (Cert.MergeIdeal.Rows.res9 m c a b).symm),
    ((h c).2.2.1.trans (Cert.MergeRefIdeal.Read.val_main_v69_eq m' c)).trans (ext2 fun a b => by
      rw [e0, e1, e2, e3, e4, e5, e6]
      exact (Cert.MergeRefIdeal.Rows.dgs_eq _ _ _ _ _ _ _  a b).trans (Cert.MergeIdeal.Rows.res10 m c a b).symm),
    ((h c).2.2.2.1.trans (Cert.MergeRefIdeal.Read.val_main_v70_eq m' c)).trans (ext2 fun a b => by
      rw [e0, e1, e2, e3, e4, e5, e6]
      exact (Cert.MergeRefIdeal.Rows.dgl_eq _ _ _ _ _ _ _  a b).trans (Cert.MergeIdeal.Rows.res11 m c a b).symm),
    ((h c).2.2.2.2.1.trans (Cert.MergeRefIdeal.Read.val_main_v59_eq m' c)).trans (ext2 fun a b => by
      rw [e0, e1, e2, e3, e4, e5, e6]
      exact (Cert.MergeRefIdeal.Rows.dw_eq _ _ _ _ _ _ _  a b).trans (Cert.MergeIdeal.Rows.res12 m c a b).symm),
    ((h c).2.2.2.2.2.1.trans (Cert.MergeRefIdeal.Read.val_main_v71_eq (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)))).trans (ext2 fun a b => by
      rw [e0, e1, e2, e3, e4, e5]
      exact (Cert.MergeRefIdeal.Rows.dgp_eq _ _ _ _ _ _  a b).trans (Cert.MergeIdeal.Rows.res13 m c a b).symm),
    (h c).2.2.2.2.2.2⟩

end Cert.Proof

end
-- ==== Proof.InKernel.lean ====
/- What the kernel of the gradient of the norm before a layer and of its input projection leaves in its two result arrays. -/
module

public import proofs.«01_k».proof.Proof.Common
public import proofs.«01_k».proof.Proof.Gen.InIdeal.Value

@[expose] public section

set_option maxRecDepth 16384

noncomputable section

namespace Cert.InIdeal.Rows

open Cert.InIdeal Cert.InIdeal.Gen Cert.RowLib Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The last point. -/
abbrev tl : Fin grid0.N := ⟨31, lt_of_lt_of_eq (by decide) N_0.symm⟩

theorem hz : (![0, 0] : Fin 2 → Nat) = fun _ => 0 := funext fun a => by fin_cases a <;> rfl

theorem hz3 : (![0, 0, 0] : Fin 3 → Nat) = fun _ => 0 := funext fun a => by fin_cases a <;> rfl

theorem idx_ext3 {n0 n1 n2 : ℕ} {i : (⟨3, ![n0, n1, n2]⟩ : Shape).Idx} {a : Fin n0} {b : Fin n1} {d : Fin n2}
    (h0 : (i 0).val = a.val) (h1 : (i 1).val = b.val) (h2 : (i 2).val = d.val) : i = ix3 a b d :=
  funext fun x => match x with
    | ⟨0, _⟩ => Fin.ext h0
    | ⟨1, _⟩ => Fin.ext h1
    | ⟨2, _⟩ => Fin.ext h2

/-! ## The blocks of the arguments -/

theorem at0 : ∀ t : Fin grid0.N, win0_0.index t 0 = t.val ∧ win0_0.index t 1 = 0 := by decide +kernel

theorem iblk0_apply (c : Dev nD) (t : Fin cfg0.N) (q : Fin 256) (k : Fin 1024) :
    iblk m c 0 t (ix2 q k) = V m c main_arg0 (ix2 (row 8192 t.val q) k) := by
  unfold iblk
  rw [View.read_apply, cast_eq]
  refine congrArg (V m c main_arg0) (Shape.idx_ext₂ ?_ ?_)
  · refine (Pipeline.Window.rect_emb_val win0_0 t _ 0).trans ((congrArg (· * 256 + q.val) (at0 t).1).trans ?_)
    exact (row_val (T := 32) (B := 256) rfl (lt_of_lt_of_eq t.isLt N_0) q).symm
  · exact Pipeline.Window.rect_emb_val_of_index_zero win0_0 t 1 (at0 t).2 _

theorem at1 : ∀ t : Fin grid0.N, win0_1.index t 0 = t.val ∧ win0_1.index t 1 = 0 := by decide +kernel

theorem iblk1_apply (c : Dev nD) (t : Fin cfg0.N) (q : Fin 256) (k : Fin 1024) :
    iblk m c 1 t (ix2 q k) = V m c main_arg1 (ix2 (row 8192 t.val q) k) := by
  unfold iblk
  rw [View.read_apply, cast_eq]
  refine congrArg (V m c main_arg1) (Shape.idx_ext₂ ?_ ?_)
  · refine (Pipeline.Window.rect_emb_val win0_1 t _ 0).trans ((congrArg (· * 256 + q.val) (at1 t).1).trans ?_)
    exact (row_val (T := 32) (B := 256) rfl (lt_of_lt_of_eq t.isLt N_0) q).symm
  · exact Pipeline.Window.rect_emb_val_of_index_zero win0_1 t 1 (at1 t).2 _

theorem at2 : ∀ t : Fin grid0.N, win0_2.index t 0 = 0 ∧ win0_2.index t 1 = 0 := by decide +kernel

theorem iblk2_eq (c : Dev nD) (t : Fin cfg0.N) : iblk m c 2 t = V m c main_v3 := by
  funext j
  unfold iblk
  rw [View.read_apply, cast_eq]
  refine congrArg (V m c main_v3) (Shape.idx_ext₂ ?_ ?_)
  · exact Pipeline.Window.rect_emb_val_of_index_zero win0_2 t 0 (at2 t).1 _
  · exact Pipeline.Window.rect_emb_val_of_index_zero win0_2 t 1 (at2 t).2 _

theorem at3 : ∀ t : Fin grid0.N, win0_3.index t 0 = t.val ∧ win0_3.index t 1 = 0 := by decide +kernel

theorem iblk3_apply (c : Dev nD) (t : Fin cfg0.N) (q : Fin 256) (k : Fin 512) :
    iblk m c 3 t (ix2 q k) = V m c main_v4 (ix2 (row 8192 t.val q) k) := by
  unfold iblk
  rw [View.read_apply, cast_eq]
  refine congrArg (V m c main_v4) (Shape.idx_ext₂ ?_ ?_)
  · refine (Pipeline.Window.rect_emb_val win0_3 t _ 0).trans ((congrArg (· * 256 + q.val) (at3 t).1).trans ?_)
    exact (row_val (T := 32) (B := 256) rfl (lt_of_lt_of_eq t.isLt N_0) q).symm
  · exact Pipeline.Window.rect_emb_val_of_index_zero win0_3 t 1 (at3 t).2 _

theorem at4 : ∀ t : Fin grid0.N, win0_4.index t 0 = t.val ∧ win0_4.index t 1 = 0 := by decide +kernel

theorem iblk4_apply (c : Dev nD) (t : Fin cfg0.N) (q : Fin 256) (k : Fin 512) :
    iblk m c 4 t (ix2 q k) = V m c main_v5 (ix2 (row 8192 t.val q) k) := by
  unfold iblk
  rw [View.read_apply, cast_eq]
  refine congrArg (V m c main_v5) (Shape.idx_ext₂ ?_ ?_)
  · refine (Pipeline.Window.rect_emb_val win0_4 t _ 0).trans ((congrArg (· * 256 + q.val) (at4 t).1).trans ?_)
    exact (row_val (T := 32) (B := 256) rfl (lt_of_lt_of_eq t.isLt N_0) q).symm
  · exact Pipeline.Window.rect_emb_val_of_index_zero win0_4 t 1 (at4 t).2 _

theorem at5 : ∀ t : Fin grid0.N, win0_5.index t 0 = t.val ∧ win0_5.index t 1 = 0 := by decide +kernel

theorem iblk5_apply (c : Dev nD) (t : Fin cfg0.N) (q : Fin 256) (k : Fin 1280) :
    iblk m c 5 t (ix2 q k) = V m c main_v6 (ix2 (row 8192 t.val q) k) := by
  unfold iblk
  rw [View.read_apply, cast_eq]
  refine congrArg (V m c main_v6) (Shape.idx_ext₂ ?_ ?_)
  · refine (Pipeline.Window.rect_emb_val win0_5 t _ 0).trans ((congrArg (· * 256 + q.val) (at5 t).1).trans ?_)
    exact (row_val (T := 32) (B := 256) rfl (lt_of_lt_of_eq t.isLt N_0) q).symm
  · exact Pipeline.Window.rect_emb_val_of_index_zero win0_5 t 1 (at5 t).2 _

theorem at6 : ∀ t : Fin grid0.N, win0_6.index t 0 = t.val ∧ win0_6.index t 1 = 0 := by decide +kernel

theorem iblk6_apply (c : Dev nD) (t : Fin cfg0.N) (q : Fin 256) (k : Fin 1280) :
    iblk m c 6 t (ix2 q k) = V m c main_v7 (ix2 (row 8192 t.val q) k) := by
  unfold iblk
  rw [View.read_apply, cast_eq]
  refine congrArg (V m c main_v7) (Shape.idx_ext₂ ?_ ?_)
  · refine (Pipeline.Window.rect_emb_val win0_6 t _ 0).trans ((congrArg (· * 256 + q.val) (at6 t).1).trans ?_)
    exact (row_val (T := 32) (B := 256) rfl (lt_of_lt_of_eq t.isLt N_0) q).symm
  · exact Pipeline.Window.rect_emb_val_of_index_zero win0_6 t 1 (at6 t).2 _

theorem at7 : ∀ t : Fin grid0.N, win0_7.index t 0 = t.val ∧ win0_7.index t 1 = 0 := by decide +kernel

theorem iblk7_apply (c : Dev nD) (t : Fin cfg0.N) (q : Fin 256) (k : Fin 1024) :
    iblk m c 7 t (ix2 q k) = V m c main_v8 (ix2 (row 8192 t.val q) k) := by
  unfold iblk
  rw [View.read_apply, cast_eq]
  refine congrArg (V m c main_v8) (Shape.idx_ext₂ ?_ ?_)
  · refine (Pipeline.Window.rect_emb_val win0_7 t _ 0).trans ((congrArg (· * 256 + q.val) (at7 t).1).trans ?_)
    exact (row_val (T := 32) (B := 256) rfl (lt_of_lt_of_eq t.isLt N_0) q).symm
  · exact Pipeline.Window.rect_emb_val_of_index_zero win0_7 t 1 (at7 t).2 _

theorem at8 : ∀ t : Fin grid0.N, win0_8.index t 0 = t.val ∧ win0_8.index t 1 = 0 := by decide +kernel

theorem iblk8_apply (c : Dev nD) (t : Fin cfg0.N) (q : Fin 256) (k : Fin 1024) :
    iblk m c 8 t (ix2 q k) = V m c main_v9 (ix2 (row 8192 t.val q) k) := by
  unfold iblk
  rw [View.read_apply, cast_eq]
  refine congrArg (V m c main_v9) (Shape.idx_ext₂ ?_ ?_)
  · refine (Pipeline.Window.rect_emb_val win0_8 t _ 0).trans ((congrArg (· * 256 + q.val) (at8 t).1).trans ?_)
    exact (row_val (T := 32) (B := 256) rfl (lt_of_lt_of_eq t.isLt N_0) q).symm
  · exact Pipeline.Window.rect_emb_val_of_index_zero win0_8 t 1 (at8 t).2 _

theorem at9 : ∀ t : Fin grid0.N, win0_9.index t 0 = 0 ∧ win0_9.index t 1 = 0 ∧ win0_9.index t 2 = 0 := by decide +kernel

theorem iblk9_apply (c : Dev nD) (t : Fin cfg0.N) (k : Fin 1024) (q : Fin 1408) :
    iblk m c 9 t (ix3 0 k q) = V m c main_v2 (ix3 0 k q) := by
  unfold iblk
  rw [View.read_apply, cast_eq]
  refine congrArg (V m c main_v2) (idx_ext3 ?_ ?_ ?_)
  · exact (Pipeline.Window.rect_emb_val win0_9 t _ 0).trans (congrArg (· * 1 + 0) (at9 t).1)
  · exact Pipeline.Window.rect_emb_val_of_index_zero win0_9 t 1 (at9 t).2.1 _
  · exact Pipeline.Window.rect_emb_val_of_index_zero win0_9 t 2 (at9 t).2.2 _

theorem at10 : ∀ t : Fin grid0.N, win0_10.index t 0 = 1 ∧ win0_10.index t 1 = 0 ∧ win0_10.index t 2 = 0 := by decide +kernel

theorem iblk10_apply (c : Dev nD) (t : Fin cfg0.N) (k : Fin 1024) (q : Fin 1408) :
    iblk m c 10 t (ix3 0 k q) = V m c main_v2 (ix3 1 k q) := by
  unfold iblk
  rw [View.read_apply, cast_eq]
  refine congrArg (V m c main_v2) (idx_ext3 ?_ ?_ ?_)
  · exact (Pipeline.Window.rect_emb_val win0_10 t _ 0).trans (congrArg (· * 1 + 0) (at10 t).1)
  · exact Pipeline.Window.rect_emb_val_of_index_zero win0_10 t 1 (at10 t).2.1 _
  · exact Pipeline.Window.rect_emb_val_of_index_zero win0_10 t 2 (at10 t).2.2 _

theorem at11 : ∀ t : Fin grid0.N, win0_11.index t 0 = 2 ∧ win0_11.index t 1 = 0 ∧ win0_11.index t 2 = 0 := by decide +kernel

theorem iblk11_apply (c : Dev nD) (t : Fin cfg0.N) (k : Fin 1024) (q : Fin 1408) :
    iblk m c 11 t (ix3 0 k q) = V m c main_v2 (ix3 2 k q) := by
  unfold iblk
  rw [View.read_apply, cast_eq]
  refine congrArg (V m c main_v2) (idx_ext3 ?_ ?_ ?_)
  · exact (Pipeline.Window.rect_emb_val win0_11 t _ 0).trans (congrArg (· * 1 + 0) (at11 t).1)
  · exact Pipeline.Window.rect_emb_val_of_index_zero win0_11 t 1 (at11 t).2.1 _
  · exact Pipeline.Window.rect_emb_val_of_index_zero win0_11 t 2 (at11 t).2.2 _

theorem at12 : ∀ t : Fin grid0.N, win0_12.index t 0 = 3 ∧ win0_12.index t 1 = 0 ∧ win0_12.index t 2 = 0 := by decide +kernel

theorem iblk12_apply (c : Dev nD) (t : Fin cfg0.N) (k : Fin 1024) (q : Fin 1408) :
    iblk m c 12 t (ix3 0 k q) = V m c main_v2 (ix3 3 k q) := by
  unfold iblk
  rw [View.read_apply, cast_eq]
  refine congrArg (V m c main_v2) (idx_ext3 ?_ ?_ ?_)
  · exact (Pipeline.Window.rect_emb_val win0_12 t _ 0).trans (congrArg (· * 1 + 0) (at12 t).1)
  · exact Pipeline.Window.rect_emb_val_of_index_zero win0_12 t 1 (at12 t).2.1 _
  · exact Pipeline.Window.rect_emb_val_of_index_zero win0_12 t 2 (at12 t).2.2 _

/-! ## What a point leaves -/

theorem outs_A (c : Dev nD) (t : Fin cfg0.N) (h : t.val % 32 = 0) : outsAt0 m c t.val t.isLt
    = (k0_pay11 (iblk m c 0 t) (iblk m c 1 t) (k0_pay1 (iblk m c 2 t)) (k0_pay2 (iblk m c 10 t)) (k0_pay3 (iblk m c 11 t)) (k0_pay4 (iblk m c 12 t)) (k0_pay5 (iblk m c 3 t) (iblk m c 4 t) (iblk m c 5 t) (iblk m c 6 t) (iblk m c 7 t) (iblk m c 8 t)) (k0_pay6 (iblk m c 3 t) (iblk m c 4 t) (iblk m c 5 t) (iblk m c 6 t) (iblk m c 7 t) (iblk m c 8 t) (iblk m c 9 t)) (k0_pay7 (iblk m c 3 t) (iblk m c 4 t) (iblk m c 5 t) (iblk m c 6 t) (iblk m c 7 t) (iblk m c 8 t)),
       k0_pay13 (iblk m c 0 t) (k0_pay2 (iblk m c 10 t)) (k0_pay3 (iblk m c 11 t)) (k0_pay4 (iblk m c 12 t)) (k0_pay5 (iblk m c 3 t) (iblk m c 4 t) (iblk m c 5 t) (iblk m c 6 t) (iblk m c 7 t) (iblk m c 8 t)) (k0_pay6 (iblk m c 3 t) (iblk m c 4 t) (iblk m c 5 t) (iblk m c 6 t) (iblk m c 7 t) (iblk m c 8 t) (iblk m c 9 t)) (k0_pay7 (iblk m c 3 t) (iblk m c 4 t) (iblk m c 5 t) (iblk m c 6 t) (iblk m c 7 t) (iblk m c 8 t)) (k0_pay12 (F := Ideal))) := by
  refine (outsAt0_A m c t h).trans (Prod.ext ?_ ?_)
  · unfold out0_A_13
    rw [View.read_writes_eq_canon]
    · unfold kernelRun0_A
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread,
        View.ld_unit_zero (S := S256x1024) hz, View.ld_unit_zero (S := S1x1024) hz, View.ld_unit_zero (S := S256x512) hz, View.ld_unit_zero (S := S256x1280) hz, View.ld_unit_zero (S := S1x1024x1408) hz3]
    · intro y
      apply cover0_A_13
  · unfold out0_A_14
    rw [View.read_writes_eq_canon]
    · unfold kernelRun0_A
      dsimp only
      sl_unfold_words
      rw [View.canon_cons_unit_zero (S := S1x1024) hz, View.readCov_unit_zero (S := S1x1024) _ hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread,
        View.ld_unit_zero (S := S256x1024) hz, View.ld_unit_zero (S := S1x1024) hz, View.ld_unit_zero (S := S256x512) hz, View.ld_unit_zero (S := S256x1280) hz, View.ld_unit_zero (S := S1x1024x1408) hz3]
    · intro y
      apply cover0_A_14

theorem outs_B (c : Dev nD) (t : Fin cfg0.N) (h : ¬t.val % 32 = 0) : outsAt0 m c t.val t.isLt
    = (k0_pay11 (iblk m c 0 t) (iblk m c 1 t) (k0_pay1 (iblk m c 2 t)) (k0_pay2 (iblk m c 10 t)) (k0_pay3 (iblk m c 11 t)) (k0_pay4 (iblk m c 12 t)) (k0_pay5 (iblk m c 3 t) (iblk m c 4 t) (iblk m c 5 t) (iblk m c 6 t) (iblk m c 7 t) (iblk m c 8 t)) (k0_pay6 (iblk m c 3 t) (iblk m c 4 t) (iblk m c 5 t) (iblk m c 6 t) (iblk m c 7 t) (iblk m c 8 t) (iblk m c 9 t)) (k0_pay7 (iblk m c 3 t) (iblk m c 4 t) (iblk m c 5 t) (iblk m c 6 t) (iblk m c 7 t) (iblk m c 8 t)),
       k0_pay13 (iblk m c 0 t) (k0_pay2 (iblk m c 10 t)) (k0_pay3 (iblk m c 11 t)) (k0_pay4 (iblk m c 12 t)) (k0_pay5 (iblk m c 3 t) (iblk m c 4 t) (iblk m c 5 t) (iblk m c 6 t) (iblk m c 7 t) (iblk m c 8 t)) (k0_pay6 (iblk m c 3 t) (iblk m c 4 t) (iblk m c 5 t) (iblk m c 6 t) (iblk m c 7 t) (iblk m c 8 t) (iblk m c 9 t)) (k0_pay7 (iblk m c 3 t) (iblk m c 4 t) (iblk m c 5 t) (iblk m c 6 t) (iblk m c 7 t) (iblk m c 8 t)) (outsAt0 m c (t.val - 1) (Nat.lt_of_le_of_lt (Nat.sub_le _ _) t.isLt)).2) := by
  refine (outsAt0_B m c t h).trans (Prod.ext ?_ ?_)
  · unfold out0_B_13
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_14 t).read_unread,
        View.ld_unit_zero (S := S256x1024) hz, View.ld_unit_zero (S := S1x1024) hz, View.ld_unit_zero (S := S256x512) hz, View.ld_unit_zero (S := S256x1280) hz, View.ld_unit_zero (S := S1x1024x1408) hz3]
    · intro y
      apply cover0_B_13
  · unfold out0_B_14
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_14 t).read_unread,
        View.ld_unit_zero (S := S256x1024) hz, View.ld_unit_zero (S := S1x1024) hz, View.ld_unit_zero (S := S256x512) hz, View.ld_unit_zero (S := S256x1280) hz, View.ld_unit_zero (S := S1x1024x1408) hz3]
    · intro y
      apply cover0_B_14

/-! ## The result arrays -/

theorem at13 : ∀ t : Fin grid0.N, win0_13.index t 0 = t.val ∧ win0_13.index t 1 = 0 := by decide +kernel

theorem final13 (c : Dev nD) (t : Fin cfg0.N) (q : Fin 256) (b : Fin 1024) :
    (dats m 0 c).arrAt 13 cfg0.N (ix2 (row 8192 t.val q) b) = (outsAt0 m c t.val t.isLt).1 (ix2 q b) := by
  have e : ((cfg0.win 13).blk t).view.emb (ix2 q b) = ix2 (row 8192 t.val q) b := Shape.idx_ext₂
    ((Pipeline.Window.rect_emb_val win0_13 t _ 0).trans ((congrArg (· * 256 + q.val) (at13 t).1).trans
      (row_val (T := 32) (B := 256) rfl (lt_of_lt_of_eq t.isLt N_0) q).symm))
    (Pipeline.Window.rect_emb_val_of_index_zero win0_13 t 1 (at13 t).2 _)
  refine (congrArg ((dats m 0 c).arrAt 13 cfg0.N) e.symm).trans
    (((dats m 0 c).arrAt_emb_eq_flushed 13 Value.disjoint13 t (flush0_13 t) (ix2 q b)).trans ?_)
  rw [Value.flushed13]
  rfl

theorem at14 : ∀ t : Fin grid0.N, win0_14.index t 0 = 0 ∧ win0_14.index t 1 = 0 := by decide +kernel

theorem final14 (c : Dev nD) :
    (dats m 0 c).arrAt 14 cfg0.N = (outsAt0 m c tl.val tl.isLt).2 := by
  refine (dats m 0 c).arrAt_eq_of_cover 14 _ (fun t hf => ?_) fun i => ?_
  · have ht : t.val = 31 := by
      have h1 := (flush0_14 t).mp hf
      have h2 := lt_of_lt_of_eq t.isLt N_0
      omega
    obtain rfl : t = tl := Fin.ext ht
    rw [Value.flushed14]
    generalize (outsAt0 m c tl.val tl.isLt).2 = G
    have hz' : (fun a => win0_14.index tl a * main_v10_1.ty.shape.size a) = fun _ => 0 :=
      funext fun a => by fin_cases a <;> decide +kernel
    exact (Memref.read_access_unit_zero (Elt Ideal) main_v10_1 hz' (fun a => by rw [congrFun hz' a]; simp) G).symm
  · refine ⟨tl, (flush0_14 _).mpr rfl, ?_⟩
    show i ∈ ((View.whole main_v10_1).slice (win0_14.rect tl)).set
    rw [View.set_slice_whole, Rect.mem_set_unit]
    have h0 : (i 0 : Nat) < 1 := (i 0).isLt
    have h1 : (i 1 : Nat) < 1024 := (i 1).isLt
    have e0 : win0_14.index tl 0 * 1 = 0 := by decide +kernel
    have e1 : win0_14.index tl 1 * 1024 = 0 := by decide +kernel
    intro a
    match a with
    | ⟨0, _⟩ => exact ⟨e0.trans_le (Nat.zero_le _), h0.trans_eq ((congrArg (· + 1) e0).trans (Nat.zero_add _)).symm⟩
    | ⟨1, _⟩ => exact ⟨e1.trans_le (Nat.zero_le _), h1.trans_eq ((congrArg (· + 1024) e1).trans (Nat.zero_add _)).symm⟩

end Cert.InIdeal.Rows

end
-- ==== Proof.InValue.lean ====
/- The gradient of the norm before a layer and of its input projection: the kernel's two result arrays and the derivative of the
   forward lines are the same functions of the arguments. -/
module

public import proofs.«01_k».proof.Proof.InKernel
public import proofs.«01_k».proof.Proof.Gen.InRefIdeal.Read
public import proofs.«01_k».proof.Proof.Norm

@[expose] public section

set_option maxRecDepth 16384

noncomputable section

open Cert.RowLib Idealize.ShloMosaic Idealize.ShloMosaic.TcCoe Idealize.SL.Sem

/-! ## The mathematics -/

namespace Cert.InMath

variable (x dx : (⟨2, ![8192, 1024]⟩ : Shape).Idx → EReal) (d2 d3 : (⟨2, ![8192, 512]⟩ : Shape).Idx → EReal)
  (d4 d5 : (⟨2, ![8192, 1280]⟩ : Shape).Idx → EReal) (d6 d7 : (⟨2, ![8192, 1024]⟩ : Shape).Idx → EReal)
  (gp : (⟨1, ![1024]⟩ : Shape).Idx → EReal) (w : (⟨2, ![1024, 5632]⟩ : Shape).Idx → EReal)

/-- The six cotangents beside each other. -/
def cat (r : Fin 8192) (q : Fin 5632) : EReal :=
  if h : q.val < 512 then d2 (ix2 r ⟨q.val, h⟩)
  else if h1 : q.val - 512 < 512 then d3 (ix2 r ⟨q.val - 512, h1⟩)
  else if h2 : q.val - 512 - 512 < 1280 then d4 (ix2 r ⟨q.val - 512 - 512, h2⟩)
  else if h3 : q.val - 512 - 512 - 1280 < 1280 then d5 (ix2 r ⟨q.val - 512 - 512 - 1280, h3⟩)
  else if h4 : q.val - 512 - 512 - 1280 - 1280 < 1024 then d6 (ix2 r ⟨q.val - 512 - 512 - 1280 - 1280, h4⟩)
  else d7 (ix2 r ⟨q.val - 512 - 512 - 1280 - 1280 - 1024, by omega⟩)

/-- The gradient of the normed rows. -/
def dh (r : Fin 8192) (b : Fin 1024) : EReal := ∑ q : Fin 5632, cat d2 d3 d4 d5 d6 d7 r q * w (ix2 b q)

/-- Column `q` of part `j` of four. -/
def col (j : Fin 4) (q : Fin 1408) : Fin 5632 := ⟨1408 * j.val + q.val, by omega⟩

theorem dh_parts (r : Fin 8192) (b : Fin 1024) : dh d2 d3 d4 d5 d6 d7 w r b
    = (((∑ q, cat d2 d3 d4 d5 d6 d7 r (col 0 q) * w (ix2 b (col 0 q))) + ∑ q, cat d2 d3 d4 d5 d6 d7 r (col 1 q) * w (ix2 b (col 1 q)))
      + ∑ q, cat d2 d3 d4 d5 d6 d7 r (col 2 q) * w (ix2 b (col 2 q))) + ∑ q, cat d2 d3 d4 d5 d6 d7 r (col 3 q) * w (ix2 b (col 3 q)) := by
  unfold dh
  rw [← (finProdFinEquiv (m := 4) (n := 1408)).sum_comp, Fintype.sum_prod_type, Fin.sum_univ_four]
  have e : ∀ (j : Fin 4) (q : Fin 1408), (finProdFinEquiv (j, q) : Fin 5632) = col j q := fun j q => Fin.ext (Nat.add_comm _ _)
  simp only [e]

/-- The mean square of a row, and the small number. -/
def sq (r : Fin 8192) : EReal :=
  Ideal.div (∑ k : Fin 1024, x (ix2 r k) * x (ix2 r k)) ((1024 : ℝ) : EReal) + Ideal.ofBits .f32 0x358637BD#32

def nrm (r : Fin 8192) (b : Fin 1024) : EReal := x (ix2 r b) * Ideal.rsqrt (sq x r)

def dn (r : Fin 8192) (b : Fin 1024) : EReal := dh d2 d3 d4 d5 d6 d7 w r b * gp (ix1 b)

/-- The gradient of the layer's input, both ways together. -/
def din (r : Fin 8192) (b : Fin 1024) : EReal :=
  dx (ix2 r b) + Ideal.rsqrt (sq x r) * (dn d2 d3 d4 d5 d6 d7 gp w r b - nrm x r b
    * Ideal.div (∑ k : Fin 1024, dn d2 d3 d4 d5 d6 d7 gp w r k * nrm x r k) ((1024 : ℝ) : EReal))

def dgp (a : Fin 1) (b : Fin 1024) : EReal := ∑ r : Fin 8192, dh d2 d3 d4 d5 d6 d7 w r b * nrm x r b

end Cert.InMath

/-! ## The kernel -/

namespace Cert.InIdeal.Rows

open Cert.InIdeal Cert.InIdeal.Gen Cert.InMath

variable (m : (ℓ : Loc nD τ sig) → Buf (Elt Ideal) ℓ) (ρ : Dev nD → PrngReg)

theorem V_v2 (c : Dev nD) : V m c main_v2 = transpose S4x1024x1408 [1, 0, 2] (shapeCast S1024x4x1408 (truncf (F := Ideal) .bf16 (m ((c : Thread nD τ).loc main_arg9)) bitsLt_bf16_f32) shapeCasts_S1024x5632_S1024x4x1408) transposes_S1024x4x1408_S4x1024x1408_1_0_2 := by
  unfold V
  simp only [hostOps0]
  after_results
  rfl

theorem V_v3 (c : Dev nD) : V m c main_v3 = shapeCast S1x1024 (m ((c : Thread nD τ).loc main_arg8)) shapeCasts_S1024_S1x1024 := by
  unfold V
  simp only [hostOps0]
  after_results
  rfl

theorem V_v4 (c : Dev nD) : V m c main_v4 = truncf (F := Ideal) .bf16 (m ((c : Thread nD τ).loc main_arg2)) bitsLt_bf16_f32 := by
  unfold V
  simp only [hostOps0]
  after_results

theorem V_v5 (c : Dev nD) : V m c main_v5 = truncf (F := Ideal) .bf16 (m ((c : Thread nD τ).loc main_arg3)) bitsLt_bf16_f32 := by
  unfold V
  simp only [hostOps0]
  after_results

theorem V_v6 (c : Dev nD) : V m c main_v6 = truncf (F := Ideal) .bf16 (m ((c : Thread nD τ).loc main_arg4)) bitsLt_bf16_f32 := by
  unfold V
  simp only [hostOps0]
  after_results

theorem V_v7 (c : Dev nD) : V m c main_v7 = truncf (F := Ideal) .bf16 (m ((c : Thread nD τ).loc main_arg5)) bitsLt_bf16_f32 := by
  unfold V
  simp only [hostOps0]
  after_results

theorem V_v8 (c : Dev nD) : V m c main_v8 = truncf (F := Ideal) .bf16 (m ((c : Thread nD τ).loc main_arg6)) bitsLt_bf16_f32 := by
  unfold V
  simp only [hostOps0]
  after_results

theorem V_v9 (c : Dev nD) : V m c main_v9 = truncf (F := Ideal) .bf16 (m ((c : Thread nD τ).loc main_arg7)) bitsLt_bf16_f32 := by
  unfold V
  simp only [hostOps0]
  after_results

/-! ### The payloads, over blocks of rows -/

section Pay

variable {s : ℕ} {x0 x1 x6 x7 : S8192x1024.Idx → EReal} {x2 x3 : S8192x512.Idx → EReal} {x4 x5 : S8192x1280.Idx → EReal}
  {x8 : S1024.Idx → EReal} {x9 : S1024x5632.Idx → EReal}
  {v0 v1 : Vec Ideal S256x1024 .f32} {v2 : Vec Ideal S1x1024 .f32} {v4 v6 : Vec Ideal S256x512 .bf16} {v8 v10 : Vec Ideal S256x1280 .bf16}
  {v12 v14 : Vec Ideal S256x1024 .bf16} {v16 v18 v20 v22 : Vec Ideal S1x1024x1408 .bf16}
  (h0 : ∀ q k, v0 (ix2 q k) = x0 (ix2 (row 8192 s q) k)) (h1 : ∀ q k, v1 (ix2 q k) = x1 (ix2 (row 8192 s q) k))
  (h2 : ∀ q k, v4 (ix2 q k) = x2 (ix2 (row 8192 s q) k)) (h3 : ∀ q k, v6 (ix2 q k) = x3 (ix2 (row 8192 s q) k))
  (h4 : ∀ q k, v8 (ix2 q k) = x4 (ix2 (row 8192 s q) k)) (h5 : ∀ q k, v10 (ix2 q k) = x5 (ix2 (row 8192 s q) k))
  (h6 : ∀ q k, v12 (ix2 q k) = x6 (ix2 (row 8192 s q) k)) (h7 : ∀ q k, v14 (ix2 q k) = x7 (ix2 (row 8192 s q) k))
  (h8 : ∀ a k, v2 (ix2 a k) = x8 (ix1 k))
  (g0 : ∀ k q, v16 (ix3 0 k q) = x9 (ix2 k (col 0 q))) (g1 : ∀ k q, v18 (ix3 0 k q) = x9 (ix2 k (col 1 q)))
  (g2 : ∀ k q, v20 (ix3 0 k q) = x9 (ix2 k (col 2 q))) (g3 : ∀ k q, v22 (ix3 0 k q) = x9 (ix2 k (col 3 q)))

include h2 h3 h4 h5 h6 h7 in
theorem pay5 (q : Fin 256) (b : Fin 5632) : k0_pay5 v4 v6 v8 v10 v12 v14 (ix2 q b) = cat x2 x3 x4 x5 x6 x7 (row 8192 s q) b := by
  unfold k0_pay5
  pointwise [h2, h3, h4, h5, h6, h7]
  rfl

include h2 h3 h4 h5 h6 h7 in
theorem pay7 (q : Fin 256) (b : Fin 1408) : k0_pay7 v4 v6 v8 v10 v12 v14 (ix2 q b) = cat x2 x3 x4 x5 x6 x7 (row 8192 s q) (col 1 b) := by
  unfold k0_pay7
  pointwise [pay5 h2 h3 h4 h5 h6 h7]
  rfl

include g1 in
theorem pay2 (k : Fin 1024) (q : Fin 1408) : k0_pay2 v18 (ix2 k q) = x9 (ix2 k (col 1 q)) := by
  unfold k0_pay2
  pointwise [g1]

include g2 in
theorem pay3 (k : Fin 1024) (q : Fin 1408) : k0_pay3 v20 (ix2 k q) = x9 (ix2 k (col 2 q)) := by
  unfold k0_pay3
  pointwise [g2]

include g3 in
theorem pay4 (k : Fin 1024) (q : Fin 1408) : k0_pay4 v22 (ix2 k q) = x9 (ix2 k (col 3 q)) := by
  unfold k0_pay4
  pointwise [g3]

include h2 h3 h4 h5 h6 h7 g0 in
theorem pay6 (q : Fin 256) (b : Fin 1024) : k0_pay6 v4 v6 v8 v10 v12 v14 v16 (ix2 q b)
    = ∑ k : Fin 1408, cat x2 x3 x4 x5 x6 x7 (row 8192 s q) (col 0 k) * x9 (ix2 b (col 0 k)) := by
  unfold k0_pay6
  pointwise [pay5 h2 h3 h4 h5 h6 h7, g0]
  rfl

include h2 h3 h4 h5 h6 h7 g0 g1 g2 g3 in
theorem pay8 (q : Fin 256) (b : Fin 1024) : k0_pay8 (k0_pay2 v18) (k0_pay3 v20) (k0_pay4 v22) (k0_pay5 v4 v6 v8 v10 v12 v14) (k0_pay6 v4 v6 v8 v10 v12 v14 v16) (k0_pay7 v4 v6 v8 v10 v12 v14) (ix2 q b) = dh x2 x3 x4 x5 x6 x7 x9 (row 8192 s q) b := by
  refine Eq.trans ?_ (dh_parts x2 x3 x4 x5 x6 x7 x9 _ b).symm
  unfold k0_pay8
  pointwise [pay5 h2 h3 h4 h5 h6 h7, pay6 h2 h3 h4 h5 h6 h7 g0, pay7 h2 h3 h4 h5 h6 h7, pay2 g1, pay3 g2, pay4 g3]
  rfl

include h0 in
theorem pay9 (q : Fin 256) (b : Fin 1) : k0_pay9 v0 (ix2 q b) = Ideal.rsqrt (sq x0 (row 8192 s q)) := by
  unfold k0_pay9
  pointwise [h0, word_1024]
  rfl

include h0 in
theorem pay10 (q : Fin 256) (b : Fin 1024) : k0_pay10 v0 (ix2 q b) = nrm x0 (row 8192 s q) b := by
  unfold k0_pay10
  pointwise [h0, pay9 h0]
  rfl

include h8 in
theorem pay1 (a : Fin 1) (k : Fin 1024) : k0_pay1 v2 (ix2 a k) = x8 (ix1 k) := by
  unfold k0_pay1
  pointwise [h8]

include h0 h1 h2 h3 h4 h5 h6 h7 h8 g0 g1 g2 g3 in
theorem pay11 (q : Fin 256) (b : Fin 1024) : k0_pay11 v0 v1 (k0_pay1 v2) (k0_pay2 v18) (k0_pay3 v20) (k0_pay4 v22) (k0_pay5 v4 v6 v8 v10 v12 v14) (k0_pay6 v4 v6 v8 v10 v12 v14 v16) (k0_pay7 v4 v6 v8 v10 v12 v14) (ix2 q b) = din x0 x1 x2 x3 x4 x5 x6 x7 x8 x9 (row 8192 s q) b := by
  unfold k0_pay11
  pointwise [h1, pay8 h2 h3 h4 h5 h6 h7 g0 g1 g2 g3, pay9 h0, pay10 h0, pay1 h8, word_1024]
  rfl

include h0 h2 h3 h4 h5 h6 h7 g0 g1 g2 g3 in
theorem pay13 (y : Vec Ideal S1x1024 .f32) (a : Fin 1) (b : Fin 1024) : k0_pay13 v0 (k0_pay2 v18) (k0_pay3 v20) (k0_pay4 v22) (k0_pay5 v4 v6 v8 v10 v12 v14) (k0_pay6 v4 v6 v8 v10 v12 v14 v16) (k0_pay7 v4 v6 v8 v10 v12 v14) y (ix2 a b)
    = y (ix2 a b) + ∑ q : Fin 256, dh x2 x3 x4 x5 x6 x7 x9 (row 8192 s q) b * nrm x0 (row 8192 s q) b := by
  unfold k0_pay13
  pointwise [pay8 h2 h3 h4 h5 h6 h7 g0 g1 g2 g3, pay10 h0]

end Pay

theorem zero12 (a : Fin 1) (b : Fin 1024) : k0_pay12 (F := Ideal) (ix2 a b) = 0 := by
  unfold k0_pay12
  pointwise

/-! ### The arguments -/

abbrev a0 (c : Dev nD) : S8192x1024.Idx → EReal := m ((c : Thread nD τ).loc main_arg0)
abbrev a1 (c : Dev nD) : S8192x1024.Idx → EReal := m ((c : Thread nD τ).loc main_arg1)
abbrev a2 (c : Dev nD) : S8192x512.Idx → EReal := m ((c : Thread nD τ).loc main_arg2)
abbrev a3 (c : Dev nD) : S8192x512.Idx → EReal := m ((c : Thread nD τ).loc main_arg3)
abbrev a4 (c : Dev nD) : S8192x1280.Idx → EReal := m ((c : Thread nD τ).loc main_arg4)
abbrev a5 (c : Dev nD) : S8192x1280.Idx → EReal := m ((c : Thread nD τ).loc main_arg5)
abbrev a6 (c : Dev nD) : S8192x1024.Idx → EReal := m ((c : Thread nD τ).loc main_arg6)
abbrev a7 (c : Dev nD) : S8192x1024.Idx → EReal := m ((c : Thread nD τ).loc main_arg7)
abbrev a8 (c : Dev nD) : S1024.Idx → EReal := m ((c : Thread nD τ).loc main_arg8)
abbrev a9 (c : Dev nD) : S1024x5632.Idx → EReal := m ((c : Thread nD τ).loc main_arg9)

theorem b0 (c : Dev nD) (t : Fin cfg0.N) (q : Fin 256) (k : Fin 1024) : iblk m c 0 t (ix2 q k) = a0 m c (ix2 (row 8192 t.val q) k) :=
  (iblk0_apply m c t q k).trans (congrFun (V_main_arg0 m c) _)
theorem b1 (c : Dev nD) (t : Fin cfg0.N) (q : Fin 256) (k : Fin 1024) : iblk m c 1 t (ix2 q k) = a1 m c (ix2 (row 8192 t.val q) k) :=
  (iblk1_apply m c t q k).trans (congrFun (V_main_arg1 m c) _)
theorem b3 (c : Dev nD) (t : Fin cfg0.N) (q : Fin 256) (k : Fin 512) : iblk m c 3 t (ix2 q k) = a2 m c (ix2 (row 8192 t.val q) k) :=
  (iblk3_apply m c t q k).trans (congrFun (V_v4 m c) _)
theorem b4 (c : Dev nD) (t : Fin cfg0.N) (q : Fin 256) (k : Fin 512) : iblk m c 4 t (ix2 q k) = a3 m c (ix2 (row 8192 t.val q) k) :=
  (iblk4_apply m c t q k).trans (congrFun (V_v5 m c) _)
theorem b5 (c : Dev nD) (t : Fin cfg0.N) (q : Fin 256) (k : Fin 1280) : iblk m c 5 t (ix2 q k) = a4 m c (ix2 (row 8192 t.val q) k) :=
  (iblk5_apply m c t q k).trans (congrFun (V_v6 m c) _)
theorem b6 (c : Dev nD) (t : Fin cfg0.N) (q : Fin 256) (k : Fin 1280) : iblk m c 6 t (ix2 q k) = a5 m c (ix2 (row 8192 t.val q) k) :=
  (iblk6_apply m c t q k).trans (congrFun (V_v7 m c) _)
theorem b7 (c : Dev nD) (t : Fin cfg0.N) (q : Fin 256) (k : Fin 1024) : iblk m c 7 t (ix2 q k) = a6 m c (ix2 (row 8192 t.val q) k) :=
  (iblk7_apply m c t q k).trans (congrFun (V_v8 m c) _)
theorem b8 (c : Dev nD) (t : Fin cfg0.N) (q : Fin 256) (k : Fin 1024) : iblk m c 8 t (ix2 q k) = a7 m c (ix2 (row 8192 t.val q) k) :=
  (iblk8_apply m c t q k).trans (congrFun (V_v9 m c) _)
theorem b2 (c : Dev nD) (t : Fin cfg0.N) (a : Fin 1) (k : Fin 1024) : iblk m c 2 t (ix2 a k) = a8 m c (ix1 k) := by
  refine (congrFun (iblk2_eq m c t) _).trans ((congrFun (V_v3 m c) _).trans ?_)
  pointwise

/-- The four parts of the projection, as the host lays them out. -/
theorem parts (c : Dev nD) (j : Fin 4) (k : Fin 1024) (q : Fin 1408) : V m c main_v2 (ix3 j k q) = a9 m c (ix2 k (col j q)) := by
  refine (congrFun (V_v2 m c) _).trans ?_
  pointwise
  exact congrArg (fun e => a9 m c (ix2 k e)) (Fin.ext (congrArg (· + q.val) (Nat.mul_comm _ _)))

theorem b9 (c : Dev nD) (t : Fin cfg0.N) (k : Fin 1024) (q : Fin 1408) : iblk m c 9 t (ix3 0 k q) = a9 m c (ix2 k (col 0 q)) :=
  (iblk9_apply m c t k q).trans (parts m c 0 k q)

theorem b10 (c : Dev nD) (t : Fin cfg0.N) (k : Fin 1024) (q : Fin 1408) : iblk m c 10 t (ix3 0 k q) = a9 m c (ix2 k (col 1 q)) :=
  (iblk10_apply m c t k q).trans (parts m c 1 k q)

theorem b11 (c : Dev nD) (t : Fin cfg0.N) (k : Fin 1024) (q : Fin 1408) : iblk m c 11 t (ix3 0 k q) = a9 m c (ix2 k (col 2 q)) :=
  (iblk11_apply m c t k q).trans (parts m c 2 k q)

theorem b12 (c : Dev nD) (t : Fin cfg0.N) (k : Fin 1024) (q : Fin 1408) : iblk m c 12 t (ix3 0 k q) = a9 m c (ix2 k (col 3 q)) :=
  (iblk12_apply m c t k q).trans (parts m c 3 k q)

/-! ### The result arrays -/

theorem rows13 (c : Dev nD) (t : Fin cfg0.N) (q : Fin 256) (b : Fin 1024) :
    (outsAt0 m c t.val t.isLt).1 (ix2 q b) = din (a0 m c) (a1 m c) (a2 m c) (a3 m c) (a4 m c) (a5 m c) (a6 m c) (a7 m c) (a8 m c) (a9 m c) (row 8192 t.val q) b := by
  by_cases h : t.val % 32 = 0
  · rw [outs_A m c t h]
    exact pay11 (b0 m c t) (b1 m c t) (b3 m c t) (b4 m c t) (b5 m c t) (b6 m c t) (b7 m c t) (b8 m c t) (b2 m c t) (b9 m c t) (b10 m c t) (b11 m c t) (b12 m c t) q b
  · rw [outs_B m c t h]
    exact pay11 (b0 m c t) (b1 m c t) (b3 m c t) (b4 m c t) (b5 m c t) (b6 m c t) (b7 m c t) (b8 m c t) (b2 m c t) (b9 m c t) (b10 m c t) (b11 m c t) (b12 m c t) q b

theorem res13 (c : Dev nD) (r : Fin 8192) (b : Fin 1024) :
    (dats m 0 c).arrAt 13 cfg0.N (ix2 r b) = din (a0 m c) (a1 m c) (a2 m c) (a3 m c) (a4 m c) (a5 m c) (a6 m c) (a7 m c) (a8 m c) (a9 m c) r b := by
  obtain ⟨s, hs, q, rfl⟩ := exists_row (T := 32) (B := 256) rfl r
  exact (final13 m c ⟨s, lt_of_lt_of_eq hs N_0.symm⟩ q b).trans (rows13 m c ⟨s, lt_of_lt_of_eq hs N_0.symm⟩ q b)

theorem sum14 (c : Dev nD) (n : ℕ) (hn : n < cfg0.N) (a : Fin 1) (b : Fin 1024) : (outsAt0 m c n hn).2 (ix2 a b)
    = ∑ s ∈ Finset.range (n + 1), ∑ q : Fin 256, dh (a2 m c) (a3 m c) (a4 m c) (a5 m c) (a6 m c) (a7 m c) (a9 m c) (row 8192 s q) b * nrm (a0 m c) (row 8192 s q) b := by
  refine running (fun n h => (outsAt0 m c n h).2 (ix2 a b)) (fun s => ∑ q : Fin 256, dh (a2 m c) (a3 m c) (a4 m c) (a5 m c) (a6 m c) (a7 m c) (a9 m c) (row 8192 s q) b * nrm (a0 m c) (row 8192 s q) b) (fun h => ?_) (fun n h => ?_) n hn
  · rw [outs_A m c ⟨0, h⟩ rfl]
    exact (pay13 (b0 m c ⟨0, h⟩) (b3 m c ⟨0, h⟩) (b4 m c ⟨0, h⟩) (b5 m c ⟨0, h⟩) (b6 m c ⟨0, h⟩) (b7 m c ⟨0, h⟩) (b8 m c ⟨0, h⟩) (b9 m c ⟨0, h⟩) (b10 m c ⟨0, h⟩) (b11 m c ⟨0, h⟩) (b12 m c ⟨0, h⟩) _ a b).trans ((congrArg (· + _) (zero12 a b)).trans (zero_add _))
  · have hN := lt_of_lt_of_eq h N_0
    rw [outs_B m c ⟨n + 1, h⟩ (show ¬(n + 1) % 32 = 0 by omega)]
    exact pay13 (b0 m c ⟨n + 1, h⟩) (b3 m c ⟨n + 1, h⟩) (b4 m c ⟨n + 1, h⟩) (b5 m c ⟨n + 1, h⟩) (b6 m c ⟨n + 1, h⟩) (b7 m c ⟨n + 1, h⟩) (b8 m c ⟨n + 1, h⟩) (b9 m c ⟨n + 1, h⟩) (b10 m c ⟨n + 1, h⟩) (b11 m c ⟨n + 1, h⟩) (b12 m c ⟨n + 1, h⟩) _ a b

theorem res14 (c : Dev nD) (a : Fin 1) (b : Fin 1024) :
    (dats m 0 c).arrAt 14 cfg0.N (ix2 a b) = dgp (a0 m c) (a2 m c) (a3 m c) (a4 m c) (a5 m c) (a6 m c) (a7 m c) (a9 m c) a b :=
  (congrFun (final14 m c) (ix2 a b)).trans ((sum14 m c 31 tl.isLt a b).trans
    (sum_row (T := 32) (B := 256) rfl fun r => dh (a2 m c) (a3 m c) (a4 m c) (a5 m c) (a6 m c) (a7 m c) (a9 m c) r b * nrm (a0 m c) r b))

end Cert.InIdeal.Rows

/-! ## The reference -/

namespace Cert.InRefIdeal.Rows

open Cert.InRefIdeal Cert.InRefIdeal.Gen Cert.InRefIdeal.Read Cert.InMath

variable (x0 x1 x6 x7 : S8192x1024.Idx → EReal) (x2 x3 : S8192x512.Idx → EReal) (x4 x5 : S8192x1280.Idx → EReal)
  (x8 : S1024.Idx → EReal) (x9 : S1024x5632.Idx → EReal)

theorem cat_eq (r : Fin 8192) (q : Fin 5632) : val_main_v23 (F := Ideal) x2 x3 x4 x5 x6 x7 (ix2 r q) = cat x2 x3 x4 x5 x6 x7 r q := by
  unfold val_main_v23
  pointwise
  rfl

theorem dh_eq (r : Fin 8192) (b : Fin 1024) : val_main_v26 (F := Ideal) x2 x3 x4 x5 x6 x7 x9 (ix2 r b) = dh x2 x3 x4 x5 x6 x7 x9 r b := by
  unfold val_main_v26
  pointwise [cat_eq]
  rfl

theorem sq_eq (r : Fin 8192) (b : Fin 1) : val_main_v6 (F := Ideal) x0 (ix2 r b) = sq x0 r := by
  unfold val_main_v6 val_main_v5 val_main_v4 val_main_v3 val_main_v2 val_main_v1 val_main_v0 val_main_cst val_main_cst_0 val_main_cst_1
  pointwise [word_1024]
  rfl

theorem dn_eq (r : Fin 8192) (b : Fin 1024) : val_main_v31 (F := Ideal) x2 x3 x4 x5 x6 x7 x8 x9 (ix2 r b) = dn x2 x3 x4 x5 x6 x7 x8 x9 r b := by
  unfold val_main_v31 val_main_v30 val_main_v13
  pointwise [dh_eq]
  rfl

theorem din_eq (r : Fin 8192) (b : Fin 1024) : val_main_v47 (F := Ideal) x0 x1 x2 x3 x4 x5 x6 x7 x8 x9 (ix2 r b) = din x0 x1 x2 x3 x4 x5 x6 x7 x8 x9 r b := by
  unfold val_main_v47 val_main_v46 val_main_v45 val_main_v44 val_main_v43 val_main_v42 val_main_v41 val_main_v40 val_main_v39 val_main_v38 val_main_v37 val_main_v36 val_main_v35 val_main_v34 val_main_v33 val_main_v10 val_main_v9 val_main_v8 val_main_v7 val_main_cst_2 val_main_cst_5 val_main_cst_6 val_main_cst_7
  pointwise [sq_eq, dn_eq, word_1024, word_neg_half]
  simp only [Fin.sum_univ_one]
  rw [add_assoc, add_assoc]
  refine congrArg (x1 (ix2 r b) + ·) ?_
  rw [← add_assoc]
  exact rms_grad (mean_sq_pos (fun k => x0 (ix2 r k)) (k := 1024) (by norm_num)) (dn x2 x3 x4 x5 x6 x7 x8 x9 r b) (x0 (ix2 r b)) (dn x2 x3 x4 x5 x6 x7 x8 x9 r) (fun k => x0 (ix2 r k))

theorem dgp_eq (a : Fin 1) (b : Fin 1024) : val_main_v48 (F := Ideal) x0 x2 x3 x4 x5 x6 x7 x9 (ix2 a b) = dgp x0 x2 x3 x4 x5 x6 x7 x9 a b := by
  unfold val_main_v48 val_main_v32 val_main_v29 val_main_v28 val_main_v27 val_main_v12 val_main_v11 val_main_v7 val_main_cst_3 val_main_cst_4
  pointwise [dh_eq, sq_eq]
  simp only [Fin.sum_univ_one]
  exact Finset.sum_congr rfl fun r _ => mul_comm _ _

end Cert.InRefIdeal.Rows

end
-- ==== Proof.InClaim.lean ====
/- The claim about the gradient of the norm before a layer and of its input projection. -/
module

public import proofs.«01_k».proof.Defs
public import proofs.«01_k».proof.Proof.InValue
public import proofs.«01_k».proof.Proof.Gen.InRefIdeal.Run

@[expose] public section

set_option maxRecDepth 16384
set_option maxHeartbeats 1600000

noncomputable section

namespace Cert.Proof

open Cert.RowLib Idealize.ShloMosaic Idealize.ShloMosaic.TcCoe Idealize.SL.Sem

/-- The kernel's result arrays are those of the reference. -/
theorem in_value :
    Cert.algebraic_InIdeal_InRefIdeal (hInIdeal := Cert.InIdeal.Gen.facts) (hInRefIdeal := Cert.InRefIdeal.Gen.facts) := by
  intro m g m' g' hpre hag
  refine ⟨fun c => (Cert.InIdeal.Gen.dats m 0 c).arrAt 13 Cert.InIdeal.cfg0.N, fun c => (Cert.InIdeal.Gen.dats m 0 c).arrAt 14 Cert.InIdeal.cfg0.N,
    Cert.InIdeal.Value.run_blocks m g, (θ_run _ _ _).mono (fun r h c => ?_) (Cert.InRefIdeal.Value.run m' g')⟩
  obtain ⟨e0, e1, e2, e3, e4, e5, e6, e7, e8, e9⟩ := hag c
  exact ⟨((h c).1.trans (Cert.InRefIdeal.Read.val_main_v47_eq m' c)).trans (ext2 fun a b => by
      rw [e0, e1, e2, e3, e4, e5, e6, e7, e8, e9]
      exact (Cert.InRefIdeal.Rows.din_eq _ _ _ _ _ _ _ _ _ _  a b).trans (Cert.InIdeal.Rows.res13 m c a b).symm),
    ((h c).2.1.trans (Cert.InRefIdeal.Read.val_main_v48_eq (m' ((c.tc : Thread Cert.InRefIdeal.nD Cert.InRefIdeal.τ).loc Cert.InRefIdeal.main_arg0)) (m' ((c.tc : Thread Cert.InRefIdeal.nD Cert.InRefIdeal.τ).loc Cert.InRefIdeal.main_arg2)) (m' ((c.tc : Thread Cert.InRefIdeal.nD Cert.InRefIdeal.τ).loc Cert.InRefIdeal.main_arg3)) (m' ((c.tc : Thread Cert.InRefIdeal.nD Cert.InRefIdeal.τ).loc Cert.InRefIdeal.main_arg4)) (m' ((c.tc : Thread Cert.InRefIdeal.nD Cert.InRefIdeal.τ).loc Cert.InRefIdeal.main_arg5)) (m' ((c.tc : Thread Cert.InRefIdeal.nD Cert.InRefIdeal.τ).loc Cert.InRefIdeal.main_arg6)) (m' ((c.tc : Thread Cert.InRefIdeal.nD Cert.InRefIdeal.τ).loc Cert.InRefIdeal.main_arg7)) (m' ((c.tc : Thread Cert.InRefIdeal.nD Cert.InRefIdeal.τ).loc Cert.InRefIdeal.main_arg9)))).trans (ext2 fun a b => by
      rw [e0, e2, e3, e4, e5, e6, e7, e9]
      exact (Cert.InRefIdeal.Rows.dgp_eq _ _ _ _ _ _ _ _  a b).trans (Cert.InIdeal.Rows.res14 m c a b).symm),
    (h c).2.2⟩

end Cert.Proof

end
-- ==== Proof.GatesKernel.lean ====
/- What the kernel of the gradient of the recurrence's gates leaves in its six result arrays. -/
module

public import proofs.«01_k».proof.Proof.Common
public import proofs.«01_k».proof.Proof.Gen.GatesIdeal.Value

@[expose] public section

set_option maxRecDepth 16384

noncomputable section

namespace Cert.GatesIdeal.Rows

open Cert.GatesIdeal Cert.GatesIdeal.Gen Cert.RowLib Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The last point. -/
abbrev tl : Fin grid0.N := ⟨15, lt_of_lt_of_eq (by decide) N_0.symm⟩

theorem hz : (![0, 0] : Fin 2 → Nat) = fun _ => 0 := funext fun a => by fin_cases a <;> rfl

theorem hz3 : (![0, 0, 0] : Fin 3 → Nat) = fun _ => 0 := funext fun a => by fin_cases a <;> rfl

theorem idx_ext3 {n0 n1 n2 : ℕ} {i : (⟨3, ![n0, n1, n2]⟩ : Shape).Idx} {a : Fin n0} {b : Fin n1} {d : Fin n2}
    (h0 : (i 0).val = a.val) (h1 : (i 1).val = b.val) (h2 : (i 2).val = d.val) : i = ix3 a b d :=
  funext fun x => match x with
    | ⟨0, _⟩ => Fin.ext h0
    | ⟨1, _⟩ => Fin.ext h1
    | ⟨2, _⟩ => Fin.ext h2

theorem coord : ∀ t : Fin grid0.N, (grid0.coords t 0).val = t.val := by decide +kernel

/-! ## The stages of a tile -/

/-- A tile of the convolution. -/
def tC (i : grid0.Coords) (x0 : Vec Ideal S512x1280 .f32) (x1 : Vec Ideal S512x1280 .f32) (x2 : Vec Ideal S8x1280 .f32) (x3 : Vec Ideal S512x1280 .bf16) (x4 : Vec Ideal S16x1280 .bf16) (x5 : Vec Ideal S4x1280 .f32) (x6 : Vec Ideal S1x1280 .f32) (x7 : Vec Ideal S10x128x128 .bf16) (x8 : Vec Ideal S1x1280 .f32) (x9 : Vec Ideal S10x128x128 .bf16) (x10 : Vec Ideal S1x1280 .f32) (x11 : Vec Ideal S1x1280 .f32) : Vec Ideal S512x1280 .f32 :=
  k0_pay11 (k0_pay2 x3) x5 (k0_pay8 i x4) (k0_pay9 x3 x5) (k0_pay10 x6)

/-- A tile of the recurrence gate. -/
def tR (i : grid0.Coords) (x0 : Vec Ideal S512x1280 .f32) (x1 : Vec Ideal S512x1280 .f32) (x2 : Vec Ideal S8x1280 .f32) (x3 : Vec Ideal S512x1280 .bf16) (x4 : Vec Ideal S16x1280 .bf16) (x5 : Vec Ideal S4x1280 .f32) (x6 : Vec Ideal S1x1280 .f32) (x7 : Vec Ideal S10x128x128 .bf16) (x8 : Vec Ideal S1x1280 .f32) (x9 : Vec Ideal S10x128x128 .bf16) (x10 : Vec Ideal S1x1280 .f32) (x11 : Vec Ideal S1x1280 .f32) : Vec Ideal S512x1280 .f32 :=
  k0_pay17 (k0_pay3 x7) (k0_pay4 x8) (tC i x0 x1 x2 x3 x4 x5 x6 x7 x8 x9 x10 x11) (k0_pay12 (k0_pay2 x3) x5 (k0_pay3 x7) (k0_pay8 i x4) (k0_pay9 x3 x5) (k0_pay10 x6)) (k0_pay13 (k0_pay2 x3) x5 (k0_pay3 x7) (k0_pay8 i x4) (k0_pay9 x3 x5) (k0_pay10 x6)) (k0_pay14 (k0_pay2 x3) x5 (k0_pay3 x7) (k0_pay8 i x4) (k0_pay9 x3 x5) (k0_pay10 x6)) (k0_pay15 (k0_pay2 x3) x5 (k0_pay8 i x4) (k0_pay9 x3 x5) (k0_pay10 x6)) (k0_pay16 (k0_pay3 x7))

/-- A tile of the input gate. -/
def tI (i : grid0.Coords) (x0 : Vec Ideal S512x1280 .f32) (x1 : Vec Ideal S512x1280 .f32) (x2 : Vec Ideal S8x1280 .f32) (x3 : Vec Ideal S512x1280 .bf16) (x4 : Vec Ideal S16x1280 .bf16) (x5 : Vec Ideal S4x1280 .f32) (x6 : Vec Ideal S1x1280 .f32) (x7 : Vec Ideal S10x128x128 .bf16) (x8 : Vec Ideal S1x1280 .f32) (x9 : Vec Ideal S10x128x128 .bf16) (x10 : Vec Ideal S1x1280 .f32) (x11 : Vec Ideal S1x1280 .f32) : Vec Ideal S512x1280 .f32 :=
  k0_pay21 (k0_pay20 (k0_pay5 x9) (k0_pay6 x10) (tC i x0 x1 x2 x3 x4 x5 x6 x7 x8 x9 x10 x11) (k0_pay18 (k0_pay5 x9) (tC i x0 x1 x2 x3 x4 x5 x6 x7 x8 x9 x10 x11)) (k0_pay19 (tC i x0 x1 x2 x3 x4 x5 x6 x7 x8 x9 x10 x11)))

/-- A tile of the gradient of the logarithm of the decay. -/
def tL (i : grid0.Coords) (x0 : Vec Ideal S512x1280 .f32) (x1 : Vec Ideal S512x1280 .f32) (x2 : Vec Ideal S8x1280 .f32) (x3 : Vec Ideal S512x1280 .bf16) (x4 : Vec Ideal S16x1280 .bf16) (x5 : Vec Ideal S4x1280 .f32) (x6 : Vec Ideal S1x1280 .f32) (x7 : Vec Ideal S10x128x128 .bf16) (x8 : Vec Ideal S1x1280 .f32) (x9 : Vec Ideal S10x128x128 .bf16) (x10 : Vec Ideal S1x1280 .f32) (x11 : Vec Ideal S1x1280 .f32) : Vec Ideal S512x1280 .f32 :=
  k0_pay29 (BitVec.ofNat 32 (i 0).val) x0 x1 x2 (tC i x0 x1 x2 x3 x4 x5 x6 x7 x8 x9 x10 x11) (tI i x0 x1 x2 x3 x4 x5 x6 x7 x8 x9 x10 x11) (k0_pay24 (k0_pay7 x11) (tR i x0 x1 x2 x3 x4 x5 x6 x7 x8 x9 x10 x11)) (k0_pay25 (k0_pay7 x11) (tR i x0 x1 x2 x3 x4 x5 x6 x7 x8 x9 x10 x11)) (k0_pay26 (k0_pay7 x11) (tR i x0 x1 x2 x3 x4 x5 x6 x7 x8 x9 x10 x11)) (k0_pay27 (k0_pay7 x11) (tR i x0 x1 x2 x3 x4 x5 x6 x7 x8 x9 x10 x11))

/-- A tile of the gradient before the recurrence gate's sigmoid. -/
def tPr (i : grid0.Coords) (x0 : Vec Ideal S512x1280 .f32) (x1 : Vec Ideal S512x1280 .f32) (x2 : Vec Ideal S8x1280 .f32) (x3 : Vec Ideal S512x1280 .bf16) (x4 : Vec Ideal S16x1280 .bf16) (x5 : Vec Ideal S4x1280 .f32) (x6 : Vec Ideal S1x1280 .f32) (x7 : Vec Ideal S10x128x128 .bf16) (x8 : Vec Ideal S1x1280 .f32) (x9 : Vec Ideal S10x128x128 .bf16) (x10 : Vec Ideal S1x1280 .f32) (x11 : Vec Ideal S1x1280 .f32) : Vec Ideal S512x1280 .f32 :=
  k0_pay30 (BitVec.ofNat 32 (i 0).val) x0 x1 x2 (tC i x0 x1 x2 x3 x4 x5 x6 x7 x8 x9 x10 x11) (tR i x0 x1 x2 x3 x4 x5 x6 x7 x8 x9 x10 x11) (tI i x0 x1 x2 x3 x4 x5 x6 x7 x8 x9 x10 x11) (k0_pay22 (k0_pay7 x11)) (k0_pay24 (k0_pay7 x11) (tR i x0 x1 x2 x3 x4 x5 x6 x7 x8 x9 x10 x11)) (k0_pay25 (k0_pay7 x11) (tR i x0 x1 x2 x3 x4 x5 x6 x7 x8 x9 x10 x11)) (k0_pay26 (k0_pay7 x11) (tR i x0 x1 x2 x3 x4 x5 x6 x7 x8 x9 x10 x11)) (k0_pay27 (k0_pay7 x11) (tR i x0 x1 x2 x3 x4 x5 x6 x7 x8 x9 x10 x11))

/-- A tile of the gradient before the input gate's sigmoid. -/
def tPi (i : grid0.Coords) (x0 : Vec Ideal S512x1280 .f32) (x1 : Vec Ideal S512x1280 .f32) (x2 : Vec Ideal S8x1280 .f32) (x3 : Vec Ideal S512x1280 .bf16) (x4 : Vec Ideal S16x1280 .bf16) (x5 : Vec Ideal S4x1280 .f32) (x6 : Vec Ideal S1x1280 .f32) (x7 : Vec Ideal S10x128x128 .bf16) (x8 : Vec Ideal S1x1280 .f32) (x9 : Vec Ideal S10x128x128 .bf16) (x10 : Vec Ideal S1x1280 .f32) (x11 : Vec Ideal S1x1280 .f32) : Vec Ideal S512x1280 .f32 :=
  k0_pay31 x0 (tC i x0 x1 x2 x3 x4 x5 x6 x7 x8 x9 x10 x11) (tI i x0 x1 x2 x3 x4 x5 x6 x7 x8 x9 x10 x11) (k0_pay25 (k0_pay7 x11) (tR i x0 x1 x2 x3 x4 x5 x6 x7 x8 x9 x10 x11)) (k0_pay26 (k0_pay7 x11) (tR i x0 x1 x2 x3 x4 x5 x6 x7 x8 x9 x10 x11)) (k0_pay27 (k0_pay7 x11) (tR i x0 x1 x2 x3 x4 x5 x6 x7 x8 x9 x10 x11))

/-- A tile of the first two terms of the gradient of the convolution. -/
def tS (i : grid0.Coords) (x0 : Vec Ideal S512x1280 .f32) (x1 : Vec Ideal S512x1280 .f32) (x2 : Vec Ideal S8x1280 .f32) (x3 : Vec Ideal S512x1280 .bf16) (x4 : Vec Ideal S16x1280 .bf16) (x5 : Vec Ideal S4x1280 .f32) (x6 : Vec Ideal S1x1280 .f32) (x7 : Vec Ideal S10x128x128 .bf16) (x8 : Vec Ideal S1x1280 .f32) (x9 : Vec Ideal S10x128x128 .bf16) (x10 : Vec Ideal S1x1280 .f32) (x11 : Vec Ideal S1x1280 .f32) : Vec Ideal S512x1280 .f32 :=
  k0_pay35 (k0_pay3 x7) (tPr i x0 x1 x2 x3 x4 x5 x6 x7 x8 x9 x10 x11) (k0_pay32 x0 (tI i x0 x1 x2 x3 x4 x5 x6 x7 x8 x9 x10 x11) (k0_pay25 (k0_pay7 x11) (tR i x0 x1 x2 x3 x4 x5 x6 x7 x8 x9 x10 x11)) (k0_pay26 (k0_pay7 x11) (tR i x0 x1 x2 x3 x4 x5 x6 x7 x8 x9 x10 x11)) (k0_pay27 (k0_pay7 x11) (tR i x0 x1 x2 x3 x4 x5 x6 x7 x8 x9 x10 x11))) (k0_pay33 (BitVec.ofNat 32 (i 0).val) x0 x1 x2 (k0_pay3 x7) (tC i x0 x1 x2 x3 x4 x5 x6 x7 x8 x9 x10 x11) (tR i x0 x1 x2 x3 x4 x5 x6 x7 x8 x9 x10 x11) (tI i x0 x1 x2 x3 x4 x5 x6 x7 x8 x9 x10 x11) (k0_pay22 (k0_pay7 x11)) (k0_pay24 (k0_pay7 x11) (tR i x0 x1 x2 x3 x4 x5 x6 x7 x8 x9 x10 x11)) (k0_pay25 (k0_pay7 x11) (tR i x0 x1 x2 x3 x4 x5 x6 x7 x8 x9 x10 x11)) (k0_pay26 (k0_pay7 x11) (tR i x0 x1 x2 x3 x4 x5 x6 x7 x8 x9 x10 x11)) (k0_pay27 (k0_pay7 x11) (tR i x0 x1 x2 x3 x4 x5 x6 x7 x8 x9 x10 x11))) (k0_pay34 (BitVec.ofNat 32 (i 0).val) x0 x1 x2 (k0_pay3 x7) (tC i x0 x1 x2 x3 x4 x5 x6 x7 x8 x9 x10 x11) (tR i x0 x1 x2 x3 x4 x5 x6 x7 x8 x9 x10 x11) (tI i x0 x1 x2 x3 x4 x5 x6 x7 x8 x9 x10 x11) (k0_pay22 (k0_pay7 x11)) (k0_pay24 (k0_pay7 x11) (tR i x0 x1 x2 x3 x4 x5 x6 x7 x8 x9 x10 x11)) (k0_pay25 (k0_pay7 x11) (tR i x0 x1 x2 x3 x4 x5 x6 x7 x8 x9 x10 x11)) (k0_pay26 (k0_pay7 x11) (tR i x0 x1 x2 x3 x4 x5 x6 x7 x8 x9 x10 x11)) (k0_pay27 (k0_pay7 x11) (tR i x0 x1 x2 x3 x4 x5 x6 x7 x8 x9 x10 x11)))

/-- A tile of the gradient of the convolution. -/
def tDc (i : grid0.Coords) (x0 : Vec Ideal S512x1280 .f32) (x1 : Vec Ideal S512x1280 .f32) (x2 : Vec Ideal S8x1280 .f32) (x3 : Vec Ideal S512x1280 .bf16) (x4 : Vec Ideal S16x1280 .bf16) (x5 : Vec Ideal S4x1280 .f32) (x6 : Vec Ideal S1x1280 .f32) (x7 : Vec Ideal S10x128x128 .bf16) (x8 : Vec Ideal S1x1280 .f32) (x9 : Vec Ideal S10x128x128 .bf16) (x10 : Vec Ideal S1x1280 .f32) (x11 : Vec Ideal S1x1280 .f32) : Vec Ideal S512x1280 .bf16 :=
  k0_pay61 (k0_pay39 (k0_pay5 x9) (tPi i x0 x1 x2 x3 x4 x5 x6 x7 x8 x9 x10 x11) (tS i x0 x1 x2 x3 x4 x5 x6 x7 x8 x9 x10 x11) (k0_pay36 (k0_pay5 x9) (tPi i x0 x1 x2 x3 x4 x5 x6 x7 x8 x9 x10 x11)) (k0_pay37 (k0_pay5 x9)) (k0_pay38 (tPi i x0 x1 x2 x3 x4 x5 x6 x7 x8 x9 x10 x11)))

/-- A tile of the gradient of the recurrence gate's weights. -/
def tWa (i : grid0.Coords) (x0 : Vec Ideal S512x1280 .f32) (x1 : Vec Ideal S512x1280 .f32) (x2 : Vec Ideal S8x1280 .f32) (x3 : Vec Ideal S512x1280 .bf16) (x4 : Vec Ideal S16x1280 .bf16) (x5 : Vec Ideal S4x1280 .f32) (x6 : Vec Ideal S1x1280 .f32) (x7 : Vec Ideal S10x128x128 .bf16) (x8 : Vec Ideal S1x1280 .f32) (x9 : Vec Ideal S10x128x128 .bf16) (x10 : Vec Ideal S1x1280 .f32) (x11 : Vec Ideal S1x1280 .f32) : Vec Ideal S10x128x128 .f32 :=
  k0_pay51 (F := Ideal) (tC i x0 x1 x2 x3 x4 x5 x6 x7 x8 x9 x10 x11) (tPr i x0 x1 x2 x3 x4 x5 x6 x7 x8 x9 x10 x11) (k0_pay42 (tC i x0 x1 x2 x3 x4 x5 x6 x7 x8 x9 x10 x11) (tPr i x0 x1 x2 x3 x4 x5 x6 x7 x8 x9 x10 x11)) (k0_pay43 (tC i x0 x1 x2 x3 x4 x5 x6 x7 x8 x9 x10 x11) (tPr i x0 x1 x2 x3 x4 x5 x6 x7 x8 x9 x10 x11)) (k0_pay44 (tC i x0 x1 x2 x3 x4 x5 x6 x7 x8 x9 x10 x11) (tPr i x0 x1 x2 x3 x4 x5 x6 x7 x8 x9 x10 x11)) (k0_pay45 (tC i x0 x1 x2 x3 x4 x5 x6 x7 x8 x9 x10 x11) (tPr i x0 x1 x2 x3 x4 x5 x6 x7 x8 x9 x10 x11)) (k0_pay46 (tC i x0 x1 x2 x3 x4 x5 x6 x7 x8 x9 x10 x11) (tPr i x0 x1 x2 x3 x4 x5 x6 x7 x8 x9 x10 x11)) (k0_pay47 (tC i x0 x1 x2 x3 x4 x5 x6 x7 x8 x9 x10 x11) (tPr i x0 x1 x2 x3 x4 x5 x6 x7 x8 x9 x10 x11)) (k0_pay48 (tC i x0 x1 x2 x3 x4 x5 x6 x7 x8 x9 x10 x11) (tPr i x0 x1 x2 x3 x4 x5 x6 x7 x8 x9 x10 x11)) (k0_pay49 (tC i x0 x1 x2 x3 x4 x5 x6 x7 x8 x9 x10 x11)) (k0_pay50 (tPr i x0 x1 x2 x3 x4 x5 x6 x7 x8 x9 x10 x11)) (constant S128x128 .f32 0x00000000#32)

/-- A tile of the gradient of the input gate's weights. -/
def tWx (i : grid0.Coords) (x0 : Vec Ideal S512x1280 .f32) (x1 : Vec Ideal S512x1280 .f32) (x2 : Vec Ideal S8x1280 .f32) (x3 : Vec Ideal S512x1280 .bf16) (x4 : Vec Ideal S16x1280 .bf16) (x5 : Vec Ideal S4x1280 .f32) (x6 : Vec Ideal S1x1280 .f32) (x7 : Vec Ideal S10x128x128 .bf16) (x8 : Vec Ideal S1x1280 .f32) (x9 : Vec Ideal S10x128x128 .bf16) (x10 : Vec Ideal S1x1280 .f32) (x11 : Vec Ideal S1x1280 .f32) : Vec Ideal S10x128x128 .f32 :=
  k0_pay58 (F := Ideal) (tC i x0 x1 x2 x3 x4 x5 x6 x7 x8 x9 x10 x11) (tPi i x0 x1 x2 x3 x4 x5 x6 x7 x8 x9 x10 x11) (k0_pay52 (tC i x0 x1 x2 x3 x4 x5 x6 x7 x8 x9 x10 x11) (tPi i x0 x1 x2 x3 x4 x5 x6 x7 x8 x9 x10 x11)) (k0_pay53 (tC i x0 x1 x2 x3 x4 x5 x6 x7 x8 x9 x10 x11) (tPi i x0 x1 x2 x3 x4 x5 x6 x7 x8 x9 x10 x11)) (k0_pay54 (tC i x0 x1 x2 x3 x4 x5 x6 x7 x8 x9 x10 x11) (tPi i x0 x1 x2 x3 x4 x5 x6 x7 x8 x9 x10 x11)) (k0_pay55 (tC i x0 x1 x2 x3 x4 x5 x6 x7 x8 x9 x10 x11) (tPi i x0 x1 x2 x3 x4 x5 x6 x7 x8 x9 x10 x11)) (k0_pay56 (tC i x0 x1 x2 x3 x4 x5 x6 x7 x8 x9 x10 x11) (tPi i x0 x1 x2 x3 x4 x5 x6 x7 x8 x9 x10 x11)) (k0_pay57 (tC i x0 x1 x2 x3 x4 x5 x6 x7 x8 x9 x10 x11) (tPi i x0 x1 x2 x3 x4 x5 x6 x7 x8 x9 x10 x11))

/-- A tile of the gradient of the decay's parameter. -/
def tLam (i : grid0.Coords) (x0 : Vec Ideal S512x1280 .f32) (x1 : Vec Ideal S512x1280 .f32) (x2 : Vec Ideal S8x1280 .f32) (x3 : Vec Ideal S512x1280 .bf16) (x4 : Vec Ideal S16x1280 .bf16) (x5 : Vec Ideal S4x1280 .f32) (x6 : Vec Ideal S1x1280 .f32) (x7 : Vec Ideal S10x128x128 .bf16) (x8 : Vec Ideal S1x1280 .f32) (x9 : Vec Ideal S10x128x128 .bf16) (x10 : Vec Ideal S1x1280 .f32) (x11 : Vec Ideal S1x1280 .f32) : Vec Ideal S1x1280 .f32 :=
  k0_pay41 (k0_pay7 x11) (k0_pay40 (tR i x0 x1 x2 x3 x4 x5 x6 x7 x8 x9 x10 x11) (tL i x0 x1 x2 x3 x4 x5 x6 x7 x8 x9 x10 x11)) (Scalar.ofBits .f32 0x00000000#32)

/-! ## The rows before a block -/

theorem at2 : ∀ t : Fin grid0.N, win0_2.index t 0 = 64 * t.val - 1 ∧ win0_2.index t 1 = 0 := by decide +kernel

theorem iblk2_apply (c : Dev nD) (t : Fin cfg0.N) (q : Fin 8) (k : Fin 1280) :
    iblk m c 2 t (ix2 q k) = V m c main_arg1 (ix2 ⟨(64 * t.val - 1) * 8 + q.val,
      by have := lt_of_lt_of_eq t.isLt N_0; have : (64 * t.val - 1) ≤ 959 := by omega
         omega⟩ k) := by
  unfold iblk
  rw [View.read_apply, cast_eq]
  refine congrArg (V m c main_arg1) (Shape.idx_ext₂ ?_ ?_)
  · exact (Pipeline.Window.rect_emb_val win0_2 t _ 0).trans (congrArg (· * 8 + q.val) (at2 t).1)
  · exact Pipeline.Window.rect_emb_val_of_index_zero win0_2 t 1 (at2 t).2 _

theorem at4 : ∀ t : Fin grid0.N, win0_4.index t 0 = 32 * t.val - 1 ∧ win0_4.index t 1 = 0 := by decide +kernel

theorem iblk4_apply (c : Dev nD) (t : Fin cfg0.N) (q : Fin 16) (k : Fin 1280) :
    iblk m c 4 t (ix2 q k) = V m c main_v0 (ix2 ⟨(32 * t.val - 1) * 16 + q.val,
      by have := lt_of_lt_of_eq t.isLt N_0; have : (32 * t.val - 1) ≤ 479 := by omega
         omega⟩ k) := by
  unfold iblk
  rw [View.read_apply, cast_eq]
  refine congrArg (V m c main_v0) (Shape.idx_ext₂ ?_ ?_)
  · exact (Pipeline.Window.rect_emb_val win0_4 t _ 0).trans (congrArg (· * 16 + q.val) (at4 t).1)
  · exact Pipeline.Window.rect_emb_val_of_index_zero win0_4 t 1 (at4 t).2 _

/-! ## The blocks of the arguments -/

theorem at0 : ∀ t : Fin grid0.N, win0_0.index t 0 = t.val ∧ win0_0.index t 1 = 0 := by decide +kernel

theorem iblk0_apply (c : Dev nD) (t : Fin cfg0.N) (q : Fin 512) (k : Fin 1280) :
    iblk m c 0 t (ix2 q k) = V m c main_arg0 (ix2 (row 8192 t.val q) k) := by
  unfold iblk
  rw [View.read_apply, cast_eq]
  refine congrArg (V m c main_arg0) (Shape.idx_ext₂ ?_ ?_)
  · refine (Pipeline.Window.rect_emb_val win0_0 t _ 0).trans ((congrArg (· * 512 + q.val) (at0 t).1).trans ?_)
    exact (row_val (T := 16) (B := 512) rfl (lt_of_lt_of_eq t.isLt N_0) q).symm
  · exact Pipeline.Window.rect_emb_val_of_index_zero win0_0 t 1 (at0 t).2 _

theorem at1 : ∀ t : Fin grid0.N, win0_1.index t 0 = t.val ∧ win0_1.index t 1 = 0 := by decide +kernel

theorem iblk1_apply (c : Dev nD) (t : Fin cfg0.N) (q : Fin 512) (k : Fin 1280) :
    iblk m c 1 t (ix2 q k) = V m c main_arg1 (ix2 (row 8192 t.val q) k) := by
  unfold iblk
  rw [View.read_apply, cast_eq]
  refine congrArg (V m c main_arg1) (Shape.idx_ext₂ ?_ ?_)
  · refine (Pipeline.Window.rect_emb_val win0_1 t _ 0).trans ((congrArg (· * 512 + q.val) (at1 t).1).trans ?_)
    exact (row_val (T := 16) (B := 512) rfl (lt_of_lt_of_eq t.isLt N_0) q).symm
  · exact Pipeline.Window.rect_emb_val_of_index_zero win0_1 t 1 (at1 t).2 _

theorem at3 : ∀ t : Fin grid0.N, win0_3.index t 0 = t.val ∧ win0_3.index t 1 = 0 := by decide +kernel

theorem iblk3_apply (c : Dev nD) (t : Fin cfg0.N) (q : Fin 512) (k : Fin 1280) :
    iblk m c 3 t (ix2 q k) = V m c main_v0 (ix2 (row 8192 t.val q) k) := by
  unfold iblk
  rw [View.read_apply, cast_eq]
  refine congrArg (V m c main_v0) (Shape.idx_ext₂ ?_ ?_)
  · refine (Pipeline.Window.rect_emb_val win0_3 t _ 0).trans ((congrArg (· * 512 + q.val) (at3 t).1).trans ?_)
    exact (row_val (T := 16) (B := 512) rfl (lt_of_lt_of_eq t.isLt N_0) q).symm
  · exact Pipeline.Window.rect_emb_val_of_index_zero win0_3 t 1 (at3 t).2 _

theorem at5 : ∀ t : Fin grid0.N, win0_5.index t 0 = 0 ∧ win0_5.index t 1 = 0 := by decide +kernel

theorem iblk5_eq (c : Dev nD) (t : Fin cfg0.N) : iblk m c 5 t = V m c main_arg3 := by
  funext j
  unfold iblk
  rw [View.read_apply, cast_eq]
  refine congrArg (V m c main_arg3) (Shape.idx_ext₂ ?_ ?_)
  · exact Pipeline.Window.rect_emb_val_of_index_zero win0_5 t 0 (at5 t).1 _
  · exact Pipeline.Window.rect_emb_val_of_index_zero win0_5 t 1 (at5 t).2 _

theorem at6 : ∀ t : Fin grid0.N, win0_6.index t 0 = 0 ∧ win0_6.index t 1 = 0 := by decide +kernel

theorem iblk6_eq (c : Dev nD) (t : Fin cfg0.N) : iblk m c 6 t = V m c main_v1 := by
  funext j
  unfold iblk
  rw [View.read_apply, cast_eq]
  refine congrArg (V m c main_v1) (Shape.idx_ext₂ ?_ ?_)
  · exact Pipeline.Window.rect_emb_val_of_index_zero win0_6 t 0 (at6 t).1 _
  · exact Pipeline.Window.rect_emb_val_of_index_zero win0_6 t 1 (at6 t).2 _

theorem at7 : ∀ t : Fin grid0.N, win0_7.index t 0 = 0 ∧ win0_7.index t 1 = 0 ∧ win0_7.index t 2 = 0 := by decide +kernel

theorem iblk7_eq (c : Dev nD) (t : Fin cfg0.N) : iblk m c 7 t = V m c main_v2 := by
  funext j
  unfold iblk
  rw [View.read_apply, cast_eq]
  refine congrArg (V m c main_v2) ((idx_ext3 (a := j 0) (b := j 1) (d := j 2) ?_ ?_ ?_).trans (idx_ext3 rfl rfl rfl).symm)
  · exact Pipeline.Window.rect_emb_val_of_index_zero win0_7 t 0 (at7 t).1 _
  · exact Pipeline.Window.rect_emb_val_of_index_zero win0_7 t 1 (at7 t).2.1 _
  · exact Pipeline.Window.rect_emb_val_of_index_zero win0_7 t 2 (at7 t).2.2 _

theorem at8 : ∀ t : Fin grid0.N, win0_8.index t 0 = 0 ∧ win0_8.index t 1 = 0 := by decide +kernel

theorem iblk8_eq (c : Dev nD) (t : Fin cfg0.N) : iblk m c 8 t = V m c main_v4 := by
  funext j
  unfold iblk
  rw [View.read_apply, cast_eq]
  refine congrArg (V m c main_v4) (Shape.idx_ext₂ ?_ ?_)
  · exact Pipeline.Window.rect_emb_val_of_index_zero win0_8 t 0 (at8 t).1 _
  · exact Pipeline.Window.rect_emb_val_of_index_zero win0_8 t 1 (at8 t).2 _

theorem at9 : ∀ t : Fin grid0.N, win0_9.index t 0 = 0 ∧ win0_9.index t 1 = 0 ∧ win0_9.index t 2 = 0 := by decide +kernel

theorem iblk9_eq (c : Dev nD) (t : Fin cfg0.N) : iblk m c 9 t = V m c main_v3 := by
  funext j
  unfold iblk
  rw [View.read_apply, cast_eq]
  refine congrArg (V m c main_v3) ((idx_ext3 (a := j 0) (b := j 1) (d := j 2) ?_ ?_ ?_).trans (idx_ext3 rfl rfl rfl).symm)
  · exact Pipeline.Window.rect_emb_val_of_index_zero win0_9 t 0 (at9 t).1 _
  · exact Pipeline.Window.rect_emb_val_of_index_zero win0_9 t 1 (at9 t).2.1 _
  · exact Pipeline.Window.rect_emb_val_of_index_zero win0_9 t 2 (at9 t).2.2 _

theorem at10 : ∀ t : Fin grid0.N, win0_10.index t 0 = 0 ∧ win0_10.index t 1 = 0 := by decide +kernel

theorem iblk10_eq (c : Dev nD) (t : Fin cfg0.N) : iblk m c 10 t = V m c main_v5 := by
  funext j
  unfold iblk
  rw [View.read_apply, cast_eq]
  refine congrArg (V m c main_v5) (Shape.idx_ext₂ ?_ ?_)
  · exact Pipeline.Window.rect_emb_val_of_index_zero win0_10 t 0 (at10 t).1 _
  · exact Pipeline.Window.rect_emb_val_of_index_zero win0_10 t 1 (at10 t).2 _

theorem at11 : ∀ t : Fin grid0.N, win0_11.index t 0 = 0 ∧ win0_11.index t 1 = 0 := by decide +kernel

theorem iblk11_eq (c : Dev nD) (t : Fin cfg0.N) : iblk m c 11 t = V m c main_v6 := by
  funext j
  unfold iblk
  rw [View.read_apply, cast_eq]
  refine congrArg (V m c main_v6) (Shape.idx_ext₂ ?_ ?_)
  · exact Pipeline.Window.rect_emb_val_of_index_zero win0_11 t 0 (at11 t).1 _
  · exact Pipeline.Window.rect_emb_val_of_index_zero win0_11 t 1 (at11 t).2 _

/-! ## What a point leaves -/

theorem outs_A (c : Dev nD) (t : Fin cfg0.N) (h : t.val % 16 = 0) : outsAt0 m c t.val t.isLt
    = (tDc (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
       k0_pay63 (F := Ideal) (tWa (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay62 (F := Ideal)),
       k0_pay65 (F := Ideal) (tWx (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay64 (F := Ideal)),
       k0_pay67 (F := Ideal) (k0_pay59 (F := Ideal) (tPr (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))) (k0_pay66 (F := Ideal)),
       k0_pay69 (F := Ideal) (k0_pay60 (F := Ideal) (tPi (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))) (k0_pay68 (F := Ideal)),
       k0_pay1 (F := Ideal) (tLam (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay71 (F := Ideal) (k0_pay70 (F := Ideal)))) := by
  refine (outsAt0_A m c t h h h h h).trans (Prod.ext ?_ (Prod.ext ?_ (Prod.ext ?_ (Prod.ext ?_ (Prod.ext ?_ ?_)))))
  · unfold out0_A_12
    rw [View.read_writes_eq_canon]
    · unfold kernelRun0_A
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
        View.ld_unit_zero (S := S512x1280) hz, View.ld_unit_zero (S := S8x1280) hz, View.ld_unit_zero (S := S16x1280) hz, View.ld_unit_zero (S := S4x1280) hz, View.ld_unit_zero (S := S1x1280) hz, View.ld_unit_zero (S := S10x128x128) hz3]
      try rfl
    · intro y
      apply cover0_A_12
  · unfold out0_A_13
    rw [View.read_writes_eq_canon]
    · unfold kernelRun0_A
      dsimp only
      sl_unfold_words
      rw [View.canon_cons_unit_zero (S := S10x128x128) hz3, View.readCov_unit_zero (S := S10x128x128) _ hz3]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
        View.ld_unit_zero (S := S512x1280) hz, View.ld_unit_zero (S := S8x1280) hz, View.ld_unit_zero (S := S16x1280) hz, View.ld_unit_zero (S := S4x1280) hz, View.ld_unit_zero (S := S1x1280) hz, View.ld_unit_zero (S := S10x128x128) hz3]
      try rfl
    · intro y
      apply cover0_A_13
  · unfold out0_A_14
    rw [View.read_writes_eq_canon]
    · unfold kernelRun0_A
      dsimp only
      sl_unfold_words
      rw [View.canon_cons_unit_zero (S := S10x128x128) hz3, View.readCov_unit_zero (S := S10x128x128) _ hz3]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
        View.ld_unit_zero (S := S512x1280) hz, View.ld_unit_zero (S := S8x1280) hz, View.ld_unit_zero (S := S16x1280) hz, View.ld_unit_zero (S := S4x1280) hz, View.ld_unit_zero (S := S1x1280) hz, View.ld_unit_zero (S := S10x128x128) hz3]
      try rfl
    · intro y
      apply cover0_A_14
  · unfold out0_A_15
    rw [View.read_writes_eq_canon]
    · unfold kernelRun0_A
      dsimp only
      sl_unfold_words
      rw [View.canon_cons_unit_zero (S := S1x1280) hz, View.readCov_unit_zero (S := S1x1280) _ hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
        View.ld_unit_zero (S := S512x1280) hz, View.ld_unit_zero (S := S8x1280) hz, View.ld_unit_zero (S := S16x1280) hz, View.ld_unit_zero (S := S4x1280) hz, View.ld_unit_zero (S := S1x1280) hz, View.ld_unit_zero (S := S10x128x128) hz3]
      try rfl
    · intro y
      apply cover0_A_15
  · unfold out0_A_16
    rw [View.read_writes_eq_canon]
    · unfold kernelRun0_A
      dsimp only
      sl_unfold_words
      rw [View.canon_cons_unit_zero (S := S1x1280) hz, View.readCov_unit_zero (S := S1x1280) _ hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
        View.ld_unit_zero (S := S512x1280) hz, View.ld_unit_zero (S := S8x1280) hz, View.ld_unit_zero (S := S16x1280) hz, View.ld_unit_zero (S := S4x1280) hz, View.ld_unit_zero (S := S1x1280) hz, View.ld_unit_zero (S := S10x128x128) hz3]
      try rfl
    · intro y
      apply cover0_A_16
  · unfold out0_A_17
    rw [View.read_writes_eq_canon]
    · unfold kernelRun0_A
      dsimp only
      sl_unfold_words
      rw [View.canon_cons_unit_zero (S := S1x1280) hz, View.readCov_unit_zero (S := S1x1280) _ hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread,
        View.ld_unit_zero (S := S512x1280) hz, View.ld_unit_zero (S := S8x1280) hz, View.ld_unit_zero (S := S16x1280) hz, View.ld_unit_zero (S := S4x1280) hz, View.ld_unit_zero (S := S1x1280) hz, View.ld_unit_zero (S := S10x128x128) hz3]
      try rfl
    · intro y
      apply cover0_A_17

theorem outs_B (c : Dev nD) (t : Fin cfg0.N) (h : ¬t.val % 16 = 0) : outsAt0 m c t.val t.isLt
    = (tDc (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
       k0_pay63 (F := Ideal) (tWa (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (outsAt0 m c (t.val - 1) (Nat.lt_of_le_of_lt (Nat.sub_le _ _) t.isLt)).2.1,
       k0_pay65 (F := Ideal) (tWx (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (outsAt0 m c (t.val - 1) (Nat.lt_of_le_of_lt (Nat.sub_le _ _) t.isLt)).2.2.1,
       k0_pay67 (F := Ideal) (k0_pay59 (F := Ideal) (tPr (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))) (outsAt0 m c (t.val - 1) (Nat.lt_of_le_of_lt (Nat.sub_le _ _) t.isLt)).2.2.2.1,
       k0_pay69 (F := Ideal) (k0_pay60 (F := Ideal) (tPi (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))) (outsAt0 m c (t.val - 1) (Nat.lt_of_le_of_lt (Nat.sub_le _ _) t.isLt)).2.2.2.2.1,
       k0_pay1 (F := Ideal) (tLam (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay71 (F := Ideal) (outsAt0 m c (t.val - 1) (Nat.lt_of_le_of_lt (Nat.sub_le _ _) t.isLt)).2.2.2.2.2)) := by
  refine (outsAt0_B m c t h h h h h).trans (Prod.ext ?_ (Prod.ext ?_ (Prod.ext ?_ (Prod.ext ?_ (Prod.ext ?_ ?_)))))
  · unfold out0_B_12
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread, (hs0_15 t).read_unread, (hs0_16 t).read_unread, (hs0_17 t).read_unread,
        View.ld_unit_zero (S := S512x1280) hz, View.ld_unit_zero (S := S8x1280) hz, View.ld_unit_zero (S := S16x1280) hz, View.ld_unit_zero (S := S4x1280) hz, View.ld_unit_zero (S := S1x1280) hz, View.ld_unit_zero (S := S10x128x128) hz3]
      try rfl
    · intro y
      apply cover0_B_12
  · unfold out0_B_13
    rw [View.read_writes_eq_canon]
    · unfold kernelRun0_B
      dsimp only
      sl_unfold_words
      rw [View.canon_unit_zero hz3]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread, (hs0_15 t).read_unread, (hs0_16 t).read_unread, (hs0_17 t).read_unread,
        View.ld_unit_zero (S := S512x1280) hz, View.ld_unit_zero (S := S8x1280) hz, View.ld_unit_zero (S := S16x1280) hz, View.ld_unit_zero (S := S4x1280) hz, View.ld_unit_zero (S := S1x1280) hz, View.ld_unit_zero (S := S10x128x128) hz3]
      try rfl
    · intro y
      apply cover0_B_13
  · unfold out0_B_14
    rw [View.read_writes_eq_canon]
    · unfold kernelRun0_B
      dsimp only
      sl_unfold_words
      rw [View.canon_unit_zero hz3]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread, (hs0_15 t).read_unread, (hs0_16 t).read_unread, (hs0_17 t).read_unread,
        View.ld_unit_zero (S := S512x1280) hz, View.ld_unit_zero (S := S8x1280) hz, View.ld_unit_zero (S := S16x1280) hz, View.ld_unit_zero (S := S4x1280) hz, View.ld_unit_zero (S := S1x1280) hz, View.ld_unit_zero (S := S10x128x128) hz3]
      try rfl
    · intro y
      apply cover0_B_14
  · unfold out0_B_15
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread, (hs0_15 t).read_unread, (hs0_16 t).read_unread, (hs0_17 t).read_unread,
        View.ld_unit_zero (S := S512x1280) hz, View.ld_unit_zero (S := S8x1280) hz, View.ld_unit_zero (S := S16x1280) hz, View.ld_unit_zero (S := S4x1280) hz, View.ld_unit_zero (S := S1x1280) hz, View.ld_unit_zero (S := S10x128x128) hz3]
      try rfl
    · intro y
      apply cover0_B_15
  · unfold out0_B_16
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread, (hs0_15 t).read_unread, (hs0_16 t).read_unread, (hs0_17 t).read_unread,
        View.ld_unit_zero (S := S512x1280) hz, View.ld_unit_zero (S := S8x1280) hz, View.ld_unit_zero (S := S16x1280) hz, View.ld_unit_zero (S := S4x1280) hz, View.ld_unit_zero (S := S1x1280) hz, View.ld_unit_zero (S := S10x128x128) hz3]
      try rfl
    · intro y
      apply cover0_B_16
  · unfold out0_B_17
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_13 t).read_unread, (hs0_14 t).read_unread, (hs0_15 t).read_unread, (hs0_16 t).read_unread, (hs0_17 t).read_unread,
        View.ld_unit_zero (S := S512x1280) hz, View.ld_unit_zero (S := S8x1280) hz, View.ld_unit_zero (S := S16x1280) hz, View.ld_unit_zero (S := S4x1280) hz, View.ld_unit_zero (S := S1x1280) hz, View.ld_unit_zero (S := S10x128x128) hz3]
      try rfl
    · intro y
      apply cover0_B_17

/-! ## The result arrays -/

theorem at12 : ∀ t : Fin grid0.N, win0_12.index t 0 = t.val ∧ win0_12.index t 1 = 0 := by decide +kernel

theorem final12 (c : Dev nD) (t : Fin cfg0.N) (q : Fin 512) (b : Fin 1280) :
    (dats m 0 c).arrAt 12 cfg0.N (ix2 (row 8192 t.val q) b) = (outsAt0 m c t.val t.isLt).1 (ix2 q b) := by
  have e : ((cfg0.win 12).blk t).view.emb (ix2 q b) = ix2 (row 8192 t.val q) b := Shape.idx_ext₂
    ((Pipeline.Window.rect_emb_val win0_12 t _ 0).trans ((congrArg (· * 512 + q.val) (at12 t).1).trans
      (row_val (T := 16) (B := 512) rfl (lt_of_lt_of_eq t.isLt N_0) q).symm))
    (Pipeline.Window.rect_emb_val_of_index_zero win0_12 t 1 (at12 t).2 _)
  refine (congrArg ((dats m 0 c).arrAt 12 cfg0.N) e.symm).trans
    (((dats m 0 c).arrAt_emb_eq_flushed 12 Value.disjoint12 t (flush0_12 t) (ix2 q b)).trans ?_)
  rw [Value.flushed12]
  rfl

theorem at13 : ∀ t : Fin grid0.N, win0_13.index t 0 = 0 ∧ win0_13.index t 1 = 0 ∧ win0_13.index t 2 = 0 := by decide +kernel

theorem final13 (c : Dev nD) :
    (dats m 0 c).arrAt 13 cfg0.N = (outsAt0 m c tl.val tl.isLt).2.1 := by
  refine (dats m 0 c).arrAt_eq_of_cover 13 _ (fun t hf => ?_) fun i => ?_
  · have ht : t.val = 15 := by
      have h1 := (flush0_13 t).mp hf
      have h2 := lt_of_lt_of_eq t.isLt N_0
      omega
    obtain rfl : t = tl := Fin.ext ht
    rw [Value.flushed13]
    generalize (outsAt0 m c tl.val tl.isLt).2.1 = G
    have hz' : (fun a => win0_13.index tl a * main_v7_1.ty.shape.size a) = fun _ => 0 :=
      funext fun a => by fin_cases a <;> decide +kernel
    exact (Memref.read_access_unit_zero (Elt Ideal) main_v7_1 hz' (fun a => by rw [congrFun hz' a]; simp) G).symm
  · refine ⟨tl, (flush0_13 _).mpr rfl, ?_⟩
    show i ∈ ((View.whole main_v7_1).slice (win0_13.rect tl)).set
    rw [View.set_slice_whole, Rect.mem_set_unit]
    have h0 : (i 0 : Nat) < 10 := (i 0).isLt
    have h1 : (i 1 : Nat) < 128 := (i 1).isLt
    have h2 : (i 2 : Nat) < 128 := (i 2).isLt
    have e0 : win0_13.index tl 0 * 10 = 0 := by decide +kernel
    have e1 : win0_13.index tl 1 * 128 = 0 := by decide +kernel
    have e2 : win0_13.index tl 2 * 128 = 0 := by decide +kernel
    intro a
    match a with
    | ⟨0, _⟩ => exact ⟨e0.trans_le (Nat.zero_le _), h0.trans_eq ((congrArg (· + 10) e0).trans (Nat.zero_add _)).symm⟩
    | ⟨1, _⟩ => exact ⟨e1.trans_le (Nat.zero_le _), h1.trans_eq ((congrArg (· + 128) e1).trans (Nat.zero_add _)).symm⟩
    | ⟨2, _⟩ => exact ⟨e2.trans_le (Nat.zero_le _), h2.trans_eq ((congrArg (· + 128) e2).trans (Nat.zero_add _)).symm⟩

theorem at14 : ∀ t : Fin grid0.N, win0_14.index t 0 = 0 ∧ win0_14.index t 1 = 0 ∧ win0_14.index t 2 = 0 := by decide +kernel

theorem final14 (c : Dev nD) :
    (dats m 0 c).arrAt 14 cfg0.N = (outsAt0 m c tl.val tl.isLt).2.2.1 := by
  refine (dats m 0 c).arrAt_eq_of_cover 14 _ (fun t hf => ?_) fun i => ?_
  · have ht : t.val = 15 := by
      have h1 := (flush0_14 t).mp hf
      have h2 := lt_of_lt_of_eq t.isLt N_0
      omega
    obtain rfl : t = tl := Fin.ext ht
    rw [Value.flushed14]
    generalize (outsAt0 m c tl.val tl.isLt).2.2.1 = G
    have hz' : (fun a => win0_14.index tl a * main_v7_2.ty.shape.size a) = fun _ => 0 :=
      funext fun a => by fin_cases a <;> decide +kernel
    exact (Memref.read_access_unit_zero (Elt Ideal) main_v7_2 hz' (fun a => by rw [congrFun hz' a]; simp) G).symm
  · refine ⟨tl, (flush0_14 _).mpr rfl, ?_⟩
    show i ∈ ((View.whole main_v7_2).slice (win0_14.rect tl)).set
    rw [View.set_slice_whole, Rect.mem_set_unit]
    have h0 : (i 0 : Nat) < 10 := (i 0).isLt
    have h1 : (i 1 : Nat) < 128 := (i 1).isLt
    have h2 : (i 2 : Nat) < 128 := (i 2).isLt
    have e0 : win0_14.index tl 0 * 10 = 0 := by decide +kernel
    have e1 : win0_14.index tl 1 * 128 = 0 := by decide +kernel
    have e2 : win0_14.index tl 2 * 128 = 0 := by decide +kernel
    intro a
    match a with
    | ⟨0, _⟩ => exact ⟨e0.trans_le (Nat.zero_le _), h0.trans_eq ((congrArg (· + 10) e0).trans (Nat.zero_add _)).symm⟩
    | ⟨1, _⟩ => exact ⟨e1.trans_le (Nat.zero_le _), h1.trans_eq ((congrArg (· + 128) e1).trans (Nat.zero_add _)).symm⟩
    | ⟨2, _⟩ => exact ⟨e2.trans_le (Nat.zero_le _), h2.trans_eq ((congrArg (· + 128) e2).trans (Nat.zero_add _)).symm⟩

theorem at15 : ∀ t : Fin grid0.N, win0_15.index t 0 = 0 ∧ win0_15.index t 1 = 0 := by decide +kernel

theorem final15 (c : Dev nD) :
    (dats m 0 c).arrAt 15 cfg0.N = (outsAt0 m c tl.val tl.isLt).2.2.2.1 := by
  refine (dats m 0 c).arrAt_eq_of_cover 15 _ (fun t hf => ?_) fun i => ?_
  · have ht : t.val = 15 := by
      have h1 := (flush0_15 t).mp hf
      have h2 := lt_of_lt_of_eq t.isLt N_0
      omega
    obtain rfl : t = tl := Fin.ext ht
    rw [Value.flushed15]
    generalize (outsAt0 m c tl.val tl.isLt).2.2.2.1 = G
    have hz' : (fun a => win0_15.index tl a * main_v7_3.ty.shape.size a) = fun _ => 0 :=
      funext fun a => by fin_cases a <;> decide +kernel
    exact (Memref.read_access_unit_zero (Elt Ideal) main_v7_3 hz' (fun a => by rw [congrFun hz' a]; simp) G).symm
  · refine ⟨tl, (flush0_15 _).mpr rfl, ?_⟩
    show i ∈ ((View.whole main_v7_3).slice (win0_15.rect tl)).set
    rw [View.set_slice_whole, Rect.mem_set_unit]
    have h0 : (i 0 : Nat) < 1 := (i 0).isLt
    have h1 : (i 1 : Nat) < 1280 := (i 1).isLt
    have e0 : win0_15.index tl 0 * 1 = 0 := by decide +kernel
    have e1 : win0_15.index tl 1 * 1280 = 0 := by decide +kernel
    intro a
    match a with
    | ⟨0, _⟩ => exact ⟨e0.trans_le (Nat.zero_le _), h0.trans_eq ((congrArg (· + 1) e0).trans (Nat.zero_add _)).symm⟩
    | ⟨1, _⟩ => exact ⟨e1.trans_le (Nat.zero_le _), h1.trans_eq ((congrArg (· + 1280) e1).trans (Nat.zero_add _)).symm⟩

theorem at16 : ∀ t : Fin grid0.N, win0_16.index t 0 = 0 ∧ win0_16.index t 1 = 0 := by decide +kernel

theorem final16 (c : Dev nD) :
    (dats m 0 c).arrAt 16 cfg0.N = (outsAt0 m c tl.val tl.isLt).2.2.2.2.1 := by
  refine (dats m 0 c).arrAt_eq_of_cover 16 _ (fun t hf => ?_) fun i => ?_
  · have ht : t.val = 15 := by
      have h1 := (flush0_16 t).mp hf
      have h2 := lt_of_lt_of_eq t.isLt N_0
      omega
    obtain rfl : t = tl := Fin.ext ht
    rw [Value.flushed16]
    generalize (outsAt0 m c tl.val tl.isLt).2.2.2.2.1 = G
    have hz' : (fun a => win0_16.index tl a * main_v7_4.ty.shape.size a) = fun _ => 0 :=
      funext fun a => by fin_cases a <;> decide +kernel
    exact (Memref.read_access_unit_zero (Elt Ideal) main_v7_4 hz' (fun a => by rw [congrFun hz' a]; simp) G).symm
  · refine ⟨tl, (flush0_16 _).mpr rfl, ?_⟩
    show i ∈ ((View.whole main_v7_4).slice (win0_16.rect tl)).set
    rw [View.set_slice_whole, Rect.mem_set_unit]
    have h0 : (i 0 : Nat) < 1 := (i 0).isLt
    have h1 : (i 1 : Nat) < 1280 := (i 1).isLt
    have e0 : win0_16.index tl 0 * 1 = 0 := by decide +kernel
    have e1 : win0_16.index tl 1 * 1280 = 0 := by decide +kernel
    intro a
    match a with
    | ⟨0, _⟩ => exact ⟨e0.trans_le (Nat.zero_le _), h0.trans_eq ((congrArg (· + 1) e0).trans (Nat.zero_add _)).symm⟩
    | ⟨1, _⟩ => exact ⟨e1.trans_le (Nat.zero_le _), h1.trans_eq ((congrArg (· + 1280) e1).trans (Nat.zero_add _)).symm⟩

theorem at17 : ∀ t : Fin grid0.N, win0_17.index t 0 = 0 ∧ win0_17.index t 1 = 0 := by decide +kernel

theorem final17 (c : Dev nD) :
    (dats m 0 c).arrAt 17 cfg0.N = (outsAt0 m c tl.val tl.isLt).2.2.2.2.2 := by
  refine (dats m 0 c).arrAt_eq_of_cover 17 _ (fun t hf => ?_) fun i => ?_
  · have ht : t.val = 15 := by
      have h1 := (flush0_17 t).mp hf
      have h2 := lt_of_lt_of_eq t.isLt N_0
      omega
    obtain rfl : t = tl := Fin.ext ht
    rw [Value.flushed17]
    generalize (outsAt0 m c tl.val tl.isLt).2.2.2.2.2 = G
    have hz' : (fun a => win0_17.index tl a * main_v7_5.ty.shape.size a) = fun _ => 0 :=
      funext fun a => by fin_cases a <;> decide +kernel
    exact (Memref.read_access_unit_zero (Elt Ideal) main_v7_5 hz' (fun a => by rw [congrFun hz' a]; simp) G).symm
  · refine ⟨tl, (flush0_17 _).mpr rfl, ?_⟩
    show i ∈ ((View.whole main_v7_5).slice (win0_17.rect tl)).set
    rw [View.set_slice_whole, Rect.mem_set_unit]
    have h0 : (i 0 : Nat) < 1 := (i 0).isLt
    have h1 : (i 1 : Nat) < 1280 := (i 1).isLt
    have e0 : win0_17.index tl 0 * 1 = 0 := by decide +kernel
    have e1 : win0_17.index tl 1 * 1280 = 0 := by decide +kernel
    intro a
    match a with
    | ⟨0, _⟩ => exact ⟨e0.trans_le (Nat.zero_le _), h0.trans_eq ((congrArg (· + 1) e0).trans (Nat.zero_add _)).symm⟩
    | ⟨1, _⟩ => exact ⟨e1.trans_le (Nat.zero_le _), h1.trans_eq ((congrArg (· + 1280) e1).trans (Nat.zero_add _)).symm⟩

end Cert.GatesIdeal.Rows

end
-- ==== Proof.GatesMath.lean ====
/- The gradient of one step of the gated recurrence, entry by entry, and what its stages are on real arguments. -/
module

public import proofs.«01_k».proof.Proof.Common
public import proofs.«01_k».proof.Proof.ConvValue

@[expose] public section

set_option maxRecDepth 16384

noncomputable section

open Cert.RowLib Idealize.ShloMosaic Idealize.ShloMosaic.TcCoe Idealize.SL.Sem

namespace Cert.GatesMath

open Cert.ConvMath

/-- The head a column belongs to, its place in the head, and the column at a place of a head. -/
def hd (k : Fin 1280) : Fin 10 := ⟨k.val / 128, by omega⟩

def lo (k : Fin 1280) : Fin 128 := ⟨k.val % 128, by omega⟩

def col (n : Fin 10) (j : Fin 128) : Fin 1280 := ⟨128 * n.val + j.val, by omega⟩

theorem hd_col (n : Fin 10) (j : Fin 128) : hd (col n j) = n := Fin.ext (by simp only [hd, col]; omega)

theorem lo_col (n : Fin 10) (j : Fin 128) : lo (col n j) = j := Fin.ext (by simp only [lo, col]; omega)

theorem col_hd (k : Fin 1280) : col (hd k) (lo k) = k := Fin.ext (by simp only [hd, lo, col]; omega)

theorem ext3 {n0 n1 n2 : ℕ} {f g : (⟨3, ![n0, n1, n2]⟩ : Shape).Idx → EReal} (h : ∀ n a b, f (ix3 n a b) = g (ix3 n a b)) : f = g := by
  funext i
  have e : i = ix3 (i 0) (i 1) (i 2) := funext fun x => match x with
    | ⟨0, _⟩ => rfl
    | ⟨1, _⟩ => rfl
    | ⟨2, _⟩ => rfl
  rw [e]
  exact h _ _ _

variable (y0 y1 y2 : (⟨2, ![8192, 1280]⟩ : Shape).Idx → EReal) (y3 : (⟨2, ![4, 1280]⟩ : Shape).Idx → EReal)
  (y4 y6 y8 y9 : (⟨1, ![1280]⟩ : Shape).Idx → EReal) (y5 y7 : (⟨3, ![10, 128, 128]⟩ : Shape).Idx → EReal)

/-- The causal convolution. -/
def cv (r : Fin 8192) (k : Fin 1280) : EReal :=
  y2 (ix2 r k) * y3 (ix2 3 k) + y4 (ix1 k) + above y2 1 r k * y3 (ix2 2 k) + above y2 2 r k * y3 (ix2 1 k) + above y2 3 r k * y3 (ix2 0 k)

/-- A gate: the logistic function of the convolution times the gate's heads. -/
def gate (w : (⟨3, ![10, 128, 128]⟩ : Shape).Idx → EReal) (b : (⟨1, ![1280]⟩ : Shape).Idx → EReal) (r : Fin 8192) (k : Fin 1280) : EReal :=
  Ideal.logistic (∑ i : Fin 128, cv y2 y3 y4 r (col (hd k) i) * w (ix3 (hd k) i (lo k)) + b (ix1 k))

/-- The softplus of the decay's negative parameter. -/
def sp (k : Fin 1280) : EReal := max (-y9 (ix1 k)) 0 + Ideal.log (1 + Ideal.exp (-max (-y9 (ix1 k)) (- -y9 (ix1 k))))

/-- The logarithm of the decay, from the recurrence gate. -/
def la (r : Fin 8192) (k : Fin 1280) : EReal := ((-8 : ℝ) : EReal) * gate y2 y3 y4 y5 y6 r k * sp y9 k

def mu (r : Fin 8192) (k : Fin 1280) : EReal := Ideal.sqrt (1 - Ideal.exp (((2 : ℝ) : EReal) * la y2 y3 y4 y6 y9 y5 r k))

/-- The gradient of the logarithm of the decay. -/
def dl (r : Fin 8192) (k : Fin 1280) : EReal :=
  y0 (ix2 r k) * above y1 1 r k * Ideal.exp (la y2 y3 y4 y6 y9 y5 r k)
    - Ideal.div (y0 (ix2 r k) * gate y2 y3 y4 y7 y8 r k * cv y2 y3 y4 r k * Ideal.exp (la y2 y3 y4 y6 y9 y5 r k) * Ideal.exp (la y2 y3 y4 y6 y9 y5 r k))
      (mu y2 y3 y4 y6 y9 y5 r k)

/-- The gradients before the two gates' logistic functions. -/
def pr (r : Fin 8192) (k : Fin 1280) : EReal :=
  dl y0 y1 y2 y3 y4 y6 y8 y9 y5 y7 r k * ((-8 : ℝ) : EReal) * sp y9 k * gate y2 y3 y4 y5 y6 r k * (1 - gate y2 y3 y4 y5 y6 r k)

def pi (r : Fin 8192) (k : Fin 1280) : EReal :=
  y0 (ix2 r k) * mu y2 y3 y4 y6 y9 y5 r k * cv y2 y3 y4 r k * gate y2 y3 y4 y7 y8 r k * (1 - gate y2 y3 y4 y7 y8 r k)

/-- The gradient of the convolution. -/
def dc (r : Fin 8192) (k : Fin 1280) : EReal :=
  y0 (ix2 r k) * mu y2 y3 y4 y6 y9 y5 r k * gate y2 y3 y4 y7 y8 r k
    + ∑ i : Fin 128, pr y0 y1 y2 y3 y4 y6 y8 y9 y5 y7 r (col (hd k) i) * y5 (ix3 (hd k) (lo k) i)
    + ∑ i : Fin 128, pi y0 y2 y3 y4 y6 y8 y9 y5 y7 r (col (hd k) i) * y7 (ix3 (hd k) (lo k) i)

/-- The gradients of the two gates' heads. -/
def dwa (n : Fin 10) (i j : Fin 128) : EReal := ∑ r : Fin 8192, cv y2 y3 y4 r (col n i) * pr y0 y1 y2 y3 y4 y6 y8 y9 y5 y7 r (col n j)

def dwx (n : Fin 10) (i j : Fin 128) : EReal := ∑ r : Fin 8192, cv y2 y3 y4 r (col n i) * pi y0 y2 y3 y4 y6 y8 y9 y5 y7 r (col n j)

/-- The gradient of the decay's parameter. -/
def dlam (k : Fin 1280) : EReal := ∑ r : Fin 8192, dl y0 y1 y2 y3 y4 y6 y8 y9 y5 y7 r k * ((8 : ℝ) : EReal) * gate y2 y3 y4 y5 y6 r k * Ideal.logistic (-y9 (ix1 k))

theorem word_m8 : Ideal.ofBits .f32 0xC1000000#32 = ((-8 : ℝ) : EReal) := by
  simp [Ideal.ofBits, Ideal.ieee, -EReal.coe_mul]; norm_num

theorem word_8 : Ideal.ofBits .f32 0x41000000#32 = ((8 : ℝ) : EReal) := by
  simp [Ideal.ofBits, Ideal.ieee, -EReal.coe_mul]; norm_num

/-- The bound, a number below zero: what is at most the bound is below zero and not above the bound. -/
theorem word_bound : Ideal.ofBits .f32 0xBE4CCCCD#32 = ((-(13421773 / 67108864) : ℝ) : EReal) := by
  simp [Ideal.ofBits, Ideal.ieee, -EReal.coe_mul]; norm_num

theorem le_of_cmp {x y : EReal} (h : Ideal.cmp .ole x y = 1#1) : x ≤ y := by
  by_contra hn
  simp [Ideal.cmp, hn] at h

theorem below_zero {x : EReal} (h : Ideal.cmp .ole x (Ideal.ofBits .f32 0xBE4CCCCD#32) = 1#1) : x < 0 := by
  have h' := le_of_cmp h
  rw [word_bound] at h'
  exact h'.trans_lt (by rw [← EReal.coe_zero]; exact EReal.coe_lt_coe_iff.mpr (by norm_num))

theorem not_above {x y : EReal} (h : Ideal.cmp .ole x y = 1#1) : Ideal.cmp .ogt x y = 0#1 := by
  simp [Ideal.cmp, not_lt.mpr (le_of_cmp h)]

/-! ## On real arguments -/

section Real

theorem real_logistic {y : EReal} (hy : ∃ r : ℝ, y = (r : EReal)) : ∃ r : ℝ, Ideal.logistic y = (r : EReal) := by
  obtain ⟨a, rfl⟩ := hy
  exact ⟨_, Ideal.logistic_coe a⟩

/-- The logistic function of a real number is positive. -/
theorem logistic_pos (a : ℝ) : ∃ r : ℝ, 0 < r ∧ Ideal.logistic (a : EReal) = (r : EReal) :=
  ⟨_, by positivity, Ideal.logistic_coe a⟩

theorem real_exp {y : EReal} (hy : ∃ r : ℝ, y = (r : EReal)) : ∃ r : ℝ, Ideal.exp y = (r : EReal) := by
  obtain ⟨a, rfl⟩ := hy
  exact ⟨_, Ideal.exp_coe a⟩

theorem real_sub {x y : EReal} (hx : ∃ r : ℝ, x = (r : EReal)) (hy : ∃ r : ℝ, y = (r : EReal)) : ∃ r : ℝ, x - y = (r : EReal) := by
  obtain ⟨a, rfl⟩ := hx
  obtain ⟨b, rfl⟩ := hy
  exact ⟨a - b, (EReal.coe_sub a b).symm⟩

theorem max_coe (a b : ℝ) : max (a : EReal) (b : EReal) = ((max a b : ℝ) : EReal) := (EReal.coe_strictMono.monotone.map_max).symm

/-- The softplus of a real number, and its derivative. -/
theorem softplus_coe (z : ℝ) : max (z : EReal) 0 + Ideal.log (1 + Ideal.exp (-max (z : EReal) (-(z : EReal))))
    = ((max z 0 + Real.log (1 + Real.exp (-max z (-z))) : ℝ) : EReal) := by
  rw [← EReal.coe_neg, max_coe, ← EReal.coe_neg, Ideal.exp_coe, ← EReal.coe_zero, max_coe, ← EReal.coe_one, ← EReal.coe_add, Ideal.log_coe,
    if_neg (not_le.mpr (by positivity)), ← EReal.coe_add]

theorem softplus_grad (z : ℝ) : Real.exp (z - (max z 0 + Real.log (1 + Real.exp (-max z (-z))))) = 1 / (1 + Real.exp (-z)) := by
  have h : 0 < 1 + Real.exp (-max z (-z)) := by positivity
  rw [← sub_sub, Real.exp_sub, Real.exp_log h]
  rcases le_total 0 z with hz | hz
  · rw [max_eq_left hz, max_eq_left (by linarith), sub_self, Real.exp_zero]
  · rw [max_eq_right hz, max_eq_right (by linarith), sub_zero, neg_neg, Real.exp_neg]
    have := Real.exp_pos z
    field_simp
    ring

/-- A minus sign goes inside a sum of real numbers. -/
theorem neg_sum {ι : Type*} [Fintype ι] (f : ι → EReal) (hf : ∀ i, ∃ r : ℝ, f i = (r : EReal)) : -∑ i, f i = ∑ i, -f i := by
  choose g hg using hf
  have e : ∀ s : Finset ι, ∑ i ∈ s, f i = ((∑ i ∈ s, g i : ℝ) : EReal) ∧ ∑ i ∈ s, -f i = ((∑ i ∈ s, -g i : ℝ) : EReal) := by
    classical
    intro s
    induction s using Finset.induction_on with
    | empty => simp
    | insert i s hi ih =>
      rw [Finset.sum_insert hi, Finset.sum_insert hi, Finset.sum_insert hi, Finset.sum_insert hi, ih.1, ih.2, hg, EReal.coe_add, EReal.coe_add, EReal.coe_neg]
      exact ⟨rfl, rfl⟩
  rw [(e _).1, (e _).2, Finset.sum_neg_distrib, EReal.coe_neg]

/-- The derivative of a step by the logarithm of its decay. -/
theorem step_grad (g h i c a e μ : ℝ) (hμ : μ ≠ 0) (he : e = a * a) :
    ((2 : ℝ) : EReal) * (-((g : EReal) * ((i : EReal) * (c : EReal)) * Ideal.div ((1 / 2 : ℝ) : EReal) (μ : EReal)) * (e : EReal))
      + (g : EReal) * (h : EReal) * (a : EReal)
    = (g : EReal) * (h : EReal) * (a : EReal)
      - Ideal.div ((g : EReal) * (i : EReal) * (c : EReal) * (a : EReal) * (a : EReal)) (μ : EReal) := by
  rw [Ideal.div_coe hμ, Ideal.div_coe hμ]
  simp only [← EReal.coe_mul, ← EReal.coe_add, ← EReal.coe_sub, ← EReal.coe_neg]
  congr 1
  subst he
  field_simp
  ring

variable {y0 y1 y2 y3 y4 y5 y6 y7 y8 y9} (h0 : IsReal y0) (h1 : IsReal y1) (h2 : IsReal y2) (h3 : IsReal y3) (h4 : IsReal y4) (h5 : IsReal y5)
  (h6 : IsReal y6) (h7 : IsReal y7) (h8 : IsReal y8) (h9 : IsReal y9)
  (hz : ∀ r k, ((2 : ℝ) : EReal) * la y2 y3 y4 y6 y9 y5 r k < 0)

theorem real_above {x : (⟨2, ![8192, 1280]⟩ : Shape).Idx → EReal} (hx : IsReal x) (s : ℕ) (r : Fin 8192) (k : Fin 1280) : ∃ y : ℝ, above x s r k = (y : EReal) := by
  unfold above
  split
  · exact hx _
  · exact ⟨0, rfl⟩

include h2 h3 h4 in
theorem real_cv (r : Fin 8192) (k : Fin 1280) : ∃ y : ℝ, cv y2 y3 y4 r k = (y : EReal) :=
  real_add (real_add (real_add (real_add (real_mul (h2 _) (h3 _)) (h4 _)) (real_mul (real_above h2 1 r k) (h3 _)))
    (real_mul (real_above h2 2 r k) (h3 _))) (real_mul (real_above h2 3 r k) (h3 _))

include h2 h3 h4 in
theorem real_gate {w : (⟨3, ![10, 128, 128]⟩ : Shape).Idx → EReal} {b : (⟨1, ![1280]⟩ : Shape).Idx → EReal} (hw : IsReal w) (hb : IsReal b)
    (r : Fin 8192) (k : Fin 1280) : ∃ y : ℝ, gate y2 y3 y4 w b r k = (y : EReal) :=
  real_logistic (real_add (real_sum _ fun i => real_mul (real_cv h2 h3 h4 r _) (hw _)) (hb _))

include h9 in
theorem real_sp (k : Fin 1280) : ∃ y : ℝ, sp y9 k = (y : EReal) := by
  obtain ⟨a, ha⟩ := h9 (ix1 k)
  unfold sp
  rw [ha, ← EReal.coe_neg]
  exact ⟨_, softplus_coe (-a)⟩

include h9 in
theorem sp_grad (k : Fin 1280) : Ideal.exp (-y9 (ix1 k) - sp y9 k) = Ideal.logistic (-y9 (ix1 k)) := by
  obtain ⟨a, ha⟩ := h9 (ix1 k)
  unfold sp
  rw [ha, ← EReal.coe_neg, softplus_coe (-a), ← EReal.coe_sub, Ideal.exp_coe, Ideal.logistic_coe, softplus_grad (-a)]
  try simp

include h2 h3 h4 h5 h6 h9 in
theorem real_la (r : Fin 8192) (k : Fin 1280) : ∃ y : ℝ, la y2 y3 y4 y6 y9 y5 r k = (y : EReal) :=
  real_mul (real_mul ⟨_, rfl⟩ (real_gate h2 h3 h4 h5 h6 r k)) (real_sp h9 k)

include h2 h3 h4 h5 h6 h9 hz in
theorem mu_pos (r : Fin 8192) (k : Fin 1280) : ∃ y : ℝ, 0 < y ∧ mu y2 y3 y4 y6 y9 y5 r k = (y : EReal) := by
  obtain ⟨a, ha⟩ := real_la h2 h3 h4 h5 h6 h9 r k
  have h := hz r k
  unfold mu
  rw [ha, ← EReal.coe_mul] at *
  have h' : 2 * a < 0 := by exact_mod_cast h
  have h1 : 0 < 1 - Real.exp (2 * a) := sub_pos.mpr ((Real.exp_lt_exp.mpr h').trans_eq Real.exp_zero)
  rw [Ideal.exp_coe, ← EReal.coe_one, ← EReal.coe_sub, Ideal.sqrt_coe, if_neg (not_lt.mpr h1.le)]
  exact ⟨_, Real.sqrt_pos.mpr h1, rfl⟩

include h2 h3 h4 h5 h6 h9 hz in
/-- The square root the other way round. -/
theorem mu_eq (r : Fin 8192) (k : Fin 1280) :
    Ideal.sqrt (-(Ideal.exp (((2 : ℝ) : EReal) * la y2 y3 y4 y6 y9 y5 r k) - 1)) = mu y2 y3 y4 y6 y9 y5 r k := by
  obtain ⟨a, ha⟩ := real_exp (real_mul ⟨2, rfl⟩ (real_la h2 h3 h4 h5 h6 h9 r k))
  unfold mu
  rw [ha, ← EReal.coe_one, ← EReal.coe_sub, ← EReal.coe_sub, ← EReal.coe_neg, neg_sub]

include h0 h1 h2 h3 h4 h5 h6 h7 h8 h9 hz in
theorem dl_eq (r : Fin 8192) (k : Fin 1280) :
    ((2 : ℝ) : EReal) * (-(y0 (ix2 r k) * (gate y2 y3 y4 y7 y8 r k * cv y2 y3 y4 r k) * Ideal.div ((1 / 2 : ℝ) : EReal) (mu y2 y3 y4 y6 y9 y5 r k))
        * Ideal.exp (((2 : ℝ) : EReal) * la y2 y3 y4 y6 y9 y5 r k))
      + y0 (ix2 r k) * above y1 1 r k * Ideal.exp (la y2 y3 y4 y6 y9 y5 r k) = dl y0 y1 y2 y3 y4 y6 y8 y9 y5 y7 r k := by
  obtain ⟨μ, hμ, eμ⟩ := mu_pos h2 h3 h4 h5 h6 h9 hz r k
  obtain ⟨l, hl⟩ := real_la h2 h3 h4 h5 h6 h9 r k
  obtain ⟨g, hg⟩ := h0 (ix2 r k)
  obtain ⟨h, hh⟩ := real_above h1 1 r k
  obtain ⟨i, hi⟩ := real_gate h2 h3 h4 h7 h8 r k
  obtain ⟨c, hc⟩ := real_cv h2 h3 h4 r k
  unfold dl
  rw [eμ, hl, hg, hh, hi, hc, ← EReal.coe_mul 2 l, Ideal.exp_coe, Ideal.exp_coe]
  exact step_grad g h i c (Real.exp l) (Real.exp (2 * l)) μ hμ.ne' (by rw [← Real.exp_add]; ring_nf)

include h0 h1 h2 h3 h4 h5 h6 h7 h8 h9 hz in
theorem real_dl (r : Fin 8192) (k : Fin 1280) : ∃ y : ℝ, dl y0 y1 y2 y3 y4 y6 y8 y9 y5 y7 r k = (y : EReal) := by
  obtain ⟨μ, hμ, eμ⟩ := mu_pos h2 h3 h4 h5 h6 h9 hz r k
  have hl := real_exp (real_la h2 h3 h4 h5 h6 h9 r k)
  unfold dl
  rw [eμ, Ideal.div_coe hμ.ne']
  exact real_sub (real_mul (real_mul (h0 _) (real_above h1 1 r k)) hl)
    (real_mul (real_mul (real_mul (real_mul (real_mul (h0 _) (real_gate h2 h3 h4 h7 h8 r k)) (real_cv h2 h3 h4 r k)) hl) hl) ⟨_, rfl⟩)

include h0 h1 h2 h3 h4 h5 h6 h7 h8 h9 hz in
theorem dlam_eq (k : Fin 1280) :
    -((∑ r : Fin 8192, ((-8 : ℝ) : EReal) * gate y2 y3 y4 y5 y6 r k * dl y0 y1 y2 y3 y4 y6 y8 y9 y5 y7 r k) * Ideal.logistic (-y9 (ix1 k)))
      = dlam y0 y1 y2 y3 y4 y6 y8 y9 y5 y7 k := by
  obtain ⟨a, ha⟩ := h9 (ix1 k)
  obtain ⟨p, hp, ep⟩ := logistic_pos (-a)
  unfold dlam
  rw [ha, ← EReal.coe_neg, ep, sum_mul_pos hp, neg_sum]
  · refine Finset.sum_congr rfl fun r _ => ?_
    obtain ⟨d, hd⟩ := real_dl h0 h1 h2 h3 h4 h5 h6 h7 h8 h9 hz r k
    obtain ⟨g, hg⟩ := real_gate h2 h3 h4 h5 h6 r k
    rw [hd, hg]
    simp only [← EReal.coe_mul, ← EReal.coe_neg]
    congr 1
    ring
  · exact fun r => real_mul (real_mul (real_mul ⟨_, rfl⟩ (real_gate h2 h3 h4 h5 h6 r k)) (real_dl h0 h1 h2 h3 h4 h5 h6 h7 h8 h9 hz r k)) ⟨p, rfl⟩

end Real

end Cert.GatesMath

end
-- ==== Proof.GatesTile.lean ====
/- A tile of the kernel of the gradient of the recurrence's gates: every stage is the reference's, over the tile's rows. -/
module

public import proofs.«01_k».proof.Proof.GatesKernel
public import proofs.«01_k».proof.Proof.GatesMath

@[expose] public section

set_option maxRecDepth 16384

noncomputable section

open Cert.RowLib Idealize.ShloMosaic Idealize.ShloMosaic.TcCoe Idealize.SL.Sem

namespace Cert.GatesIdeal.Rows

open Cert.GatesIdeal Cert.GatesIdeal.Gen Cert.ConvMath Cert.GatesMath
open Cert.ConvIdeal.Rows (prev1 prev2 prev3 prev1_of prev2_of prev3_of mask_gt)

/-! ## The products by heads -/

theorem slice_row (n : Fin 10) : S512x1280.Slices ![0, 128 * n.val] S512x128 := by
  fin_cases n
  · exact slices_S512x1280_o0_0_S512x128
  · exact slices_S512x1280_o0_128_S512x128
  · exact slices_S512x1280_o0_256_S512x128
  · exact slices_S512x1280_o0_384_S512x128
  · exact slices_S512x1280_o0_512_S512x128
  · exact slices_S512x1280_o0_640_S512x128
  · exact slices_S512x1280_o0_768_S512x128
  · exact slices_S512x1280_o0_896_S512x128
  · exact slices_S512x1280_o0_1024_S512x128
  · exact slices_S512x1280_o0_1152_S512x128

theorem slice_head (n : Fin 10) : S10x128x128.Slices ![n.val, 0, 0] S1x128x128 := by
  fin_cases n
  · exact slices_S10x128x128_o0_0_0_S1x128x128
  · exact slices_S10x128x128_o1_0_0_S1x128x128
  · exact slices_S10x128x128_o2_0_0_S1x128x128
  · exact slices_S10x128x128_o3_0_0_S1x128x128
  · exact slices_S10x128x128_o4_0_0_S1x128x128
  · exact slices_S10x128x128_o5_0_0_S1x128x128
  · exact slices_S10x128x128_o6_0_0_S1x128x128
  · exact slices_S10x128x128_o7_0_0_S1x128x128
  · exact slices_S10x128x128_o8_0_0_S1x128x128
  · exact slices_S10x128x128_o9_0_0_S1x128x128

/-- The columns of one head, and its weights. -/
def hrow (v : FVec Ideal S512x1280 .f32) (n : Fin 10) : FVec Ideal S512x128 .bf16 :=
  truncf .bf16 (extractStridedSlice S512x128 ![0, 128 * n.val] v (slice_row n)) bitsLt_bf16_f32

def hmat (w : FVec Ideal S10x128x128 .bf16) (n : Fin 10) : FVec Ideal S128x128 .bf16 :=
  shapeCast S128x128 (extractStridedSlice S1x128x128 ![n.val, 0, 0] w (slice_head n)) shapeCasts_S1x128x128_S128x128

theorem hrow_at (v : FVec Ideal S512x1280 .f32) (n : Fin 10) (q : Fin 512) (j : Fin 128) : hrow v n (ix2 q j) = v (ix2 q (col n j)) := by
  unfold hrow
  pointwise
  rfl

theorem hmat_at (w : FVec Ideal S10x128x128 .bf16) (n : Fin 10) (i j : Fin 128) : hmat w n (ix2 i j) = w (ix3 n i j) := by
  unfold hmat
  pointwise

/-- One head's columns times the head's weights, and times their transposes; and the product of the columns of two arrays over the rows. -/
def piece (v : FVec Ideal S512x1280 .f32) (w : FVec Ideal S10x128x128 .bf16) (n : Fin 10) : FVec Ideal S512x128 .f32 :=
  matmul dot_S512x128_S128x128_S512x128_1_0_0_1_n_n none (hrow v n) (hmat w n) (constant S512x128 .f32 0x00000000#32)

def pieceT (v : FVec Ideal S512x1280 .f32) (w : FVec Ideal S10x128x128 .bf16) (n : Fin 10) : FVec Ideal S512x128 .f32 :=
  matmul dot_S512x128_S128x128_S512x128_1_1_0_0_n_n none (hrow v n) (hmat w n) (constant S512x128 .f32 0x00000000#32)

def pieceW (v w : FVec Ideal S512x1280 .f32) (n : Fin 10) : FVec Ideal S128x128 .f32 :=
  matmul dot_S512x128_S512x128_S128x128_0_0_1_1_n_n none (hrow v n) (hrow w n) (constant S128x128 .f32 0x00000000#32)

theorem piece_at (v : FVec Ideal S512x1280 .f32) (w : FVec Ideal S10x128x128 .bf16) (n : Fin 10) (q : Fin 512) (j : Fin 128) :
    piece v w n (ix2 q j) = ∑ i : Fin 128, v (ix2 q (col n i)) * w (ix3 n i j) := by
  unfold piece
  pointwise [hrow_at, hmat_at]

theorem pieceT_at (v : FVec Ideal S512x1280 .f32) (w : FVec Ideal S10x128x128 .bf16) (n : Fin 10) (q : Fin 512) (j : Fin 128) :
    pieceT v w n (ix2 q j) = ∑ i : Fin 128, v (ix2 q (col n i)) * w (ix3 n j i) := by
  unfold pieceT
  pointwise [hrow_at, hmat_at]

theorem pieceW_at (v w : FVec Ideal S512x1280 .f32) (n : Fin 10) (i j : Fin 128) :
    pieceW v w n (ix2 i j) = ∑ q : Fin 512, v (ix2 q (col n i)) * w (ix2 q (col n j)) := by
  unfold pieceW
  pointwise [hrow_at]

/-- Ten blocks of columns side by side, and ten matrices on top of each other. -/
def beside (p : Fin 10 → FVec Ideal S512x128 .f32) : FVec Ideal S512x1280 .f32 :=
  concatenate S512x1280 1 [⟨S512x128, p 0⟩, ⟨S512x128, p 1⟩, ⟨S512x128, p 2⟩, ⟨S512x128, p 3⟩, ⟨S512x128, p 4⟩, ⟨S512x128, p 5⟩, ⟨S512x128, p 6⟩,
    ⟨S512x128, p 7⟩, ⟨S512x128, p 8⟩, ⟨S512x128, p 9⟩]
    concatenates_S512x128_S512x128_S512x128_S512x128_S512x128_S512x128_S512x128_S512x128_S512x128_S512x128_S512x1280_d1

def stacked (p : Fin 10 → FVec Ideal S128x128 .f32) : FVec Ideal S10x128x128 .f32 :=
  concatenate S10x128x128 0 [⟨S1x128x128, shapeCast S1x128x128 (p 0) shapeCasts_S128x128_S1x128x128⟩, ⟨S1x128x128, shapeCast S1x128x128 (p 1) shapeCasts_S128x128_S1x128x128⟩,
    ⟨S1x128x128, shapeCast S1x128x128 (p 2) shapeCasts_S128x128_S1x128x128⟩, ⟨S1x128x128, shapeCast S1x128x128 (p 3) shapeCasts_S128x128_S1x128x128⟩,
    ⟨S1x128x128, shapeCast S1x128x128 (p 4) shapeCasts_S128x128_S1x128x128⟩, ⟨S1x128x128, shapeCast S1x128x128 (p 5) shapeCasts_S128x128_S1x128x128⟩,
    ⟨S1x128x128, shapeCast S1x128x128 (p 6) shapeCasts_S128x128_S1x128x128⟩, ⟨S1x128x128, shapeCast S1x128x128 (p 7) shapeCasts_S128x128_S1x128x128⟩,
    ⟨S1x128x128, shapeCast S1x128x128 (p 8) shapeCasts_S128x128_S1x128x128⟩, ⟨S1x128x128, shapeCast S1x128x128 (p 9) shapeCasts_S128x128_S1x128x128⟩]
    concatenates_S1x128x128_S1x128x128_S1x128x128_S1x128x128_S1x128x128_S1x128x128_S1x128x128_S1x128x128_S1x128x128_S1x128x128_S10x128x128_d0

theorem beside_at (p : Fin 10 → FVec Ideal S512x128 .f32) (q : Fin 512) (n : Fin 10) (j : Fin 128) : beside p (ix2 q (col n j)) = p n (ix2 q j) := by
  unfold beside col
  have hj := j.isLt
  fin_cases n
  all_goals
    pointwise
    repeat rw [dif_neg (by omega)]
    try rw [dif_pos (by omega)]
    try refine congrArg (fun e => p _ (ix2 q e)) (Fin.ext ?_)
    try dsimp only
    try omega

theorem stacked_at (p : Fin 10 → FVec Ideal S128x128 .f32) (n : Fin 10) (i j : Fin 128) : stacked p (ix3 n i j) = p n (ix2 i j) := by
  unfold stacked
  fin_cases n
  all_goals
    pointwise

theorem beside_at' (p : Fin 10 → FVec Ideal S512x128 .f32) (q : Fin 512) (k : Fin 1280) : beside p (ix2 q k) = p (hd k) (ix2 q (lo k)) := by
  rw [← beside_at p q (hd k) (lo k), col_hd]

/-! ## The stages -/

/-- The last eight rows before the block, zero before the first block. -/
def edge (i : grid0.Coords) (x : Vec Ideal S8x1280 .f32) : FVec Ideal S8x1280 .f32 :=
  mulf x (broadcast S8x1280 (Scalar.sitofp .f32 (Scalar.extui (Scalar.cmpi .sgt (BitVec.ofNat 32 (i 0).val) 0#32))))

/-- A gate over a block of rows. -/
def gateT (v : FVec Ideal S512x1280 .f32) (w : FVec Ideal S10x128x128 .bf16) (b : FVec Ideal S1x1280 .f32) : FVec Ideal S512x1280 .f32 :=
  addf (mulf (broadcast S512x1280 (Scalar.ofBits .f32 0x3F000000#32)) (tanh (mulf (broadcast S512x1280 (Scalar.ofBits .f32 0x3F000000#32))
    (addf (beside (piece v w)) (broadcastTo S512x1280 b broadcasts_S1x1280_S512x1280))))) (broadcast S512x1280 (Scalar.ofBits .f32 0x3F000000#32))

section Pay

variable {s : ℕ} {i : grid0.Coords} {y0 y1 y2 : S8192x1280.Idx → EReal} {y3 : S4x1280.Idx → EReal} {y4 y6 y8 y9 : (⟨1, ![1280]⟩ : Shape).Idx → EReal}
  {y5 y7 : S10x128x128.Idx → EReal}
  {x0 x1 : Vec Ideal S512x1280 .f32} {x2 : Vec Ideal S8x1280 .f32} {x3 : Vec Ideal S512x1280 .bf16} {x4 : Vec Ideal S16x1280 .bf16}
  {x5 : Vec Ideal S4x1280 .f32} {x6 : Vec Ideal S1x1280 .f32} {x7 : Vec Ideal S10x128x128 .bf16} {x8 : Vec Ideal S1x1280 .f32}
  {x9 : Vec Ideal S10x128x128 .bf16} {x10 x11 : Vec Ideal S1x1280 .f32}
  (hs : s < 16) (hi : (i 0).val = s)
  (h0 : ∀ q k, x0 (ix2 q k) = y0 (ix2 (row 8192 s q) k)) (h1 : ∀ q k, x1 (ix2 q k) = y1 (ix2 (row 8192 s q) k))
  (h2 : ∀ (q : Fin 8) k (h : (64 * s - 1) * 8 + q.val < 8192), x2 (ix2 q k) = y1 (ix2 ⟨(64 * s - 1) * 8 + q.val, h⟩ k))
  (h3 : ∀ q k, x3 (ix2 q k) = y2 (ix2 (row 8192 s q) k))
  (h4 : ∀ (q : Fin 16) k (h : (32 * s - 1) * 16 + q.val < 8192), x4 (ix2 q k) = y2 (ix2 ⟨(32 * s - 1) * 16 + q.val, h⟩ k))
  (h5 : ∀ j, x5 j = y3 j) (h6 : ∀ a k, x6 (ix2 a k) = y4 (ix1 k)) (h7 : ∀ j, x7 j = y5 j) (h8 : ∀ a k, x8 (ix2 a k) = y6 (ix1 k))
  (h9 : ∀ j, x9 j = y7 j) (h10 : ∀ a k, x10 (ix2 a k) = y8 (ix1 k)) (h11 : ∀ a k, x11 (ix2 a k) = y9 (ix1 k))
  (hz : ∀ r k, Ideal.cmp .ogt (((2 : ℝ) : EReal) * la y2 y3 y4 y6 y9 y5 r k) (Ideal.ofBits .f32 0xBE4CCCCD#32) = 0#1)

include hs hi h2 in
theorem edge_at (q : Fin 8) (k : Fin 1280) (h : s * 512 - 8 + q.val < 8192) : edge i x2 (ix2 q k) = if 0 < s then y1 (ix2 ⟨s * 512 - 8 + q.val, h⟩ k) else 0 := by
  unfold edge
  pointwise
  rw [hi, mask_gt hs, h2 _ _ (by omega)]
  by_cases h : 0 < s
  · rw [if_pos h, if_pos h, mul_one]
    exact congrArg (fun e => y1 (ix2 e k)) (Fin.ext (show (64 * s - 1) * 8 + _ = s * 512 - 8 + q.val by first | rfl | omega | (dsimp only; omega)))
  · rw [if_neg h, if_neg h, mul_zero]

include hs hi h4 in
theorem pay8 (q : Fin 8) (k : Fin 1280) (h : s * 512 - 8 + q.val < 8192) : k0_pay8 i x4 (ix2 q k) = if 0 < s then y2 (ix2 ⟨s * 512 - 8 + q.val, h⟩ k) else 0 := by
  unfold k0_pay8
  pointwise
  rw [hi, mask_gt hs, h4 _ _ (by first | omega | (dsimp only; omega))]
  by_cases h : 0 < s
  · rw [if_pos h, if_pos h, mul_one]
    exact congrArg (fun e => y2 (ix2 e k)) (Fin.ext (show (32 * s - 1) * 16 + _ = s * 512 - 8 + q.val by first | rfl | omega | (dsimp only; omega)))
  · rw [if_neg h, if_neg h, mul_zero]

include h3 in
theorem pay2 (q : Fin 512) (k : Fin 1280) : k0_pay2 x3 (ix2 q k) = y2 (ix2 (row 8192 s q) k) := by
  unfold k0_pay2
  pointwise [h3]

include hs hi h3 h4 h5 h6 in
theorem tC_at (q : Fin 512) (k : Fin 1280) : tC i x0 x1 x2 x3 x4 x5 x6 x7 x8 x9 x10 x11 (ix2 q k) = cv y2 y3 y4 (row 8192 s q) k := by
  have e : tC i x0 x1 x2 x3 x4 x5 x6 x7 x8 x9 x10 x11 = addf (addf (addf (addf (k0_pay9 x3 x5) (k0_pay10 x6))
      (mulf (prev1 (k0_pay2 x3) (k0_pay8 i x4)) (broadcastTo S512x1280 (extractStridedSlice S1x1280 ![2, 0] x5 slices_S4x1280_o2_0_S1x1280) broadcasts_S1x1280_S512x1280)))
      (mulf (prev2 (k0_pay2 x3) (k0_pay8 i x4)) (broadcastTo S512x1280 (extractStridedSlice S1x1280 ![1, 0] x5 slices_S4x1280_o1_0_S1x1280) broadcasts_S1x1280_S512x1280)))
      (mulf (prev3 (k0_pay2 x3) (k0_pay8 i x4)) (broadcastTo S512x1280 (extractStridedSlice S1x1280 ![0, 0] x5 slices_S4x1280_o0_0_S1x1280) broadcasts_S1x1280_S512x1280)) := rfl
  have p1 := prev1_of hs (pay2 h3) (pay8 hs hi h4) q k
  have p2 := prev2_of hs (pay2 h3) (pay8 hs hi h4) q k
  have p3 := prev3_of hs (pay2 h3) (pay8 hs hi h4) q k
  rw [e]
  unfold k0_pay9 k0_pay10 cv
  pointwise [pay2 h3, p1, p2, p3, h5, h6]

theorem gateT_at {v : FVec Ideal S512x1280 .f32} {w : FVec Ideal S10x128x128 .bf16} {b : FVec Ideal S1x1280 .f32}
    {y : S10x128x128.Idx → EReal} {z : (⟨1, ![1280]⟩ : Shape).Idx → EReal} (hv : ∀ q k, v (ix2 q k) = cv y2 y3 y4 (row 8192 s q) k) (hw : ∀ j, w j = y j)
    (hb : ∀ a k, b (ix2 a k) = z (ix1 k)) (q : Fin 512) (k : Fin 1280) : gateT v w b (ix2 q k) = gate y2 y3 y4 y z (row 8192 s q) k := by
  unfold gateT gate
  pointwise [beside_at', piece_at, hv, hw, hb, half_word]
  exact half_tanh _

include hs hi h3 h4 h5 h6 h7 h8 in
theorem tR_at (q : Fin 512) (k : Fin 1280) : tR i x0 x1 x2 x3 x4 x5 x6 x7 x8 x9 x10 x11 (ix2 q k) = gate y2 y3 y4 y5 y6 (row 8192 s q) k := by
  have e : tR i x0 x1 x2 x3 x4 x5 x6 x7 x8 x9 x10 x11 = gateT (tC i x0 x1 x2 x3 x4 x5 x6 x7 x8 x9 x10 x11) (k0_pay3 x7) (k0_pay4 x8) := rfl
  rw [e]
  refine gateT_at (tC_at hs hi h3 h4 h5 h6) (fun j => ?_) (fun a k => ?_) q k
  · rw [← h7 j]
    unfold k0_pay3
    exact congrFun (shapeCast_self _ _) j
  · unfold k0_pay4
    pointwise [h8]

include hs hi h3 h4 h5 h6 h9 h10 in
theorem tI_at (q : Fin 512) (k : Fin 1280) : tI i x0 x1 x2 x3 x4 x5 x6 x7 x8 x9 x10 x11 (ix2 q k) = gate y2 y3 y4 y7 y8 (row 8192 s q) k := by
  have e : tI i x0 x1 x2 x3 x4 x5 x6 x7 x8 x9 x10 x11 = gateT (tC i x0 x1 x2 x3 x4 x5 x6 x7 x8 x9 x10 x11) (k0_pay5 x9) (k0_pay6 x10) := rfl
  rw [e]
  refine gateT_at (tC_at hs hi h3 h4 h5 h6) (fun j => ?_) (fun a k => ?_) q k
  · rw [← h9 j]
    unfold k0_pay5
    exact congrFun (shapeCast_self _ _) j
  · unfold k0_pay6
    pointwise [h10]

include h11 in
theorem pay7 (a : Fin 1) (k : Fin 1280) : k0_pay7 x11 (ix2 a k) = y9 (ix1 k) := by
  unfold k0_pay7
  pointwise [h11]

include h11 in
theorem pay22 (a : Fin 1) (k : Fin 1280) : k0_pay22 (k0_pay7 x11) (ix2 a k) = sp y9 k := by
  unfold k0_pay22
  pointwise [pay7 h11]
  simp only [zero_sub]
  rfl

include hs hi h3 h4 h5 h6 h7 h8 h11 in
theorem pay23 (q : Fin 512) (k : Fin 1280) : k0_pay23 (k0_pay7 x11) (tR i x0 x1 x2 x3 x4 x5 x6 x7 x8 x9 x10 x11) (ix2 q k) = la y2 y3 y4 y6 y9 y5 (row 8192 s q) k := by
  unfold k0_pay23
  pointwise [pay22 h11, tR_at hs hi h3 h4 h5 h6 h7 h8, word_m8]
  rfl

include hs hi h3 h4 h5 h6 h7 h8 h11 in
theorem pay24 (q : Fin 512) (k : Fin 1280) : k0_pay24 (k0_pay7 x11) (tR i x0 x1 x2 x3 x4 x5 x6 x7 x8 x9 x10 x11) (ix2 q k) = Ideal.exp (la y2 y3 y4 y6 y9 y5 (row 8192 s q) k) := by
  unfold k0_pay24
  pointwise [pay23 hs hi h3 h4 h5 h6 h7 h8 h11]

include hs hi h3 h4 h5 h6 h7 h8 h11 in
theorem pay25 (q : Fin 512) (k : Fin 1280) : k0_pay25 (k0_pay7 x11) (tR i x0 x1 x2 x3 x4 x5 x6 x7 x8 x9 x10 x11) (ix2 q k) = ((2 : ℝ) : EReal) * la y2 y3 y4 y6 y9 y5 (row 8192 s q) k := by
  unfold k0_pay25
  pointwise [pay23 hs hi h3 h4 h5 h6 h7 h8 h11, word_2]

include hs hi h3 h4 h5 h6 h7 h8 h11 hz in
theorem pay28 (q : Fin 512) (k : Fin 1280) : k0_pay28 (k0_pay25 (k0_pay7 x11) (tR i x0 x1 x2 x3 x4 x5 x6 x7 x8 x9 x10 x11)) (k0_pay26 (k0_pay7 x11) (tR i x0 x1 x2 x3 x4 x5 x6 x7 x8 x9 x10 x11)) (k0_pay27 (k0_pay7 x11) (tR i x0 x1 x2 x3 x4 x5 x6 x7 x8 x9 x10 x11)) (ix2 q k) = mu y2 y3 y4 y6 y9 y5 (row 8192 s q) k := by
  unfold k0_pay28 k0_pay27
  pointwise [pay25 hs hi h3 h4 h5 h6 h7 h8 h11, hz]
  rfl

include hs hi h0 h1 h2 h3 h4 h5 h6 h7 h8 h9 h10 h11 hz in
theorem tL_at (q : Fin 512) (k : Fin 1280) : tL i x0 x1 x2 x3 x4 x5 x6 x7 x8 x9 x10 x11 (ix2 q k) = dl y0 y1 y2 y3 y4 y6 y8 y9 y5 y7 (row 8192 s q) k := by
  have e : tL i x0 x1 x2 x3 x4 x5 x6 x7 x8 x9 x10 x11 = subf (mulf (mulf x0 (prev1 x1 (edge i x2))) (k0_pay24 (k0_pay7 x11) (tR i x0 x1 x2 x3 x4 x5 x6 x7 x8 x9 x10 x11)))
      (divf (mulf (mulf (mulf (mulf x0 (tI i x0 x1 x2 x3 x4 x5 x6 x7 x8 x9 x10 x11)) (tC i x0 x1 x2 x3 x4 x5 x6 x7 x8 x9 x10 x11)) (k0_pay24 (k0_pay7 x11) (tR i x0 x1 x2 x3 x4 x5 x6 x7 x8 x9 x10 x11))) (k0_pay24 (k0_pay7 x11) (tR i x0 x1 x2 x3 x4 x5 x6 x7 x8 x9 x10 x11))) (k0_pay28 (k0_pay25 (k0_pay7 x11) (tR i x0 x1 x2 x3 x4 x5 x6 x7 x8 x9 x10 x11)) (k0_pay26 (k0_pay7 x11) (tR i x0 x1 x2 x3 x4 x5 x6 x7 x8 x9 x10 x11)) (k0_pay27 (k0_pay7 x11) (tR i x0 x1 x2 x3 x4 x5 x6 x7 x8 x9 x10 x11)))) := rfl
  have p1 := prev1_of hs h1 (edge_at hs hi h2) q k
  rw [e]
  pointwise [h0, p1, pay24 hs hi h3 h4 h5 h6 h7 h8 h11, tI_at hs hi h3 h4 h5 h6 h9 h10, tC_at hs hi h3 h4 h5 h6, pay28 hs hi h3 h4 h5 h6 h7 h8 h11 hz]
  rfl

include hs hi h0 h1 h2 h3 h4 h5 h6 h7 h8 h9 h10 h11 hz in
theorem tPr_at (q : Fin 512) (k : Fin 1280) : tPr i x0 x1 x2 x3 x4 x5 x6 x7 x8 x9 x10 x11 (ix2 q k) = pr y0 y1 y2 y3 y4 y6 y8 y9 y5 y7 (row 8192 s q) k := by
  have e : tPr i x0 x1 x2 x3 x4 x5 x6 x7 x8 x9 x10 x11 = mulf (mulf (mulf (mulf (tL i x0 x1 x2 x3 x4 x5 x6 x7 x8 x9 x10 x11) (broadcast S512x1280 (Scalar.ofBits .f32 0xC1000000#32))) (broadcastTo S512x1280 (k0_pay22 (k0_pay7 x11)) broadcasts_S1x1280_S512x1280))
      (tR i x0 x1 x2 x3 x4 x5 x6 x7 x8 x9 x10 x11)) (subf (broadcast S512x1280 (Scalar.ofBits .f32 0x3F800000#32)) (tR i x0 x1 x2 x3 x4 x5 x6 x7 x8 x9 x10 x11)) := rfl
  rw [e]
  pointwise [tL_at hs hi h0 h1 h2 h3 h4 h5 h6 h7 h8 h9 h10 h11 hz, pay22 h11, tR_at hs hi h3 h4 h5 h6 h7 h8, word_m8]
  rfl

include hs hi h0 h3 h4 h5 h6 h7 h8 h9 h10 h11 hz in
theorem tPi_at (q : Fin 512) (k : Fin 1280) : tPi i x0 x1 x2 x3 x4 x5 x6 x7 x8 x9 x10 x11 (ix2 q k) = pi y0 y2 y3 y4 y6 y8 y9 y5 y7 (row 8192 s q) k := by
  unfold tPi k0_pay31
  pointwise [h0, tI_at hs hi h3 h4 h5 h6 h9 h10, tC_at hs hi h3 h4 h5 h6, pay28 hs hi h3 h4 h5 h6 h7 h8 h11 hz]
  rfl

include hs hi h0 h1 h2 h3 h4 h5 h6 h7 h8 h9 h10 h11 hz in
theorem tDc_at (q : Fin 512) (k : Fin 1280) : tDc i x0 x1 x2 x3 x4 x5 x6 x7 x8 x9 x10 x11 (ix2 q k) = dc y0 y1 y2 y3 y4 y6 y8 y9 y5 y7 (row 8192 s q) k := by
  have e : tDc i x0 x1 x2 x3 x4 x5 x6 x7 x8 x9 x10 x11 = truncf .bf16 (addf (addf (k0_pay32 x0 (tI i x0 x1 x2 x3 x4 x5 x6 x7 x8 x9 x10 x11) (k0_pay25 (k0_pay7 x11) (tR i x0 x1 x2 x3 x4 x5 x6 x7 x8 x9 x10 x11)) (k0_pay26 (k0_pay7 x11) (tR i x0 x1 x2 x3 x4 x5 x6 x7 x8 x9 x10 x11)) (k0_pay27 (k0_pay7 x11) (tR i x0 x1 x2 x3 x4 x5 x6 x7 x8 x9 x10 x11)))
      (beside (pieceT (tPr i x0 x1 x2 x3 x4 x5 x6 x7 x8 x9 x10 x11) (shapeCast S10x128x128 x7 shapeCasts_S10x128x128_S10x128x128))))
      (beside (pieceT (tPi i x0 x1 x2 x3 x4 x5 x6 x7 x8 x9 x10 x11) (shapeCast S10x128x128 x9 shapeCasts_S10x128x128_S10x128x128)))) bitsLt_bf16_f32 := rfl
  rw [e, shapeCast_self, shapeCast_self]
  unfold k0_pay32 dc
  pointwise [beside_at', pieceT_at, h0, tI_at hs hi h3 h4 h5 h6 h9 h10, pay28 hs hi h3 h4 h5 h6 h7 h8 h11 hz,
    tPr_at hs hi h0 h1 h2 h3 h4 h5 h6 h7 h8 h9 h10 h11 hz, tPi_at hs hi h0 h3 h4 h5 h6 h7 h8 h9 h10 h11 hz, h7, h9]

include hs hi h0 h1 h2 h3 h4 h5 h6 h7 h8 h9 h10 h11 hz in
theorem tWa_at (n : Fin 10) (a b : Fin 128) : tWa i x0 x1 x2 x3 x4 x5 x6 x7 x8 x9 x10 x11 (ix3 n a b)
    = ∑ q : Fin 512, cv y2 y3 y4 (row 8192 s q) (col n a) * pr y0 y1 y2 y3 y4 y6 y8 y9 y5 y7 (row 8192 s q) (col n b) := by
  have e : tWa i x0 x1 x2 x3 x4 x5 x6 x7 x8 x9 x10 x11 = stacked (pieceW (tC i x0 x1 x2 x3 x4 x5 x6 x7 x8 x9 x10 x11) (tPr i x0 x1 x2 x3 x4 x5 x6 x7 x8 x9 x10 x11)) := rfl
  rw [e, stacked_at, pieceW_at]
  exact Finset.sum_congr rfl fun q _ => congrArg₂ (· * ·) (tC_at hs hi h3 h4 h5 h6 q _) (tPr_at hs hi h0 h1 h2 h3 h4 h5 h6 h7 h8 h9 h10 h11 hz q _)

include hs hi h0 h3 h4 h5 h6 h7 h8 h9 h10 h11 hz in
theorem tWx_at (n : Fin 10) (a b : Fin 128) : tWx i x0 x1 x2 x3 x4 x5 x6 x7 x8 x9 x10 x11 (ix3 n a b)
    = ∑ q : Fin 512, cv y2 y3 y4 (row 8192 s q) (col n a) * pi y0 y2 y3 y4 y6 y8 y9 y5 y7 (row 8192 s q) (col n b) := by
  have e : tWx i x0 x1 x2 x3 x4 x5 x6 x7 x8 x9 x10 x11 = stacked (pieceW (tC i x0 x1 x2 x3 x4 x5 x6 x7 x8 x9 x10 x11) (tPi i x0 x1 x2 x3 x4 x5 x6 x7 x8 x9 x10 x11)) := rfl
  rw [e, stacked_at, pieceW_at]
  exact Finset.sum_congr rfl fun q _ => congrArg₂ (· * ·) (tC_at hs hi h3 h4 h5 h6 q _) (tPi_at hs hi h0 h3 h4 h5 h6 h7 h8 h9 h10 h11 hz q _)

include hs hi h0 h1 h2 h3 h4 h5 h6 h7 h8 h9 h10 h11 hz in
theorem tBa_at (a : Fin 1) (k : Fin 1280) : k0_pay59 (F := Ideal) (tPr i x0 x1 x2 x3 x4 x5 x6 x7 x8 x9 x10 x11) (ix2 a k) = ∑ q : Fin 512, pr y0 y1 y2 y3 y4 y6 y8 y9 y5 y7 (row 8192 s q) k := by
  unfold k0_pay59
  pointwise [tPr_at hs hi h0 h1 h2 h3 h4 h5 h6 h7 h8 h9 h10 h11 hz]

include hs hi h0 h3 h4 h5 h6 h7 h8 h9 h10 h11 hz in
theorem tBx_at (a : Fin 1) (k : Fin 1280) : k0_pay60 (F := Ideal) (tPi i x0 x1 x2 x3 x4 x5 x6 x7 x8 x9 x10 x11) (ix2 a k) = ∑ q : Fin 512, pi y0 y2 y3 y4 y6 y8 y9 y5 y7 (row 8192 s q) k := by
  unfold k0_pay60
  pointwise [tPi_at hs hi h0 h3 h4 h5 h6 h7 h8 h9 h10 h11 hz]

include hs hi h0 h1 h2 h3 h4 h5 h6 h7 h8 h9 h10 h11 hz in
theorem tLam_at (hr : IsReal y9) (a : Fin 1) (k : Fin 1280) : tLam i x0 x1 x2 x3 x4 x5 x6 x7 x8 x9 x10 x11 (ix2 a k)
    = ∑ q : Fin 512, dl y0 y1 y2 y3 y4 y6 y8 y9 y5 y7 (row 8192 s q) k * ((8 : ℝ) : EReal) * gate y2 y3 y4 y5 y6 (row 8192 s q) k * Ideal.logistic (-y9 (ix1 k)) := by
  obtain ⟨z, hz'⟩ := hr (ix1 k)
  obtain ⟨p, hp, ep⟩ := logistic_pos (-z)
  have e : Ideal.logistic (-y9 (ix1 k)) = (p : EReal) := by rw [hz', ← EReal.coe_neg, ep]
  unfold tLam k0_pay41 k0_pay40
  pointwise [tL_at hs hi h0 h1 h2 h3 h4 h5 h6 h7 h8 h9 h10 h11 hz, tR_at hs hi h3 h4 h5 h6 h7 h8, word_8, pay7 h11, half_word]
  simp only [zero_sub]
  rw [half_tanh, e, sum_mul_pos hp]

end Pay

end Cert.GatesIdeal.Rows

end
-- ==== Proof.GatesRef.lean ====
/- The reference of the gradient of the recurrence's gates, stage by stage. -/
module

public import proofs.«01_k».proof.Proof.Gen.GatesRefIdeal.Read
public import proofs.«01_k».proof.Proof.GatesMath

@[expose] public section

set_option maxRecDepth 16384

noncomputable section

open Cert.RowLib Idealize.ShloMosaic Idealize.ShloMosaic.TcCoe Idealize.SL.Sem

namespace Cert.GatesRefIdeal.Rows

open Cert.GatesRefIdeal Cert.GatesRefIdeal.Gen Cert.GatesRefIdeal.Read Cert.ConvMath Cert.GatesMath

variable (x0 x1 x2 : S8192x1280.Idx → EReal) (x3 : S4x1280.Idx → EReal) (x4 x6 x8 x9 : S1280.Idx → EReal) (x5 x7 : S10x128x128.Idx → EReal)

/-! ## The convolution and the gates -/

theorem back3 (r : Fin 8192) (k : Fin 1280) : val_main_v2 (F := Ideal) x2 (ix2 r k) = above x2 3 r k := by
  unfold val_main_v2 val_main_v1 val_main_v0 val_main_cst above
  pointwise
  try split_ifs
  all_goals try rw [dif_pos (by omega)]
  all_goals try rw [dif_neg (by omega)]
  all_goals first
    | rfl
    | omega
    | exact congrArg (fun e => x2 (ix2 e k)) (Fin.ext (by first | rfl | omega | (dsimp only; omega)))

theorem back2 (r : Fin 8192) (k : Fin 1280) : val_main_v8 (F := Ideal) x2 (ix2 r k) = above x2 2 r k := by
  unfold val_main_v8 val_main_v1 val_main_v0 val_main_cst above
  pointwise
  try split_ifs
  all_goals try rw [dif_pos (by omega)]
  all_goals try rw [dif_neg (by omega)]
  all_goals first
    | rfl
    | omega
    | exact congrArg (fun e => x2 (ix2 e k)) (Fin.ext (by first | rfl | omega | (dsimp only; omega)))

theorem back1 (r : Fin 8192) (k : Fin 1280) : val_main_v15 (F := Ideal) x2 (ix2 r k) = above x2 1 r k := by
  unfold val_main_v15 val_main_v1 val_main_v0 val_main_cst above
  pointwise
  try split_ifs
  all_goals try rw [dif_pos (by omega)]
  all_goals try rw [dif_neg (by omega)]
  all_goals first
    | rfl
    | omega
    | exact congrArg (fun e => x2 (ix2 e k)) (Fin.ext (by first | rfl | omega | (dsimp only; omega)))

theorem back0 (r : Fin 8192) (k : Fin 1280) : val_main_v22 (F := Ideal) x2 (ix2 r k) = x2 (ix2 r k) := by
  unfold val_main_v22 val_main_v1 val_main_v0 val_main_cst
  pointwise
  all_goals first
    | rfl
    | omega
    | exact congrArg (fun e => x2 (ix2 e k)) (Fin.ext (by first | rfl | omega | (dsimp only; omega)))

theorem prior (r : Fin 8192) (k : Fin 1280) : val_main_v34 (F := Ideal) x1 (ix2 r k) = above x1 1 r k := by
  unfold val_main_v34 val_main_v32 val_main_v33 val_main_cst_0 above
  pointwise
  try split_ifs
  all_goals try rw [dif_pos (by omega)]
  all_goals try rw [dif_neg (by omega)]
  all_goals first
    | rfl
    | omega
    | exact congrArg (fun e => x1 (ix2 e k)) (Fin.ext (by first | rfl | omega | (dsimp only; omega)))

theorem col_eq (k : Fin 1280) (i : Fin 128) (h : k.val / 128 * 128 + i.val < 1280) : (⟨k.val / 128 * 128 + i.val, h⟩ : Fin 1280) = col (hd k) i :=
  Fin.ext (congrArg (· + i.val) (mul_comm (k.val / 128) 128))

theorem col_eq' (n : Fin 10) (i : Fin 128) (h : n.val * 128 + i.val < 1280) : (⟨n.val * 128 + i.val, h⟩ : Fin 1280) = col n i :=
  Fin.ext (congrArg (· + i.val) (mul_comm n.val 128))

theorem cv_eq (r : Fin 8192) (k : Fin 1280) : val_main_v31 (F := Ideal) x2 x3 x4 (ix2 r k) = cv x2 x3 x4 r k := by
  unfold val_main_v31 val_main_v30 val_main_v29 val_main_v28 val_main_v27 val_main_v26 val_main_v25 val_main_v24 val_main_v23 val_main_v21 val_main_v20 val_main_v19 val_main_v18 val_main_v17 val_main_v16 val_main_v14 val_main_v13 val_main_v12 val_main_v11 val_main_v10 val_main_v9 val_main_v7 val_main_v6 val_main_v5 val_main_v4 val_main_v3 cv
  pointwise [back0, back1, back2, back3]
  abel

theorem ra_eq (r : Fin 8192) (k : Fin 1280) : val_main_v47 (F := Ideal) x2 x3 x4 x5 x6 (ix2 r k) = gate x2 x3 x4 x5 x6 r k := by
  unfold val_main_v47 val_main_v46 val_main_cst_2 val_main_v45 val_main_v44 val_main_cst_1 val_main_v43 val_main_v42 val_main_v41 val_main_v40 val_main_v39 val_main_v38 val_main_v37 val_main_v36 val_main_v35 gate
  pointwise [cv_eq]
  exact (show _ = Ideal.logistic _ from rfl).trans (congrArg Ideal.logistic (congrArg (· + _) (Finset.sum_congr rfl fun i _ =>
    (mul_comm _ _).trans (congrArg (fun e => cv x2 x3 x4 r e * _) (col_eq k i _)))))

theorem rx_eq (r : Fin 8192) (k : Fin 1280) : val_main_v70 (F := Ideal) x2 x3 x4 x7 x8 (ix2 r k) = gate x2 x3 x4 x7 x8 r k := by
  unfold val_main_v70 val_main_v69 val_main_cst_6 val_main_v68 val_main_v67 val_main_cst_5 val_main_v66 val_main_v65 val_main_v64 val_main_v63 val_main_v62 val_main_v61 val_main_v60 val_main_v59 val_main_v58 gate
  pointwise [cv_eq]
  exact (show _ = Ideal.logistic _ from rfl).trans (congrArg Ideal.logistic (congrArg (· + _) (Finset.sum_congr rfl fun i _ =>
    (mul_comm _ _).trans (congrArg (fun e => cv x2 x3 x4 r e * _) (col_eq k i _)))))

theorem sp_eq (k : Fin 1280) : val_main_v54_0 (F := Ideal) x9 (ix1 k) = sp x9 k := by
  unfold val_main_v54_0 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_call0_cst val_main_v53 sp
  pointwise
  have e : FloatOps.absf (F := Ideal) (φ := .f32) (-x9 (ix1 k)) = max (-x9 (ix1 k)) (x9 (ix1 k)) :=
    (show _ = max _ (- -x9 (ix1 k)) from rfl).trans (by rw [neg_neg])
  simp [Ideal.cmp]
  rw [e]
  rfl

theorem la_eq (r : Fin 8192) (k : Fin 1280) : val_main_v57 (F := Ideal) x2 x3 x4 x5 x6 x9 (ix2 r k) = la x2 x3 x4 x6 x9 x5 r k := by
  unfold val_main_v57 val_main_v56 val_main_v55 val_main_v52 val_main_v51 val_main_cst_4 la
  pointwise [ra_eq, sp_eq, word_m8]

theorem la2_eq (r : Fin 8192) (k : Fin 1280) : val_main_v76 (F := Ideal) x2 x3 x4 x5 x6 x9 (ix2 r k) = ((2 : ℝ) : EReal) * la x2 x3 x4 x6 x9 x5 r k := by
  unfold val_main_v76 val_main_v75 val_main_cst_8
  pointwise [la_eq, word_2]

section Real

variable (h0 : IsReal x0) (h1 : IsReal x1) (h2 : IsReal x2) (h3 : IsReal x3) (h4 : IsReal x4) (h5 : IsReal x5)
  (h6 : IsReal x6) (h7 : IsReal x7) (h8 : IsReal x8) (h9 : IsReal x9)
  (hz : ∀ r k, ((2 : ℝ) : EReal) * la x2 x3 x4 x6 x9 x5 r k < 0)

include h9 in
theorem sg_eq (k : Fin 1280) : val_main_v54_1 (F := Ideal) x9 (ix1 k) = Ideal.logistic (-x9 (ix1 k)) := by
  obtain ⟨a, ha⟩ := h9 (ix1 k)
  obtain ⟨b, hb⟩ := real_sp h9 k
  rw [← sp_grad h9]
  unfold val_main_v54_1 val_main_call0_v21 val_main_call0_v20 val_main_call0_v19 val_main_call0_cst_3 val_main_call0_v18 val_main_call0_v17 val_main_call0_cst_2 val_main_call0_v16 val_main_call0_v15 val_main_call0_cst_1 val_main_call0_v14 val_main_call0_v13 val_main_call0_cst_0 val_main_v53
  pointwise [sp_eq]
  rw [hb, ha, word_top, ← EReal.coe_neg, if_neg (EReal.coe_ne_top _), if_neg (EReal.coe_ne_top _)]

include h2 h3 h4 h5 h6 h9 hz in
theorem mu_eq' (r : Fin 8192) (k : Fin 1280) : val_main_v80 (F := Ideal) x2 x3 x4 x5 x6 x9 (ix2 r k) = mu x2 x3 x4 x6 x9 x5 r k := by
  rw [← mu_eq h2 h3 h4 h5 h6 h9 hz]
  unfold val_main_v80 val_main_v79 val_main_v77
  pointwise [la2_eq]

include h0 h1 h2 h3 h4 h5 h6 h7 h8 h9 hz in
theorem dl_eq' (r : Fin 8192) (k : Fin 1280) : val_main_v100 (F := Ideal) x0 x1 x2 x3 x4 x5 x6 x7 x8 x9 (ix2 r k) = dl x0 x1 x2 x3 x4 x6 x8 x9 x5 x7 r k := by
  rw [← dl_eq h0 h1 h2 h3 h4 h5 h6 h7 h8 h9 hz]
  unfold val_main_v100 val_main_v99 val_main_v98 val_main_v97 val_main_cst_10 val_main_v96 val_main_v95 val_main_v94 val_main_v93 val_main_v90 val_main_v88 val_main_v87 val_main_v84 val_main_v82 val_main_v81 val_main_cst_9 val_main_v78 val_main_v74
  pointwise [la2_eq, la_eq, mu_eq' x2 x3 x4 x6 x9 x5 h2 h3 h4 h5 h6 h9 hz, rx_eq, cv_eq, prior, half_word, word_2]

include h2 h3 h4 h5 h6 h9 hz in
theorem pi_eq (r : Fin 8192) (k : Fin 1280) : val_main_v101 (F := Ideal) x0 x2 x3 x4 x5 x6 x7 x8 x9 (ix2 r k) = pi x0 x2 x3 x4 x6 x8 x9 x5 x7 r k := by
  unfold val_main_v101 val_main_v92 val_main_v89 val_main_v88 val_main_v73 val_main_v72 val_main_v71 val_main_cst_7 pi
  pointwise [mu_eq' x2 x3 x4 x6 x9 x5 h2 h3 h4 h5 h6 h9 hz, rx_eq, cv_eq]
  rw [mul_comm (mu _ _ _ _ _ _ _ _), ← mul_assoc]

include h0 h1 h2 h3 h4 h5 h6 h7 h8 h9 hz in
theorem pr_eq (r : Fin 8192) (k : Fin 1280) : val_main_v123 (F := Ideal) x0 x1 x2 x3 x4 x5 x6 x7 x8 x9 (ix2 r k) = pr x0 x1 x2 x3 x4 x6 x8 x9 x5 x7 r k := by
  unfold val_main_v123 val_main_v122 val_main_v121 val_main_cst_15 val_main_v117 val_main_v116 val_main_v55 val_main_v50 val_main_v49 val_main_v48 val_main_cst_3 pr
  pointwise [dl_eq' x0 x1 x2 x3 x4 x6 x8 x9 x5 x7 h0 h1 h2 h3 h4 h5 h6 h7 h8 h9 hz, sp_eq, ra_eq, word_m8]
  rw [← mul_assoc, ← mul_assoc, mul_comm ((-8 : ℝ) : EReal)]

include h0 h1 h2 h3 h4 h5 h6 h7 h8 h9 hz in
theorem dc_eq (r : Fin 8192) (k : Fin 1280) : val_main_v135 (F := Ideal) x0 x1 x2 x3 x4 x5 x6 x7 x8 x9 (ix2 r k) = dc x0 x1 x2 x3 x4 x6 x8 x9 x5 x7 r k := by
  unfold val_main_v135 val_main_v134 val_main_v133 val_main_v130 val_main_v129 val_main_v128 val_main_v127 val_main_v112 val_main_v111 val_main_v108 val_main_v107 val_main_v106 val_main_v105 val_main_v91 val_main_v89 val_main_v88 dc
  pointwise [mu_eq' x2 x3 x4 x6 x9 x5 h2 h3 h4 h5 h6 h9 hz, rx_eq, pi_eq x0 x2 x3 x4 x6 x8 x9 x5 x7 h2 h3 h4 h5 h6 h9 hz,
    pr_eq x0 x1 x2 x3 x4 x6 x8 x9 x5 x7 h0 h1 h2 h3 h4 h5 h6 h7 h8 h9 hz]
  simp only [col_eq]
  rw [add_right_comm, mul_comm (gate _ _ _ _ _ _ _), mul_comm (mu _ _ _ _ _ _ _ _)]
  rfl

include h0 h1 h2 h3 h4 h5 h6 h7 h8 h9 hz in
theorem dwa_eq (n : Fin 10) (i j : Fin 128) : val_main_v132 (F := Ideal) x0 x1 x2 x3 x4 x5 x6 x7 x8 x9 (ix3 n i j) = dwa x0 x1 x2 x3 x4 x6 x8 x9 x5 x7 n i j := by
  unfold val_main_v132 val_main_v131 val_main_v128 val_main_v127 val_main_v35 dwa
  pointwise [cv_eq, pr_eq x0 x1 x2 x3 x4 x6 x8 x9 x5 x7 h0 h1 h2 h3 h4 h5 h6 h7 h8 h9 hz]
  simp only [col_eq']
  exact Finset.sum_congr rfl fun r _ => mul_comm _ _

include h2 h3 h4 h5 h6 h9 hz in
theorem dwx_eq (n : Fin 10) (i j : Fin 128) : val_main_v110 (F := Ideal) x0 x2 x3 x4 x5 x6 x7 x8 x9 (ix3 n i j) = dwx x0 x2 x3 x4 x6 x8 x9 x5 x7 n i j := by
  unfold val_main_v110 val_main_v109 val_main_v106 val_main_v105 val_main_v58 dwx
  pointwise [cv_eq, pi_eq x0 x2 x3 x4 x6 x8 x9 x5 x7 h2 h3 h4 h5 h6 h9 hz]
  simp only [col_eq']
  exact Finset.sum_congr rfl fun r _ => mul_comm _ _

include h0 h1 h2 h3 h4 h5 h6 h7 h8 h9 hz in
theorem dba_eq (a : Fin 1) (k : Fin 1280) : val_main_v136 (F := Ideal) x0 x1 x2 x3 x4 x5 x6 x7 x8 x9 (ix2 a k) = ∑ r : Fin 8192, pr x0 x1 x2 x3 x4 x6 x8 x9 x5 x7 r k := by
  unfold val_main_v136 val_main_v126 val_main_cst_17 val_main_v125 val_main_v124 val_main_cst_16
  pointwise [pr_eq x0 x1 x2 x3 x4 x6 x8 x9 x5 x7 h0 h1 h2 h3 h4 h5 h6 h7 h8 h9 hz]
  exact Fin.sum_univ_one _

include h2 h3 h4 h5 h6 h9 hz in
theorem dbx_eq (a : Fin 1) (k : Fin 1280) : val_main_v137 (F := Ideal) x0 x2 x3 x4 x5 x6 x7 x8 x9 (ix2 a k) = ∑ r : Fin 8192, pi x0 x2 x3 x4 x6 x8 x9 x5 x7 r k := by
  unfold val_main_v137 val_main_v104 val_main_cst_12 val_main_v103 val_main_v102 val_main_cst_11
  pointwise [pi_eq x0 x2 x3 x4 x6 x8 x9 x5 x7 h2 h3 h4 h5 h6 h9 hz]
  exact Fin.sum_univ_one _

include h0 h1 h2 h3 h4 h5 h6 h7 h8 h9 hz in
theorem dlam_eq' (a : Fin 1) (k : Fin 1280) : val_main_v138 (F := Ideal) x0 x1 x2 x3 x4 x5 x6 x7 x8 x9 (ix2 a k) = dlam x0 x1 x2 x3 x4 x6 x8 x9 x5 x7 k := by
  rw [← dlam_eq h0 h1 h2 h3 h4 h5 h6 h7 h8 h9 hz]
  unfold val_main_v138 val_main_v120 val_main_v119 val_main_v118 val_main_cst_14 val_main_v115 val_main_v114 val_main_cst_13 val_main_v113 val_main_v52 val_main_v51 val_main_cst_4
  pointwise [dl_eq' x0 x1 x2 x3 x4 x6 x8 x9 x5 x7 h0 h1 h2 h3 h4 h5 h6 h7 h8 h9 hz, ra_eq, sg_eq x9 h9, word_m8]
  simp only [Fin.sum_univ_one]

end Real

end Cert.GatesRefIdeal.Rows

end
-- ==== Proof.GatesValue.lean ====
/- The result arrays of the kernel of the gradient of the recurrence's gates. -/
module

public import proofs.«01_k».proof.Proof.GatesTile
public import proofs.«01_k».proof.Proof.GatesRef

@[expose] public section

set_option maxRecDepth 16384

noncomputable section

open Cert.RowLib Idealize.ShloMosaic Idealize.ShloMosaic.TcCoe Idealize.SL.Sem

namespace Cert.GatesIdeal.Rows

open Cert.GatesIdeal Cert.GatesIdeal.Gen Cert.ConvMath Cert.GatesMath

variable (m : (ℓ : Loc nD τ sig) → Buf (Elt Ideal) ℓ) (c : Dev nD)

/-! ## The arguments' blocks -/

abbrev a0 : S8192x1280.Idx → EReal := m ((c : Thread nD τ).loc main_arg0)
abbrev a1 : S8192x1280.Idx → EReal := m ((c : Thread nD τ).loc main_arg1)
abbrev a2 : S8192x1280.Idx → EReal := m ((c : Thread nD τ).loc main_arg2)
abbrev a3 : S4x1280.Idx → EReal := m ((c : Thread nD τ).loc main_arg3)
abbrev a4 : S1280.Idx → EReal := m ((c : Thread nD τ).loc main_arg4)
abbrev a5 : S10x128x128.Idx → EReal := m ((c : Thread nD τ).loc main_arg5)
abbrev a6 : S1280.Idx → EReal := m ((c : Thread nD τ).loc main_arg6)
abbrev a7 : S10x128x128.Idx → EReal := m ((c : Thread nD τ).loc main_arg7)
abbrev a8 : S1280.Idx → EReal := m ((c : Thread nD τ).loc main_arg8)
abbrev a9 : S1280.Idx → EReal := m ((c : Thread nD τ).loc main_arg9)

theorem V_v0 : V m c main_v0 = truncf (F := Ideal) .bf16 (a2 m c) bitsLt_bf16_f32 := by
  unfold V
  simp only [hostOps0]
  after_results

theorem V_v2 : V m c main_v2 = truncf (F := Ideal) .bf16 (a5 m c) bitsLt_bf16_f32 := by
  unfold V
  simp only [hostOps0]
  after_results

theorem V_v3 : V m c main_v3 = truncf (F := Ideal) .bf16 (a7 m c) bitsLt_bf16_f32 := by
  unfold V
  simp only [hostOps0]
  after_results

theorem V_v1 : V m c main_v1 = shapeCast S1x1280 (a4 m c) shapeCasts_S1280_S1x1280 := by
  unfold V
  simp only [hostOps0]
  after_results
  rfl

theorem V_v4 : V m c main_v4 = shapeCast S1x1280 (a6 m c) shapeCasts_S1280_S1x1280 := by
  unfold V
  simp only [hostOps0]
  after_results
  rfl

theorem V_v5 : V m c main_v5 = shapeCast S1x1280 (a8 m c) shapeCasts_S1280_S1x1280 := by
  unfold V
  simp only [hostOps0]
  after_results
  rfl

theorem V_v6 : V m c main_v6 = shapeCast S1x1280 (a9 m c) shapeCasts_S1280_S1x1280 := by
  unfold V
  simp only [hostOps0]
  after_results
  rfl

variable (t : Fin cfg0.N)

theorem b90 : t.val < 16 := lt_of_lt_of_eq t.isLt N_0

theorem b91 : (grid0.coords t 0).val = t.val := coord t

theorem b0 (q : Fin 512) (k : Fin 1280) : iblk m c 0 t (ix2 q k) = a0 m c (ix2 (row 8192 t.val q) k) :=
  (iblk0_apply m c t q k).trans (congrFun (V_main_arg0 m c) _)

theorem b1 (q : Fin 512) (k : Fin 1280) : iblk m c 1 t (ix2 q k) = a1 m c (ix2 (row 8192 t.val q) k) :=
  (iblk1_apply m c t q k).trans (congrFun (V_main_arg1 m c) _)

theorem b2 (q : Fin 8) (k : Fin 1280) (h : (64 * t.val - 1) * 8 + q.val < 8192) : iblk m c 2 t (ix2 q k) = a1 m c (ix2 ⟨(64 * t.val - 1) * 8 + q.val, h⟩ k) :=
  (iblk2_apply m c t q k).trans (congrFun (V_main_arg1 m c) _)

theorem b3 (q : Fin 512) (k : Fin 1280) : iblk m c 3 t (ix2 q k) = a2 m c (ix2 (row 8192 t.val q) k) :=
  (iblk3_apply m c t q k).trans (congrFun (V_v0 m c) _)

theorem b4 (q : Fin 16) (k : Fin 1280) (h : (32 * t.val - 1) * 16 + q.val < 8192) : iblk m c 4 t (ix2 q k) = a2 m c (ix2 ⟨(32 * t.val - 1) * 16 + q.val, h⟩ k) :=
  (iblk4_apply m c t q k).trans (congrFun (V_v0 m c) _)

theorem b5 (j : S4x1280.Idx) : iblk m c 5 t j = a3 m c j :=
  (congrFun (iblk5_eq m c t) j).trans (congrFun (V_main_arg3 m c) j)

theorem b7 (j : S10x128x128.Idx) : iblk m c 7 t j = a5 m c j :=
  (congrFun (iblk7_eq m c t) j).trans (congrFun (V_v2 m c) j)

theorem b9 (j : S10x128x128.Idx) : iblk m c 9 t j = a7 m c j :=
  (congrFun (iblk9_eq m c t) j).trans (congrFun (V_v3 m c) j)

theorem vec (y : S1280.Idx → EReal) (a : Fin 1) (k : Fin 1280) : shapeCast S1x1280 y shapeCasts_S1280_S1x1280 (ix2 a k) = y (ix1 k) := by
  pointwise

theorem b6 (a : Fin 1) (k : Fin 1280) : iblk m c 6 t (ix2 a k) = a4 m c (ix1 k) :=
  (congrFun ((iblk6_eq m c t).trans (V_v1 m c)) (ix2 a k)).trans (vec _ a k)

theorem b8 (a : Fin 1) (k : Fin 1280) : iblk m c 8 t (ix2 a k) = a6 m c (ix1 k) :=
  (congrFun ((iblk8_eq m c t).trans (V_v4 m c)) (ix2 a k)).trans (vec _ a k)

theorem b10 (a : Fin 1) (k : Fin 1280) : iblk m c 10 t (ix2 a k) = a8 m c (ix1 k) :=
  (congrFun ((iblk10_eq m c t).trans (V_v5 m c)) (ix2 a k)).trans (vec _ a k)

theorem b11 (a : Fin 1) (k : Fin 1280) : iblk m c 11 t (ix2 a k) = a9 m c (ix1 k) :=
  (congrFun ((iblk11_eq m c t).trans (V_v6 m c)) (ix2 a k)).trans (vec _ a k)

/-! ## What the kernel adds up -/

theorem pay63 (x : FVec Ideal S10x128x128 .f32) (y : Vec Ideal S10x128x128 .f32) (n : Fin 10) (i j : Fin 128) : k0_pay63 (F := Ideal) x y (ix3 n i j) = y (ix3 n i j) + x (ix3 n i j) := by
  unfold k0_pay63
  pointwise

theorem zero63 (n : Fin 10) (i j : Fin 128) : k0_pay62 (F := Ideal) (ix3 n i j) = 0 := by
  unfold k0_pay62
  pointwise

theorem pay65 (x : FVec Ideal S10x128x128 .f32) (y : Vec Ideal S10x128x128 .f32) (n : Fin 10) (i j : Fin 128) : k0_pay65 (F := Ideal) x y (ix3 n i j) = y (ix3 n i j) + x (ix3 n i j) := by
  unfold k0_pay65
  pointwise

theorem zero65 (n : Fin 10) (i j : Fin 128) : k0_pay64 (F := Ideal) (ix3 n i j) = 0 := by
  unfold k0_pay64
  pointwise

theorem pay67 (x : FVec Ideal S1x1280 .f32) (y : Vec Ideal S1x1280 .f32) (a : Fin 1) (k : Fin 1280) : k0_pay67 (F := Ideal) x y (ix2 a k) = y (ix2 a k) + x (ix2 a k) := by
  unfold k0_pay67
  pointwise

theorem zero67 (a : Fin 1) (k : Fin 1280) : k0_pay66 (F := Ideal) (ix2 a k) = 0 := by
  unfold k0_pay66
  pointwise

theorem pay69 (x : FVec Ideal S1x1280 .f32) (y : Vec Ideal S1x1280 .f32) (a : Fin 1) (k : Fin 1280) : k0_pay69 (F := Ideal) x y (ix2 a k) = y (ix2 a k) + x (ix2 a k) := by
  unfold k0_pay69
  pointwise

theorem zero69 (a : Fin 1) (k : Fin 1280) : k0_pay68 (F := Ideal) (ix2 a k) = 0 := by
  unfold k0_pay68
  pointwise

theorem pay71 (x : FVec Ideal S1x1280 .f32) (y : Vec Ideal S1x1280 .f32) (a : Fin 1) (k : Fin 1280) : k0_pay1 (F := Ideal) x (k0_pay71 (F := Ideal) y) (ix2 a k) = y (ix2 a k) + x (ix2 a k) := by
  unfold k0_pay1 k0_pay71
  pointwise

theorem zero71 (a : Fin 1) (k : Fin 1280) : k0_pay70 (F := Ideal) (ix2 a k) = 0 := by
  unfold k0_pay70
  pointwise

/-! ## The result arrays -/

variable (hz : ∀ r k, Ideal.cmp .ogt (((2 : ℝ) : EReal) * la (a2 m c) (a3 m c) (a4 m c) (a6 m c) (a9 m c) (a5 m c) r k) (Ideal.ofBits .f32 0xBE4CCCCD#32) = 0#1)

include hz

theorem rows12 (q : Fin 512) (k : Fin 1280) : (outsAt0 m c t.val t.isLt).1 (ix2 q k) = dc (a0 m c) (a1 m c) (a2 m c) (a3 m c) (a4 m c) (a6 m c) (a8 m c) (a9 m c) (a5 m c) (a7 m c) (row 8192 t.val q) k := by
  by_cases h : t.val % 16 = 0
  · rw [outs_A m c t h]
    exact tDc_at (b90 t) (b91 t) (b0 m c t) (b1 m c t) (b2 m c t) (b3 m c t) (b4 m c t) (b5 m c t) (b6 m c t) (b7 m c t) (b8 m c t) (b9 m c t) (b10 m c t) (b11 m c t) hz q k
  · rw [outs_B m c t h]
    exact tDc_at (b90 t) (b91 t) (b0 m c t) (b1 m c t) (b2 m c t) (b3 m c t) (b4 m c t) (b5 m c t) (b6 m c t) (b7 m c t) (b8 m c t) (b9 m c t) (b10 m c t) (b11 m c t) hz q k

theorem res12 (r : Fin 8192) (k : Fin 1280) : (dats m 0 c).arrAt 12 cfg0.N (ix2 r k) = dc (a0 m c) (a1 m c) (a2 m c) (a3 m c) (a4 m c) (a6 m c) (a8 m c) (a9 m c) (a5 m c) (a7 m c) r k := by
  obtain ⟨s, hs, q, rfl⟩ := exists_row (T := 16) (B := 512) rfl r
  exact (final12 m c ⟨s, lt_of_lt_of_eq hs N_0.symm⟩ q k).trans (rows12 m c ⟨s, lt_of_lt_of_eq hs N_0.symm⟩ hz q k)

theorem sum13 (n : ℕ) (hn : n < cfg0.N) (n' : Fin 10) (i j : Fin 128) : (outsAt0 m c n hn).2.1 (ix3 n' i j)
    = ∑ s ∈ Finset.range (n + 1), ∑ q : Fin 512, cv (a2 m c) (a3 m c) (a4 m c) (row 8192 s q) (col n' i) * pr (a0 m c) (a1 m c) (a2 m c) (a3 m c) (a4 m c) (a6 m c) (a8 m c) (a9 m c) (a5 m c) (a7 m c) (row 8192 s q) (col n' j) := by
  refine running (fun n h => (outsAt0 m c n h).2.1 (ix3 n' i j)) (fun s => ∑ q : Fin 512, cv (a2 m c) (a3 m c) (a4 m c) (row 8192 s q) (col n' i) * pr (a0 m c) (a1 m c) (a2 m c) (a3 m c) (a4 m c) (a6 m c) (a8 m c) (a9 m c) (a5 m c) (a7 m c) (row 8192 s q) (col n' j)) (fun h => ?_) (fun n h => ?_) n hn
  · rw [outs_A m c ⟨0, h⟩ rfl]
    exact (pay63 _ _ n' i j).trans ((congrArg₂ (· + ·) (zero63 n' i j) (tWa_at (b90 ⟨0, h⟩) (b91 ⟨0, h⟩) (b0 m c ⟨0, h⟩) (b1 m c ⟨0, h⟩) (b2 m c ⟨0, h⟩) (b3 m c ⟨0, h⟩) (b4 m c ⟨0, h⟩) (b5 m c ⟨0, h⟩) (b6 m c ⟨0, h⟩) (b7 m c ⟨0, h⟩) (b8 m c ⟨0, h⟩) (b9 m c ⟨0, h⟩) (b10 m c ⟨0, h⟩) (b11 m c ⟨0, h⟩) hz n' i j)).trans (zero_add _))
  · have hN := lt_of_lt_of_eq h N_0
    rw [outs_B m c ⟨n + 1, h⟩ (show ¬(n + 1) % 16 = 0 by omega)]
    exact (pay63 _ _ n' i j).trans (congrArg (_ + ·) (tWa_at (b90 ⟨n + 1, h⟩) (b91 ⟨n + 1, h⟩) (b0 m c ⟨n + 1, h⟩) (b1 m c ⟨n + 1, h⟩) (b2 m c ⟨n + 1, h⟩) (b3 m c ⟨n + 1, h⟩) (b4 m c ⟨n + 1, h⟩) (b5 m c ⟨n + 1, h⟩) (b6 m c ⟨n + 1, h⟩) (b7 m c ⟨n + 1, h⟩) (b8 m c ⟨n + 1, h⟩) (b9 m c ⟨n + 1, h⟩) (b10 m c ⟨n + 1, h⟩) (b11 m c ⟨n + 1, h⟩) hz n' i j))

theorem res13 (n' : Fin 10) (i j : Fin 128) : (dats m 0 c).arrAt 13 cfg0.N (ix3 n' i j) = ∑ r : Fin 8192, cv (a2 m c) (a3 m c) (a4 m c) r (col n' i) * pr (a0 m c) (a1 m c) (a2 m c) (a3 m c) (a4 m c) (a6 m c) (a8 m c) (a9 m c) (a5 m c) (a7 m c) r (col n' j) :=
  (congrFun (final13 m c) (ix3 n' i j)).trans ((sum13 m c hz 15 tl.isLt n' i j).trans
    (sum_row (T := 16) (B := 512) rfl fun r => cv (a2 m c) (a3 m c) (a4 m c) r (col n' i) * pr (a0 m c) (a1 m c) (a2 m c) (a3 m c) (a4 m c) (a6 m c) (a8 m c) (a9 m c) (a5 m c) (a7 m c) r (col n' j)))

theorem sum14 (n : ℕ) (hn : n < cfg0.N) (n' : Fin 10) (i j : Fin 128) : (outsAt0 m c n hn).2.2.1 (ix3 n' i j)
    = ∑ s ∈ Finset.range (n + 1), ∑ q : Fin 512, cv (a2 m c) (a3 m c) (a4 m c) (row 8192 s q) (col n' i) * pi (a0 m c) (a2 m c) (a3 m c) (a4 m c) (a6 m c) (a8 m c) (a9 m c) (a5 m c) (a7 m c) (row 8192 s q) (col n' j) := by
  refine running (fun n h => (outsAt0 m c n h).2.2.1 (ix3 n' i j)) (fun s => ∑ q : Fin 512, cv (a2 m c) (a3 m c) (a4 m c) (row 8192 s q) (col n' i) * pi (a0 m c) (a2 m c) (a3 m c) (a4 m c) (a6 m c) (a8 m c) (a9 m c) (a5 m c) (a7 m c) (row 8192 s q) (col n' j)) (fun h => ?_) (fun n h => ?_) n hn
  · rw [outs_A m c ⟨0, h⟩ rfl]
    exact (pay65 _ _ n' i j).trans ((congrArg₂ (· + ·) (zero65 n' i j) (tWx_at (b90 ⟨0, h⟩) (b91 ⟨0, h⟩) (b0 m c ⟨0, h⟩) (b3 m c ⟨0, h⟩) (b4 m c ⟨0, h⟩) (b5 m c ⟨0, h⟩) (b6 m c ⟨0, h⟩) (b7 m c ⟨0, h⟩) (b8 m c ⟨0, h⟩) (b9 m c ⟨0, h⟩) (b10 m c ⟨0, h⟩) (b11 m c ⟨0, h⟩) hz n' i j)).trans (zero_add _))
  · have hN := lt_of_lt_of_eq h N_0
    rw [outs_B m c ⟨n + 1, h⟩ (show ¬(n + 1) % 16 = 0 by omega)]
    exact (pay65 _ _ n' i j).trans (congrArg (_ + ·) (tWx_at (b90 ⟨n + 1, h⟩) (b91 ⟨n + 1, h⟩) (b0 m c ⟨n + 1, h⟩) (b3 m c ⟨n + 1, h⟩) (b4 m c ⟨n + 1, h⟩) (b5 m c ⟨n + 1, h⟩) (b6 m c ⟨n + 1, h⟩) (b7 m c ⟨n + 1, h⟩) (b8 m c ⟨n + 1, h⟩) (b9 m c ⟨n + 1, h⟩) (b10 m c ⟨n + 1, h⟩) (b11 m c ⟨n + 1, h⟩) hz n' i j))

theorem res14 (n' : Fin 10) (i j : Fin 128) : (dats m 0 c).arrAt 14 cfg0.N (ix3 n' i j) = ∑ r : Fin 8192, cv (a2 m c) (a3 m c) (a4 m c) r (col n' i) * pi (a0 m c) (a2 m c) (a3 m c) (a4 m c) (a6 m c) (a8 m c) (a9 m c) (a5 m c) (a7 m c) r (col n' j) :=
  (congrFun (final14 m c) (ix3 n' i j)).trans ((sum14 m c hz 15 tl.isLt n' i j).trans
    (sum_row (T := 16) (B := 512) rfl fun r => cv (a2 m c) (a3 m c) (a4 m c) r (col n' i) * pi (a0 m c) (a2 m c) (a3 m c) (a4 m c) (a6 m c) (a8 m c) (a9 m c) (a5 m c) (a7 m c) r (col n' j)))

theorem sum15 (n : ℕ) (hn : n < cfg0.N) (a : Fin 1) (k : Fin 1280) : (outsAt0 m c n hn).2.2.2.1 (ix2 a k)
    = ∑ s ∈ Finset.range (n + 1), ∑ q : Fin 512, pr (a0 m c) (a1 m c) (a2 m c) (a3 m c) (a4 m c) (a6 m c) (a8 m c) (a9 m c) (a5 m c) (a7 m c) (row 8192 s q) k := by
  refine running (fun n h => (outsAt0 m c n h).2.2.2.1 (ix2 a k)) (fun s => ∑ q : Fin 512, pr (a0 m c) (a1 m c) (a2 m c) (a3 m c) (a4 m c) (a6 m c) (a8 m c) (a9 m c) (a5 m c) (a7 m c) (row 8192 s q) k) (fun h => ?_) (fun n h => ?_) n hn
  · rw [outs_A m c ⟨0, h⟩ rfl]
    exact (pay67 _ _ a k).trans ((congrArg₂ (· + ·) (zero67 a k) (tBa_at (b90 ⟨0, h⟩) (b91 ⟨0, h⟩) (b0 m c ⟨0, h⟩) (b1 m c ⟨0, h⟩) (b2 m c ⟨0, h⟩) (b3 m c ⟨0, h⟩) (b4 m c ⟨0, h⟩) (b5 m c ⟨0, h⟩) (b6 m c ⟨0, h⟩) (b7 m c ⟨0, h⟩) (b8 m c ⟨0, h⟩) (b9 m c ⟨0, h⟩) (b10 m c ⟨0, h⟩) (b11 m c ⟨0, h⟩) hz a k)).trans (zero_add _))
  · have hN := lt_of_lt_of_eq h N_0
    rw [outs_B m c ⟨n + 1, h⟩ (show ¬(n + 1) % 16 = 0 by omega)]
    exact (pay67 _ _ a k).trans (congrArg (_ + ·) (tBa_at (b90 ⟨n + 1, h⟩) (b91 ⟨n + 1, h⟩) (b0 m c ⟨n + 1, h⟩) (b1 m c ⟨n + 1, h⟩) (b2 m c ⟨n + 1, h⟩) (b3 m c ⟨n + 1, h⟩) (b4 m c ⟨n + 1, h⟩) (b5 m c ⟨n + 1, h⟩) (b6 m c ⟨n + 1, h⟩) (b7 m c ⟨n + 1, h⟩) (b8 m c ⟨n + 1, h⟩) (b9 m c ⟨n + 1, h⟩) (b10 m c ⟨n + 1, h⟩) (b11 m c ⟨n + 1, h⟩) hz a k))

theorem res15 (a : Fin 1) (k : Fin 1280) : (dats m 0 c).arrAt 15 cfg0.N (ix2 a k) = ∑ r : Fin 8192, pr (a0 m c) (a1 m c) (a2 m c) (a3 m c) (a4 m c) (a6 m c) (a8 m c) (a9 m c) (a5 m c) (a7 m c) r k :=
  (congrFun (final15 m c) (ix2 a k)).trans ((sum15 m c hz 15 tl.isLt a k).trans
    (sum_row (T := 16) (B := 512) rfl fun r => pr (a0 m c) (a1 m c) (a2 m c) (a3 m c) (a4 m c) (a6 m c) (a8 m c) (a9 m c) (a5 m c) (a7 m c) r k))

theorem sum16 (n : ℕ) (hn : n < cfg0.N) (a : Fin 1) (k : Fin 1280) : (outsAt0 m c n hn).2.2.2.2.1 (ix2 a k)
    = ∑ s ∈ Finset.range (n + 1), ∑ q : Fin 512, pi (a0 m c) (a2 m c) (a3 m c) (a4 m c) (a6 m c) (a8 m c) (a9 m c) (a5 m c) (a7 m c) (row 8192 s q) k := by
  refine running (fun n h => (outsAt0 m c n h).2.2.2.2.1 (ix2 a k)) (fun s => ∑ q : Fin 512, pi (a0 m c) (a2 m c) (a3 m c) (a4 m c) (a6 m c) (a8 m c) (a9 m c) (a5 m c) (a7 m c) (row 8192 s q) k) (fun h => ?_) (fun n h => ?_) n hn
  · rw [outs_A m c ⟨0, h⟩ rfl]
    exact (pay69 _ _ a k).trans ((congrArg₂ (· + ·) (zero69 a k) (tBx_at (b90 ⟨0, h⟩) (b91 ⟨0, h⟩) (b0 m c ⟨0, h⟩) (b3 m c ⟨0, h⟩) (b4 m c ⟨0, h⟩) (b5 m c ⟨0, h⟩) (b6 m c ⟨0, h⟩) (b7 m c ⟨0, h⟩) (b8 m c ⟨0, h⟩) (b9 m c ⟨0, h⟩) (b10 m c ⟨0, h⟩) (b11 m c ⟨0, h⟩) hz a k)).trans (zero_add _))
  · have hN := lt_of_lt_of_eq h N_0
    rw [outs_B m c ⟨n + 1, h⟩ (show ¬(n + 1) % 16 = 0 by omega)]
    exact (pay69 _ _ a k).trans (congrArg (_ + ·) (tBx_at (b90 ⟨n + 1, h⟩) (b91 ⟨n + 1, h⟩) (b0 m c ⟨n + 1, h⟩) (b3 m c ⟨n + 1, h⟩) (b4 m c ⟨n + 1, h⟩) (b5 m c ⟨n + 1, h⟩) (b6 m c ⟨n + 1, h⟩) (b7 m c ⟨n + 1, h⟩) (b8 m c ⟨n + 1, h⟩) (b9 m c ⟨n + 1, h⟩) (b10 m c ⟨n + 1, h⟩) (b11 m c ⟨n + 1, h⟩) hz a k))

theorem res16 (a : Fin 1) (k : Fin 1280) : (dats m 0 c).arrAt 16 cfg0.N (ix2 a k) = ∑ r : Fin 8192, pi (a0 m c) (a2 m c) (a3 m c) (a4 m c) (a6 m c) (a8 m c) (a9 m c) (a5 m c) (a7 m c) r k :=
  (congrFun (final16 m c) (ix2 a k)).trans ((sum16 m c hz 15 tl.isLt a k).trans
    (sum_row (T := 16) (B := 512) rfl fun r => pi (a0 m c) (a2 m c) (a3 m c) (a4 m c) (a6 m c) (a8 m c) (a9 m c) (a5 m c) (a7 m c) r k))

theorem sum17 (hr : IsReal (a9 m c)) (n : ℕ) (hn : n < cfg0.N) (a : Fin 1) (k : Fin 1280) : (outsAt0 m c n hn).2.2.2.2.2 (ix2 a k)
    = ∑ s ∈ Finset.range (n + 1), ∑ q : Fin 512, dl (a0 m c) (a1 m c) (a2 m c) (a3 m c) (a4 m c) (a6 m c) (a8 m c) (a9 m c) (a5 m c) (a7 m c) (row 8192 s q) k * ((8 : ℝ) : EReal) * gate (a2 m c) (a3 m c) (a4 m c) (a5 m c) (a6 m c) (row 8192 s q) k * Ideal.logistic (-a9 m c (ix1 k)) := by
  refine running (fun n h => (outsAt0 m c n h).2.2.2.2.2 (ix2 a k)) (fun s => ∑ q : Fin 512, dl (a0 m c) (a1 m c) (a2 m c) (a3 m c) (a4 m c) (a6 m c) (a8 m c) (a9 m c) (a5 m c) (a7 m c) (row 8192 s q) k * ((8 : ℝ) : EReal) * gate (a2 m c) (a3 m c) (a4 m c) (a5 m c) (a6 m c) (row 8192 s q) k * Ideal.logistic (-a9 m c (ix1 k))) (fun h => ?_) (fun n h => ?_) n hn
  · rw [outs_A m c ⟨0, h⟩ rfl]
    exact (pay71 _ _ a k).trans ((congrArg₂ (· + ·) (zero71 a k) (tLam_at (b90 ⟨0, h⟩) (b91 ⟨0, h⟩) (b0 m c ⟨0, h⟩) (b1 m c ⟨0, h⟩) (b2 m c ⟨0, h⟩) (b3 m c ⟨0, h⟩) (b4 m c ⟨0, h⟩) (b5 m c ⟨0, h⟩) (b6 m c ⟨0, h⟩) (b7 m c ⟨0, h⟩) (b8 m c ⟨0, h⟩) (b9 m c ⟨0, h⟩) (b10 m c ⟨0, h⟩) (b11 m c ⟨0, h⟩) hz hr a k)).trans (zero_add _))
  · have hN := lt_of_lt_of_eq h N_0
    rw [outs_B m c ⟨n + 1, h⟩ (show ¬(n + 1) % 16 = 0 by omega)]
    exact (pay71 _ _ a k).trans (congrArg (_ + ·) (tLam_at (b90 ⟨n + 1, h⟩) (b91 ⟨n + 1, h⟩) (b0 m c ⟨n + 1, h⟩) (b1 m c ⟨n + 1, h⟩) (b2 m c ⟨n + 1, h⟩) (b3 m c ⟨n + 1, h⟩) (b4 m c ⟨n + 1, h⟩) (b5 m c ⟨n + 1, h⟩) (b6 m c ⟨n + 1, h⟩) (b7 m c ⟨n + 1, h⟩) (b8 m c ⟨n + 1, h⟩) (b9 m c ⟨n + 1, h⟩) (b10 m c ⟨n + 1, h⟩) (b11 m c ⟨n + 1, h⟩) hz hr a k))

theorem res17 (hr : IsReal (a9 m c)) (a : Fin 1) (k : Fin 1280) : (dats m 0 c).arrAt 17 cfg0.N (ix2 a k) = ∑ r : Fin 8192, dl (a0 m c) (a1 m c) (a2 m c) (a3 m c) (a4 m c) (a6 m c) (a8 m c) (a9 m c) (a5 m c) (a7 m c) r k * ((8 : ℝ) : EReal) * gate (a2 m c) (a3 m c) (a4 m c) (a5 m c) (a6 m c) r k * Ideal.logistic (-a9 m c (ix1 k)) :=
  (congrFun (final17 m c) (ix2 a k)).trans ((sum17 m c hz hr 15 tl.isLt a k).trans
    (sum_row (T := 16) (B := 512) rfl fun r => dl (a0 m c) (a1 m c) (a2 m c) (a3 m c) (a4 m c) (a6 m c) (a8 m c) (a9 m c) (a5 m c) (a7 m c) r k * ((8 : ℝ) : EReal) * gate (a2 m c) (a3 m c) (a4 m c) (a5 m c) (a6 m c) r k * Ideal.logistic (-a9 m c (ix1 k))))

end Cert.GatesIdeal.Rows

end
-- ==== Proof.GatesClaim.lean ====
/- The claim about the gradient of the recurrence's gates. -/
module

public import proofs.«01_k».proof.Defs
public import proofs.«01_k».proof.Proof.GatesValue
public import proofs.«01_k».proof.Proof.Gen.GatesRefIdeal.Run
public import proofs.«01_k».proof.Proof.Gen.Pre_decaying

@[expose] public section

set_option maxRecDepth 16384
set_option maxHeartbeats 1600000

noncomputable section

namespace Cert.Proof

open Cert.RowLib Cert.GatesMath Idealize.ShloMosaic Idealize.ShloMosaic.TcCoe Idealize.SL.Sem

/-- The precondition's bound on the exponent is one on the reference's stage. -/
theorem decays (y0 y1 y2 : Cert.GatesIdeal.S8192x1280.Idx → EReal) (y3 : Cert.GatesIdeal.S4x1280.Idx → EReal) (y4 y6 y8 y9 : Cert.GatesIdeal.S1280.Idx → EReal) (y5 y7 : Cert.GatesIdeal.S10x128x128.Idx → EReal)
    (h : (letI := Cert.Pre_decaying.Gen.facts; (Cert.Pre_decaying.fn (F := Ideal) y0 y1 y2 y3 y4 y5 y6 y7 y8 y9).1) = fun _ => 1#1) (r : Fin 8192) (k : Fin 1280) :
    Ideal.cmp .ole (((2 : ℝ) : EReal) * la y2 y3 y4 y6 y9 y5 r k) (Ideal.ofBits .f32 0xBE4CCCCD#32) = 1#1 := by
  rw [← Cert.GatesRefIdeal.Rows.la2_eq]
  exact congrFun h (ix2 r k)

/-- The kernel's result arrays are those of the reference. -/
theorem gates_value :
    Cert.algebraic_GatesIdeal_GatesRefIdeal_pre_decaying (hGatesIdeal := Cert.GatesIdeal.Gen.facts) (hGatesRefIdeal := Cert.GatesRefIdeal.Gen.facts) (hPre_decaying := Cert.Pre_decaying.Gen.facts) := by
  intro m g m' g' hpre hag
  refine ⟨fun c => (Cert.GatesIdeal.Gen.dats m 0 c).arrAt 12 Cert.GatesIdeal.cfg0.N, fun c => (Cert.GatesIdeal.Gen.dats m 0 c).arrAt 13 Cert.GatesIdeal.cfg0.N, fun c => (Cert.GatesIdeal.Gen.dats m 0 c).arrAt 14 Cert.GatesIdeal.cfg0.N, fun c => (Cert.GatesIdeal.Gen.dats m 0 c).arrAt 15 Cert.GatesIdeal.cfg0.N, fun c => (Cert.GatesIdeal.Gen.dats m 0 c).arrAt 16 Cert.GatesIdeal.cfg0.N, fun c => (Cert.GatesIdeal.Gen.dats m 0 c).arrAt 17 Cert.GatesIdeal.cfg0.N,
    Cert.GatesIdeal.Value.run_blocks m g, (θ_run _ _ _).mono (fun r h c => ?_) (Cert.GatesRefIdeal.Value.run m' g')⟩
  obtain ⟨e0, e1, e2, e3, e4, e5, e6, e7, e8, e9⟩ := hag c
  have f0 : IsReal (Cert.GatesIdeal.Rows.a0 m c) := fun i => real_of_cmp (congrFun (hpre c).2.1 i)
  have f1 : IsReal (Cert.GatesIdeal.Rows.a1 m c) := fun i => real_of_cmp (congrFun (hpre c).2.2.1 i)
  have f2 : IsReal (Cert.GatesIdeal.Rows.a2 m c) := fun i => real_of_cmp (congrFun (hpre c).2.2.2.1 i)
  have f3 : IsReal (Cert.GatesIdeal.Rows.a3 m c) := fun i => real_of_cmp (congrFun (hpre c).2.2.2.2.1 i)
  have f4 : IsReal (Cert.GatesIdeal.Rows.a4 m c) := fun i => real_of_cmp (congrFun (hpre c).2.2.2.2.2.1 i)
  have f5 : IsReal (Cert.GatesIdeal.Rows.a5 m c) := fun i => real_of_cmp (congrFun (hpre c).2.2.2.2.2.2.1 i)
  have f6 : IsReal (Cert.GatesIdeal.Rows.a6 m c) := fun i => real_of_cmp (congrFun (hpre c).2.2.2.2.2.2.2.1 i)
  have f7 : IsReal (Cert.GatesIdeal.Rows.a7 m c) := fun i => real_of_cmp (congrFun (hpre c).2.2.2.2.2.2.2.2.1 i)
  have f8 : IsReal (Cert.GatesIdeal.Rows.a8 m c) := fun i => real_of_cmp (congrFun (hpre c).2.2.2.2.2.2.2.2.2.1 i)
  have f9 : IsReal (Cert.GatesIdeal.Rows.a9 m c) := fun i => real_of_cmp (congrFun (hpre c).2.2.2.2.2.2.2.2.2.2 i)
  have hd := decays (Cert.GatesIdeal.Rows.a0 m c) (Cert.GatesIdeal.Rows.a1 m c) (Cert.GatesIdeal.Rows.a2 m c) (Cert.GatesIdeal.Rows.a3 m c) (Cert.GatesIdeal.Rows.a4 m c) (Cert.GatesIdeal.Rows.a6 m c) (Cert.GatesIdeal.Rows.a8 m c) (Cert.GatesIdeal.Rows.a9 m c) (Cert.GatesIdeal.Rows.a5 m c) (Cert.GatesIdeal.Rows.a7 m c) (hpre c).1
  have hz := fun r k => below_zero (hd r k)
  have hg := fun r k => not_above (hd r k)
  exact ⟨((h c).1.trans (Cert.GatesRefIdeal.Read.val_main_v135_eq (StableHlo.launchContents m' c))).trans (show Cert.GatesRefIdeal.Read.val_main_v135 (F := Ideal) (m' ((c.tc : Thread Cert.GatesRefIdeal.nD Cert.GatesRefIdeal.τ).loc Cert.GatesRefIdeal.main_arg0)) (m' ((c.tc : Thread Cert.GatesRefIdeal.nD Cert.GatesRefIdeal.τ).loc Cert.GatesRefIdeal.main_arg1)) (m' ((c.tc : Thread Cert.GatesRefIdeal.nD Cert.GatesRefIdeal.τ).loc Cert.GatesRefIdeal.main_arg2)) (m' ((c.tc : Thread Cert.GatesRefIdeal.nD Cert.GatesRefIdeal.τ).loc Cert.GatesRefIdeal.main_arg3)) (m' ((c.tc : Thread Cert.GatesRefIdeal.nD Cert.GatesRefIdeal.τ).loc Cert.GatesRefIdeal.main_arg4)) (m' ((c.tc : Thread Cert.GatesRefIdeal.nD Cert.GatesRefIdeal.τ).loc Cert.GatesRefIdeal.main_arg5)) (m' ((c.tc : Thread Cert.GatesRefIdeal.nD Cert.GatesRefIdeal.τ).loc Cert.GatesRefIdeal.main_arg6)) (m' ((c.tc : Thread Cert.GatesRefIdeal.nD Cert.GatesRefIdeal.τ).loc Cert.GatesRefIdeal.main_arg7)) (m' ((c.tc : Thread Cert.GatesRefIdeal.nD Cert.GatesRefIdeal.τ).loc Cert.GatesRefIdeal.main_arg8)) (m' ((c.tc : Thread Cert.GatesRefIdeal.nD Cert.GatesRefIdeal.τ).loc Cert.GatesRefIdeal.main_arg9)) = _ from ext2 fun a b => by
      rw [e0, e1, e2, e3, e4, e5, e6, e7, e8, e9]
      exact (Cert.GatesRefIdeal.Rows.dc_eq _ _ _ _ _ _ _ _ _ _ f0 f1 f2 f3 f4 f5 f6 f7 f8 f9 hz a b).trans (Cert.GatesIdeal.Rows.res12 m c hg a b).symm),
    ((h c).2.1.trans (Cert.GatesRefIdeal.Read.val_main_v132_eq (StableHlo.launchContents m' c))).trans (show Cert.GatesRefIdeal.Read.val_main_v132 (F := Ideal) (m' ((c.tc : Thread Cert.GatesRefIdeal.nD Cert.GatesRefIdeal.τ).loc Cert.GatesRefIdeal.main_arg0)) (m' ((c.tc : Thread Cert.GatesRefIdeal.nD Cert.GatesRefIdeal.τ).loc Cert.GatesRefIdeal.main_arg1)) (m' ((c.tc : Thread Cert.GatesRefIdeal.nD Cert.GatesRefIdeal.τ).loc Cert.GatesRefIdeal.main_arg2)) (m' ((c.tc : Thread Cert.GatesRefIdeal.nD Cert.GatesRefIdeal.τ).loc Cert.GatesRefIdeal.main_arg3)) (m' ((c.tc : Thread Cert.GatesRefIdeal.nD Cert.GatesRefIdeal.τ).loc Cert.GatesRefIdeal.main_arg4)) (m' ((c.tc : Thread Cert.GatesRefIdeal.nD Cert.GatesRefIdeal.τ).loc Cert.GatesRefIdeal.main_arg5)) (m' ((c.tc : Thread Cert.GatesRefIdeal.nD Cert.GatesRefIdeal.τ).loc Cert.GatesRefIdeal.main_arg6)) (m' ((c.tc : Thread Cert.GatesRefIdeal.nD Cert.GatesRefIdeal.τ).loc Cert.GatesRefIdeal.main_arg7)) (m' ((c.tc : Thread Cert.GatesRefIdeal.nD Cert.GatesRefIdeal.τ).loc Cert.GatesRefIdeal.main_arg8)) (m' ((c.tc : Thread Cert.GatesRefIdeal.nD Cert.GatesRefIdeal.τ).loc Cert.GatesRefIdeal.main_arg9)) = _ from ext3 fun n a b => by
      rw [e0, e1, e2, e3, e4, e5, e6, e7, e8, e9]
      exact (Cert.GatesRefIdeal.Rows.dwa_eq _ _ _ _ _ _ _ _ _ _ f0 f1 f2 f3 f4 f5 f6 f7 f8 f9 hz n a b).trans (Cert.GatesIdeal.Rows.res13 m c hg n a b).symm),
    ((h c).2.2.1.trans (Cert.GatesRefIdeal.Read.val_main_v110_eq (StableHlo.launchContents m' c))).trans (show Cert.GatesRefIdeal.Read.val_main_v110 (F := Ideal) (m' ((c.tc : Thread Cert.GatesRefIdeal.nD Cert.GatesRefIdeal.τ).loc Cert.GatesRefIdeal.main_arg0)) (m' ((c.tc : Thread Cert.GatesRefIdeal.nD Cert.GatesRefIdeal.τ).loc Cert.GatesRefIdeal.main_arg2)) (m' ((c.tc : Thread Cert.GatesRefIdeal.nD Cert.GatesRefIdeal.τ).loc Cert.GatesRefIdeal.main_arg3)) (m' ((c.tc : Thread Cert.GatesRefIdeal.nD Cert.GatesRefIdeal.τ).loc Cert.GatesRefIdeal.main_arg4)) (m' ((c.tc : Thread Cert.GatesRefIdeal.nD Cert.GatesRefIdeal.τ).loc Cert.GatesRefIdeal.main_arg5)) (m' ((c.tc : Thread Cert.GatesRefIdeal.nD Cert.GatesRefIdeal.τ).loc Cert.GatesRefIdeal.main_arg6)) (m' ((c.tc : Thread Cert.GatesRefIdeal.nD Cert.GatesRefIdeal.τ).loc Cert.GatesRefIdeal.main_arg7)) (m' ((c.tc : Thread Cert.GatesRefIdeal.nD Cert.GatesRefIdeal.τ).loc Cert.GatesRefIdeal.main_arg8)) (m' ((c.tc : Thread Cert.GatesRefIdeal.nD Cert.GatesRefIdeal.τ).loc Cert.GatesRefIdeal.main_arg9)) = _ from ext3 fun n a b => by
      rw [e0, e2, e3, e4, e5, e6, e7, e8, e9]
      exact (Cert.GatesRefIdeal.Rows.dwx_eq _ _ _ _ _ _ _ _ _ f2 f3 f4 f5 f6 f9 hz n a b).trans (Cert.GatesIdeal.Rows.res14 m c hg n a b).symm),
    ((h c).2.2.2.1.trans (Cert.GatesRefIdeal.Read.val_main_v136_eq (StableHlo.launchContents m' c))).trans (show Cert.GatesRefIdeal.Read.val_main_v136 (F := Ideal) (m' ((c.tc : Thread Cert.GatesRefIdeal.nD Cert.GatesRefIdeal.τ).loc Cert.GatesRefIdeal.main_arg0)) (m' ((c.tc : Thread Cert.GatesRefIdeal.nD Cert.GatesRefIdeal.τ).loc Cert.GatesRefIdeal.main_arg1)) (m' ((c.tc : Thread Cert.GatesRefIdeal.nD Cert.GatesRefIdeal.τ).loc Cert.GatesRefIdeal.main_arg2)) (m' ((c.tc : Thread Cert.GatesRefIdeal.nD Cert.GatesRefIdeal.τ).loc Cert.GatesRefIdeal.main_arg3)) (m' ((c.tc : Thread Cert.GatesRefIdeal.nD Cert.GatesRefIdeal.τ).loc Cert.GatesRefIdeal.main_arg4)) (m' ((c.tc : Thread Cert.GatesRefIdeal.nD Cert.GatesRefIdeal.τ).loc Cert.GatesRefIdeal.main_arg5)) (m' ((c.tc : Thread Cert.GatesRefIdeal.nD Cert.GatesRefIdeal.τ).loc Cert.GatesRefIdeal.main_arg6)) (m' ((c.tc : Thread Cert.GatesRefIdeal.nD Cert.GatesRefIdeal.τ).loc Cert.GatesRefIdeal.main_arg7)) (m' ((c.tc : Thread Cert.GatesRefIdeal.nD Cert.GatesRefIdeal.τ).loc Cert.GatesRefIdeal.main_arg8)) (m' ((c.tc : Thread Cert.GatesRefIdeal.nD Cert.GatesRefIdeal.τ).loc Cert.GatesRefIdeal.main_arg9)) = _ from ext2 fun a b => by
      rw [e0, e1, e2, e3, e4, e5, e6, e7, e8, e9]
      exact (Cert.GatesRefIdeal.Rows.dba_eq _ _ _ _ _ _ _ _ _ _ f0 f1 f2 f3 f4 f5 f6 f7 f8 f9 hz a b).trans (Cert.GatesIdeal.Rows.res15 m c hg a b).symm),
    ((h c).2.2.2.2.1.trans (Cert.GatesRefIdeal.Read.val_main_v137_eq (StableHlo.launchContents m' c))).trans (show Cert.GatesRefIdeal.Read.val_main_v137 (F := Ideal) (m' ((c.tc : Thread Cert.GatesRefIdeal.nD Cert.GatesRefIdeal.τ).loc Cert.GatesRefIdeal.main_arg0)) (m' ((c.tc : Thread Cert.GatesRefIdeal.nD Cert.GatesRefIdeal.τ).loc Cert.GatesRefIdeal.main_arg2)) (m' ((c.tc : Thread Cert.GatesRefIdeal.nD Cert.GatesRefIdeal.τ).loc Cert.GatesRefIdeal.main_arg3)) (m' ((c.tc : Thread Cert.GatesRefIdeal.nD Cert.GatesRefIdeal.τ).loc Cert.GatesRefIdeal.main_arg4)) (m' ((c.tc : Thread Cert.GatesRefIdeal.nD Cert.GatesRefIdeal.τ).loc Cert.GatesRefIdeal.main_arg5)) (m' ((c.tc : Thread Cert.GatesRefIdeal.nD Cert.GatesRefIdeal.τ).loc Cert.GatesRefIdeal.main_arg6)) (m' ((c.tc : Thread Cert.GatesRefIdeal.nD Cert.GatesRefIdeal.τ).loc Cert.GatesRefIdeal.main_arg7)) (m' ((c.tc : Thread Cert.GatesRefIdeal.nD Cert.GatesRefIdeal.τ).loc Cert.GatesRefIdeal.main_arg8)) (m' ((c.tc : Thread Cert.GatesRefIdeal.nD Cert.GatesRefIdeal.τ).loc Cert.GatesRefIdeal.main_arg9)) = _ from ext2 fun a b => by
      rw [e0, e2, e3, e4, e5, e6, e7, e8, e9]
      exact (Cert.GatesRefIdeal.Rows.dbx_eq _ _ _ _ _ _ _ _ _ f2 f3 f4 f5 f6 f9 hz a b).trans (Cert.GatesIdeal.Rows.res16 m c hg a b).symm),
    ((h c).2.2.2.2.2.1.trans (Cert.GatesRefIdeal.Read.val_main_v138_eq (StableHlo.launchContents m' c))).trans (show Cert.GatesRefIdeal.Read.val_main_v138 (F := Ideal) (m' ((c.tc : Thread Cert.GatesRefIdeal.nD Cert.GatesRefIdeal.τ).loc Cert.GatesRefIdeal.main_arg0)) (m' ((c.tc : Thread Cert.GatesRefIdeal.nD Cert.GatesRefIdeal.τ).loc Cert.GatesRefIdeal.main_arg1)) (m' ((c.tc : Thread Cert.GatesRefIdeal.nD Cert.GatesRefIdeal.τ).loc Cert.GatesRefIdeal.main_arg2)) (m' ((c.tc : Thread Cert.GatesRefIdeal.nD Cert.GatesRefIdeal.τ).loc Cert.GatesRefIdeal.main_arg3)) (m' ((c.tc : Thread Cert.GatesRefIdeal.nD Cert.GatesRefIdeal.τ).loc Cert.GatesRefIdeal.main_arg4)) (m' ((c.tc : Thread Cert.GatesRefIdeal.nD Cert.GatesRefIdeal.τ).loc Cert.GatesRefIdeal.main_arg5)) (m' ((c.tc : Thread Cert.GatesRefIdeal.nD Cert.GatesRefIdeal.τ).loc Cert.GatesRefIdeal.main_arg6)) (m' ((c.tc : Thread Cert.GatesRefIdeal.nD Cert.GatesRefIdeal.τ).loc Cert.GatesRefIdeal.main_arg7)) (m' ((c.tc : Thread Cert.GatesRefIdeal.nD Cert.GatesRefIdeal.τ).loc Cert.GatesRefIdeal.main_arg8)) (m' ((c.tc : Thread Cert.GatesRefIdeal.nD Cert.GatesRefIdeal.τ).loc Cert.GatesRefIdeal.main_arg9)) = _ from ext2 fun a b => by
      rw [e0, e1, e2, e3, e4, e5, e6, e7, e8, e9]
      exact (Cert.GatesRefIdeal.Rows.dlam_eq' _ _ _ _ _ _ _ _ _ _ f0 f1 f2 f3 f4 f5 f6 f7 f8 f9 hz a b).trans (Cert.GatesIdeal.Rows.res17 m c hg f9 a b).symm),
    (h c).2.2.2.2.2.2⟩

end Cert.Proof

end
-- ==== Proof.PrepMath.lean ====
/- The gradient of the zero-order-hold discretisation of one complex mode, as formulas over the real numbers. -/
module

public import proofs.«01_k».proof.Proof.Common

@[expose] public section

noncomputable section

namespace Cert.PrepMath

open Cert.RowLib Idealize.ShloMosaic

variable (a b l d c0 c1 z1 z2 : ℝ)

/-- The modulus of the discrete pole `exp ((a + i b) exp l)`. -/
def er : ℝ := Real.exp (a * Real.exp l)

/-- The real part of the pole. -/
def pr : ℝ := er a l * Real.cos (b * Real.exp l)

/-- The imaginary part of the pole. -/
def pi : ℝ := er a l * Real.sin (b * Real.exp l)

/-- The numerators of the hold's factor, whose denominator is `d`. -/
def n1 : ℝ := (pr a b l - 1) * a + pi a b l * b
def n2 : ℝ := pi a b l * a - (pr a b l - 1) * b

/-- The gradients that arrive at the pole: the given ones and those through the hold's factor. -/
def dpr : ℝ := c0 + (z1 / d) * a - (z2 / d) * b
def dpi : ℝ := c1 + (z1 / d) * b + (z2 / d) * a

/-- The gradient that arrives at the denominator. -/
def dd : ℝ := -((z1 * n1 a b l + z2 * n2 a b l) * (1 / (d * d)))

/-- The gradients along and across the pole's direction. -/
def along : ℝ := dpr a b d c0 z1 z2 * Real.cos (b * Real.exp l) + dpi a b d c1 z1 z2 * Real.sin (b * Real.exp l)
def across : ℝ := dpi a b d c1 z1 z2 * Real.cos (b * Real.exp l) - dpr a b d c0 z1 z2 * Real.sin (b * Real.exp l)

/-- The gradients of `a`, of `b` and of `exp l`. -/
def da : ℝ := (z1 / d) * (pr a b l - 1) + (z2 / d) * pi a b l + 2 * a * dd a b l d z1 z2 + along a b l d c0 c1 z1 z2 * er a l * Real.exp l
def db : ℝ := (z1 / d) * pi a b l - (z2 / d) * (pr a b l - 1) + 2 * b * dd a b l d z1 z2 + across a b l d c0 c1 z1 z2 * er a l * Real.exp l
def dt : ℝ := (a * along a b l d c0 c1 z1 z2 + b * across a b l d c0 c1 z1 z2) * er a l

variable {ι : Type*} [Fintype ι] (e0 e1 y1 y2 : ι → ℝ)

/-- A sum of linear terms is the term of the sums. -/
theorem sum_lin (k0 k1 k2 k3 : ℝ) : ∑ i, (e0 i * k0 + e1 i * k1 + y1 i * k2 + y2 i * k3) = (∑ i, e0 i) * k0 + (∑ i, e1 i) * k1 + (∑ i, y1 i) * k2 + (∑ i, y2 i) * k3 := by
  simp only [Finset.sum_add_distrib, Finset.sum_mul]

theorem da_lin : da a b l d c0 c1 z1 z2 = c0 * da a b l d 1 0 0 0 + c1 * da a b l d 0 1 0 0 + z1 * da a b l d 0 0 1 0 + z2 * da a b l d 0 0 0 1 := by
  unfold da along dd dpr dpi; ring

theorem db_lin : db a b l d c0 c1 z1 z2 = c0 * db a b l d 1 0 0 0 + c1 * db a b l d 0 1 0 0 + z1 * db a b l d 0 0 1 0 + z2 * db a b l d 0 0 0 1 := by
  unfold db across dd dpr dpi; ring

theorem dt_lin : dt a b l d c0 c1 z1 z2 = c0 * dt a b l d 1 0 0 0 + c1 * dt a b l d 0 1 0 0 + z1 * dt a b l d 0 0 1 0 + z2 * dt a b l d 0 0 0 1 := by
  unfold dt along across dpr dpi; ring

theorem da_sum : ∑ i, da a b l d (e0 i) (e1 i) (y1 i) (y2 i) = da a b l d (∑ i, e0 i) (∑ i, e1 i) (∑ i, y1 i) (∑ i, y2 i) := by
  rw [da_lin a b l d (∑ i, e0 i), ← sum_lin]
  exact Finset.sum_congr rfl fun i _ => da_lin a b l d _ _ _ _

theorem db_sum : ∑ i, db a b l d (e0 i) (e1 i) (y1 i) (y2 i) = db a b l d (∑ i, e0 i) (∑ i, e1 i) (∑ i, y1 i) (∑ i, y2 i) := by
  rw [db_lin a b l d (∑ i, e0 i), ← sum_lin]
  exact Finset.sum_congr rfl fun i _ => db_lin a b l d _ _ _ _

theorem dt_sum : ∑ i, dt a b l d (e0 i) (e1 i) (y1 i) (y2 i) = dt a b l d (∑ i, e0 i) (∑ i, e1 i) (∑ i, y1 i) (∑ i, y2 i) := by
  rw [dt_lin a b l d (∑ i, e0 i), ← sum_lin]
  exact Finset.sum_congr rfl fun i _ => dt_lin a b l d _ _ _ _

/-- The coercion of a finite sum. -/
theorem coe_sum (f : ι → ℝ) : ∑ i, ((f i : ℝ) : EReal) = ((∑ i, f i : ℝ) : EReal) :=
  (map_sum (⟨⟨Real.toEReal, rfl⟩, EReal.coe_add⟩ : ℝ →+ EReal) f Finset.univ).symm

/-- A quotient of real numbers. -/
theorem cdiv (x y : ℝ) (h : y ≠ 0) : Ideal.div (x : EReal) (y : EReal) = ((x / y : ℝ) : EReal) := by
  rw [Ideal.div_coe h, ← EReal.coe_mul, mul_one_div]

theorem word_0 : Ideal.ofBits .f32 0x00000000#32 = ((0 : ℝ) : EReal) := by simp [Ideal.ofBits, Ideal.ieee]

theorem word_1 : Ideal.ofBits .f32 0x3F800000#32 = ((1 : ℝ) : EReal) := by
  simp [Ideal.ofBits, Ideal.ieee, -EReal.coe_mul]; norm_num

end Cert.PrepMath

end
-- ==== Proof.PrepKernel.lean ====
/- What the kernel of the gradient of the discretisation leaves in its five result arrays, entry by entry. -/
module

public import proofs.«01_k».proof.Proof.PrepMath
public import proofs.«01_k».proof.Proof.Gen.PrepIdeal.Frame

@[expose] public section

set_option maxRecDepth 16384

noncomputable section

namespace Cert.PrepIdeal.Rows

open Cert.PrepIdeal Cert.PrepIdeal.Gen Cert.RowLib Cert.PrepMath Idealize.ShloMosaic Idealize.ShloMosaic.TcCoe Idealize.SL.Sem

theorem hz : (![0, 0] : Fin 2 → Nat) = fun _ => 0 := funext fun a => by fin_cases a <;> rfl

variable (x0 x1 x2 x3 x4 x5 x6 x7 x8 : Vec Ideal S512x64 .f32) (q : Fin 512) (k : Fin 64) (a b l p r c0 c1 c2 c3 d : ℝ)

theorem out9 (h0 : x0 (ix2 q k) = ((a : ℝ) : EReal)) (h1 : x1 (ix2 q k) = ((b : ℝ) : EReal)) (h2 : x2 (ix2 q k) = ((l : ℝ) : EReal)) (h3 : x3 (ix2 q k) = ((p : ℝ) : EReal)) (h4 : x4 (ix2 q k) = ((r : ℝ) : EReal)) (h5 : x5 (ix2 q k) = ((c0 : ℝ) : EReal)) (h6 : x6 (ix2 q k) = ((c1 : ℝ) : EReal)) (h7 : x7 (ix2 q k) = ((c2 : ℝ) : EReal)) (h8 : x8 (ix2 q k) = ((c3 : ℝ) : EReal)) (hd : a * a + b * b = d) (hn : d ≠ 0) :
    out0_9 x0 x1 x2 x3 x4 x5 x6 x7 x8 (ix2 q k) = ((da a b l d c0 c1 (c2 * p + c3 * r) (c3 * p - c2 * r) : ℝ) : EReal) := by
  have hm : d * d ≠ 0 := mul_ne_zero hn hn
  unfold_out out0_9
  rw [View.canon_unit_zero hz]
  simp only [View.ld_unit_zero (S := S512x64) hz, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  simp only [pointwise, h0, h1, h2, h3, h4, h5, h6, h7, h8, word_0, word_1, Ideal.exp_coe, Ideal.cos_coe, Ideal.sin_coe, ← EReal.coe_mul, ← EReal.coe_add, ← EReal.coe_sub, hd, cdiv _ _ hn, cdiv _ _ hm]
  refine congrArg Real.toEReal ?_
  simp only [da, db, dt, along, across, dd, dpr, dpi, n1, n2, pr, pi, er]
  ring

theorem out10 (h0 : x0 (ix2 q k) = ((a : ℝ) : EReal)) (h1 : x1 (ix2 q k) = ((b : ℝ) : EReal)) (h2 : x2 (ix2 q k) = ((l : ℝ) : EReal)) (h3 : x3 (ix2 q k) = ((p : ℝ) : EReal)) (h4 : x4 (ix2 q k) = ((r : ℝ) : EReal)) (h5 : x5 (ix2 q k) = ((c0 : ℝ) : EReal)) (h6 : x6 (ix2 q k) = ((c1 : ℝ) : EReal)) (h7 : x7 (ix2 q k) = ((c2 : ℝ) : EReal)) (h8 : x8 (ix2 q k) = ((c3 : ℝ) : EReal)) (hd : a * a + b * b = d) (hn : d ≠ 0) :
    out0_10 x0 x1 x2 x3 x4 x5 x6 x7 x8 (ix2 q k) = ((db a b l d c0 c1 (c2 * p + c3 * r) (c3 * p - c2 * r) : ℝ) : EReal) := by
  have hm : d * d ≠ 0 := mul_ne_zero hn hn
  unfold_out out0_10
  rw [View.canon_unit_zero hz]
  simp only [View.ld_unit_zero (S := S512x64) hz, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  simp only [pointwise, h0, h1, h2, h3, h4, h5, h6, h7, h8, word_0, word_1, Ideal.exp_coe, Ideal.cos_coe, Ideal.sin_coe, ← EReal.coe_mul, ← EReal.coe_add, ← EReal.coe_sub, hd, cdiv _ _ hn, cdiv _ _ hm]
  refine congrArg Real.toEReal ?_
  simp only [da, db, dt, along, across, dd, dpr, dpi, n1, n2, pr, pi, er]
  ring

theorem out11 (h0 : x0 (ix2 q k) = ((a : ℝ) : EReal)) (h1 : x1 (ix2 q k) = ((b : ℝ) : EReal)) (h2 : x2 (ix2 q k) = ((l : ℝ) : EReal)) (h3 : x3 (ix2 q k) = ((p : ℝ) : EReal)) (h4 : x4 (ix2 q k) = ((r : ℝ) : EReal)) (h5 : x5 (ix2 q k) = ((c0 : ℝ) : EReal)) (h6 : x6 (ix2 q k) = ((c1 : ℝ) : EReal)) (h7 : x7 (ix2 q k) = ((c2 : ℝ) : EReal)) (h8 : x8 (ix2 q k) = ((c3 : ℝ) : EReal)) (hd : a * a + b * b = d) (hn : d ≠ 0) :
    out0_11 x0 x1 x2 x3 x4 x5 x6 x7 x8 (ix2 q k) = ((dt a b l d c0 c1 (c2 * p + c3 * r) (c3 * p - c2 * r) * Real.exp l : ℝ) : EReal) := by
  have hm : d * d ≠ 0 := mul_ne_zero hn hn
  unfold_out out0_11
  rw [View.canon_unit_zero hz]
  simp only [View.ld_unit_zero (S := S512x64) hz, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  simp only [pointwise, h0, h1, h2, h3, h4, h5, h6, h7, h8, word_0, word_1, Ideal.exp_coe, Ideal.cos_coe, Ideal.sin_coe, ← EReal.coe_mul, ← EReal.coe_add, ← EReal.coe_sub, hd, cdiv _ _ hn, cdiv _ _ hm]
  refine congrArg Real.toEReal ?_
  simp only [da, db, dt, along, across, dd, dpr, dpi, n1, n2, pr, pi, er]
  ring

theorem out12 (h0 : x0 (ix2 q k) = ((a : ℝ) : EReal)) (h1 : x1 (ix2 q k) = ((b : ℝ) : EReal)) (h2 : x2 (ix2 q k) = ((l : ℝ) : EReal)) (h3 : x3 (ix2 q k) = ((p : ℝ) : EReal)) (h4 : x4 (ix2 q k) = ((r : ℝ) : EReal)) (h5 : x5 (ix2 q k) = ((c0 : ℝ) : EReal)) (h6 : x6 (ix2 q k) = ((c1 : ℝ) : EReal)) (h7 : x7 (ix2 q k) = ((c2 : ℝ) : EReal)) (h8 : x8 (ix2 q k) = ((c3 : ℝ) : EReal)) (hd : a * a + b * b = d) (hn : d ≠ 0) :
    out0_12 x0 x1 x2 x3 x4 x5 x6 x7 x8 (ix2 q k) = ((c2 * (n1 a b l / d) + c3 * (n2 a b l / d) : ℝ) : EReal) := by
  have hm : d * d ≠ 0 := mul_ne_zero hn hn
  unfold_out out0_12
  rw [View.canon_unit_zero hz]
  simp only [View.ld_unit_zero (S := S512x64) hz, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  simp only [pointwise, h0, h1, h2, h3, h4, h5, h6, h7, h8, word_0, word_1, Ideal.exp_coe, Ideal.cos_coe, Ideal.sin_coe, ← EReal.coe_mul, ← EReal.coe_add, ← EReal.coe_sub, hd, cdiv _ _ hn, cdiv _ _ hm]
  refine congrArg Real.toEReal ?_
  simp only [da, db, dt, along, across, dd, dpr, dpi, n1, n2, pr, pi, er]
  ring

theorem out13 (h0 : x0 (ix2 q k) = ((a : ℝ) : EReal)) (h1 : x1 (ix2 q k) = ((b : ℝ) : EReal)) (h2 : x2 (ix2 q k) = ((l : ℝ) : EReal)) (h3 : x3 (ix2 q k) = ((p : ℝ) : EReal)) (h4 : x4 (ix2 q k) = ((r : ℝ) : EReal)) (h5 : x5 (ix2 q k) = ((c0 : ℝ) : EReal)) (h6 : x6 (ix2 q k) = ((c1 : ℝ) : EReal)) (h7 : x7 (ix2 q k) = ((c2 : ℝ) : EReal)) (h8 : x8 (ix2 q k) = ((c3 : ℝ) : EReal)) (hd : a * a + b * b = d) (hn : d ≠ 0) :
    out0_13 x0 x1 x2 x3 x4 x5 x6 x7 x8 (ix2 q k) = ((c3 * (n1 a b l / d) - c2 * (n2 a b l / d) : ℝ) : EReal) := by
  have hm : d * d ≠ 0 := mul_ne_zero hn hn
  unfold_out out0_13
  rw [View.canon_unit_zero hz]
  simp only [View.ld_unit_zero (S := S512x64) hz, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  simp only [pointwise, h0, h1, h2, h3, h4, h5, h6, h7, h8, word_0, word_1, Ideal.exp_coe, Ideal.cos_coe, Ideal.sin_coe, ← EReal.coe_mul, ← EReal.coe_add, ← EReal.coe_sub, hd, cdiv _ _ hn, cdiv _ _ hm]
  refine congrArg Real.toEReal ?_
  simp only [da, db, dt, along, across, dd, dpr, dpi, n1, n2, pr, pi, er]
  ring

end Cert.PrepIdeal.Rows

end
-- ==== Proof.PrepRef.lean ====
/- The derivative of the discretisation, stage by stage, as formulas over the real numbers. -/
module

public import proofs.«01_k».proof.Proof.PrepMath
public import proofs.«01_k».proof.Proof.Gen.PrepRefIdeal.Read

@[expose] public section

set_option maxRecDepth 16384

noncomputable section

namespace Cert.PrepRefIdeal.Rows

open Cert.PrepRefIdeal Cert.PrepRefIdeal.Gen Cert.PrepRefIdeal.Read Cert.RowLib Cert.PrepMath Idealize.ShloMosaic Idealize.ShloMosaic.TcCoe Idealize.SL.Sem

/-- Real arguments. -/
structure Args where
  a : Fin 32 → Fin 64 → ℝ
  b : Fin 32 → Fin 64 → ℝ
  l : Fin 32 → ℝ
  p : Fin 32 → Fin 64 → Fin 16 → ℝ
  r : Fin 32 → Fin 64 → Fin 16 → ℝ
  u : Fin 32 → Fin 64 → ℝ
  v : Fin 32 → Fin 64 → ℝ
  s : Fin 32 → Fin 16 → Fin 64 → ℝ
  t : Fin 32 → Fin 16 → Fin 64 → ℝ

def rv0 (A : Args) (g : Fin 32) : ℝ := Real.exp (A.l g)
def rv1 (A : Args) (g : Fin 32) : ℝ := rv0 A g
def rv2 (A : Args) (g : Fin 32) (n : Fin 64) : ℝ := rv1 A g
def rv3 (A : Args) (g : Fin 32) (n : Fin 64) : ℝ := A.a g n * rv2 A g n
def rv4 (A : Args) (g : Fin 32) (n : Fin 64) : ℝ := Real.exp (rv3 A g n)
def rv5 (A : Args) (g : Fin 32) (n : Fin 64) : ℝ := rv1 A g
def rv6 (A : Args) (g : Fin 32) (n : Fin 64) : ℝ := A.b g n * rv5 A g n
def rv7 (A : Args) (g : Fin 32) (n : Fin 64) : ℝ := Real.cos (rv6 A g n)
def rv8 (A : Args) (g : Fin 32) (n : Fin 64) : ℝ := Real.sin (rv6 A g n)
def rv9 (A : Args) (g : Fin 32) (n : Fin 64) : ℝ := rv4 A g n * rv7 A g n
def rv10 (A : Args) (g : Fin 32) (n : Fin 64) : ℝ := rv1 A g
def rv11 (A : Args) (g : Fin 32) (n : Fin 64) : ℝ := A.b g n * rv10 A g n
def rv12 (A : Args) (g : Fin 32) (n : Fin 64) : ℝ := Real.sin (rv11 A g n)
def rv13 (A : Args) (g : Fin 32) (n : Fin 64) : ℝ := Real.cos (rv11 A g n)
def rv14 (A : Args) (g : Fin 32) (n : Fin 64) : ℝ := rv4 A g n * rv12 A g n
def rv15 (A : Args) (g : Fin 32) (n : Fin 64) : ℝ := A.a g n * A.a g n
def rv16 (A : Args) (g : Fin 32) (n : Fin 64) : ℝ := A.b g n * A.b g n
def rv17 (A : Args) (g : Fin 32) (n : Fin 64) : ℝ := rv15 A g n + rv16 A g n
def rcst (A : Args) : ℝ := 1
def rv18 (A : Args) (g : Fin 32) (n : Fin 64) : ℝ := rcst A
def rv19 (A : Args) (g : Fin 32) (n : Fin 64) : ℝ := rv9 A g n - rv18 A g n
def rv20 (A : Args) (g : Fin 32) (n : Fin 64) : ℝ := rv19 A g n * A.a g n
def rv21 (A : Args) (g : Fin 32) (n : Fin 64) : ℝ := rv14 A g n * A.b g n
def rv22 (A : Args) (g : Fin 32) (n : Fin 64) : ℝ := rv20 A g n + rv21 A g n
def rv23 (A : Args) (g : Fin 32) (n : Fin 64) : ℝ := rv22 A g n / rv17 A g n
def rv24 (A : Args) (g : Fin 32) (n : Fin 64) : ℝ := rv17 A g n * rv17 A g n
def rcst_0 (A : Args) : ℝ := 1
def rv25 (A : Args) (g : Fin 32) (n : Fin 64) : ℝ := rcst_0 A
def rv26 (A : Args) (g : Fin 32) (n : Fin 64) : ℝ := rv25 A g n / rv24 A g n
def rv27 (A : Args) (g : Fin 32) (n : Fin 64) : ℝ := rv14 A g n * A.a g n
def rcst_1 (A : Args) : ℝ := 1
def rv28 (A : Args) (g : Fin 32) (n : Fin 64) : ℝ := rcst_1 A
def rv29 (A : Args) (g : Fin 32) (n : Fin 64) : ℝ := rv9 A g n - rv28 A g n
def rv30 (A : Args) (g : Fin 32) (n : Fin 64) : ℝ := rv29 A g n * A.b g n
def rv31 (A : Args) (g : Fin 32) (n : Fin 64) : ℝ := rv27 A g n - rv30 A g n
def rv32 (A : Args) (g : Fin 32) (n : Fin 64) : ℝ := rv31 A g n / rv17 A g n
def rv33 (A : Args) (g : Fin 32) (n : Fin 64) : ℝ := rv17 A g n * rv17 A g n
def rcst_2 (A : Args) : ℝ := 1
def rv34 (A : Args) (g : Fin 32) (n : Fin 64) : ℝ := rcst_2 A
def rv35 (A : Args) (g : Fin 32) (n : Fin 64) : ℝ := rv34 A g n / rv33 A g n
def rv36 (A : Args) (g : Fin 32) (n : Fin 64) : ℝ := rv23 A g n
def rv39 (A : Args) (g : Fin 32) (n : Fin 64) : ℝ := rv32 A g n
def rv43 (A : Args) (g : Fin 32) (n : Fin 64) : ℝ := rv23 A g n
def rv46 (A : Args) (g : Fin 32) (n : Fin 64) : ℝ := rv32 A g n
def rv50 (A : Args) (g : Fin 32) (n : Fin 64) (c : Fin 16) : ℝ := A.s g c n
def rv51 (A : Args) (g : Fin 32) (n : Fin 64) (c : Fin 16) : ℝ := A.t g c n
def rv52 (A : Args) (g : Fin 32) (n : Fin 64) (c : Fin 16) : ℝ := rv46 A g n
def rv53 (A : Args) (g : Fin 32) (n : Fin 64) (c : Fin 16) : ℝ := rv52 A g n c * rv51 A g n c
def rv54 (A : Args) (g : Fin 32) (n : Fin 64) (c : Fin 16) : ℝ := rv51 A g n c * A.p g n c
def rcst_3 (A : Args) : ℝ := 0
def rv55 (A : Args) (g : Fin 32) (n : Fin 64) : ℝ := 0 + ∑ c : Fin 16, rv54 A g n c
def rv56 (A : Args) (g : Fin 32) (n : Fin 64) : ℝ := rv55 A g n
def rcst_4 (A : Args) : ℝ := 0
def rv57 (A : Args) (g : Fin 32) (n : Fin 64) : ℝ := 0 + ∑ c : Fin 1, rv56 A g n
def rv58 (A : Args) (g : Fin 32) (n : Fin 64) (c : Fin 16) : ℝ := rv43 A g n
def rv59 (A : Args) (g : Fin 32) (n : Fin 64) (c : Fin 16) : ℝ := rv58 A g n c * rv51 A g n c
def rv60 (A : Args) (g : Fin 32) (n : Fin 64) (c : Fin 16) : ℝ := rv51 A g n c * A.r g n c
def rcst_5 (A : Args) : ℝ := 0
def rv61 (A : Args) (g : Fin 32) (n : Fin 64) : ℝ := 0 + ∑ c : Fin 16, rv60 A g n c
def rv62 (A : Args) (g : Fin 32) (n : Fin 64) : ℝ := rv61 A g n
def rcst_6 (A : Args) : ℝ := 0
def rv63 (A : Args) (g : Fin 32) (n : Fin 64) : ℝ := 0 + ∑ c : Fin 1, rv62 A g n
def rv64 (A : Args) (g : Fin 32) (n : Fin 64) (c : Fin 16) : ℝ := -rv50 A g n c
def rv65 (A : Args) (g : Fin 32) (n : Fin 64) (c : Fin 16) : ℝ := rv39 A g n
def rv66 (A : Args) (g : Fin 32) (n : Fin 64) (c : Fin 16) : ℝ := rv65 A g n c * rv64 A g n c
def rv67 (A : Args) (g : Fin 32) (n : Fin 64) (c : Fin 16) : ℝ := rv59 A g n c + rv66 A g n c
def rv68 (A : Args) (g : Fin 32) (n : Fin 64) (c : Fin 16) : ℝ := rv64 A g n c * A.r g n c
def rcst_7 (A : Args) : ℝ := 0
def rv69 (A : Args) (g : Fin 32) (n : Fin 64) : ℝ := 0 + ∑ c : Fin 16, rv68 A g n c
def rv70 (A : Args) (g : Fin 32) (n : Fin 64) : ℝ := rv69 A g n
def rcst_8 (A : Args) : ℝ := 0
def rv71 (A : Args) (g : Fin 32) (n : Fin 64) : ℝ := 0 + ∑ c : Fin 1, rv70 A g n
def rv72 (A : Args) (g : Fin 32) (n : Fin 64) : ℝ := rv57 A g n + rv71 A g n
def rv73 (A : Args) (g : Fin 32) (n : Fin 64) (c : Fin 16) : ℝ := rv36 A g n
def rv74 (A : Args) (g : Fin 32) (n : Fin 64) (c : Fin 16) : ℝ := rv73 A g n c * rv50 A g n c
def rv75 (A : Args) (g : Fin 32) (n : Fin 64) (c : Fin 16) : ℝ := rv53 A g n c + rv74 A g n c
def rv76 (A : Args) (g : Fin 32) (n : Fin 64) (c : Fin 16) : ℝ := rv50 A g n c * A.p g n c
def rcst_9 (A : Args) : ℝ := 0
def rv77 (A : Args) (g : Fin 32) (n : Fin 64) : ℝ := 0 + ∑ c : Fin 16, rv76 A g n c
def rv78 (A : Args) (g : Fin 32) (n : Fin 64) : ℝ := rv77 A g n
def rcst_10 (A : Args) : ℝ := 0
def rv79 (A : Args) (g : Fin 32) (n : Fin 64) : ℝ := 0 + ∑ c : Fin 1, rv78 A g n
def rv80 (A : Args) (g : Fin 32) (n : Fin 64) : ℝ := rv63 A g n + rv79 A g n
def rv81 (A : Args) (g : Fin 32) (n : Fin 64) : ℝ := rv72 A g n * rv35 A g n
def rv82 (A : Args) (g : Fin 32) (n : Fin 64) : ℝ := rv81 A g n * rv31 A g n
def rv83 (A : Args) (g : Fin 32) (n : Fin 64) : ℝ := -rv82 A g n
def rv84 (A : Args) (g : Fin 32) (n : Fin 64) : ℝ := rv72 A g n / rv17 A g n
def rv85 (A : Args) (g : Fin 32) (n : Fin 64) : ℝ := -rv84 A g n
def rv86 (A : Args) (g : Fin 32) (n : Fin 64) : ℝ := rv29 A g n * rv85 A g n
def rv87 (A : Args) (g : Fin 32) (n : Fin 64) : ℝ := rv85 A g n * A.b g n
def rv88 (A : Args) (g : Fin 32) (n : Fin 64) : ℝ := A.u g n + rv87 A g n
def rv89 (A : Args) (g : Fin 32) (n : Fin 64) : ℝ := rv14 A g n * rv84 A g n
def rv90 (A : Args) (g : Fin 32) (n : Fin 64) : ℝ := rv84 A g n * A.a g n
def rv91 (A : Args) (g : Fin 32) (n : Fin 64) : ℝ := A.v g n + rv90 A g n
def rv92 (A : Args) (g : Fin 32) (n : Fin 64) : ℝ := rv80 A g n * rv26 A g n
def rv93 (A : Args) (g : Fin 32) (n : Fin 64) : ℝ := rv92 A g n * rv22 A g n
def rv94 (A : Args) (g : Fin 32) (n : Fin 64) : ℝ := -rv93 A g n
def rv95 (A : Args) (g : Fin 32) (n : Fin 64) : ℝ := rv83 A g n + rv94 A g n
def rv96 (A : Args) (g : Fin 32) (n : Fin 64) : ℝ := rv80 A g n / rv17 A g n
def rv97 (A : Args) (g : Fin 32) (n : Fin 64) : ℝ := rv14 A g n * rv96 A g n
def rv98 (A : Args) (g : Fin 32) (n : Fin 64) : ℝ := rv86 A g n + rv97 A g n
def rv99 (A : Args) (g : Fin 32) (n : Fin 64) : ℝ := rv96 A g n * A.b g n
def rv100 (A : Args) (g : Fin 32) (n : Fin 64) : ℝ := rv91 A g n + rv99 A g n
def rv101 (A : Args) (g : Fin 32) (n : Fin 64) : ℝ := rv19 A g n * rv96 A g n
def rv102 (A : Args) (g : Fin 32) (n : Fin 64) : ℝ := rv89 A g n + rv101 A g n
def rv103 (A : Args) (g : Fin 32) (n : Fin 64) : ℝ := rv96 A g n * A.a g n
def rv104 (A : Args) (g : Fin 32) (n : Fin 64) : ℝ := rv88 A g n + rv103 A g n
def rv105 (A : Args) (g : Fin 32) (n : Fin 64) : ℝ := A.b g n * rv95 A g n
def rv106 (A : Args) (g : Fin 32) (n : Fin 64) : ℝ := rv98 A g n + rv105 A g n
def rv107 (A : Args) (g : Fin 32) (n : Fin 64) : ℝ := rv95 A g n * A.b g n
def rv108 (A : Args) (g : Fin 32) (n : Fin 64) : ℝ := rv106 A g n + rv107 A g n
def rv109 (A : Args) (g : Fin 32) (n : Fin 64) : ℝ := A.a g n * rv95 A g n
def rv110 (A : Args) (g : Fin 32) (n : Fin 64) : ℝ := rv102 A g n + rv109 A g n
def rv111 (A : Args) (g : Fin 32) (n : Fin 64) : ℝ := rv95 A g n * A.a g n
def rv112 (A : Args) (g : Fin 32) (n : Fin 64) : ℝ := rv110 A g n + rv111 A g n
def rv113 (A : Args) (g : Fin 32) (n : Fin 64) : ℝ := rv4 A g n * rv100 A g n
def rv114 (A : Args) (g : Fin 32) (n : Fin 64) : ℝ := rv100 A g n * rv12 A g n
def rv115 (A : Args) (g : Fin 32) (n : Fin 64) : ℝ := rv113 A g n * rv13 A g n
def rv116 (A : Args) (g : Fin 32) (n : Fin 64) : ℝ := A.b g n * rv115 A g n
def rcst_11 (A : Args) : ℝ := 0
def rv117 (A : Args) (g : Fin 32) : ℝ := 0 + ∑ n : Fin 64, rv116 A g n
def rv118 (A : Args) (g : Fin 32) : ℝ := rv117 A g
def rv119 (A : Args) (g : Fin 32) (n : Fin 64) : ℝ := rv1 A g
def rv120 (A : Args) (g : Fin 32) (n : Fin 64) : ℝ := rv115 A g n * rv119 A g n
def rv121 (A : Args) (g : Fin 32) (n : Fin 64) : ℝ := rv108 A g n + rv120 A g n
def rv122 (A : Args) (g : Fin 32) (n : Fin 64) : ℝ := rv4 A g n * rv104 A g n
def rv123 (A : Args) (g : Fin 32) (n : Fin 64) : ℝ := rv104 A g n * rv7 A g n
def rv124 (A : Args) (g : Fin 32) (n : Fin 64) : ℝ := rv114 A g n + rv123 A g n
def rv125 (A : Args) (g : Fin 32) (n : Fin 64) : ℝ := -rv122 A g n
def rv126 (A : Args) (g : Fin 32) (n : Fin 64) : ℝ := rv125 A g n * rv8 A g n
def rv127 (A : Args) (g : Fin 32) (n : Fin 64) : ℝ := A.b g n * rv126 A g n
def rcst_12 (A : Args) : ℝ := 0
def rv128 (A : Args) (g : Fin 32) : ℝ := 0 + ∑ n : Fin 64, rv127 A g n
def rv129 (A : Args) (g : Fin 32) : ℝ := rv128 A g
def rv130 (A : Args) (g : Fin 32) : ℝ := rv118 A g + rv129 A g
def rv131 (A : Args) (g : Fin 32) (n : Fin 64) : ℝ := rv1 A g
def rv132 (A : Args) (g : Fin 32) (n : Fin 64) : ℝ := rv126 A g n * rv131 A g n
def rv133 (A : Args) (g : Fin 32) (n : Fin 64) : ℝ := rv121 A g n + rv132 A g n
def rv134 (A : Args) (g : Fin 32) (n : Fin 64) : ℝ := rv124 A g n * rv4 A g n
def rv135 (A : Args) (g : Fin 32) (n : Fin 64) : ℝ := A.a g n * rv134 A g n
def rcst_13 (A : Args) : ℝ := 0
def rv136 (A : Args) (g : Fin 32) : ℝ := 0 + ∑ n : Fin 64, rv135 A g n
def rv137 (A : Args) (g : Fin 32) : ℝ := rv136 A g
def rv138 (A : Args) (g : Fin 32) : ℝ := rv130 A g + rv137 A g
def rv139 (A : Args) (g : Fin 32) (n : Fin 64) : ℝ := rv1 A g
def rv140 (A : Args) (g : Fin 32) (n : Fin 64) : ℝ := rv134 A g n * rv139 A g n
def rv141 (A : Args) (g : Fin 32) (n : Fin 64) : ℝ := rv112 A g n + rv140 A g n
def rcst_14 (A : Args) : ℝ := 0
def rv142 (A : Args) (g : Fin 32) : ℝ := 0 + ∑ n : Fin 1, rv138 A g
def rv143 (A : Args) (g : Fin 32) : ℝ := rv142 A g * rv0 A g

/-- The arrays hold the real arguments, and no denominator is zero. -/
structure Holds (A : Args) (X0 : S32x64.Idx → EReal) (X1 : S32x64.Idx → EReal) (X2 : S32.Idx → EReal) (X3 : S32x64x16.Idx → EReal) (X4 : S32x64x16.Idx → EReal) (X5 : S32x64.Idx → EReal) (X6 : S32x64.Idx → EReal) (X7 : S32x16x64.Idx → EReal) (X8 : S32x16x64.Idx → EReal) : Prop where
  h0 : ∀ g n, X0 (ix2 g n) = ((A.a g n : ℝ) : EReal)
  h1 : ∀ g n, X1 (ix2 g n) = ((A.b g n : ℝ) : EReal)
  h2 : ∀ g, X2 (ix1 g) = ((A.l g : ℝ) : EReal)
  h3 : ∀ g n c, X3 (ix3 g n c) = ((A.p g n c : ℝ) : EReal)
  h4 : ∀ g n c, X4 (ix3 g n c) = ((A.r g n c : ℝ) : EReal)
  h5 : ∀ g n, X5 (ix2 g n) = ((A.u g n : ℝ) : EReal)
  h6 : ∀ g n, X6 (ix2 g n) = ((A.v g n : ℝ) : EReal)
  h7 : ∀ g c n, X7 (ix3 g c n) = ((A.s g c n : ℝ) : EReal)
  h8 : ∀ g c n, X8 (ix3 g c n) = ((A.t g c n : ℝ) : EReal)
  hn : ∀ g n, rv17 A g n ≠ 0

variable {A : Args} {X0 : S32x64.Idx → EReal} {X1 : S32x64.Idx → EReal} {X2 : S32.Idx → EReal} {X3 : S32x64x16.Idx → EReal} {X4 : S32x64x16.Idx → EReal} {X5 : S32x64.Idx → EReal} {X6 : S32x64.Idx → EReal} {X7 : S32x16x64.Idx → EReal} {X8 : S32x16x64.Idx → EReal} (h : Holds A X0 X1 X2 X3 X4 X5 X6 X7 X8)

include h

theorem ev0 (g : Fin 32) : val_main_v0 (F := Ideal) X2 (ix1 g) = ((rv0 A g : ℝ) : EReal) := by
  rw [val_main_v0_apply, h.h2 g]
  rfl

theorem ev1 (g : Fin 32) : val_main_v1 (F := Ideal) X2 (ix2 g 0) = ((rv1 A g : ℝ) : EReal) := by
  rw [val_main_v1_apply]
  have e : idx_main_v1 (ix2 g 0) = ix1 g := by
    funext x; fin_cases x; first | rfl | (apply Fin.ext; show g.val * 1 + 0 = g.val; omega)
  exact (congrArg (val_main_v0 (F := Ideal) X2) e).trans (ev0 h g)

theorem ev2 (g : Fin 32) (n : Fin 64) : val_main_v2 (F := Ideal) X2 (ix2 g n) = ((rv2 A g n : ℝ) : EReal) := by
  rw [val_main_v2_apply]
  have e : idx_main_v2 (ix2 g n) = ix2 g 0 := by
    funext x; fin_cases x <;> rfl
  exact (congrArg (val_main_v1 (F := Ideal) X2) e).trans (ev1 h g)

theorem ev3 (g : Fin 32) (n : Fin 64) : val_main_v3 (F := Ideal) X0 X2 (ix2 g n) = ((rv3 A g n : ℝ) : EReal) := by
  rw [val_main_v3_apply, h.h0 g n, ev2 h g n]
  exact (EReal.coe_mul _ _).symm

theorem ev4 (g : Fin 32) (n : Fin 64) : val_main_v4 (F := Ideal) X0 X2 (ix2 g n) = ((rv4 A g n : ℝ) : EReal) := by
  rw [val_main_v4_apply, ev3 h g n]
  rfl

theorem ev5 (g : Fin 32) (n : Fin 64) : val_main_v5 (F := Ideal) X2 (ix2 g n) = ((rv5 A g n : ℝ) : EReal) := by
  rw [val_main_v5_apply]
  have e : idx_main_v5 (ix2 g n) = ix2 g 0 := by
    funext x; fin_cases x <;> rfl
  exact (congrArg (val_main_v1 (F := Ideal) X2) e).trans (ev1 h g)

theorem ev6 (g : Fin 32) (n : Fin 64) : val_main_v6 (F := Ideal) X1 X2 (ix2 g n) = ((rv6 A g n : ℝ) : EReal) := by
  rw [val_main_v6_apply, h.h1 g n, ev5 h g n]
  exact (EReal.coe_mul _ _).symm

theorem ev7 (g : Fin 32) (n : Fin 64) : val_main_v7 (F := Ideal) X1 X2 (ix2 g n) = ((rv7 A g n : ℝ) : EReal) := by
  rw [val_main_v7_apply, ev6 h g n]
  rfl

theorem ev8 (g : Fin 32) (n : Fin 64) : val_main_v8 (F := Ideal) X1 X2 (ix2 g n) = ((rv8 A g n : ℝ) : EReal) := by
  rw [val_main_v8_apply, ev6 h g n]
  rfl

theorem ev9 (g : Fin 32) (n : Fin 64) : val_main_v9 (F := Ideal) X0 X1 X2 (ix2 g n) = ((rv9 A g n : ℝ) : EReal) := by
  rw [val_main_v9_apply, ev4 h g n, ev7 h g n]
  exact (EReal.coe_mul _ _).symm

theorem ev10 (g : Fin 32) (n : Fin 64) : val_main_v10 (F := Ideal) X2 (ix2 g n) = ((rv10 A g n : ℝ) : EReal) := by
  rw [val_main_v10_apply]
  have e : idx_main_v10 (ix2 g n) = ix2 g 0 := by
    funext x; fin_cases x <;> rfl
  exact (congrArg (val_main_v1 (F := Ideal) X2) e).trans (ev1 h g)

theorem ev11 (g : Fin 32) (n : Fin 64) : val_main_v11 (F := Ideal) X1 X2 (ix2 g n) = ((rv11 A g n : ℝ) : EReal) := by
  rw [val_main_v11_apply, h.h1 g n, ev10 h g n]
  exact (EReal.coe_mul _ _).symm

theorem ev12 (g : Fin 32) (n : Fin 64) : val_main_v12 (F := Ideal) X1 X2 (ix2 g n) = ((rv12 A g n : ℝ) : EReal) := by
  rw [val_main_v12_apply, ev11 h g n]
  rfl

theorem ev13 (g : Fin 32) (n : Fin 64) : val_main_v13 (F := Ideal) X1 X2 (ix2 g n) = ((rv13 A g n : ℝ) : EReal) := by
  rw [val_main_v13_apply, ev11 h g n]
  rfl

theorem ev14 (g : Fin 32) (n : Fin 64) : val_main_v14 (F := Ideal) X0 X1 X2 (ix2 g n) = ((rv14 A g n : ℝ) : EReal) := by
  rw [val_main_v14_apply, ev4 h g n, ev12 h g n]
  exact (EReal.coe_mul _ _).symm

theorem ev15 (g : Fin 32) (n : Fin 64) : val_main_v15 (F := Ideal) X0 (ix2 g n) = ((rv15 A g n : ℝ) : EReal) := by
  rw [val_main_v15_apply, h.h0 g n]
  exact (EReal.coe_mul _ _).symm

theorem ev16 (g : Fin 32) (n : Fin 64) : val_main_v16 (F := Ideal) X1 (ix2 g n) = ((rv16 A g n : ℝ) : EReal) := by
  rw [val_main_v16_apply, h.h1 g n]
  exact (EReal.coe_mul _ _).symm

theorem ev17 (g : Fin 32) (n : Fin 64) : val_main_v17 (F := Ideal) X0 X1 (ix2 g n) = ((rv17 A g n : ℝ) : EReal) := by
  rw [val_main_v17_apply, ev15 h g n, ev16 h g n]
  exact (EReal.coe_add _ _).symm

omit h in
theorem ecst (A : Args) (i) : val_main_cst (F := Ideal) i = ((rcst A : ℝ) : EReal) := word_1

theorem ev18 (g : Fin 32) (n : Fin 64) : val_main_v18 (F := Ideal)  (ix2 g n) = ((rv18 A g n : ℝ) : EReal) := by
  rw [val_main_v18_apply]
  exact ecst A _

theorem ev19 (g : Fin 32) (n : Fin 64) : val_main_v19 (F := Ideal) X0 X1 X2 (ix2 g n) = ((rv19 A g n : ℝ) : EReal) := by
  rw [val_main_v19_apply, ev9 h g n, ev18 h g n]
  exact (EReal.coe_sub _ _).symm

theorem ev20 (g : Fin 32) (n : Fin 64) : val_main_v20 (F := Ideal) X0 X1 X2 (ix2 g n) = ((rv20 A g n : ℝ) : EReal) := by
  rw [val_main_v20_apply, ev19 h g n, h.h0 g n]
  exact (EReal.coe_mul _ _).symm

theorem ev21 (g : Fin 32) (n : Fin 64) : val_main_v21 (F := Ideal) X0 X1 X2 (ix2 g n) = ((rv21 A g n : ℝ) : EReal) := by
  rw [val_main_v21_apply, ev14 h g n, h.h1 g n]
  exact (EReal.coe_mul _ _).symm

theorem ev22 (g : Fin 32) (n : Fin 64) : val_main_v22 (F := Ideal) X0 X1 X2 (ix2 g n) = ((rv22 A g n : ℝ) : EReal) := by
  rw [val_main_v22_apply, ev20 h g n, ev21 h g n]
  exact (EReal.coe_add _ _).symm

theorem ev23 (g : Fin 32) (n : Fin 64) : val_main_v23 (F := Ideal) X0 X1 X2 (ix2 g n) = ((rv23 A g n : ℝ) : EReal) := by
  rw [val_main_v23_apply, ev22 h g n, ev17 h g n]
  exact cdiv _ _ (h.hn g n)

theorem ev24 (g : Fin 32) (n : Fin 64) : val_main_v24 (F := Ideal) X0 X1 (ix2 g n) = ((rv24 A g n : ℝ) : EReal) := by
  rw [val_main_v24_apply, ev17 h g n]
  exact (EReal.coe_mul _ _).symm

omit h in
theorem ecst_0 (A : Args) (i) : val_main_cst_0 (F := Ideal) i = ((rcst_0 A : ℝ) : EReal) := word_1

theorem ev25 (g : Fin 32) (n : Fin 64) : val_main_v25 (F := Ideal)  (ix2 g n) = ((rv25 A g n : ℝ) : EReal) := by
  rw [val_main_v25_apply]
  exact ecst_0 A _

theorem ev26 (g : Fin 32) (n : Fin 64) : val_main_v26 (F := Ideal) X0 X1 (ix2 g n) = ((rv26 A g n : ℝ) : EReal) := by
  rw [val_main_v26_apply, ev25 h g n, ev24 h g n]
  exact cdiv _ _ (mul_ne_zero (h.hn g n) (h.hn g n))

theorem ev27 (g : Fin 32) (n : Fin 64) : val_main_v27 (F := Ideal) X0 X1 X2 (ix2 g n) = ((rv27 A g n : ℝ) : EReal) := by
  rw [val_main_v27_apply, ev14 h g n, h.h0 g n]
  exact (EReal.coe_mul _ _).symm

omit h in
theorem ecst_1 (A : Args) (i) : val_main_cst_1 (F := Ideal) i = ((rcst_1 A : ℝ) : EReal) := word_1

theorem ev28 (g : Fin 32) (n : Fin 64) : val_main_v28 (F := Ideal)  (ix2 g n) = ((rv28 A g n : ℝ) : EReal) := by
  rw [val_main_v28_apply]
  exact ecst_1 A _

theorem ev29 (g : Fin 32) (n : Fin 64) : val_main_v29 (F := Ideal) X0 X1 X2 (ix2 g n) = ((rv29 A g n : ℝ) : EReal) := by
  rw [val_main_v29_apply, ev9 h g n, ev28 h g n]
  exact (EReal.coe_sub _ _).symm

theorem ev30 (g : Fin 32) (n : Fin 64) : val_main_v30 (F := Ideal) X0 X1 X2 (ix2 g n) = ((rv30 A g n : ℝ) : EReal) := by
  rw [val_main_v30_apply, ev29 h g n, h.h1 g n]
  exact (EReal.coe_mul _ _).symm

theorem ev31 (g : Fin 32) (n : Fin 64) : val_main_v31 (F := Ideal) X0 X1 X2 (ix2 g n) = ((rv31 A g n : ℝ) : EReal) := by
  rw [val_main_v31_apply, ev27 h g n, ev30 h g n]
  exact (EReal.coe_sub _ _).symm

theorem ev32 (g : Fin 32) (n : Fin 64) : val_main_v32 (F := Ideal) X0 X1 X2 (ix2 g n) = ((rv32 A g n : ℝ) : EReal) := by
  rw [val_main_v32_apply, ev31 h g n, ev17 h g n]
  exact cdiv _ _ (h.hn g n)

theorem ev33 (g : Fin 32) (n : Fin 64) : val_main_v33 (F := Ideal) X0 X1 (ix2 g n) = ((rv33 A g n : ℝ) : EReal) := by
  rw [val_main_v33_apply, ev17 h g n]
  exact (EReal.coe_mul _ _).symm

omit h in
theorem ecst_2 (A : Args) (i) : val_main_cst_2 (F := Ideal) i = ((rcst_2 A : ℝ) : EReal) := word_1

theorem ev34 (g : Fin 32) (n : Fin 64) : val_main_v34 (F := Ideal)  (ix2 g n) = ((rv34 A g n : ℝ) : EReal) := by
  rw [val_main_v34_apply]
  exact ecst_2 A _

theorem ev35 (g : Fin 32) (n : Fin 64) : val_main_v35 (F := Ideal) X0 X1 (ix2 g n) = ((rv35 A g n : ℝ) : EReal) := by
  rw [val_main_v35_apply, ev34 h g n, ev33 h g n]
  exact cdiv _ _ (mul_ne_zero (h.hn g n) (h.hn g n))

theorem ev36 (g : Fin 32) (n : Fin 64) : val_main_v36 (F := Ideal) X0 X1 X2 (ix3 g n 0) = ((rv36 A g n : ℝ) : EReal) := by
  rw [val_main_v36_apply]
  have e : idx_main_v36 (ix3 g n 0) = ix2 g n := by
    funext x; fin_cases x <;> rfl
  exact (congrArg (val_main_v23 (F := Ideal) X0 X1 X2) e).trans (ev23 h g n)

theorem ev39 (g : Fin 32) (n : Fin 64) : val_main_v39 (F := Ideal) X0 X1 X2 (ix3 g n 0) = ((rv39 A g n : ℝ) : EReal) := by
  rw [val_main_v39_apply]
  have e : idx_main_v39 (ix3 g n 0) = ix2 g n := by
    funext x; fin_cases x <;> rfl
  exact (congrArg (val_main_v32 (F := Ideal) X0 X1 X2) e).trans (ev32 h g n)

theorem ev43 (g : Fin 32) (n : Fin 64) : val_main_v43 (F := Ideal) X0 X1 X2 (ix3 g n 0) = ((rv43 A g n : ℝ) : EReal) := by
  rw [val_main_v43_apply]
  have e : idx_main_v43 (ix3 g n 0) = ix2 g n := by
    funext x; fin_cases x <;> rfl
  exact (congrArg (val_main_v23 (F := Ideal) X0 X1 X2) e).trans (ev23 h g n)

theorem ev46 (g : Fin 32) (n : Fin 64) : val_main_v46 (F := Ideal) X0 X1 X2 (ix3 g n 0) = ((rv46 A g n : ℝ) : EReal) := by
  rw [val_main_v46_apply]
  have e : idx_main_v46 (ix3 g n 0) = ix2 g n := by
    funext x; fin_cases x <;> rfl
  exact (congrArg (val_main_v32 (F := Ideal) X0 X1 X2) e).trans (ev32 h g n)

theorem ev50 (g : Fin 32) (n : Fin 64) (c : Fin 16) : val_main_v50 (F := Ideal) X7 (ix3 g n c) = ((rv50 A g n c : ℝ) : EReal) := by
  rw [val_main_v50_apply]
  have e : idx_main_v50 (ix3 g n c) = ix3 g c n := by
    funext x; fin_cases x <;> rfl
  exact (congrArg X7 e).trans (h.h7 g c n)

theorem ev51 (g : Fin 32) (n : Fin 64) (c : Fin 16) : val_main_v51 (F := Ideal) X8 (ix3 g n c) = ((rv51 A g n c : ℝ) : EReal) := by
  rw [val_main_v51_apply]
  have e : idx_main_v51 (ix3 g n c) = ix3 g c n := by
    funext x; fin_cases x <;> rfl
  exact (congrArg X8 e).trans (h.h8 g c n)

theorem ev52 (g : Fin 32) (n : Fin 64) (c : Fin 16) : val_main_v52 (F := Ideal) X0 X1 X2 (ix3 g n c) = ((rv52 A g n c : ℝ) : EReal) := by
  rw [val_main_v52_apply]
  have e : idx_main_v52 (ix3 g n c) = ix3 g n 0 := by
    funext x; fin_cases x <;> rfl
  exact (congrArg (val_main_v46 (F := Ideal) X0 X1 X2) e).trans (ev46 h g n)

theorem ev53 (g : Fin 32) (n : Fin 64) (c : Fin 16) : val_main_v53 (F := Ideal) X0 X1 X2 X8 (ix3 g n c) = ((rv53 A g n c : ℝ) : EReal) := by
  rw [val_main_v53_apply, ev52 h g n c, ev51 h g n c]
  exact (EReal.coe_mul _ _).symm

theorem ev54 (g : Fin 32) (n : Fin 64) (c : Fin 16) : val_main_v54 (F := Ideal) X3 X8 (ix3 g n c) = ((rv54 A g n c : ℝ) : EReal) := by
  rw [val_main_v54_apply, ev51 h g n c, h.h3 g n c]
  exact (EReal.coe_mul _ _).symm

omit h in
theorem ecst_3 (A : Args) (i) : val_main_cst_3 (F := Ideal) i = ((rcst_3 A : ℝ) : EReal) := word_0

theorem ev55 (g : Fin 32) (n : Fin 64) : val_main_v55 (F := Ideal) X3 X8 (ix2 g n) = ((rv55 A g n : ℝ) : EReal) := by
  unfold rv55
  rw [val_main_v55_apply, EReal.coe_add, ← coe_sum]
  refine congrArg₂ (· + ·) word_0 (Finset.sum_congr rfl fun c _ => ?_)
  have e : idx_main_v55 (ix2 g n) c = ix3 g n c := by
    funext x; fin_cases x <;> first | rfl | exact Subsingleton.elim (α := Fin 1) _ _
  exact (congrArg (val_main_v54 (F := Ideal) X3 X8) e).trans (ev54 h g n c)

theorem ev56 (g : Fin 32) (n : Fin 64) : val_main_v56 (F := Ideal) X3 X8 (ix3 g n 0) = ((rv56 A g n : ℝ) : EReal) := by
  rw [val_main_v56_apply]
  have e : idx_main_v56 (ix3 g n 0) = ix2 g n := by
    funext x; fin_cases x <;> first | rfl | (apply Fin.ext; show ((g.val * 64 + n.val) * 1 + 0) / 64 = g.val; omega) | (apply Fin.ext; show ((g.val * 64 + n.val) * 1 + 0) % 64 = n.val; omega)
  exact (congrArg (val_main_v55 (F := Ideal) X3 X8) e).trans (ev55 h g n)

omit h in
theorem ecst_4 (A : Args) (i) : val_main_cst_4 (F := Ideal) i = ((rcst_4 A : ℝ) : EReal) := word_0

theorem ev57 (g : Fin 32) (n : Fin 64) : val_main_v57 (F := Ideal) X3 X8 (ix2 g n) = ((rv57 A g n : ℝ) : EReal) := by
  unfold rv57
  rw [val_main_v57_apply, EReal.coe_add, ← coe_sum]
  refine congrArg₂ (· + ·) word_0 (Finset.sum_congr rfl fun c _ => ?_)
  have e : idx_main_v57 (ix2 g n) c = ix3 g n 0 := by
    funext x; fin_cases x <;> first | rfl | exact Subsingleton.elim (α := Fin 1) _ _
  exact (congrArg (val_main_v56 (F := Ideal) X3 X8) e).trans (ev56 h g n)

theorem ev58 (g : Fin 32) (n : Fin 64) (c : Fin 16) : val_main_v58 (F := Ideal) X0 X1 X2 (ix3 g n c) = ((rv58 A g n c : ℝ) : EReal) := by
  rw [val_main_v58_apply]
  have e : idx_main_v58 (ix3 g n c) = ix3 g n 0 := by
    funext x; fin_cases x <;> rfl
  exact (congrArg (val_main_v43 (F := Ideal) X0 X1 X2) e).trans (ev43 h g n)

theorem ev59 (g : Fin 32) (n : Fin 64) (c : Fin 16) : val_main_v59 (F := Ideal) X0 X1 X2 X8 (ix3 g n c) = ((rv59 A g n c : ℝ) : EReal) := by
  rw [val_main_v59_apply, ev58 h g n c, ev51 h g n c]
  exact (EReal.coe_mul _ _).symm

theorem ev60 (g : Fin 32) (n : Fin 64) (c : Fin 16) : val_main_v60 (F := Ideal) X4 X8 (ix3 g n c) = ((rv60 A g n c : ℝ) : EReal) := by
  rw [val_main_v60_apply, ev51 h g n c, h.h4 g n c]
  exact (EReal.coe_mul _ _).symm

omit h in
theorem ecst_5 (A : Args) (i) : val_main_cst_5 (F := Ideal) i = ((rcst_5 A : ℝ) : EReal) := word_0

theorem ev61 (g : Fin 32) (n : Fin 64) : val_main_v61 (F := Ideal) X4 X8 (ix2 g n) = ((rv61 A g n : ℝ) : EReal) := by
  unfold rv61
  rw [val_main_v61_apply, EReal.coe_add, ← coe_sum]
  refine congrArg₂ (· + ·) word_0 (Finset.sum_congr rfl fun c _ => ?_)
  have e : idx_main_v61 (ix2 g n) c = ix3 g n c := by
    funext x; fin_cases x <;> first | rfl | exact Subsingleton.elim (α := Fin 1) _ _
  exact (congrArg (val_main_v60 (F := Ideal) X4 X8) e).trans (ev60 h g n c)

theorem ev62 (g : Fin 32) (n : Fin 64) : val_main_v62 (F := Ideal) X4 X8 (ix3 g n 0) = ((rv62 A g n : ℝ) : EReal) := by
  rw [val_main_v62_apply]
  have e : idx_main_v62 (ix3 g n 0) = ix2 g n := by
    funext x; fin_cases x <;> first | rfl | (apply Fin.ext; show ((g.val * 64 + n.val) * 1 + 0) / 64 = g.val; omega) | (apply Fin.ext; show ((g.val * 64 + n.val) * 1 + 0) % 64 = n.val; omega)
  exact (congrArg (val_main_v61 (F := Ideal) X4 X8) e).trans (ev61 h g n)

omit h in
theorem ecst_6 (A : Args) (i) : val_main_cst_6 (F := Ideal) i = ((rcst_6 A : ℝ) : EReal) := word_0

theorem ev63 (g : Fin 32) (n : Fin 64) : val_main_v63 (F := Ideal) X4 X8 (ix2 g n) = ((rv63 A g n : ℝ) : EReal) := by
  unfold rv63
  rw [val_main_v63_apply, EReal.coe_add, ← coe_sum]
  refine congrArg₂ (· + ·) word_0 (Finset.sum_congr rfl fun c _ => ?_)
  have e : idx_main_v63 (ix2 g n) c = ix3 g n 0 := by
    funext x; fin_cases x <;> first | rfl | exact Subsingleton.elim (α := Fin 1) _ _
  exact (congrArg (val_main_v62 (F := Ideal) X4 X8) e).trans (ev62 h g n)

theorem ev64 (g : Fin 32) (n : Fin 64) (c : Fin 16) : val_main_v64 (F := Ideal) X7 (ix3 g n c) = ((rv64 A g n c : ℝ) : EReal) := by
  rw [val_main_v64_apply, ev50 h g n c]
  exact (EReal.coe_neg _).symm

theorem ev65 (g : Fin 32) (n : Fin 64) (c : Fin 16) : val_main_v65 (F := Ideal) X0 X1 X2 (ix3 g n c) = ((rv65 A g n c : ℝ) : EReal) := by
  rw [val_main_v65_apply]
  have e : idx_main_v65 (ix3 g n c) = ix3 g n 0 := by
    funext x; fin_cases x <;> rfl
  exact (congrArg (val_main_v39 (F := Ideal) X0 X1 X2) e).trans (ev39 h g n)

theorem ev66 (g : Fin 32) (n : Fin 64) (c : Fin 16) : val_main_v66 (F := Ideal) X0 X1 X2 X7 (ix3 g n c) = ((rv66 A g n c : ℝ) : EReal) := by
  rw [val_main_v66_apply, ev65 h g n c, ev64 h g n c]
  exact (EReal.coe_mul _ _).symm

theorem ev67 (g : Fin 32) (n : Fin 64) (c : Fin 16) : val_main_v67 (F := Ideal) X0 X1 X2 X7 X8 (ix3 g n c) = ((rv67 A g n c : ℝ) : EReal) := by
  rw [val_main_v67_apply, ev59 h g n c, ev66 h g n c]
  exact (EReal.coe_add _ _).symm

theorem ev68 (g : Fin 32) (n : Fin 64) (c : Fin 16) : val_main_v68 (F := Ideal) X4 X7 (ix3 g n c) = ((rv68 A g n c : ℝ) : EReal) := by
  rw [val_main_v68_apply, ev64 h g n c, h.h4 g n c]
  exact (EReal.coe_mul _ _).symm

omit h in
theorem ecst_7 (A : Args) (i) : val_main_cst_7 (F := Ideal) i = ((rcst_7 A : ℝ) : EReal) := word_0

theorem ev69 (g : Fin 32) (n : Fin 64) : val_main_v69 (F := Ideal) X4 X7 (ix2 g n) = ((rv69 A g n : ℝ) : EReal) := by
  unfold rv69
  rw [val_main_v69_apply, EReal.coe_add, ← coe_sum]
  refine congrArg₂ (· + ·) word_0 (Finset.sum_congr rfl fun c _ => ?_)
  have e : idx_main_v69 (ix2 g n) c = ix3 g n c := by
    funext x; fin_cases x <;> first | rfl | exact Subsingleton.elim (α := Fin 1) _ _
  exact (congrArg (val_main_v68 (F := Ideal) X4 X7) e).trans (ev68 h g n c)

theorem ev70 (g : Fin 32) (n : Fin 64) : val_main_v70 (F := Ideal) X4 X7 (ix3 g n 0) = ((rv70 A g n : ℝ) : EReal) := by
  rw [val_main_v70_apply]
  have e : idx_main_v70 (ix3 g n 0) = ix2 g n := by
    funext x; fin_cases x <;> first | rfl | (apply Fin.ext; show ((g.val * 64 + n.val) * 1 + 0) / 64 = g.val; omega) | (apply Fin.ext; show ((g.val * 64 + n.val) * 1 + 0) % 64 = n.val; omega)
  exact (congrArg (val_main_v69 (F := Ideal) X4 X7) e).trans (ev69 h g n)

omit h in
theorem ecst_8 (A : Args) (i) : val_main_cst_8 (F := Ideal) i = ((rcst_8 A : ℝ) : EReal) := word_0

theorem ev71 (g : Fin 32) (n : Fin 64) : val_main_v71 (F := Ideal) X4 X7 (ix2 g n) = ((rv71 A g n : ℝ) : EReal) := by
  unfold rv71
  rw [val_main_v71_apply, EReal.coe_add, ← coe_sum]
  refine congrArg₂ (· + ·) word_0 (Finset.sum_congr rfl fun c _ => ?_)
  have e : idx_main_v71 (ix2 g n) c = ix3 g n 0 := by
    funext x; fin_cases x <;> first | rfl | exact Subsingleton.elim (α := Fin 1) _ _
  exact (congrArg (val_main_v70 (F := Ideal) X4 X7) e).trans (ev70 h g n)

theorem ev72 (g : Fin 32) (n : Fin 64) : val_main_v72 (F := Ideal) X3 X4 X7 X8 (ix2 g n) = ((rv72 A g n : ℝ) : EReal) := by
  rw [val_main_v72_apply, ev57 h g n, ev71 h g n]
  exact (EReal.coe_add _ _).symm

theorem ev73 (g : Fin 32) (n : Fin 64) (c : Fin 16) : val_main_v73 (F := Ideal) X0 X1 X2 (ix3 g n c) = ((rv73 A g n c : ℝ) : EReal) := by
  rw [val_main_v73_apply]
  have e : idx_main_v73 (ix3 g n c) = ix3 g n 0 := by
    funext x; fin_cases x <;> rfl
  exact (congrArg (val_main_v36 (F := Ideal) X0 X1 X2) e).trans (ev36 h g n)

theorem ev74 (g : Fin 32) (n : Fin 64) (c : Fin 16) : val_main_v74 (F := Ideal) X0 X1 X2 X7 (ix3 g n c) = ((rv74 A g n c : ℝ) : EReal) := by
  rw [val_main_v74_apply, ev73 h g n c, ev50 h g n c]
  exact (EReal.coe_mul _ _).symm

theorem ev75 (g : Fin 32) (n : Fin 64) (c : Fin 16) : val_main_v75 (F := Ideal) X0 X1 X2 X7 X8 (ix3 g n c) = ((rv75 A g n c : ℝ) : EReal) := by
  rw [val_main_v75_apply, ev53 h g n c, ev74 h g n c]
  exact (EReal.coe_add _ _).symm

theorem ev76 (g : Fin 32) (n : Fin 64) (c : Fin 16) : val_main_v76 (F := Ideal) X3 X7 (ix3 g n c) = ((rv76 A g n c : ℝ) : EReal) := by
  rw [val_main_v76_apply, ev50 h g n c, h.h3 g n c]
  exact (EReal.coe_mul _ _).symm

omit h in
theorem ecst_9 (A : Args) (i) : val_main_cst_9 (F := Ideal) i = ((rcst_9 A : ℝ) : EReal) := word_0

theorem ev77 (g : Fin 32) (n : Fin 64) : val_main_v77 (F := Ideal) X3 X7 (ix2 g n) = ((rv77 A g n : ℝ) : EReal) := by
  unfold rv77
  rw [val_main_v77_apply, EReal.coe_add, ← coe_sum]
  refine congrArg₂ (· + ·) word_0 (Finset.sum_congr rfl fun c _ => ?_)
  have e : idx_main_v77 (ix2 g n) c = ix3 g n c := by
    funext x; fin_cases x <;> first | rfl | exact Subsingleton.elim (α := Fin 1) _ _
  exact (congrArg (val_main_v76 (F := Ideal) X3 X7) e).trans (ev76 h g n c)

theorem ev78 (g : Fin 32) (n : Fin 64) : val_main_v78 (F := Ideal) X3 X7 (ix3 g n 0) = ((rv78 A g n : ℝ) : EReal) := by
  rw [val_main_v78_apply]
  have e : idx_main_v78 (ix3 g n 0) = ix2 g n := by
    funext x; fin_cases x <;> first | rfl | (apply Fin.ext; show ((g.val * 64 + n.val) * 1 + 0) / 64 = g.val; omega) | (apply Fin.ext; show ((g.val * 64 + n.val) * 1 + 0) % 64 = n.val; omega)
  exact (congrArg (val_main_v77 (F := Ideal) X3 X7) e).trans (ev77 h g n)

omit h in
theorem ecst_10 (A : Args) (i) : val_main_cst_10 (F := Ideal) i = ((rcst_10 A : ℝ) : EReal) := word_0

theorem ev79 (g : Fin 32) (n : Fin 64) : val_main_v79 (F := Ideal) X3 X7 (ix2 g n) = ((rv79 A g n : ℝ) : EReal) := by
  unfold rv79
  rw [val_main_v79_apply, EReal.coe_add, ← coe_sum]
  refine congrArg₂ (· + ·) word_0 (Finset.sum_congr rfl fun c _ => ?_)
  have e : idx_main_v79 (ix2 g n) c = ix3 g n 0 := by
    funext x; fin_cases x <;> first | rfl | exact Subsingleton.elim (α := Fin 1) _ _
  exact (congrArg (val_main_v78 (F := Ideal) X3 X7) e).trans (ev78 h g n)

theorem ev80 (g : Fin 32) (n : Fin 64) : val_main_v80 (F := Ideal) X3 X4 X7 X8 (ix2 g n) = ((rv80 A g n : ℝ) : EReal) := by
  rw [val_main_v80_apply, ev63 h g n, ev79 h g n]
  exact (EReal.coe_add _ _).symm

theorem ev81 (g : Fin 32) (n : Fin 64) : val_main_v81 (F := Ideal) X0 X1 X3 X4 X7 X8 (ix2 g n) = ((rv81 A g n : ℝ) : EReal) := by
  rw [val_main_v81_apply, ev72 h g n, ev35 h g n]
  exact (EReal.coe_mul _ _).symm

theorem ev82 (g : Fin 32) (n : Fin 64) : val_main_v82 (F := Ideal) X0 X1 X2 X3 X4 X7 X8 (ix2 g n) = ((rv82 A g n : ℝ) : EReal) := by
  rw [val_main_v82_apply, ev81 h g n, ev31 h g n]
  exact (EReal.coe_mul _ _).symm

theorem ev83 (g : Fin 32) (n : Fin 64) : val_main_v83 (F := Ideal) X0 X1 X2 X3 X4 X7 X8 (ix2 g n) = ((rv83 A g n : ℝ) : EReal) := by
  rw [val_main_v83_apply, ev82 h g n]
  exact (EReal.coe_neg _).symm

theorem ev84 (g : Fin 32) (n : Fin 64) : val_main_v84 (F := Ideal) X0 X1 X3 X4 X7 X8 (ix2 g n) = ((rv84 A g n : ℝ) : EReal) := by
  rw [val_main_v84_apply, ev72 h g n, ev17 h g n]
  exact cdiv _ _ (h.hn g n)

theorem ev85 (g : Fin 32) (n : Fin 64) : val_main_v85 (F := Ideal) X0 X1 X3 X4 X7 X8 (ix2 g n) = ((rv85 A g n : ℝ) : EReal) := by
  rw [val_main_v85_apply, ev84 h g n]
  exact (EReal.coe_neg _).symm

theorem ev86 (g : Fin 32) (n : Fin 64) : val_main_v86 (F := Ideal) X0 X1 X2 X3 X4 X7 X8 (ix2 g n) = ((rv86 A g n : ℝ) : EReal) := by
  rw [val_main_v86_apply, ev29 h g n, ev85 h g n]
  exact (EReal.coe_mul _ _).symm

theorem ev87 (g : Fin 32) (n : Fin 64) : val_main_v87 (F := Ideal) X0 X1 X3 X4 X7 X8 (ix2 g n) = ((rv87 A g n : ℝ) : EReal) := by
  rw [val_main_v87_apply, ev85 h g n, h.h1 g n]
  exact (EReal.coe_mul _ _).symm

theorem ev88 (g : Fin 32) (n : Fin 64) : val_main_v88 (F := Ideal) X0 X1 X3 X4 X5 X7 X8 (ix2 g n) = ((rv88 A g n : ℝ) : EReal) := by
  rw [val_main_v88_apply, h.h5 g n, ev87 h g n]
  exact (EReal.coe_add _ _).symm

theorem ev89 (g : Fin 32) (n : Fin 64) : val_main_v89 (F := Ideal) X0 X1 X2 X3 X4 X7 X8 (ix2 g n) = ((rv89 A g n : ℝ) : EReal) := by
  rw [val_main_v89_apply, ev14 h g n, ev84 h g n]
  exact (EReal.coe_mul _ _).symm

theorem ev90 (g : Fin 32) (n : Fin 64) : val_main_v90 (F := Ideal) X0 X1 X3 X4 X7 X8 (ix2 g n) = ((rv90 A g n : ℝ) : EReal) := by
  rw [val_main_v90_apply, ev84 h g n, h.h0 g n]
  exact (EReal.coe_mul _ _).symm

theorem ev91 (g : Fin 32) (n : Fin 64) : val_main_v91 (F := Ideal) X0 X1 X3 X4 X6 X7 X8 (ix2 g n) = ((rv91 A g n : ℝ) : EReal) := by
  rw [val_main_v91_apply, h.h6 g n, ev90 h g n]
  exact (EReal.coe_add _ _).symm

theorem ev92 (g : Fin 32) (n : Fin 64) : val_main_v92 (F := Ideal) X0 X1 X3 X4 X7 X8 (ix2 g n) = ((rv92 A g n : ℝ) : EReal) := by
  rw [val_main_v92_apply, ev80 h g n, ev26 h g n]
  exact (EReal.coe_mul _ _).symm

theorem ev93 (g : Fin 32) (n : Fin 64) : val_main_v93 (F := Ideal) X0 X1 X2 X3 X4 X7 X8 (ix2 g n) = ((rv93 A g n : ℝ) : EReal) := by
  rw [val_main_v93_apply, ev92 h g n, ev22 h g n]
  exact (EReal.coe_mul _ _).symm

theorem ev94 (g : Fin 32) (n : Fin 64) : val_main_v94 (F := Ideal) X0 X1 X2 X3 X4 X7 X8 (ix2 g n) = ((rv94 A g n : ℝ) : EReal) := by
  rw [val_main_v94_apply, ev93 h g n]
  exact (EReal.coe_neg _).symm

theorem ev95 (g : Fin 32) (n : Fin 64) : val_main_v95 (F := Ideal) X0 X1 X2 X3 X4 X7 X8 (ix2 g n) = ((rv95 A g n : ℝ) : EReal) := by
  rw [val_main_v95_apply, ev83 h g n, ev94 h g n]
  exact (EReal.coe_add _ _).symm

theorem ev96 (g : Fin 32) (n : Fin 64) : val_main_v96 (F := Ideal) X0 X1 X3 X4 X7 X8 (ix2 g n) = ((rv96 A g n : ℝ) : EReal) := by
  rw [val_main_v96_apply, ev80 h g n, ev17 h g n]
  exact cdiv _ _ (h.hn g n)

theorem ev97 (g : Fin 32) (n : Fin 64) : val_main_v97 (F := Ideal) X0 X1 X2 X3 X4 X7 X8 (ix2 g n) = ((rv97 A g n : ℝ) : EReal) := by
  rw [val_main_v97_apply, ev14 h g n, ev96 h g n]
  exact (EReal.coe_mul _ _).symm

theorem ev98 (g : Fin 32) (n : Fin 64) : val_main_v98 (F := Ideal) X0 X1 X2 X3 X4 X7 X8 (ix2 g n) = ((rv98 A g n : ℝ) : EReal) := by
  rw [val_main_v98_apply, ev86 h g n, ev97 h g n]
  exact (EReal.coe_add _ _).symm

theorem ev99 (g : Fin 32) (n : Fin 64) : val_main_v99 (F := Ideal) X0 X1 X3 X4 X7 X8 (ix2 g n) = ((rv99 A g n : ℝ) : EReal) := by
  rw [val_main_v99_apply, ev96 h g n, h.h1 g n]
  exact (EReal.coe_mul _ _).symm

theorem ev100 (g : Fin 32) (n : Fin 64) : val_main_v100 (F := Ideal) X0 X1 X3 X4 X6 X7 X8 (ix2 g n) = ((rv100 A g n : ℝ) : EReal) := by
  rw [val_main_v100_apply, ev91 h g n, ev99 h g n]
  exact (EReal.coe_add _ _).symm

theorem ev101 (g : Fin 32) (n : Fin 64) : val_main_v101 (F := Ideal) X0 X1 X2 X3 X4 X7 X8 (ix2 g n) = ((rv101 A g n : ℝ) : EReal) := by
  rw [val_main_v101_apply, ev19 h g n, ev96 h g n]
  exact (EReal.coe_mul _ _).symm

theorem ev102 (g : Fin 32) (n : Fin 64) : val_main_v102 (F := Ideal) X0 X1 X2 X3 X4 X7 X8 (ix2 g n) = ((rv102 A g n : ℝ) : EReal) := by
  rw [val_main_v102_apply, ev89 h g n, ev101 h g n]
  exact (EReal.coe_add _ _).symm

theorem ev103 (g : Fin 32) (n : Fin 64) : val_main_v103 (F := Ideal) X0 X1 X3 X4 X7 X8 (ix2 g n) = ((rv103 A g n : ℝ) : EReal) := by
  rw [val_main_v103_apply, ev96 h g n, h.h0 g n]
  exact (EReal.coe_mul _ _).symm

theorem ev104 (g : Fin 32) (n : Fin 64) : val_main_v104 (F := Ideal) X0 X1 X3 X4 X5 X7 X8 (ix2 g n) = ((rv104 A g n : ℝ) : EReal) := by
  rw [val_main_v104_apply, ev88 h g n, ev103 h g n]
  exact (EReal.coe_add _ _).symm

theorem ev105 (g : Fin 32) (n : Fin 64) : val_main_v105 (F := Ideal) X0 X1 X2 X3 X4 X7 X8 (ix2 g n) = ((rv105 A g n : ℝ) : EReal) := by
  rw [val_main_v105_apply, h.h1 g n, ev95 h g n]
  exact (EReal.coe_mul _ _).symm

theorem ev106 (g : Fin 32) (n : Fin 64) : val_main_v106 (F := Ideal) X0 X1 X2 X3 X4 X7 X8 (ix2 g n) = ((rv106 A g n : ℝ) : EReal) := by
  rw [val_main_v106_apply, ev98 h g n, ev105 h g n]
  exact (EReal.coe_add _ _).symm

theorem ev107 (g : Fin 32) (n : Fin 64) : val_main_v107 (F := Ideal) X0 X1 X2 X3 X4 X7 X8 (ix2 g n) = ((rv107 A g n : ℝ) : EReal) := by
  rw [val_main_v107_apply, ev95 h g n, h.h1 g n]
  exact (EReal.coe_mul _ _).symm

theorem ev108 (g : Fin 32) (n : Fin 64) : val_main_v108 (F := Ideal) X0 X1 X2 X3 X4 X7 X8 (ix2 g n) = ((rv108 A g n : ℝ) : EReal) := by
  rw [val_main_v108_apply, ev106 h g n, ev107 h g n]
  exact (EReal.coe_add _ _).symm

theorem ev109 (g : Fin 32) (n : Fin 64) : val_main_v109 (F := Ideal) X0 X1 X2 X3 X4 X7 X8 (ix2 g n) = ((rv109 A g n : ℝ) : EReal) := by
  rw [val_main_v109_apply, h.h0 g n, ev95 h g n]
  exact (EReal.coe_mul _ _).symm

theorem ev110 (g : Fin 32) (n : Fin 64) : val_main_v110 (F := Ideal) X0 X1 X2 X3 X4 X7 X8 (ix2 g n) = ((rv110 A g n : ℝ) : EReal) := by
  rw [val_main_v110_apply, ev102 h g n, ev109 h g n]
  exact (EReal.coe_add _ _).symm

theorem ev111 (g : Fin 32) (n : Fin 64) : val_main_v111 (F := Ideal) X0 X1 X2 X3 X4 X7 X8 (ix2 g n) = ((rv111 A g n : ℝ) : EReal) := by
  rw [val_main_v111_apply, ev95 h g n, h.h0 g n]
  exact (EReal.coe_mul _ _).symm

theorem ev112 (g : Fin 32) (n : Fin 64) : val_main_v112 (F := Ideal) X0 X1 X2 X3 X4 X7 X8 (ix2 g n) = ((rv112 A g n : ℝ) : EReal) := by
  rw [val_main_v112_apply, ev110 h g n, ev111 h g n]
  exact (EReal.coe_add _ _).symm

theorem ev113 (g : Fin 32) (n : Fin 64) : val_main_v113 (F := Ideal) X0 X1 X2 X3 X4 X6 X7 X8 (ix2 g n) = ((rv113 A g n : ℝ) : EReal) := by
  rw [val_main_v113_apply, ev4 h g n, ev100 h g n]
  exact (EReal.coe_mul _ _).symm

theorem ev114 (g : Fin 32) (n : Fin 64) : val_main_v114 (F := Ideal) X0 X1 X2 X3 X4 X6 X7 X8 (ix2 g n) = ((rv114 A g n : ℝ) : EReal) := by
  rw [val_main_v114_apply, ev100 h g n, ev12 h g n]
  exact (EReal.coe_mul _ _).symm

theorem ev115 (g : Fin 32) (n : Fin 64) : val_main_v115 (F := Ideal) X0 X1 X2 X3 X4 X6 X7 X8 (ix2 g n) = ((rv115 A g n : ℝ) : EReal) := by
  rw [val_main_v115_apply, ev113 h g n, ev13 h g n]
  exact (EReal.coe_mul _ _).symm

theorem ev116 (g : Fin 32) (n : Fin 64) : val_main_v116 (F := Ideal) X0 X1 X2 X3 X4 X6 X7 X8 (ix2 g n) = ((rv116 A g n : ℝ) : EReal) := by
  rw [val_main_v116_apply, h.h1 g n, ev115 h g n]
  exact (EReal.coe_mul _ _).symm

omit h in
theorem ecst_11 (A : Args) (i) : val_main_cst_11 (F := Ideal) i = ((rcst_11 A : ℝ) : EReal) := word_0

theorem ev117 (g : Fin 32) : val_main_v117 (F := Ideal) X0 X1 X2 X3 X4 X6 X7 X8 (ix1 g) = ((rv117 A g : ℝ) : EReal) := by
  unfold rv117
  rw [val_main_v117_apply, EReal.coe_add, ← coe_sum]
  refine congrArg₂ (· + ·) word_0 (Finset.sum_congr rfl fun n _ => ?_)
  have e : idx_main_v117 (ix1 g) n = ix2 g n := by
    funext x; fin_cases x <;> rfl
  exact (congrArg (val_main_v116 (F := Ideal) X0 X1 X2 X3 X4 X6 X7 X8) e).trans (ev116 h g n)

theorem ev118 (g : Fin 32) : val_main_v118 (F := Ideal) X0 X1 X2 X3 X4 X6 X7 X8 (ix2 g 0) = ((rv118 A g : ℝ) : EReal) := by
  rw [val_main_v118_apply]
  have e : idx_main_v118 (ix2 g 0) = ix1 g := by
    funext x; fin_cases x; first | rfl | (apply Fin.ext; show g.val * 1 + 0 = g.val; omega)
  exact (congrArg (val_main_v117 (F := Ideal) X0 X1 X2 X3 X4 X6 X7 X8) e).trans (ev117 h g)

theorem ev119 (g : Fin 32) (n : Fin 64) : val_main_v119 (F := Ideal) X2 (ix2 g n) = ((rv119 A g n : ℝ) : EReal) := by
  rw [val_main_v119_apply]
  have e : idx_main_v119 (ix2 g n) = ix2 g 0 := by
    funext x; fin_cases x <;> rfl
  exact (congrArg (val_main_v1 (F := Ideal) X2) e).trans (ev1 h g)

theorem ev120 (g : Fin 32) (n : Fin 64) : val_main_v120 (F := Ideal) X0 X1 X2 X3 X4 X6 X7 X8 (ix2 g n) = ((rv120 A g n : ℝ) : EReal) := by
  rw [val_main_v120_apply, ev115 h g n, ev119 h g n]
  exact (EReal.coe_mul _ _).symm

theorem ev121 (g : Fin 32) (n : Fin 64) : val_main_v121 (F := Ideal) X0 X1 X2 X3 X4 X6 X7 X8 (ix2 g n) = ((rv121 A g n : ℝ) : EReal) := by
  rw [val_main_v121_apply, ev108 h g n, ev120 h g n]
  exact (EReal.coe_add _ _).symm

theorem ev122 (g : Fin 32) (n : Fin 64) : val_main_v122 (F := Ideal) X0 X1 X2 X3 X4 X5 X7 X8 (ix2 g n) = ((rv122 A g n : ℝ) : EReal) := by
  rw [val_main_v122_apply, ev4 h g n, ev104 h g n]
  exact (EReal.coe_mul _ _).symm

theorem ev123 (g : Fin 32) (n : Fin 64) : val_main_v123 (F := Ideal) X0 X1 X2 X3 X4 X5 X7 X8 (ix2 g n) = ((rv123 A g n : ℝ) : EReal) := by
  rw [val_main_v123_apply, ev104 h g n, ev7 h g n]
  exact (EReal.coe_mul _ _).symm

theorem ev124 (g : Fin 32) (n : Fin 64) : val_main_v124 (F := Ideal) X0 X1 X2 X3 X4 X5 X6 X7 X8 (ix2 g n) = ((rv124 A g n : ℝ) : EReal) := by
  rw [val_main_v124_apply, ev114 h g n, ev123 h g n]
  exact (EReal.coe_add _ _).symm

theorem ev125 (g : Fin 32) (n : Fin 64) : val_main_v125 (F := Ideal) X0 X1 X2 X3 X4 X5 X7 X8 (ix2 g n) = ((rv125 A g n : ℝ) : EReal) := by
  rw [val_main_v125_apply, ev122 h g n]
  exact (EReal.coe_neg _).symm

theorem ev126 (g : Fin 32) (n : Fin 64) : val_main_v126 (F := Ideal) X0 X1 X2 X3 X4 X5 X7 X8 (ix2 g n) = ((rv126 A g n : ℝ) : EReal) := by
  rw [val_main_v126_apply, ev125 h g n, ev8 h g n]
  exact (EReal.coe_mul _ _).symm

theorem ev127 (g : Fin 32) (n : Fin 64) : val_main_v127 (F := Ideal) X0 X1 X2 X3 X4 X5 X7 X8 (ix2 g n) = ((rv127 A g n : ℝ) : EReal) := by
  rw [val_main_v127_apply, h.h1 g n, ev126 h g n]
  exact (EReal.coe_mul _ _).symm

omit h in
theorem ecst_12 (A : Args) (i) : val_main_cst_12 (F := Ideal) i = ((rcst_12 A : ℝ) : EReal) := word_0

theorem ev128 (g : Fin 32) : val_main_v128 (F := Ideal) X0 X1 X2 X3 X4 X5 X7 X8 (ix1 g) = ((rv128 A g : ℝ) : EReal) := by
  unfold rv128
  rw [val_main_v128_apply, EReal.coe_add, ← coe_sum]
  refine congrArg₂ (· + ·) word_0 (Finset.sum_congr rfl fun n _ => ?_)
  have e : idx_main_v128 (ix1 g) n = ix2 g n := by
    funext x; fin_cases x <;> rfl
  exact (congrArg (val_main_v127 (F := Ideal) X0 X1 X2 X3 X4 X5 X7 X8) e).trans (ev127 h g n)

theorem ev129 (g : Fin 32) : val_main_v129 (F := Ideal) X0 X1 X2 X3 X4 X5 X7 X8 (ix2 g 0) = ((rv129 A g : ℝ) : EReal) := by
  rw [val_main_v129_apply]
  have e : idx_main_v129 (ix2 g 0) = ix1 g := by
    funext x; fin_cases x; first | rfl | (apply Fin.ext; show g.val * 1 + 0 = g.val; omega)
  exact (congrArg (val_main_v128 (F := Ideal) X0 X1 X2 X3 X4 X5 X7 X8) e).trans (ev128 h g)

theorem ev130 (g : Fin 32) : val_main_v130 (F := Ideal) X0 X1 X2 X3 X4 X5 X6 X7 X8 (ix2 g 0) = ((rv130 A g : ℝ) : EReal) := by
  rw [val_main_v130_apply, ev118 h g, ev129 h g]
  exact (EReal.coe_add _ _).symm

theorem ev131 (g : Fin 32) (n : Fin 64) : val_main_v131 (F := Ideal) X2 (ix2 g n) = ((rv131 A g n : ℝ) : EReal) := by
  rw [val_main_v131_apply]
  have e : idx_main_v131 (ix2 g n) = ix2 g 0 := by
    funext x; fin_cases x <;> rfl
  exact (congrArg (val_main_v1 (F := Ideal) X2) e).trans (ev1 h g)

theorem ev132 (g : Fin 32) (n : Fin 64) : val_main_v132 (F := Ideal) X0 X1 X2 X3 X4 X5 X7 X8 (ix2 g n) = ((rv132 A g n : ℝ) : EReal) := by
  rw [val_main_v132_apply, ev126 h g n, ev131 h g n]
  exact (EReal.coe_mul _ _).symm

theorem ev133 (g : Fin 32) (n : Fin 64) : val_main_v133 (F := Ideal) X0 X1 X2 X3 X4 X5 X6 X7 X8 (ix2 g n) = ((rv133 A g n : ℝ) : EReal) := by
  rw [val_main_v133_apply, ev121 h g n, ev132 h g n]
  exact (EReal.coe_add _ _).symm

theorem ev134 (g : Fin 32) (n : Fin 64) : val_main_v134 (F := Ideal) X0 X1 X2 X3 X4 X5 X6 X7 X8 (ix2 g n) = ((rv134 A g n : ℝ) : EReal) := by
  rw [val_main_v134_apply, ev124 h g n, ev4 h g n]
  exact (EReal.coe_mul _ _).symm

theorem ev135 (g : Fin 32) (n : Fin 64) : val_main_v135 (F := Ideal) X0 X1 X2 X3 X4 X5 X6 X7 X8 (ix2 g n) = ((rv135 A g n : ℝ) : EReal) := by
  rw [val_main_v135_apply, h.h0 g n, ev134 h g n]
  exact (EReal.coe_mul _ _).symm

omit h in
theorem ecst_13 (A : Args) (i) : val_main_cst_13 (F := Ideal) i = ((rcst_13 A : ℝ) : EReal) := word_0

theorem ev136 (g : Fin 32) : val_main_v136 (F := Ideal) X0 X1 X2 X3 X4 X5 X6 X7 X8 (ix1 g) = ((rv136 A g : ℝ) : EReal) := by
  unfold rv136
  rw [val_main_v136_apply, EReal.coe_add, ← coe_sum]
  refine congrArg₂ (· + ·) word_0 (Finset.sum_congr rfl fun n _ => ?_)
  have e : idx_main_v136 (ix1 g) n = ix2 g n := by
    funext x; fin_cases x <;> rfl
  exact (congrArg (val_main_v135 (F := Ideal) X0 X1 X2 X3 X4 X5 X6 X7 X8) e).trans (ev135 h g n)

theorem ev137 (g : Fin 32) : val_main_v137 (F := Ideal) X0 X1 X2 X3 X4 X5 X6 X7 X8 (ix2 g 0) = ((rv137 A g : ℝ) : EReal) := by
  rw [val_main_v137_apply]
  have e : idx_main_v137 (ix2 g 0) = ix1 g := by
    funext x; fin_cases x; first | rfl | (apply Fin.ext; show g.val * 1 + 0 = g.val; omega)
  exact (congrArg (val_main_v136 (F := Ideal) X0 X1 X2 X3 X4 X5 X6 X7 X8) e).trans (ev136 h g)

theorem ev138 (g : Fin 32) : val_main_v138 (F := Ideal) X0 X1 X2 X3 X4 X5 X6 X7 X8 (ix2 g 0) = ((rv138 A g : ℝ) : EReal) := by
  rw [val_main_v138_apply, ev130 h g, ev137 h g]
  exact (EReal.coe_add _ _).symm

theorem ev139 (g : Fin 32) (n : Fin 64) : val_main_v139 (F := Ideal) X2 (ix2 g n) = ((rv139 A g n : ℝ) : EReal) := by
  rw [val_main_v139_apply]
  have e : idx_main_v139 (ix2 g n) = ix2 g 0 := by
    funext x; fin_cases x <;> rfl
  exact (congrArg (val_main_v1 (F := Ideal) X2) e).trans (ev1 h g)

theorem ev140 (g : Fin 32) (n : Fin 64) : val_main_v140 (F := Ideal) X0 X1 X2 X3 X4 X5 X6 X7 X8 (ix2 g n) = ((rv140 A g n : ℝ) : EReal) := by
  rw [val_main_v140_apply, ev134 h g n, ev139 h g n]
  exact (EReal.coe_mul _ _).symm

theorem ev141 (g : Fin 32) (n : Fin 64) : val_main_v141 (F := Ideal) X0 X1 X2 X3 X4 X5 X6 X7 X8 (ix2 g n) = ((rv141 A g n : ℝ) : EReal) := by
  rw [val_main_v141_apply, ev112 h g n, ev140 h g n]
  exact (EReal.coe_add _ _).symm

omit h in
theorem ecst_14 (A : Args) (i) : val_main_cst_14 (F := Ideal) i = ((rcst_14 A : ℝ) : EReal) := word_0

theorem ev142 (g : Fin 32) : val_main_v142 (F := Ideal) X0 X1 X2 X3 X4 X5 X6 X7 X8 (ix1 g) = ((rv142 A g : ℝ) : EReal) := by
  unfold rv142
  rw [val_main_v142_apply, EReal.coe_add, ← coe_sum]
  refine congrArg₂ (· + ·) word_0 (Finset.sum_congr rfl fun n _ => ?_)
  have e : idx_main_v142 (ix1 g) n = ix2 g 0 := by
    funext x; fin_cases x <;> first | rfl | exact Subsingleton.elim (α := Fin 1) _ _
  exact (congrArg (val_main_v138 (F := Ideal) X0 X1 X2 X3 X4 X5 X6 X7 X8) e).trans (ev138 h g)

theorem ev143 (g : Fin 32) : val_main_v143 (F := Ideal) X0 X1 X2 X3 X4 X5 X6 X7 X8 (ix1 g) = ((rv143 A g : ℝ) : EReal) := by
  rw [val_main_v143_apply, ev142 h g, ev0 h g]
  exact (EReal.coe_mul _ _).symm

omit h

/-- The gradient that arrives at the real part of the hold's factor, and that at its imaginary part. -/
def z1 (A : Args) (g : Fin 32) (n : Fin 64) : ℝ := ∑ c, (A.s g c n * A.p g n c + A.t g c n * A.r g n c)
def z2 (A : Args) (g : Fin 32) (n : Fin 64) : ℝ := ∑ c, (A.t g c n * A.p g n c - A.s g c n * A.r g n c)

theorem v80_eq (A : Args) (g : Fin 32) (n : Fin 64) : rv80 A g n = z1 A g n := by
  simp only [rv80, rv72, rv63, rv79, rv57, rv71, rv62, rv61, rv60, rv51, rv78, rv77, rv76, rv50, rv56, rv55, rv54, rv70, rv69, rv68, rv64, z1, Fin.sum_univ_one, zero_add, Finset.sum_add_distrib]
  ring

theorem v72_eq (A : Args) (g : Fin 32) (n : Fin 64) : rv72 A g n = z2 A g n := by
  simp only [rv80, rv72, rv63, rv79, rv57, rv71, rv62, rv61, rv60, rv51, rv78, rv77, rv76, rv50, rv56, rv55, rv54, rv70, rv69, rv68, rv64, z2, Fin.sum_univ_one, zero_add, Finset.sum_sub_distrib, neg_mul, Finset.sum_neg_distrib]
  ring

theorem v141_eq (A : Args) (g : Fin 32) (n : Fin 64) :
    rv141 A g n = da (A.a g n) (A.b g n) (A.l g) (rv17 A g n) (A.u g n) (A.v g n) (z1 A g n) (z2 A g n) := by
  simp only [rv143, rv142, rcst_14, rv141, rv140, rv139, rv138, rv137, rv136, rcst_13, rv135, rv134, rv133, rv132, rv131, rv130, rv129, rv128, rcst_12, rv127, rv126, rv125, rv124, rv123, rv122, rv121, rv120, rv119, rv118, rv117, rcst_11, rv116, rv115, rv114, rv113, rv112, rv111, rv110, rv109, rv108, rv107, rv106, rv105, rv104, rv103, rv102, rv101, rv100, rv99, rv98, rv97, rv96, rv95, rv94, rv93, rv92, rv91, rv90, rv89, rv88, rv87, rv86, rv85, rv84, rv83, rv82, rv81, rcst_10, rv78, rv77, rcst_9, rv76, rv75, rv74, rv73, rcst_8, rv70, rv69, rcst_7, rv68, rv67, rv66, rv65, rv64, rcst_6, rv62, rv61, rcst_5, rv60, rv59, rv58, rcst_4, rv56, rv55, rcst_3, rv54, rv53, rv52, rv51, rv50, rv46, rv43, rv39, rv36, rv35, rv34, rcst_2, rv33, rv32, rv31, rv30, rv29, rv28, rcst_1, rv27, rv26, rv25, rcst_0, rv24, rv23, rv22, rv21, rv20, rv19, rv18, rcst, rv16, rv15, rv14, rv13, rv12, rv11, rv10, rv9, rv8, rv7, rv6, rv5, rv4, rv3, rv2, rv1, rv0, v80_eq, v72_eq, da, along, dd, dpr, dpi, n1, n2, pr, Cert.PrepMath.pi, er]
  ring

theorem v133_eq (A : Args) (g : Fin 32) (n : Fin 64) :
    rv133 A g n = db (A.a g n) (A.b g n) (A.l g) (rv17 A g n) (A.u g n) (A.v g n) (z1 A g n) (z2 A g n) := by
  simp only [rv143, rv142, rcst_14, rv141, rv140, rv139, rv138, rv137, rv136, rcst_13, rv135, rv134, rv133, rv132, rv131, rv130, rv129, rv128, rcst_12, rv127, rv126, rv125, rv124, rv123, rv122, rv121, rv120, rv119, rv118, rv117, rcst_11, rv116, rv115, rv114, rv113, rv112, rv111, rv110, rv109, rv108, rv107, rv106, rv105, rv104, rv103, rv102, rv101, rv100, rv99, rv98, rv97, rv96, rv95, rv94, rv93, rv92, rv91, rv90, rv89, rv88, rv87, rv86, rv85, rv84, rv83, rv82, rv81, rcst_10, rv78, rv77, rcst_9, rv76, rv75, rv74, rv73, rcst_8, rv70, rv69, rcst_7, rv68, rv67, rv66, rv65, rv64, rcst_6, rv62, rv61, rcst_5, rv60, rv59, rv58, rcst_4, rv56, rv55, rcst_3, rv54, rv53, rv52, rv51, rv50, rv46, rv43, rv39, rv36, rv35, rv34, rcst_2, rv33, rv32, rv31, rv30, rv29, rv28, rcst_1, rv27, rv26, rv25, rcst_0, rv24, rv23, rv22, rv21, rv20, rv19, rv18, rcst, rv16, rv15, rv14, rv13, rv12, rv11, rv10, rv9, rv8, rv7, rv6, rv5, rv4, rv3, rv2, rv1, rv0, v80_eq, v72_eq, db, across, dd, dpr, dpi, n1, n2, pr, Cert.PrepMath.pi, er]
  ring

theorem v143_eq (A : Args) (g : Fin 32) :
    rv143 A g = ∑ n, dt (A.a g n) (A.b g n) (A.l g) (rv17 A g n) (A.u g n) (A.v g n) (z1 A g n) (z2 A g n) * Real.exp (A.l g) := by
  rw [← Finset.sum_mul]
  have e : ∀ n, dt (A.a g n) (A.b g n) (A.l g) (rv17 A g n) (A.u g n) (A.v g n) (z1 A g n) (z2 A g n) = (rv116 A g n + rv127 A g n) + rv135 A g n := fun n => by
    simp only [rv143, rv142, rcst_14, rv141, rv140, rv139, rv138, rv137, rv136, rcst_13, rv135, rv134, rv133, rv132, rv131, rv130, rv129, rv128, rcst_12, rv127, rv126, rv125, rv124, rv123, rv122, rv121, rv120, rv119, rv118, rv117, rcst_11, rv116, rv115, rv114, rv113, rv112, rv111, rv110, rv109, rv108, rv107, rv106, rv105, rv104, rv103, rv102, rv101, rv100, rv99, rv98, rv97, rv96, rv95, rv94, rv93, rv92, rv91, rv90, rv89, rv88, rv87, rv86, rv85, rv84, rv83, rv82, rv81, rcst_10, rv78, rv77, rcst_9, rv76, rv75, rv74, rv73, rcst_8, rv70, rv69, rcst_7, rv68, rv67, rv66, rv65, rv64, rcst_6, rv62, rv61, rcst_5, rv60, rv59, rv58, rcst_4, rv56, rv55, rcst_3, rv54, rv53, rv52, rv51, rv50, rv46, rv43, rv39, rv36, rv35, rv34, rcst_2, rv33, rv32, rv31, rv30, rv29, rv28, rcst_1, rv27, rv26, rv25, rcst_0, rv24, rv23, rv22, rv21, rv20, rv19, rv18, rcst, rv16, rv15, rv14, rv13, rv12, rv11, rv10, rv9, rv8, rv7, rv6, rv5, rv4, rv3, rv2, rv1, rv0, v80_eq, v72_eq, dt, along, across, dd, dpr, dpi, n1, n2, pr, Cert.PrepMath.pi, er]
    ring
  simp only [e, Finset.sum_add_distrib]
  simp only [rv143, rv142, rv138, rv130, rv118, rv117, rv129, rv128, rv137, rv136, rv0, Fin.sum_univ_one, zero_add]

theorem v75_eq (A : Args) (g : Fin 32) (n : Fin 64) (c : Fin 16) :
    rv75 A g n c = A.s g c n * (n1 (A.a g n) (A.b g n) (A.l g) / rv17 A g n) + A.t g c n * (n2 (A.a g n) (A.b g n) (A.l g) / rv17 A g n) := by
  simp only [rv143, rv142, rcst_14, rv141, rv140, rv139, rv138, rv137, rv136, rcst_13, rv135, rv134, rv133, rv132, rv131, rv130, rv129, rv128, rcst_12, rv127, rv126, rv125, rv124, rv123, rv122, rv121, rv120, rv119, rv118, rv117, rcst_11, rv116, rv115, rv114, rv113, rv112, rv111, rv110, rv109, rv108, rv107, rv106, rv105, rv104, rv103, rv102, rv101, rv100, rv99, rv98, rv97, rv96, rv95, rv94, rv93, rv92, rv91, rv90, rv89, rv88, rv87, rv86, rv85, rv84, rv83, rv82, rv81, rcst_10, rv78, rv77, rcst_9, rv76, rv75, rv74, rv73, rcst_8, rv70, rv69, rcst_7, rv68, rv67, rv66, rv65, rv64, rcst_6, rv62, rv61, rcst_5, rv60, rv59, rv58, rcst_4, rv56, rv55, rcst_3, rv54, rv53, rv52, rv51, rv50, rv46, rv43, rv39, rv36, rv35, rv34, rcst_2, rv33, rv32, rv31, rv30, rv29, rv28, rcst_1, rv27, rv26, rv25, rcst_0, rv24, rv23, rv22, rv21, rv20, rv19, rv18, rcst, rv16, rv15, rv14, rv13, rv12, rv11, rv10, rv9, rv8, rv7, rv6, rv5, rv4, rv3, rv2, rv1, rv0, n1, n2, pr, Cert.PrepMath.pi, er]
  ring

theorem v67_eq (A : Args) (g : Fin 32) (n : Fin 64) (c : Fin 16) :
    rv67 A g n c = A.t g c n * (n1 (A.a g n) (A.b g n) (A.l g) / rv17 A g n) - A.s g c n * (n2 (A.a g n) (A.b g n) (A.l g) / rv17 A g n) := by
  simp only [rv143, rv142, rcst_14, rv141, rv140, rv139, rv138, rv137, rv136, rcst_13, rv135, rv134, rv133, rv132, rv131, rv130, rv129, rv128, rcst_12, rv127, rv126, rv125, rv124, rv123, rv122, rv121, rv120, rv119, rv118, rv117, rcst_11, rv116, rv115, rv114, rv113, rv112, rv111, rv110, rv109, rv108, rv107, rv106, rv105, rv104, rv103, rv102, rv101, rv100, rv99, rv98, rv97, rv96, rv95, rv94, rv93, rv92, rv91, rv90, rv89, rv88, rv87, rv86, rv85, rv84, rv83, rv82, rv81, rcst_10, rv78, rv77, rcst_9, rv76, rv75, rv74, rv73, rcst_8, rv70, rv69, rcst_7, rv68, rv67, rv66, rv65, rv64, rcst_6, rv62, rv61, rcst_5, rv60, rv59, rv58, rcst_4, rv56, rv55, rcst_3, rv54, rv53, rv52, rv51, rv50, rv46, rv43, rv39, rv36, rv35, rv34, rcst_2, rv33, rv32, rv31, rv30, rv29, rv28, rcst_1, rv27, rv26, rv25, rcst_0, rv24, rv23, rv22, rv21, rv20, rv19, rv18, rcst, rv16, rv15, rv14, rv13, rv12, rv11, rv10, rv9, rv8, rv7, rv6, rv5, rv4, rv3, rv2, rv1, rv0, n1, n2, pr, Cert.PrepMath.pi, er]
  ring

end Cert.PrepRefIdeal.Rows

end
-- ==== Proof.PrepValue.lean ====
/- The results of the kernel of the gradient of the discretisation, the host operations around the call included. -/
module

public import proofs.«01_k».proof.Proof.PrepKernel
public import proofs.«01_k».proof.Proof.PrepRef
public import Idealize.ShloMosaic.Lib.Routing.OpsPair
public import Idealize.ShloMosaic.Lib.Routing.OpsSet
public import Idealize.ShloMosaic.Lib.Pipeline.Value

@[expose] public section

set_option maxRecDepth 16384

noncomputable section

namespace Cert.PrepIdeal.Rows

open Cert.PrepIdeal Cert.PrepIdeal.Gen Cert.RowLib Cert.PrepMath Idealize.ShloMosaic Idealize.ShloMosaic.TcCoe Idealize.SL.Sem
open Cert.PrepRefIdeal.Rows (Args Holds z1 z2 rv17)

/-! ## Rows: group `g` and channel `c` stand in row `16 g + c` -/

def line (g : Fin 32) (c : Fin 16) : Fin 512 := ⟨16 * g.val + c.val, by omega⟩

theorem flat {α : Type} (x : S32x16x64.Idx → α) (h : S32x16x64.ShapeCasts S512x64) (g : Fin 32) (c : Fin 16) (n : Fin 64) :
    shapeCast S512x64 x h (ix2 (line g c) n) = x (ix3 g c n) := by
  refine shapeCast_apply x h _ _ ?_
  rw [Shape.rowMajor_val_two, Shape.rowMajor_val_three]
  show (g.val * 16 + c.val) * 64 + n.val = (16 * g.val + c.val) * 64 + n.val
  ring

theorem unflat {α : Type} (x : S512x64.Idx → α) (h : S512x64.ShapeCasts S32x16x64) (g : Fin 32) (c : Fin 16) (n : Fin 64) :
    shapeCast S32x16x64 x h (ix3 g c n) = x (ix2 (line g c) n) := by
  refine shapeCast_apply x h _ _ ?_
  rw [Shape.rowMajor_val_two, Shape.rowMajor_val_three]
  show (16 * g.val + c.val) * 64 + n.val = (g.val * 16 + c.val) * 64 + n.val
  ring

/-! ## A write at channel 0 -/

abbrev sd : ScatterDims S32x16x64 S1 S32x64 := scatter_S32x16x64_S1_S32x64_01_1_1_0

theorem lands (idx : IVec S1 32) (hi : ∀ i, (idx i).toInt = 0) (g g' : Fin 32) (n n' : Fin 64) (c : Fin 16) :
    sd.resultIdx? (ix2 g' n') idx = some (ix3 g c n) ↔ g' = g ∧ c = 0 ∧ n' = n := by
  rw [Routing.resultIdx?_eq_some]
  have s0 : sd.start (ix2 g' n') idx 0 = 0 := rfl
  have s1 : sd.start (ix2 g' n') idx 1 = 0 := hi _
  have s2 : sd.start (ix2 g' n') idx 2 = 0 := rfl
  have w0 : sd.window (ix2 g' n') 0 = g'.val := rfl
  have w1 : sd.window (ix2 g' n') 1 = 0 := rfl
  have w2 : sd.window (ix2 g' n') 2 = n'.val := rfl
  constructor
  · intro h
    have h0 := h 0
    have h1 := h 1
    have h2 := h 2
    rw [s0, w0] at h0
    rw [s1, w1] at h1
    rw [s2, w2] at h2
    have e0 : (0 : Int) + (g'.val : Int) = (g.val : Int) := h0
    have e1 : (0 : Int) + ((0 : Nat) : Int) = (c.val : Int) := h1
    have e2 : (0 : Int) + (n'.val : Int) = (n.val : Int) := h2
    exact ⟨Fin.ext (by omega), Fin.ext (by show c.val = 0; omega), Fin.ext (by omega)⟩
  · rintro ⟨rfl, rfl, rfl⟩ a
    match a with
    | ⟨0, _⟩ => exact (congrArg₂ (· + ·) s0 (congrArg Nat.cast w0)).trans (zero_add _)
    | ⟨1, _⟩ => exact (congrArg₂ (· + ·) s1 (congrArg Nat.cast w1)).trans (zero_add _)
    | ⟨2, _⟩ => exact (congrArg₂ (· + ·) s2 (congrArg Nat.cast w2)).trans (zero_add _)

theorem written (x : S32x16x64.Idx → EReal) (idx : IVec S1 32) (hi : ∀ i, (idx i).toInt = 0) (u : S32x64.Idx → EReal) (g : Fin 32) (c : Fin 16) (n : Fin 64) :
    Host.scatter sd (fun _ b => b) x idx u (ix3 g c n) = if c = 0 then u (ix2 g n) else x (ix3 g c n) := by
  have back : ∀ j : S32x64.Idx, sd.resultIdx? j idx = some (ix3 g c n) → j = ix2 g n ∧ c = 0 := fun j hj => by
    have e := (lands idx hi g (j 0) n (j 1) c).1 ((congrArg (fun t => sd.resultIdx? t idx) (eq_ix2 j).symm).trans hj)
    exact ⟨(eq_ix2 j).trans (by rw [e.1, e.2.2]), e.2.1⟩
  by_cases h : c = 0
  · rw [if_pos h]
    exact Routing.scatter_set_hit sd x idx u _ _ (fun j hj => congrArg u (back j hj).1) (ix2 g n) ((lands idx hi g g n n c).2 ⟨rfl, h, rfl⟩)
  · rw [if_neg h]
    exact Routing.scatter_set_miss sd x idx u _ fun j hj => h (back j hj).2

/-! ## The arrays the call is given -/

variable (m : (ℓ : Loc nD τ sig) → Buf (Elt Ideal) ℓ) (c : Dev nD)

abbrev a0 : S32x64.Idx → EReal := m ((c : Thread nD τ).loc main_arg0)
abbrev a1 : S32x64.Idx → EReal := m ((c : Thread nD τ).loc main_arg1)
abbrev a2 : S32.Idx → EReal := m ((c : Thread nD τ).loc main_arg2)
abbrev a3 : S32x64x16.Idx → EReal := m ((c : Thread nD τ).loc main_arg3)
abbrev a4 : S32x64x16.Idx → EReal := m ((c : Thread nD τ).loc main_arg4)
abbrev a5 : S32x64.Idx → EReal := m ((c : Thread nD τ).loc main_arg5)
abbrev a6 : S32x64.Idx → EReal := m ((c : Thread nD τ).loc main_arg6)
abbrev a7 : S32x16x64.Idx → EReal := m ((c : Thread nD τ).loc main_arg7)
abbrev a8 : S32x16x64.Idx → EReal := m ((c : Thread nD τ).loc main_arg8)

/-- A value per group and state, the same for every channel. -/
def spread (x : S32x64.Idx → EReal) : S512x64.Idx → EReal :=
  shapeCast S512x64 (broadcastInDim S32x16x64 ![0, 1, 2] bcast_S32x1x64_S32x16x64_0_1_2 (broadcastInDim S32x1x64 ![0, 2] bcast_S32x64_S32x1x64_0_2 x)) shapeCasts_S32x16x64_S512x64

theorem spread_at (x : S32x64.Idx → EReal) (g : Fin 32) (k : Fin 16) (n : Fin 64) : spread x (ix2 (line g k) n) = x (ix2 g n) := by
  unfold spread
  rw [flat]
  pointwise

/-- A write at channel 0 of an array of zeros. -/
def first (x : S32x64.Idx → EReal) : S512x64.Idx → EReal :=
  shapeCast S512x64 (Host.scatter scatter_S32x16x64_S1_S32x64_01_1_1_0 (fun _ b => b) (broadcastInDim S32x16x64 ![] bcast_S_S32x16x64 (constant (F := Ideal) S_ .f32 0x00000000#32))
    (broadcastInDim S1 ![] bcast_S_S1 (constantI S_ 32 0#32)) x) shapeCasts_S32x16x64_S512x64

theorem first_at (x : S32x64.Idx → EReal) (g : Fin 32) (k : Fin 16) (n : Fin 64) : first x (ix2 (line g k) n) = if k = 0 then x (ix2 g n) else 0 := by
  unfold first
  rw [flat, written _ _ (fun i => rfl)]
  refine if_congr Iff.rfl rfl ?_
  exact word_0

theorem V_v13 : V m c main_v13 = spread (a0 m c) := by
  show StableHlo.after [hostOps0].flatten (fun b => m (c, b)) (Proc.devRef .tc main_v13) = _
  simp only [hostOps0, List.flatten_cons, List.flatten_nil, List.append_nil, List.cons_append, List.nil_append]
  after_results
  rfl

theorem V_v16 : V m c main_v16 = spread (a1 m c) := by
  show StableHlo.after [hostOps0].flatten (fun b => m (c, b)) (Proc.devRef .tc main_v16) = _
  simp only [hostOps0, List.flatten_cons, List.flatten_nil, List.append_nil, List.cons_append, List.nil_append]
  after_results
  rfl

theorem V_v19 : V m c main_v19 = spread (broadcastInDim S32x64 ![0, 1] bcast_S32x1_S32x64_0_1 (broadcastInDim S32x1 ![0] bcast_S32_S32x1_0 (a2 m c))) := by
  show StableHlo.after [hostOps0].flatten (fun b => m (c, b)) (Proc.devRef .tc main_v19) = _
  simp only [hostOps0, List.flatten_cons, List.flatten_nil, List.append_nil, List.cons_append, List.nil_append]
  after_results
  rfl

theorem V_v21 : V m c main_v21 = shapeCast S512x64 (transpose S32x16x64 [0, 2, 1] (a3 m c) transposes_S32x64x16_S32x16x64_0_2_1) shapeCasts_S32x16x64_S512x64 := by
  show StableHlo.after [hostOps0].flatten (fun b => m (c, b)) (Proc.devRef .tc main_v21) = _
  simp only [hostOps0, List.flatten_cons, List.flatten_nil, List.append_nil, List.cons_append, List.nil_append]
  after_results
  rfl

theorem V_v23 : V m c main_v23 = shapeCast S512x64 (transpose S32x16x64 [0, 2, 1] (a4 m c) transposes_S32x64x16_S32x16x64_0_2_1) shapeCasts_S32x16x64_S512x64 := by
  show StableHlo.after [hostOps0].flatten (fun b => m (c, b)) (Proc.devRef .tc main_v23) = _
  simp only [hostOps0, List.flatten_cons, List.flatten_nil, List.append_nil, List.cons_append, List.nil_append]
  after_results
  rfl

theorem V_v3 : V m c main_v3 = first (a5 m c) := by
  show StableHlo.after [hostOps0].flatten (fun b => m (c, b)) (Proc.devRef .tc main_v3) = _
  simp only [hostOps0, List.flatten_cons, List.flatten_nil, List.append_nil, List.cons_append, List.nil_append]
  after_results
  rfl

theorem V_v6 : V m c main_v6 = first (a6 m c) := by
  show StableHlo.after [hostOps0].flatten (fun b => m (c, b)) (Proc.devRef .tc main_v6) = _
  simp only [hostOps0, List.flatten_cons, List.flatten_nil, List.append_nil, List.cons_append, List.nil_append]
  after_results
  rfl

theorem V_v7 : V m c main_v7 = shapeCast S512x64 (a7 m c) shapeCasts_S32x16x64_S512x64 := by
  show StableHlo.after [hostOps0].flatten (fun b => m (c, b)) (Proc.devRef .tc main_v7) = _
  simp only [hostOps0, List.flatten_cons, List.flatten_nil, List.append_nil, List.cons_append, List.nil_append]
  after_results
  rfl

theorem V_v8 : V m c main_v8 = shapeCast S512x64 (a8 m c) shapeCasts_S32x16x64_S512x64 := by
  show StableHlo.after [hostOps0].flatten (fun b => m (c, b)) (Proc.devRef .tc main_v8) = _
  simp only [hostOps0, List.flatten_cons, List.flatten_nil, List.append_nil, List.cons_append, List.nil_append]
  after_results
  rfl

/-! ## A call without a grid reads and writes whole arrays -/

theorem iblk0_eq (t : Fin cfg0.N) : iblk m c 0 t = V m c main_v13 := by
  have h0 : (fun a => win0_0.index t a * main_v13.ty.shape.size a) = fun _ => 0 := funext fun a => Nat.zero_mul _
  exact Memref.read_access_unit_zero (Elt Ideal) main_v13 h0 (fun a => by rw [congrFun h0 a]; simp) (V m c main_v13)

theorem iblk1_eq (t : Fin cfg0.N) : iblk m c 1 t = V m c main_v16 := by
  have h0 : (fun a => win0_1.index t a * main_v16.ty.shape.size a) = fun _ => 0 := funext fun a => Nat.zero_mul _
  exact Memref.read_access_unit_zero (Elt Ideal) main_v16 h0 (fun a => by rw [congrFun h0 a]; simp) (V m c main_v16)

theorem iblk2_eq (t : Fin cfg0.N) : iblk m c 2 t = V m c main_v19 := by
  have h0 : (fun a => win0_2.index t a * main_v19.ty.shape.size a) = fun _ => 0 := funext fun a => Nat.zero_mul _
  exact Memref.read_access_unit_zero (Elt Ideal) main_v19 h0 (fun a => by rw [congrFun h0 a]; simp) (V m c main_v19)

theorem iblk3_eq (t : Fin cfg0.N) : iblk m c 3 t = V m c main_v21 := by
  have h0 : (fun a => win0_3.index t a * main_v21.ty.shape.size a) = fun _ => 0 := funext fun a => Nat.zero_mul _
  exact Memref.read_access_unit_zero (Elt Ideal) main_v21 h0 (fun a => by rw [congrFun h0 a]; simp) (V m c main_v21)

theorem iblk4_eq (t : Fin cfg0.N) : iblk m c 4 t = V m c main_v23 := by
  have h0 : (fun a => win0_4.index t a * main_v23.ty.shape.size a) = fun _ => 0 := funext fun a => Nat.zero_mul _
  exact Memref.read_access_unit_zero (Elt Ideal) main_v23 h0 (fun a => by rw [congrFun h0 a]; simp) (V m c main_v23)

theorem iblk5_eq (t : Fin cfg0.N) : iblk m c 5 t = V m c main_v3 := by
  have h0 : (fun a => win0_5.index t a * main_v3.ty.shape.size a) = fun _ => 0 := funext fun a => Nat.zero_mul _
  exact Memref.read_access_unit_zero (Elt Ideal) main_v3 h0 (fun a => by rw [congrFun h0 a]; simp) (V m c main_v3)

theorem iblk6_eq (t : Fin cfg0.N) : iblk m c 6 t = V m c main_v6 := by
  have h0 : (fun a => win0_6.index t a * main_v6.ty.shape.size a) = fun _ => 0 := funext fun a => Nat.zero_mul _
  exact Memref.read_access_unit_zero (Elt Ideal) main_v6 h0 (fun a => by rw [congrFun h0 a]; simp) (V m c main_v6)

theorem iblk7_eq (t : Fin cfg0.N) : iblk m c 7 t = V m c main_v7 := by
  have h0 : (fun a => win0_7.index t a * main_v7.ty.shape.size a) = fun _ => 0 := funext fun a => Nat.zero_mul _
  exact Memref.read_access_unit_zero (Elt Ideal) main_v7 h0 (fun a => by rw [congrFun h0 a]; simp) (V m c main_v7)

theorem iblk8_eq (t : Fin cfg0.N) : iblk m c 8 t = V m c main_v8 := by
  have h0 : (fun a => win0_8.index t a * main_v8.ty.shape.size a) = fun _ => 0 := funext fun a => Nat.zero_mul _
  exact Memref.read_access_unit_zero (Elt Ideal) main_v8 h0 (fun a => by rw [congrFun h0 a]; simp) (V m c main_v8)

abbrev t0 : Fin cfg0.N := ⟨0, by decide⟩

theorem final9 : (dats m 0 c).arrAt 9 cfg0.N = out0_9 (V m c main_v13) (V m c main_v16) (V m c main_v19) (V m c main_v21) (V m c main_v23) (V m c main_v3) (V m c main_v6) (V m c main_v7) (V m c main_v8) := by
  have e : (dats m 0 c).flushed 9 t0 = out0_9 (V m c main_v13) (V m c main_v16) (V m c main_v19) (V m c main_v21) (V m c main_v23) (V m c main_v3) (V m c main_v6) (V m c main_v7) (V m c main_v8) := by
    show (cfg0.win 9).cut (grid0.coords t0) ((dats m 0 c).after 9 t0) = _
    rw [after0_9, iblk0_eq, iblk1_eq, iblk2_eq, iblk3_eq, iblk4_eq, iblk5_eq, iblk6_eq, iblk7_eq, iblk8_eq]
    rfl
  have h0 : (fun a => win0_9.index t0 a * main_v24_0.ty.shape.size a) = fun _ => 0 := funext fun a => Nat.zero_mul _
  refine (dats m 0 c).arrAt_eq_of_cover 9 _ (fun t hf => ?_) fun i => ?_
  · obtain rfl : t = t0 := Fin.ext (Nat.lt_one_iff.1 t.isLt)
    rw [e]
    generalize out0_9 (V m c main_v13) (V m c main_v16) (V m c main_v19) (V m c main_v21) (V m c main_v23) (V m c main_v3) (V m c main_v6) (V m c main_v7) (V m c main_v8) = G
    exact (Memref.read_access_unit_zero (Elt Ideal) main_v24_0 h0 (fun a => by rw [congrFun h0 a]; simp) G).symm
  · refine ⟨t0, by decide, ?_⟩
    show i ∈ ((View.whole main_v24_0).slice (win0_9.rect t0)).set
    rw [View.set_slice_whole, Rect.mem_set_unit]
    intro a
    have h1 := congrFun h0 a
    have h2 := (i a).isLt
    refine ⟨?_, ?_⟩
    · exact h1.le.trans (Nat.zero_le _)
    · exact lt_of_lt_of_eq h2 ((zero_add _).symm.trans (congrArg (· + _) h1.symm))

theorem final10 : (dats m 0 c).arrAt 10 cfg0.N = out0_10 (V m c main_v13) (V m c main_v16) (V m c main_v19) (V m c main_v21) (V m c main_v23) (V m c main_v3) (V m c main_v6) (V m c main_v7) (V m c main_v8) := by
  have e : (dats m 0 c).flushed 10 t0 = out0_10 (V m c main_v13) (V m c main_v16) (V m c main_v19) (V m c main_v21) (V m c main_v23) (V m c main_v3) (V m c main_v6) (V m c main_v7) (V m c main_v8) := by
    show (cfg0.win 10).cut (grid0.coords t0) ((dats m 0 c).after 10 t0) = _
    rw [after0_10, iblk0_eq, iblk1_eq, iblk2_eq, iblk3_eq, iblk4_eq, iblk5_eq, iblk6_eq, iblk7_eq, iblk8_eq]
    rfl
  have h0 : (fun a => win0_10.index t0 a * main_v24_1.ty.shape.size a) = fun _ => 0 := funext fun a => Nat.zero_mul _
  refine (dats m 0 c).arrAt_eq_of_cover 10 _ (fun t hf => ?_) fun i => ?_
  · obtain rfl : t = t0 := Fin.ext (Nat.lt_one_iff.1 t.isLt)
    rw [e]
    generalize out0_10 (V m c main_v13) (V m c main_v16) (V m c main_v19) (V m c main_v21) (V m c main_v23) (V m c main_v3) (V m c main_v6) (V m c main_v7) (V m c main_v8) = G
    exact (Memref.read_access_unit_zero (Elt Ideal) main_v24_1 h0 (fun a => by rw [congrFun h0 a]; simp) G).symm
  · refine ⟨t0, by decide, ?_⟩
    show i ∈ ((View.whole main_v24_1).slice (win0_10.rect t0)).set
    rw [View.set_slice_whole, Rect.mem_set_unit]
    intro a
    have h1 := congrFun h0 a
    have h2 := (i a).isLt
    refine ⟨?_, ?_⟩
    · exact h1.le.trans (Nat.zero_le _)
    · exact lt_of_lt_of_eq h2 ((zero_add _).symm.trans (congrArg (· + _) h1.symm))

theorem final11 : (dats m 0 c).arrAt 11 cfg0.N = out0_11 (V m c main_v13) (V m c main_v16) (V m c main_v19) (V m c main_v21) (V m c main_v23) (V m c main_v3) (V m c main_v6) (V m c main_v7) (V m c main_v8) := by
  have e : (dats m 0 c).flushed 11 t0 = out0_11 (V m c main_v13) (V m c main_v16) (V m c main_v19) (V m c main_v21) (V m c main_v23) (V m c main_v3) (V m c main_v6) (V m c main_v7) (V m c main_v8) := by
    show (cfg0.win 11).cut (grid0.coords t0) ((dats m 0 c).after 11 t0) = _
    rw [after0_11, iblk0_eq, iblk1_eq, iblk2_eq, iblk3_eq, iblk4_eq, iblk5_eq, iblk6_eq, iblk7_eq, iblk8_eq]
    rfl
  have h0 : (fun a => win0_11.index t0 a * main_v24_2.ty.shape.size a) = fun _ => 0 := funext fun a => Nat.zero_mul _
  refine (dats m 0 c).arrAt_eq_of_cover 11 _ (fun t hf => ?_) fun i => ?_
  · obtain rfl : t = t0 := Fin.ext (Nat.lt_one_iff.1 t.isLt)
    rw [e]
    generalize out0_11 (V m c main_v13) (V m c main_v16) (V m c main_v19) (V m c main_v21) (V m c main_v23) (V m c main_v3) (V m c main_v6) (V m c main_v7) (V m c main_v8) = G
    exact (Memref.read_access_unit_zero (Elt Ideal) main_v24_2 h0 (fun a => by rw [congrFun h0 a]; simp) G).symm
  · refine ⟨t0, by decide, ?_⟩
    show i ∈ ((View.whole main_v24_2).slice (win0_11.rect t0)).set
    rw [View.set_slice_whole, Rect.mem_set_unit]
    intro a
    have h1 := congrFun h0 a
    have h2 := (i a).isLt
    refine ⟨?_, ?_⟩
    · exact h1.le.trans (Nat.zero_le _)
    · exact lt_of_lt_of_eq h2 ((zero_add _).symm.trans (congrArg (· + _) h1.symm))

theorem final12 : (dats m 0 c).arrAt 12 cfg0.N = out0_12 (V m c main_v13) (V m c main_v16) (V m c main_v19) (V m c main_v21) (V m c main_v23) (V m c main_v3) (V m c main_v6) (V m c main_v7) (V m c main_v8) := by
  have e : (dats m 0 c).flushed 12 t0 = out0_12 (V m c main_v13) (V m c main_v16) (V m c main_v19) (V m c main_v21) (V m c main_v23) (V m c main_v3) (V m c main_v6) (V m c main_v7) (V m c main_v8) := by
    show (cfg0.win 12).cut (grid0.coords t0) ((dats m 0 c).after 12 t0) = _
    rw [after0_12, iblk0_eq, iblk1_eq, iblk2_eq, iblk3_eq, iblk4_eq, iblk5_eq, iblk6_eq, iblk7_eq, iblk8_eq]
    rfl
  have h0 : (fun a => win0_12.index t0 a * main_v24_3.ty.shape.size a) = fun _ => 0 := funext fun a => Nat.zero_mul _
  refine (dats m 0 c).arrAt_eq_of_cover 12 _ (fun t hf => ?_) fun i => ?_
  · obtain rfl : t = t0 := Fin.ext (Nat.lt_one_iff.1 t.isLt)
    rw [e]
    generalize out0_12 (V m c main_v13) (V m c main_v16) (V m c main_v19) (V m c main_v21) (V m c main_v23) (V m c main_v3) (V m c main_v6) (V m c main_v7) (V m c main_v8) = G
    exact (Memref.read_access_unit_zero (Elt Ideal) main_v24_3 h0 (fun a => by rw [congrFun h0 a]; simp) G).symm
  · refine ⟨t0, by decide, ?_⟩
    show i ∈ ((View.whole main_v24_3).slice (win0_12.rect t0)).set
    rw [View.set_slice_whole, Rect.mem_set_unit]
    intro a
    have h1 := congrFun h0 a
    have h2 := (i a).isLt
    refine ⟨?_, ?_⟩
    · exact h1.le.trans (Nat.zero_le _)
    · exact lt_of_lt_of_eq h2 ((zero_add _).symm.trans (congrArg (· + _) h1.symm))

theorem final13 : (dats m 0 c).arrAt 13 cfg0.N = out0_13 (V m c main_v13) (V m c main_v16) (V m c main_v19) (V m c main_v21) (V m c main_v23) (V m c main_v3) (V m c main_v6) (V m c main_v7) (V m c main_v8) := by
  have e : (dats m 0 c).flushed 13 t0 = out0_13 (V m c main_v13) (V m c main_v16) (V m c main_v19) (V m c main_v21) (V m c main_v23) (V m c main_v3) (V m c main_v6) (V m c main_v7) (V m c main_v8) := by
    show (cfg0.win 13).cut (grid0.coords t0) ((dats m 0 c).after 13 t0) = _
    rw [after0_13, iblk0_eq, iblk1_eq, iblk2_eq, iblk3_eq, iblk4_eq, iblk5_eq, iblk6_eq, iblk7_eq, iblk8_eq]
    rfl
  have h0 : (fun a => win0_13.index t0 a * main_v24_4.ty.shape.size a) = fun _ => 0 := funext fun a => Nat.zero_mul _
  refine (dats m 0 c).arrAt_eq_of_cover 13 _ (fun t hf => ?_) fun i => ?_
  · obtain rfl : t = t0 := Fin.ext (Nat.lt_one_iff.1 t.isLt)
    rw [e]
    generalize out0_13 (V m c main_v13) (V m c main_v16) (V m c main_v19) (V m c main_v21) (V m c main_v23) (V m c main_v3) (V m c main_v6) (V m c main_v7) (V m c main_v8) = G
    exact (Memref.read_access_unit_zero (Elt Ideal) main_v24_4 h0 (fun a => by rw [congrFun h0 a]; simp) G).symm
  · refine ⟨t0, by decide, ?_⟩
    show i ∈ ((View.whole main_v24_4).slice (win0_13.rect t0)).set
    rw [View.set_slice_whole, Rect.mem_set_unit]
    intro a
    have h1 := congrFun h0 a
    have h2 := (i a).isLt
    refine ⟨?_, ?_⟩
    · exact h1.le.trans (Nat.zero_le _)
    · exact lt_of_lt_of_eq h2 ((zero_add _).symm.trans (congrArg (· + _) h1.symm))

end Cert.PrepIdeal.Rows

end
-- ==== Proof.PrepTail.lean ====
/- The result arrays of the gradient of the discretisation, at arguments that are real. -/
module

public import proofs.«01_k».proof.Proof.PrepValue

@[expose] public section

set_option maxRecDepth 16384

noncomputable section

namespace Cert.PrepIdeal.Rows

open Cert.PrepIdeal Cert.PrepIdeal.Gen Cert.RowLib Cert.PrepMath Idealize.ShloMosaic Idealize.ShloMosaic.TcCoe Idealize.SL.Sem
open Cert.PrepRefIdeal.Rows (Args Holds z1 z2 rv17)

variable (m : (ℓ : Loc nD τ sig) → Buf (Elt Ideal) ℓ) (c : Dev nD)

/-! ## The operations after the call -/

abbrev zero : S_.Idx → EReal := constant (F := Ideal) S_ .f32 0x00000000#32

theorem tail_v26 : Pipeline.afterTail₀ cfgs (dats m) 0 (V0 m) [hostOps1] c main_v26 = Host.reduceAdd (F := Ideal) (φ := .f32) (shapeCast S32x16x64 ((dats m 0 c).arrAt 9 cfg0.N) shapeCasts_S512x64_S32x16x64) zero reducesTo_S32x16x64_S32x64_d1 h_S_ := by
  unfold Pipeline.afterTail₀
  have e := Pipeline.withArrays_arr (cfgs 0).spec launch0.win.arr_inj c (V0 m c) (fun w => (dats m 0 c).arrAt w (cfgs 0).N) 9
  revert e
  generalize Pipeline.withArrays (cfgs 0).spec c (V0 m c) (fun w => (dats m 0 c).arrAt w (cfgs 0).N) = W
  intro e
  have e' : W (Proc.devRef .tc main_v24_0) = (dats m 0 c).arrAt 9 cfg0.N := e
  rw [← e']
  simp only [hostOps1, List.flatten_cons, List.flatten_nil, List.append_nil, List.cons_append, List.nil_append]
  after_results
  rfl

theorem tail_v28 : Pipeline.afterTail₀ cfgs (dats m) 0 (V0 m) [hostOps1] c main_v28 = Host.reduceAdd (F := Ideal) (φ := .f32) (shapeCast S32x16x64 ((dats m 0 c).arrAt 10 cfg0.N) shapeCasts_S512x64_S32x16x64) zero reducesTo_S32x16x64_S32x64_d1 h_S_ := by
  unfold Pipeline.afterTail₀
  have e := Pipeline.withArrays_arr (cfgs 0).spec launch0.win.arr_inj c (V0 m c) (fun w => (dats m 0 c).arrAt w (cfgs 0).N) 10
  revert e
  generalize Pipeline.withArrays (cfgs 0).spec c (V0 m c) (fun w => (dats m 0 c).arrAt w (cfgs 0).N) = W
  intro e
  have e' : W (Proc.devRef .tc main_v24_1) = (dats m 0 c).arrAt 10 cfg0.N := e
  rw [← e']
  simp only [hostOps1, List.flatten_cons, List.flatten_nil, List.append_nil, List.cons_append, List.nil_append]
  after_results
  rfl

theorem tail_v30 : Pipeline.afterTail₀ cfgs (dats m) 0 (V0 m) [hostOps1] c main_v30 = Host.reduceAdd (F := Ideal) (φ := .f32) (shapeCast S32x16x64 ((dats m 0 c).arrAt 11 cfg0.N) shapeCasts_S512x64_S32x16x64) zero reducesTo_S32x16x64_S32_d1_2 h_S_ := by
  unfold Pipeline.afterTail₀
  have e := Pipeline.withArrays_arr (cfgs 0).spec launch0.win.arr_inj c (V0 m c) (fun w => (dats m 0 c).arrAt w (cfgs 0).N) 11
  revert e
  generalize Pipeline.withArrays (cfgs 0).spec c (V0 m c) (fun w => (dats m 0 c).arrAt w (cfgs 0).N) = W
  intro e
  have e' : W (Proc.devRef .tc main_v24_2) = (dats m 0 c).arrAt 11 cfg0.N := e
  rw [← e']
  simp only [hostOps1, List.flatten_cons, List.flatten_nil, List.append_nil, List.cons_append, List.nil_append]
  after_results
  rfl

theorem tail_v32 : Pipeline.afterTail₀ cfgs (dats m) 0 (V0 m) [hostOps1] c main_v32 = transpose S32x64x16 [0, 2, 1] (shapeCast S32x16x64 ((dats m 0 c).arrAt 12 cfg0.N) shapeCasts_S512x64_S32x16x64) transposes_S32x16x64_S32x64x16_0_2_1 := by
  unfold Pipeline.afterTail₀
  have e := Pipeline.withArrays_arr (cfgs 0).spec launch0.win.arr_inj c (V0 m c) (fun w => (dats m 0 c).arrAt w (cfgs 0).N) 12
  revert e
  generalize Pipeline.withArrays (cfgs 0).spec c (V0 m c) (fun w => (dats m 0 c).arrAt w (cfgs 0).N) = W
  intro e
  have e' : W (Proc.devRef .tc main_v24_3) = (dats m 0 c).arrAt 12 cfg0.N := e
  rw [← e']
  simp only [hostOps1, List.flatten_cons, List.flatten_nil, List.append_nil, List.cons_append, List.nil_append]
  after_results
  rfl

theorem tail_v34 : Pipeline.afterTail₀ cfgs (dats m) 0 (V0 m) [hostOps1] c main_v34 = transpose S32x64x16 [0, 2, 1] (shapeCast S32x16x64 ((dats m 0 c).arrAt 13 cfg0.N) shapeCasts_S512x64_S32x16x64) transposes_S32x16x64_S32x64x16_0_2_1 := by
  unfold Pipeline.afterTail₀
  have e := Pipeline.withArrays_arr (cfgs 0).spec launch0.win.arr_inj c (V0 m c) (fun w => (dats m 0 c).arrAt w (cfgs 0).N) 13
  revert e
  generalize Pipeline.withArrays (cfgs 0).spec c (V0 m c) (fun w => (dats m 0 c).arrAt w (cfgs 0).N) = W
  intro e
  have e' : W (Proc.devRef .tc main_v24_4) = (dats m 0 c).arrAt 13 cfg0.N := e
  rw [← e']
  simp only [hostOps1, List.flatten_cons, List.flatten_nil, List.append_nil, List.cons_append, List.nil_append]
  after_results
  rfl

/-! ## Row by row -/

variable {A : Args} (h : Holds A (a0 m c) (a1 m c) (a2 m c) (a3 m c) (a4 m c) (a5 m c) (a6 m c) (a7 m c) (a8 m c))

/-- The cotangent of the pole, given at the first channel only. -/
def lead (x : ℝ) (k : Fin 16) : ℝ := if k = 0 then x else 0

theorem lead_sum (x : ℝ) : ∑ k, lead x k = x := by
  simp only [lead, Finset.sum_ite_eq', Finset.mem_univ, if_true]

theorem lead_coe (x : ℝ) (k : Fin 16) : (if k = 0 then (x : EReal) else 0) = ((lead x k : ℝ) : EReal) := by
  unfold lead
  split
  · rfl
  · exact EReal.coe_zero.symm

theorem sum_mid (x : S512x64.Idx → EReal) (f : Fin 16 → ℝ) (g : Fin 32) (n : Fin 64) (hx : ∀ k, x (ix2 (line g k) n) = ((f k : ℝ) : EReal)) :
    Host.reduceAdd (F := Ideal) (φ := .f32) (shapeCast S32x16x64 x shapeCasts_S512x64_S32x16x64) zero reducesTo_S32x16x64_S32x64_d1 h_S_ (ix2 g n) = ((∑ k, f k : ℝ) : EReal) := by
  refine (Ideal.hostReduceAdd_r3_a1 _ _ _ _).trans ?_
  rw [← coe_sum]
  refine (congrArg₂ (· + ·) word_0 (Finset.sum_congr rfl fun k _ => (unflat x _ g k n).trans (hx k))).trans ?_
  exact (congrArg (· + _) EReal.coe_zero).trans (zero_add _)

theorem sum_all (x : S512x64.Idx → EReal) (f : Fin 16 → Fin 64 → ℝ) (g : Fin 32) (hx : ∀ k n, x (ix2 (line g k) n) = ((f k n : ℝ) : EReal)) :
    Host.reduceAdd (F := Ideal) (φ := .f32) (shapeCast S32x16x64 x shapeCasts_S512x64_S32x16x64) zero reducesTo_S32x16x64_S32_d1_2 h_S_ (ix1 g) = ((∑ k, ∑ n, f k n : ℝ) : EReal) := by
  refine (Ideal.hostReduceAdd_r3_a12 _ _ _ _).trans ?_
  rw [← coe_sum]
  refine (congrArg₂ (· + ·) word_0 (Finset.sum_congr rfl fun k _ => (Finset.sum_congr rfl fun n _ => (unflat x _ g k n).trans (hx k n)).trans (coe_sum _))).trans ?_
  exact (congrArg (· + _) EReal.coe_zero).trans (zero_add _)

theorem turned (x : S32x64x16.Idx → EReal) (g : Fin 32) (k : Fin 16) (n : Fin 64) :
    shapeCast S512x64 (transpose S32x16x64 [0, 2, 1] x transposes_S32x64x16_S32x16x64_0_2_1) shapeCasts_S32x16x64_S512x64 (ix2 (line g k) n) = x (ix3 g n k) := by
  rw [flat]
  pointwise

include h

theorem at_v13 (g : Fin 32) (k : Fin 16) (n : Fin 64) : V m c main_v13 (ix2 (line g k) n) = ((A.a g n : ℝ) : EReal) := by
  rw [V_v13, spread_at]
  exact h.h0 g n

theorem at_v16 (g : Fin 32) (k : Fin 16) (n : Fin 64) : V m c main_v16 (ix2 (line g k) n) = ((A.b g n : ℝ) : EReal) := by
  rw [V_v16, spread_at]
  exact h.h1 g n

theorem at_v19 (g : Fin 32) (k : Fin 16) (n : Fin 64) : V m c main_v19 (ix2 (line g k) n) = ((A.l g : ℝ) : EReal) := by
  rw [V_v19, spread_at]
  refine Eq.trans ?_ (h.h2 g)
  pointwise

theorem at_v21 (g : Fin 32) (k : Fin 16) (n : Fin 64) : V m c main_v21 (ix2 (line g k) n) = ((A.p g n k : ℝ) : EReal) := by
  rw [V_v21, turned]
  exact h.h3 g n k

theorem at_v23 (g : Fin 32) (k : Fin 16) (n : Fin 64) : V m c main_v23 (ix2 (line g k) n) = ((A.r g n k : ℝ) : EReal) := by
  rw [V_v23, turned]
  exact h.h4 g n k

theorem at_v3 (g : Fin 32) (k : Fin 16) (n : Fin 64) : V m c main_v3 (ix2 (line g k) n) = ((lead (A.u g n) k : ℝ) : EReal) := by
  rw [V_v3, first_at, ← lead_coe, h.h5 g n]

theorem at_v6 (g : Fin 32) (k : Fin 16) (n : Fin 64) : V m c main_v6 (ix2 (line g k) n) = ((lead (A.v g n) k : ℝ) : EReal) := by
  rw [V_v6, first_at, ← lead_coe, h.h6 g n]

theorem at_v7 (g : Fin 32) (k : Fin 16) (n : Fin 64) : V m c main_v7 (ix2 (line g k) n) = ((A.s g k n : ℝ) : EReal) := by
  rw [V_v7, flat]
  exact h.h7 g k n

theorem at_v8 (g : Fin 32) (k : Fin 16) (n : Fin 64) : V m c main_v8 (ix2 (line g k) n) = ((A.t g k n : ℝ) : EReal) := by
  rw [V_v8, flat]
  exact h.h8 g k n

theorem row9 (g : Fin 32) (k : Fin 16) (n : Fin 64) : (dats m 0 c).arrAt 9 cfg0.N (ix2 (line g k) n) = ((da (A.a g n) (A.b g n) (A.l g) (rv17 A g n) (lead (A.u g n) k) (lead (A.v g n) k) (A.s g k n * A.p g n k + A.t g k n * A.r g n k) (A.t g k n * A.p g n k - A.s g k n * A.r g n k) : ℝ) : EReal) := by
  rw [final9]
  exact out9 _ _ _ _ _ _ _ _ _ (line g k) n _ _ _ _ _ _ _ _ _ (rv17 A g n) (at_v13 m c h g k n) (at_v16 m c h g k n) (at_v19 m c h g k n) (at_v21 m c h g k n) (at_v23 m c h g k n) (at_v3 m c h g k n) (at_v6 m c h g k n) (at_v7 m c h g k n) (at_v8 m c h g k n) rfl (h.hn g n)

theorem row10 (g : Fin 32) (k : Fin 16) (n : Fin 64) : (dats m 0 c).arrAt 10 cfg0.N (ix2 (line g k) n) = ((db (A.a g n) (A.b g n) (A.l g) (rv17 A g n) (lead (A.u g n) k) (lead (A.v g n) k) (A.s g k n * A.p g n k + A.t g k n * A.r g n k) (A.t g k n * A.p g n k - A.s g k n * A.r g n k) : ℝ) : EReal) := by
  rw [final10]
  exact out10 _ _ _ _ _ _ _ _ _ (line g k) n _ _ _ _ _ _ _ _ _ (rv17 A g n) (at_v13 m c h g k n) (at_v16 m c h g k n) (at_v19 m c h g k n) (at_v21 m c h g k n) (at_v23 m c h g k n) (at_v3 m c h g k n) (at_v6 m c h g k n) (at_v7 m c h g k n) (at_v8 m c h g k n) rfl (h.hn g n)

theorem row11 (g : Fin 32) (k : Fin 16) (n : Fin 64) : (dats m 0 c).arrAt 11 cfg0.N (ix2 (line g k) n) = ((dt (A.a g n) (A.b g n) (A.l g) (rv17 A g n) (lead (A.u g n) k) (lead (A.v g n) k) (A.s g k n * A.p g n k + A.t g k n * A.r g n k) (A.t g k n * A.p g n k - A.s g k n * A.r g n k) * Real.exp (A.l g) : ℝ) : EReal) := by
  rw [final11]
  exact out11 _ _ _ _ _ _ _ _ _ (line g k) n _ _ _ _ _ _ _ _ _ (rv17 A g n) (at_v13 m c h g k n) (at_v16 m c h g k n) (at_v19 m c h g k n) (at_v21 m c h g k n) (at_v23 m c h g k n) (at_v3 m c h g k n) (at_v6 m c h g k n) (at_v7 m c h g k n) (at_v8 m c h g k n) rfl (h.hn g n)

theorem row12 (g : Fin 32) (k : Fin 16) (n : Fin 64) : (dats m 0 c).arrAt 12 cfg0.N (ix2 (line g k) n) = ((A.s g k n * (n1 (A.a g n) (A.b g n) (A.l g) / rv17 A g n) + A.t g k n * (n2 (A.a g n) (A.b g n) (A.l g) / rv17 A g n) : ℝ) : EReal) := by
  rw [final12]
  exact out12 _ _ _ _ _ _ _ _ _ (line g k) n _ _ _ _ _ _ _ _ _ (rv17 A g n) (at_v13 m c h g k n) (at_v16 m c h g k n) (at_v19 m c h g k n) (at_v21 m c h g k n) (at_v23 m c h g k n) (at_v3 m c h g k n) (at_v6 m c h g k n) (at_v7 m c h g k n) (at_v8 m c h g k n) rfl (h.hn g n)

theorem row13 (g : Fin 32) (k : Fin 16) (n : Fin 64) : (dats m 0 c).arrAt 13 cfg0.N (ix2 (line g k) n) = ((A.t g k n * (n1 (A.a g n) (A.b g n) (A.l g) / rv17 A g n) - A.s g k n * (n2 (A.a g n) (A.b g n) (A.l g) / rv17 A g n) : ℝ) : EReal) := by
  rw [final13]
  exact out13 _ _ _ _ _ _ _ _ _ (line g k) n _ _ _ _ _ _ _ _ _ (rv17 A g n) (at_v13 m c h g k n) (at_v16 m c h g k n) (at_v19 m c h g k n) (at_v21 m c h g k n) (at_v23 m c h g k n) (at_v3 m c h g k n) (at_v6 m c h g k n) (at_v7 m c h g k n) (at_v8 m c h g k n) rfl (h.hn g n)

theorem res_v26 (g : Fin 32) (n : Fin 64) : Pipeline.afterTail₀ cfgs (dats m) 0 (V0 m) [hostOps1] c main_v26 (ix2 g n) = ((da (A.a g n) (A.b g n) (A.l g) (rv17 A g n) (A.u g n) (A.v g n) (z1 A g n) (z2 A g n) : ℝ) : EReal) := by
  have e : ∑ k, da (A.a g n) (A.b g n) (A.l g) (rv17 A g n) (lead (A.u g n) k) (lead (A.v g n) k) (A.s g k n * A.p g n k + A.t g k n * A.r g n k) (A.t g k n * A.p g n k - A.s g k n * A.r g n k) = da (A.a g n) (A.b g n) (A.l g) (rv17 A g n) (A.u g n) (A.v g n) (z1 A g n) (z2 A g n) := by
    rw [da_sum, lead_sum, lead_sum]
    rfl
  rw [← e, tail_v26]
  exact sum_mid _ _ g n fun k => row9 m c h g k n

theorem res_v28 (g : Fin 32) (n : Fin 64) : Pipeline.afterTail₀ cfgs (dats m) 0 (V0 m) [hostOps1] c main_v28 (ix2 g n) = ((db (A.a g n) (A.b g n) (A.l g) (rv17 A g n) (A.u g n) (A.v g n) (z1 A g n) (z2 A g n) : ℝ) : EReal) := by
  have e : ∑ k, db (A.a g n) (A.b g n) (A.l g) (rv17 A g n) (lead (A.u g n) k) (lead (A.v g n) k) (A.s g k n * A.p g n k + A.t g k n * A.r g n k) (A.t g k n * A.p g n k - A.s g k n * A.r g n k) = db (A.a g n) (A.b g n) (A.l g) (rv17 A g n) (A.u g n) (A.v g n) (z1 A g n) (z2 A g n) := by
    rw [db_sum, lead_sum, lead_sum]
    rfl
  rw [← e, tail_v28]
  exact sum_mid _ _ g n fun k => row10 m c h g k n

theorem res_v30 (g : Fin 32) : Pipeline.afterTail₀ cfgs (dats m) 0 (V0 m) [hostOps1] c main_v30 (ix1 g) = ((∑ n, dt (A.a g n) (A.b g n) (A.l g) (rv17 A g n) (A.u g n) (A.v g n) (z1 A g n) (z2 A g n) * Real.exp (A.l g) : ℝ) : EReal) := by
  have e : ∀ n, ∑ k, dt (A.a g n) (A.b g n) (A.l g) (rv17 A g n) (lead (A.u g n) k) (lead (A.v g n) k) (A.s g k n * A.p g n k + A.t g k n * A.r g n k) (A.t g k n * A.p g n k - A.s g k n * A.r g n k) * Real.exp (A.l g) = dt (A.a g n) (A.b g n) (A.l g) (rv17 A g n) (A.u g n) (A.v g n) (z1 A g n) (z2 A g n) * Real.exp (A.l g) := fun n => by
    rw [← Finset.sum_mul, dt_sum, lead_sum, lead_sum]
    rfl
  simp only [← e]
  rw [Finset.sum_comm, tail_v30]
  exact sum_all _ _ g fun k n => row11 m c h g k n

theorem res_v32 (g : Fin 32) (n : Fin 64) (k : Fin 16) : Pipeline.afterTail₀ cfgs (dats m) 0 (V0 m) [hostOps1] c main_v32 (ix3 g n k) = ((A.s g k n * (n1 (A.a g n) (A.b g n) (A.l g) / rv17 A g n) + A.t g k n * (n2 (A.a g n) (A.b g n) (A.l g) / rv17 A g n) : ℝ) : EReal) := by
  rw [tail_v32]
  refine Eq.trans ?_ ((unflat _ shapeCasts_S512x64_S32x16x64 g k n).trans (row12 m c h g k n))
  refine transpose_apply _ _ _ _ _ fun b => ?_
  match b with
  | ⟨0, _⟩ => rfl
  | ⟨1, _⟩ => rfl
  | ⟨2, _⟩ => rfl

theorem res_v34 (g : Fin 32) (n : Fin 64) (k : Fin 16) : Pipeline.afterTail₀ cfgs (dats m) 0 (V0 m) [hostOps1] c main_v34 (ix3 g n k) = ((A.t g k n * (n1 (A.a g n) (A.b g n) (A.l g) / rv17 A g n) - A.s g k n * (n2 (A.a g n) (A.b g n) (A.l g) / rv17 A g n) : ℝ) : EReal) := by
  rw [tail_v34]
  refine Eq.trans ?_ ((unflat _ shapeCasts_S512x64_S32x16x64 g k n).trans (row13 m c h g k n))
  refine transpose_apply _ _ _ _ _ fun b => ?_
  match b with
  | ⟨0, _⟩ => rfl
  | ⟨1, _⟩ => rfl
  | ⟨2, _⟩ => rfl

end Cert.PrepIdeal.Rows

end
-- ==== Proof.PrepClaim.lean ====
/- The claim about the gradient of the discretisation. -/
module

public import proofs.«01_k».proof.Defs
public import proofs.«01_k».proof.Proof.PrepTail
public import proofs.«01_k».proof.Proof.Gen.PrepRefIdeal.Run
public import proofs.«01_k».proof.Proof.Gen.Pre_invertible

@[expose] public section

set_option maxRecDepth 16384
set_option maxHeartbeats 1600000

noncomputable section

namespace Cert.Proof

open Cert.RowLib Idealize.ShloMosaic Idealize.ShloMosaic.TcCoe Idealize.SL.Sem
open Cert.PrepRefIdeal.Rows (Args Holds rv17 rv15 rv16)

theorem ext1 {n0 : Nat} {f g : (⟨1, ![n0]⟩ : Shape).Idx → EReal} (h : ∀ a, f (ix1 a) = g (ix1 a)) : f = g :=
  funext fun i => (congrArg f (eq_ix1 i)).trans ((h (i 0)).trans (congrArg g (eq_ix1 i)).symm)

theorem ext3 {n0 n1 n2 : Nat} {f g : (⟨3, ![n0, n1, n2]⟩ : Shape).Idx → EReal} (h : ∀ a b k, f (ix3 a b k) = g (ix3 a b k)) : f = g :=
  funext fun i => (congrArg f (eq_ix3 i)).trans ((h (i 0) (i 1) (i 2)).trans (congrArg g (eq_ix3 i)).symm)

/-- The precondition's comparison is one of the squared modulus. -/
theorem modulus (y0 y1 y5 y6 : Cert.PrepIdeal.S32x64.Idx → EReal) (y2 : Cert.PrepIdeal.S32.Idx → EReal) (y3 y4 : Cert.PrepIdeal.S32x64x16.Idx → EReal) (y7 y8 : Cert.PrepIdeal.S32x16x64.Idx → EReal)
    (h : (letI := Cert.Pre_invertible.Gen.facts; (Cert.Pre_invertible.fn (F := Ideal) y0 y1 y2 y3 y4 y5 y6 y7 y8).1) = fun _ => 1#1) (g : Fin 32) (n : Fin 64) :
    Ideal.cmp .ogt (y0 (ix2 g n) * y0 (ix2 g n) + y1 (ix2 g n) * y1 (ix2 g n)) (Ideal.ofBits .f32 0x00000000#32) = 1#1 :=
  congrFun h (ix2 g n)

theorem not_zero (a b : ℝ) (h : Ideal.cmp .ogt ((a : EReal) * (a : EReal) + (b : EReal) * (b : EReal)) (Ideal.ofBits .f32 0x00000000#32) = 1#1) : a * a + b * b ≠ 0 := by
  intro e
  rw [← EReal.coe_mul, ← EReal.coe_mul, ← EReal.coe_add, e, Cert.PrepMath.word_0] at h
  simp [Ideal.cmp] at h

/-- The kernel's result arrays are those of the reference. -/
theorem prep_value :
    Cert.algebraic_PrepIdeal_PrepRefIdeal_pre_invertible (hPrepIdeal := Cert.PrepIdeal.Gen.facts) (hPrepRefIdeal := Cert.PrepRefIdeal.Gen.facts) (hPre_invertible := Cert.Pre_invertible.Gen.facts) := by
  intro m g m' g' hpre hag
  refine ⟨fun c => Pipeline.afterTail₀ Cert.PrepIdeal.cfgs (Cert.PrepIdeal.Gen.dats m) 0 (Cert.PrepIdeal.Gen.V0 m) [Cert.PrepIdeal.Gen.hostOps1] c Cert.PrepIdeal.main_v26, fun c => Pipeline.afterTail₀ Cert.PrepIdeal.cfgs (Cert.PrepIdeal.Gen.dats m) 0 (Cert.PrepIdeal.Gen.V0 m) [Cert.PrepIdeal.Gen.hostOps1] c Cert.PrepIdeal.main_v28, fun c => Pipeline.afterTail₀ Cert.PrepIdeal.cfgs (Cert.PrepIdeal.Gen.dats m) 0 (Cert.PrepIdeal.Gen.V0 m) [Cert.PrepIdeal.Gen.hostOps1] c Cert.PrepIdeal.main_v30, fun c => Pipeline.afterTail₀ Cert.PrepIdeal.cfgs (Cert.PrepIdeal.Gen.dats m) 0 (Cert.PrepIdeal.Gen.V0 m) [Cert.PrepIdeal.Gen.hostOps1] c Cert.PrepIdeal.main_v32, fun c => Pipeline.afterTail₀ Cert.PrepIdeal.cfgs (Cert.PrepIdeal.Gen.dats m) 0 (Cert.PrepIdeal.Gen.V0 m) [Cert.PrepIdeal.Gen.hostOps1] c Cert.PrepIdeal.main_v34,
    (θ_run _ _ _).mono (fun r h c => ⟨(h.1 c).2 Cert.PrepIdeal.main_v26 (Pipeline.mem_restRefs_of Cert.PrepIdeal.main_v26 (by decide) (by decide)), (h.1 c).2 Cert.PrepIdeal.main_v28 (Pipeline.mem_restRefs_of Cert.PrepIdeal.main_v28 (by decide) (by decide)), (h.1 c).2 Cert.PrepIdeal.main_v30 (Pipeline.mem_restRefs_of Cert.PrepIdeal.main_v30 (by decide) (by decide)), (h.1 c).2 Cert.PrepIdeal.main_v32 (Pipeline.mem_restRefs_of Cert.PrepIdeal.main_v32 (by decide) (by decide)), (h.1 c).2 Cert.PrepIdeal.main_v34 (Pipeline.mem_restRefs_of Cert.PrepIdeal.main_v34 (by decide) (by decide)), h.2 c⟩) (θ_run_and (Cert.PrepIdeal.Gen.run_main m g) (Cert.PrepIdeal.Gen.unchanged m g)),
    (θ_run _ _ _).mono (fun r h c => ?_) (Cert.PrepRefIdeal.Value.run m' g')⟩
  obtain ⟨e0, e1, e2, e3, e4, e5, e6, e7, e8⟩ := hag c
  have f0 : IsReal (Cert.PrepIdeal.Rows.a0 m c) := fun i => real_of_cmp (congrFun (hpre c).2.1 i)
  have f1 : IsReal (Cert.PrepIdeal.Rows.a1 m c) := fun i => real_of_cmp (congrFun (hpre c).2.2.1 i)
  have f2 : IsReal (Cert.PrepIdeal.Rows.a2 m c) := fun i => real_of_cmp (congrFun (hpre c).2.2.2.1 i)
  have f3 : IsReal (Cert.PrepIdeal.Rows.a3 m c) := fun i => real_of_cmp (congrFun (hpre c).2.2.2.2.1 i)
  have f4 : IsReal (Cert.PrepIdeal.Rows.a4 m c) := fun i => real_of_cmp (congrFun (hpre c).2.2.2.2.2.1 i)
  have f5 : IsReal (Cert.PrepIdeal.Rows.a5 m c) := fun i => real_of_cmp (congrFun (hpre c).2.2.2.2.2.2.1 i)
  have f6 : IsReal (Cert.PrepIdeal.Rows.a6 m c) := fun i => real_of_cmp (congrFun (hpre c).2.2.2.2.2.2.2.1 i)
  have f7 : IsReal (Cert.PrepIdeal.Rows.a7 m c) := fun i => real_of_cmp (congrFun (hpre c).2.2.2.2.2.2.2.2.1 i)
  have f8 : IsReal (Cert.PrepIdeal.Rows.a8 m c) := fun i => real_of_cmp (congrFun (hpre c).2.2.2.2.2.2.2.2.2 i)
  choose w0 h0 using f0
  choose w1 h1 using f1
  choose w2 h2 using f2
  choose w3 h3 using f3
  choose w4 h4 using f4
  choose w5 h5 using f5
  choose w6 h6 using f6
  choose w7 h7 using f7
  choose w8 h8 using f8
  let A : Args := ⟨fun g n => w0 (ix2 g n), fun g n => w1 (ix2 g n), fun g => w2 (ix1 g), fun g n k => w3 (ix3 g n k), fun g n k => w4 (ix3 g n k), fun g n => w5 (ix2 g n), fun g n => w6 (ix2 g n), fun g n k => w7 (ix3 g n k), fun g n k => w8 (ix3 g n k)⟩
  have H : Holds A (Cert.PrepIdeal.Rows.a0 m c) (Cert.PrepIdeal.Rows.a1 m c) (Cert.PrepIdeal.Rows.a2 m c) (Cert.PrepIdeal.Rows.a3 m c) (Cert.PrepIdeal.Rows.a4 m c) (Cert.PrepIdeal.Rows.a5 m c) (Cert.PrepIdeal.Rows.a6 m c) (Cert.PrepIdeal.Rows.a7 m c) (Cert.PrepIdeal.Rows.a8 m c) := by
    refine ⟨fun g n => h0 (ix2 g n), fun g n => h1 (ix2 g n), fun g => h2 (ix1 g), fun g n k => h3 (ix3 g n k), fun g n k => h4 (ix3 g n k), fun g n => h5 (ix2 g n), fun g n => h6 (ix2 g n), fun g n k => h7 (ix3 g n k), fun g n k => h8 (ix3 g n k), fun g n => ?_⟩
    have q := modulus (Cert.PrepIdeal.Rows.a0 m c) (Cert.PrepIdeal.Rows.a1 m c) (Cert.PrepIdeal.Rows.a5 m c) (Cert.PrepIdeal.Rows.a6 m c) (Cert.PrepIdeal.Rows.a2 m c) (Cert.PrepIdeal.Rows.a3 m c) (Cert.PrepIdeal.Rows.a4 m c) (Cert.PrepIdeal.Rows.a7 m c) (Cert.PrepIdeal.Rows.a8 m c) (hpre c).1 g n
    rw [h0, h1] at q
    exact not_zero _ _ q
  exact ⟨((h c).1.trans (Cert.PrepRefIdeal.Read.val_main_v141_eq m' c)).trans (show Cert.PrepRefIdeal.Read.val_main_v141 (F := Ideal) _ _ _ _ _ _ _ _ _ = _ from ext2 fun a b => by
      rw [e0, e1, e2, e3, e4, e5, e6, e7, e8]
      exact (Cert.PrepRefIdeal.Rows.ev141 H a b).trans ((congrArg Real.toEReal (Cert.PrepRefIdeal.Rows.v141_eq A a b)).trans (Cert.PrepIdeal.Rows.res_v26 m c H a b).symm)),
    ((h c).2.1.trans (Cert.PrepRefIdeal.Read.val_main_v133_eq m' c)).trans (show Cert.PrepRefIdeal.Read.val_main_v133 (F := Ideal) _ _ _ _ _ _ _ _ _ = _ from ext2 fun a b => by
      rw [e0, e1, e2, e3, e4, e5, e6, e7, e8]
      exact (Cert.PrepRefIdeal.Rows.ev133 H a b).trans ((congrArg Real.toEReal (Cert.PrepRefIdeal.Rows.v133_eq A a b)).trans (Cert.PrepIdeal.Rows.res_v28 m c H a b).symm)),
    ((h c).2.2.1.trans (Cert.PrepRefIdeal.Read.val_main_v143_eq m' c)).trans (show Cert.PrepRefIdeal.Read.val_main_v143 (F := Ideal) _ _ _ _ _ _ _ _ _ = _ from ext1 fun a => by
      rw [e0, e1, e2, e3, e4, e5, e6, e7, e8]
      exact (Cert.PrepRefIdeal.Rows.ev143 H a).trans ((congrArg Real.toEReal (Cert.PrepRefIdeal.Rows.v143_eq A a)).trans (Cert.PrepIdeal.Rows.res_v30 m c H a).symm)),
    ((h c).2.2.2.1.trans (Cert.PrepRefIdeal.Read.val_main_v75_eq _ _ _ _ _)).trans (show Cert.PrepRefIdeal.Read.val_main_v75 (F := Ideal) _ _ _ _ _ = _ from ext3 fun a b k => by
      rw [e0, e1, e2, e7, e8]
      exact (Cert.PrepRefIdeal.Rows.ev75 H a b k).trans ((congrArg Real.toEReal (Cert.PrepRefIdeal.Rows.v75_eq A a b k)).trans (Cert.PrepIdeal.Rows.res_v32 m c H a b k).symm)),
    ((h c).2.2.2.2.1.trans (Cert.PrepRefIdeal.Read.val_main_v67_eq _ _ _ _ _)).trans (show Cert.PrepRefIdeal.Read.val_main_v67 (F := Ideal) _ _ _ _ _ = _ from ext3 fun a b k => by
      rw [e0, e1, e2, e7, e8]
      exact (Cert.PrepRefIdeal.Rows.ev67 H a b k).trans ((congrArg Real.toEReal (Cert.PrepRefIdeal.Rows.v67_eq A a b k)).trans (Cert.PrepIdeal.Rows.res_v34 m c H a b k).symm)),
    (h c).2.2.2.2.2⟩

end Cert.Proof

end
-- ==== Proof.ScanbFirst.lean ====
/-
  The reverse scan on the TensorCore (`lru_scan_bwd`): what the body does at the first point, which clears the two
  carried scratch rows, and at a later one, which takes them as the point before left them.
-/
module

public import proofs.«01_k».proof.Proof.Gen.ScanbIdeal.Frame
public import proofs.«01_k».proof.Proof.Gen.ScanbIdeal.Skeleton
public import proofs.«01_k».proof.Proof.Gen.ScanbIdeal.Loops

@[expose] public section

set_option maxRecDepth 16384

noncomputable section

namespace Cert.ScanbIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.ScanbIdeal.Gen

variable {F : FTy → Type} [FloatOps F]

local notation "𝕄" => MT nD τ sig Unit (Elt F) ℕ (UR sig nD τ) ℕ

/-- The body's condition at the first point. -/
abbrev atFirst (i : grid0.Coords) : Prop := (Scalar.cmpi .ne (Scalar.extui (Scalar.cmpi .eq (BitVec.ofNat 32 (i 0).val) 0#32)) 0#32) = 1#1

theorem atFirst_iff (t : Fin cfg0.N) : atFirst (grid0.coords t) ↔ t.val = 0 := by
  have ht : t.val < 8 := Nat.lt_of_lt_of_eq t.isLt N_0
  have e0 : (grid0.coords t 0).val = t.val / 1 % 8 := Pipeline.Grid.coords_val t 0 (by decide) rfl
  have : atFirst (grid0.coords t) ↔ t.val % 8 = 0 := by
    simp only [atFirst, e0]
    word_cmp
  rw [this]; omega

set_option maxHeartbeats 4000000 in
/-- The body at the point that clears the scratch: from any scratch contents, the pieces it leaves in its output and in the two
    scratch rows. -/
@[irreducible] def first (c : Dev nD) (i : grid0.Coords) (arg1 : Memref sig .tc .vmem S1024x1280 .f32) (harg1 : arg1.IsWhole) (arg2 : Memref sig .tc .vmem S1024x1280 .f32) (harg2 : arg2.IsWhole)
    (arg3 : Memref sig .tc .vmem S1024x1280 .f32) (harg3 : arg3.IsWhole) (arg4 : Memref sig .tc .vmem S8x1280 .f32) (harg4 : arg4.IsWhole)
    (arg5 : Memref sig .tc .vmem S8x1280 .f32) (harg5 : arg5.IsWhole) (hc : atFirst i)
    (x0 x1 : Vec F S1024x1280 .f32) :
    Σ' (L2 : List (View.Piece (Elt F) S1024x1280 .f32)), Σ' (LS0 : List (View.Piece (Elt F) S8x1280 .f32)), { LS1 : List (View.Piece (Elt F) S8x1280 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
              ∗ (∃ f, arg3.view.loc (c : Thread nD τ) ↦[arg3.view.set]{fullShare} arg3.view.writes (Elt F) f L2)
              ∗ (∃ f, arg4.view.loc (c : Thread nD τ) ↦[arg4.view.set]{fullShare} arg4.view.writes (Elt F) f LS0)
              ∗ (∃ f, arg5.view.loc (c : Thread nD τ) ↦[arg5.view.set]{fullShare} arg5.view.writes (Elt F) f LS1)) -∗ K ⟨⟩))
          ⊢ wp frame (wpE (defs₀ (F := F)) Variants.none c none) E (cc0_lru_scan_bwd i arg1 harg1 arg2 harg2 arg3 harg3 arg4 harg4 arg5 harg5) K } := by
  refine ⟨?_, ?_, ?_, fun E K => ?run⟩
  case run =>
    simp only [cc0_lru_scan_bwd_eq_skeleton]; unfold cc0_lru_scan_bwd_skel
    simp only [k0_part11_eq_skeleton, k0_part12_eq_skeleton, k0_part13_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, Hk⟩
    obtain rfl := harg1.eq_unread hf0; obtain rfl := harg2.eq_unread hf1
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.ScanbIdeal.Run

end
-- ==== Proof.ScanbLater.lean ====
/-
  The reverse scan on the TensorCore (`lru_scan_bwd`): what the body does at the first point, which clears the two
  carried scratch rows, and at a later one, which takes them as the point before left them.
-/
module

public import proofs.«01_k».proof.Proof.ScanbFirst

@[expose] public section

set_option maxRecDepth 16384

noncomputable section

namespace Cert.ScanbIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.ScanbIdeal.Gen

variable {F : FTy → Type} [FloatOps F]

local notation "𝕄" => MT nD τ sig Unit (Elt F) ℕ (UR sig nD τ) ℕ

set_option maxHeartbeats 4000000 in
/-- The body at a later point, from the scratch contents the point before left. -/
@[irreducible] def later (c : Dev nD) (i : grid0.Coords) (arg1 : Memref sig .tc .vmem S1024x1280 .f32) (harg1 : arg1.IsWhole) (arg2 : Memref sig .tc .vmem S1024x1280 .f32) (harg2 : arg2.IsWhole)
    (arg3 : Memref sig .tc .vmem S1024x1280 .f32) (harg3 : arg3.IsWhole) (arg4 : Memref sig .tc .vmem S8x1280 .f32) (harg4 : arg4.IsWhole)
    (arg5 : Memref sig .tc .vmem S8x1280 .f32) (harg5 : arg5.IsWhole) (hc : ¬ atFirst i)
    (x0 x1 : Vec F S1024x1280 .f32) (xs0 xs1 : Vec F S8x1280 .f32) :
    Σ' (L2 : List (View.Piece (Elt F) S1024x1280 .f32)), Σ' (LS0 : List (View.Piece (Elt F) S8x1280 .f32)), { LS1 : List (View.Piece (Elt F) S8x1280 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ owns (c : Thread nD τ) arg2 fullShare x1
              ∗ (∃ f, arg3.view.loc (c : Thread nD τ) ↦[arg3.view.set]{fullShare} arg3.view.writes (Elt F) f L2)
              ∗ (∃ f, arg4.view.loc (c : Thread nD τ) ↦[arg4.view.set]{fullShare} arg4.view.writes (Elt F) f LS0)
              ∗ (∃ f, arg5.view.loc (c : Thread nD τ) ↦[arg5.view.set]{fullShare} arg5.view.writes (Elt F) f LS1)) -∗ K ⟨⟩))
          ⊢ wp frame (wpE (defs₀ (F := F)) Variants.none c none) E (cc0_lru_scan_bwd i arg1 harg1 arg2 harg2 arg3 harg3 arg4 harg4 arg5 harg5) K } := by
  refine ⟨?_, ?_, ?_, fun E K => ?run⟩
  case run =>
    simp only [cc0_lru_scan_bwd_eq_skeleton]; unfold cc0_lru_scan_bwd_skel
    simp only [k0_part11_eq_skeleton, k0_part12_eq_skeleton, k0_part13_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1; obtain rfl := harg4.eq_unread hfs0; obtain rfl := harg5.eq_unread hfs1
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.ScanbIdeal.Run

end
-- ==== Proof.ScanbRun.lean ====
/-
  The launch of the reverse scan. What is known of the output block at a point, and of the scratch between points, is
  a parameter: two predicates that the body's two cases keep. With both always true this is the frame.
-/
module

public import proofs.«01_k».proof.Proof.ScanbLater

@[expose] public section

set_option maxRecDepth 16384

noncomputable section

namespace Cert.ScanbIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.ScanbIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev out (t : Fin cfg0.N) : Memref sig .tc .vmem S1024x1280 .f32 := win0_2.stage (cfg0.slots t 2)
abbrev carG : Memref sig .tc .vmem S8x1280 .f32 := Memref.whole cc0_scratch0
abbrev carA : Memref sig .tc .vmem S8x1280 .f32 := Memref.whole cc0_scratch1

/-- The first case at a point, on its blocks of the two inputs. -/
abbrev firstAt (c : Dev nD) (t : Fin cfg0.N) (h : atFirst (grid0.coords t)) :=
  first (F := F) c (grid0.coords t) (win0_0.stage (cfg0.slots t 0)) (hstage0_0 ((cfg0.slots t 0).cast nbuf0_0))
    (win0_1.stage (cfg0.slots t 1)) (hstage0_1 ((cfg0.slots t 1).cast nbuf0_1)) (out t) (hstage0_2 ((cfg0.slots t 2).cast nbuf0_2))
    carG (Memref.isWhole_whole _) carA (Memref.isWhole_whole _) h (iblk m c 0 t) (iblk m c 1 t)

/-- The later case at a point, on its blocks of the two inputs and the scratch contents. -/
abbrev laterAt (c : Dev nD) (t : Fin cfg0.N) (h : ¬ atFirst (grid0.coords t)) (g a : Vec F S8x1280 .f32) :=
  later (F := F) c (grid0.coords t) (win0_0.stage (cfg0.slots t 0)) (hstage0_0 ((cfg0.slots t 0).cast nbuf0_0))
    (win0_1.stage (cfg0.slots t 1)) (hstage0_1 ((cfg0.slots t 1).cast nbuf0_1)) (out t) (hstage0_2 ((cfg0.slots t 2).cast nbuf0_2))
    carG (Memref.isWhole_whole _) carA (Memref.isWhole_whole _) h (iblk m c 0 t) (iblk m c 1 t) g a

/-- The predicates are kept: `Q` holds of the block each point leaves, `S` of the scratch after it. -/
structure Kept (S : ℕ → Vec F S8x1280 .f32 → Vec F S8x1280 .f32 → Prop) (Q : Fin cfg0.N → Vec F S1024x1280 .f32 → Prop) (c : Dev nD) : Prop where
  first : ∀ (t : Fin cfg0.N) (h : atFirst (grid0.coords t)) (f2 f3 f4), t.val = 0 →
    Q t ((out t).view.read (Elt F) ((out t).view.writes (Elt F) f2 (firstAt m c t h).1))
      ∧ S 1 (carG.view.read (Elt F) (carG.view.writes (Elt F) f3 (firstAt m c t h).2.1))
          (carA.view.read (Elt F) (carA.view.writes (Elt F) f4 (firstAt m c t h).2.2.1))
  later : ∀ (t : Fin cfg0.N) (h : ¬ atFirst (grid0.coords t)) (g a) (f2 f3 f4), t.val ≠ 0 → S t.val g a →
    Q t ((out t).view.read (Elt F) ((out t).view.writes (Elt F) f2 (laterAt m c t h g a).1))
      ∧ S (t.val + 1) (carG.view.read (Elt F) (carG.view.writes (Elt F) f3 (laterAt m c t h g a).2.1))
          (carA.view.read (Elt F) (carA.view.writes (Elt F) f4 (laterAt m c t h g a).2.2.1))

variable (S : ℕ → Vec F S8x1280 .f32 → Vec F S8x1280 .f32 → Prop) (Q : Fin cfg0.N → Vec F S1024x1280 .f32 → Prop)

/-- Between points: before the first, the scratch at anything; afterwards at contents `S` holds of. -/
def Inv (c : Dev nD) : ℕ → sProp 𝕄
  | 0 => Pipeline.ΦA spec0 c
  | n + 1 => iprop((∃ g a, ⌜S (n + 1) g a⌝ ∗ owns (c : Thread nD τ) carG fullShare g ∗ owns (c : Thread nD τ) carA fullShare a) ∗ (∃ r, prngReg c r))

theorem inv_pos (c : Dev nD) (n : ℕ) (h : n ≠ 0) :
    Inv S c n = iprop((∃ g a, ⌜S n g a⌝ ∗ owns (c : Thread nD τ) carG fullShare g ∗ owns (c : Thread nD τ) carA fullShare a) ∗ (∃ r, prngReg c r)) := by
  cases n with
  | zero => exact absurd rfl h
  | succ n => rfl

theorem start_eq (c : Dev nD) :
    (Pipeline.ΦA spec0 c : sProp 𝕄)
      = iprop(iprop((∃ d, owns (c : Thread nD τ) carG fullShare d) ∗ (∃ d, owns (c : Thread nD τ) carA fullShare d)) ∗ (∃ r, prngReg c r)) := by
  unfold Pipeline.ΦA; rw [scopedRest0_eq]; simp only [carG, carA, owns_whole]; try rfl

/-- The proof data: the arrays as launched, the output's block at each point one `Q` holds of. -/
def data (c : Dev nD) : RDat τ (Elt F) Unit ℕ (UR sig nD τ) ℕ cfg0 c where
  A w := V m c (Pipeline.arrRef spec0 w)
  after w t _ X := match w, X with
    | ⟨0, _⟩, _ => True
    | ⟨1, _⟩, _ => True
    | ⟨2, _⟩, X => Q t X
  Φ t := Inv S c t.val
  q _ := fullShare
  owed _ := 0

theorem after_2 (c : Dev nD) (t : Fin cfg0.N) (Y X) : (data m S Q c).after 2 t Y X = Q t X := by dsimp only [data]

theorem found_0 (c : Dev nD) (t : Fin cfg0.N) (Y) (h : (data m S Q c).Finds 0 t Y) : Y = iblk m c 0 t := by
  obtain ⟨d, rfl⟩ := ((data m S Q c).finds_of_fetch (fetch0_0 t) Y).mp h
  unfold RDat.fetched RDat.blockOf iblk; dsimp only [data]; rfl

theorem found_1 (c : Dev nD) (t : Fin cfg0.N) (Y) (h : (data m S Q c).Finds 1 t Y) : Y = iblk m c 1 t := by
  obtain ⟨d, rfl⟩ := ((data m S Q c).finds_of_fetch (fetch0_1 t) Y).mp h
  unfold RDat.fetched RDat.blockOf iblk; dsimp only [data]; rfl

/-- The body's precondition at a point, window by window, -/
def pre (c : Dev nD) (t : Fin cfg0.N) (Y2 : Vec F S1024x1280 .f32) : sProp 𝕄 :=
  iprop(Inv S c t.val ∗ (data m S Q c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (out t) fullShare Y2)

/-- and what it returns. -/
def post (c : Dev nD) (t : Fin cfg0.N) : sProp 𝕄 :=
  iprop(Inv S c (t.val + 1) ∗ (data m S Q c).owesAt () t.succ
    ∗ (∃ X, ⌜True⌝ ∗ owns (c : Thread nD τ) (win0_0.stage (cfg0.slots t 0)) fullShare X)
    ∗ (∃ X, ⌜True⌝ ∗ owns (c : Thread nD τ) (win0_1.stage (cfg0.slots t 1)) fullShare X)
    ∗ (∃ X, ⌜Q t X⌝ ∗ owns (c : Thread nD τ) (out t) fullShare X))

set_option maxHeartbeats 3200000 in
theorem body_sound (c : Dev nD) (hk : Kept m S Q c) (t : Fin cfg0.N) (Y2 : Vec F S1024x1280 .f32) :
    pre m S Q c t Y2 ⊢ wp frame (wpE (defs₀ (F := F)) Variants.none c none) Set.univ (bodyAt0 t) (fun _ => post m S Q c t) := by
  unfold pre post bodyAt0
  rw [show (data m S Q c).owesAt () t.succ = (data m S Q c).owesAt () t.castSucc from rfl]
  by_cases h0 : t.val = 0
  · have hc := (atFirst_iff t).mpr h0
    rw [show Inv S c t.val = Inv S c 0 by rw [h0], show Inv S c 0 = Pipeline.ΦA spec0 c from rfl, start_eq,
      show Inv S c (t.val + 1) = Inv S c 1 by rw [h0], inv_pos S c 1 one_ne_zero]
    iintro ⟨⟨⟨HS0, HS1⟩, Hg⟩, Ho, H0, H1, H2⟩
    iapply ((firstAt m c t hc).2.2.2 Set.univ _)
    isplitl [H0]; · iexact H0
    isplitl [H1]; · iexact H1
    isplitl [H2]; · iexists _; iexact H2
    isplitl [HS0]; · iexact HS0
    isplitl [HS1]; · iexact HS1
    iintro ⟨H0, H1, ⟨%e2, H2⟩, ⟨%es0, HS0⟩, ⟨%es1, HS1⟩⟩
    have hq := hk.first t hc e2 es0 es1 h0
    isplitl [HS0 HS1 Hg]
    · isplitl [HS0 HS1]
      · iexists _, _; isplitr; · ipureintro; exact hq.2
        isplitl [HS0]
        · unfold owns; iexists _; isplitr; · ipureintro; rfl
          iexact HS0
        unfold owns; iexists _; isplitr; · ipureintro; rfl
        iexact HS1
      iexact Hg
    isplitl [Ho]; · iexact Ho
    isplitl [H0]; · iexists _; isplitr; · ipureintro; trivial
                    iexact H0
    isplitl [H1]; · iexists _; isplitr; · ipureintro; trivial
                    iexact H1
    iexists _; isplitr; · ipureintro; exact hq.1
    unfold owns; iexists _; isplitr; · ipureintro; rfl
    iexact H2
  · have hc := fun h => h0 ((atFirst_iff t).mp h)
    rw [inv_pos S c t.val h0, inv_pos S c (t.val + 1) (Nat.succ_ne_zero _)]
    iintro ⟨⟨⟨%g, %a, %hs, HS0, HS1⟩, Hg⟩, Ho, H0, H1, H2⟩
    iapply ((laterAt m c t hc g a).2.2.2 Set.univ _)
    isplitl [H0]; · iexact H0
    isplitl [H1]; · iexact H1
    isplitl [H2]; · iexists _; iexact H2
    isplitl [HS0]; · iexact HS0
    isplitl [HS1]; · iexact HS1
    iintro ⟨H0, H1, ⟨%e2, H2⟩, ⟨%es0, HS0⟩, ⟨%es1, HS1⟩⟩
    have hq := hk.later t hc g a e2 es0 es1 h0 hs
    isplitl [HS0 HS1 Hg]
    · isplitl [HS0 HS1]
      · iexists _, _; isplitr; · ipureintro; exact hq.2
        isplitl [HS0]
        · unfold owns; iexists _; isplitr; · ipureintro; rfl
          iexact HS0
        unfold owns; iexists _; isplitr; · ipureintro; rfl
        iexact HS1
      iexact Hg
    isplitl [Ho]; · iexact Ho
    isplitl [H0]; · iexists _; isplitr; · ipureintro; trivial
                    iexact H0
    isplitl [H1]; · iexists _; isplitr; · ipureintro; trivial
                    iexact H1
    iexists _; isplitr; · ipureintro; exact hq.1
    unfold owns; iexists _; isplitr; · ipureintro; rfl
    iexact H2

theorem row_eq (t : Fin cfg0.N) : defs₀ (F := F) .tc cfg0.body (cfg0.bodyArgs t (cfg0.slots t)) = bodyAt0 t := by
  unfold defs₀; rw [Defs.onTc_tc]

theorem obligation (c : Dev nD) (hk : Kept m S Q c) : (data m S Q c).BodyObligation (defs₀ (F := F)) Variants.none () Set.univ := fun t Y hY => by
  rw [bigSep_W0, bigSep_W0, row_eq, found_0 m S Q c t _ (hY 0), found_1 m S Q c t _ (hY 1)]
  exact body_sound m S Q c hk t (Y 2)

theorem leave (c : Dev nD) : (data m S Q c).Φ (Fin.last cfg0.N) ⊢ Pipeline.ΦA spec0 c := by
  rw [show (data m S Q c).Φ (Fin.last cfg0.N) = Inv S c (Fin.last cfg0.N).val from rfl,
    inv_pos S c _ (by rw [Fin.val_last]; have : cfg0.N = 8 := N_0; omega), start_eq]
  iintro ⟨⟨%g, %a, -, HS0, HS1⟩, Hg⟩
  isplitl [HS0 HS1]
  · isplitl [HS0]
    · iexists _; iexact HS0
    iexists _; iexact HS1
  iexact Hg

variable (S' : Dev nD → ℕ → Vec F S8x1280 .f32 → Vec F S8x1280 .f32 → Prop) (Q' : Dev nD → Fin cfg0.N → Vec F S1024x1280 .f32 → Prop)

set_option backward.isDefEq.respectTransparency.types false in
/-- Every weakly fair run ends with the arrays as the proof data allows and every counter at zero. -/
theorem run_data (hk : ∀ c, Kept m (S' c) (Q' c) c) : θ_run defs (onTc (τ := τ) (main (F := F))) (s₀ m ρ)
    (fun r => RDat.FramePost cfg0 (fun c => data m (S' c) (Q' c) c) (V m) r ∧ r.2.sem = fun _ => 0) :=
  RDat.θ_run_frame_track cfgs (0 : Fin 1) launch0 defs₀ Variants.none (fun c => data m (S' c) (Q' c) c) m ρ main
    (hbody := fun c => obligation m (S' c) (Q' c) c (hk c)) (hshare := fun c w => by unfold RDat.share; split <;> rfl)
    (howed := fun _ _ => rfl) (V := V m) (hmain := hmain m Variants.none) (hA := fun _ _ => rfl)
    (hin := fun c => Entails.refl _) (hout := fun c => leave m (S' c) (Q' c) c)
    (Q' := fun r => RDat.FramePost cfg0 (fun c => data m (S' c) (Q' c) c) (V m) r ∧ r.2.sem = fun _ => 0) (hQ' := fun _ h => h)

/-- The arguments end unchanged and the counters at zero. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨RDat.FramePost.arr_in h.1 c 0 rfl, RDat.FramePost.arr_in h.1 c 1 rfl⟩, h.2⟩)
    (run_data m ρ (fun _ _ _ _ => True) (fun _ _ _ => True) fun c =>
      ⟨fun _ _ _ _ _ _ => ⟨trivial, trivial⟩, fun _ _ _ _ _ _ _ _ _ => ⟨trivial, trivial⟩⟩)

end Cert.ScanbIdeal.Run

end
-- ==== Proof.ScanbBlock.lean ====
/-
  One tile of the reverse scan, eight rows of 128 lanes: from the carried gradient and the carried decay of the row
  below, three doubling steps give `g[r] = x[r] + a[r+1] g[r+1]` in every row, over the real numbers.
-/
module

public import proofs.«01_k».proof.Proof.Common
public import Idealize.ShloMosaic.Lib.KernelVsHost
public import proofs.«01_k».proof.Proof.Gen.ScanbIdeal.Skeleton

@[expose] public section

set_option maxRecDepth 16384

noncomputable section

namespace Cert.ScanbIdeal.Run

open Idealize.ShloMosaic Idealize.ShloMosaic.TcCoe
open Cert.ScanbIdeal Cert.ScanbIdeal.Gen

/-! ## The recurrence over the real numbers -/

/-- What row `8191 - k` receives from the row below it. -/
def tailSum (A D : ℕ → ℝ) : ℕ → ℝ
  | 0 => 0
  | k + 1 => A (8191 - k) * (tailSum A D k + D (8191 - k))

/-- The gradient of row `R`. -/
def grad (A D : ℕ → ℝ) (R : ℕ) : ℝ := tailSum A D (8191 - R) + D R

theorem grad_succ (A D : ℕ → ℝ) (R : ℕ) (h : R < 8191) : grad A D R = D R + A (R + 1) * grad A D (R + 1) := by
  unfold grad
  rw [show 8191 - R = (8191 - (R + 1)) + 1 by omega, tailSum, show 8191 - (8191 - (R + 1)) = R + 1 by omega]
  ring

/-- One doubling step of the gradients, over the rows that have a row `s` below. -/
def dblX (n s : Fin 8) (av x : Fin 8 → ℝ) (r : Fin 8) : ℝ := x r + if r.val ≤ n.val then av r * x (r + s) else 0

/-- One doubling step of the decays. -/
def dblA (n s : Fin 8) (av : Fin 8 → ℝ) (r : Fin 8) : ℝ := if r.val ≤ n.val then av r * av (r + s) else av r

/-- The decays of the rows below. -/
def below (ca : ℝ) (a : Fin 8 → ℝ) (r : Fin 8) : ℝ := if r.val = 7 then ca else a (r + 1)

/-- The three steps and the carried gradient. -/
def scanned (ca cg : ℝ) (a x : Fin 8 → ℝ) (r : Fin 8) : ℝ :=
  let a0 := below ca a
  let x1 := dblX 6 1 a0 x
  let a1 := dblA 6 1 a0
  let x2 := dblX 5 2 a1 x1
  let a2 := dblA 5 2 a1
  dblX 3 4 a2 x2 r + dblA 3 4 a2 r * cg

theorem scanned_eq (A D : ℕ → ℝ) (n : ℕ) (hn : n < 1024) (ca cg : ℝ) (hc : ca * cg = tailSum A D (8 * n)) (r : Fin 8) :
    scanned ca cg (fun r => A (8 * (1023 - n) + r.val)) (fun r => D (8 * (1023 - n) + r.val)) r = grad A D (8 * (1023 - n) + r.val) := by
  have e7 : grad A D (8 * (1023 - n) + 7) = D (8 * (1023 - n) + 7) + ca * cg := by
    unfold grad; rw [hc, show 8191 - (8 * (1023 - n) + 7) = 8 * n by omega]; ring
  have e6 := grad_succ A D (8 * (1023 - n) + 6) (by omega)
  have e5 := grad_succ A D (8 * (1023 - n) + 5) (by omega)
  have e4 := grad_succ A D (8 * (1023 - n) + 4) (by omega)
  have e3 := grad_succ A D (8 * (1023 - n) + 3) (by omega)
  have e2 := grad_succ A D (8 * (1023 - n) + 2) (by omega)
  have e1 := grad_succ A D (8 * (1023 - n) + 1) (by omega)
  have e0 := grad_succ A D (8 * (1023 - n) + 0) (by omega)
  simp only [Nat.add_assoc, Nat.reduceAdd] at e7 e6 e5 e4 e3 e2 e1 e0
  simp only [Nat.add_zero] at e0
  rw [e7] at e6; rw [e6] at e5; rw [e5] at e4; rw [e4] at e3; rw [e3] at e2; rw [e2] at e1; rw [e1] at e0
  fin_cases r <;> simp [scanned, dblX, dblA, below] <;>
    (first | (rw [e0]; ring) | (rw [e1]; ring) | (rw [e2]; ring) | (rw [e3]; ring) | (rw [e4]; ring) | (rw [e5]; ring) | (rw [e6]; ring) | rw [e7])

/-! ## One tile -/

/-- The row numbers of a tile. -/
abbrev rowsV : IVec S8x128 32 := iota .tc S8x128 32 [0] iota_S8x128_d0_w32

/-- A tile's gradients. -/
abbrev gOf (v3 : IVec S8x128 32) (cg ca a x : Vec Ideal S8x128 .f32) : Vec Ideal S8x128 .f32 :=
  k0_pay13 cg (k0_pay11 v3 ca a x) (k0_pay12 v3 ca a)

/-- The gradients of its first row, in every row. -/
abbrev gTop (v3 : IVec S8x128 32) (cg ca a x : Vec Ideal S8x128 .f32) : Vec Ideal S8x128 .f32 :=
  k0_pay14 cg (k0_pay11 v3 ca a x) (k0_pay12 v3 ca a)

/-- The decays of its first row, in every row. -/
abbrev aTop (a : Vec Ideal S8x128 .f32) : Vec Ideal S8x128 .f32 := k0_pay15 a

theorem rot7 (X : Vec Ideal S8x128 .f32) (r : Fin 8) (l : Fin 128) :
    dynamicRotate 0 7#32 none X rotates_S8x128_d0 (ix2 r l) = X (ix2 (r + 1) l) :=
  dynamicRotate_apply _ _ _ _ _ _ fun b => by
    fin_cases b
    · show (r + 1 : Fin 8).val = (r.val + 8 - 7) % 8
      rw [Fin.val_add]; show (r.val + 1) % 8 = _; congr 1
    · rfl

theorem rot6 (X : Vec Ideal S8x128 .f32) (r : Fin 8) (l : Fin 128) :
    dynamicRotate 0 6#32 none X rotates_S8x128_d0 (ix2 r l) = X (ix2 (r + 2) l) :=
  dynamicRotate_apply _ _ _ _ _ _ fun b => by
    fin_cases b
    · show (r + 2 : Fin 8).val = (r.val + 8 - 6) % 8
      rw [Fin.val_add]; show (r.val + 2) % 8 = _; congr 1
    · rfl

theorem rot4 (X : Vec Ideal S8x128 .f32) (r : Fin 8) (l : Fin 128) :
    dynamicRotate 0 4#32 none X rotates_S8x128_d0 (ix2 r l) = X (ix2 (r + 4) l) :=
  dynamicRotate_apply _ _ _ _ _ _ fun b => by
    fin_cases b
    · show (r + 4 : Fin 8).val = (r.val + 8 - 4) % 8
      rw [Fin.val_add]; show (r.val + 4) % 8 = _; congr 1
    · rfl

theorem sel_le (n : Fin 8) (X Y : Vec Ideal S8x128 .f32) (r : Fin 8) (l : Fin 128) :
    select (cmpi .sle rowsV (broadcast S8x128 (BitVec.ofNat 32 n.val))) X Y (ix2 r l) = if r.val ≤ n.val then X (ix2 r l) else Y (ix2 r l) := by
  show Scalar.select (Scalar.cmpi .sle (rowsV (ix2 r l)) (BitVec.ofNat 32 n.val)) _ _ = _
  have e : rowsV (ix2 r l) = BitVec.ofNat 32 r.val := by pointwise
  rw [e]
  fin_cases r <;> fin_cases n <;> rfl

theorem sel_eq (X Y : Vec Ideal S8x128 .f32) (r : Fin 8) (l : Fin 128) :
    select (cmpi .eq rowsV (broadcast S8x128 7#32)) X Y (ix2 r l) = if r.val = 7 then X (ix2 r l) else Y (ix2 r l) := by
  show Scalar.select (Scalar.cmpi .eq (rowsV (ix2 r l)) 7#32) _ _ = _
  have e : rowsV (ix2 r l) = BitVec.ofNat 32 r.val := by pointwise
  rw [e]
  fin_cases r <;> rfl

variable (cg ca a x : Vec Ideal S8x128 .f32) (l : Fin 128) (cgr car : ℝ) (ar xr : Fin 8 → ℝ)

theorem tile_apply (hcg : ∀ r, cg (ix2 r l) = (cgr : EReal)) (hca : ∀ r, ca (ix2 r l) = (car : EReal))
    (ha : ∀ r, a (ix2 r l) = (ar r : EReal)) (hx : ∀ r, x (ix2 r l) = (xr r : EReal)) (r : Fin 8) :
    gOf rowsV cg ca a x (ix2 r l) = (scanned car cgr ar xr r : EReal) := by
  have z : (broadcast S8x128 (Scalar.ofBits .f32 0x00000000#32 : Ideal .f32) : Vec Ideal S8x128 .f32) = fun _ => ((0 : ℝ) : EReal) := by
    funext y; show Ideal.ofBits .f32 0x00000000#32 = _; simp [Ideal.ofBits, Ideal.ieee]
  have h5 : ∀ r, k0_pay5 rowsV ca a (ix2 r l) = (below car ar r : EReal) := fun r => by
    show select (cmpi .eq rowsV (broadcast S8x128 7#32)) ca (dynamicRotate 0 7#32 none a rotates_S8x128_d0) (ix2 r l) = _
    rw [sel_eq, rot7, hca, ha]; unfold below; split <;> rfl
  have h7 : ∀ r, k0_pay7 rowsV ca a (ix2 r l) = (dblA 6 1 (below car ar) r : EReal) := fun r => by
    show select (cmpi .sle rowsV (broadcast S8x128 (BitVec.ofNat 32 (6 : Fin 8).val)))
      (mulf (k0_pay5 rowsV ca a) (dynamicRotate 0 7#32 none (k0_pay5 rowsV ca a) rotates_S8x128_d0)) (k0_pay5 rowsV ca a) (ix2 r l) = _
    rw [sel_le]
    show (if _ then k0_pay5 rowsV ca a (ix2 r l) * dynamicRotate 0 7#32 none (k0_pay5 rowsV ca a) rotates_S8x128_d0 (ix2 r l) else _) = _
    rw [rot7, h5, h5, ← EReal.coe_mul]; unfold dblA; split <;> rfl
  have h9 : ∀ r, k0_pay9 rowsV ca a (ix2 r l) = (dblA 5 2 (dblA 6 1 (below car ar)) r : EReal) := fun r => by
    show select (cmpi .sle rowsV (broadcast S8x128 (BitVec.ofNat 32 (5 : Fin 8).val)))
      (mulf (k0_pay7 rowsV ca a) (dynamicRotate 0 6#32 none (k0_pay7 rowsV ca a) rotates_S8x128_d0)) (k0_pay7 rowsV ca a) (ix2 r l) = _
    rw [sel_le]
    show (if _ then k0_pay7 rowsV ca a (ix2 r l) * dynamicRotate 0 6#32 none (k0_pay7 rowsV ca a) rotates_S8x128_d0 (ix2 r l) else _) = _
    rw [rot6, h7, h7, ← EReal.coe_mul]; conv_rhs => unfold dblA
    split <;> rfl
  have h12 : ∀ r, k0_pay12 rowsV ca a (ix2 r l) = (dblA 3 4 (dblA 5 2 (dblA 6 1 (below car ar))) r : EReal) := fun r => by
    show select (cmpi .sle rowsV (broadcast S8x128 (BitVec.ofNat 32 (3 : Fin 8).val)))
      (mulf (k0_pay9 rowsV ca a) (dynamicRotate 0 4#32 none (k0_pay9 rowsV ca a) rotates_S8x128_d0)) (k0_pay9 rowsV ca a) (ix2 r l) = _
    rw [sel_le]
    show (if _ then k0_pay9 rowsV ca a (ix2 r l) * dynamicRotate 0 4#32 none (k0_pay9 rowsV ca a) rotates_S8x128_d0 (ix2 r l) else _) = _
    rw [rot4, h9, h9, ← EReal.coe_mul]; conv_rhs => unfold dblA
    split <;> rfl
  let X1 : Vec Ideal S8x128 .f32 := addf x (select (k0_pay6 rowsV) (mulf (k0_pay5 rowsV ca a) (dynamicRotate 0 7#32 none x rotates_S8x128_d0)) (broadcast S8x128 (Scalar.ofBits .f32 0x00000000#32)))
  let X2 : Vec Ideal S8x128 .f32 := addf X1 (select (k0_pay8 rowsV) (mulf (k0_pay7 rowsV ca a) (dynamicRotate 0 6#32 none X1 rotates_S8x128_d0)) (broadcast S8x128 (Scalar.ofBits .f32 0x00000000#32)))
  have x1 : ∀ r, X1 (ix2 r l) = (dblX 6 1 (below car ar) xr r : EReal) := fun r => by
    show x (ix2 r l) + select (cmpi .sle rowsV (broadcast S8x128 (BitVec.ofNat 32 (6 : Fin 8).val))) (mulf (k0_pay5 rowsV ca a) (dynamicRotate 0 7#32 none x rotates_S8x128_d0)) _ (ix2 r l) = _
    rw [sel_le, z]
    show x (ix2 r l) + (if _ then k0_pay5 rowsV ca a (ix2 r l) * dynamicRotate 0 7#32 none x rotates_S8x128_d0 (ix2 r l) else _) = _
    rw [rot7, h5, hx, hx, ← EReal.coe_mul]; unfold dblX; split <;> rw [← EReal.coe_add]
  have x2 : ∀ r, X2 (ix2 r l) = (dblX 5 2 (dblA 6 1 (below car ar)) (dblX 6 1 (below car ar) xr) r : EReal) := fun r => by
    show X1 (ix2 r l) + select (cmpi .sle rowsV (broadcast S8x128 (BitVec.ofNat 32 (5 : Fin 8).val))) (mulf (k0_pay7 rowsV ca a) (dynamicRotate 0 6#32 none X1 rotates_S8x128_d0)) _ (ix2 r l) = _
    rw [sel_le, z]
    show X1 (ix2 r l) + (if _ then k0_pay7 rowsV ca a (ix2 r l) * dynamicRotate 0 6#32 none X1 rotates_S8x128_d0 (ix2 r l) else _) = _
    rw [rot6, h7, x1, x1, ← EReal.coe_mul]; conv_rhs => unfold dblX
    split <;> rw [← EReal.coe_add] <;> rfl
  have h11 : ∀ r, k0_pay11 rowsV ca a x (ix2 r l) = (dblX 3 4 (dblA 5 2 (dblA 6 1 (below car ar))) (dblX 5 2 (dblA 6 1 (below car ar)) (dblX 6 1 (below car ar) xr)) r : EReal) := fun r => by
    show X2 (ix2 r l) + select (cmpi .sle rowsV (broadcast S8x128 (BitVec.ofNat 32 (3 : Fin 8).val))) (mulf (k0_pay9 rowsV ca a) (dynamicRotate 0 4#32 none X2 rotates_S8x128_d0)) _ (ix2 r l) = _
    rw [sel_le, z]
    show X2 (ix2 r l) + (if _ then k0_pay9 rowsV ca a (ix2 r l) * dynamicRotate 0 4#32 none X2 rotates_S8x128_d0 (ix2 r l) else _) = _
    rw [rot4, h9, x2, x2, ← EReal.coe_mul]; conv_rhs => unfold dblX
    split <;> rw [← EReal.coe_add] <;> rfl
  show k0_pay11 rowsV ca a x (ix2 r l) + k0_pay12 rowsV ca a (ix2 r l) * cg (ix2 r l) = _
  rw [h11, h12, hcg, ← EReal.coe_mul, ← EReal.coe_add]
  rfl

theorem top_apply (v3 : IVec S8x128 32) (r : Fin 8) : gTop v3 cg ca a x (ix2 r l) = gOf v3 cg ca a x (ix2 0 l) := by
  unfold gTop k0_pay14 gOf
  generalize k0_pay13 cg (k0_pay11 v3 ca a x) (k0_pay12 v3 ca a) = w
  pointwise

theorem aTop_apply (r : Fin 8) : aTop a (ix2 r l) = a (ix2 0 l) := by
  unfold aTop k0_pay15
  pointwise

/-! ## The carried pair -/

/-- The carried gradient and decay are the same in every row, and their product is what `n` blocks of eight rows hand up. -/
def Carry (A D : ℕ → ℕ → ℝ) (q n : ℕ) (cg ca : Vec Ideal S8x128 .f32) : Prop :=
  ∀ l : Fin 128, ∃ g c : ℝ, (∀ r : Fin 8, cg (ix2 r l) = (g : EReal)) ∧ (∀ r : Fin 8, ca (ix2 r l) = (c : EReal)) ∧ c * g = tailSum (A (q + l.val)) (D (q + l.val)) (8 * n)

/-- One tile of block `n`: its gradients, and the pair it hands up. -/
theorem Carry.step {A D : ℕ → ℕ → ℝ} {q n : ℕ} {cg ca a x : Vec Ideal S8x128 .f32} (h : Carry A D q n cg ca) (hn : n < 1024)
    (ha : ∀ (r : Fin 8) (l : Fin 128), a (ix2 r l) = (A (q + l.val) (8 * (1023 - n) + r.val) : EReal))
    (hx : ∀ (r : Fin 8) (l : Fin 128), x (ix2 r l) = (D (q + l.val) (8 * (1023 - n) + r.val) : EReal)) :
    (∀ (r : Fin 8) (l : Fin 128), gOf rowsV cg ca a x (ix2 r l) = (grad (A (q + l.val)) (D (q + l.val)) (8 * (1023 - n) + r.val) : EReal))
      ∧ Carry A D q (n + 1) (gTop rowsV cg ca a x) (aTop a) := by
  have hg : ∀ (r : Fin 8) (l : Fin 128), gOf rowsV cg ca a x (ix2 r l) = (grad (A (q + l.val)) (D (q + l.val)) (8 * (1023 - n) + r.val) : EReal) := fun r l => by
    obtain ⟨g, c, h1, h2, h3⟩ := h l
    rw [tile_apply cg ca a x l g c _ _ h1 h2 (fun r => ha r l) (fun r => hx r l) r, scanned_eq _ _ n hn c g h3 r]
  refine ⟨hg, fun l => ⟨_, _, fun r => (top_apply cg ca a x l rowsV r).trans (hg 0 l), fun r => (aTop_apply a l r).trans (ha 0 l), ?_⟩⟩
  show A (q + l.val) (8 * (1023 - n) + 0) * grad _ _ (8 * (1023 - n) + 0) = _
  unfold grad
  rw [show 8 * (n + 1) = (8 * n + 7) + 1 by ring, tailSum, show 8191 - (8 * n + 7) = 8 * (1023 - n) + 0 by omega,
    show 8191 - (8 * (1023 - n) + 0) = 8 * n + 7 by omega]

end Cert.ScanbIdeal.Run
-- ==== Proof.ScanbTrips.lean ====
/-
  The two loops of the reverse scan's body, each over five tiles of 128 lanes: what a trip stores and hands on, and by
  induction over the trips what the output block and the carried pairs hold.
-/
module

public import proofs.«01_k».proof.Proof.ScanbBlock
public import Idealize.ShloMosaic.Lib.WritesUnit
public import proofs.«01_k».proof.Proof.Gen.ScanbIdeal.Loops

@[expose] public section

set_option maxRecDepth 16384

noncomputable section

namespace Cert.ScanbIdeal.Run

open Idealize.ShloMosaic Idealize.ShloMosaic.TcCoe
open Cert.ScanbIdeal Cert.ScanbIdeal.Gen

/-! ## Loads and stores of a tile -/

section Tiles

variable {κ : Kind} {sp : Space} {N : ℕ} (v : View sig κ sp ⟨2, ![N, 1280]⟩ .f32)

/-- A load of a tile reads the entries from its corner on. -/
theorem load_apply (X : v.ty.Contents (Elt Ideal)) {off : Fin 2 → ℕ} {o q : ℕ} (h : off = ![o, q])
    (inb : ∀ a, off a + (![8, 128] : Fin 2 → ℕ) a ≤ (![N, 1280] : Fin 2 → ℕ) a) {T : ℕ → ℕ → EReal}
    (hT : ∀ (R : Fin N) (p : Fin 1280), v.read (Elt Ideal) X (ix2 R p) = T p.val R.val) (r : Fin 8) (l : Fin 128) :
    v.readAt (Elt Ideal) (Rect.unit (s := ⟨2, ![N, 1280]⟩) off ![8, 128] inb).toLoadRect X (ix2 r l) = T (q + l.val) (o + r.val) := by
  subst h
  have h0 : o + 8 ≤ N := inb 0
  have h1 : q + 128 ≤ 1280 := inb 1
  rw [View.readAt_apply]
  refine (congrArg (v.read (Elt Ideal) X) (?_ : _ = ix2 (⟨o + r.val, by omega⟩ : Fin N) (⟨q + l.val, by omega⟩ : Fin 1280))).trans (hT _ _)
  funext a
  fin_cases a
  · exact Fin.ext (by show o + 1 * r.val = o + r.val; omega)
  · exact Fin.ext (by show q + 1 * l.val = q + l.val; omega)

/-- After a store of a tile, its entries; elsewhere what was there. -/
theorem put1 (f : v.ty.Contents (Elt Ideal)) (L : List (View.Piece (Elt Ideal) ⟨2, ![N, 1280]⟩ .f32)) {off : Fin 2 → ℕ} {o q : ℕ} (h : off = ![o, q])
    (inb : ∀ a, off a + (![8, 128] : Fin 2 → ℕ) a ≤ (![N, 1280] : Fin 2 → ℕ) a) (w : S8x128.Idx → EReal) {T : ℕ → ℕ → EReal}
    (hw : ∀ (r : Fin 8) (l : Fin 128), w (ix2 r l) = T (q + l.val) (o + r.val)) (R : Fin N) (p : Fin 1280) :
    v.read (Elt Ideal) (v.writes (Elt Ideal) f ((⟨Rect.unit (s := ⟨2, ![N, 1280]⟩) off ![8, 128] inb, w⟩ : View.Piece (Elt Ideal) ⟨2, ![N, 1280]⟩ .f32) :: L)) (ix2 R p)
      = if (o ≤ R.val ∧ R.val < o + 8) ∧ q ≤ p.val ∧ p.val < q + 128 then T p.val R.val else v.read (Elt Ideal) (v.writes (Elt Ideal) f L) (ix2 R p) := by
  split
  · rename_i hm
    rw [View.read_writes_cons_unit_of_mem v f inb w L (ix2 R p) (ix2 (⟨R.val - o, by omega⟩ : Fin 8) (⟨p.val - q, by omega⟩ : Fin 128)) h (fun a => by
      fin_cases a
      · show R.val = o + (R.val - o); omega
      · show p.val = q + (p.val - q); omega)]
    exact (hw _ _).trans (by congr 1 <;> [(show q + (p.val - q) = p.val; omega); (show o + (R.val - o) = R.val; omega)])
  · rename_i hm
    by_cases hr : o ≤ R.val ∧ R.val < o + 8
    · exact View.read_writes_cons_unit_of_not_mem v f inb w L (ix2 R p) h 1 (by
        show p.val < q ∨ q + 128 ≤ p.val; omega)
    · exact View.read_writes_cons_unit_of_not_mem v f inb w L (ix2 R p) h 0 (by
        show R.val < o ∨ o + 8 ≤ R.val; omega)

/-- The same of five tiles side by side. -/
theorem put5 (f : v.ty.Contents (Elt Ideal)) (L : List (View.Piece (Elt Ideal) ⟨2, ![N, 1280]⟩ .f32)) {o q : ℕ} {T : ℕ → ℕ → EReal}
    {f0 : Fin 2 → ℕ} (h0 : f0 = ![o, q]) (b0 : ∀ a, f0 a + (![8, 128] : Fin 2 → ℕ) a ≤ (![N, 1280] : Fin 2 → ℕ) a) (w0 : S8x128.Idx → EReal)
    (c0 : ∀ (r : Fin 8) (l : Fin 128), w0 (ix2 r l) = T (q + l.val) (o + r.val))
    {f1 : Fin 2 → ℕ} (h1 : f1 = ![o, q + 128]) (b1 : ∀ a, f1 a + (![8, 128] : Fin 2 → ℕ) a ≤ (![N, 1280] : Fin 2 → ℕ) a) (w1 : S8x128.Idx → EReal)
    (c1 : ∀ (r : Fin 8) (l : Fin 128), w1 (ix2 r l) = T (q + 128 + l.val) (o + r.val))
    {f2 : Fin 2 → ℕ} (h2 : f2 = ![o, q + 256]) (b2 : ∀ a, f2 a + (![8, 128] : Fin 2 → ℕ) a ≤ (![N, 1280] : Fin 2 → ℕ) a) (w2 : S8x128.Idx → EReal)
    (c2 : ∀ (r : Fin 8) (l : Fin 128), w2 (ix2 r l) = T (q + 256 + l.val) (o + r.val))
    {f3 : Fin 2 → ℕ} (h3 : f3 = ![o, q + 384]) (b3 : ∀ a, f3 a + (![8, 128] : Fin 2 → ℕ) a ≤ (![N, 1280] : Fin 2 → ℕ) a) (w3 : S8x128.Idx → EReal)
    (c3 : ∀ (r : Fin 8) (l : Fin 128), w3 (ix2 r l) = T (q + 384 + l.val) (o + r.val))
    {f4 : Fin 2 → ℕ} (h4 : f4 = ![o, q + 512]) (b4 : ∀ a, f4 a + (![8, 128] : Fin 2 → ℕ) a ≤ (![N, 1280] : Fin 2 → ℕ) a) (w4 : S8x128.Idx → EReal)
    (c4 : ∀ (r : Fin 8) (l : Fin 128), w4 (ix2 r l) = T (q + 512 + l.val) (o + r.val))
    (R : Fin N) (p : Fin 1280) :
    v.read (Elt Ideal) (v.writes (Elt Ideal) f (([⟨Rect.unit (s := ⟨2, ![N, 1280]⟩) f4 ![8, 128] b4, w4⟩, ⟨Rect.unit (s := ⟨2, ![N, 1280]⟩) f3 ![8, 128] b3, w3⟩, ⟨Rect.unit (s := ⟨2, ![N, 1280]⟩) f2 ![8, 128] b2, w2⟩, ⟨Rect.unit (s := ⟨2, ![N, 1280]⟩) f1 ![8, 128] b1, w1⟩, ⟨Rect.unit (s := ⟨2, ![N, 1280]⟩) f0 ![8, 128] b0, w0⟩] : List (View.Piece (Elt Ideal) ⟨2, ![N, 1280]⟩ .f32)) ++ L)) (ix2 R p)
      = if (o ≤ R.val ∧ R.val < o + 8) ∧ q ≤ p.val ∧ p.val < q + 640 then T p.val R.val else v.read (Elt Ideal) (v.writes (Elt Ideal) f L) (ix2 R p) := by
  simp only [List.cons_append, List.nil_append]
  rw [put1 v f _ h4 b4 w4 c4, put1 v f _ h3 b3 w3 c3, put1 v f _ h2 b2 w2 c2, put1 v f _ h1 b1 w1 c1, put1 v f _ h0 b0 w0 c0]
  split_ifs <;> first | rfl | omega

end Tiles

/-- Five carried pairs, of five tiles side by side. -/
def Carries (A D : ℕ → ℕ → ℝ) (q n : ℕ) (s : Vec Ideal S8x128 .f32 × Vec Ideal S8x128 .f32 × Vec Ideal S8x128 .f32 × Vec Ideal S8x128 .f32 × Vec Ideal S8x128 .f32 × Vec Ideal S8x128 .f32 × Vec Ideal S8x128 .f32 × Vec Ideal S8x128 .f32 × Vec Ideal S8x128 .f32 × Vec Ideal S8x128 .f32) : Prop :=
  Carry A D q n s.1 s.2.1 ∧ Carry A D (q + 128) n s.2.2.1 s.2.2.2.1 ∧ Carry A D (q + 256) n s.2.2.2.2.1 s.2.2.2.2.2.1 ∧ Carry A D (q + 384) n s.2.2.2.2.2.2.1 s.2.2.2.2.2.2.2.1 ∧ Carry A D (q + 512) n s.2.2.2.2.2.2.2.2.1 s.2.2.2.2.2.2.2.2.2

/-! ## Loop 1 -/

section Loop1

theorem off1_eq : ∀ k : Fin k0_t1_loop.trips, k0_off1 k = ![8 * (127 - k.val), 0] := by decide +kernel
theorem off2_eq : ∀ k : Fin k0_t1_loop.trips, k0_off2 k = ![8 * (127 - k.val), 128] := by decide +kernel
theorem off3_eq : ∀ k : Fin k0_t1_loop.trips, k0_off3 k = ![8 * (127 - k.val), 256] := by decide +kernel
theorem off4_eq : ∀ k : Fin k0_t1_loop.trips, k0_off4 k = ![8 * (127 - k.val), 384] := by decide +kernel
theorem off5_eq : ∀ k : Fin k0_t1_loop.trips, k0_off5 k = ![8 * (127 - k.val), 512] := by decide +kernel
theorem trips1_eq : k0_t1_loop.trips = 128 := by decide +kernel

variable (c : Dev nD) (i : grid0.Coords) (arg1 : Memref sig .tc .vmem S1024x1280 .f32) (harg1 : arg1.IsWhole) (arg2 : Memref sig .tc .vmem S1024x1280 .f32) (harg2 : arg2.IsWhole)
    (arg3 : Memref sig .tc .vmem S1024x1280 .f32) (harg3 : arg3.IsWhole) (arg4 : Memref sig .tc .vmem S8x1280 .f32) (harg4 : arg4.IsWhole)
    (arg5 : Memref sig .tc .vmem S8x1280 .f32) (harg5 : arg5.IsWhole)
    (X1 : BufTy.Contents (Elt Ideal) arg1.view.ty) (X2 : BufTy.Contents (Elt Ideal) arg2.view.ty)

/-- What a trip hands on and stores. -/
theorem trip1_eq (k : Fin k0_t1_loop.trips) (g0 a0 g1 a1 g2 a2 g3 a3 g4 a4 : Vec Ideal S8x128 .f32) :
    tripR_k0_t1 (F := Ideal) Variants.none c none i arg1 harg1 arg2 harg2 arg3 harg3 arg4 harg4 arg5 harg5 rowsV X1 X2 k (g0, a0, g1, a1, g2, a2, g3, a3, g4, a4)
      = (gTop rowsV g0 a0 (arg2.view.readAt (Elt Ideal) (Rect.unit (s := S1024x1280) (k0_off1 k) ![8, 128] (k0_off1_inb k)).toLoadRect X2) (arg1.view.readAt (Elt Ideal) (Rect.unit (s := S1024x1280) (k0_off1 k) ![8, 128] (k0_off1_inb k)).toLoadRect X1), aTop (arg2.view.readAt (Elt Ideal) (Rect.unit (s := S1024x1280) (k0_off1 k) ![8, 128] (k0_off1_inb k)).toLoadRect X2),
          gTop rowsV g1 a1 (arg2.view.readAt (Elt Ideal) (Rect.unit (s := S1024x1280) (k0_off2 k) ![8, 128] (k0_off2_inb k)).toLoadRect X2) (arg1.view.readAt (Elt Ideal) (Rect.unit (s := S1024x1280) (k0_off2 k) ![8, 128] (k0_off2_inb k)).toLoadRect X1), aTop (arg2.view.readAt (Elt Ideal) (Rect.unit (s := S1024x1280) (k0_off2 k) ![8, 128] (k0_off2_inb k)).toLoadRect X2),
          gTop rowsV g2 a2 (arg2.view.readAt (Elt Ideal) (Rect.unit (s := S1024x1280) (k0_off3 k) ![8, 128] (k0_off3_inb k)).toLoadRect X2) (arg1.view.readAt (Elt Ideal) (Rect.unit (s := S1024x1280) (k0_off3 k) ![8, 128] (k0_off3_inb k)).toLoadRect X1), aTop (arg2.view.readAt (Elt Ideal) (Rect.unit (s := S1024x1280) (k0_off3 k) ![8, 128] (k0_off3_inb k)).toLoadRect X2),
          gTop rowsV g3 a3 (arg2.view.readAt (Elt Ideal) (Rect.unit (s := S1024x1280) (k0_off4 k) ![8, 128] (k0_off4_inb k)).toLoadRect X2) (arg1.view.readAt (Elt Ideal) (Rect.unit (s := S1024x1280) (k0_off4 k) ![8, 128] (k0_off4_inb k)).toLoadRect X1), aTop (arg2.view.readAt (Elt Ideal) (Rect.unit (s := S1024x1280) (k0_off4 k) ![8, 128] (k0_off4_inb k)).toLoadRect X2),
          gTop rowsV g4 a4 (arg2.view.readAt (Elt Ideal) (Rect.unit (s := S1024x1280) (k0_off5 k) ![8, 128] (k0_off5_inb k)).toLoadRect X2) (arg1.view.readAt (Elt Ideal) (Rect.unit (s := S1024x1280) (k0_off5 k) ![8, 128] (k0_off5_inb k)).toLoadRect X1), aTop (arg2.view.readAt (Elt Ideal) (Rect.unit (s := S1024x1280) (k0_off5 k) ![8, 128] (k0_off5_inb k)).toLoadRect X2))
    ∧ tripL_k0_t1 (F := Ideal) Variants.none c none i arg1 harg1 arg2 harg2 arg3 harg3 arg4 harg4 arg5 harg5 rowsV X1 X2 k (g0, a0, g1, a1, g2, a2, g3, a3, g4, a4)
      = [⟨Rect.unit (s := S1024x1280) (k0_off5 k) ![8, 128] (k0_off5_inb k), gOf rowsV g4 a4 (arg2.view.readAt (Elt Ideal) (Rect.unit (s := S1024x1280) (k0_off5 k) ![8, 128] (k0_off5_inb k)).toLoadRect X2) (arg1.view.readAt (Elt Ideal) (Rect.unit (s := S1024x1280) (k0_off5 k) ![8, 128] (k0_off5_inb k)).toLoadRect X1)⟩,
          ⟨Rect.unit (s := S1024x1280) (k0_off4 k) ![8, 128] (k0_off4_inb k), gOf rowsV g3 a3 (arg2.view.readAt (Elt Ideal) (Rect.unit (s := S1024x1280) (k0_off4 k) ![8, 128] (k0_off4_inb k)).toLoadRect X2) (arg1.view.readAt (Elt Ideal) (Rect.unit (s := S1024x1280) (k0_off4 k) ![8, 128] (k0_off4_inb k)).toLoadRect X1)⟩,
          ⟨Rect.unit (s := S1024x1280) (k0_off3 k) ![8, 128] (k0_off3_inb k), gOf rowsV g2 a2 (arg2.view.readAt (Elt Ideal) (Rect.unit (s := S1024x1280) (k0_off3 k) ![8, 128] (k0_off3_inb k)).toLoadRect X2) (arg1.view.readAt (Elt Ideal) (Rect.unit (s := S1024x1280) (k0_off3 k) ![8, 128] (k0_off3_inb k)).toLoadRect X1)⟩,
          ⟨Rect.unit (s := S1024x1280) (k0_off2 k) ![8, 128] (k0_off2_inb k), gOf rowsV g1 a1 (arg2.view.readAt (Elt Ideal) (Rect.unit (s := S1024x1280) (k0_off2 k) ![8, 128] (k0_off2_inb k)).toLoadRect X2) (arg1.view.readAt (Elt Ideal) (Rect.unit (s := S1024x1280) (k0_off2 k) ![8, 128] (k0_off2_inb k)).toLoadRect X1)⟩,
          ⟨Rect.unit (s := S1024x1280) (k0_off1 k) ![8, 128] (k0_off1_inb k), gOf rowsV g0 a0 (arg2.view.readAt (Elt Ideal) (Rect.unit (s := S1024x1280) (k0_off1 k) ![8, 128] (k0_off1_inb k)).toLoadRect X2) (arg1.view.readAt (Elt Ideal) (Rect.unit (s := S1024x1280) (k0_off1 k) ![8, 128] (k0_off1_inb k)).toLoadRect X1)⟩] := by
  unfold tripR_k0_t1 tripL_k0_t1 trip_k0_t1
  exact ⟨rfl, rfl⟩

/-- Before trip `k`: the carried pairs of the rows done, and these rows' gradients in the output block. -/
theorem st1_inv (A D : ℕ → ℕ → ℝ) (t : ℕ) (ht : t < 8)
    (hA : ∀ (R : Fin 1024) (p : Fin 1280), arg2.view.read (Elt Ideal) X2 (ix2 R p) = (A p.val (1024 * (7 - t) + R.val) : EReal))
    (hD : ∀ (R : Fin 1024) (p : Fin 1280), arg1.view.read (Elt Ideal) X1 (ix2 R p) = (D p.val (1024 * (7 - t) + R.val) : EReal))
    (init : Vec Ideal S8x128 .f32 × Vec Ideal S8x128 .f32 × Vec Ideal S8x128 .f32 × Vec Ideal S8x128 .f32 × Vec Ideal S8x128 .f32 × Vec Ideal S8x128 .f32 × Vec Ideal S8x128 .f32 × Vec Ideal S8x128 .f32 × Vec Ideal S8x128 .f32 × Vec Ideal S8x128 .f32) (h0 : Carries A D 0 (128 * t) init) :
    ∀ k, k ≤ 128 → Carries A D 0 (128 * t + k) (st_k0_t1 (F := Ideal) Variants.none c none i arg1 harg1 arg2 harg2 arg3 harg3 arg4 harg4 arg5 harg5 rowsV X1 X2 init k).1
      ∧ ∀ (f : BufTy.Contents (Elt Ideal) arg3.view.ty) (R : Fin 1024) (p : Fin 1280), arg3.view.read (Elt Ideal) (arg3.view.writes (Elt Ideal) f (st_k0_t1 (F := Ideal) Variants.none c none i arg1 harg1 arg2 harg2 arg3 harg3 arg4 harg4 arg5 harg5 rowsV X1 X2 init k).2) (ix2 R p)
          = if 1024 - 8 * k ≤ R.val ∧ 0 ≤ p.val ∧ p.val < 0 + 640 then (grad (A p.val) (D p.val) (1024 * (7 - t) + R.val) : EReal) else arg3.view.read (Elt Ideal) f (ix2 R p)
  | 0, _ => ⟨h0, fun f R p => by
      rw [if_neg (by have := R.isLt; omega)]; rfl⟩
  | k + 1, hk => by
    obtain ⟨ih1, ih2⟩ := st1_inv A D t ht hA hD init h0 k (by omega)
    have hkt : k < k0_t1_loop.trips := by rw [trips1_eq]; omega
    have e := st_k0_t1_succ (F := Ideal) Variants.none c none i arg1 harg1 arg2 harg2 arg3 harg3 arg4 harg4 arg5 harg5 rowsV X1 X2 init ⟨k, hkt⟩
    rw [show k + 1 = (⟨k, hkt⟩ : Fin k0_t1_loop.trips).val + 1 from rfl, e]
    change Carries A D 0 (128 * t + k) (st_k0_t1 (F := Ideal) Variants.none c none i arg1 harg1 arg2 harg2 arg3 harg3 arg4 harg4 arg5 harg5 rowsV X1 X2 init (⟨k, hkt⟩ : Fin k0_t1_loop.trips).val).1 at ih1
    change ∀ (f : BufTy.Contents (Elt Ideal) arg3.view.ty) (R : Fin 1024) (p : Fin 1280), arg3.view.read (Elt Ideal) (arg3.view.writes (Elt Ideal) f (st_k0_t1 (F := Ideal) Variants.none c none i arg1 harg1 arg2 harg2 arg3 harg3 arg4 harg4 arg5 harg5 rowsV X1 X2 init (⟨k, hkt⟩ : Fin k0_t1_loop.trips).val).2) (ix2 R p) = _ at ih2
    generalize st_k0_t1 (F := Ideal) Variants.none c none i arg1 harg1 arg2 harg2 arg3 harg3 arg4 harg4 arg5 harg5 rowsV X1 X2 init (⟨k, hkt⟩ : Fin k0_t1_loop.trips).val = s at ih1 ih2 ⊢
    obtain ⟨⟨g0, a0, g1, a1, g2, a2, g3, a3, g4, a4⟩, L⟩ := s
    obtain ⟨eR, eL⟩ := trip1_eq c i arg1 harg1 arg2 harg2 arg3 harg3 arg4 harg4 arg5 harg5 X1 X2 ⟨k, hkt⟩ g0 a0 g1 a1 g2 a2 g3 a3 g4 a4
    dsimp only
    rw [eR, eL]
    obtain ⟨k0, k1, k2, k3, k4⟩ := ih1
    dsimp only at k0 k1 k2 k3 k4 ih2
    clear eR eL e
    have row : ∀ r : Fin 8, 1024 * (7 - t) + (8 * (127 - k) + r.val) = 8 * (1023 - (128 * t + k)) + r.val := fun r => by omega
    have hn : 128 * t + k < 1024 := by omega
    have s0 := k0.step hn (a := (arg2.view.readAt (Elt Ideal) (Rect.unit (s := S1024x1280) (k0_off1 ⟨k, hkt⟩) ![8, 128] (k0_off1_inb ⟨k, hkt⟩)).toLoadRect X2)) (x := (arg1.view.readAt (Elt Ideal) (Rect.unit (s := S1024x1280) (k0_off1 ⟨k, hkt⟩) ![8, 128] (k0_off1_inb ⟨k, hkt⟩)).toLoadRect X1))
      (fun r l => (load_apply arg2.view X2 (off1_eq ⟨k, hkt⟩) (k0_off1_inb ⟨k, hkt⟩) (T := fun p R => (A p (1024 * (7 - t) + R) : EReal)) hA r l).trans (by dsimp only; rw [row]))
      (fun r l => (load_apply arg1.view X1 (off1_eq ⟨k, hkt⟩) (k0_off1_inb ⟨k, hkt⟩) (T := fun p R => (D p (1024 * (7 - t) + R) : EReal)) hD r l).trans (by dsimp only; rw [row]))
    have s1 := k1.step hn (a := (arg2.view.readAt (Elt Ideal) (Rect.unit (s := S1024x1280) (k0_off2 ⟨k, hkt⟩) ![8, 128] (k0_off2_inb ⟨k, hkt⟩)).toLoadRect X2)) (x := (arg1.view.readAt (Elt Ideal) (Rect.unit (s := S1024x1280) (k0_off2 ⟨k, hkt⟩) ![8, 128] (k0_off2_inb ⟨k, hkt⟩)).toLoadRect X1))
      (fun r l => (load_apply arg2.view X2 (off2_eq ⟨k, hkt⟩) (k0_off2_inb ⟨k, hkt⟩) (T := fun p R => (A p (1024 * (7 - t) + R) : EReal)) hA r l).trans (by dsimp only; rw [row]))
      (fun r l => (load_apply arg1.view X1 (off2_eq ⟨k, hkt⟩) (k0_off2_inb ⟨k, hkt⟩) (T := fun p R => (D p (1024 * (7 - t) + R) : EReal)) hD r l).trans (by dsimp only; rw [row]))
    have s2 := k2.step hn (a := (arg2.view.readAt (Elt Ideal) (Rect.unit (s := S1024x1280) (k0_off3 ⟨k, hkt⟩) ![8, 128] (k0_off3_inb ⟨k, hkt⟩)).toLoadRect X2)) (x := (arg1.view.readAt (Elt Ideal) (Rect.unit (s := S1024x1280) (k0_off3 ⟨k, hkt⟩) ![8, 128] (k0_off3_inb ⟨k, hkt⟩)).toLoadRect X1))
      (fun r l => (load_apply arg2.view X2 (off3_eq ⟨k, hkt⟩) (k0_off3_inb ⟨k, hkt⟩) (T := fun p R => (A p (1024 * (7 - t) + R) : EReal)) hA r l).trans (by dsimp only; rw [row]))
      (fun r l => (load_apply arg1.view X1 (off3_eq ⟨k, hkt⟩) (k0_off3_inb ⟨k, hkt⟩) (T := fun p R => (D p (1024 * (7 - t) + R) : EReal)) hD r l).trans (by dsimp only; rw [row]))
    have s3 := k3.step hn (a := (arg2.view.readAt (Elt Ideal) (Rect.unit (s := S1024x1280) (k0_off4 ⟨k, hkt⟩) ![8, 128] (k0_off4_inb ⟨k, hkt⟩)).toLoadRect X2)) (x := (arg1.view.readAt (Elt Ideal) (Rect.unit (s := S1024x1280) (k0_off4 ⟨k, hkt⟩) ![8, 128] (k0_off4_inb ⟨k, hkt⟩)).toLoadRect X1))
      (fun r l => (load_apply arg2.view X2 (off4_eq ⟨k, hkt⟩) (k0_off4_inb ⟨k, hkt⟩) (T := fun p R => (A p (1024 * (7 - t) + R) : EReal)) hA r l).trans (by dsimp only; rw [row]))
      (fun r l => (load_apply arg1.view X1 (off4_eq ⟨k, hkt⟩) (k0_off4_inb ⟨k, hkt⟩) (T := fun p R => (D p (1024 * (7 - t) + R) : EReal)) hD r l).trans (by dsimp only; rw [row]))
    have s4 := k4.step hn (a := (arg2.view.readAt (Elt Ideal) (Rect.unit (s := S1024x1280) (k0_off5 ⟨k, hkt⟩) ![8, 128] (k0_off5_inb ⟨k, hkt⟩)).toLoadRect X2)) (x := (arg1.view.readAt (Elt Ideal) (Rect.unit (s := S1024x1280) (k0_off5 ⟨k, hkt⟩) ![8, 128] (k0_off5_inb ⟨k, hkt⟩)).toLoadRect X1))
      (fun r l => (load_apply arg2.view X2 (off5_eq ⟨k, hkt⟩) (k0_off5_inb ⟨k, hkt⟩) (T := fun p R => (A p (1024 * (7 - t) + R) : EReal)) hA r l).trans (by dsimp only; rw [row]))
      (fun r l => (load_apply arg1.view X1 (off5_eq ⟨k, hkt⟩) (k0_off5_inb ⟨k, hkt⟩) (T := fun p R => (D p (1024 * (7 - t) + R) : EReal)) hD r l).trans (by dsimp only; rw [row]))
    refine ⟨⟨s0.2, s1.2, s2.2, s3.2, s4.2⟩, fun f R p => ?_⟩
    rw [put5 arg3.view f L (q := 0) (T := fun p R => (grad (A p) (D p) (1024 * (7 - t) + R) : EReal))
      (off1_eq ⟨k, hkt⟩) (k0_off1_inb ⟨k, hkt⟩) _ (fun r l => (s0.1 r l).trans (by dsimp only; rw [row]))
      (off2_eq ⟨k, hkt⟩) (k0_off2_inb ⟨k, hkt⟩) _ (fun r l => (s1.1 r l).trans (by dsimp only; rw [row]))
      (off3_eq ⟨k, hkt⟩) (k0_off3_inb ⟨k, hkt⟩) _ (fun r l => (s2.1 r l).trans (by dsimp only; rw [row]))
      (off4_eq ⟨k, hkt⟩) (k0_off4_inb ⟨k, hkt⟩) _ (fun r l => (s3.1 r l).trans (by dsimp only; rw [row]))
      (off5_eq ⟨k, hkt⟩) (k0_off5_inb ⟨k, hkt⟩) _ (fun r l => (s4.1 r l).trans (by dsimp only; rw [row]))
      R p, ih2]
    have := R.isLt
    split_ifs <;> first | rfl | (exfalso; dsimp only at *; omega)

end Loop1

/-! ## Loop 2 -/

section Loop2

theorem off6_eq : ∀ k : Fin k0_t2_loop.trips, k0_off6 k = ![8 * (127 - k.val), 640] := by decide +kernel
theorem off7_eq : ∀ k : Fin k0_t2_loop.trips, k0_off7 k = ![8 * (127 - k.val), 768] := by decide +kernel
theorem off8_eq : ∀ k : Fin k0_t2_loop.trips, k0_off8 k = ![8 * (127 - k.val), 896] := by decide +kernel
theorem off9_eq : ∀ k : Fin k0_t2_loop.trips, k0_off9 k = ![8 * (127 - k.val), 1024] := by decide +kernel
theorem off10_eq : ∀ k : Fin k0_t2_loop.trips, k0_off10 k = ![8 * (127 - k.val), 1152] := by decide +kernel
theorem trips2_eq : k0_t2_loop.trips = 128 := by decide +kernel

variable (c : Dev nD) (i : grid0.Coords) (arg1 : Memref sig .tc .vmem S1024x1280 .f32) (harg1 : arg1.IsWhole) (arg2 : Memref sig .tc .vmem S1024x1280 .f32) (harg2 : arg2.IsWhole)
    (arg3 : Memref sig .tc .vmem S1024x1280 .f32) (harg3 : arg3.IsWhole) (arg4 : Memref sig .tc .vmem S8x1280 .f32) (harg4 : arg4.IsWhole)
    (arg5 : Memref sig .tc .vmem S8x1280 .f32) (harg5 : arg5.IsWhole)
    (v46 v47 v48 v49 v50 : Vec Ideal S8x128 .f32) (X1 : BufTy.Contents (Elt Ideal) arg1.view.ty) (X2 : BufTy.Contents (Elt Ideal) arg2.view.ty)

/-- What a trip hands on and stores. -/
theorem trip2_eq (k : Fin k0_t2_loop.trips) (g0 a0 g1 a1 g2 a2 g3 a3 g4 a4 : Vec Ideal S8x128 .f32) :
    tripR_k0_t2 (F := Ideal) Variants.none c none i arg1 harg1 arg2 harg2 arg3 harg3 arg4 harg4 arg5 harg5 rowsV v46 v47 v48 v49 v50 X1 X2 k (g0, a0, g1, a1, g2, a2, g3, a3, g4, a4)
      = (gTop rowsV g0 a0 (arg2.view.readAt (Elt Ideal) (Rect.unit (s := S1024x1280) (k0_off6 k) ![8, 128] (k0_off6_inb k)).toLoadRect X2) (arg1.view.readAt (Elt Ideal) (Rect.unit (s := S1024x1280) (k0_off6 k) ![8, 128] (k0_off6_inb k)).toLoadRect X1), aTop (arg2.view.readAt (Elt Ideal) (Rect.unit (s := S1024x1280) (k0_off6 k) ![8, 128] (k0_off6_inb k)).toLoadRect X2),
          gTop rowsV g1 a1 (arg2.view.readAt (Elt Ideal) (Rect.unit (s := S1024x1280) (k0_off7 k) ![8, 128] (k0_off7_inb k)).toLoadRect X2) (arg1.view.readAt (Elt Ideal) (Rect.unit (s := S1024x1280) (k0_off7 k) ![8, 128] (k0_off7_inb k)).toLoadRect X1), aTop (arg2.view.readAt (Elt Ideal) (Rect.unit (s := S1024x1280) (k0_off7 k) ![8, 128] (k0_off7_inb k)).toLoadRect X2),
          gTop rowsV g2 a2 (arg2.view.readAt (Elt Ideal) (Rect.unit (s := S1024x1280) (k0_off8 k) ![8, 128] (k0_off8_inb k)).toLoadRect X2) (arg1.view.readAt (Elt Ideal) (Rect.unit (s := S1024x1280) (k0_off8 k) ![8, 128] (k0_off8_inb k)).toLoadRect X1), aTop (arg2.view.readAt (Elt Ideal) (Rect.unit (s := S1024x1280) (k0_off8 k) ![8, 128] (k0_off8_inb k)).toLoadRect X2),
          gTop rowsV g3 a3 (arg2.view.readAt (Elt Ideal) (Rect.unit (s := S1024x1280) (k0_off9 k) ![8, 128] (k0_off9_inb k)).toLoadRect X2) (arg1.view.readAt (Elt Ideal) (Rect.unit (s := S1024x1280) (k0_off9 k) ![8, 128] (k0_off9_inb k)).toLoadRect X1), aTop (arg2.view.readAt (Elt Ideal) (Rect.unit (s := S1024x1280) (k0_off9 k) ![8, 128] (k0_off9_inb k)).toLoadRect X2),
          gTop rowsV g4 a4 (arg2.view.readAt (Elt Ideal) (Rect.unit (s := S1024x1280) (k0_off10 k) ![8, 128] (k0_off10_inb k)).toLoadRect X2) (arg1.view.readAt (Elt Ideal) (Rect.unit (s := S1024x1280) (k0_off10 k) ![8, 128] (k0_off10_inb k)).toLoadRect X1), aTop (arg2.view.readAt (Elt Ideal) (Rect.unit (s := S1024x1280) (k0_off10 k) ![8, 128] (k0_off10_inb k)).toLoadRect X2))
    ∧ tripL_k0_t2 (F := Ideal) Variants.none c none i arg1 harg1 arg2 harg2 arg3 harg3 arg4 harg4 arg5 harg5 rowsV v46 v47 v48 v49 v50 X1 X2 k (g0, a0, g1, a1, g2, a2, g3, a3, g4, a4)
      = [⟨Rect.unit (s := S1024x1280) (k0_off10 k) ![8, 128] (k0_off10_inb k), gOf rowsV g4 a4 (arg2.view.readAt (Elt Ideal) (Rect.unit (s := S1024x1280) (k0_off10 k) ![8, 128] (k0_off10_inb k)).toLoadRect X2) (arg1.view.readAt (Elt Ideal) (Rect.unit (s := S1024x1280) (k0_off10 k) ![8, 128] (k0_off10_inb k)).toLoadRect X1)⟩,
          ⟨Rect.unit (s := S1024x1280) (k0_off9 k) ![8, 128] (k0_off9_inb k), gOf rowsV g3 a3 (arg2.view.readAt (Elt Ideal) (Rect.unit (s := S1024x1280) (k0_off9 k) ![8, 128] (k0_off9_inb k)).toLoadRect X2) (arg1.view.readAt (Elt Ideal) (Rect.unit (s := S1024x1280) (k0_off9 k) ![8, 128] (k0_off9_inb k)).toLoadRect X1)⟩,
          ⟨Rect.unit (s := S1024x1280) (k0_off8 k) ![8, 128] (k0_off8_inb k), gOf rowsV g2 a2 (arg2.view.readAt (Elt Ideal) (Rect.unit (s := S1024x1280) (k0_off8 k) ![8, 128] (k0_off8_inb k)).toLoadRect X2) (arg1.view.readAt (Elt Ideal) (Rect.unit (s := S1024x1280) (k0_off8 k) ![8, 128] (k0_off8_inb k)).toLoadRect X1)⟩,
          ⟨Rect.unit (s := S1024x1280) (k0_off7 k) ![8, 128] (k0_off7_inb k), gOf rowsV g1 a1 (arg2.view.readAt (Elt Ideal) (Rect.unit (s := S1024x1280) (k0_off7 k) ![8, 128] (k0_off7_inb k)).toLoadRect X2) (arg1.view.readAt (Elt Ideal) (Rect.unit (s := S1024x1280) (k0_off7 k) ![8, 128] (k0_off7_inb k)).toLoadRect X1)⟩,
          ⟨Rect.unit (s := S1024x1280) (k0_off6 k) ![8, 128] (k0_off6_inb k), gOf rowsV g0 a0 (arg2.view.readAt (Elt Ideal) (Rect.unit (s := S1024x1280) (k0_off6 k) ![8, 128] (k0_off6_inb k)).toLoadRect X2) (arg1.view.readAt (Elt Ideal) (Rect.unit (s := S1024x1280) (k0_off6 k) ![8, 128] (k0_off6_inb k)).toLoadRect X1)⟩] := by
  unfold tripR_k0_t2 tripL_k0_t2 trip_k0_t2
  exact ⟨rfl, rfl⟩

/-- Before trip `k`: the carried pairs of the rows done, and these rows' gradients in the output block. -/
theorem st2_inv (A D : ℕ → ℕ → ℝ) (t : ℕ) (ht : t < 8)
    (hA : ∀ (R : Fin 1024) (p : Fin 1280), arg2.view.read (Elt Ideal) X2 (ix2 R p) = (A p.val (1024 * (7 - t) + R.val) : EReal))
    (hD : ∀ (R : Fin 1024) (p : Fin 1280), arg1.view.read (Elt Ideal) X1 (ix2 R p) = (D p.val (1024 * (7 - t) + R.val) : EReal))
    (init : Vec Ideal S8x128 .f32 × Vec Ideal S8x128 .f32 × Vec Ideal S8x128 .f32 × Vec Ideal S8x128 .f32 × Vec Ideal S8x128 .f32 × Vec Ideal S8x128 .f32 × Vec Ideal S8x128 .f32 × Vec Ideal S8x128 .f32 × Vec Ideal S8x128 .f32 × Vec Ideal S8x128 .f32) (h0 : Carries A D 640 (128 * t) init) :
    ∀ k, k ≤ 128 → Carries A D 640 (128 * t + k) (st_k0_t2 (F := Ideal) Variants.none c none i arg1 harg1 arg2 harg2 arg3 harg3 arg4 harg4 arg5 harg5 rowsV v46 v47 v48 v49 v50 X1 X2 init k).1
      ∧ ∀ (f : BufTy.Contents (Elt Ideal) arg3.view.ty) (R : Fin 1024) (p : Fin 1280), arg3.view.read (Elt Ideal) (arg3.view.writes (Elt Ideal) f (st_k0_t2 (F := Ideal) Variants.none c none i arg1 harg1 arg2 harg2 arg3 harg3 arg4 harg4 arg5 harg5 rowsV v46 v47 v48 v49 v50 X1 X2 init k).2) (ix2 R p)
          = if 1024 - 8 * k ≤ R.val ∧ 640 ≤ p.val ∧ p.val < 640 + 640 then (grad (A p.val) (D p.val) (1024 * (7 - t) + R.val) : EReal) else arg3.view.read (Elt Ideal) f (ix2 R p)
  | 0, _ => ⟨h0, fun f R p => by
      rw [if_neg (by have := R.isLt; omega)]; rfl⟩
  | k + 1, hk => by
    obtain ⟨ih1, ih2⟩ := st2_inv A D t ht hA hD init h0 k (by omega)
    have hkt : k < k0_t2_loop.trips := by rw [trips2_eq]; omega
    have e := st_k0_t2_succ (F := Ideal) Variants.none c none i arg1 harg1 arg2 harg2 arg3 harg3 arg4 harg4 arg5 harg5 rowsV v46 v47 v48 v49 v50 X1 X2 init ⟨k, hkt⟩
    rw [show k + 1 = (⟨k, hkt⟩ : Fin k0_t2_loop.trips).val + 1 from rfl, e]
    change Carries A D 640 (128 * t + k) (st_k0_t2 (F := Ideal) Variants.none c none i arg1 harg1 arg2 harg2 arg3 harg3 arg4 harg4 arg5 harg5 rowsV v46 v47 v48 v49 v50 X1 X2 init (⟨k, hkt⟩ : Fin k0_t2_loop.trips).val).1 at ih1
    change ∀ (f : BufTy.Contents (Elt Ideal) arg3.view.ty) (R : Fin 1024) (p : Fin 1280), arg3.view.read (Elt Ideal) (arg3.view.writes (Elt Ideal) f (st_k0_t2 (F := Ideal) Variants.none c none i arg1 harg1 arg2 harg2 arg3 harg3 arg4 harg4 arg5 harg5 rowsV v46 v47 v48 v49 v50 X1 X2 init (⟨k, hkt⟩ : Fin k0_t2_loop.trips).val).2) (ix2 R p) = _ at ih2
    generalize st_k0_t2 (F := Ideal) Variants.none c none i arg1 harg1 arg2 harg2 arg3 harg3 arg4 harg4 arg5 harg5 rowsV v46 v47 v48 v49 v50 X1 X2 init (⟨k, hkt⟩ : Fin k0_t2_loop.trips).val = s at ih1 ih2 ⊢
    obtain ⟨⟨g0, a0, g1, a1, g2, a2, g3, a3, g4, a4⟩, L⟩ := s
    obtain ⟨eR, eL⟩ := trip2_eq c i arg1 harg1 arg2 harg2 arg3 harg3 arg4 harg4 arg5 harg5 v46 v47 v48 v49 v50 X1 X2 ⟨k, hkt⟩ g0 a0 g1 a1 g2 a2 g3 a3 g4 a4
    dsimp only
    rw [eR, eL]
    obtain ⟨k0, k1, k2, k3, k4⟩ := ih1
    dsimp only at k0 k1 k2 k3 k4 ih2
    clear eR eL e
    have row : ∀ r : Fin 8, 1024 * (7 - t) + (8 * (127 - k) + r.val) = 8 * (1023 - (128 * t + k)) + r.val := fun r => by omega
    have hn : 128 * t + k < 1024 := by omega
    have s0 := k0.step hn (a := (arg2.view.readAt (Elt Ideal) (Rect.unit (s := S1024x1280) (k0_off6 ⟨k, hkt⟩) ![8, 128] (k0_off6_inb ⟨k, hkt⟩)).toLoadRect X2)) (x := (arg1.view.readAt (Elt Ideal) (Rect.unit (s := S1024x1280) (k0_off6 ⟨k, hkt⟩) ![8, 128] (k0_off6_inb ⟨k, hkt⟩)).toLoadRect X1))
      (fun r l => (load_apply arg2.view X2 (off6_eq ⟨k, hkt⟩) (k0_off6_inb ⟨k, hkt⟩) (T := fun p R => (A p (1024 * (7 - t) + R) : EReal)) hA r l).trans (by dsimp only; rw [row]))
      (fun r l => (load_apply arg1.view X1 (off6_eq ⟨k, hkt⟩) (k0_off6_inb ⟨k, hkt⟩) (T := fun p R => (D p (1024 * (7 - t) + R) : EReal)) hD r l).trans (by dsimp only; rw [row]))
    have s1 := k1.step hn (a := (arg2.view.readAt (Elt Ideal) (Rect.unit (s := S1024x1280) (k0_off7 ⟨k, hkt⟩) ![8, 128] (k0_off7_inb ⟨k, hkt⟩)).toLoadRect X2)) (x := (arg1.view.readAt (Elt Ideal) (Rect.unit (s := S1024x1280) (k0_off7 ⟨k, hkt⟩) ![8, 128] (k0_off7_inb ⟨k, hkt⟩)).toLoadRect X1))
      (fun r l => (load_apply arg2.view X2 (off7_eq ⟨k, hkt⟩) (k0_off7_inb ⟨k, hkt⟩) (T := fun p R => (A p (1024 * (7 - t) + R) : EReal)) hA r l).trans (by dsimp only; rw [row]))
      (fun r l => (load_apply arg1.view X1 (off7_eq ⟨k, hkt⟩) (k0_off7_inb ⟨k, hkt⟩) (T := fun p R => (D p (1024 * (7 - t) + R) : EReal)) hD r l).trans (by dsimp only; rw [row]))
    have s2 := k2.step hn (a := (arg2.view.readAt (Elt Ideal) (Rect.unit (s := S1024x1280) (k0_off8 ⟨k, hkt⟩) ![8, 128] (k0_off8_inb ⟨k, hkt⟩)).toLoadRect X2)) (x := (arg1.view.readAt (Elt Ideal) (Rect.unit (s := S1024x1280) (k0_off8 ⟨k, hkt⟩) ![8, 128] (k0_off8_inb ⟨k, hkt⟩)).toLoadRect X1))
      (fun r l => (load_apply arg2.view X2 (off8_eq ⟨k, hkt⟩) (k0_off8_inb ⟨k, hkt⟩) (T := fun p R => (A p (1024 * (7 - t) + R) : EReal)) hA r l).trans (by dsimp only; rw [row]))
      (fun r l => (load_apply arg1.view X1 (off8_eq ⟨k, hkt⟩) (k0_off8_inb ⟨k, hkt⟩) (T := fun p R => (D p (1024 * (7 - t) + R) : EReal)) hD r l).trans (by dsimp only; rw [row]))
    have s3 := k3.step hn (a := (arg2.view.readAt (Elt Ideal) (Rect.unit (s := S1024x1280) (k0_off9 ⟨k, hkt⟩) ![8, 128] (k0_off9_inb ⟨k, hkt⟩)).toLoadRect X2)) (x := (arg1.view.readAt (Elt Ideal) (Rect.unit (s := S1024x1280) (k0_off9 ⟨k, hkt⟩) ![8, 128] (k0_off9_inb ⟨k, hkt⟩)).toLoadRect X1))
      (fun r l => (load_apply arg2.view X2 (off9_eq ⟨k, hkt⟩) (k0_off9_inb ⟨k, hkt⟩) (T := fun p R => (A p (1024 * (7 - t) + R) : EReal)) hA r l).trans (by dsimp only; rw [row]))
      (fun r l => (load_apply arg1.view X1 (off9_eq ⟨k, hkt⟩) (k0_off9_inb ⟨k, hkt⟩) (T := fun p R => (D p (1024 * (7 - t) + R) : EReal)) hD r l).trans (by dsimp only; rw [row]))
    have s4 := k4.step hn (a := (arg2.view.readAt (Elt Ideal) (Rect.unit (s := S1024x1280) (k0_off10 ⟨k, hkt⟩) ![8, 128] (k0_off10_inb ⟨k, hkt⟩)).toLoadRect X2)) (x := (arg1.view.readAt (Elt Ideal) (Rect.unit (s := S1024x1280) (k0_off10 ⟨k, hkt⟩) ![8, 128] (k0_off10_inb ⟨k, hkt⟩)).toLoadRect X1))
      (fun r l => (load_apply arg2.view X2 (off10_eq ⟨k, hkt⟩) (k0_off10_inb ⟨k, hkt⟩) (T := fun p R => (A p (1024 * (7 - t) + R) : EReal)) hA r l).trans (by dsimp only; rw [row]))
      (fun r l => (load_apply arg1.view X1 (off10_eq ⟨k, hkt⟩) (k0_off10_inb ⟨k, hkt⟩) (T := fun p R => (D p (1024 * (7 - t) + R) : EReal)) hD r l).trans (by dsimp only; rw [row]))
    refine ⟨⟨s0.2, s1.2, s2.2, s3.2, s4.2⟩, fun f R p => ?_⟩
    rw [put5 arg3.view f L (q := 640) (T := fun p R => (grad (A p) (D p) (1024 * (7 - t) + R) : EReal))
      (off6_eq ⟨k, hkt⟩) (k0_off6_inb ⟨k, hkt⟩) _ (fun r l => (s0.1 r l).trans (by dsimp only; rw [row]))
      (off7_eq ⟨k, hkt⟩) (k0_off7_inb ⟨k, hkt⟩) _ (fun r l => (s1.1 r l).trans (by dsimp only; rw [row]))
      (off8_eq ⟨k, hkt⟩) (k0_off8_inb ⟨k, hkt⟩) _ (fun r l => (s2.1 r l).trans (by dsimp only; rw [row]))
      (off9_eq ⟨k, hkt⟩) (k0_off9_inb ⟨k, hkt⟩) _ (fun r l => (s3.1 r l).trans (by dsimp only; rw [row]))
      (off10_eq ⟨k, hkt⟩) (k0_off10_inb ⟨k, hkt⟩) _ (fun r l => (s4.1 r l).trans (by dsimp only; rw [row]))
      R p, ih2]
    have := R.isLt
    split_ifs <;> first | rfl | (exfalso; dsimp only at *; omega)

end Loop2

end Cert.ScanbIdeal.Run
-- ==== Proof.ScanbPoint.lean ====
/-
  One point of the reverse scan over the real numbers: from the two rows the scratch carries, the block of gradients the
  point leaves and the rows it carries on.
-/
module

public import proofs.«01_k».proof.Proof.ScanbTrips

@[expose] public section

set_option maxRecDepth 16384

noncomputable section

namespace Cert.ScanbIdeal.Run

open Idealize.ShloMosaic Idealize.ShloMosaic.TcCoe
open Cert.ScanbIdeal Cert.ScanbIdeal.Gen

/-- Five tiles of the carried gradient and of the carried decay, in turn. -/
abbrev Ten := Vec Ideal S8x128 .f32 × Vec Ideal S8x128 .f32 × Vec Ideal S8x128 .f32 × Vec Ideal S8x128 .f32 × Vec Ideal S8x128 .f32 × Vec Ideal S8x128 .f32 × Vec Ideal S8x128 .f32 × Vec Ideal S8x128 .f32 × Vec Ideal S8x128 .f32 × Vec Ideal S8x128 .f32

/-- What the two scratch rows hold before point `n`: in every lane their product is what the point's last row receives. -/
def Held (A D : ℕ → ℕ → ℝ) (n : ℕ) (g a : Vec Ideal S8x1280 .f32) : Prop :=
  ∀ p : Fin 1280, ∃ x y : ℝ, (∀ r : Fin 8, g (ix2 r p) = (x : EReal)) ∧ (∀ r : Fin 8, a (ix2 r p) = (y : EReal))
    ∧ y * x = tailSum (A p.val) (D p.val) (1024 * n)

/-- The gradients of a point's rows. -/
def Rows (A D : ℕ → ℕ → ℝ) (t : ℕ) (X : Vec Ideal S1024x1280 .f32) : Prop :=
  ∀ (R : Fin 1024) (p : Fin 1280), X (ix2 R p) = (grad (A p.val) (D p.val) (1024 * (7 - t) + R.val) : EReal)

/-! ## Loads of the carried rows -/

section Carried

variable {κ κ' : Kind} {sp sp' : Space}

/-- The tiles at lane `q` of two carried rows. -/
theorem carry_load {A D : ℕ → ℕ → ℝ} {n N : ℕ} (v : View sig κ sp S8x1280 .f32) (v' : View sig κ' sp' S8x1280 .f32)
    (X : v.ty.Contents (Elt Ideal)) (X' : v'.ty.Contents (Elt Ideal)) (hH : Held A D n (v.read (Elt Ideal) X) (v'.read (Elt Ideal) X'))
    (q : ℕ) (inb : ∀ a, (![0, q] : Fin 2 → ℕ) a + (![8, 128] : Fin 2 → ℕ) a ≤ (![8, 1280] : Fin 2 → ℕ) a) (hN : N = 128 * n) :
    Carry A D q N (v.readAt (Elt Ideal) (Rect.unit (s := S8x1280) ![0, q] ![8, 128] inb).toLoadRect X)
      (v'.readAt (Elt Ideal) (Rect.unit (s := S8x1280) ![0, q] ![8, 128] inb).toLoadRect X') := by
  subst hN
  have hq : q + 128 ≤ 1280 := inb 1
  choose x y hx hy hxy using hH
  intro l
  refine ⟨x ⟨q + l.val, by omega⟩, y ⟨q + l.val, by omega⟩, fun r => ?_, fun r => ?_, ?_⟩
  · refine (load_apply (N := 8) v X rfl inb (T := fun p _ => if h : p < 1280 then (x ⟨p, h⟩ : EReal) else 0) (fun R p => ?_) r l).trans ?_
    · rw [dif_pos p.isLt]; exact hx p R
    · exact dif_pos (by omega)
  · refine (load_apply (N := 8) v' X' rfl inb (T := fun p _ => if h : p < 1280 then (y ⟨p, h⟩ : EReal) else 0) (fun R p => ?_) r l).trans ?_
    · rw [dif_pos p.isLt]; exact hy p R
    · exact dif_pos (by omega)
  · rw [hxy, show 8 * (128 * n) = 1024 * n by ring]

/-- The values of a carried pair, lane by lane. -/
theorem Carry.lanes {A D : ℕ → ℕ → ℝ} {q n : ℕ} {cg ca : Vec Ideal S8x128 .f32} (h : Carry A D q n cg ca) :
    ∃ x y : ℕ → ℝ, (∀ (r : Fin 8) (l : Fin 128), cg (ix2 r l) = (x (q + l.val) : EReal)) ∧ (∀ (r : Fin 8) (l : Fin 128), ca (ix2 r l) = (y (q + l.val) : EReal))
      ∧ ∀ p, q ≤ p → p < q + 128 → y p * x p = tailSum (A p) (D p) (8 * n) := by
  choose x y hx hy hxy using h
  have e : ∀ (f : Fin 128 → ℝ) (l : Fin 128), (if h : q + l.val - q < 128 then f ⟨q + l.val - q, h⟩ else 0) = f l := fun f l => by
    rw [dif_pos (by omega)]; congr 1; exact Fin.ext (by show q + l.val - q = l.val; omega)
  refine ⟨fun p => if h : p - q < 128 then x ⟨p - q, h⟩ else 0, fun p => if h : p - q < 128 then y ⟨p - q, h⟩ else 0, fun r l => ?_, fun r l => ?_, fun p h1 h2 => ?_⟩
  · dsimp only; rw [e]; exact hx l r
  · dsimp only; rw [e]; exact hy l r
  · dsimp only; rw [dif_pos (by omega), dif_pos (by omega), hxy]
    rw [show q + (p - q) = p by omega]

/-- One function of the lane from five of neighbouring tiles. -/
def join (q : ℕ) (f0 f1 f2 f3 f4 : ℕ → ℝ) (p : ℕ) : ℝ :=
  if p < q + 128 then f0 p else if p < q + 256 then f1 p else if p < q + 384 then f2 p else if p < q + 512 then f3 p else f4 p

/-- The values of five carried pairs, lane by lane. -/
theorem Carries.lanes {A D : ℕ → ℕ → ℝ} {q n : ℕ} {s : Ten} (h : Carries A D q n s) :
    ∃ x y : ℕ → ℝ, ((∀ (r : Fin 8) (l : Fin 128), s.1 (ix2 r l) = (x (q + l.val) : EReal)) ∧ (∀ (r : Fin 8) (l : Fin 128), s.2.2.1 (ix2 r l) = (x (q + 128 + l.val) : EReal)) ∧ (∀ (r : Fin 8) (l : Fin 128), s.2.2.2.2.1 (ix2 r l) = (x (q + 256 + l.val) : EReal)) ∧ (∀ (r : Fin 8) (l : Fin 128), s.2.2.2.2.2.2.1 (ix2 r l) = (x (q + 384 + l.val) : EReal)) ∧ (∀ (r : Fin 8) (l : Fin 128), s.2.2.2.2.2.2.2.2.1 (ix2 r l) = (x (q + 512 + l.val) : EReal))) ∧ ((∀ (r : Fin 8) (l : Fin 128), s.2.1 (ix2 r l) = (y (q + l.val) : EReal)) ∧ (∀ (r : Fin 8) (l : Fin 128), s.2.2.2.1 (ix2 r l) = (y (q + 128 + l.val) : EReal)) ∧ (∀ (r : Fin 8) (l : Fin 128), s.2.2.2.2.2.1 (ix2 r l) = (y (q + 256 + l.val) : EReal)) ∧ (∀ (r : Fin 8) (l : Fin 128), s.2.2.2.2.2.2.2.1 (ix2 r l) = (y (q + 384 + l.val) : EReal)) ∧ (∀ (r : Fin 8) (l : Fin 128), s.2.2.2.2.2.2.2.2.2 (ix2 r l) = (y (q + 512 + l.val) : EReal))) ∧ ∀ p, q ≤ p → p < q + 640 → y p * x p = tailSum (A p) (D p) (8 * n) := by
  obtain ⟨h0, h1, h2, h3, h4⟩ := h
  obtain ⟨x0, y0, g0, c0, e0⟩ := h0.lanes
  obtain ⟨x1, y1, g1, c1, e1⟩ := h1.lanes
  obtain ⟨x2, y2, g2, c2, e2⟩ := h2.lanes
  obtain ⟨x3, y3, g3, c3, e3⟩ := h3.lanes
  obtain ⟨x4, y4, g4, c4, e4⟩ := h4.lanes
  refine ⟨join q x0 x1 x2 x3 x4, join q y0 y1 y2 y3 y4, ⟨?_, ?_, ?_, ?_, ?_⟩, ⟨?_, ?_, ?_, ?_, ?_⟩, fun p h1 h2 => ?_⟩
  · intro r l; have := l.isLt; unfold join; rw [if_pos (by omega)]; exact g0 r l
  · intro r l; have := l.isLt; unfold join; rw [if_neg (by omega), if_pos (by omega)]; exact g1 r l
  · intro r l; have := l.isLt; unfold join; rw [if_neg (by omega), if_neg (by omega), if_pos (by omega)]; exact g2 r l
  · intro r l; have := l.isLt; unfold join; rw [if_neg (by omega), if_neg (by omega), if_neg (by omega), if_pos (by omega)]; exact g3 r l
  · intro r l; have := l.isLt; unfold join; rw [if_neg (by omega), if_neg (by omega), if_neg (by omega), if_neg (by omega)]; exact g4 r l
  · intro r l; have := l.isLt; unfold join; rw [if_pos (by omega)]; exact c0 r l
  · intro r l; have := l.isLt; unfold join; rw [if_neg (by omega), if_pos (by omega)]; exact c1 r l
  · intro r l; have := l.isLt; unfold join; rw [if_neg (by omega), if_neg (by omega), if_pos (by omega)]; exact c2 r l
  · intro r l; have := l.isLt; unfold join; rw [if_neg (by omega), if_neg (by omega), if_neg (by omega), if_pos (by omega)]; exact c3 r l
  · intro r l; have := l.isLt; unfold join; rw [if_neg (by omega), if_neg (by omega), if_neg (by omega), if_neg (by omega)]; exact c4 r l
  · unfold join
    split_ifs
    · exact e0 p (by omega) (by omega)
    · exact e1 p (by omega) (by omega)
    · exact e2 p (by omega) (by omega)
    · exact e3 p (by omega) (by omega)
    · exact e4 p (by omega) (by omega)

/-! ## Stores of the carried rows -/

/-- A carried tile as the kernel stores it. -/
abbrev same (w : Vec Ideal S8x128 .f32) : FVec Ideal S8x128 .f32 := shapeCast S8x128 w shapeCasts_S8x128_S8x128

theorem same_apply (w : Vec Ideal S8x128 .f32) (r : Fin 8) (l : Fin 128) : same w (ix2 r l) = w (ix2 r l) :=
  congrArg w (Shape.reshapeEquiv_self _ _)

/-- The stores of the carried gradient of the first five tiles -/
abbrev lowG (s : Ten) : List (View.Piece (Elt Ideal) S8x1280 .f32) :=
  [⟨Rect.unit (s := S8x1280) ![0, 512] ![8, 128] inb_S8x1280_S8x128_0_512, same s.2.2.2.2.2.2.2.2.1⟩,
   ⟨Rect.unit (s := S8x1280) ![0, 384] ![8, 128] inb_S8x1280_S8x128_0_384, same s.2.2.2.2.2.2.1⟩,
   ⟨Rect.unit (s := S8x1280) ![0, 256] ![8, 128] inb_S8x1280_S8x128_0_256, same s.2.2.2.2.1⟩,
   ⟨Rect.unit (s := S8x1280) ![0, 128] ![8, 128] inb_S8x1280_S8x128_0_128, same s.2.2.1⟩,
   ⟨Rect.unit (s := S8x1280) ![0, 0] ![8, 128] inb_S8x1280_S8x128_0_0, same s.1⟩]

/-- The stores of the carried decay of the first five tiles -/
abbrev lowA (s : Ten) : List (View.Piece (Elt Ideal) S8x1280 .f32) :=
  [⟨Rect.unit (s := S8x1280) ![0, 512] ![8, 128] inb_S8x1280_S8x128_0_512, same s.2.2.2.2.2.2.2.2.2⟩,
   ⟨Rect.unit (s := S8x1280) ![0, 384] ![8, 128] inb_S8x1280_S8x128_0_384, same s.2.2.2.2.2.2.2.1⟩,
   ⟨Rect.unit (s := S8x1280) ![0, 256] ![8, 128] inb_S8x1280_S8x128_0_256, same s.2.2.2.2.2.1⟩,
   ⟨Rect.unit (s := S8x1280) ![0, 128] ![8, 128] inb_S8x1280_S8x128_0_128, same s.2.2.2.1⟩,
   ⟨Rect.unit (s := S8x1280) ![0, 0] ![8, 128] inb_S8x1280_S8x128_0_0, same s.2.1⟩]

theorem lowG_read (v : View sig κ sp S8x1280 .f32) (f : v.ty.Contents (Elt Ideal)) (L : List (View.Piece (Elt Ideal) S8x1280 .f32)) (s : Ten) (w : ℕ → ℝ)
    (h0 : ∀ (r : Fin 8) (l : Fin 128), s.1 (ix2 r l) = (w (0 + l.val) : EReal)) (h1 : ∀ (r : Fin 8) (l : Fin 128), s.2.2.1 (ix2 r l) = (w (128 + l.val) : EReal)) (h2 : ∀ (r : Fin 8) (l : Fin 128), s.2.2.2.2.1 (ix2 r l) = (w (256 + l.val) : EReal)) (h3 : ∀ (r : Fin 8) (l : Fin 128), s.2.2.2.2.2.2.1 (ix2 r l) = (w (384 + l.val) : EReal)) (h4 : ∀ (r : Fin 8) (l : Fin 128), s.2.2.2.2.2.2.2.2.1 (ix2 r l) = (w (512 + l.val) : EReal))
    (r : Fin 8) (p : Fin 1280) :
    v.read (Elt Ideal) (v.writes (Elt Ideal) f (lowG s ++ L)) (ix2 r p)
      = if 0 ≤ p.val ∧ p.val < 640 then (w p.val : EReal) else v.read (Elt Ideal) (v.writes (Elt Ideal) f L) (ix2 r p) := by
  rw [put5 (N := 8) v f L (o := 0) (q := 0) (T := fun p _ => (w p : EReal)) rfl inb_S8x1280_S8x128_0_0 (same s.1) (fun r l => (same_apply _ r l).trans (h0 r l)) rfl inb_S8x1280_S8x128_0_128 (same s.2.2.1) (fun r l => (same_apply _ r l).trans (h1 r l)) rfl inb_S8x1280_S8x128_0_256 (same s.2.2.2.2.1) (fun r l => (same_apply _ r l).trans (h2 r l)) rfl inb_S8x1280_S8x128_0_384 (same s.2.2.2.2.2.2.1) (fun r l => (same_apply _ r l).trans (h3 r l)) rfl inb_S8x1280_S8x128_0_512 (same s.2.2.2.2.2.2.2.2.1) (fun r l => (same_apply _ r l).trans (h4 r l)) r p]
  have := r.isLt
  split_ifs <;> first | rfl | omega

theorem lowA_read (v : View sig κ sp S8x1280 .f32) (f : v.ty.Contents (Elt Ideal)) (L : List (View.Piece (Elt Ideal) S8x1280 .f32)) (s : Ten) (w : ℕ → ℝ)
    (h0 : ∀ (r : Fin 8) (l : Fin 128), s.2.1 (ix2 r l) = (w (0 + l.val) : EReal)) (h1 : ∀ (r : Fin 8) (l : Fin 128), s.2.2.2.1 (ix2 r l) = (w (128 + l.val) : EReal)) (h2 : ∀ (r : Fin 8) (l : Fin 128), s.2.2.2.2.2.1 (ix2 r l) = (w (256 + l.val) : EReal)) (h3 : ∀ (r : Fin 8) (l : Fin 128), s.2.2.2.2.2.2.2.1 (ix2 r l) = (w (384 + l.val) : EReal)) (h4 : ∀ (r : Fin 8) (l : Fin 128), s.2.2.2.2.2.2.2.2.2 (ix2 r l) = (w (512 + l.val) : EReal))
    (r : Fin 8) (p : Fin 1280) :
    v.read (Elt Ideal) (v.writes (Elt Ideal) f (lowA s ++ L)) (ix2 r p)
      = if 0 ≤ p.val ∧ p.val < 640 then (w p.val : EReal) else v.read (Elt Ideal) (v.writes (Elt Ideal) f L) (ix2 r p) := by
  rw [put5 (N := 8) v f L (o := 0) (q := 0) (T := fun p _ => (w p : EReal)) rfl inb_S8x1280_S8x128_0_0 (same s.2.1) (fun r l => (same_apply _ r l).trans (h0 r l)) rfl inb_S8x1280_S8x128_0_128 (same s.2.2.2.1) (fun r l => (same_apply _ r l).trans (h1 r l)) rfl inb_S8x1280_S8x128_0_256 (same s.2.2.2.2.2.1) (fun r l => (same_apply _ r l).trans (h2 r l)) rfl inb_S8x1280_S8x128_0_384 (same s.2.2.2.2.2.2.2.1) (fun r l => (same_apply _ r l).trans (h3 r l)) rfl inb_S8x1280_S8x128_0_512 (same s.2.2.2.2.2.2.2.2.2) (fun r l => (same_apply _ r l).trans (h4 r l)) r p]
  have := r.isLt
  split_ifs <;> first | rfl | omega

/-- The stores of the carried gradient of the last five tiles -/
abbrev highG (s : Ten) : List (View.Piece (Elt Ideal) S8x1280 .f32) :=
  [⟨Rect.unit (s := S8x1280) ![0, 1152] ![8, 128] inb_S8x1280_S8x128_0_1152, same s.2.2.2.2.2.2.2.2.1⟩,
   ⟨Rect.unit (s := S8x1280) ![0, 1024] ![8, 128] inb_S8x1280_S8x128_0_1024, same s.2.2.2.2.2.2.1⟩,
   ⟨Rect.unit (s := S8x1280) ![0, 896] ![8, 128] inb_S8x1280_S8x128_0_896, same s.2.2.2.2.1⟩,
   ⟨Rect.unit (s := S8x1280) ![0, 768] ![8, 128] inb_S8x1280_S8x128_0_768, same s.2.2.1⟩,
   ⟨Rect.unit (s := S8x1280) ![0, 640] ![8, 128] inb_S8x1280_S8x128_0_640, same s.1⟩]

/-- The stores of the carried decay of the last five tiles -/
abbrev highA (s : Ten) : List (View.Piece (Elt Ideal) S8x1280 .f32) :=
  [⟨Rect.unit (s := S8x1280) ![0, 1152] ![8, 128] inb_S8x1280_S8x128_0_1152, same s.2.2.2.2.2.2.2.2.2⟩,
   ⟨Rect.unit (s := S8x1280) ![0, 1024] ![8, 128] inb_S8x1280_S8x128_0_1024, same s.2.2.2.2.2.2.2.1⟩,
   ⟨Rect.unit (s := S8x1280) ![0, 896] ![8, 128] inb_S8x1280_S8x128_0_896, same s.2.2.2.2.2.1⟩,
   ⟨Rect.unit (s := S8x1280) ![0, 768] ![8, 128] inb_S8x1280_S8x128_0_768, same s.2.2.2.1⟩,
   ⟨Rect.unit (s := S8x1280) ![0, 640] ![8, 128] inb_S8x1280_S8x128_0_640, same s.2.1⟩]

theorem highG_read (v : View sig κ sp S8x1280 .f32) (f : v.ty.Contents (Elt Ideal)) (L : List (View.Piece (Elt Ideal) S8x1280 .f32)) (s : Ten) (w : ℕ → ℝ)
    (h0 : ∀ (r : Fin 8) (l : Fin 128), s.1 (ix2 r l) = (w (640 + l.val) : EReal)) (h1 : ∀ (r : Fin 8) (l : Fin 128), s.2.2.1 (ix2 r l) = (w (768 + l.val) : EReal)) (h2 : ∀ (r : Fin 8) (l : Fin 128), s.2.2.2.2.1 (ix2 r l) = (w (896 + l.val) : EReal)) (h3 : ∀ (r : Fin 8) (l : Fin 128), s.2.2.2.2.2.2.1 (ix2 r l) = (w (1024 + l.val) : EReal)) (h4 : ∀ (r : Fin 8) (l : Fin 128), s.2.2.2.2.2.2.2.2.1 (ix2 r l) = (w (1152 + l.val) : EReal))
    (r : Fin 8) (p : Fin 1280) :
    v.read (Elt Ideal) (v.writes (Elt Ideal) f (highG s ++ L)) (ix2 r p)
      = if 640 ≤ p.val ∧ p.val < 1280 then (w p.val : EReal) else v.read (Elt Ideal) (v.writes (Elt Ideal) f L) (ix2 r p) := by
  rw [put5 (N := 8) v f L (o := 0) (q := 640) (T := fun p _ => (w p : EReal)) rfl inb_S8x1280_S8x128_0_640 (same s.1) (fun r l => (same_apply _ r l).trans (h0 r l)) rfl inb_S8x1280_S8x128_0_768 (same s.2.2.1) (fun r l => (same_apply _ r l).trans (h1 r l)) rfl inb_S8x1280_S8x128_0_896 (same s.2.2.2.2.1) (fun r l => (same_apply _ r l).trans (h2 r l)) rfl inb_S8x1280_S8x128_0_1024 (same s.2.2.2.2.2.2.1) (fun r l => (same_apply _ r l).trans (h3 r l)) rfl inb_S8x1280_S8x128_0_1152 (same s.2.2.2.2.2.2.2.2.1) (fun r l => (same_apply _ r l).trans (h4 r l)) r p]
  have := r.isLt
  split_ifs <;> first | rfl | omega

theorem highA_read (v : View sig κ sp S8x1280 .f32) (f : v.ty.Contents (Elt Ideal)) (L : List (View.Piece (Elt Ideal) S8x1280 .f32)) (s : Ten) (w : ℕ → ℝ)
    (h0 : ∀ (r : Fin 8) (l : Fin 128), s.2.1 (ix2 r l) = (w (640 + l.val) : EReal)) (h1 : ∀ (r : Fin 8) (l : Fin 128), s.2.2.2.1 (ix2 r l) = (w (768 + l.val) : EReal)) (h2 : ∀ (r : Fin 8) (l : Fin 128), s.2.2.2.2.2.1 (ix2 r l) = (w (896 + l.val) : EReal)) (h3 : ∀ (r : Fin 8) (l : Fin 128), s.2.2.2.2.2.2.2.1 (ix2 r l) = (w (1024 + l.val) : EReal)) (h4 : ∀ (r : Fin 8) (l : Fin 128), s.2.2.2.2.2.2.2.2.2 (ix2 r l) = (w (1152 + l.val) : EReal))
    (r : Fin 8) (p : Fin 1280) :
    v.read (Elt Ideal) (v.writes (Elt Ideal) f (highA s ++ L)) (ix2 r p)
      = if 640 ≤ p.val ∧ p.val < 1280 then (w p.val : EReal) else v.read (Elt Ideal) (v.writes (Elt Ideal) f L) (ix2 r p) := by
  rw [put5 (N := 8) v f L (o := 0) (q := 640) (T := fun p _ => (w p : EReal)) rfl inb_S8x1280_S8x128_0_640 (same s.2.1) (fun r l => (same_apply _ r l).trans (h0 r l)) rfl inb_S8x1280_S8x128_0_768 (same s.2.2.2.1) (fun r l => (same_apply _ r l).trans (h1 r l)) rfl inb_S8x1280_S8x128_0_896 (same s.2.2.2.2.2.1) (fun r l => (same_apply _ r l).trans (h2 r l)) rfl inb_S8x1280_S8x128_0_1024 (same s.2.2.2.2.2.2.2.1) (fun r l => (same_apply _ r l).trans (h3 r l)) rfl inb_S8x1280_S8x128_0_1152 (same s.2.2.2.2.2.2.2.2.2) (fun r l => (same_apply _ r l).trans (h4 r l)) r p]
  have := r.isLt
  split_ifs <;> first | rfl | omega

/-- After the stores of all ten tiles the scratch holds what the next point needs. -/
theorem held_put {A D : ℕ → ℕ → ℝ} {n N : ℕ} (v : View sig κ sp S8x1280 .f32) (v' : View sig κ' sp' S8x1280 .f32)
    (f : v.ty.Contents (Elt Ideal)) (f' : v'.ty.Contents (Elt Ideal)) (L L' : List (View.Piece (Elt Ideal) S8x1280 .f32)) (s s' : Ten)
    (h : Carries A D 0 N s) (h' : Carries A D 640 N s') (hN : N = 128 * n) :
    Held A D n (v.read (Elt Ideal) (v.writes (Elt Ideal) f (highG s' ++ (lowG s ++ L)))) (v'.read (Elt Ideal) (v'.writes (Elt Ideal) f' (highA s' ++ (lowA s ++ L')))) := by
  subst hN
  obtain ⟨x, y, ⟨g0, g1, g2, g3, g4⟩, ⟨c0, c1, c2, c3, c4⟩, e⟩ := h.lanes
  obtain ⟨x', y', ⟨g0', g1', g2', g3', g4'⟩, ⟨c0', c1', c2', c3', c4'⟩, e'⟩ := h'.lanes
  intro p
  have hp := p.isLt
  by_cases hq : 640 ≤ p.val
  · refine ⟨x' p.val, y' p.val, fun r => ?_, fun r => ?_, ?_⟩
    · rw [highG_read v f _ s' x' g0' g1' g2' g3' g4', if_pos (by omega)]
    · rw [highA_read v' f' _ s' y' c0' c1' c2' c3' c4', if_pos (by omega)]
    · rw [e' p.val hq (by omega), show 8 * (128 * n) = 1024 * n by ring]
  · refine ⟨x p.val, y p.val, fun r => ?_, fun r => ?_, ?_⟩
    · rw [highG_read v f _ s' x' g0' g1' g2' g3' g4', if_neg (by omega), lowG_read v f _ s x g0 g1 g2 g3 g4, if_pos (by omega)]
    · rw [highA_read v' f' _ s' y' c0' c1' c2' c3' c4', if_neg (by omega), lowA_read v' f' _ s y c0 c1 c2 c3 c4, if_pos (by omega)]
    · rw [e p.val (by omega) (by omega), show 8 * (128 * n) = 1024 * n by ring]

end Carried

/-! ## A point -/

section Point

variable (c : Dev nD) (i : grid0.Coords) (arg1 : Memref sig .tc .vmem S1024x1280 .f32) (harg1 : arg1.IsWhole) (arg2 : Memref sig .tc .vmem S1024x1280 .f32) (harg2 : arg2.IsWhole)
    (arg3 : Memref sig .tc .vmem S1024x1280 .f32) (harg3 : arg3.IsWhole) (arg4 : Memref sig .tc .vmem S8x1280 .f32) (harg4 : arg4.IsWhole)
    (arg5 : Memref sig .tc .vmem S8x1280 .f32) (harg5 : arg5.IsWhole)
    (X1 : BufTy.Contents (Elt Ideal) arg1.view.ty) (X2 : BufTy.Contents (Elt Ideal) arg2.view.ty)
    (v46 v47 v48 v49 v50 : Vec Ideal S8x128 .f32)

/-- The two loops after each other: the block of gradients and the rows carried on. -/
theorem point {A D : ℕ → ℕ → ℝ} {t : ℕ} (ht : t < 8)
    (hA : ∀ (R : Fin 1024) (p : Fin 1280), arg2.view.read (Elt Ideal) X2 (ix2 R p) = (A p.val (1024 * (7 - t) + R.val) : EReal))
    (hD : ∀ (R : Fin 1024) (p : Fin 1280), arg1.view.read (Elt Ideal) X1 (ix2 R p) = (D p.val (1024 * (7 - t) + R.val) : EReal))
    (s1 s2 : Ten) (h1 : Carries A D 0 (128 * t) s1) (h2 : Carries A D 640 (128 * t) s2) (N : ℕ) (hN : N = 128) (L L' : List (View.Piece (Elt Ideal) S8x1280 .f32)) (f3 f4 f5) :
    Rows A D t (arg3.view.read (Elt Ideal) (arg3.view.writes (Elt Ideal) f3
        ((st_k0_t2 (F := Ideal) Variants.none c none i arg1 harg1 arg2 harg2 arg3 harg3 arg4 harg4 arg5 harg5 rowsV v46 v47 v48 v49 v50 X1 X2 s2 N).2 ++ (st_k0_t1 (F := Ideal) Variants.none c none i arg1 harg1 arg2 harg2 arg3 harg3 arg4 harg4 arg5 harg5 rowsV X1 X2 s1 N).2)))
      ∧ Held A D (t + 1) (arg4.view.read (Elt Ideal) (arg4.view.writes (Elt Ideal) f4 (highG (st_k0_t2 (F := Ideal) Variants.none c none i arg1 harg1 arg2 harg2 arg3 harg3 arg4 harg4 arg5 harg5 rowsV v46 v47 v48 v49 v50 X1 X2 s2 N).1 ++ (lowG (st_k0_t1 (F := Ideal) Variants.none c none i arg1 harg1 arg2 harg2 arg3 harg3 arg4 harg4 arg5 harg5 rowsV X1 X2 s1 N).1 ++ L))))
          (arg5.view.read (Elt Ideal) (arg5.view.writes (Elt Ideal) f5 (highA (st_k0_t2 (F := Ideal) Variants.none c none i arg1 harg1 arg2 harg2 arg3 harg3 arg4 harg4 arg5 harg5 rowsV v46 v47 v48 v49 v50 X1 X2 s2 N).1 ++ (lowA (st_k0_t1 (F := Ideal) Variants.none c none i arg1 harg1 arg2 harg2 arg3 harg3 arg4 harg4 arg5 harg5 rowsV X1 X2 s1 N).1 ++ L')))) := by
  subst hN
  obtain ⟨a1, b1⟩ := st1_inv c i arg1 harg1 arg2 harg2 arg3 harg3 arg4 harg4 arg5 harg5 X1 X2 A D t ht hA hD s1 h1 128 le_rfl
  obtain ⟨a2, b2⟩ := st2_inv c i arg1 harg1 arg2 harg2 arg3 harg3 arg4 harg4 arg5 harg5 v46 v47 v48 v49 v50 X1 X2 A D t ht hA hD s2 h2 128 le_rfl
  refine ⟨fun R p => ?_, held_put _ _ _ _ _ _ _ _ a1 a2 (by ring)⟩
  have hp := p.isLt
  rw [View.writes_append, b2]
  by_cases hq : 640 ≤ p.val
  · rw [if_pos (by omega)]
  · rw [if_neg (by omega), b1, if_pos (by omega)]

end Point

end Cert.ScanbIdeal.Run

end
-- ==== Proof.ScanbValue.lean ====
/-
  The result of the reverse scan over the real numbers: every point keeps the recurrence, so the result array is the
  gradient of every row.
-/
module

public import proofs.«01_k».proof.Proof.ScanbRun
public import proofs.«01_k».proof.Proof.ScanbPoint
public import Idealize.ShloMosaic.Lib.Pipeline.ArrRel

@[expose] public section

set_option maxRecDepth 16384

noncomputable section

namespace Cert.ScanbIdeal.Run

open Cert.RowLib Idealize.ShloMosaic Idealize.ShloMosaic.TcCoe Idealize.SL.Sem
open Idealize.ShloMosaic.Pipeline (RDat Dat Cfg Window cellOf)
open Cert.ScanbIdeal Cert.ScanbIdeal.Gen

/-- The real numbers of an array's entries, by column and row. -/
def reals (x : S8192x1280.Idx → EReal) (p R : ℕ) : ℝ :=
  if h : R < 8192 ∧ p < 1280 then (x (ix2 (⟨R, h.1⟩ : Fin 8192) (⟨p, h.2⟩ : Fin 1280))).toReal else 0

theorem reals_eq {x : S8192x1280.Idx → EReal} (hx : IsReal x) (R : Fin 8192) (p : Fin 1280) : x (ix2 R p) = (reals x p.val R.val : EReal) := by
  unfold reals
  rw [dif_pos ⟨R.isLt, p.isLt⟩]
  obtain ⟨r, hr⟩ := hx (ix2 R p)
  show x (ix2 R p) = ((x (ix2 R p)).toReal : EReal)
  rw [hr, EReal.toReal_coe]

/-- The gradients of all rows, of the gradient given and the decays. -/
def grads (dh a : S8192x1280.Idx → EReal) : S8192x1280.Idx → EReal :=
  fun j => (grad (reals a (j 1).val) (reals dh (j 1).val) (j 0).val : EReal)

variable (m : (ℓ : Loc nD τ sig) → Buf (Elt Ideal) ℓ) (ρ : Dev nD → PrngReg)

abbrev dhOf (c : Dev nD) : S8192x1280.Idx → EReal := m ((c.tc : Thread nD τ).loc main_arg0)
abbrev aOf (c : Dev nD) : S8192x1280.Idx → EReal := m ((c.tc : Thread nD τ).loc main_arg1)

/-! ## The blocks of the arguments -/

theorem at0 : ∀ t : Fin grid0.N, win0_0.index t 0 = 7 - t.val ∧ win0_0.index t 1 = 0 := by decide +kernel
theorem at1 : ∀ t : Fin grid0.N, win0_1.index t 0 = 7 - t.val ∧ win0_1.index t 1 = 0 := by decide +kernel
theorem at2 : ∀ t : Fin grid0.N, win0_2.index t 0 = 7 - t.val ∧ win0_2.index t 1 = 0 := by decide +kernel

theorem iblk0_apply (c : Dev nD) (t : Fin cfg0.N) (hx : IsReal (dhOf m c)) (R : Fin 1024) (p : Fin 1280) :
    iblk m c 0 t (ix2 R p) = (reals (dhOf m c) p.val (1024 * (7 - t.val) + R.val) : EReal) := by
  refine Eq.trans ?_ (reals_eq hx (⟨1024 * (7 - t.val) + R.val, by omega⟩ : Fin 8192) p)
  unfold iblk
  rw [View.read_apply, cast_eq]
  refine congrArg (V m c main_arg0) (Shape.idx_ext₂ ?_ ?_)
  · refine (Pipeline.Window.rect_emb_val win0_0 t _ 0).trans ((congrArg (· * 1024 + R.val) (at0 t).1).trans ?_)
    show (7 - t.val) * 1024 + R.val = 1024 * (7 - t.val) + R.val
    rw [mul_comm]
  · exact Pipeline.Window.rect_emb_val_of_index_zero win0_0 t 1 (at0 t).2 _

theorem iblk1_apply (c : Dev nD) (t : Fin cfg0.N) (hx : IsReal (aOf m c)) (R : Fin 1024) (p : Fin 1280) :
    iblk m c 1 t (ix2 R p) = (reals (aOf m c) p.val (1024 * (7 - t.val) + R.val) : EReal) := by
  refine Eq.trans ?_ (reals_eq hx (⟨1024 * (7 - t.val) + R.val, by omega⟩ : Fin 8192) p)
  unfold iblk
  rw [View.read_apply, cast_eq]
  refine congrArg (V m c main_arg1) (Shape.idx_ext₂ ?_ ?_)
  · refine (Pipeline.Window.rect_emb_val win0_1 t _ 0).trans ((congrArg (· * 1024 + R.val) (at1 t).1).trans ?_)
    show (7 - t.val) * 1024 + R.val = 1024 * (7 - t.val) + R.val
    rw [mul_comm]
  · exact Pipeline.Window.rect_emb_val_of_index_zero win0_1 t 1 (at1 t).2 _

/-! ## Every point keeps the recurrence -/

theorem trips_eq : Scf.trips (0#32) (Scalar.addi 0#32 128#32) 1#32 = 128 := by decide +kernel

/-- The scratch as the first point clears it. -/
theorem held_zero (A D : ℕ → ℕ → ℝ) (g a : Vec Ideal S8x1280 .f32) (hg : ∀ (r : Fin 8) (p : Fin 1280), g (ix2 r p) = 0) (ha : ∀ (r : Fin 8) (p : Fin 1280), a (ix2 r p) = 0) :
    Held A D 0 g a := fun p => ⟨0, 0, fun r => hg r p, fun r => ha r p, by rw [mul_zero, mul_zero]; rfl⟩

section Zero

variable {κ κ' : Kind} {sp sp' : Space}

theorem zero_row (v : View sig κ sp S8x1280 .f32) (f : v.ty.Contents (Elt Ideal)) (w : Vec Ideal S8x1280 .f32) (hw : ∀ j, w j = 0) (r : Fin 8) (p : Fin 1280) :
    v.read (Elt Ideal) (v.writes (Elt Ideal) f [⟨Rect.unit ![0, 0] S8x1280.size inb_S8x1280_S8x1280_0_0, w⟩]) (ix2 r p) = 0 :=
  (View.read_writes_cons_unit_of_mem v f inb_S8x1280_S8x1280_0_0 w [] (ix2 r p) (ix2 r p) rfl (fun a => by
    fin_cases a
    · show r.val = 0 + r.val; omega
    · show p.val = 0 + p.val; omega)).trans (hw _)

theorem pay103_apply (j) : k0_pay103 (F := Ideal) j = 0 := by
  show Ideal.ofBits .f32 0x00000000#32 = _; simp [Ideal.ofBits, Ideal.ieee]
theorem pay104_apply (j) : k0_pay104 (F := Ideal) j = 0 := by
  show Ideal.ofBits .f32 0x00000000#32 = _; simp [Ideal.ofBits, Ideal.ieee]

/-- The last five tiles after the first point's stores of the first five: still clear. -/
theorem carry_clear {A D : ℕ → ℕ → ℝ} {N : ℕ} (v : View sig κ sp S8x1280 .f32) (v' : View sig κ' sp' S8x1280 .f32)
    (f : v.ty.Contents (Elt Ideal)) (f' : v'.ty.Contents (Elt Ideal)) (L L' : List (View.Piece (Elt Ideal) S8x1280 .f32)) (s : Ten) (h : Carries A D 0 N s)
    (hz : ∀ (r : Fin 8) (p : Fin 1280), v.read (Elt Ideal) (v.writes (Elt Ideal) f L) (ix2 r p) = 0)
    (hz' : ∀ (r : Fin 8) (p : Fin 1280), v'.read (Elt Ideal) (v'.writes (Elt Ideal) f' L') (ix2 r p) = 0)
    (q : ℕ) (inb : ∀ a, (![0, q] : Fin 2 → ℕ) a + (![8, 128] : Fin 2 → ℕ) a ≤ (![8, 1280] : Fin 2 → ℕ) a) (hq : 640 ≤ q) :
    Carry A D q 0 (v.readAt (Elt Ideal) (Rect.unit (s := S8x1280) ![0, q] ![8, 128] inb).toLoadRect (v.writes (Elt Ideal) f (lowG s ++ L)))
      (v'.readAt (Elt Ideal) (Rect.unit (s := S8x1280) ![0, q] ![8, 128] inb).toLoadRect (v'.writes (Elt Ideal) f' (lowA s ++ L'))) := by
  obtain ⟨x, y, ⟨g0, g1, g2, g3, g4⟩, ⟨c0, c1, c2, c3, c4⟩, e⟩ := h.lanes
  intro l
  refine ⟨0, 0, fun r => ?_, fun r => ?_, by rw [mul_zero, mul_zero]; rfl⟩
  · refine (load_apply (N := 8) v _ rfl inb (T := fun p _ => if 0 ≤ p ∧ p < 0 + 640 then (x p : EReal) else 0) (fun R p => ?_) r l).trans (if_neg (by omega))
    rw [lowG_read v f L s x g0 g1 g2 g3 g4, hz]
  · refine (load_apply (N := 8) v' _ rfl inb (T := fun p _ => if 0 ≤ p ∧ p < 0 + 640 then (y p : EReal) else 0) (fun R p => ?_) r l).trans (if_neg (by omega))
    rw [lowA_read v' f' L' s y c0 c1 c2 c3 c4, hz']

end Zero

section Cases

variable (c : Dev nD) (i : grid0.Coords) (arg1 : Memref sig .tc .vmem S1024x1280 .f32) (harg1 : arg1.IsWhole) (arg2 : Memref sig .tc .vmem S1024x1280 .f32) (harg2 : arg2.IsWhole)
    (arg3 : Memref sig .tc .vmem S1024x1280 .f32) (harg3 : arg3.IsWhole) (arg4 : Memref sig .tc .vmem S8x1280 .f32) (harg4 : arg4.IsWhole)
    (arg5 : Memref sig .tc .vmem S8x1280 .f32) (harg5 : arg5.IsWhole)

theorem later_keeps {A D : ℕ → ℕ → ℝ} {t : ℕ} (ht : t < 8) (h : ¬ atFirst i) (x0 x1 : Vec Ideal S1024x1280 .f32) (g a : Vec Ideal S8x1280 .f32)
    (hA : ∀ (R : Fin 1024) (p : Fin 1280), x1 (ix2 R p) = (A p.val (1024 * (7 - t) + R.val) : EReal))
    (hD : ∀ (R : Fin 1024) (p : Fin 1280), x0 (ix2 R p) = (D p.val (1024 * (7 - t) + R.val) : EReal))
    (hH : Held A D t g a) (f3 f4 f5) :
    Rows A D t (arg3.view.read (Elt Ideal) (arg3.view.writes (Elt Ideal) f3 (later (F := Ideal) c i arg1 harg1 arg2 harg2 arg3 harg3 arg4 harg4 arg5 harg5 h x0 x1 g a).1))
      ∧ Held A D (t + 1) (arg4.view.read (Elt Ideal) (arg4.view.writes (Elt Ideal) f4 (later (F := Ideal) c i arg1 harg1 arg2 harg2 arg3 harg3 arg4 harg4 arg5 harg5 h x0 x1 g a).2.1))
          (arg5.view.read (Elt Ideal) (arg5.view.writes (Elt Ideal) f5 (later (F := Ideal) c i arg1 harg1 arg2 harg2 arg3 harg3 arg4 harg4 arg5 harg5 h x0 x1 g a).2.2.1)) := by
  unfold later
  dsimp only
  have hH' : Held A D t (arg4.view.read (Elt Ideal) (harg4.unread g)) (arg5.view.read (Elt Ideal) (harg5.unread a)) := by
    rw [harg4.read_unread, harg5.read_unread]; exact hH
  exact point c i arg1 harg1 arg2 harg2 arg3 harg3 arg4 harg4 arg5 harg5 (harg1.unread x0) (harg2.unread x1) _ _ _ _ _ ht
    (fun R p => by rw [harg2.read_unread]; exact hA R p) (fun R p => by rw [harg1.read_unread]; exact hD R p) _ _
    ⟨carry_load arg4.view arg5.view _ _ hH' 0 inb_S8x1280_S8x128_0_0 rfl, carry_load arg4.view arg5.view _ _ hH' 128 inb_S8x1280_S8x128_0_128 rfl, carry_load arg4.view arg5.view _ _ hH' 256 inb_S8x1280_S8x128_0_256 rfl, carry_load arg4.view arg5.view _ _ hH' 384 inb_S8x1280_S8x128_0_384 rfl, carry_load arg4.view arg5.view _ _ hH' 512 inb_S8x1280_S8x128_0_512 rfl⟩
    ⟨carry_load arg4.view arg5.view _ _ hH' 640 inb_S8x1280_S8x128_0_640 rfl, carry_load arg4.view arg5.view _ _ hH' 768 inb_S8x1280_S8x128_0_768 rfl, carry_load arg4.view arg5.view _ _ hH' 896 inb_S8x1280_S8x128_0_896 rfl, carry_load arg4.view arg5.view _ _ hH' 1024 inb_S8x1280_S8x128_0_1024 rfl, carry_load arg4.view arg5.view _ _ hH' 1152 inb_S8x1280_S8x128_0_1152 rfl⟩
    (Scf.trips (0#32) (Scalar.addi 0#32 128#32) 1#32) trips_eq [] [] f3 f4 f5

set_option maxHeartbeats 1000000 in
/-- The carried pairs after the first loop, at the first point. -/
abbrev mid (x0 x1 : Vec Ideal S1024x1280 .f32) : Ten :=
  (st_k0_t1 (F := Ideal) Variants.none c none i arg1 harg1 arg2 harg2 arg3 harg3 arg4 harg4 arg5 harg5 rowsV (harg1.unread x0) (harg2.unread x1) (first.sl.v4 (F := Ideal) c arg4, first.sl.v5 c arg5, first.sl.v6 c arg4, first.sl.v7 c arg5, first.sl.v8 c arg4, first.sl.v9 c arg5, first.sl.v10 c arg4, first.sl.v11 c arg5, first.sl.v12 c arg4, first.sl.v13 c arg5) (Scf.trips (0#32) (Scalar.addi 0#32 128#32) 1#32)).1

abbrev clearG : List (View.Piece (Elt Ideal) S8x1280 .f32) := [⟨Rect.unit ![0, 0] S8x1280.size inb_S8x1280_S8x1280_0_0, k0_pay103 (F := Ideal)⟩]
abbrev clearA : List (View.Piece (Elt Ideal) S8x1280 .f32) := [⟨Rect.unit ![0, 0] S8x1280.size inb_S8x1280_S8x1280_0_0, k0_pay104 (F := Ideal)⟩]

theorem HS0_6_eq (x0 x1 : Vec Ideal S1024x1280 .f32) : first.sl.HS0_6 (F := Ideal) c i arg1 harg1 arg2 harg2 arg3 harg3 arg4 harg4 arg5 harg5 x0 x1 = lowG (mid c i arg1 harg1 arg2 harg2 arg3 harg3 arg4 harg4 arg5 harg5 x0 x1) ++ clearG := by
  unfold first.sl.HS0_6
  rfl
theorem HS1_6_eq (x0 x1 : Vec Ideal S1024x1280 .f32) : first.sl.HS1_6 (F := Ideal) c i arg1 harg1 arg2 harg2 arg3 harg3 arg4 harg4 arg5 harg5 x0 x1 = lowA (mid c i arg1 harg1 arg2 harg2 arg3 harg3 arg4 harg4 arg5 harg5 x0 x1) ++ clearA := by
  unfold first.sl.HS1_6
  rfl
theorem v46_eq (x0 x1 : Vec Ideal S1024x1280 .f32) : first.sl.v46 (F := Ideal) c i arg1 harg1 arg2 harg2 arg3 harg3 arg4 harg4 arg5 harg5 x0 x1 = arg4.view.readAt (Elt Ideal) (Rect.unit (s := S8x1280) ![0, 640] ![8, 128] inb_S8x1280_S8x128_0_640).toLoadRect (arg4.view.writes (Elt Ideal) arg4.view.junk (lowG (mid c i arg1 harg1 arg2 harg2 arg3 harg3 arg4 harg4 arg5 harg5 x0 x1) ++ clearG)) := by
  unfold first.sl.v46
  rw [HS0_6_eq]
  rfl
theorem v47_eq (x0 x1 : Vec Ideal S1024x1280 .f32) : first.sl.v47 (F := Ideal) c i arg1 harg1 arg2 harg2 arg3 harg3 arg4 harg4 arg5 harg5 x0 x1 = arg5.view.readAt (Elt Ideal) (Rect.unit (s := S8x1280) ![0, 640] ![8, 128] inb_S8x1280_S8x128_0_640).toLoadRect (arg5.view.writes (Elt Ideal) arg5.view.junk (lowA (mid c i arg1 harg1 arg2 harg2 arg3 harg3 arg4 harg4 arg5 harg5 x0 x1) ++ clearA)) := by
  unfold first.sl.v47
  rw [HS1_6_eq]
  rfl
theorem v48_eq (x0 x1 : Vec Ideal S1024x1280 .f32) : first.sl.v48 (F := Ideal) c i arg1 harg1 arg2 harg2 arg3 harg3 arg4 harg4 arg5 harg5 x0 x1 = arg4.view.readAt (Elt Ideal) (Rect.unit (s := S8x1280) ![0, 768] ![8, 128] inb_S8x1280_S8x128_0_768).toLoadRect (arg4.view.writes (Elt Ideal) arg4.view.junk (lowG (mid c i arg1 harg1 arg2 harg2 arg3 harg3 arg4 harg4 arg5 harg5 x0 x1) ++ clearG)) := by
  unfold first.sl.v48
  rw [HS0_6_eq]
  rfl
theorem v49_eq (x0 x1 : Vec Ideal S1024x1280 .f32) : first.sl.v49 (F := Ideal) c i arg1 harg1 arg2 harg2 arg3 harg3 arg4 harg4 arg5 harg5 x0 x1 = arg5.view.readAt (Elt Ideal) (Rect.unit (s := S8x1280) ![0, 768] ![8, 128] inb_S8x1280_S8x128_0_768).toLoadRect (arg5.view.writes (Elt Ideal) arg5.view.junk (lowA (mid c i arg1 harg1 arg2 harg2 arg3 harg3 arg4 harg4 arg5 harg5 x0 x1) ++ clearA)) := by
  unfold first.sl.v49
  rw [HS1_6_eq]
  rfl
theorem v50_eq (x0 x1 : Vec Ideal S1024x1280 .f32) : first.sl.v50 (F := Ideal) c i arg1 harg1 arg2 harg2 arg3 harg3 arg4 harg4 arg5 harg5 x0 x1 = arg4.view.readAt (Elt Ideal) (Rect.unit (s := S8x1280) ![0, 896] ![8, 128] inb_S8x1280_S8x128_0_896).toLoadRect (arg4.view.writes (Elt Ideal) arg4.view.junk (lowG (mid c i arg1 harg1 arg2 harg2 arg3 harg3 arg4 harg4 arg5 harg5 x0 x1) ++ clearG)) := by
  unfold first.sl.v50
  rw [HS0_6_eq]
  rfl
theorem v51_eq (x0 x1 : Vec Ideal S1024x1280 .f32) : first.sl.v51 (F := Ideal) c i arg1 harg1 arg2 harg2 arg3 harg3 arg4 harg4 arg5 harg5 x0 x1 = arg5.view.readAt (Elt Ideal) (Rect.unit (s := S8x1280) ![0, 896] ![8, 128] inb_S8x1280_S8x128_0_896).toLoadRect (arg5.view.writes (Elt Ideal) arg5.view.junk (lowA (mid c i arg1 harg1 arg2 harg2 arg3 harg3 arg4 harg4 arg5 harg5 x0 x1) ++ clearA)) := by
  unfold first.sl.v51
  rw [HS1_6_eq]
  rfl
theorem v52_eq (x0 x1 : Vec Ideal S1024x1280 .f32) : first.sl.v52 (F := Ideal) c i arg1 harg1 arg2 harg2 arg3 harg3 arg4 harg4 arg5 harg5 x0 x1 = arg4.view.readAt (Elt Ideal) (Rect.unit (s := S8x1280) ![0, 1024] ![8, 128] inb_S8x1280_S8x128_0_1024).toLoadRect (arg4.view.writes (Elt Ideal) arg4.view.junk (lowG (mid c i arg1 harg1 arg2 harg2 arg3 harg3 arg4 harg4 arg5 harg5 x0 x1) ++ clearG)) := by
  unfold first.sl.v52
  rw [HS0_6_eq]
  rfl
theorem v53_eq (x0 x1 : Vec Ideal S1024x1280 .f32) : first.sl.v53 (F := Ideal) c i arg1 harg1 arg2 harg2 arg3 harg3 arg4 harg4 arg5 harg5 x0 x1 = arg5.view.readAt (Elt Ideal) (Rect.unit (s := S8x1280) ![0, 1024] ![8, 128] inb_S8x1280_S8x128_0_1024).toLoadRect (arg5.view.writes (Elt Ideal) arg5.view.junk (lowA (mid c i arg1 harg1 arg2 harg2 arg3 harg3 arg4 harg4 arg5 harg5 x0 x1) ++ clearA)) := by
  unfold first.sl.v53
  rw [HS1_6_eq]
  rfl
theorem v54_eq (x0 x1 : Vec Ideal S1024x1280 .f32) : first.sl.v54 (F := Ideal) c i arg1 harg1 arg2 harg2 arg3 harg3 arg4 harg4 arg5 harg5 x0 x1 = arg4.view.readAt (Elt Ideal) (Rect.unit (s := S8x1280) ![0, 1152] ![8, 128] inb_S8x1280_S8x128_0_1152).toLoadRect (arg4.view.writes (Elt Ideal) arg4.view.junk (lowG (mid c i arg1 harg1 arg2 harg2 arg3 harg3 arg4 harg4 arg5 harg5 x0 x1) ++ clearG)) := by
  unfold first.sl.v54
  rw [HS0_6_eq]
  rfl
theorem v55_eq (x0 x1 : Vec Ideal S1024x1280 .f32) : first.sl.v55 (F := Ideal) c i arg1 harg1 arg2 harg2 arg3 harg3 arg4 harg4 arg5 harg5 x0 x1 = arg5.view.readAt (Elt Ideal) (Rect.unit (s := S8x1280) ![0, 1152] ![8, 128] inb_S8x1280_S8x128_0_1152).toLoadRect (arg5.view.writes (Elt Ideal) arg5.view.junk (lowA (mid c i arg1 harg1 arg2 harg2 arg3 harg3 arg4 harg4 arg5 harg5 x0 x1) ++ clearA)) := by
  unfold first.sl.v55
  rw [HS1_6_eq]
  rfl
set_option maxHeartbeats 1000000 in
theorem first_keeps {A D : ℕ → ℕ → ℝ} (h : atFirst i) (x0 x1 : Vec Ideal S1024x1280 .f32)
    (hA : ∀ (R : Fin 1024) (p : Fin 1280), x1 (ix2 R p) = (A p.val (1024 * (7 - 0) + R.val) : EReal))
    (hD : ∀ (R : Fin 1024) (p : Fin 1280), x0 (ix2 R p) = (D p.val (1024 * (7 - 0) + R.val) : EReal))
    (f3 f4 f5) :
    Rows A D 0 (arg3.view.read (Elt Ideal) (arg3.view.writes (Elt Ideal) f3 (first (F := Ideal) c i arg1 harg1 arg2 harg2 arg3 harg3 arg4 harg4 arg5 harg5 h x0 x1).1))
      ∧ Held A D 1 (arg4.view.read (Elt Ideal) (arg4.view.writes (Elt Ideal) f4 (first (F := Ideal) c i arg1 harg1 arg2 harg2 arg3 harg3 arg4 harg4 arg5 harg5 h x0 x1).2.1))
          (arg5.view.read (Elt Ideal) (arg5.view.writes (Elt Ideal) f5 (first (F := Ideal) c i arg1 harg1 arg2 harg2 arg3 harg3 arg4 harg4 arg5 harg5 h x0 x1).2.2.1)) := by
  have z4 := fun f => zero_row arg4.view f (k0_pay103 (F := Ideal)) pay103_apply
  have z5 := fun f => zero_row arg5.view f (k0_pay104 (F := Ideal)) pay104_apply
  have hH := held_zero A D _ _ (z4 arg4.view.junk) (z5 arg5.view.junk)
  have hA' : ∀ (R : Fin 1024) (p : Fin 1280), arg2.view.read (Elt Ideal) (harg2.unread x1) (ix2 R p) = (A p.val (1024 * (7 - 0) + R.val) : EReal) := fun R p => by
    rw [harg2.read_unread]; exact hA R p
  have hD' : ∀ (R : Fin 1024) (p : Fin 1280), arg1.view.read (Elt Ideal) (harg1.unread x0) (ix2 R p) = (D p.val (1024 * (7 - 0) + R.val) : EReal) := fun R p => by
    rw [harg1.read_unread]; exact hD R p
  have h1 : Carries A D 0 (128 * 0) (first.sl.v4 (F := Ideal) c arg4, first.sl.v5 c arg5, first.sl.v6 c arg4, first.sl.v7 c arg5, first.sl.v8 c arg4, first.sl.v9 c arg5, first.sl.v10 c arg4, first.sl.v11 c arg5, first.sl.v12 c arg4, first.sl.v13 c arg5) :=
    ⟨carry_load arg4.view arg5.view _ _ hH 0 inb_S8x1280_S8x128_0_0 rfl, carry_load arg4.view arg5.view _ _ hH 128 inb_S8x1280_S8x128_0_128 rfl, carry_load arg4.view arg5.view _ _ hH 256 inb_S8x1280_S8x128_0_256 rfl, carry_load arg4.view arg5.view _ _ hH 384 inb_S8x1280_S8x128_0_384 rfl, carry_load arg4.view arg5.view _ _ hH 512 inb_S8x1280_S8x128_0_512 rfl⟩
  have a1 : Carries A D 0 (128 * 0 + (Scf.trips (0#32) (Scalar.addi 0#32 128#32) 1#32)) (mid c i arg1 harg1 arg2 harg2 arg3 harg3 arg4 harg4 arg5 harg5 x0 x1) := (st1_inv c i arg1 harg1 arg2 harg2 arg3 harg3 arg4 harg4 arg5 harg5 (harg1.unread x0) (harg2.unread x1) A D 0 (by decide) hA' hD' _ h1 (Scf.trips (0#32) (Scalar.addi 0#32 128#32) 1#32) trips_eq.le).1
  have h2 : Carries A D 640 (128 * 0) (first.sl.v46 (F := Ideal) c i arg1 harg1 arg2 harg2 arg3 harg3 arg4 harg4 arg5 harg5 x0 x1, first.sl.v47 (F := Ideal) c i arg1 harg1 arg2 harg2 arg3 harg3 arg4 harg4 arg5 harg5 x0 x1, first.sl.v48 (F := Ideal) c i arg1 harg1 arg2 harg2 arg3 harg3 arg4 harg4 arg5 harg5 x0 x1, first.sl.v49 (F := Ideal) c i arg1 harg1 arg2 harg2 arg3 harg3 arg4 harg4 arg5 harg5 x0 x1, first.sl.v50 (F := Ideal) c i arg1 harg1 arg2 harg2 arg3 harg3 arg4 harg4 arg5 harg5 x0 x1, first.sl.v51 (F := Ideal) c i arg1 harg1 arg2 harg2 arg3 harg3 arg4 harg4 arg5 harg5 x0 x1, first.sl.v52 (F := Ideal) c i arg1 harg1 arg2 harg2 arg3 harg3 arg4 harg4 arg5 harg5 x0 x1, first.sl.v53 (F := Ideal) c i arg1 harg1 arg2 harg2 arg3 harg3 arg4 harg4 arg5 harg5 x0 x1, first.sl.v54 (F := Ideal) c i arg1 harg1 arg2 harg2 arg3 harg3 arg4 harg4 arg5 harg5 x0 x1, first.sl.v55 (F := Ideal) c i arg1 harg1 arg2 harg2 arg3 harg3 arg4 harg4 arg5 harg5 x0 x1) := by
    refine ⟨?_, ?_, ?_, ?_, ?_⟩
    · dsimp only
      rw [v46_eq, v47_eq]
      exact carry_clear arg4.view arg5.view _ _ _ _ _ a1 (z4 arg4.view.junk) (z5 arg5.view.junk) 640 inb_S8x1280_S8x128_0_640 (by decide)
    · dsimp only
      rw [v48_eq, v49_eq]
      exact carry_clear arg4.view arg5.view _ _ _ _ _ a1 (z4 arg4.view.junk) (z5 arg5.view.junk) 768 inb_S8x1280_S8x128_0_768 (by decide)
    · dsimp only
      rw [v50_eq, v51_eq]
      exact carry_clear arg4.view arg5.view _ _ _ _ _ a1 (z4 arg4.view.junk) (z5 arg5.view.junk) 896 inb_S8x1280_S8x128_0_896 (by decide)
    · dsimp only
      rw [v52_eq, v53_eq]
      exact carry_clear arg4.view arg5.view _ _ _ _ _ a1 (z4 arg4.view.junk) (z5 arg5.view.junk) 1024 inb_S8x1280_S8x128_0_1024 (by decide)
    · dsimp only
      rw [v54_eq, v55_eq]
      exact carry_clear arg4.view arg5.view _ _ _ _ _ a1 (z4 arg4.view.junk) (z5 arg5.view.junk) 1152 inb_S8x1280_S8x128_0_1152 (by decide)
  have h3 := point c i arg1 harg1 arg2 harg2 arg3 harg3 arg4 harg4 arg5 harg5 (harg1.unread x0) (harg2.unread x1) (first.sl.v46 (F := Ideal) c i arg1 harg1 arg2 harg2 arg3 harg3 arg4 harg4 arg5 harg5 x0 x1) (first.sl.v47 (F := Ideal) c i arg1 harg1 arg2 harg2 arg3 harg3 arg4 harg4 arg5 harg5 x0 x1) (first.sl.v48 (F := Ideal) c i arg1 harg1 arg2 harg2 arg3 harg3 arg4 harg4 arg5 harg5 x0 x1) (first.sl.v49 (F := Ideal) c i arg1 harg1 arg2 harg2 arg3 harg3 arg4 harg4 arg5 harg5 x0 x1) (first.sl.v50 (F := Ideal) c i arg1 harg1 arg2 harg2 arg3 harg3 arg4 harg4 arg5 harg5 x0 x1) (by decide) hA' hD' (first.sl.v4 (F := Ideal) c arg4, first.sl.v5 c arg5, first.sl.v6 c arg4, first.sl.v7 c arg5, first.sl.v8 c arg4, first.sl.v9 c arg5, first.sl.v10 c arg4, first.sl.v11 c arg5, first.sl.v12 c arg4, first.sl.v13 c arg5) (first.sl.v46 (F := Ideal) c i arg1 harg1 arg2 harg2 arg3 harg3 arg4 harg4 arg5 harg5 x0 x1, first.sl.v47 (F := Ideal) c i arg1 harg1 arg2 harg2 arg3 harg3 arg4 harg4 arg5 harg5 x0 x1, first.sl.v48 (F := Ideal) c i arg1 harg1 arg2 harg2 arg3 harg3 arg4 harg4 arg5 harg5 x0 x1, first.sl.v49 (F := Ideal) c i arg1 harg1 arg2 harg2 arg3 harg3 arg4 harg4 arg5 harg5 x0 x1, first.sl.v50 (F := Ideal) c i arg1 harg1 arg2 harg2 arg3 harg3 arg4 harg4 arg5 harg5 x0 x1, first.sl.v51 (F := Ideal) c i arg1 harg1 arg2 harg2 arg3 harg3 arg4 harg4 arg5 harg5 x0 x1, first.sl.v52 (F := Ideal) c i arg1 harg1 arg2 harg2 arg3 harg3 arg4 harg4 arg5 harg5 x0 x1, first.sl.v53 (F := Ideal) c i arg1 harg1 arg2 harg2 arg3 harg3 arg4 harg4 arg5 harg5 x0 x1, first.sl.v54 (F := Ideal) c i arg1 harg1 arg2 harg2 arg3 harg3 arg4 harg4 arg5 harg5 x0 x1, first.sl.v55 (F := Ideal) c i arg1 harg1 arg2 harg2 arg3 harg3 arg4 harg4 arg5 harg5 x0 x1) h1 h2 (Scf.trips (0#32) (Scalar.addi 0#32 128#32) 1#32) trips_eq clearG clearA f3 f4 f5
  unfold first
  dsimp only
  rw [HS0_6_eq, HS1_6_eq]
  exact h3
end Cases

/-! ## The run -/

theorem kept (c : Dev nD) (hd : IsReal (dhOf m c)) (ha : IsReal (aOf m c)) :
    Kept m (Held (reals (aOf m c)) (reals (dhOf m c))) (fun t => Rows (reals (aOf m c)) (reals (dhOf m c)) t.val) c where
  first t h f2 f3 f4 h0 := by
    have := first_keeps (A := reals (aOf m c)) (D := reals (dhOf m c)) c (grid0.coords t) (win0_0.stage (cfg0.slots t 0)) (hstage0_0 ((cfg0.slots t 0).cast nbuf0_0))
      (win0_1.stage (cfg0.slots t 1)) (hstage0_1 ((cfg0.slots t 1).cast nbuf0_1)) (out t) (hstage0_2 ((cfg0.slots t 2).cast nbuf0_2))
      carG (Memref.isWhole_whole _) carA (Memref.isWhole_whole _) h (iblk m c 0 t) (iblk m c 1 t)
      (fun R p => by rw [← h0]; exact iblk1_apply m c t ha R p) (fun R p => by rw [← h0]; exact iblk0_apply m c t hd R p) f2 f3 f4
    rw [h0]
    exact this
  later t h g a f2 f3 f4 h0 hS :=
    later_keeps (A := reals (aOf m c)) (D := reals (dhOf m c)) c (grid0.coords t) (win0_0.stage (cfg0.slots t 0)) (hstage0_0 ((cfg0.slots t 0).cast nbuf0_0))
      (win0_1.stage (cfg0.slots t 1)) (hstage0_1 ((cfg0.slots t 1).cast nbuf0_1)) (out t) (hstage0_2 ((cfg0.slots t 2).cast nbuf0_2))
      carG (Memref.isWhole_whole _) carA (Memref.isWhole_whole _) (lt_of_lt_of_eq t.isLt N_0) h (iblk m c 0 t) (iblk m c 1 t) g a
      (fun R p => iblk1_apply m c t ha R p) (fun R p => iblk0_apply m c t hd R p) hS f2 f3 f4

theorem idx_inj2 : ∀ t t' : Fin cfg0.N, win0_2.index t = win0_2.index t' → t = t' :=
  (by decide +kernel : ∀ t t' : Fin grid0.N, win0_2.index t = win0_2.index t' → t = t')

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

theorem flush2 : ∀ t : Fin cfg0.N, (cfg0.win 2).flush t = true :=
  (by decide +kernel : ∀ t : Fin grid0.N, win0_2.flush t = true)

/-- The result array is the gradients of all rows, whatever the data's blocks, provided they hold the gradients. -/
theorem array_eq (c : Dev nD) (d : Dat τ (Elt Ideal) Unit ℕ (UR sig nD τ) ℕ cfg0 c) (dh a : S8192x1280.Idx → EReal)
    (h : ∀ t, Rows (reals a) (reals dh) t.val (d.after 2 t)) : d.arrAt 2 cfg0.N = grads dh a := by
  refine ext2 fun i p => ?_
  obtain ⟨t, R, e⟩ : ∃ (t : Fin cfg0.N) (R : Fin 1024), i.val = 1024 * (7 - t.val) + R.val :=
    ⟨⟨7 - i.val / 1024, lt_of_lt_of_eq (by omega) N_0.symm⟩, ⟨i.val % 1024, by omega⟩, by show i.val = 1024 * (7 - (7 - i.val / 1024)) + i.val % 1024; omega⟩
  have hb := congrFun (d.read_blk_arrAt_eq_flushed 2 disjoint2 cfg0.N t t.isLt (flush2 t)) (ix2 R p)
  rw [View.read_apply, cast_eq] at hb
  have he : ((cfg0.win 2).blk t).view.emb (ix2 R p) = (ix2 i p : S8192x1280.Idx) := by
    refine Shape.idx_ext₂ ?_ ?_
    · refine (Pipeline.Window.rect_emb_val win0_2 t _ 0).trans ((congrArg (· * 1024 + R.val) (at2 t).1).trans ?_)
      show (7 - t.val) * 1024 + R.val = i.val
      rw [e, mul_comm]
    · exact Pipeline.Window.rect_emb_val_of_index_zero win0_2 t 1 (at2 t).2 _
  rw [he] at hb
  refine hb.trans ((h t R p).trans ?_)
  show (grad (reals a p.val) (reals dh p.val) (1024 * (7 - t.val) + R.val) : EReal) = (grad (reals a p.val) (reals dh p.val) i.val : EReal)
  rw [← e]

set_option backward.isDefEq.respectTransparency.types false in
/-- The result array holds the gradient of every row; the arguments are unchanged. -/
theorem value (hd : ∀ c, IsReal (dhOf m c)) (ha : ∀ c, IsReal (aOf m c)) :
    θ_run defs (onTc (τ := τ) (main (F := Ideal))) ⟨m, fun _ => 0, ρ⟩ fun r => ∀ c : Dev nD,
      r.2.mem ((c.tc : Thread nD τ).loc main_v0) = grads (dhOf m c) (aOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, RDat.FramePost.arr_in h.1 c 0 rfl, RDat.FramePost.arr_in h.1 c 1 rfl⟩)
    (run_data m ρ (fun c => Held (reals (aOf m c)) (reals (dhOf m c))) (fun c t => Rows (reals (aOf m c)) (reals (dhOf m c)) t.val) (fun c => kept m c (hd c) (ha c)))
  obtain ⟨after, hl, hm⟩ := RDat.FramePost.exists_exact h.1 c
  refine (hm 2).trans (array_eq c _ (dhOf m c) (aOf m c) fun t => ?_)
  obtain ⟨Y, -, hq⟩ := hl 2 t (flush2 t)
  rw [after_2] at hq
  exact hq

end Cert.ScanbIdeal.Run

end
-- ==== Proof.ScanbRefValue.lean ====
/-
  The reference's loop over the rows, last to first, over the real numbers: after `n` trips the carried row is what row
  `8191 - n` receives from the row below it, and the last `n` rows of the result hold their gradients.
-/
module

public import proofs.«01_k».proof.Proof.ScanbValue
public import proofs.«01_k».proof.Proof.Gen.ScanbRefIdeal.Run
public import Idealize.ShloMosaic.Lib.WordCmp
public import Idealize.ShloMosaic.Lib.Pointwise.ShapeOpsCore

@[expose] public section

set_option maxRecDepth 16384

noncomputable section

namespace Cert.ScanbRefIdeal.Rows

open Cert.RowLib Idealize.ShloMosaic Idealize.ShloMosaic.TcCoe Idealize.SL.Sem Idealize.ShloMosaic.StableHlo
open Cert.ScanbRefIdeal Cert.ScanbRefIdeal.Gen Cert.ScanbRefIdeal.Value
open Cert.ScanbIdeal.Run (tailSum grad reals reals_eq grads)

/-! ## A row of an array -/

/-- The row number of trip `j`, as a word. -/
theorem word_eq (j : ℕ) (hj : j < 8192) : ((8192#32 - BitVec.ofNat 32 j) - 1#32 : BitVec 32).toInt = ((8191 - j : ℕ) : ℤ) := by
  have e : (8192#32 - BitVec.ofNat 32 j) - 1#32 = BitVec.ofNat 32 (8191 - j) := by
    apply BitVec.eq_of_toNat_eq
    simp only [BitVec.toNat_sub, BitVec.toNat_ofNat]
    omega
  rw [e, BitVec.toInt_eq_toNat_of_lt (by rw [BitVec.toNat_ofNat]; omega), BitVec.toNat_ofNat]
  congr 1
  omega

theorem fits (j : ℕ) : S8192x1280.Slices ![8191 - j, 0] S1x1280 := by
  refine ⟨rfl, fun a => ?_⟩
  fin_cases a
  · show 8191 - j + 1 ≤ 8192; omega
  · show 0 + 1280 ≤ 1280; omega

theorem slice_apply (x : S8192x1280.Idx → EReal) (st : Fin 2 → ℤ) (j : ℕ) (h0 : st 0 = ((8191 - j : ℕ) : ℤ)) (h1 : st 1 = 0) (p : Fin 1280) :
    shapeCast S1280 (Host.dynamicSlice S1x1280 x st sliceFits_S8192x1280_S1x1280) shapeCasts_S1x1280_S1280 (ix1 p) = x (ix2 (⟨8191 - j, by omega⟩ : Fin 8192) p) := by
  rw [WordCmp.dynamicSlice_eq_extract S1x1280 x st sliceFits_S8192x1280_S1x1280 ![8191 - j, 0] (fits j) (fun a => by
    fin_cases a
    · exact h0
    · exact h1)]
  unfold shapeCast extractStridedSlice
  rw [Shape.reshapeEquiv_cons_one (n := 1) (d := ![1280])]
  refine congrArg x (Shape.idx_ext₂ ?_ ?_)
  · show 8191 - j + 0 = 8191 - j; omega
  · show 0 + p.val = p.val; omega

theorem update_apply (x : S8192x1280.Idx → EReal) (w : S1280.Idx → EReal) (st : Fin 2 → ℤ) (j : ℕ) (h0 : st 0 = ((8191 - j : ℕ) : ℤ)) (h1 : st 1 = 0) (R : Fin 8192) (p : Fin 1280) :
    Host.dynamicUpdateSlice x (broadcastInDim S1x1280 ![1] bcast_S1280_S1x1280_1 w) st updateFits_S8192x1280_S1x1280 (ix2 R p)
      = if R.val = 8191 - j then w (ix1 p) else x (ix2 R p) := by
  rw [WordCmp.dynamicUpdateSlice_eq_update x _ st updateFits_S8192x1280_S1x1280 ![8191 - j, 0] (fits j) (fun a => by
    fin_cases a
    · exact h0
    · exact h1), updateSlice_apply]
  by_cases hR : R.val = 8191 - j
  · rw [if_pos hR, dif_pos (fun a => by
      fin_cases a
      · show 8191 - j ≤ R.val ∧ R.val < 8191 - j + 1; omega
      · show 0 ≤ p.val ∧ p.val < 0 + 1280; omega)]
    rw [broadcastInDim_apply ![1] bcast_S1280_S1x1280_1 w _ (ix1 p) (fun b => by
      fin_cases b
      rw [if_neg (by decide)]
      exact (Nat.sub_zero p.val).symm)]
  · rw [if_neg hR, dif_neg (fun h => hR (by
      have h := h 0
      change 8191 - j ≤ R.val ∧ R.val < 8191 - j + 1 at h
      omega))]

/-! ## The loop -/

variable (dh a : S8192x1280.Idx → EReal)

abbrev dhOf (V : Valuation τ sig (Elt Ideal)) : S8192x1280.Idx → EReal := V (Proc.devRef .tc main_v2_0)
abbrev aOf (V : Valuation τ sig (Elt Ideal)) : S8192x1280.Idx → EReal := V (Proc.devRef .tc main_v2_1)
abbrev ctrOf (V : Valuation τ sig (Elt Ideal)) : S_.Idx → BitVec 32 := V (Proc.devRef .tc main_v2_2)
abbrev rowOf (V : Valuation τ sig (Elt Ideal)) : S1280.Idx → EReal := V (Proc.devRef .tc main_v2_3)
abbrev resOf (V : Valuation τ sig (Elt Ideal)) : S8192x1280.Idx → EReal := V (Proc.devRef .tc main_v2_4)

/-- The buffers after `n` trips. -/
structure AfterTrips (n : ℕ) (V : Valuation τ sig (Elt Ideal)) : Prop where
  dh_eq : dhOf V = dh
  a_eq : aOf V = a
  ctr : ctrOf V = fun _ => BitVec.ofNat 32 n
  row : ∀ p : Fin 1280, rowOf V (ix1 p) = (tailSum (reals a p.val) (reals dh p.val) n : EReal)
  res : ∀ (R : Fin 8192) (p : Fin 1280), 8192 - n ≤ R.val → resOf V (ix2 R p) = (grad (reals a p.val) (reals dh p.val) R.val : EReal)

variable {dh a}

/-- The corner of the row a trip works on. -/
def starts (V : Valuation τ sig (Elt Ideal)) : Fin 2 → ℤ :=
  fun k => (((![res_main_while0b_v4 V, constantI S_ 32 0#32] : Fin 2 → (⟨S_, .i32⟩ : BufTy).Contents (Elt Ideal))) k (Shape.Idx.first h_S_)).toInt

theorem start0 {n : ℕ} (hn : n < 8192) {V : Valuation τ sig (Elt Ideal)} (h : AfterTrips dh a n V) : starts V 0 = ((8191 - n : ℕ) : ℤ) := by
  unfold starts
  show ((8192#32 - ctrOf V (Shape.Idx.first h_S_)) - 1#32 : BitVec 32).toInt = _
  rw [h.ctr]
  exact word_eq n hn

theorem start1 (V : Valuation τ sig (Elt Ideal)) : starts V 1 = 0 := rfl

/-- The row a trip forms: the gradient of its row. -/
theorem v7_apply {n : ℕ} (hn : n < 8192) (hd : IsReal dh) {V : Valuation τ sig (Elt Ideal)} (h : AfterTrips dh a n V) (p : Fin 1280) :
    (res_main_while0b_v7 V : S1280.Idx → EReal) (ix1 p) = (grad (reals a p.val) (reals dh p.val) (8191 - n) : EReal) := by
  unfold res_main_while0b_v7
  show rowOf V (ix1 p) + shapeCast S1280 (Host.dynamicSlice S1x1280 (dhOf V) (starts V) sliceFits_S8192x1280_S1x1280) shapeCasts_S1x1280_S1280 (ix1 p) = _
  rw [slice_apply _ (starts V) n (start0 hn h) (start1 V), h.row, h.dh_eq, reals_eq hd, ← EReal.coe_add]
  unfold grad
  rw [show 8191 - (8191 - n) = n by omega]

theorem step4_eq (V : Valuation τ sig (Elt Ideal)) :
    step_main_v2_4 V = Host.dynamicUpdateSlice (resOf V) (broadcastInDim S1x1280 ![1] bcast_S1280_S1x1280_1 (res_main_while0b_v7 V : S1280.Idx → EReal)) (starts V) updateFits_S8192x1280_S1x1280 := by
  unfold step_main_v2_4 starts
  exact id_eq _

theorem trip {n : ℕ} (hn : n < 8192) (hd : IsReal dh) (ha : IsReal a) {V : Valuation τ sig (Elt Ideal)} (h : AfterTrips dh a n V) :
    AfterTrips dh a (n + 1) (STEP V) where
  dh_eq := (STEP_main_v2_0 V).trans h.dh_eq
  a_eq := (STEP_main_v2_1 V).trans h.a_eq
  ctr := (STEP_main_v2_2 V).trans (funext fun i => by
    unfold step_main_v2_2
    show ctrOf V i + 1#32 = BitVec.ofNat 32 (n + 1)
    rw [h.ctr, BitVec.ofNat_add])
  row p := by
    show rowOf (STEP V) (ix1 p) = _
    refine (congrFun (STEP_main_v2_3 V) (ix1 p)).trans ?_
    unfold step_main_v2_3
    show shapeCast S1280 (Host.dynamicSlice S1x1280 (aOf V) (starts V) sliceFits_S8192x1280_S1x1280) shapeCasts_S1x1280_S1280 (ix1 p) * (res_main_while0b_v7 V : S1280.Idx → EReal) (ix1 p) = _
    rw [slice_apply _ (starts V) n (start0 hn h) (start1 V), v7_apply hn hd h, h.a_eq, reals_eq ha, ← EReal.coe_mul]
    unfold grad
    rw [show 8191 - (8191 - n) = n by omega]
    rfl
  res R p hR := by
    refine (congrFun (STEP_main_v2_4 V) (ix2 R p)).trans ?_
    rw [step4_eq]
    refine (update_apply (resOf V) (res_main_while0b_v7 V) (starts V) n (start0 hn h) (start1 V) R p).trans ?_
    split
    · rename_i e; rw [v7_apply hn hd h, e]
    · exact h.res R p (by omega)

variable (m : (ℓ : Loc nD τ sig) → Buf (Elt Ideal) ℓ) (ρ : Dev nD → PrngReg)

theorem entry (c : Dev nD) : AfterTrips (m ((c.tc : Thread nD τ).loc main_arg0)) (m ((c.tc : Thread nD τ).loc main_arg1)) 0 (entryContents preI m c) where
  dh_eq := by
    show entryContents preI m c (Proc.devRef .tc main_v2_0) = _
    simp only [entryContents, afterL_cons, afterL_nil]; after_reads_simp; rfl
  a_eq := by
    show entryContents preI m c (Proc.devRef .tc main_v2_1) = _
    simp only [entryContents, afterL_cons, afterL_nil]; after_reads_simp; rfl
  ctr := ctr_entry m c
  row p := by
    have e : entryContents preI m c (Proc.devRef .tc main_v2_3) = broadcastInDim S1280 ![] bcast_S_S1280 (constant (F := Ideal) S_ .f32 0x00000000#32) := by
      simp only [entryContents, afterL_cons, afterL_nil]; after_reads_simp; rfl
    refine (congrFun e (ix1 p)).trans ?_
    show Ideal.ofBits .f32 0x00000000#32 = ((0 : ℝ) : EReal)
    simp [Ideal.ofBits, Ideal.ieee]
  res R p hR := absurd R.isLt (by omega)

theorem trips (c : Dev nD) (hd : IsReal (m ((c.tc : Thread nD τ).loc main_arg0) : S8192x1280.Idx → EReal)) (ha : IsReal (m ((c.tc : Thread nD τ).loc main_arg1) : S8192x1280.Idx → EReal)) :
    ∀ n, n ≤ 8192 → AfterTrips (m ((c.tc : Thread nD τ).loc main_arg0)) (m ((c.tc : Thread nD τ).loc main_arg1)) n (STEP^[n] (entryContents preI m c))
  | 0, _ => entry m c
  | n + 1, h => by
    rw [Function.iterate_succ_apply']
    exact trip (by omega) hd ha (trips c hd ha n (by omega))

/-- The result of the loop is the gradient of every row. -/
theorem result (c : Dev nD) (hd : IsReal (m ((c.tc : Thread nD τ).loc main_arg0) : S8192x1280.Idx → EReal)) (ha : IsReal (m ((c.tc : Thread nD τ).loc main_arg1) : S8192x1280.Idx → EReal)) :
    (STEP^[8192] (entryContents preI m c)) (Proc.devRef .tc main_v2_4) = grads (m ((c.tc : Thread nD τ).loc main_arg0)) (m ((c.tc : Thread nD τ).loc main_arg1)) :=
  ext2 fun R p => (trips m c hd ha 8192 le_rfl).res R p (by omega)

end Cert.ScanbRefIdeal.Rows

end
-- ==== Proof.ScanbClaim.lean ====
/- The claims about the gradient of the recurrence. -/
module

public import proofs.«01_k».proof.Defs
public import proofs.«01_k».proof.Proof.ScanbRefValue
public import proofs.«01_k».proof.Proof.Gen.Scanb.Launch
public import proofs.«01_k».proof.Proof.Gen.Pre_finite_scanb

@[expose] public section

set_option maxRecDepth 16384

noncomputable section

namespace Cert.Proof

open Cert.RowLib Idealize.ShloMosaic Idealize.ShloMosaic.TcCoe Idealize.SL.Sem

/-- The frame of the printed program: the two programs have the same text, and the run is stated over any float values. -/
theorem scanb_frame : Cert.quiescent_Scanb (hScanb := Cert.Scanb.Gen.facts) :=
  fun m ρ _ => Eq.mpr (by sl_kernel_rfl) (Cert.ScanbIdeal.Run.frame (F := Bits) m ρ)

/-- The kernel's result array is that of the reference: the gradient of every row. -/
theorem scanb_value :
    Cert.algebraic_ScanbIdeal_ScanbRefIdeal_pre_finite_scanb (hScanbIdeal := Cert.ScanbIdeal.Gen.facts) (hScanbRefIdeal := Cert.ScanbRefIdeal.Gen.facts) (hPre_finite_scanb := Cert.Pre_finite_scanb.Gen.facts) := by
  intro m g m' g' hpre hag
  have f0 : ∀ c, IsReal (Cert.ScanbIdeal.Run.dhOf m c) := fun c i => real_of_cmp (congrFun (hpre c).1 i)
  have f1 : ∀ c, IsReal (Cert.ScanbIdeal.Run.aOf m c) := fun c i => real_of_cmp (congrFun (hpre c).2 i)
  refine ⟨fun c => Cert.ScanbIdeal.Run.grads (Cert.ScanbIdeal.Run.dhOf m c) (Cert.ScanbIdeal.Run.aOf m c),
    Cert.ScanbIdeal.Run.value m g f0 f1, (θ_run _ _ _).mono (fun r h c => ?_) (Cert.ScanbRefIdeal.Value.run m' g')⟩
  obtain ⟨e0, e1⟩ := hag c
  refine ⟨(h c).1.trans ((Cert.ScanbRefIdeal.Rows.result m' c ?_ ?_).trans ?_), (h c).2⟩
  · rw [e0]; exact f0 c
  · rw [e1]; exact f1 c
  · rw [e0, e1]

end Cert.Proof

end
-- ==== Proof.FgatesKernel.lean ====
/- What the kernel of the recurrence's convolution, gates and heads leaves in its result arrays, block of rows by block of rows. -/
module

public import proofs.«01_k».proof.Proof.Common
public import proofs.«01_k».proof.Proof.Gen.FgatesIdeal.Value

@[expose] public section

set_option maxRecDepth 16384

noncomputable section

namespace Cert.FgatesIdeal.Rows

open Cert.FgatesIdeal Cert.FgatesIdeal.Gen Cert.RowLib Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem hz3 : (![0, 0, 0] : Fin 3 → Nat) = fun _ => 0 := funext fun a => by fin_cases a <;> rfl

theorem idx_ext3 {n0 n1 n2 : ℕ} {i : (⟨3, ![n0, n1, n2]⟩ : Shape).Idx} {a : Fin n0} {b : Fin n1} {d : Fin n2}
    (h0 : (i 0).val = a.val) (h1 : (i 1).val = b.val) (h2 : (i 2).val = d.val) : i = ix3 a b d :=
  funext fun x => match x with
    | ⟨0, _⟩ => Fin.ext h0
    | ⟨1, _⟩ => Fin.ext h1
    | ⟨2, _⟩ => Fin.ext h2

/-! ## The blocks of the arguments -/

theorem at0 : ∀ t : Fin grid0.N, win0_0.index t 0 = t.val ∧ win0_0.index t 1 = 0 := by decide +kernel

theorem iblk0_apply (c : Dev nD) (t : Fin cfg0.N) (q : Fin 512) (k : Fin 1280) :
    iblk m c 0 t (ix2 q k) = V m c main_v0 (ix2 (row 8192 t.val q) k) := by
  unfold iblk
  rw [View.read_apply, cast_eq]
  refine congrArg (V m c main_v0) (Shape.idx_ext₂ ?_ ?_)
  · refine (Pipeline.Window.rect_emb_val win0_0 t _ 0).trans ((congrArg (· * 512 + q.val) (at0 t).1).trans ?_)
    exact (row_val (T := 16) (B := 512) rfl (lt_of_lt_of_eq t.isLt N_0) q).symm
  · exact Pipeline.Window.rect_emb_val_of_index_zero win0_0 t 1 (at0 t).2 _

theorem at2 : ∀ t : Fin grid0.N, win0_2.index t 0 = 0 ∧ win0_2.index t 1 = 0 := by decide +kernel

theorem iblk2_eq (c : Dev nD) (t : Fin cfg0.N) : iblk m c 2 t = V m c main_arg1 := by
  funext j
  unfold iblk
  rw [View.read_apply, cast_eq]
  refine congrArg (V m c main_arg1) (Shape.idx_ext₂ ?_ ?_)
  · exact Pipeline.Window.rect_emb_val_of_index_zero win0_2 t 0 (at2 t).1 _
  · exact Pipeline.Window.rect_emb_val_of_index_zero win0_2 t 1 (at2 t).2 _

theorem at3 : ∀ t : Fin grid0.N, win0_3.index t 0 = 0 ∧ win0_3.index t 1 = 0 := by decide +kernel

theorem iblk3_eq (c : Dev nD) (t : Fin cfg0.N) : iblk m c 3 t = V m c main_v1 := by
  funext j
  unfold iblk
  rw [View.read_apply, cast_eq]
  refine congrArg (V m c main_v1) (Shape.idx_ext₂ ?_ ?_)
  · exact Pipeline.Window.rect_emb_val_of_index_zero win0_3 t 0 (at3 t).1 _
  · exact Pipeline.Window.rect_emb_val_of_index_zero win0_3 t 1 (at3 t).2 _

theorem at4 : ∀ t : Fin grid0.N, win0_4.index t 0 = 0 ∧ win0_4.index t 1 = 0 ∧ win0_4.index t 2 = 0 := by decide +kernel

theorem iblk4_eq (c : Dev nD) (t : Fin cfg0.N) : iblk m c 4 t = V m c main_v2 := by
  funext j
  unfold iblk
  rw [View.read_apply, cast_eq]
  refine congrArg (V m c main_v2) ((idx_ext3 (a := j 0) (b := j 1) (d := j 2) ?_ ?_ ?_).trans (idx_ext3 rfl rfl rfl).symm)
  · exact Pipeline.Window.rect_emb_val_of_index_zero win0_4 t 0 (at4 t).1 _
  · exact Pipeline.Window.rect_emb_val_of_index_zero win0_4 t 1 (at4 t).2.1 _
  · exact Pipeline.Window.rect_emb_val_of_index_zero win0_4 t 2 (at4 t).2.2 _

theorem at5 : ∀ t : Fin grid0.N, win0_5.index t 0 = 0 ∧ win0_5.index t 1 = 0 := by decide +kernel

theorem iblk5_eq (c : Dev nD) (t : Fin cfg0.N) : iblk m c 5 t = V m c main_v4 := by
  funext j
  unfold iblk
  rw [View.read_apply, cast_eq]
  refine congrArg (V m c main_v4) (Shape.idx_ext₂ ?_ ?_)
  · exact Pipeline.Window.rect_emb_val_of_index_zero win0_5 t 0 (at5 t).1 _
  · exact Pipeline.Window.rect_emb_val_of_index_zero win0_5 t 1 (at5 t).2 _

theorem at6 : ∀ t : Fin grid0.N, win0_6.index t 0 = 0 ∧ win0_6.index t 1 = 0 ∧ win0_6.index t 2 = 0 := by decide +kernel

theorem iblk6_eq (c : Dev nD) (t : Fin cfg0.N) : iblk m c 6 t = V m c main_v3 := by
  funext j
  unfold iblk
  rw [View.read_apply, cast_eq]
  refine congrArg (V m c main_v3) ((idx_ext3 (a := j 0) (b := j 1) (d := j 2) ?_ ?_ ?_).trans (idx_ext3 rfl rfl rfl).symm)
  · exact Pipeline.Window.rect_emb_val_of_index_zero win0_6 t 0 (at6 t).1 _
  · exact Pipeline.Window.rect_emb_val_of_index_zero win0_6 t 1 (at6 t).2.1 _
  · exact Pipeline.Window.rect_emb_val_of_index_zero win0_6 t 2 (at6 t).2.2 _

theorem at7 : ∀ t : Fin grid0.N, win0_7.index t 0 = 0 ∧ win0_7.index t 1 = 0 := by decide +kernel

theorem iblk7_eq (c : Dev nD) (t : Fin cfg0.N) : iblk m c 7 t = V m c main_v5 := by
  funext j
  unfold iblk
  rw [View.read_apply, cast_eq]
  refine congrArg (V m c main_v5) (Shape.idx_ext₂ ?_ ?_)
  · exact Pipeline.Window.rect_emb_val_of_index_zero win0_7 t 0 (at7 t).1 _
  · exact Pipeline.Window.rect_emb_val_of_index_zero win0_7 t 1 (at7 t).2 _

theorem at8 : ∀ t : Fin grid0.N, win0_8.index t 0 = 0 ∧ win0_8.index t 1 = 0 := by decide +kernel

theorem iblk8_eq (c : Dev nD) (t : Fin cfg0.N) : iblk m c 8 t = V m c main_v6 := by
  funext j
  unfold iblk
  rw [View.read_apply, cast_eq]
  refine congrArg (V m c main_v6) (Shape.idx_ext₂ ?_ ?_)
  · exact Pipeline.Window.rect_emb_val_of_index_zero win0_8 t 0 (at8 t).1 _
  · exact Pipeline.Window.rect_emb_val_of_index_zero win0_8 t 1 (at8 t).2 _

theorem at1 : ∀ t : Fin grid0.N, win0_1.index t 0 = 32 * t.val - 1 ∧ win0_1.index t 1 = 0 := by decide +kernel

theorem iblk1_apply (c : Dev nD) (t : Fin cfg0.N) (q : Fin 16) (k : Fin 1280) :
    iblk m c 1 t (ix2 q k) = V m c main_v0 (ix2 ⟨(32 * t.val - 1) * 16 + q.val,
      by have := lt_of_lt_of_eq t.isLt N_0; have : (32 * t.val - 1) ≤ 479 := by omega
         omega⟩ k) := by
  unfold iblk
  rw [View.read_apply, cast_eq]
  refine congrArg (V m c main_v0) (Shape.idx_ext₂ ?_ ?_)
  · exact (Pipeline.Window.rect_emb_val win0_1 t _ 0).trans (congrArg (· * 16 + q.val) (at1 t).1)
  · exact Pipeline.Window.rect_emb_val_of_index_zero win0_1 t 1 (at1 t).2 _

theorem coord : ∀ t : Fin grid0.N, (grid0.coords t 0).val = t.val := by decide +kernel

/-! ## The result arrays -/

theorem at9 : ∀ t : Fin grid0.N, win0_9.index t 0 = t.val ∧ win0_9.index t 1 = 0 := by decide +kernel

theorem final9 (c : Dev nD) (t : Fin cfg0.N) (q : Fin 512) (b : Fin 1280) :
    (dats m 0 c).arrAt 9 cfg0.N (ix2 (row 8192 t.val q) b) = out0_9 (grid0.coords t) (iblk m c 0 t) (iblk m c 1 t) (iblk m c 2 t) (iblk m c 3 t) (iblk m c 4 t) (iblk m c 5 t) (iblk m c 6 t) (iblk m c 7 t) (iblk m c 8 t) (ix2 q b) := by
  have e : ((cfg0.win 9).blk t).view.emb (ix2 q b) = ix2 (row 8192 t.val q) b := Shape.idx_ext₂
    ((Pipeline.Window.rect_emb_val win0_9 t _ 0).trans ((congrArg (· * 512 + q.val) (at9 t).1).trans
      (row_val (T := 16) (B := 512) rfl (lt_of_lt_of_eq t.isLt N_0) q).symm))
    (Pipeline.Window.rect_emb_val_of_index_zero win0_9 t 1 (at9 t).2 _)
  refine (congrArg ((dats m 0 c).arrAt 9 cfg0.N) e.symm).trans
    (((dats m 0 c).arrAt_emb_eq_flushed 9 Value.disjoint9 t (flush0_9 t) (ix2 q b)).trans ?_)
  rw [Value.flushed9]
  generalize out0_9 (grid0.coords t) (iblk m c 0 t) (iblk m c 1 t) (iblk m c 2 t) (iblk m c 3 t) (iblk m c 4 t) (iblk m c 5 t) (iblk m c 6 t) (iblk m c 7 t) (iblk m c 8 t) = G
  rfl

theorem at10 : ∀ t : Fin grid0.N, win0_10.index t 0 = t.val ∧ win0_10.index t 1 = 0 := by decide +kernel

theorem final10 (c : Dev nD) (t : Fin cfg0.N) (q : Fin 512) (b : Fin 1280) :
    (dats m 0 c).arrAt 10 cfg0.N (ix2 (row 8192 t.val q) b) = out0_10 (grid0.coords t) (iblk m c 0 t) (iblk m c 1 t) (iblk m c 2 t) (iblk m c 3 t) (iblk m c 4 t) (iblk m c 5 t) (iblk m c 6 t) (iblk m c 7 t) (iblk m c 8 t) (ix2 q b) := by
  have e : ((cfg0.win 10).blk t).view.emb (ix2 q b) = ix2 (row 8192 t.val q) b := Shape.idx_ext₂
    ((Pipeline.Window.rect_emb_val win0_10 t _ 0).trans ((congrArg (· * 512 + q.val) (at10 t).1).trans
      (row_val (T := 16) (B := 512) rfl (lt_of_lt_of_eq t.isLt N_0) q).symm))
    (Pipeline.Window.rect_emb_val_of_index_zero win0_10 t 1 (at10 t).2 _)
  refine (congrArg ((dats m 0 c).arrAt 10 cfg0.N) e.symm).trans
    (((dats m 0 c).arrAt_emb_eq_flushed 10 Value.disjoint10 t (flush0_10 t) (ix2 q b)).trans ?_)
  rw [Value.flushed10]
  generalize out0_10 (grid0.coords t) (iblk m c 0 t) (iblk m c 1 t) (iblk m c 2 t) (iblk m c 3 t) (iblk m c 4 t) (iblk m c 5 t) (iblk m c 6 t) (iblk m c 7 t) (iblk m c 8 t) = G
  rfl

end Cert.FgatesIdeal.Rows

end
-- ==== Proof.FgatesValue.lean ====
/- The recurrence's convolution, gates and heads: the kernel's two result arrays and the forward lines are the same functions of the arguments. -/
module

public import proofs.«01_k».proof.Proof.FgatesKernel
public import proofs.«01_k».proof.Proof.GatesTile
public import proofs.«01_k».proof.Proof.Gen.FgatesRefIdeal.Read

@[expose] public section

set_option maxRecDepth 16384

noncomputable section

open Cert.RowLib Idealize.ShloMosaic Idealize.ShloMosaic.TcCoe Idealize.SL.Sem

/-! ## The mathematics -/

namespace Cert.FgatesMath

open Cert.GatesMath

variable (x : (⟨2, ![8192, 1280]⟩ : Shape).Idx → EReal) (cw : (⟨2, ![4, 1280]⟩ : Shape).Idx → EReal)
  (cb ba bx lam : (⟨1, ![1280]⟩ : Shape).Idx → EReal) (wa wx : (⟨3, ![10, 128, 128]⟩ : Shape).Idx → EReal)

/-- The decay, and the input of the recurrence. -/
def dec (r : Fin 8192) (k : Fin 1280) : EReal := Ideal.exp (la x cw cb ba lam wa r k)

def inp (r : Fin 8192) (k : Fin 1280) : EReal := mu x cw cb ba lam wa r k * (gate x cw cb wx bx r k * cv x cw cb r k)

end Cert.FgatesMath

/-! ## The kernel -/

namespace Cert.FgatesIdeal.Rows

open Cert.FgatesIdeal Cert.FgatesIdeal.Gen Cert.FgatesMath Cert.ConvMath Cert.GatesMath
open Cert.ConvIdeal.Rows (prev1 prev2 prev3 prev1_of prev2_of prev3_of mask_gt)
open Cert.GatesIdeal.Rows (gateT gateT_at)

variable (m : (ℓ : Loc nD τ sig) → Buf (Elt Ideal) ℓ) (ρ : Dev nD → PrngReg)

theorem V_v0 (c : Dev nD) : V m c main_v0 = truncf (F := Ideal) .bf16 (m ((c : Thread nD τ).loc main_arg0)) bitsLt_bf16_f32 := by
  unfold V
  simp only [hostOps0]
  after_results

theorem V_v1 (c : Dev nD) : V m c main_v1 = shapeCast S1x1280 (m ((c : Thread nD τ).loc main_arg2)) shapeCasts_S1280_S1x1280 := by
  unfold V
  simp only [hostOps0]
  after_results
  rfl

theorem V_v2 (c : Dev nD) : V m c main_v2 = truncf (F := Ideal) .bf16 (m ((c : Thread nD τ).loc main_arg3)) bitsLt_bf16_f32 := by
  unfold V
  simp only [hostOps0]
  after_results

theorem V_v4 (c : Dev nD) : V m c main_v4 = shapeCast S1x1280 (m ((c : Thread nD τ).loc main_arg4)) shapeCasts_S1280_S1x1280 := by
  unfold V
  simp only [hostOps0]
  after_results
  rfl

theorem V_v3 (c : Dev nD) : V m c main_v3 = truncf (F := Ideal) .bf16 (m ((c : Thread nD τ).loc main_arg5)) bitsLt_bf16_f32 := by
  unfold V
  simp only [hostOps0]
  after_results

theorem V_v5 (c : Dev nD) : V m c main_v5 = shapeCast S1x1280 (m ((c : Thread nD τ).loc main_arg6)) shapeCasts_S1280_S1x1280 := by
  unfold V
  simp only [hostOps0]
  after_results
  rfl

theorem V_v6 (c : Dev nD) : V m c main_v6 = shapeCast S1x1280 (m ((c : Thread nD τ).loc main_arg7)) shapeCasts_S1280_S1x1280 := by
  unfold V
  simp only [hostOps0]
  after_results
  rfl

/-! ### A point's results, over blocks of rows -/

section Pay

/-- A tile of the convolution. -/
def tC (i : grid0.Coords) (v0 : Vec Ideal S512x1280 .bf16) (v1 : Vec Ideal S16x1280 .bf16) (v2 : Vec Ideal S4x1280 .f32) (v3 : Vec Ideal S1x1280 .f32) : FVec Ideal S512x1280 .f32 :=
  k0_pay11 (k0_pay1 v0) v2 (k0_pay7 i v1) (k0_pay8 v0 v2 v3) (k0_pay9 i v0 v1) (k0_pay10 v0)

variable {s : ℕ} {i : grid0.Coords} {x : S8192x1280.Idx → EReal} {cw : S4x1280.Idx → EReal} {cb ba bx lam : (⟨1, ![1280]⟩ : Shape).Idx → EReal}
  {wa wx : S10x128x128.Idx → EReal}
  {v0 : Vec Ideal S512x1280 .bf16} {v1 : Vec Ideal S16x1280 .bf16} {v2 : Vec Ideal S4x1280 .f32} {v3 : Vec Ideal S1x1280 .f32}
  {v4 : Vec Ideal S10x128x128 .bf16} {v5 : Vec Ideal S1x1280 .f32} {v6 : Vec Ideal S10x128x128 .bf16} {v7 v8 : Vec Ideal S1x1280 .f32}
  (hs : s < 16) (hi : (i 0).val = s)
  (h0 : ∀ q k, v0 (ix2 q k) = x (ix2 (row 8192 s q) k))
  (h1 : ∀ (q : Fin 16) k (h : (32 * s - 1) * 16 + q.val < 8192), v1 (ix2 q k) = x (ix2 ⟨(32 * s - 1) * 16 + q.val, h⟩ k))
  (h2 : ∀ j, v2 j = cw j) (h3 : ∀ a k, v3 (ix2 a k) = cb (ix1 k)) (h4 : ∀ j, v4 j = wa j) (h5 : ∀ a k, v5 (ix2 a k) = ba (ix1 k))
  (h6 : ∀ j, v6 j = wx j) (h7 : ∀ a k, v7 (ix2 a k) = bx (ix1 k)) (h8 : ∀ a k, v8 (ix2 a k) = lam (ix1 k))
  (hz' : ∀ r k, Ideal.cmp .ogt (((2 : ℝ) : EReal) * la x cw cb ba lam wa r k) (Ideal.ofBits .f32 0xBE4CCCCD#32) = 0#1)

include hs hi h1 in
theorem edge_at (q : Fin 8) (k : Fin 1280) (h : s * 512 - 8 + q.val < 8192) : k0_pay7 i v1 (ix2 q k) = if 0 < s then x (ix2 ⟨s * 512 - 8 + q.val, h⟩ k) else 0 := by
  unfold k0_pay7
  pointwise
  rw [hi, mask_gt hs, h1 _ _ (by first | omega | (dsimp only; omega))]
  by_cases h : 0 < s
  · rw [if_pos h, if_pos h, mul_one]
    exact congrArg (fun e => x (ix2 e k)) (Fin.ext (show (32 * s - 1) * 16 + _ = s * 512 - 8 + q.val by first | rfl | omega | (dsimp only; omega)))
  · rw [if_neg h, if_neg h, mul_zero]

include h0 in
theorem pay1 (q : Fin 512) (k : Fin 1280) : k0_pay1 v0 (ix2 q k) = x (ix2 (row 8192 s q) k) := by
  unfold k0_pay1
  pointwise [h0]

include hs hi h0 h1 h2 h3 in
theorem tC_at (q : Fin 512) (k : Fin 1280) : tC i v0 v1 v2 v3 (ix2 q k) = cv x cw cb (row 8192 s q) k := by
  have e : tC i v0 v1 v2 v3 = addf (addf (addf (k0_pay8 v0 v2 v3)
      (mulf (prev1 (k0_pay1 v0) (k0_pay7 i v1)) (broadcastTo S512x1280 (extractStridedSlice S1x1280 ![2, 0] v2 slices_S4x1280_o2_0_S1x1280) broadcasts_S1x1280_S512x1280)))
      (mulf (prev2 (k0_pay1 v0) (k0_pay7 i v1)) (broadcastTo S512x1280 (extractStridedSlice S1x1280 ![1, 0] v2 slices_S4x1280_o1_0_S1x1280) broadcasts_S1x1280_S512x1280)))
      (mulf (prev3 (k0_pay1 v0) (k0_pay7 i v1)) (broadcastTo S512x1280 (extractStridedSlice S1x1280 ![0, 0] v2 slices_S4x1280_o0_0_S1x1280) broadcasts_S1x1280_S512x1280)) := rfl
  have p1 := prev1_of hs (pay1 h0) (edge_at hs hi h1) q k
  have p2 := prev2_of hs (pay1 h0) (edge_at hs hi h1) q k
  have p3 := prev3_of hs (pay1 h0) (edge_at hs hi h1) q k
  rw [e]
  unfold k0_pay8 cv
  pointwise [pay1 h0, p1, p2, p3, h2, h3]

include hs hi h0 h1 h2 h3 h4 h5 in
theorem tR_at (q : Fin 512) (k : Fin 1280) : gateT (tC i v0 v1 v2 v3) (k0_pay2 v4) (k0_pay3 v5) (ix2 q k) = gate x cw cb wa ba (row 8192 s q) k := by
  refine gateT_at (tC_at hs hi h0 h1 h2 h3) (fun j => ?_) (fun a k => ?_) q k
  · rw [← h4 j]
    unfold k0_pay2
    exact congrFun (shapeCast_self _ _) j
  · unfold k0_pay3
    pointwise [h5]

include hs hi h0 h1 h2 h3 h6 h7 in
theorem tI_at (q : Fin 512) (k : Fin 1280) : gateT (tC i v0 v1 v2 v3) (k0_pay4 v6) (k0_pay5 v7) (ix2 q k) = gate x cw cb wx bx (row 8192 s q) k := by
  refine gateT_at (tC_at hs hi h0 h1 h2 h3) (fun j => ?_) (fun a k => ?_) q k
  · rw [← h6 j]
    unfold k0_pay4
    exact congrFun (shapeCast_self _ _) j
  · unfold k0_pay5
    pointwise [h7]

include hs hi h0 h1 h2 h3 h4 h5 h8 in
theorem pay25 (q : Fin 512) (k : Fin 1280) : k0_pay25 (gateT (tC i v0 v1 v2 v3) (k0_pay2 v4) (k0_pay3 v5)) (k0_pay24 (k0_pay6 v8)) (ix2 q k) = la x cw cb ba lam wa (row 8192 s q) k := by
  unfold k0_pay25 k0_pay24 k0_pay6
  pointwise [tR_at hs hi h0 h1 h2 h3 h4 h5, h8, word_m8]
  simp only [zero_sub]
  rfl

theorem gate_a : k0_pay36 i v0 v1 v2 v3 v4 v5 v6 v7 v8 = gateT (tC i v0 v1 v2 v3) (k0_pay2 v4) (k0_pay3 v5) := by
  unfold k0_pay36 k0_pay35 k0_pay34 k0_pay33 k0_pay32 k0_pay31 k0_pay29 k0_pay28
  simp only [View.ld_unit_zero (S := S512x1280) hz, View.ld_unit_zero (S := S16x1280) hz, View.ld_unit_zero (S := S4x1280) hz, View.ld_unit_zero (S := S1x1280) hz, View.ld_unit_zero (S := S10x128x128) hz3]
  rfl

theorem conv_a : k0_pay35 i v0 v1 v2 v3 v4 v5 v6 v7 v8 = tC i v0 v1 v2 v3 := by
  unfold k0_pay35 k0_pay34 k0_pay33 k0_pay32 k0_pay31 k0_pay28
  simp only [View.ld_unit_zero (S := S512x1280) hz, View.ld_unit_zero (S := S16x1280) hz, View.ld_unit_zero (S := S4x1280) hz, View.ld_unit_zero (S := S1x1280) hz]
  rfl

theorem gate_x (v : FVec Ideal S512x1280 .f32) : k0_pay23 (k0_pay4 v6) (k0_pay5 v7) v (k0_pay19 (k0_pay4 v6) v) (k0_pay20 (k0_pay4 v6) v) (k0_pay21 (k0_pay4 v6)) (k0_pay22 v)
    = gateT v (k0_pay4 v6) (k0_pay5 v7) := rfl

include hs hi h0 h1 h2 h3 h4 h5 h8 in
theorem pay9 (q : Fin 512) (k : Fin 1280) : out0_9 i v0 v1 v2 v3 v4 v5 v6 v7 v8 (ix2 q k) = dec x cw cb ba lam wa (row 8192 s q) k := by
  unfold out0_9
  rw [View.canon_unit_zero hz, gate_a]
  unfold k0_pay37 k0_pay26 dec
  simp only [View.ld_unit_zero (S := S1x1280) hz]
  pointwise [pay25 hs hi h0 h1 h2 h3 h4 h5 h8]

include hs hi h0 h1 h2 h3 h4 h5 h6 h7 h8 hz' in
theorem pay10 (q : Fin 512) (k : Fin 1280) : out0_10 i v0 v1 v2 v3 v4 v5 v6 v7 v8 (ix2 q k) = inp x cw cb ba bx lam wa wx (row 8192 s q) k := by
  unfold out0_10
  rw [View.canon_unit_zero hz, gate_a, conv_a]
  unfold k0_pay37 k0_pay30
  simp only [View.ld_unit_zero (S := S1x1280) hz, View.ld_unit_zero (S := S10x128x128) hz3]
  rw [gate_x]
  unfold k0_pay27 inp
  pointwise [pay25 hs hi h0 h1 h2 h3 h4 h5 h8, tI_at hs hi h0 h1 h2 h3 h6 h7, tC_at hs hi h0 h1 h2 h3, word_2, hz']
  rfl

end Pay

/-! ### The arguments -/

abbrev a0 (c : Dev nD) : S8192x1280.Idx → EReal := m ((c : Thread nD τ).loc main_arg0)
abbrev a1 (c : Dev nD) : S4x1280.Idx → EReal := m ((c : Thread nD τ).loc main_arg1)
abbrev a2 (c : Dev nD) : S1280.Idx → EReal := m ((c : Thread nD τ).loc main_arg2)
abbrev a3 (c : Dev nD) : S10x128x128.Idx → EReal := m ((c : Thread nD τ).loc main_arg3)
abbrev a4 (c : Dev nD) : S1280.Idx → EReal := m ((c : Thread nD τ).loc main_arg4)
abbrev a5 (c : Dev nD) : S10x128x128.Idx → EReal := m ((c : Thread nD τ).loc main_arg5)
abbrev a6 (c : Dev nD) : S1280.Idx → EReal := m ((c : Thread nD τ).loc main_arg6)
abbrev a7 (c : Dev nD) : S1280.Idx → EReal := m ((c : Thread nD τ).loc main_arg7)

theorem b0 (c : Dev nD) (t : Fin cfg0.N) (q : Fin 512) (k : Fin 1280) : iblk m c 0 t (ix2 q k) = a0 m c (ix2 (row 8192 t.val q) k) :=
  (iblk0_apply m c t q k).trans (congrFun (V_v0 m c) _)
theorem b2 (c : Dev nD) (t : Fin cfg0.N) (j : S4x1280.Idx) : iblk m c 2 t j = a1 m c j :=
  (congrFun (iblk2_eq m c t) j).trans (congrFun (V_main_arg1 m c) j)
theorem b3 (c : Dev nD) (t : Fin cfg0.N) (a : Fin 1) (k : Fin 1280) : iblk m c 3 t (ix2 a k) = a2 m c (ix1 k) := by
  rw [iblk3_eq, V_v1]
  pointwise
theorem b4 (c : Dev nD) (t : Fin cfg0.N) (j : S10x128x128.Idx) : iblk m c 4 t j = a3 m c j :=
  (congrFun (iblk4_eq m c t) j).trans (congrFun (V_v2 m c) j)
theorem b5 (c : Dev nD) (t : Fin cfg0.N) (a : Fin 1) (k : Fin 1280) : iblk m c 5 t (ix2 a k) = a4 m c (ix1 k) := by
  rw [iblk5_eq, V_v4]
  pointwise
theorem b6 (c : Dev nD) (t : Fin cfg0.N) (j : S10x128x128.Idx) : iblk m c 6 t j = a5 m c j :=
  (congrFun (iblk6_eq m c t) j).trans (congrFun (V_v3 m c) j)
theorem b7 (c : Dev nD) (t : Fin cfg0.N) (a : Fin 1) (k : Fin 1280) : iblk m c 7 t (ix2 a k) = a6 m c (ix1 k) := by
  rw [iblk7_eq, V_v5]
  pointwise
theorem b8 (c : Dev nD) (t : Fin cfg0.N) (a : Fin 1) (k : Fin 1280) : iblk m c 8 t (ix2 a k) = a7 m c (ix1 k) := by
  rw [iblk8_eq, V_v6]
  pointwise

theorem b1 (c : Dev nD) (t : Fin cfg0.N) (q : Fin 16) (k : Fin 1280) (h : (32 * t.val - 1) * 16 + q.val < 8192) :
    iblk m c 1 t (ix2 q k) = a0 m c (ix2 ⟨(32 * t.val - 1) * 16 + q.val, h⟩ k) :=
  (iblk1_apply m c t q k).trans (congrFun (V_v0 m c) _)

/-! ### The result arrays -/

theorem rows9 (c : Dev nD) (t : Fin cfg0.N) (q : Fin 512) (k : Fin 1280) :
    out0_9 (grid0.coords t) (iblk m c 0 t) (iblk m c 1 t) (iblk m c 2 t) (iblk m c 3 t) (iblk m c 4 t) (iblk m c 5 t) (iblk m c 6 t) (iblk m c 7 t) (iblk m c 8 t) (ix2 q k) = dec (a0 m c) (a1 m c) (a2 m c) (a4 m c) (a7 m c) (a3 m c) (row 8192 t.val q) k :=
  pay9 (lt_of_lt_of_eq t.isLt N_0) (coord t) (b0 m c t) (b1 m c t) (b2 m c t) (b3 m c t) (b4 m c t) (b5 m c t) (b8 m c t) q k

theorem res9 (c : Dev nD) (r : Fin 8192) (b : Fin 1280) :
    (dats m 0 c).arrAt 9 cfg0.N (ix2 r b) = dec (a0 m c) (a1 m c) (a2 m c) (a4 m c) (a7 m c) (a3 m c) r b := by
  obtain ⟨s, hs, q, rfl⟩ := exists_row (T := 16) (B := 512) rfl r
  exact (final9 m c ⟨s, lt_of_lt_of_eq hs N_0.symm⟩ q b).trans
    (rows9 m c ⟨s, lt_of_lt_of_eq hs N_0.symm⟩ q b)

theorem rows10 (c : Dev nD) (hg : ∀ r k, Ideal.cmp .ogt (((2 : ℝ) : EReal) * la (a0 m c) (a1 m c) (a2 m c) (a4 m c) (a7 m c) (a3 m c) r k) (Ideal.ofBits .f32 0xBE4CCCCD#32) = 0#1) (t : Fin cfg0.N) (q : Fin 512) (k : Fin 1280) :
    out0_10 (grid0.coords t) (iblk m c 0 t) (iblk m c 1 t) (iblk m c 2 t) (iblk m c 3 t) (iblk m c 4 t) (iblk m c 5 t) (iblk m c 6 t) (iblk m c 7 t) (iblk m c 8 t) (ix2 q k) = inp (a0 m c) (a1 m c) (a2 m c) (a4 m c) (a6 m c) (a7 m c) (a3 m c) (a5 m c) (row 8192 t.val q) k :=
  pay10 (lt_of_lt_of_eq t.isLt N_0) (coord t) (b0 m c t) (b1 m c t) (b2 m c t) (b3 m c t) (b4 m c t) (b5 m c t) (b6 m c t) (b7 m c t) (b8 m c t) hg q k

theorem res10 (c : Dev nD) (hg : ∀ r k, Ideal.cmp .ogt (((2 : ℝ) : EReal) * la (a0 m c) (a1 m c) (a2 m c) (a4 m c) (a7 m c) (a3 m c) r k) (Ideal.ofBits .f32 0xBE4CCCCD#32) = 0#1) (r : Fin 8192) (b : Fin 1280) :
    (dats m 0 c).arrAt 10 cfg0.N (ix2 r b) = inp (a0 m c) (a1 m c) (a2 m c) (a4 m c) (a6 m c) (a7 m c) (a3 m c) (a5 m c) r b := by
  obtain ⟨s, hs, q, rfl⟩ := exists_row (T := 16) (B := 512) rfl r
  exact (final10 m c ⟨s, lt_of_lt_of_eq hs N_0.symm⟩ q b).trans
    (rows10 m c hg ⟨s, lt_of_lt_of_eq hs N_0.symm⟩ q b)

end Cert.FgatesIdeal.Rows

/-! ## The reference -/

namespace Cert.FgatesRefIdeal.Rows

open Cert.FgatesRefIdeal Cert.FgatesRefIdeal.Gen Cert.FgatesRefIdeal.Read Cert.FgatesMath Cert.ConvMath Cert.GatesMath

variable (x0 : S8192x1280.Idx → EReal) (x1 : S4x1280.Idx → EReal) (x2 x4 x6 x7 : S1280.Idx → EReal) (x3 x5 : S10x128x128.Idx → EReal)

theorem back3 (r : Fin 8192) (k : Fin 1280) : val_main_v2 (F := Ideal) x0 (ix2 r k) = above x0 3 r k := by
  unfold val_main_v2 val_main_v1 val_main_v0 val_main_cst above
  pointwise
  try split_ifs
  all_goals try rw [dif_pos (by omega)]
  all_goals try rw [dif_neg (by omega)]
  all_goals first
    | rfl
    | omega
    | exact congrArg (fun e => x0 (ix2 e k)) (Fin.ext (by first | rfl | omega | (dsimp only; omega)))

theorem back2 (r : Fin 8192) (k : Fin 1280) : val_main_v8 (F := Ideal) x0 (ix2 r k) = above x0 2 r k := by
  unfold val_main_v8 val_main_v1 val_main_v0 val_main_cst above
  pointwise
  try split_ifs
  all_goals try rw [dif_pos (by omega)]
  all_goals try rw [dif_neg (by omega)]
  all_goals first
    | rfl
    | omega
    | exact congrArg (fun e => x0 (ix2 e k)) (Fin.ext (by first | rfl | omega | (dsimp only; omega)))

theorem back1 (r : Fin 8192) (k : Fin 1280) : val_main_v15 (F := Ideal) x0 (ix2 r k) = above x0 1 r k := by
  unfold val_main_v15 val_main_v1 val_main_v0 val_main_cst above
  pointwise
  try split_ifs
  all_goals try rw [dif_pos (by omega)]
  all_goals try rw [dif_neg (by omega)]
  all_goals first
    | rfl
    | omega
    | exact congrArg (fun e => x0 (ix2 e k)) (Fin.ext (by first | rfl | omega | (dsimp only; omega)))

theorem back0 (r : Fin 8192) (k : Fin 1280) : val_main_v22 (F := Ideal) x0 (ix2 r k) = x0 (ix2 r k) := by
  unfold val_main_v22 val_main_v1 val_main_v0 val_main_cst
  pointwise
  all_goals first
    | rfl
    | omega
    | exact congrArg (fun e => x0 (ix2 e k)) (Fin.ext (by first | rfl | omega | (dsimp only; omega)))

theorem cv_eq (r : Fin 8192) (k : Fin 1280) : val_main_v31 (F := Ideal) x0 x1 x2 (ix2 r k) = cv x0 x1 x2 r k := by
  unfold val_main_v31 val_main_v30 val_main_v29 val_main_v28 val_main_v27 val_main_v26 val_main_v25 val_main_v24 val_main_v23 val_main_v21 val_main_v20 val_main_v19 val_main_v18 val_main_v17 val_main_v16 val_main_v14 val_main_v13 val_main_v12 val_main_v11 val_main_v10 val_main_v9 val_main_v7 val_main_v6 val_main_v5 val_main_v4 val_main_v3 cv
  pointwise [back0, back1, back2, back3]
  abel

theorem col_eq (k : Fin 1280) (i : Fin 128) (h : k.val / 128 * 128 + i.val < 1280) : (⟨k.val / 128 * 128 + i.val, h⟩ : Fin 1280) = col (hd k) i :=
  Fin.ext (congrArg (· + i.val) (mul_comm (k.val / 128) 128))

theorem ra_eq (r : Fin 8192) (k : Fin 1280) : val_main_v44 (F := Ideal) x0 x1 x2 x3 x4 (ix2 r k) = gate x0 x1 x2 x3 x4 r k := by
  unfold val_main_v44 val_main_v43 val_main_cst_1 val_main_v42 val_main_v41 val_main_cst_0 val_main_v40 val_main_v39 val_main_v38 val_main_v37 val_main_v36 val_main_v35 val_main_v34 val_main_v33 val_main_v32 gate
  pointwise [cv_eq]
  exact (show _ = Ideal.logistic _ from rfl).trans (congrArg Ideal.logistic (congrArg (· + _) (Finset.sum_congr rfl fun i _ =>
    (mul_comm _ _).trans (congrArg (fun e => cv x0 x1 x2 r e * _) (col_eq k i _)))))

theorem rx_eq (r : Fin 8192) (k : Fin 1280) : val_main_v64 (F := Ideal) x0 x1 x2 x5 x6 (ix2 r k) = gate x0 x1 x2 x5 x6 r k := by
  unfold val_main_v64 val_main_v63 val_main_cst_4 val_main_v62 val_main_v61 val_main_cst_3 val_main_v60 val_main_v59 val_main_v58 val_main_v57 val_main_v56 val_main_v55 val_main_v54 val_main_v53 val_main_v52 gate
  pointwise [cv_eq]
  exact (show _ = Ideal.logistic _ from rfl).trans (congrArg Ideal.logistic (congrArg (· + _) (Finset.sum_congr rfl fun i _ =>
    (mul_comm _ _).trans (congrArg (fun e => cv x0 x1 x2 r e * _) (col_eq k i _)))))

theorem sp_eq (k : Fin 1280) : val_main_v48 (F := Ideal) x7 (ix1 k) = sp x7 k := by
  unfold val_main_v48 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_call0_cst val_main_v47 sp
  pointwise
  have e : FloatOps.absf (F := Ideal) (φ := .f32) (-x7 (ix1 k)) = max (-x7 (ix1 k)) (x7 (ix1 k)) :=
    (show _ = max _ (- -x7 (ix1 k)) from rfl).trans (by rw [neg_neg])
  simp [Ideal.cmp]
  rw [e]
  rfl

theorem la_eq (r : Fin 8192) (k : Fin 1280) : val_main_v51 (F := Ideal) x0 x1 x2 x3 x4 x7 (ix2 r k) = la x0 x1 x2 x4 x7 x3 r k := by
  unfold val_main_v51 val_main_v50 val_main_v49 val_main_v46 val_main_v45 val_main_cst_2 la
  pointwise [ra_eq, sp_eq, word_m8]

theorem la2_eq (r : Fin 8192) (k : Fin 1280) : val_main_v67 (F := Ideal) x0 x1 x2 x3 x4 x7 (ix2 r k) = ((2 : ℝ) : EReal) * la x0 x1 x2 x4 x7 x3 r k := by
  unfold val_main_v67 val_main_v66 val_main_cst_5
  pointwise [la_eq, word_2]

theorem dec_eq (r : Fin 8192) (k : Fin 1280) : val_main_v65 (F := Ideal) x0 x1 x2 x3 x4 x7 (ix2 r k) = dec x0 x1 x2 x4 x7 x3 r k := by
  unfold val_main_v65 dec
  pointwise [la_eq]

theorem inp_eq (h0 : IsReal x0) (h1 : IsReal x1) (h2 : IsReal x2) (h3 : IsReal x3) (h4 : IsReal x4) (h7 : IsReal x7)
    (hz : ∀ r k, ((2 : ℝ) : EReal) * la x0 x1 x2 x4 x7 x3 r k < 0) (r : Fin 8192) (k : Fin 1280) :
    val_main_v72 (F := Ideal) x0 x1 x2 x3 x4 x5 x6 x7 (ix2 r k) = inp x0 x1 x2 x4 x6 x7 x3 x5 r k := by
  unfold val_main_v72 val_main_v71 val_main_v70 val_main_v69 val_main_v68 inp
  rw [← mu_eq h0 h1 h2 h3 h4 h7 hz]
  pointwise [la2_eq, rx_eq, cv_eq]

end Cert.FgatesRefIdeal.Rows

end
-- ==== Proof.FgatesClaim.lean ====
/- The claim about the recurrence's convolution, gates and heads. -/
module

public import proofs.«01_k».proof.Defs
public import proofs.«01_k».proof.Proof.FgatesValue
public import proofs.«01_k».proof.Proof.Gen.FgatesRefIdeal.Run
public import proofs.«01_k».proof.Proof.Gen.Pre_decaying_forward

@[expose] public section

set_option maxRecDepth 16384
set_option maxHeartbeats 1600000

noncomputable section

namespace Cert.Proof

open Cert.RowLib Cert.GatesMath Idealize.ShloMosaic Idealize.ShloMosaic.TcCoe Idealize.SL.Sem

/-- The precondition's bound on the exponent is one on the reference's stage. -/
theorem bounded (x0 : Cert.FgatesIdeal.S8192x1280.Idx → EReal) (x1 : Cert.FgatesIdeal.S4x1280.Idx → EReal) (x2 x4 x6 x7 : Cert.FgatesIdeal.S1280.Idx → EReal) (x3 x5 : Cert.FgatesIdeal.S10x128x128.Idx → EReal)
    (h : (letI := Cert.Pre_decaying_forward.Gen.facts; (Cert.Pre_decaying_forward.fn (F := Ideal) x0 x1 x2 x3 x4 x5 x6 x7).1) = fun _ => 1#1) (r : Fin 8192) (k : Fin 1280) :
    Ideal.cmp .ole (((2 : ℝ) : EReal) * la x0 x1 x2 x4 x7 x3 r k) (Ideal.ofBits .f32 0xBE4CCCCD#32) = 1#1 := by
  rw [← Cert.FgatesRefIdeal.Rows.la2_eq]
  exact congrFun h (ix2 r k)

/-- The kernel's result arrays are those of the reference. -/
theorem fgates_value :
    Cert.algebraic_FgatesIdeal_FgatesRefIdeal_pre_decaying_forward (hFgatesIdeal := Cert.FgatesIdeal.Gen.facts) (hFgatesRefIdeal := Cert.FgatesRefIdeal.Gen.facts) (hPre_decaying_forward := Cert.Pre_decaying_forward.Gen.facts) := by
  intro m g m' g' hpre hag
  refine ⟨fun c => (Cert.FgatesIdeal.Gen.dats m 0 c).arrAt 9 Cert.FgatesIdeal.cfg0.N, fun c => (Cert.FgatesIdeal.Gen.dats m 0 c).arrAt 10 Cert.FgatesIdeal.cfg0.N,
    Cert.FgatesIdeal.Value.run_blocks m g, (θ_run _ _ _).mono (fun r h c => ?_) (Cert.FgatesRefIdeal.Value.run m' g')⟩
  obtain ⟨e0, e1, e2, e3, e4, e5, e6, e7⟩ := hag c
  have f0 : IsReal (Cert.FgatesIdeal.Rows.a0 m c) := fun i => real_of_cmp (congrFun (hpre c).2.1 i)
  have f1 : IsReal (Cert.FgatesIdeal.Rows.a1 m c) := fun i => real_of_cmp (congrFun (hpre c).2.2.1 i)
  have f2 : IsReal (Cert.FgatesIdeal.Rows.a2 m c) := fun i => real_of_cmp (congrFun (hpre c).2.2.2.1 i)
  have f3 : IsReal (Cert.FgatesIdeal.Rows.a3 m c) := fun i => real_of_cmp (congrFun (hpre c).2.2.2.2.1 i)
  have f4 : IsReal (Cert.FgatesIdeal.Rows.a4 m c) := fun i => real_of_cmp (congrFun (hpre c).2.2.2.2.2.1 i)
  have f7 : IsReal (Cert.FgatesIdeal.Rows.a7 m c) := fun i => real_of_cmp (congrFun (hpre c).2.2.2.2.2.2.2.2 i)
  have hd := bounded (Cert.FgatesIdeal.Rows.a0 m c) (Cert.FgatesIdeal.Rows.a1 m c) (Cert.FgatesIdeal.Rows.a2 m c) (Cert.FgatesIdeal.Rows.a4 m c) (Cert.FgatesIdeal.Rows.a6 m c) (Cert.FgatesIdeal.Rows.a7 m c) (Cert.FgatesIdeal.Rows.a3 m c) (Cert.FgatesIdeal.Rows.a5 m c) (hpre c).1
  have hz := fun r k => below_zero (hd r k)
  have hg := fun r k => not_above (hd r k)
  exact ⟨((h c).1.trans (Cert.FgatesRefIdeal.Read.val_main_v65_eq m' c)).trans (ext2 fun a b => by
      rw [e0, e1, e2, e3, e4, e7]
      exact (Cert.FgatesRefIdeal.Rows.dec_eq _ _ _ _ _ _  a b).trans (Cert.FgatesIdeal.Rows.res9 m c a b).symm),
    ((h c).2.1.trans (Cert.FgatesRefIdeal.Read.val_main_v72_eq m' c)).trans (ext2 fun a b => by
      rw [e0, e1, e2, e3, e4, e5, e6, e7]
      exact (Cert.FgatesRefIdeal.Rows.inp_eq _ _ _ _ _ _ _ _ f0 f1 f2 f3 f4 f7 hz a b).trans (Cert.FgatesIdeal.Rows.res10 m c hg a b).symm),
    (h c).2.2⟩

end Cert.Proof

end
-- ==== Proof.FmergeKernel.lean ====
/- What the kernel of the two gated branches, their projection and its norm leaves in its result arrays, block of rows by block of rows. -/
module

public import proofs.«01_k».proof.Proof.Common
public import proofs.«01_k».proof.Proof.Gen.FmergeIdeal.Value

@[expose] public section

set_option maxRecDepth 16384

noncomputable section

namespace Cert.FmergeIdeal.Rows

open Cert.FmergeIdeal Cert.FmergeIdeal.Gen Cert.RowLib Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The blocks of the arguments -/

theorem at0 : ∀ t : Fin grid0.N, win0_0.index t 0 = t.val ∧ win0_0.index t 1 = 0 := by decide +kernel

theorem iblk0_apply (c : Dev nD) (t : Fin cfg0.N) (q : Fin 512) (k : Fin 1280) :
    iblk m c 0 t (ix2 q k) = V m c main_arg0 (ix2 (row 8192 t.val q) k) := by
  unfold iblk
  rw [View.read_apply, cast_eq]
  refine congrArg (V m c main_arg0) (Shape.idx_ext₂ ?_ ?_)
  · refine (Pipeline.Window.rect_emb_val win0_0 t _ 0).trans ((congrArg (· * 512 + q.val) (at0 t).1).trans ?_)
    exact (row_val (T := 16) (B := 512) rfl (lt_of_lt_of_eq t.isLt N_0) q).symm
  · exact Pipeline.Window.rect_emb_val_of_index_zero win0_0 t 1 (at0 t).2 _

theorem at1 : ∀ t : Fin grid0.N, win0_1.index t 0 = t.val ∧ win0_1.index t 1 = 0 := by decide +kernel

theorem iblk1_apply (c : Dev nD) (t : Fin cfg0.N) (q : Fin 512) (k : Fin 1280) :
    iblk m c 1 t (ix2 q k) = V m c main_v0 (ix2 (row 8192 t.val q) k) := by
  unfold iblk
  rw [View.read_apply, cast_eq]
  refine congrArg (V m c main_v0) (Shape.idx_ext₂ ?_ ?_)
  · refine (Pipeline.Window.rect_emb_val win0_1 t _ 0).trans ((congrArg (· * 512 + q.val) (at1 t).1).trans ?_)
    exact (row_val (T := 16) (B := 512) rfl (lt_of_lt_of_eq t.isLt N_0) q).symm
  · exact Pipeline.Window.rect_emb_val_of_index_zero win0_1 t 1 (at1 t).2 _

theorem at2 : ∀ t : Fin grid0.N, win0_2.index t 0 = t.val ∧ win0_2.index t 1 = 0 := by decide +kernel

theorem iblk2_apply (c : Dev nD) (t : Fin cfg0.N) (q : Fin 512) (k : Fin 1024) :
    iblk m c 2 t (ix2 q k) = V m c main_v1 (ix2 (row 8192 t.val q) k) := by
  unfold iblk
  rw [View.read_apply, cast_eq]
  refine congrArg (V m c main_v1) (Shape.idx_ext₂ ?_ ?_)
  · refine (Pipeline.Window.rect_emb_val win0_2 t _ 0).trans ((congrArg (· * 512 + q.val) (at2 t).1).trans ?_)
    exact (row_val (T := 16) (B := 512) rfl (lt_of_lt_of_eq t.isLt N_0) q).symm
  · exact Pipeline.Window.rect_emb_val_of_index_zero win0_2 t 1 (at2 t).2 _

theorem at3 : ∀ t : Fin grid0.N, win0_3.index t 0 = t.val ∧ win0_3.index t 1 = 0 := by decide +kernel

theorem iblk3_apply (c : Dev nD) (t : Fin cfg0.N) (q : Fin 512) (k : Fin 1024) :
    iblk m c 3 t (ix2 q k) = V m c main_v2 (ix2 (row 8192 t.val q) k) := by
  unfold iblk
  rw [View.read_apply, cast_eq]
  refine congrArg (V m c main_v2) (Shape.idx_ext₂ ?_ ?_)
  · refine (Pipeline.Window.rect_emb_val win0_3 t _ 0).trans ((congrArg (· * 512 + q.val) (at3 t).1).trans ?_)
    exact (row_val (T := 16) (B := 512) rfl (lt_of_lt_of_eq t.isLt N_0) q).symm
  · exact Pipeline.Window.rect_emb_val_of_index_zero win0_3 t 1 (at3 t).2 _

theorem at4 : ∀ t : Fin grid0.N, win0_4.index t 0 = t.val ∧ win0_4.index t 1 = 0 := by decide +kernel

theorem iblk4_apply (c : Dev nD) (t : Fin cfg0.N) (q : Fin 512) (k : Fin 1024) :
    iblk m c 4 t (ix2 q k) = V m c main_v3 (ix2 (row 8192 t.val q) k) := by
  unfold iblk
  rw [View.read_apply, cast_eq]
  refine congrArg (V m c main_v3) (Shape.idx_ext₂ ?_ ?_)
  · refine (Pipeline.Window.rect_emb_val win0_4 t _ 0).trans ((congrArg (· * 512 + q.val) (at4 t).1).trans ?_)
    exact (row_val (T := 16) (B := 512) rfl (lt_of_lt_of_eq t.isLt N_0) q).symm
  · exact Pipeline.Window.rect_emb_val_of_index_zero win0_4 t 1 (at4 t).2 _

theorem at5 : ∀ t : Fin grid0.N, win0_5.index t 0 = t.val ∧ win0_5.index t 1 = 0 := by decide +kernel

theorem iblk5_apply (c : Dev nD) (t : Fin cfg0.N) (q : Fin 512) (k : Fin 1024) :
    iblk m c 5 t (ix2 q k) = V m c main_arg5 (ix2 (row 8192 t.val q) k) := by
  unfold iblk
  rw [View.read_apply, cast_eq]
  refine congrArg (V m c main_arg5) (Shape.idx_ext₂ ?_ ?_)
  · refine (Pipeline.Window.rect_emb_val win0_5 t _ 0).trans ((congrArg (· * 512 + q.val) (at5 t).1).trans ?_)
    exact (row_val (T := 16) (B := 512) rfl (lt_of_lt_of_eq t.isLt N_0) q).symm
  · exact Pipeline.Window.rect_emb_val_of_index_zero win0_5 t 1 (at5 t).2 _

theorem at6 : ∀ t : Fin grid0.N, win0_6.index t 0 = 0 ∧ win0_6.index t 1 = 0 := by decide +kernel

theorem iblk6_eq (c : Dev nD) (t : Fin cfg0.N) : iblk m c 6 t = V m c main_v4 := by
  funext j
  unfold iblk
  rw [View.read_apply, cast_eq]
  refine congrArg (V m c main_v4) (Shape.idx_ext₂ ?_ ?_)
  · exact Pipeline.Window.rect_emb_val_of_index_zero win0_6 t 0 (at6 t).1 _
  · exact Pipeline.Window.rect_emb_val_of_index_zero win0_6 t 1 (at6 t).2 _

theorem at7 : ∀ t : Fin grid0.N, win0_7.index t 0 = 0 ∧ win0_7.index t 1 = 0 := by decide +kernel

theorem iblk7_eq (c : Dev nD) (t : Fin cfg0.N) : iblk m c 7 t = V m c main_v5 := by
  funext j
  unfold iblk
  rw [View.read_apply, cast_eq]
  refine congrArg (V m c main_v5) (Shape.idx_ext₂ ?_ ?_)
  · exact Pipeline.Window.rect_emb_val_of_index_zero win0_7 t 0 (at7 t).1 _
  · exact Pipeline.Window.rect_emb_val_of_index_zero win0_7 t 1 (at7 t).2 _

theorem at8 : ∀ t : Fin grid0.N, win0_8.index t 0 = 0 ∧ win0_8.index t 1 = 0 := by decide +kernel

theorem iblk8_eq (c : Dev nD) (t : Fin cfg0.N) : iblk m c 8 t = V m c main_v6 := by
  funext j
  unfold iblk
  rw [View.read_apply, cast_eq]
  refine congrArg (V m c main_v6) (Shape.idx_ext₂ ?_ ?_)
  · exact Pipeline.Window.rect_emb_val_of_index_zero win0_8 t 0 (at8 t).1 _
  · exact Pipeline.Window.rect_emb_val_of_index_zero win0_8 t 1 (at8 t).2 _

/-! ## The result arrays -/

theorem at9 : ∀ t : Fin grid0.N, win0_9.index t 0 = t.val ∧ win0_9.index t 1 = 0 := by decide +kernel

theorem final9 (c : Dev nD) (t : Fin cfg0.N) (q : Fin 512) (b : Fin 1024) :
    (dats m 0 c).arrAt 9 cfg0.N (ix2 (row 8192 t.val q) b) = out0_9 (iblk m c 0 t) (iblk m c 1 t) (iblk m c 2 t) (iblk m c 3 t) (iblk m c 4 t) (iblk m c 5 t) (iblk m c 6 t) (iblk m c 7 t) (iblk m c 8 t) (ix2 q b) := by
  have e : ((cfg0.win 9).blk t).view.emb (ix2 q b) = ix2 (row 8192 t.val q) b := Shape.idx_ext₂
    ((Pipeline.Window.rect_emb_val win0_9 t _ 0).trans ((congrArg (· * 512 + q.val) (at9 t).1).trans
      (row_val (T := 16) (B := 512) rfl (lt_of_lt_of_eq t.isLt N_0) q).symm))
    (Pipeline.Window.rect_emb_val_of_index_zero win0_9 t 1 (at9 t).2 _)
  refine (congrArg ((dats m 0 c).arrAt 9 cfg0.N) e.symm).trans
    (((dats m 0 c).arrAt_emb_eq_flushed 9 Value.disjoint9 t (flush0_9 t) (ix2 q b)).trans ?_)
  rw [Value.flushed9]
  generalize out0_9 (iblk m c 0 t) (iblk m c 1 t) (iblk m c 2 t) (iblk m c 3 t) (iblk m c 4 t) (iblk m c 5 t) (iblk m c 6 t) (iblk m c 7 t) (iblk m c 8 t) = G
  rfl

theorem at10 : ∀ t : Fin grid0.N, win0_10.index t 0 = t.val ∧ win0_10.index t 1 = 0 := by decide +kernel

theorem final10 (c : Dev nD) (t : Fin cfg0.N) (q : Fin 512) (b : Fin 1024) :
    (dats m 0 c).arrAt 10 cfg0.N (ix2 (row 8192 t.val q) b) = out0_10 (iblk m c 0 t) (iblk m c 1 t) (iblk m c 2 t) (iblk m c 3 t) (iblk m c 4 t) (iblk m c 5 t) (iblk m c 6 t) (iblk m c 7 t) (iblk m c 8 t) (ix2 q b) := by
  have e : ((cfg0.win 10).blk t).view.emb (ix2 q b) = ix2 (row 8192 t.val q) b := Shape.idx_ext₂
    ((Pipeline.Window.rect_emb_val win0_10 t _ 0).trans ((congrArg (· * 512 + q.val) (at10 t).1).trans
      (row_val (T := 16) (B := 512) rfl (lt_of_lt_of_eq t.isLt N_0) q).symm))
    (Pipeline.Window.rect_emb_val_of_index_zero win0_10 t 1 (at10 t).2 _)
  refine (congrArg ((dats m 0 c).arrAt 10 cfg0.N) e.symm).trans
    (((dats m 0 c).arrAt_emb_eq_flushed 10 Value.disjoint10 t (flush0_10 t) (ix2 q b)).trans ?_)
  rw [Value.flushed10]
  generalize out0_10 (iblk m c 0 t) (iblk m c 1 t) (iblk m c 2 t) (iblk m c 3 t) (iblk m c 4 t) (iblk m c 5 t) (iblk m c 6 t) (iblk m c 7 t) (iblk m c 8 t) = G
  rfl

theorem at11 : ∀ t : Fin grid0.N, win0_11.index t 0 = t.val ∧ win0_11.index t 1 = 0 := by decide +kernel

theorem final11 (c : Dev nD) (t : Fin cfg0.N) (q : Fin 512) (b : Fin 1024) :
    (dats m 0 c).arrAt 11 cfg0.N (ix2 (row 8192 t.val q) b) = out0_11 (iblk m c 0 t) (iblk m c 1 t) (iblk m c 2 t) (iblk m c 3 t) (iblk m c 4 t) (iblk m c 5 t) (iblk m c 6 t) (iblk m c 7 t) (iblk m c 8 t) (ix2 q b) := by
  have e : ((cfg0.win 11).blk t).view.emb (ix2 q b) = ix2 (row 8192 t.val q) b := Shape.idx_ext₂
    ((Pipeline.Window.rect_emb_val win0_11 t _ 0).trans ((congrArg (· * 512 + q.val) (at11 t).1).trans
      (row_val (T := 16) (B := 512) rfl (lt_of_lt_of_eq t.isLt N_0) q).symm))
    (Pipeline.Window.rect_emb_val_of_index_zero win0_11 t 1 (at11 t).2 _)
  refine (congrArg ((dats m 0 c).arrAt 11 cfg0.N) e.symm).trans
    (((dats m 0 c).arrAt_emb_eq_flushed 11 Value.disjoint11 t (flush0_11 t) (ix2 q b)).trans ?_)
  rw [Value.flushed11]
  generalize out0_11 (iblk m c 0 t) (iblk m c 1 t) (iblk m c 2 t) (iblk m c 3 t) (iblk m c 4 t) (iblk m c 5 t) (iblk m c 6 t) (iblk m c 7 t) (iblk m c 8 t) = G
  rfl

end Cert.FmergeIdeal.Rows

end
-- ==== Proof.FmergeValue.lean ====
/- The two gated branches, their projection and the norm behind it: the kernel's three result arrays and the forward lines are the same functions of the arguments. -/
module

public import proofs.«01_k».proof.Proof.FmergeKernel
public import proofs.«01_k».proof.Proof.Gen.FmergeRefIdeal.Read

@[expose] public section

set_option maxRecDepth 16384

noncomputable section

open Cert.RowLib Idealize.ShloMosaic Idealize.ShloMosaic.TcCoe Idealize.SL.Sem

/-! ## The mathematics -/

namespace Cert.FmergeMath

variable (hl u : (⟨2, ![8192, 1280]⟩ : Shape).Idx → EReal) (zs gs gl x : (⟨2, ![8192, 1024]⟩ : Shape).Idx → EReal)
  (wb : (⟨2, ![1280, 1024]⟩ : Shape).Idx → EReal) (w : (⟨2, ![1024, 1024]⟩ : Shape).Idx → EReal) (gp : (⟨1, ![1024]⟩ : Shape).Idx → EReal)

/-- The second branch: the recurrence's states behind their gate, projected. -/
def zl (r : Fin 8192) (b : Fin 1024) : EReal :=
  ∑ k : Fin 1280, hl (ix2 r k) * (u (ix2 r k) * Ideal.logistic (u (ix2 r k))) * wb (ix2 k b)

/-- The two branches behind their gates, added. -/
def merged (r : Fin 8192) (b : Fin 1024) : EReal :=
  Ideal.logistic (gs (ix2 r b)) * zs (ix2 r b) + Ideal.logistic (gl (ix2 r b)) * zl hl u wb r b

def mix (r : Fin 8192) (b : Fin 1024) : EReal := ∑ k : Fin 1024, merged hl u zs gs gl wb r k * w (ix2 k b)

/-- The mean square of a row of the projection, and the small number. -/
def sq (r : Fin 8192) : EReal :=
  Ideal.div (∑ k : Fin 1024, mix hl u zs gs gl wb w r k * mix hl u zs gs gl wb w r k) ((1024 : ℝ) : EReal) + Ideal.ofBits .f32 0x358637BD#32

/-- The row, and the projection's norm. -/
def out (r : Fin 8192) (b : Fin 1024) : EReal :=
  x (ix2 r b) + mix hl u zs gs gl wb w r b * Ideal.rsqrt (sq hl u zs gs gl wb w r) * gp (ix1 b)

end Cert.FmergeMath

/-! ## The kernel -/

namespace Cert.FmergeIdeal.Rows

open Cert.FmergeIdeal Cert.FmergeIdeal.Gen Cert.FmergeMath

variable (m : (ℓ : Loc nD τ sig) → Buf (Elt Ideal) ℓ) (ρ : Dev nD → PrngReg)

theorem V_v0 (c : Dev nD) : V m c main_v0 = truncf (F := Ideal) .bf16 (m ((c : Thread nD τ).loc main_arg1)) bitsLt_bf16_f32 := by
  unfold V
  simp only [hostOps0]
  after_results

theorem V_v1 (c : Dev nD) : V m c main_v1 = truncf (F := Ideal) .bf16 (m ((c : Thread nD τ).loc main_arg2)) bitsLt_bf16_f32 := by
  unfold V
  simp only [hostOps0]
  after_results

theorem V_v2 (c : Dev nD) : V m c main_v2 = truncf (F := Ideal) .bf16 (m ((c : Thread nD τ).loc main_arg3)) bitsLt_bf16_f32 := by
  unfold V
  simp only [hostOps0]
  after_results

theorem V_v3 (c : Dev nD) : V m c main_v3 = truncf (F := Ideal) .bf16 (m ((c : Thread nD τ).loc main_arg4)) bitsLt_bf16_f32 := by
  unfold V
  simp only [hostOps0]
  after_results

theorem V_v4 (c : Dev nD) : V m c main_v4 = truncf (F := Ideal) .bf16 (m ((c : Thread nD τ).loc main_arg6)) bitsLt_bf16_f32 := by
  unfold V
  simp only [hostOps0]
  after_results

theorem V_v5 (c : Dev nD) : V m c main_v5 = truncf (F := Ideal) .bf16 (m ((c : Thread nD τ).loc main_arg7)) bitsLt_bf16_f32 := by
  unfold V
  simp only [hostOps0]
  after_results

theorem V_v6 (c : Dev nD) : V m c main_v6 = shapeCast S1x1024 (m ((c : Thread nD τ).loc main_arg8)) shapeCasts_S1024_S1x1024 := by
  unfold V
  simp only [hostOps0]
  after_results
  rfl

/-! ### A point's results, over blocks of rows -/

section Pay

variable {s : ℕ} {x0 x1 : S8192x1280.Idx → EReal} {x2 x3 x4 x5 : S8192x1024.Idx → EReal} {x6 : S1280x1024.Idx → EReal} {x7 : S1024x1024.Idx → EReal} {x8 : S1024.Idx → EReal}
  {v0 : Vec Ideal S512x1280 .f32} {v1 : Vec Ideal S512x1280 .bf16} {v2 v3 v4 : Vec Ideal S512x1024 .bf16} {v5 : Vec Ideal S512x1024 .f32}
  {v6 : Vec Ideal S1280x1024 .bf16} {v7 : Vec Ideal S1024x1024 .bf16} {v8 : Vec Ideal S1x1024 .f32}
  (h0 : ∀ q k, v0 (ix2 q k) = x0 (ix2 (row 8192 s q) k)) (h1 : ∀ q k, v1 (ix2 q k) = x1 (ix2 (row 8192 s q) k))
  (h2 : ∀ q k, v2 (ix2 q k) = x2 (ix2 (row 8192 s q) k)) (h3 : ∀ q k, v3 (ix2 q k) = x3 (ix2 (row 8192 s q) k))
  (h4 : ∀ q k, v4 (ix2 q k) = x4 (ix2 (row 8192 s q) k)) (h5 : ∀ q k, v5 (ix2 q k) = x5 (ix2 (row 8192 s q) k))
  (h6 : ∀ j, v6 j = x6 j) (h7 : ∀ j, v7 j = x7 j) (h8 : ∀ a k, v8 (ix2 a k) = x8 (ix1 k))

include h0 h1 h6 in
theorem zl_at (q : Fin 512) (b : Fin 1024) : k0_pay9 v0 v1 v6 (ix2 q b) = zl x0 x1 x6 (row 8192 s q) b := by
  unfold k0_pay9
  pointwise [half_word, h0, h1, h6, half_tanh]
  rfl

include h0 h1 h2 h3 h4 h6 h7 in
theorem mix_at (q : Fin 512) (b : Fin 1024) :
    k0_pay1 (k0_pay5 v2) (k0_pay6 v4) (k0_pay7 v7) (k0_pay9 v0 v1 v6) (k0_pay10 v3) k0_pay11 (ix2 q b)
      = mix x0 x1 x2 x3 x4 x6 x7 (row 8192 s q) b := by
  unfold k0_pay1 k0_pay5 k0_pay6 k0_pay7 k0_pay10 k0_pay11
  pointwise [half_word, h2, h3, h4, h7, half_tanh, zl_at h0 h1 h6]
  rfl

include h0 h1 h2 h3 h4 h5 h6 h7 h8 in
theorem out_at (q : Fin 512) (b : Fin 1024) :
    k0_pay2 (k0_pay5 v2) (k0_pay6 v4) v5 (k0_pay7 v7) (k0_pay8 v8) (k0_pay9 v0 v1 v6) (k0_pay10 v3) k0_pay11 (ix2 q b)
      = out x0 x1 x2 x3 x4 x5 x6 x7 x8 (row 8192 s q) b := by
  unfold k0_pay2 k0_pay8
  pointwise [mix_at h0 h1 h2 h3 h4 h6 h7, word_1024, h5, h8]
  rfl

include h0 h1 h2 h3 h4 h5 h6 h7 h8 in
theorem pay9 (q : Fin 512) (b : Fin 1024) : out0_9 v0 v1 v2 v3 v4 v5 v6 v7 v8 (ix2 q b) = out x0 x1 x2 x3 x4 x5 x6 x7 x8 (row 8192 s q) b := by
  unfold out0_9 k0_pay12 k0_pay13 k0_pay14 k0_pay15 k0_pay16 k0_pay17
  rw [View.canon_unit_zero hz]
  simp only [View.ld_unit_zero (S := S512x1024) hz, View.ld_unit_zero (S := S512x1280) hz, View.ld_unit_zero (S := S1280x1024) hz, View.ld_unit_zero (S := S1024x1024) hz, View.ld_unit_zero (S := S1x1024) hz]
  exact out_at h0 h1 h2 h3 h4 h5 h6 h7 h8 q b

include h0 h1 h2 h3 h4 h6 h7 in
theorem pay10 (q : Fin 512) (b : Fin 1024) : out0_10 v0 v1 v2 v3 v4 v5 v6 v7 v8 (ix2 q b) = mix x0 x1 x2 x3 x4 x6 x7 (row 8192 s q) b := by
  unfold out0_10 k0_pay12 k0_pay13 k0_pay14 k0_pay15 k0_pay16 k0_pay17
  rw [View.canon_unit_zero hz]
  simp only [View.ld_unit_zero (S := S512x1024) hz, View.ld_unit_zero (S := S512x1280) hz, View.ld_unit_zero (S := S1280x1024) hz, View.ld_unit_zero (S := S1024x1024) hz, View.ld_unit_zero (S := S1x1024) hz]
  unfold k0_pay3
  pointwise [mix_at h0 h1 h2 h3 h4 h6 h7]

include h0 h1 h6 in
theorem pay11 (q : Fin 512) (b : Fin 1024) : out0_11 v0 v1 v2 v3 v4 v5 v6 v7 v8 (ix2 q b) = zl x0 x1 x6 (row 8192 s q) b := by
  unfold out0_11 k0_pay15
  rw [View.canon_unit_zero hz]
  simp only [View.ld_unit_zero (S := S512x1024) hz, View.ld_unit_zero (S := S512x1280) hz, View.ld_unit_zero (S := S1280x1024) hz, View.ld_unit_zero (S := S1024x1024) hz, View.ld_unit_zero (S := S1x1024) hz]
  unfold k0_pay4
  pointwise [zl_at h0 h1 h6]

end Pay

/-! ### The arguments -/

abbrev a0 (c : Dev nD) : S8192x1280.Idx → EReal := m ((c : Thread nD τ).loc main_arg0)
abbrev a1 (c : Dev nD) : S8192x1280.Idx → EReal := m ((c : Thread nD τ).loc main_arg1)
abbrev a2 (c : Dev nD) : S8192x1024.Idx → EReal := m ((c : Thread nD τ).loc main_arg2)
abbrev a3 (c : Dev nD) : S8192x1024.Idx → EReal := m ((c : Thread nD τ).loc main_arg3)
abbrev a4 (c : Dev nD) : S8192x1024.Idx → EReal := m ((c : Thread nD τ).loc main_arg4)
abbrev a5 (c : Dev nD) : S8192x1024.Idx → EReal := m ((c : Thread nD τ).loc main_arg5)
abbrev a6 (c : Dev nD) : S1280x1024.Idx → EReal := m ((c : Thread nD τ).loc main_arg6)
abbrev a7 (c : Dev nD) : S1024x1024.Idx → EReal := m ((c : Thread nD τ).loc main_arg7)
abbrev a8 (c : Dev nD) : S1024.Idx → EReal := m ((c : Thread nD τ).loc main_arg8)

theorem b0 (c : Dev nD) (t : Fin cfg0.N) (q : Fin 512) (k : Fin 1280) : iblk m c 0 t (ix2 q k) = a0 m c (ix2 (row 8192 t.val q) k) :=
  (iblk0_apply m c t q k).trans (congrFun (V_main_arg0 m c) _)
theorem b1 (c : Dev nD) (t : Fin cfg0.N) (q : Fin 512) (k : Fin 1280) : iblk m c 1 t (ix2 q k) = a1 m c (ix2 (row 8192 t.val q) k) :=
  (iblk1_apply m c t q k).trans (congrFun (V_v0 m c) _)
theorem b2 (c : Dev nD) (t : Fin cfg0.N) (q : Fin 512) (k : Fin 1024) : iblk m c 2 t (ix2 q k) = a2 m c (ix2 (row 8192 t.val q) k) :=
  (iblk2_apply m c t q k).trans (congrFun (V_v1 m c) _)
theorem b3 (c : Dev nD) (t : Fin cfg0.N) (q : Fin 512) (k : Fin 1024) : iblk m c 3 t (ix2 q k) = a3 m c (ix2 (row 8192 t.val q) k) :=
  (iblk3_apply m c t q k).trans (congrFun (V_v2 m c) _)
theorem b4 (c : Dev nD) (t : Fin cfg0.N) (q : Fin 512) (k : Fin 1024) : iblk m c 4 t (ix2 q k) = a4 m c (ix2 (row 8192 t.val q) k) :=
  (iblk4_apply m c t q k).trans (congrFun (V_v3 m c) _)
theorem b5 (c : Dev nD) (t : Fin cfg0.N) (q : Fin 512) (k : Fin 1024) : iblk m c 5 t (ix2 q k) = a5 m c (ix2 (row 8192 t.val q) k) :=
  (iblk5_apply m c t q k).trans (congrFun (V_main_arg5 m c) _)
theorem b6 (c : Dev nD) (t : Fin cfg0.N) (j : S1280x1024.Idx) : iblk m c 6 t j = a6 m c j :=
  (congrFun (iblk6_eq m c t) j).trans (congrFun (V_v4 m c) j)
theorem b7 (c : Dev nD) (t : Fin cfg0.N) (j : S1024x1024.Idx) : iblk m c 7 t j = a7 m c j :=
  (congrFun (iblk7_eq m c t) j).trans (congrFun (V_v5 m c) j)
theorem b8 (c : Dev nD) (t : Fin cfg0.N) (a : Fin 1) (k : Fin 1024) : iblk m c 8 t (ix2 a k) = a8 m c (ix1 k) := by
  rw [iblk8_eq, V_v6]
  pointwise

/-! ### The result arrays -/

theorem res9 (c : Dev nD) (r : Fin 8192) (b : Fin 1024) :
    (dats m 0 c).arrAt 9 cfg0.N (ix2 r b) = out (a0 m c) (a1 m c) (a2 m c) (a3 m c) (a4 m c) (a5 m c) (a6 m c) (a7 m c) (a8 m c) r b := by
  obtain ⟨s, hs, q, rfl⟩ := exists_row (T := 16) (B := 512) rfl r
  exact (final9 m c ⟨s, lt_of_lt_of_eq hs N_0.symm⟩ q b).trans
    (pay9 (b0 m c _) (b1 m c _) (b2 m c _) (b3 m c _) (b4 m c _) (b5 m c _) (b6 m c _) (b7 m c _) (b8 m c _) q b)

theorem res10 (c : Dev nD) (r : Fin 8192) (b : Fin 1024) :
    (dats m 0 c).arrAt 10 cfg0.N (ix2 r b) = mix (a0 m c) (a1 m c) (a2 m c) (a3 m c) (a4 m c) (a6 m c) (a7 m c) r b := by
  obtain ⟨s, hs, q, rfl⟩ := exists_row (T := 16) (B := 512) rfl r
  exact (final10 m c ⟨s, lt_of_lt_of_eq hs N_0.symm⟩ q b).trans
    (pay10 (b0 m c _) (b1 m c _) (b2 m c _) (b3 m c _) (b4 m c _) (b6 m c _) (b7 m c _) q b)

theorem res11 (c : Dev nD) (r : Fin 8192) (b : Fin 1024) :
    (dats m 0 c).arrAt 11 cfg0.N (ix2 r b) = zl (a0 m c) (a1 m c) (a6 m c) r b := by
  obtain ⟨s, hs, q, rfl⟩ := exists_row (T := 16) (B := 512) rfl r
  exact (final11 m c ⟨s, lt_of_lt_of_eq hs N_0.symm⟩ q b).trans
    (pay11 (b0 m c _) (b1 m c _) (b6 m c _) q b)

end Cert.FmergeIdeal.Rows

/-! ## The reference -/

namespace Cert.FmergeRefIdeal.Rows

open Cert.FmergeRefIdeal Cert.FmergeRefIdeal.Gen Cert.FmergeRefIdeal.Read Cert.FmergeMath

variable (x0 x1 : S8192x1280.Idx → EReal) (x2 x3 x4 x5 : S8192x1024.Idx → EReal) (x6 : S1280x1024.Idx → EReal) (x7 : S1024x1024.Idx → EReal) (x8 : S1024.Idx → EReal)

theorem branch_eq (r : Fin 8192) (b : Fin 1024) : val_main_v2 (F := Ideal) x0 x1 x6 (ix2 r b) = zl x0 x1 x6 r b := by
  unfold val_main_v2 val_main_v1 val_main_v0 val_main_call0_v5 val_main_call0_v4 val_main_call0_v3 val_main_call0_v2 val_main_call0_v1 val_main_call0_v0 val_main_call0_cst val_main_call0_cst_0
  pointwise
  rfl

theorem mixed_eq (r : Fin 8192) (b : Fin 1024) : val_main_v18 (F := Ideal) x0 x1 x2 x3 x4 x6 x7 (ix2 r b) = mix x0 x1 x2 x3 x4 x6 x7 r b := by
  unfold val_main_v18 val_main_v17 val_main_v16 val_main_v15 val_main_v14 val_main_v13 val_main_v12 val_main_v11 val_main_v10 val_main_v9 val_main_v8 val_main_v7
    val_main_v6 val_main_v5 val_main_v4 val_main_v3 val_main_cst val_main_cst_0 val_main_cst_1 val_main_cst_2
  pointwise [branch_eq]
  rfl

theorem out_eq (r : Fin 8192) (b : Fin 1024) : val_main_v32 (F := Ideal) x0 x1 x2 x3 x4 x5 x6 x7 x8 (ix2 r b) = out x0 x1 x2 x3 x4 x5 x6 x7 x8 r b := by
  unfold val_main_v32 val_main_v31 val_main_v30 val_main_v29 val_main_v28 val_main_v27 val_main_v26 val_main_v25 val_main_v24 val_main_v23 val_main_v22 val_main_v21
    val_main_v20 val_main_v19 val_main_cst_3 val_main_cst_4 val_main_cst_5
  pointwise [mixed_eq, word_1024]
  rfl

theorem mix_eq (r : Fin 8192) (b : Fin 1024) : val_main_v33 (F := Ideal) x0 x1 x2 x3 x4 x6 x7 (ix2 r b) = mix x0 x1 x2 x3 x4 x6 x7 r b := by
  unfold val_main_v33
  pointwise [mixed_eq]

theorem zl_eq (r : Fin 8192) (b : Fin 1024) : val_main_v34 (F := Ideal) x0 x1 x6 (ix2 r b) = zl x0 x1 x6 r b := by
  unfold val_main_v34
  pointwise [branch_eq]

end Cert.FmergeRefIdeal.Rows

end
-- ==== Proof.FmergeClaim.lean ====
/- The claim about the two gated branches, their projection and its norm. -/
module

public import proofs.«01_k».proof.Defs
public import proofs.«01_k».proof.Proof.FmergeValue
public import proofs.«01_k».proof.Proof.Gen.FmergeRefIdeal.Run

@[expose] public section

set_option maxRecDepth 16384
set_option maxHeartbeats 1600000

noncomputable section

namespace Cert.Proof

open Cert.RowLib Idealize.ShloMosaic Idealize.ShloMosaic.TcCoe Idealize.SL.Sem

/-- The kernel's result arrays are those of the reference. -/
theorem fmerge_value :
    Cert.algebraic_FmergeIdeal_FmergeRefIdeal (hFmergeIdeal := Cert.FmergeIdeal.Gen.facts) (hFmergeRefIdeal := Cert.FmergeRefIdeal.Gen.facts) := by
  intro m g m' g' hpre hag
  refine ⟨fun c => (Cert.FmergeIdeal.Gen.dats m 0 c).arrAt 9 Cert.FmergeIdeal.cfg0.N, fun c => (Cert.FmergeIdeal.Gen.dats m 0 c).arrAt 10 Cert.FmergeIdeal.cfg0.N, fun c => (Cert.FmergeIdeal.Gen.dats m 0 c).arrAt 11 Cert.FmergeIdeal.cfg0.N,
    Cert.FmergeIdeal.Value.run_blocks m g, (θ_run _ _ _).mono (fun r h c => ?_) (Cert.FmergeRefIdeal.Value.run m' g')⟩
  obtain ⟨e0, e1, e2, e3, e4, e5, e6, e7, e8⟩ := hag c
  exact ⟨((h c).1.trans (Cert.FmergeRefIdeal.Read.val_main_v32_eq m' c)).trans (ext2 fun a b => by
      rw [e0, e1, e2, e3, e4, e5, e6, e7, e8]
      exact (Cert.FmergeRefIdeal.Rows.out_eq _ _ _ _ _ _ _ _ _  a b).trans (Cert.FmergeIdeal.Rows.res9 m c a b).symm),
    ((h c).2.1.trans (Cert.FmergeRefIdeal.Read.val_main_v33_eq (m' ((c.tc : Thread Cert.FmergeRefIdeal.nD Cert.FmergeRefIdeal.τ).loc Cert.FmergeRefIdeal.main_arg0)) (m' ((c.tc : Thread Cert.FmergeRefIdeal.nD Cert.FmergeRefIdeal.τ).loc Cert.FmergeRefIdeal.main_arg1)) (m' ((c.tc : Thread Cert.FmergeRefIdeal.nD Cert.FmergeRefIdeal.τ).loc Cert.FmergeRefIdeal.main_arg2)) (m' ((c.tc : Thread Cert.FmergeRefIdeal.nD Cert.FmergeRefIdeal.τ).loc Cert.FmergeRefIdeal.main_arg3)) (m' ((c.tc : Thread Cert.FmergeRefIdeal.nD Cert.FmergeRefIdeal.τ).loc Cert.FmergeRefIdeal.main_arg4)) (m' ((c.tc : Thread Cert.FmergeRefIdeal.nD Cert.FmergeRefIdeal.τ).loc Cert.FmergeRefIdeal.main_arg6)) (m' ((c.tc : Thread Cert.FmergeRefIdeal.nD Cert.FmergeRefIdeal.τ).loc Cert.FmergeRefIdeal.main_arg7)))).trans (ext2 fun a b => by
      rw [e0, e1, e2, e3, e4, e6, e7]
      exact (Cert.FmergeRefIdeal.Rows.mix_eq _ _ _ _ _ _ _  a b).trans (Cert.FmergeIdeal.Rows.res10 m c a b).symm),
    ((h c).2.2.1.trans (Cert.FmergeRefIdeal.Read.val_main_v34_eq (m' ((c.tc : Thread Cert.FmergeRefIdeal.nD Cert.FmergeRefIdeal.τ).loc Cert.FmergeRefIdeal.main_arg0)) (m' ((c.tc : Thread Cert.FmergeRefIdeal.nD Cert.FmergeRefIdeal.τ).loc Cert.FmergeRefIdeal.main_arg1)) (m' ((c.tc : Thread Cert.FmergeRefIdeal.nD Cert.FmergeRefIdeal.τ).loc Cert.FmergeRefIdeal.main_arg6)))).trans (ext2 fun a b => by
      rw [e0, e1, e6]
      exact (Cert.FmergeRefIdeal.Rows.zl_eq _ _ _  a b).trans (Cert.FmergeIdeal.Rows.res11 m c a b).symm),
    (h c).2.2.2⟩

end Cert.Proof

end
-- ==== Proof.Fs5postKernel.lean ====
/- What the kernel of the first branch's GELU, gated linear unit, gate and projection leaves in its result array, block of rows by block of rows. -/
module

public import proofs.«01_k».proof.Proof.Common
public import proofs.«01_k».proof.Proof.Gen.Fs5postIdeal.Value

@[expose] public section

set_option maxRecDepth 16384

noncomputable section

namespace Cert.Fs5postIdeal.Rows

open Cert.Fs5postIdeal Cert.Fs5postIdeal.Gen Cert.RowLib Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The blocks of the arguments -/

theorem at0 : ∀ t : Fin grid0.N, win0_0.index t 0 = t.val ∧ win0_0.index t 1 = 0 := by decide +kernel

theorem iblk0_apply (c : Dev nD) (t : Fin cfg0.N) (q : Fin 512) (k : Fin 512) :
    iblk m c 0 t (ix2 q k) = V m c main_arg0 (ix2 (row 8192 t.val q) k) := by
  unfold iblk
  rw [View.read_apply, cast_eq]
  refine congrArg (V m c main_arg0) (Shape.idx_ext₂ ?_ ?_)
  · refine (Pipeline.Window.rect_emb_val win0_0 t _ 0).trans ((congrArg (· * 512 + q.val) (at0 t).1).trans ?_)
    exact (row_val (T := 16) (B := 512) rfl (lt_of_lt_of_eq t.isLt N_0) q).symm
  · exact Pipeline.Window.rect_emb_val_of_index_zero win0_0 t 1 (at0 t).2 _

theorem at1 : ∀ t : Fin grid0.N, win0_1.index t 0 = t.val ∧ win0_1.index t 1 = 0 := by decide +kernel

theorem iblk1_apply (c : Dev nD) (t : Fin cfg0.N) (q : Fin 512) (k : Fin 512) :
    iblk m c 1 t (ix2 q k) = V m c main_v0 (ix2 (row 8192 t.val q) k) := by
  unfold iblk
  rw [View.read_apply, cast_eq]
  refine congrArg (V m c main_v0) (Shape.idx_ext₂ ?_ ?_)
  · refine (Pipeline.Window.rect_emb_val win0_1 t _ 0).trans ((congrArg (· * 512 + q.val) (at1 t).1).trans ?_)
    exact (row_val (T := 16) (B := 512) rfl (lt_of_lt_of_eq t.isLt N_0) q).symm
  · exact Pipeline.Window.rect_emb_val_of_index_zero win0_1 t 1 (at1 t).2 _

theorem at2 : ∀ t : Fin grid0.N, win0_2.index t 0 = 0 ∧ win0_2.index t 1 = 0 := by decide +kernel

theorem iblk2_eq (c : Dev nD) (t : Fin cfg0.N) : iblk m c 2 t = V m c main_v1 := by
  funext j
  unfold iblk
  rw [View.read_apply, cast_eq]
  refine congrArg (V m c main_v1) (Shape.idx_ext₂ ?_ ?_)
  · exact Pipeline.Window.rect_emb_val_of_index_zero win0_2 t 0 (at2 t).1 _
  · exact Pipeline.Window.rect_emb_val_of_index_zero win0_2 t 1 (at2 t).2 _

theorem at3 : ∀ t : Fin grid0.N, win0_3.index t 0 = 0 ∧ win0_3.index t 1 = 0 := by decide +kernel

theorem iblk3_eq (c : Dev nD) (t : Fin cfg0.N) : iblk m c 3 t = V m c main_v2 := by
  funext j
  unfold iblk
  rw [View.read_apply, cast_eq]
  refine congrArg (V m c main_v2) (Shape.idx_ext₂ ?_ ?_)
  · exact Pipeline.Window.rect_emb_val_of_index_zero win0_3 t 0 (at3 t).1 _
  · exact Pipeline.Window.rect_emb_val_of_index_zero win0_3 t 1 (at3 t).2 _

/-! ## The result arrays -/

theorem at4 : ∀ t : Fin grid0.N, win0_4.index t 0 = t.val ∧ win0_4.index t 1 = 0 := by decide +kernel

theorem final4 (c : Dev nD) (t : Fin cfg0.N) (q : Fin 512) (b : Fin 1024) :
    (dats m 0 c).arrAt 4 cfg0.N (ix2 (row 8192 t.val q) b) = out0_4 (iblk m c 0 t) (iblk m c 1 t) (iblk m c 2 t) (iblk m c 3 t) (ix2 q b) := by
  have e : ((cfg0.win 4).blk t).view.emb (ix2 q b) = ix2 (row 8192 t.val q) b := Shape.idx_ext₂
    ((Pipeline.Window.rect_emb_val win0_4 t _ 0).trans ((congrArg (· * 512 + q.val) (at4 t).1).trans
      (row_val (T := 16) (B := 512) rfl (lt_of_lt_of_eq t.isLt N_0) q).symm))
    (Pipeline.Window.rect_emb_val_of_index_zero win0_4 t 1 (at4 t).2 _)
  refine (congrArg ((dats m 0 c).arrAt 4 cfg0.N) e.symm).trans
    (((dats m 0 c).arrAt_emb_eq_flushed 4 Value.disjoint4 t (flush0_4 t) (ix2 q b)).trans ?_)
  rw [Value.flushed4]
  generalize out0_4 (iblk m c 0 t) (iblk m c 1 t) (iblk m c 2 t) (iblk m c 3 t) = G
  rfl

end Cert.Fs5postIdeal.Rows

end
-- ==== Proof.Fs5postValue.lean ====
/- The GELU, the gated linear unit, the SiLU gate and the projection of the first branch: the kernel's result array and the forward lines are the same function of the arguments. -/
module

public import proofs.«01_k».proof.Proof.Fs5postKernel
public import proofs.«01_k».proof.Proof.S5postValue
public import proofs.«01_k».proof.Proof.Gen.Fs5postRefIdeal.Read

@[expose] public section

set_option maxRecDepth 16384

noncomputable section

open Cert.RowLib Idealize.ShloMosaic Idealize.ShloMosaic.TcCoe Idealize.SL.Sem

/-! ## The mathematics -/

namespace Cert.Fs5postMath

open Cert.S5postMath

variable (x g : (⟨2, ![8192, 512]⟩ : Shape).Idx → EReal) (wg wb : (⟨2, ![512, 1024]⟩ : Shape).Idx → EReal)

/-- The two halves of the gated linear unit, behind the branch's gate, projected. -/
def out (r : Fin 8192) (b : Fin 1024) : EReal := ∑ k : Fin 512, ga x wg r k * sb x wg r k * silu g r k * wb (ix2 k b)

end Cert.Fs5postMath

/-! ## The kernel -/

namespace Cert.Fs5postIdeal.Rows

open Cert.Fs5postIdeal Cert.Fs5postIdeal.Gen Cert.Fs5postMath Cert.S5postMath

variable (m : (ℓ : Loc nD τ sig) → Buf (Elt Ideal) ℓ) (ρ : Dev nD → PrngReg)

theorem V_v0 (c : Dev nD) : V m c main_v0 = truncf (F := Ideal) .bf16 (m ((c : Thread nD τ).loc main_arg1)) bitsLt_bf16_f32 := by
  unfold V
  simp only [hostOps0]
  after_results

theorem V_v1 (c : Dev nD) : V m c main_v1 = truncf (F := Ideal) .bf16 (m ((c : Thread nD τ).loc main_arg2)) bitsLt_bf16_f32 := by
  unfold V
  simp only [hostOps0]
  after_results

theorem V_v2 (c : Dev nD) : V m c main_v2 = truncf (F := Ideal) .bf16 (m ((c : Thread nD τ).loc main_arg3)) bitsLt_bf16_f32 := by
  unfold V
  simp only [hostOps0]
  after_results

/-! ### A point's results, over blocks of rows -/

section Pay

theorem named_c : Named.named (F := Ideal) Cert.Fs5postIdeal.κ "gelu_c" (φ := .f32) 0x3D372713#32 = cc :=
  IdealRules.named_const.ideal_named_scalar _ _ _ _ rfl

variable {s : ℕ} {x0 x1 : S8192x512.Idx → EReal} {x2 x3 : S512x1024.Idx → EReal}
  {v0 : Vec Ideal S512x512 .f32} {v1 : Vec Ideal S512x512 .bf16} {v2 v3 : Vec Ideal S512x1024 .bf16}
  (h0 : ∀ q k, v0 (ix2 q k) = x0 (ix2 (row 8192 s q) k)) (h1 : ∀ q k, v1 (ix2 q k) = x1 (ix2 (row 8192 s q) k))
  (h2 : ∀ j, v2 j = x2 j) (h3 : ∀ j, v3 j = x3 j)

include h0 h2 in
theorem unit_at (q b : Fin 512) : k0_pay4 v0 v2 (ix2 q b) = ga x0 x2 (row 8192 s q) b * sb x0 x2 (row 8192 s q) b := by
  unfold k0_pay4
  pointwise [half_word, h0, h2, half_tanh, named_c]
  rfl

include h0 h1 h2 h3 in
theorem pay4 (q : Fin 512) (b : Fin 1024) : out0_4 v0 v1 v2 v3 (ix2 q b) = out x0 x1 x2 x3 (row 8192 s q) b := by
  unfold out0_4
  rw [View.canon_unit_zero hz]
  simp only [View.ld_unit_zero (S := S512x512) hz, View.ld_unit_zero (S := S512x1024) hz]
  unfold k0_pay1 k0_pay5 k0_pay3 k0_pay2
  pointwise [half_word, unit_at h0 h2, h1, h3, half_tanh]
  rfl

end Pay

/-! ### The arguments -/

abbrev a0 (c : Dev nD) : S8192x512.Idx → EReal := m ((c : Thread nD τ).loc main_arg0)
abbrev a1 (c : Dev nD) : S8192x512.Idx → EReal := m ((c : Thread nD τ).loc main_arg1)
abbrev a2 (c : Dev nD) : S512x1024.Idx → EReal := m ((c : Thread nD τ).loc main_arg2)
abbrev a3 (c : Dev nD) : S512x1024.Idx → EReal := m ((c : Thread nD τ).loc main_arg3)

theorem b0 (c : Dev nD) (t : Fin cfg0.N) (q : Fin 512) (k : Fin 512) : iblk m c 0 t (ix2 q k) = a0 m c (ix2 (row 8192 t.val q) k) :=
  (iblk0_apply m c t q k).trans (congrFun (V_main_arg0 m c) _)
theorem b1 (c : Dev nD) (t : Fin cfg0.N) (q : Fin 512) (k : Fin 512) : iblk m c 1 t (ix2 q k) = a1 m c (ix2 (row 8192 t.val q) k) :=
  (iblk1_apply m c t q k).trans (congrFun (V_v0 m c) _)
theorem b2 (c : Dev nD) (t : Fin cfg0.N) (j : S512x1024.Idx) : iblk m c 2 t j = a2 m c j :=
  (congrFun (iblk2_eq m c t) j).trans (congrFun (V_v1 m c) j)
theorem b3 (c : Dev nD) (t : Fin cfg0.N) (j : S512x1024.Idx) : iblk m c 3 t j = a3 m c j :=
  (congrFun (iblk3_eq m c t) j).trans (congrFun (V_v2 m c) j)

/-! ### The result arrays -/

theorem res4 (c : Dev nD) (r : Fin 8192) (b : Fin 1024) :
    (dats m 0 c).arrAt 4 cfg0.N (ix2 r b) = out (a0 m c) (a1 m c) (a2 m c) (a3 m c) r b := by
  obtain ⟨s, hs, q, rfl⟩ := exists_row (T := 16) (B := 512) rfl r
  exact (final4 m c ⟨s, lt_of_lt_of_eq hs N_0.symm⟩ q b).trans
    (pay4 (b0 m c _) (b1 m c _) (b2 m c _) (b3 m c _) q b)

end Cert.Fs5postIdeal.Rows

/-! ## The reference -/

namespace Cert.Fs5postRefIdeal.Rows

open Cert.Fs5postRefIdeal Cert.Fs5postRefIdeal.Gen Cert.Fs5postRefIdeal.Read Cert.Fs5postMath Cert.S5postMath

open Cert.S5postRefIdeal.Rows (word_44715 word_million quotient_eq)

variable (x0 x1 : S8192x512.Idx → EReal) (x2 x3 : S512x1024.Idx → EReal)

theorem th_eq (r : Fin 8192) (b : Fin 512) : val_main_v9 (F := Ideal) x0 (ix2 r b) = th (x0 (ix2 r b)) := by
  unfold val_main_v9 val_main_v8 val_main_v7 val_main_v6 val_main_v5 val_main_v4 val_main_v3 val_main_v2 val_main_v1 val_main_v0 val_main_cst val_main_cst_0 val_main_cst_1
  pointwise [word_44715, word_million, quotient_eq]
  unfold th
  rw [mul_assoc cc, mul_assoc cc, mul_assoc (x0 _)]
  rfl

theorem gelu_eq (r : Fin 8192) (b : Fin 512) : val_main_v14 (F := Ideal) x0 (ix2 r b) = gelu (x0 (ix2 r b)) := by
  unfold val_main_v14 val_main_v13 val_main_v12 val_main_v11 val_main_v10 val_main_cst_2 val_main_cst_3
  pointwise [th_eq, half_word]
  unfold gelu
  rw [← mul_assoc, mul_comm (x0 _)]

theorem unit_eq (r : Fin 8192) (b : Fin 512) : val_main_v24 (F := Ideal) x0 x2 (ix2 r b) = ga x0 x2 r b * sb x0 x2 r b := by
  unfold val_main_v24 val_main_v23 val_main_v22 val_main_v21 val_main_v20 val_main_v19 val_main_v18 val_main_v17 val_main_v16 val_main_v15 val_main_cst_4 val_main_cst_5
  pointwise [gelu_eq]
  rfl

theorem out_eq (r : Fin 8192) (b : Fin 1024) : val_main_v28 (F := Ideal) x0 x1 x2 x3 (ix2 r b) = out x0 x1 x2 x3 r b := by
  unfold val_main_v28 val_main_v27 val_main_v26 val_main_v25 val_main_call0_v5 val_main_call0_v4 val_main_call0_v3 val_main_call0_v2 val_main_call0_v1 val_main_call0_v0 val_main_call0_cst val_main_call0_cst_0
  pointwise [unit_eq]
  rfl

end Cert.Fs5postRefIdeal.Rows

end
-- ==== Proof.Fs5postClaim.lean ====
/- The claim about the GELU, the gated linear unit, the gate and the projection of the first branch. -/
module

public import proofs.«01_k».proof.Defs
public import proofs.«01_k».proof.Proof.Fs5postValue
public import proofs.«01_k».proof.Proof.Gen.Fs5postRefIdeal.Run

@[expose] public section

set_option maxRecDepth 16384
set_option maxHeartbeats 1600000

noncomputable section

namespace Cert.Proof

open Cert.RowLib Idealize.ShloMosaic Idealize.ShloMosaic.TcCoe Idealize.SL.Sem

/-- The kernel's result arrays are those of the reference. -/
theorem fs5post_value :
    Cert.algebraic_Fs5postIdeal_Fs5postRefIdeal (hFs5postIdeal := Cert.Fs5postIdeal.Gen.facts) (hFs5postRefIdeal := Cert.Fs5postRefIdeal.Gen.facts) := by
  intro m g m' g' hpre hag
  refine ⟨fun c => (Cert.Fs5postIdeal.Gen.dats m 0 c).arrAt 4 Cert.Fs5postIdeal.cfg0.N,
    Cert.Fs5postIdeal.Value.run_blocks m g, (θ_run _ _ _).mono (fun r h c => ?_) (Cert.Fs5postRefIdeal.Value.run m' g')⟩
  obtain ⟨e0, e1, e2, e3⟩ := hag c
  exact ⟨((h c).1.trans (Cert.Fs5postRefIdeal.Read.val_main_v28_eq (m' ((c.tc : Thread Cert.Fs5postRefIdeal.nD Cert.Fs5postRefIdeal.τ).loc Cert.Fs5postRefIdeal.main_arg0)) (m' ((c.tc : Thread Cert.Fs5postRefIdeal.nD Cert.Fs5postRefIdeal.τ).loc Cert.Fs5postRefIdeal.main_arg1)) (m' ((c.tc : Thread Cert.Fs5postRefIdeal.nD Cert.Fs5postRefIdeal.τ).loc Cert.Fs5postRefIdeal.main_arg2)) (m' ((c.tc : Thread Cert.Fs5postRefIdeal.nD Cert.Fs5postRefIdeal.τ).loc Cert.Fs5postRefIdeal.main_arg3)))).trans (ext2 fun a b => by
      rw [e0, e1, e2, e3]
      exact (Cert.Fs5postRefIdeal.Rows.out_eq _ _ _ _  a b).trans (Cert.Fs5postIdeal.Rows.res4 m c a b).symm),
    (h c).2⟩

end Cert.Proof

end
-- ==== Proof.FinKernel.lean ====
/- What the kernel of the norm before a layer and of its input projection leaves in its result arrays, block of rows by block of rows. -/
module

public import proofs.«01_k».proof.Proof.Common
public import proofs.«01_k».proof.Proof.Gen.FinIdeal.Value

@[expose] public section

set_option maxRecDepth 16384

noncomputable section

namespace Cert.FinIdeal.Rows

open Cert.FinIdeal Cert.FinIdeal.Gen Cert.RowLib Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem hz3 : (![0, 0, 0] : Fin 3 → Nat) = fun _ => 0 := funext fun a => by fin_cases a <;> rfl

theorem idx_ext3 {n0 n1 n2 : ℕ} {i : (⟨3, ![n0, n1, n2]⟩ : Shape).Idx} {a : Fin n0} {b : Fin n1} {d : Fin n2}
    (h0 : (i 0).val = a.val) (h1 : (i 1).val = b.val) (h2 : (i 2).val = d.val) : i = ix3 a b d :=
  funext fun x => match x with
    | ⟨0, _⟩ => Fin.ext h0
    | ⟨1, _⟩ => Fin.ext h1
    | ⟨2, _⟩ => Fin.ext h2

/-! ## The blocks of the arguments -/

theorem at0 : ∀ t : Fin grid0.N, win0_0.index t 0 = t.val ∧ win0_0.index t 1 = 0 := by decide +kernel

theorem iblk0_apply (c : Dev nD) (t : Fin cfg0.N) (q : Fin 256) (k : Fin 1024) :
    iblk m c 0 t (ix2 q k) = V m c main_arg0 (ix2 (row 8192 t.val q) k) := by
  unfold iblk
  rw [View.read_apply, cast_eq]
  refine congrArg (V m c main_arg0) (Shape.idx_ext₂ ?_ ?_)
  · refine (Pipeline.Window.rect_emb_val win0_0 t _ 0).trans ((congrArg (· * 256 + q.val) (at0 t).1).trans ?_)
    exact (row_val (T := 32) (B := 256) rfl (lt_of_lt_of_eq t.isLt N_0) q).symm
  · exact Pipeline.Window.rect_emb_val_of_index_zero win0_0 t 1 (at0 t).2 _

theorem at1 : ∀ t : Fin grid0.N, win0_1.index t 0 = 0 ∧ win0_1.index t 1 = 0 := by decide +kernel

theorem iblk1_eq (c : Dev nD) (t : Fin cfg0.N) : iblk m c 1 t = V m c main_v3 := by
  funext j
  unfold iblk
  rw [View.read_apply, cast_eq]
  refine congrArg (V m c main_v3) (Shape.idx_ext₂ ?_ ?_)
  · exact Pipeline.Window.rect_emb_val_of_index_zero win0_1 t 0 (at1 t).1 _
  · exact Pipeline.Window.rect_emb_val_of_index_zero win0_1 t 1 (at1 t).2 _

theorem at2 : ∀ t : Fin grid0.N, win0_2.index t 0 = 0 ∧ win0_2.index t 1 = 0 ∧ win0_2.index t 2 = 0 := by decide +kernel

theorem iblk2_apply (c : Dev nD) (t : Fin cfg0.N) (k : Fin 1024) (q : Fin 1408) :
    iblk m c 2 t (ix3 0 k q) = V m c main_v2 (ix3 0 k q) := by
  unfold iblk
  rw [View.read_apply, cast_eq]
  refine congrArg (V m c main_v2) (idx_ext3 ?_ ?_ ?_)
  · exact (Pipeline.Window.rect_emb_val win0_2 t _ 0).trans (congrArg (· * 1 + 0) (at2 t).1)
  · exact Pipeline.Window.rect_emb_val_of_index_zero win0_2 t 1 (at2 t).2.1 _
  · exact Pipeline.Window.rect_emb_val_of_index_zero win0_2 t 2 (at2 t).2.2 _

theorem at3 : ∀ t : Fin grid0.N, win0_3.index t 0 = 1 ∧ win0_3.index t 1 = 0 ∧ win0_3.index t 2 = 0 := by decide +kernel

theorem iblk3_apply (c : Dev nD) (t : Fin cfg0.N) (k : Fin 1024) (q : Fin 1408) :
    iblk m c 3 t (ix3 0 k q) = V m c main_v2 (ix3 1 k q) := by
  unfold iblk
  rw [View.read_apply, cast_eq]
  refine congrArg (V m c main_v2) (idx_ext3 ?_ ?_ ?_)
  · exact (Pipeline.Window.rect_emb_val win0_3 t _ 0).trans (congrArg (· * 1 + 0) (at3 t).1)
  · exact Pipeline.Window.rect_emb_val_of_index_zero win0_3 t 1 (at3 t).2.1 _
  · exact Pipeline.Window.rect_emb_val_of_index_zero win0_3 t 2 (at3 t).2.2 _

theorem at4 : ∀ t : Fin grid0.N, win0_4.index t 0 = 2 ∧ win0_4.index t 1 = 0 ∧ win0_4.index t 2 = 0 := by decide +kernel

theorem iblk4_apply (c : Dev nD) (t : Fin cfg0.N) (k : Fin 1024) (q : Fin 1408) :
    iblk m c 4 t (ix3 0 k q) = V m c main_v2 (ix3 2 k q) := by
  unfold iblk
  rw [View.read_apply, cast_eq]
  refine congrArg (V m c main_v2) (idx_ext3 ?_ ?_ ?_)
  · exact (Pipeline.Window.rect_emb_val win0_4 t _ 0).trans (congrArg (· * 1 + 0) (at4 t).1)
  · exact Pipeline.Window.rect_emb_val_of_index_zero win0_4 t 1 (at4 t).2.1 _
  · exact Pipeline.Window.rect_emb_val_of_index_zero win0_4 t 2 (at4 t).2.2 _

theorem at5 : ∀ t : Fin grid0.N, win0_5.index t 0 = 3 ∧ win0_5.index t 1 = 0 ∧ win0_5.index t 2 = 0 := by decide +kernel

theorem iblk5_apply (c : Dev nD) (t : Fin cfg0.N) (k : Fin 1024) (q : Fin 1408) :
    iblk m c 5 t (ix3 0 k q) = V m c main_v2 (ix3 3 k q) := by
  unfold iblk
  rw [View.read_apply, cast_eq]
  refine congrArg (V m c main_v2) (idx_ext3 ?_ ?_ ?_)
  · exact (Pipeline.Window.rect_emb_val win0_5 t _ 0).trans (congrArg (· * 1 + 0) (at5 t).1)
  · exact Pipeline.Window.rect_emb_val_of_index_zero win0_5 t 1 (at5 t).2.1 _
  · exact Pipeline.Window.rect_emb_val_of_index_zero win0_5 t 2 (at5 t).2.2 _

/-! ## The result arrays -/

theorem at6 : ∀ t : Fin grid0.N, win0_6.index t 0 = t.val ∧ win0_6.index t 1 = 0 := by decide +kernel

theorem final6 (c : Dev nD) (t : Fin cfg0.N) (q : Fin 256) (b : Fin 512) :
    (dats m 0 c).arrAt 6 cfg0.N (ix2 (row 8192 t.val q) b) = out0_6 (iblk m c 0 t) (iblk m c 1 t) (iblk m c 2 t) (iblk m c 3 t) (iblk m c 4 t) (iblk m c 5 t) (ix2 q b) := by
  have e : ((cfg0.win 6).blk t).view.emb (ix2 q b) = ix2 (row 8192 t.val q) b := Shape.idx_ext₂
    ((Pipeline.Window.rect_emb_val win0_6 t _ 0).trans ((congrArg (· * 256 + q.val) (at6 t).1).trans
      (row_val (T := 32) (B := 256) rfl (lt_of_lt_of_eq t.isLt N_0) q).symm))
    (Pipeline.Window.rect_emb_val_of_index_zero win0_6 t 1 (at6 t).2 _)
  refine (congrArg ((dats m 0 c).arrAt 6 cfg0.N) e.symm).trans
    (((dats m 0 c).arrAt_emb_eq_flushed 6 Value.disjoint6 t (flush0_6 t) (ix2 q b)).trans ?_)
  rw [Value.flushed6]
  generalize out0_6 (iblk m c 0 t) (iblk m c 1 t) (iblk m c 2 t) (iblk m c 3 t) (iblk m c 4 t) (iblk m c 5 t) = G
  rfl

theorem at7 : ∀ t : Fin grid0.N, win0_7.index t 0 = t.val ∧ win0_7.index t 1 = 0 := by decide +kernel

theorem final7 (c : Dev nD) (t : Fin cfg0.N) (q : Fin 256) (b : Fin 512) :
    (dats m 0 c).arrAt 7 cfg0.N (ix2 (row 8192 t.val q) b) = out0_7 (iblk m c 0 t) (iblk m c 1 t) (iblk m c 2 t) (iblk m c 3 t) (iblk m c 4 t) (iblk m c 5 t) (ix2 q b) := by
  have e : ((cfg0.win 7).blk t).view.emb (ix2 q b) = ix2 (row 8192 t.val q) b := Shape.idx_ext₂
    ((Pipeline.Window.rect_emb_val win0_7 t _ 0).trans ((congrArg (· * 256 + q.val) (at7 t).1).trans
      (row_val (T := 32) (B := 256) rfl (lt_of_lt_of_eq t.isLt N_0) q).symm))
    (Pipeline.Window.rect_emb_val_of_index_zero win0_7 t 1 (at7 t).2 _)
  refine (congrArg ((dats m 0 c).arrAt 7 cfg0.N) e.symm).trans
    (((dats m 0 c).arrAt_emb_eq_flushed 7 Value.disjoint7 t (flush0_7 t) (ix2 q b)).trans ?_)
  rw [Value.flushed7]
  generalize out0_7 (iblk m c 0 t) (iblk m c 1 t) (iblk m c 2 t) (iblk m c 3 t) (iblk m c 4 t) (iblk m c 5 t) = G
  rfl

theorem at8 : ∀ t : Fin grid0.N, win0_8.index t 0 = t.val ∧ win0_8.index t 1 = 0 := by decide +kernel

theorem final8 (c : Dev nD) (t : Fin cfg0.N) (q : Fin 256) (b : Fin 1280) :
    (dats m 0 c).arrAt 8 cfg0.N (ix2 (row 8192 t.val q) b) = out0_8 (iblk m c 0 t) (iblk m c 1 t) (iblk m c 2 t) (iblk m c 3 t) (iblk m c 4 t) (iblk m c 5 t) (ix2 q b) := by
  have e : ((cfg0.win 8).blk t).view.emb (ix2 q b) = ix2 (row 8192 t.val q) b := Shape.idx_ext₂
    ((Pipeline.Window.rect_emb_val win0_8 t _ 0).trans ((congrArg (· * 256 + q.val) (at8 t).1).trans
      (row_val (T := 32) (B := 256) rfl (lt_of_lt_of_eq t.isLt N_0) q).symm))
    (Pipeline.Window.rect_emb_val_of_index_zero win0_8 t 1 (at8 t).2 _)
  refine (congrArg ((dats m 0 c).arrAt 8 cfg0.N) e.symm).trans
    (((dats m 0 c).arrAt_emb_eq_flushed 8 Value.disjoint8 t (flush0_8 t) (ix2 q b)).trans ?_)
  rw [Value.flushed8]
  generalize out0_8 (iblk m c 0 t) (iblk m c 1 t) (iblk m c 2 t) (iblk m c 3 t) (iblk m c 4 t) (iblk m c 5 t) = G
  rfl

theorem at9 : ∀ t : Fin grid0.N, win0_9.index t 0 = t.val ∧ win0_9.index t 1 = 0 := by decide +kernel

theorem final9 (c : Dev nD) (t : Fin cfg0.N) (q : Fin 256) (b : Fin 1280) :
    (dats m 0 c).arrAt 9 cfg0.N (ix2 (row 8192 t.val q) b) = out0_9 (iblk m c 0 t) (iblk m c 1 t) (iblk m c 2 t) (iblk m c 3 t) (iblk m c 4 t) (iblk m c 5 t) (ix2 q b) := by
  have e : ((cfg0.win 9).blk t).view.emb (ix2 q b) = ix2 (row 8192 t.val q) b := Shape.idx_ext₂
    ((Pipeline.Window.rect_emb_val win0_9 t _ 0).trans ((congrArg (· * 256 + q.val) (at9 t).1).trans
      (row_val (T := 32) (B := 256) rfl (lt_of_lt_of_eq t.isLt N_0) q).symm))
    (Pipeline.Window.rect_emb_val_of_index_zero win0_9 t 1 (at9 t).2 _)
  refine (congrArg ((dats m 0 c).arrAt 9 cfg0.N) e.symm).trans
    (((dats m 0 c).arrAt_emb_eq_flushed 9 Value.disjoint9 t (flush0_9 t) (ix2 q b)).trans ?_)
  rw [Value.flushed9]
  generalize out0_9 (iblk m c 0 t) (iblk m c 1 t) (iblk m c 2 t) (iblk m c 3 t) (iblk m c 4 t) (iblk m c 5 t) = G
  rfl

theorem at10 : ∀ t : Fin grid0.N, win0_10.index t 0 = t.val ∧ win0_10.index t 1 = 0 := by decide +kernel

theorem final10 (c : Dev nD) (t : Fin cfg0.N) (q : Fin 256) (b : Fin 1024) :
    (dats m 0 c).arrAt 10 cfg0.N (ix2 (row 8192 t.val q) b) = out0_10 (iblk m c 0 t) (iblk m c 1 t) (iblk m c 2 t) (iblk m c 3 t) (iblk m c 4 t) (iblk m c 5 t) (ix2 q b) := by
  have e : ((cfg0.win 10).blk t).view.emb (ix2 q b) = ix2 (row 8192 t.val q) b := Shape.idx_ext₂
    ((Pipeline.Window.rect_emb_val win0_10 t _ 0).trans ((congrArg (· * 256 + q.val) (at10 t).1).trans
      (row_val (T := 32) (B := 256) rfl (lt_of_lt_of_eq t.isLt N_0) q).symm))
    (Pipeline.Window.rect_emb_val_of_index_zero win0_10 t 1 (at10 t).2 _)
  refine (congrArg ((dats m 0 c).arrAt 10 cfg0.N) e.symm).trans
    (((dats m 0 c).arrAt_emb_eq_flushed 10 Value.disjoint10 t (flush0_10 t) (ix2 q b)).trans ?_)
  rw [Value.flushed10]
  generalize out0_10 (iblk m c 0 t) (iblk m c 1 t) (iblk m c 2 t) (iblk m c 3 t) (iblk m c 4 t) (iblk m c 5 t) = G
  rfl

theorem at11 : ∀ t : Fin grid0.N, win0_11.index t 0 = t.val ∧ win0_11.index t 1 = 0 := by decide +kernel

theorem final11 (c : Dev nD) (t : Fin cfg0.N) (q : Fin 256) (b : Fin 1024) :
    (dats m 0 c).arrAt 11 cfg0.N (ix2 (row 8192 t.val q) b) = out0_11 (iblk m c 0 t) (iblk m c 1 t) (iblk m c 2 t) (iblk m c 3 t) (iblk m c 4 t) (iblk m c 5 t) (ix2 q b) := by
  have e : ((cfg0.win 11).blk t).view.emb (ix2 q b) = ix2 (row 8192 t.val q) b := Shape.idx_ext₂
    ((Pipeline.Window.rect_emb_val win0_11 t _ 0).trans ((congrArg (· * 256 + q.val) (at11 t).1).trans
      (row_val (T := 32) (B := 256) rfl (lt_of_lt_of_eq t.isLt N_0) q).symm))
    (Pipeline.Window.rect_emb_val_of_index_zero win0_11 t 1 (at11 t).2 _)
  refine (congrArg ((dats m 0 c).arrAt 11 cfg0.N) e.symm).trans
    (((dats m 0 c).arrAt_emb_eq_flushed 11 Value.disjoint11 t (flush0_11 t) (ix2 q b)).trans ?_)
  rw [Value.flushed11]
  generalize out0_11 (iblk m c 0 t) (iblk m c 1 t) (iblk m c 2 t) (iblk m c 3 t) (iblk m c 4 t) (iblk m c 5 t) = G
  rfl

theorem at12 : ∀ t : Fin grid0.N, win0_12.index t 0 = t.val ∧ win0_12.index t 1 = 0 := by decide +kernel

theorem final12 (c : Dev nD) (t : Fin cfg0.N) (q : Fin 256) (b : Fin 1024) :
    (dats m 0 c).arrAt 12 cfg0.N (ix2 (row 8192 t.val q) b) = out0_12 (iblk m c 0 t) (iblk m c 1 t) (iblk m c 2 t) (iblk m c 3 t) (iblk m c 4 t) (iblk m c 5 t) (ix2 q b) := by
  have e : ((cfg0.win 12).blk t).view.emb (ix2 q b) = ix2 (row 8192 t.val q) b := Shape.idx_ext₂
    ((Pipeline.Window.rect_emb_val win0_12 t _ 0).trans ((congrArg (· * 256 + q.val) (at12 t).1).trans
      (row_val (T := 32) (B := 256) rfl (lt_of_lt_of_eq t.isLt N_0) q).symm))
    (Pipeline.Window.rect_emb_val_of_index_zero win0_12 t 1 (at12 t).2 _)
  refine (congrArg ((dats m 0 c).arrAt 12 cfg0.N) e.symm).trans
    (((dats m 0 c).arrAt_emb_eq_flushed 12 Value.disjoint12 t (flush0_12 t) (ix2 q b)).trans ?_)
  rw [Value.flushed12]
  generalize out0_12 (iblk m c 0 t) (iblk m c 1 t) (iblk m c 2 t) (iblk m c 3 t) (iblk m c 4 t) (iblk m c 5 t) = G
  rfl

end Cert.FinIdeal.Rows

end
-- ==== Proof.FinValue.lean ====
/- The norm before a layer and its input projection: the kernel's seven result arrays and the forward lines are the same functions of the arguments. -/
module

public import proofs.«01_k».proof.Proof.FinKernel
public import proofs.«01_k».proof.Proof.InValue
public import proofs.«01_k».proof.Proof.Gen.FinRefIdeal.Read

@[expose] public section

set_option maxRecDepth 16384

noncomputable section

open Cert.RowLib Idealize.ShloMosaic Idealize.ShloMosaic.TcCoe Idealize.SL.Sem

/-! ## The mathematics -/

namespace Cert.FinMath

open Cert.InMath

variable (x : (⟨2, ![8192, 1024]⟩ : Shape).Idx → EReal) (gp : (⟨1, ![1024]⟩ : Shape).Idx → EReal) (w : (⟨2, ![1024, 5632]⟩ : Shape).Idx → EReal)

/-- The normed rows. -/
def nh (r : Fin 8192) (b : Fin 1024) : EReal := nrm x r b * gp (ix1 b)

/-- The input projection. -/
def proj (r : Fin 8192) (q : Fin 5632) : EReal := ∑ k : Fin 1024, nh x gp r k * w (ix2 k q)

/-- Column `b` of the part that starts at column `o`. -/
def at' {n : ℕ} (o : ℕ) (h : o + n ≤ 5632) (b : Fin n) : Fin 5632 := ⟨o + b.val, by omega⟩

/-- A part of the projection's columns. -/
def part {n : ℕ} (o : ℕ) (h : o + n ≤ 5632) (r : Fin 8192) (b : Fin n) : EReal := proj x gp w r (at' o h b)

/-- Four parts beside each other are the whole. -/
theorem pick (f : Fin 5632 → EReal) (q : Fin 5632) :
    (if h : q.val < 1408 then f (col 0 ⟨q.val, h⟩) else if h1 : q.val - 1408 < 1408 then f (col 1 ⟨q.val - 1408, h1⟩)
      else if h2 : q.val - 1408 - 1408 < 1408 then f (col 2 ⟨q.val - 1408 - 1408, h2⟩)
      else f (col 3 ⟨q.val - 1408 - 1408 - 1408, by omega⟩)) = f q := by
  split_ifs
  · exact congrArg f (Fin.ext (show 1408 * 0 + q.val = q.val by omega))
  · exact congrArg f (Fin.ext (show 1408 * 1 + (q.val - 1408) = q.val by omega))
  · exact congrArg f (Fin.ext (show 1408 * 2 + (q.val - 1408 - 1408) = q.val by omega))
  · exact congrArg f (Fin.ext (show 1408 * 3 + (q.val - 1408 - 1408 - 1408) = q.val by omega))

end Cert.FinMath

/-! ## The kernel -/

namespace Cert.FinIdeal.Rows

open Cert.FinIdeal Cert.FinIdeal.Gen Cert.FinMath Cert.InMath

variable (m : (ℓ : Loc nD τ sig) → Buf (Elt Ideal) ℓ) (ρ : Dev nD → PrngReg)

theorem V_v3 (c : Dev nD) : V m c main_v3 = shapeCast S1x1024 (m ((c : Thread nD τ).loc main_arg1)) shapeCasts_S1024_S1x1024 := by
  unfold V
  simp only [hostOps0]
  after_results
  rfl

theorem V_v2 (c : Dev nD) : V m c main_v2 = transpose S4x1024x1408 [1, 0, 2] (shapeCast S1024x4x1408 (truncf (F := Ideal) .bf16 (m ((c : Thread nD τ).loc main_arg2)) bitsLt_bf16_f32) shapeCasts_S1024x5632_S1024x4x1408) transposes_S1024x4x1408_S4x1024x1408_1_0_2 := by
  unfold V
  simp only [hostOps0]
  after_results
  rfl

/-! ### A point's results, over blocks of rows -/

section Pay

variable {s : ℕ} {x0 : S8192x1024.Idx → EReal} {x1 : S1024.Idx → EReal} {x2 : S1024x5632.Idx → EReal}
  {v0 : Vec Ideal S256x1024 .f32} {v1 : Vec Ideal S1x1024 .f32} {v2 v3 v4 v5 : Vec Ideal S1x1024x1408 .bf16}
  (h0 : ∀ q k, v0 (ix2 q k) = x0 (ix2 (row 8192 s q) k)) (h1 : ∀ a k, v1 (ix2 a k) = x1 (ix1 k))
  (g0 : ∀ k q, v2 (ix3 0 k q) = x2 (ix2 k (col 0 q))) (g1 : ∀ k q, v3 (ix3 0 k q) = x2 (ix2 k (col 1 q)))
  (g2 : ∀ k q, v4 (ix3 0 k q) = x2 (ix2 k (col 2 q))) (g3 : ∀ k q, v5 (ix3 0 k q) = x2 (ix2 k (col 3 q)))

include h0 h1 in
theorem norm_at (q : Fin 256) (b : Fin 1024) : k0_pay6 v0 v1 (ix2 q b) = nh x0 x1 (row 8192 s q) b := by
  unfold k0_pay6
  pointwise [h0, h1, word_1024]
  rfl

include h0 h1 g0 g1 g2 g3 in
theorem proj_at (q : Fin 256) (b : Fin 5632) : k0_pay7 v0 v1 v2 v3 v4 v5 (ix2 q b) = proj x0 x1 x2 (row 8192 s q) b := by
  refine Eq.trans ?_ (pick (proj x0 x1 x2 (row 8192 s q)) b)
  unfold k0_pay7
  pointwise [norm_at h0 h1, g0, g1, g2, g3]
  rfl

include h0 h1 g0 g1 g2 g3 in
theorem pay6 (q : Fin 256) (b : Fin 512) : out0_6 v0 v1 v2 v3 v4 v5 (ix2 q b) = proj x0 x1 x2 (row 8192 s q) (@at' 512 0 (by omega) b) := by
  unfold out0_6
  rw [View.canon_unit_zero hz]
  simp only [View.ld_unit_zero (S := S256x1024) hz, View.ld_unit_zero (S := S1x1024) hz, View.ld_unit_zero (S := S1x1024x1408) hz3]
  unfold k0_pay13
  pointwise [proj_at h0 h1 g0 g1 g2 g3]
  exact congrArg (proj x0 x1 x2 (row 8192 s q)) (Fin.ext (Nat.zero_add _).symm)

include h0 h1 g0 g1 g2 g3 in
theorem pay7 (q : Fin 256) (b : Fin 512) : out0_7 v0 v1 v2 v3 v4 v5 (ix2 q b) = proj x0 x1 x2 (row 8192 s q) (@at' 512 512 (by omega) b) := by
  unfold out0_7
  rw [View.canon_unit_zero hz]
  simp only [View.ld_unit_zero (S := S256x1024) hz, View.ld_unit_zero (S := S1x1024) hz, View.ld_unit_zero (S := S1x1024x1408) hz3]
  unfold k0_pay1 k0_pay8
  pointwise [proj_at h0 h1 g0 g1 g2 g3]
  rfl

include h0 h1 g0 g1 g2 g3 in
theorem pay8 (q : Fin 256) (b : Fin 1280) : out0_8 v0 v1 v2 v3 v4 v5 (ix2 q b) = proj x0 x1 x2 (row 8192 s q) (@at' 1280 1024 (by omega) b) := by
  unfold out0_8
  rw [View.canon_unit_zero hz]
  simp only [View.ld_unit_zero (S := S256x1024) hz, View.ld_unit_zero (S := S1x1024) hz, View.ld_unit_zero (S := S1x1024x1408) hz3]
  unfold k0_pay2 k0_pay9
  pointwise [proj_at h0 h1 g0 g1 g2 g3]
  rfl

include h0 h1 g0 g1 g2 g3 in
theorem pay9 (q : Fin 256) (b : Fin 1280) : out0_9 v0 v1 v2 v3 v4 v5 (ix2 q b) = proj x0 x1 x2 (row 8192 s q) (@at' 1280 2304 (by omega) b) := by
  unfold out0_9
  rw [View.canon_unit_zero hz]
  simp only [View.ld_unit_zero (S := S256x1024) hz, View.ld_unit_zero (S := S1x1024) hz, View.ld_unit_zero (S := S1x1024x1408) hz3]
  unfold k0_pay3 k0_pay10
  pointwise [proj_at h0 h1 g0 g1 g2 g3]
  rfl

include h0 h1 g0 g1 g2 g3 in
theorem pay10 (q : Fin 256) (b : Fin 1024) : out0_10 v0 v1 v2 v3 v4 v5 (ix2 q b) = proj x0 x1 x2 (row 8192 s q) (@at' 1024 3584 (by omega) b) := by
  unfold out0_10
  rw [View.canon_unit_zero hz]
  simp only [View.ld_unit_zero (S := S256x1024) hz, View.ld_unit_zero (S := S1x1024) hz, View.ld_unit_zero (S := S1x1024x1408) hz3]
  unfold k0_pay4 k0_pay11
  pointwise [proj_at h0 h1 g0 g1 g2 g3]
  rfl

include h0 h1 g0 g1 g2 g3 in
theorem pay11 (q : Fin 256) (b : Fin 1024) : out0_11 v0 v1 v2 v3 v4 v5 (ix2 q b) = proj x0 x1 x2 (row 8192 s q) (@at' 1024 4608 (by omega) b) := by
  unfold out0_11
  rw [View.canon_unit_zero hz]
  simp only [View.ld_unit_zero (S := S256x1024) hz, View.ld_unit_zero (S := S1x1024) hz, View.ld_unit_zero (S := S1x1024x1408) hz3]
  unfold k0_pay5 k0_pay12
  pointwise [proj_at h0 h1 g0 g1 g2 g3]
  rfl

include h0 h1 in
theorem pay12 (q : Fin 256) (b : Fin 1024) : out0_12 v0 v1 v2 v3 v4 v5 (ix2 q b) = nh x0 x1 (row 8192 s q) b := by
  unfold out0_12
  rw [View.canon_unit_zero hz]
  simp only [View.ld_unit_zero (S := S256x1024) hz, View.ld_unit_zero (S := S1x1024) hz, View.ld_unit_zero (S := S1x1024x1408) hz3]
  exact norm_at h0 h1 q b

end Pay

/-! ### The arguments -/

abbrev a0 (c : Dev nD) : S8192x1024.Idx → EReal := m ((c : Thread nD τ).loc main_arg0)
abbrev a1 (c : Dev nD) : S1024.Idx → EReal := m ((c : Thread nD τ).loc main_arg1)
abbrev a2 (c : Dev nD) : S1024x5632.Idx → EReal := m ((c : Thread nD τ).loc main_arg2)

theorem b0 (c : Dev nD) (t : Fin cfg0.N) (q : Fin 256) (k : Fin 1024) : iblk m c 0 t (ix2 q k) = a0 m c (ix2 (row 8192 t.val q) k) :=
  (iblk0_apply m c t q k).trans (congrFun (V_main_arg0 m c) _)
theorem b1 (c : Dev nD) (t : Fin cfg0.N) (a : Fin 1) (k : Fin 1024) : iblk m c 1 t (ix2 a k) = a1 m c (ix1 k) := by
  rw [iblk1_eq, V_v3]
  pointwise

theorem parts (c : Dev nD) (j : Fin 4) (k : Fin 1024) (q : Fin 1408) : V m c main_v2 (ix3 j k q) = a2 m c (ix2 k (col j q)) := by
  rw [V_v2]
  pointwise
  exact congrArg (fun e => a2 m c (ix2 k e)) (Fin.ext (congrArg (· + q.val) (Nat.mul_comm _ _)))

theorem b2 (c : Dev nD) (t : Fin cfg0.N) (k : Fin 1024) (q : Fin 1408) : iblk m c 2 t (ix3 0 k q) = a2 m c (ix2 k (col 0 q)) :=
  (iblk2_apply m c t k q).trans (parts m c 0 k q)

theorem b3 (c : Dev nD) (t : Fin cfg0.N) (k : Fin 1024) (q : Fin 1408) : iblk m c 3 t (ix3 0 k q) = a2 m c (ix2 k (col 1 q)) :=
  (iblk3_apply m c t k q).trans (parts m c 1 k q)

theorem b4 (c : Dev nD) (t : Fin cfg0.N) (k : Fin 1024) (q : Fin 1408) : iblk m c 4 t (ix3 0 k q) = a2 m c (ix2 k (col 2 q)) :=
  (iblk4_apply m c t k q).trans (parts m c 2 k q)

theorem b5 (c : Dev nD) (t : Fin cfg0.N) (k : Fin 1024) (q : Fin 1408) : iblk m c 5 t (ix3 0 k q) = a2 m c (ix2 k (col 3 q)) :=
  (iblk5_apply m c t k q).trans (parts m c 3 k q)

/-! ### The result arrays -/

theorem res6 (c : Dev nD) (r : Fin 8192) (b : Fin 512) :
    (dats m 0 c).arrAt 6 cfg0.N (ix2 r b) = part (a0 m c) (a1 m c) (a2 m c) 0 (by omega) r b := by
  obtain ⟨s, hs, q, rfl⟩ := exists_row (T := 32) (B := 256) rfl r
  exact (final6 m c ⟨s, lt_of_lt_of_eq hs N_0.symm⟩ q b).trans
    (pay6 (b0 m c _) (b1 m c _) (b2 m c _) (b3 m c _) (b4 m c _) (b5 m c _) q b)

theorem res7 (c : Dev nD) (r : Fin 8192) (b : Fin 512) :
    (dats m 0 c).arrAt 7 cfg0.N (ix2 r b) = part (a0 m c) (a1 m c) (a2 m c) 512 (by omega) r b := by
  obtain ⟨s, hs, q, rfl⟩ := exists_row (T := 32) (B := 256) rfl r
  exact (final7 m c ⟨s, lt_of_lt_of_eq hs N_0.symm⟩ q b).trans
    (pay7 (b0 m c _) (b1 m c _) (b2 m c _) (b3 m c _) (b4 m c _) (b5 m c _) q b)

theorem res8 (c : Dev nD) (r : Fin 8192) (b : Fin 1280) :
    (dats m 0 c).arrAt 8 cfg0.N (ix2 r b) = part (a0 m c) (a1 m c) (a2 m c) 1024 (by omega) r b := by
  obtain ⟨s, hs, q, rfl⟩ := exists_row (T := 32) (B := 256) rfl r
  exact (final8 m c ⟨s, lt_of_lt_of_eq hs N_0.symm⟩ q b).trans
    (pay8 (b0 m c _) (b1 m c _) (b2 m c _) (b3 m c _) (b4 m c _) (b5 m c _) q b)

theorem res9 (c : Dev nD) (r : Fin 8192) (b : Fin 1280) :
    (dats m 0 c).arrAt 9 cfg0.N (ix2 r b) = part (a0 m c) (a1 m c) (a2 m c) 2304 (by omega) r b := by
  obtain ⟨s, hs, q, rfl⟩ := exists_row (T := 32) (B := 256) rfl r
  exact (final9 m c ⟨s, lt_of_lt_of_eq hs N_0.symm⟩ q b).trans
    (pay9 (b0 m c _) (b1 m c _) (b2 m c _) (b3 m c _) (b4 m c _) (b5 m c _) q b)

theorem res10 (c : Dev nD) (r : Fin 8192) (b : Fin 1024) :
    (dats m 0 c).arrAt 10 cfg0.N (ix2 r b) = part (a0 m c) (a1 m c) (a2 m c) 3584 (by omega) r b := by
  obtain ⟨s, hs, q, rfl⟩ := exists_row (T := 32) (B := 256) rfl r
  exact (final10 m c ⟨s, lt_of_lt_of_eq hs N_0.symm⟩ q b).trans
    (pay10 (b0 m c _) (b1 m c _) (b2 m c _) (b3 m c _) (b4 m c _) (b5 m c _) q b)

theorem res11 (c : Dev nD) (r : Fin 8192) (b : Fin 1024) :
    (dats m 0 c).arrAt 11 cfg0.N (ix2 r b) = part (a0 m c) (a1 m c) (a2 m c) 4608 (by omega) r b := by
  obtain ⟨s, hs, q, rfl⟩ := exists_row (T := 32) (B := 256) rfl r
  exact (final11 m c ⟨s, lt_of_lt_of_eq hs N_0.symm⟩ q b).trans
    (pay11 (b0 m c _) (b1 m c _) (b2 m c _) (b3 m c _) (b4 m c _) (b5 m c _) q b)

theorem res12 (c : Dev nD) (r : Fin 8192) (b : Fin 1024) :
    (dats m 0 c).arrAt 12 cfg0.N (ix2 r b) = nh (a0 m c) (a1 m c) r b := by
  obtain ⟨s, hs, q, rfl⟩ := exists_row (T := 32) (B := 256) rfl r
  exact (final12 m c ⟨s, lt_of_lt_of_eq hs N_0.symm⟩ q b).trans
    (pay12 (b0 m c _) (b1 m c _) q b)

end Cert.FinIdeal.Rows

/-! ## The reference -/

namespace Cert.FinRefIdeal.Rows

open Cert.FinRefIdeal Cert.FinRefIdeal.Gen Cert.FinRefIdeal.Read Cert.FinMath Cert.InMath

variable (x0 : S8192x1024.Idx → EReal) (x1 : S1024.Idx → EReal) (x2 : S1024x5632.Idx → EReal)

theorem norm_eq (r : Fin 8192) (b : Fin 1024) : val_main_v12 (F := Ideal) x0 x1 (ix2 r b) = nh x0 x1 r b := by
  unfold val_main_v12 val_main_v11 val_main_v10 val_main_v9 val_main_v8 val_main_v7 val_main_v6 val_main_v5 val_main_v4 val_main_v3 val_main_v2 val_main_v1 val_main_v0
    val_main_cst val_main_cst_0 val_main_cst_1
  pointwise [word_1024]
  rfl

theorem proj_eq (r : Fin 8192) (b : Fin 5632) : val_main_v13 (F := Ideal) x0 x1 x2 (ix2 r b) = proj x0 x1 x2 r b := by
  unfold val_main_v13
  pointwise [norm_eq]
  rfl

theorem nh_eq (r : Fin 8192) (b : Fin 1024) : val_main_v26 (F := Ideal) x0 x1 (ix2 r b) = nh x0 x1 r b := by
  unfold val_main_v26
  pointwise [norm_eq]

theorem part0_eq (r : Fin 8192) (b : Fin 512) : val_main_v20 (F := Ideal) x0 x1 x2 (ix2 r b) = part x0 x1 x2 0 (by omega) r b := by
  unfold val_main_v20 val_main_v14
  pointwise [proj_eq]
  exact congrArg (proj x0 x1 x2 r) (Fin.ext (Nat.zero_add _).symm)

theorem part1_eq (r : Fin 8192) (b : Fin 512) : val_main_v21 (F := Ideal) x0 x1 x2 (ix2 r b) = part x0 x1 x2 512 (by omega) r b := by
  unfold val_main_v21 val_main_v15
  pointwise [proj_eq]
  rfl

theorem part2_eq (r : Fin 8192) (b : Fin 1280) : val_main_v22 (F := Ideal) x0 x1 x2 (ix2 r b) = part x0 x1 x2 1024 (by omega) r b := by
  unfold val_main_v22 val_main_v16
  pointwise [proj_eq]
  rfl

theorem part3_eq (r : Fin 8192) (b : Fin 1280) : val_main_v23 (F := Ideal) x0 x1 x2 (ix2 r b) = part x0 x1 x2 2304 (by omega) r b := by
  unfold val_main_v23 val_main_v17
  pointwise [proj_eq]
  rfl

theorem part4_eq (r : Fin 8192) (b : Fin 1024) : val_main_v24 (F := Ideal) x0 x1 x2 (ix2 r b) = part x0 x1 x2 3584 (by omega) r b := by
  unfold val_main_v24 val_main_v18
  pointwise [proj_eq]
  rfl

theorem part5_eq (r : Fin 8192) (b : Fin 1024) : val_main_v25 (F := Ideal) x0 x1 x2 (ix2 r b) = part x0 x1 x2 4608 (by omega) r b := by
  unfold val_main_v25 val_main_v19
  pointwise [proj_eq]
  rfl

end Cert.FinRefIdeal.Rows

end
-- ==== Proof.FinClaim.lean ====
/- The claim about the norm before a layer and its input projection. -/
module

public import proofs.«01_k».proof.Defs
public import proofs.«01_k».proof.Proof.FinValue
public import proofs.«01_k».proof.Proof.Gen.FinRefIdeal.Run

@[expose] public section

set_option maxRecDepth 16384
set_option maxHeartbeats 1600000

noncomputable section

namespace Cert.Proof

open Cert.RowLib Idealize.ShloMosaic Idealize.ShloMosaic.TcCoe Idealize.SL.Sem

/-- The kernel's result arrays are those of the reference. -/
theorem fin_value :
    Cert.algebraic_FinIdeal_FinRefIdeal (hFinIdeal := Cert.FinIdeal.Gen.facts) (hFinRefIdeal := Cert.FinRefIdeal.Gen.facts) := by
  intro m g m' g' hpre hag
  refine ⟨fun c => (Cert.FinIdeal.Gen.dats m 0 c).arrAt 6 Cert.FinIdeal.cfg0.N, fun c => (Cert.FinIdeal.Gen.dats m 0 c).arrAt 7 Cert.FinIdeal.cfg0.N, fun c => (Cert.FinIdeal.Gen.dats m 0 c).arrAt 8 Cert.FinIdeal.cfg0.N, fun c => (Cert.FinIdeal.Gen.dats m 0 c).arrAt 9 Cert.FinIdeal.cfg0.N, fun c => (Cert.FinIdeal.Gen.dats m 0 c).arrAt 10 Cert.FinIdeal.cfg0.N, fun c => (Cert.FinIdeal.Gen.dats m 0 c).arrAt 11 Cert.FinIdeal.cfg0.N, fun c => (Cert.FinIdeal.Gen.dats m 0 c).arrAt 12 Cert.FinIdeal.cfg0.N,
    Cert.FinIdeal.Value.run_blocks m g, (θ_run _ _ _).mono (fun r h c => ?_) (Cert.FinRefIdeal.Value.run m' g')⟩
  obtain ⟨e0, e1, e2⟩ := hag c
  exact ⟨((h c).1.trans (Cert.FinRefIdeal.Read.val_main_v20_eq (m' ((c.tc : Thread Cert.FinRefIdeal.nD Cert.FinRefIdeal.τ).loc Cert.FinRefIdeal.main_arg0)) (m' ((c.tc : Thread Cert.FinRefIdeal.nD Cert.FinRefIdeal.τ).loc Cert.FinRefIdeal.main_arg1)) (m' ((c.tc : Thread Cert.FinRefIdeal.nD Cert.FinRefIdeal.τ).loc Cert.FinRefIdeal.main_arg2)))).trans (ext2 fun a b => by
      rw [e0, e1, e2]
      exact (Cert.FinRefIdeal.Rows.part0_eq _ _ _  a b).trans (Cert.FinIdeal.Rows.res6 m c a b).symm),
    ((h c).2.1.trans (Cert.FinRefIdeal.Read.val_main_v21_eq (m' ((c.tc : Thread Cert.FinRefIdeal.nD Cert.FinRefIdeal.τ).loc Cert.FinRefIdeal.main_arg0)) (m' ((c.tc : Thread Cert.FinRefIdeal.nD Cert.FinRefIdeal.τ).loc Cert.FinRefIdeal.main_arg1)) (m' ((c.tc : Thread Cert.FinRefIdeal.nD Cert.FinRefIdeal.τ).loc Cert.FinRefIdeal.main_arg2)))).trans (ext2 fun a b => by
      rw [e0, e1, e2]
      exact (Cert.FinRefIdeal.Rows.part1_eq _ _ _  a b).trans (Cert.FinIdeal.Rows.res7 m c a b).symm),
    ((h c).2.2.1.trans (Cert.FinRefIdeal.Read.val_main_v22_eq (m' ((c.tc : Thread Cert.FinRefIdeal.nD Cert.FinRefIdeal.τ).loc Cert.FinRefIdeal.main_arg0)) (m' ((c.tc : Thread Cert.FinRefIdeal.nD Cert.FinRefIdeal.τ).loc Cert.FinRefIdeal.main_arg1)) (m' ((c.tc : Thread Cert.FinRefIdeal.nD Cert.FinRefIdeal.τ).loc Cert.FinRefIdeal.main_arg2)))).trans (ext2 fun a b => by
      rw [e0, e1, e2]
      exact (Cert.FinRefIdeal.Rows.part2_eq _ _ _  a b).trans (Cert.FinIdeal.Rows.res8 m c a b).symm),
    ((h c).2.2.2.1.trans (Cert.FinRefIdeal.Read.val_main_v23_eq (m' ((c.tc : Thread Cert.FinRefIdeal.nD Cert.FinRefIdeal.τ).loc Cert.FinRefIdeal.main_arg0)) (m' ((c.tc : Thread Cert.FinRefIdeal.nD Cert.FinRefIdeal.τ).loc Cert.FinRefIdeal.main_arg1)) (m' ((c.tc : Thread Cert.FinRefIdeal.nD Cert.FinRefIdeal.τ).loc Cert.FinRefIdeal.main_arg2)))).trans (ext2 fun a b => by
      rw [e0, e1, e2]
      exact (Cert.FinRefIdeal.Rows.part3_eq _ _ _  a b).trans (Cert.FinIdeal.Rows.res9 m c a b).symm),
    ((h c).2.2.2.2.1.trans (Cert.FinRefIdeal.Read.val_main_v24_eq (m' ((c.tc : Thread Cert.FinRefIdeal.nD Cert.FinRefIdeal.τ).loc Cert.FinRefIdeal.main_arg0)) (m' ((c.tc : Thread Cert.FinRefIdeal.nD Cert.FinRefIdeal.τ).loc Cert.FinRefIdeal.main_arg1)) (m' ((c.tc : Thread Cert.FinRefIdeal.nD Cert.FinRefIdeal.τ).loc Cert.FinRefIdeal.main_arg2)))).trans (ext2 fun a b => by
      rw [e0, e1, e2]
      exact (Cert.FinRefIdeal.Rows.part4_eq _ _ _  a b).trans (Cert.FinIdeal.Rows.res10 m c a b).symm),
    ((h c).2.2.2.2.2.1.trans (Cert.FinRefIdeal.Read.val_main_v25_eq (m' ((c.tc : Thread Cert.FinRefIdeal.nD Cert.FinRefIdeal.τ).loc Cert.FinRefIdeal.main_arg0)) (m' ((c.tc : Thread Cert.FinRefIdeal.nD Cert.FinRefIdeal.τ).loc Cert.FinRefIdeal.main_arg1)) (m' ((c.tc : Thread Cert.FinRefIdeal.nD Cert.FinRefIdeal.τ).loc Cert.FinRefIdeal.main_arg2)))).trans (ext2 fun a b => by
      rw [e0, e1, e2]
      exact (Cert.FinRefIdeal.Rows.part5_eq _ _ _  a b).trans (Cert.FinIdeal.Rows.res11 m c a b).symm),
    ((h c).2.2.2.2.2.2.1.trans (Cert.FinRefIdeal.Read.val_main_v26_eq (m' ((c.tc : Thread Cert.FinRefIdeal.nD Cert.FinRefIdeal.τ).loc Cert.FinRefIdeal.main_arg0)) (m' ((c.tc : Thread Cert.FinRefIdeal.nD Cert.FinRefIdeal.τ).loc Cert.FinRefIdeal.main_arg1)))).trans (ext2 fun a b => by
      rw [e0, e1]
      exact (Cert.FinRefIdeal.Rows.nh_eq _ _  a b).trans (Cert.FinIdeal.Rows.res12 m c a b).symm),
    (h c).2.2.2.2.2.2.2⟩

end Cert.Proof

end
-- ==== Proof.FpleKernel.lean ====
/- What the kernel of the gated per-row projection leaves in its result array, block of rows by block of rows. -/
module

public import proofs.«01_k».proof.Proof.Common
public import proofs.«01_k».proof.Proof.Gen.FpleIdeal.Value

@[expose] public section

set_option maxRecDepth 16384

noncomputable section

namespace Cert.FpleIdeal.Rows

open Cert.FpleIdeal Cert.FpleIdeal.Gen Cert.RowLib Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The blocks of the arguments -/

theorem at0 : ∀ t : Fin grid0.N, win0_0.index t 0 = t.val ∧ win0_0.index t 1 = 0 := by decide +kernel

theorem iblk0_apply (c : Dev nD) (t : Fin cfg0.N) (q : Fin 512) (k : Fin 1024) :
    iblk m c 0 t (ix2 q k) = V m c main_arg0 (ix2 (row 8192 t.val q) k) := by
  unfold iblk
  rw [View.read_apply, cast_eq]
  refine congrArg (V m c main_arg0) (Shape.idx_ext₂ ?_ ?_)
  · refine (Pipeline.Window.rect_emb_val win0_0 t _ 0).trans ((congrArg (· * 512 + q.val) (at0 t).1).trans ?_)
    exact (row_val (T := 16) (B := 512) rfl (lt_of_lt_of_eq t.isLt N_0) q).symm
  · exact Pipeline.Window.rect_emb_val_of_index_zero win0_0 t 1 (at0 t).2 _

theorem at1 : ∀ t : Fin grid0.N, win0_1.index t 0 = t.val ∧ win0_1.index t 1 = 0 := by decide +kernel

theorem iblk1_apply (c : Dev nD) (t : Fin cfg0.N) (q : Fin 512) (k : Fin 256) :
    iblk m c 1 t (ix2 q k) = V m c main_arg1 (ix2 (row 8192 t.val q) k) := by
  unfold iblk
  rw [View.read_apply, cast_eq]
  refine congrArg (V m c main_arg1) (Shape.idx_ext₂ ?_ ?_)
  · refine (Pipeline.Window.rect_emb_val win0_1 t _ 0).trans ((congrArg (· * 512 + q.val) (at1 t).1).trans ?_)
    exact (row_val (T := 16) (B := 512) rfl (lt_of_lt_of_eq t.isLt N_0) q).symm
  · exact Pipeline.Window.rect_emb_val_of_index_zero win0_1 t 1 (at1 t).2 _

theorem at2 : ∀ t : Fin grid0.N, win0_2.index t 0 = 0 ∧ win0_2.index t 1 = 0 := by decide +kernel

theorem iblk2_eq (c : Dev nD) (t : Fin cfg0.N) : iblk m c 2 t = V m c main_v0 := by
  funext j
  unfold iblk
  rw [View.read_apply, cast_eq]
  refine congrArg (V m c main_v0) (Shape.idx_ext₂ ?_ ?_)
  · exact Pipeline.Window.rect_emb_val_of_index_zero win0_2 t 0 (at2 t).1 _
  · exact Pipeline.Window.rect_emb_val_of_index_zero win0_2 t 1 (at2 t).2 _

theorem at3 : ∀ t : Fin grid0.N, win0_3.index t 0 = 0 ∧ win0_3.index t 1 = 0 := by decide +kernel

theorem iblk3_eq (c : Dev nD) (t : Fin cfg0.N) : iblk m c 3 t = V m c main_v1 := by
  funext j
  unfold iblk
  rw [View.read_apply, cast_eq]
  refine congrArg (V m c main_v1) (Shape.idx_ext₂ ?_ ?_)
  · exact Pipeline.Window.rect_emb_val_of_index_zero win0_3 t 0 (at3 t).1 _
  · exact Pipeline.Window.rect_emb_val_of_index_zero win0_3 t 1 (at3 t).2 _

/-! ## The result arrays -/

theorem at4 : ∀ t : Fin grid0.N, win0_4.index t 0 = t.val ∧ win0_4.index t 1 = 0 := by decide +kernel

theorem final4 (c : Dev nD) (t : Fin cfg0.N) (q : Fin 512) (b : Fin 1024) :
    (dats m 0 c).arrAt 4 cfg0.N (ix2 (row 8192 t.val q) b) = out0_4 (iblk m c 0 t) (iblk m c 1 t) (iblk m c 2 t) (iblk m c 3 t) (ix2 q b) := by
  have e : ((cfg0.win 4).blk t).view.emb (ix2 q b) = ix2 (row 8192 t.val q) b := Shape.idx_ext₂
    ((Pipeline.Window.rect_emb_val win0_4 t _ 0).trans ((congrArg (· * 512 + q.val) (at4 t).1).trans
      (row_val (T := 16) (B := 512) rfl (lt_of_lt_of_eq t.isLt N_0) q).symm))
    (Pipeline.Window.rect_emb_val_of_index_zero win0_4 t 1 (at4 t).2 _)
  refine (congrArg ((dats m 0 c).arrAt 4 cfg0.N) e.symm).trans
    (((dats m 0 c).arrAt_emb_eq_flushed 4 Value.disjoint4 t (flush0_4 t) (ix2 q b)).trans ?_)
  rw [Value.flushed4]
  generalize out0_4 (iblk m c 0 t) (iblk m c 1 t) (iblk m c 2 t) (iblk m c 3 t) = G
  rfl

end Cert.FpleIdeal.Rows

end
-- ==== Proof.FpleValue.lean ====
/- The gated per-row projection: the kernel's result array and the forward line are the same function of the arguments. -/
module

public import proofs.«01_k».proof.Proof.FpleKernel
public import proofs.«01_k».proof.Proof.Gen.FpleRefIdeal.Read

@[expose] public section

set_option maxRecDepth 16384

noncomputable section

open Cert.RowLib Idealize.ShloMosaic Idealize.ShloMosaic.TcCoe Idealize.SL.Sem

/-! ## The mathematics -/

namespace Cert.FpleMath

variable (x : (⟨2, ![8192, 1024]⟩ : Shape).Idx → EReal) (p : (⟨2, ![8192, 256]⟩ : Shape).Idx → EReal)
  (w : (⟨2, ![256, 1024]⟩ : Shape).Idx → EReal) (wg : (⟨2, ![1024, 1024]⟩ : Shape).Idx → EReal)

/-- The row, and its projection behind the gate. -/
def out (r : Fin 8192) (b : Fin 1024) : EReal :=
  x (ix2 r b) + (∑ k : Fin 256, p (ix2 r k) * w (ix2 k b)) * Ideal.logistic (∑ k : Fin 1024, x (ix2 r k) * wg (ix2 k b))

end Cert.FpleMath

/-! ## The kernel -/

namespace Cert.FpleIdeal.Rows

open Cert.FpleIdeal Cert.FpleIdeal.Gen Cert.FpleMath

variable (m : (ℓ : Loc nD τ sig) → Buf (Elt Ideal) ℓ) (ρ : Dev nD → PrngReg)

theorem V_v0 (c : Dev nD) : V m c main_v0 = truncf (F := Ideal) .bf16 (m ((c : Thread nD τ).loc main_arg2)) bitsLt_bf16_f32 := by
  unfold V
  simp only [hostOps0]
  after_results

theorem V_v1 (c : Dev nD) : V m c main_v1 = truncf (F := Ideal) .bf16 (m ((c : Thread nD τ).loc main_arg3)) bitsLt_bf16_f32 := by
  unfold V
  simp only [hostOps0]
  after_results

/-! ### A point's results, over blocks of rows -/

section Pay

variable {s : ℕ} {x0 : S8192x1024.Idx → EReal} {x1 : S8192x256.Idx → EReal} {x2 : S256x1024.Idx → EReal} {x3 : S1024x1024.Idx → EReal}
  {v0 : Vec Ideal S512x1024 .f32} {v1 : Vec Ideal S512x256 .f32} {v2 : Vec Ideal S256x1024 .bf16} {v3 : Vec Ideal S1024x1024 .bf16}
  (h0 : ∀ q k, v0 (ix2 q k) = x0 (ix2 (row 8192 s q) k)) (h1 : ∀ q k, v1 (ix2 q k) = x1 (ix2 (row 8192 s q) k))
  (h2 : ∀ j, v2 j = x2 j) (h3 : ∀ j, v3 j = x3 j)

include h0 h1 h2 h3 in
theorem pay4 (q : Fin 512) (b : Fin 1024) : out0_4 v0 v1 v2 v3 (ix2 q b) = out x0 x1 x2 x3 (row 8192 s q) b := by
  unfold out0_4
  rw [View.canon_unit_zero hz]
  simp only [View.ld_unit_zero (S := S512x1024) hz, View.ld_unit_zero (S := S512x256) hz, View.ld_unit_zero (S := S256x1024) hz, View.ld_unit_zero (S := S1024x1024) hz]
  unfold k0_pay1
  pointwise [half_word, h0, h1, h2, h3, half_tanh]
  rfl

end Pay

/-! ### The arguments -/

abbrev a0 (c : Dev nD) : S8192x1024.Idx → EReal := m ((c : Thread nD τ).loc main_arg0)
abbrev a1 (c : Dev nD) : S8192x256.Idx → EReal := m ((c : Thread nD τ).loc main_arg1)
abbrev a2 (c : Dev nD) : S256x1024.Idx → EReal := m ((c : Thread nD τ).loc main_arg2)
abbrev a3 (c : Dev nD) : S1024x1024.Idx → EReal := m ((c : Thread nD τ).loc main_arg3)

theorem b0 (c : Dev nD) (t : Fin cfg0.N) (q : Fin 512) (k : Fin 1024) : iblk m c 0 t (ix2 q k) = a0 m c (ix2 (row 8192 t.val q) k) :=
  (iblk0_apply m c t q k).trans (congrFun (V_main_arg0 m c) _)
theorem b1 (c : Dev nD) (t : Fin cfg0.N) (q : Fin 512) (k : Fin 256) : iblk m c 1 t (ix2 q k) = a1 m c (ix2 (row 8192 t.val q) k) :=
  (iblk1_apply m c t q k).trans (congrFun (V_main_arg1 m c) _)
theorem b2 (c : Dev nD) (t : Fin cfg0.N) (j : S256x1024.Idx) : iblk m c 2 t j = a2 m c j :=
  (congrFun (iblk2_eq m c t) j).trans (congrFun (V_v0 m c) j)
theorem b3 (c : Dev nD) (t : Fin cfg0.N) (j : S1024x1024.Idx) : iblk m c 3 t j = a3 m c j :=
  (congrFun (iblk3_eq m c t) j).trans (congrFun (V_v1 m c) j)

/-! ### The result arrays -/

theorem res4 (c : Dev nD) (r : Fin 8192) (b : Fin 1024) :
    (dats m 0 c).arrAt 4 cfg0.N (ix2 r b) = out (a0 m c) (a1 m c) (a2 m c) (a3 m c) r b := by
  obtain ⟨s, hs, q, rfl⟩ := exists_row (T := 16) (B := 512) rfl r
  exact (final4 m c ⟨s, lt_of_lt_of_eq hs N_0.symm⟩ q b).trans
    (pay4 (b0 m c _) (b1 m c _) (b2 m c _) (b3 m c _) q b)

end Cert.FpleIdeal.Rows

/-! ## The reference -/

namespace Cert.FpleRefIdeal.Rows

open Cert.FpleRefIdeal Cert.FpleRefIdeal.Gen Cert.FpleRefIdeal.Read Cert.FpleMath

variable (x0 : S8192x1024.Idx → EReal) (x1 : S8192x256.Idx → EReal) (x2 : S256x1024.Idx → EReal) (x3 : S1024x1024.Idx → EReal)

theorem out_eq (r : Fin 8192) (b : Fin 1024) : val_main_v9 (F := Ideal) x0 x1 x2 x3 (ix2 r b) = out x0 x1 x2 x3 r b := by
  unfold val_main_v9 val_main_v8 val_main_v7 val_main_v6 val_main_v5 val_main_v4 val_main_v3 val_main_v2 val_main_v1 val_main_v0 val_main_cst val_main_cst_0
  pointwise
  rfl

end Cert.FpleRefIdeal.Rows

end
-- ==== Proof.FpleClaim.lean ====
/- The claim about the gated per-row projection. -/
module

public import proofs.«01_k».proof.Defs
public import proofs.«01_k».proof.Proof.FpleValue
public import proofs.«01_k».proof.Proof.Gen.FpleRefIdeal.Run

@[expose] public section

set_option maxRecDepth 16384
set_option maxHeartbeats 1600000

noncomputable section

namespace Cert.Proof

open Cert.RowLib Idealize.ShloMosaic Idealize.ShloMosaic.TcCoe Idealize.SL.Sem

/-- The kernel's result arrays are those of the reference. -/
theorem fple_value :
    Cert.algebraic_FpleIdeal_FpleRefIdeal (hFpleIdeal := Cert.FpleIdeal.Gen.facts) (hFpleRefIdeal := Cert.FpleRefIdeal.Gen.facts) := by
  intro m g m' g' hpre hag
  refine ⟨fun c => (Cert.FpleIdeal.Gen.dats m 0 c).arrAt 4 Cert.FpleIdeal.cfg0.N,
    Cert.FpleIdeal.Value.run_blocks m g, (θ_run _ _ _).mono (fun r h c => ?_) (Cert.FpleRefIdeal.Value.run m' g')⟩
  obtain ⟨e0, e1, e2, e3⟩ := hag c
  exact ⟨((h c).1.trans (Cert.FpleRefIdeal.Read.val_main_v9_eq (m' ((c.tc : Thread Cert.FpleRefIdeal.nD Cert.FpleRefIdeal.τ).loc Cert.FpleRefIdeal.main_arg0)) (m' ((c.tc : Thread Cert.FpleRefIdeal.nD Cert.FpleRefIdeal.τ).loc Cert.FpleRefIdeal.main_arg1)) (m' ((c.tc : Thread Cert.FpleRefIdeal.nD Cert.FpleRefIdeal.τ).loc Cert.FpleRefIdeal.main_arg2)) (m' ((c.tc : Thread Cert.FpleRefIdeal.nD Cert.FpleRefIdeal.τ).loc Cert.FpleRefIdeal.main_arg3)))).trans (ext2 fun a b => by
      rw [e0, e1, e2, e3]
      exact (Cert.FpleRefIdeal.Rows.out_eq _ _ _ _  a b).trans (Cert.FpleIdeal.Rows.res4 m c a b).symm),
    (h c).2⟩

end Cert.Proof

end
-- ==== Proof.FprepKernel.lean ====
/- What the kernel of the discretisation leaves in its four result arrays, and what the reference leaves, entry by entry. -/
module

public import proofs.«01_k».proof.Proof.PrepTail
public import proofs.«01_k».proof.Proof.Gen.FprepIdeal.Frame
public import proofs.«01_k».proof.Proof.Gen.FprepRefIdeal.Read

@[expose] public section

set_option maxRecDepth 16384

noncomputable section

namespace Cert.FprepMath

open Idealize.ShloMosaic

variable (a b l p r : EReal)

/-- The modulus of the discrete pole `exp ((a + i b) exp l)`. -/
def er : EReal := Ideal.exp (a * Ideal.exp l)

/-- The two parts of the pole. -/
def poleRe : EReal := er a l * Ideal.cos (b * Ideal.exp l)
def poleIm : EReal := er a l * Ideal.sin (b * Ideal.exp l)

/-- The two parts of the hold's factor. -/
def holdRe : EReal := Ideal.div ((poleRe a b l - 1) * a + poleIm a b l * b) (a * a + b * b)
def holdIm : EReal := Ideal.div (poleIm a b l * a - (poleRe a b l - 1) * b) (a * a + b * b)

/-- The two parts of the discrete input. -/
def inRe : EReal := holdRe a b l * p - holdIm a b l * r
def inIm : EReal := holdRe a b l * r + holdIm a b l * p

end Cert.FprepMath

namespace Cert.FprepIdeal.Rows

open Cert.FprepIdeal Cert.FprepIdeal.Gen Cert.RowLib Cert.FprepMath Idealize.ShloMosaic Idealize.ShloMosaic.TcCoe Idealize.SL.Sem
open Cert.PrepIdeal.Rows (line unflat spread spread_at turned hz)

variable (x0 x1 x2 x3 x4 : Vec Ideal S512x64 .f32) (i : S512x64.Idx)

theorem out5 : out0_5 x0 x1 x2 x3 x4 i = poleRe (x0 i) (x1 i) (x2 i) := by
  unfold out0_5
  rw [View.canon_unit_zero hz]
  simp only [View.ld_unit_zero (S := S512x64) hz, k0_pay13, k0_pay12, k0_pay11, k0_pay10, k0_pay9, k0_pay8, k0_pay7, k0_pay6, k0_pay5, k0_pay4, k0_pay3, k0_pay2, k0_pay1]
  pointwise
  rfl

theorem out6 : out0_6 x0 x1 x2 x3 x4 i = poleIm (x0 i) (x1 i) (x2 i) := by
  unfold out0_6
  rw [View.canon_unit_zero hz]
  simp only [View.ld_unit_zero (S := S512x64) hz, k0_pay13, k0_pay12, k0_pay11, k0_pay10, k0_pay9, k0_pay8, k0_pay7, k0_pay6, k0_pay5, k0_pay4, k0_pay3, k0_pay2, k0_pay1]
  pointwise
  rfl

theorem out7 : out0_7 x0 x1 x2 x3 x4 i = inRe (x0 i) (x1 i) (x2 i) (x3 i) (x4 i) := by
  unfold out0_7
  rw [View.canon_unit_zero hz]
  simp only [View.ld_unit_zero (S := S512x64) hz, k0_pay13, k0_pay12, k0_pay11, k0_pay10, k0_pay9, k0_pay8, k0_pay7, k0_pay6, k0_pay5, k0_pay4, k0_pay3, k0_pay2, k0_pay1]
  pointwise
  rfl

theorem out8 : out0_8 x0 x1 x2 x3 x4 i = inIm (x0 i) (x1 i) (x2 i) (x3 i) (x4 i) := by
  unfold out0_8
  rw [View.canon_unit_zero hz]
  simp only [View.ld_unit_zero (S := S512x64) hz, k0_pay13, k0_pay12, k0_pay11, k0_pay10, k0_pay9, k0_pay8, k0_pay7, k0_pay6, k0_pay5, k0_pay4, k0_pay3, k0_pay2, k0_pay1]
  pointwise
  rfl

/-! ## The arrays the call is given -/

variable (m : (ℓ : Loc nD τ sig) → Buf (Elt Ideal) ℓ) (c : Dev nD)

abbrev a0 : S32x64.Idx → EReal := m ((c : Thread nD τ).loc main_arg0)
abbrev a1 : S32x64.Idx → EReal := m ((c : Thread nD τ).loc main_arg1)
abbrev a2 : S32.Idx → EReal := m ((c : Thread nD τ).loc main_arg2)
abbrev a3 : S32x64x16.Idx → EReal := m ((c : Thread nD τ).loc main_arg3)
abbrev a4 : S32x64x16.Idx → EReal := m ((c : Thread nD τ).loc main_arg4)

theorem at_v4 (g : Fin 32) (k : Fin 16) (n : Fin 64) : V m c main_v4 (ix2 (line g k) n) = a0 m c (ix2 g n) := by
  have e : V m c main_v4 = spread (a0 m c) := by
    show StableHlo.after [hostOps0].flatten (fun b => m (c, b)) (Proc.devRef .tc main_v4) = _
    simp only [hostOps0, List.flatten_cons, List.flatten_nil, List.append_nil, List.cons_append, List.nil_append]
    after_results
    rfl
  rw [e]
  exact spread_at _ g k n

theorem at_v7 (g : Fin 32) (k : Fin 16) (n : Fin 64) : V m c main_v7 (ix2 (line g k) n) = a1 m c (ix2 g n) := by
  have e : V m c main_v7 = spread (a1 m c) := by
    show StableHlo.after [hostOps0].flatten (fun b => m (c, b)) (Proc.devRef .tc main_v7) = _
    simp only [hostOps0, List.flatten_cons, List.flatten_nil, List.append_nil, List.cons_append, List.nil_append]
    after_results
    rfl
  rw [e]
  exact spread_at _ g k n

theorem at_v10 (g : Fin 32) (k : Fin 16) (n : Fin 64) : V m c main_v10 (ix2 (line g k) n) = a2 m c (ix1 g) := by
  have e : V m c main_v10 = spread (broadcastInDim S32x64 ![0, 1] bcast_S32x1_S32x64_0_1 (broadcastInDim S32x1 ![0] bcast_S32_S32x1_0 (a2 m c))) := by
    show StableHlo.after [hostOps0].flatten (fun b => m (c, b)) (Proc.devRef .tc main_v10) = _
    simp only [hostOps0, List.flatten_cons, List.flatten_nil, List.append_nil, List.cons_append, List.nil_append]
    after_results
    rfl
  rw [e]
  refine (spread_at _ g k n).trans ?_
  pointwise

theorem at_v12 (g : Fin 32) (k : Fin 16) (n : Fin 64) : V m c main_v12 (ix2 (line g k) n) = a3 m c (ix3 g n k) := by
  have e : V m c main_v12 = shapeCast S512x64 (transpose S32x16x64 [0, 2, 1] (a3 m c) transposes_S32x64x16_S32x16x64_0_2_1) shapeCasts_S32x16x64_S512x64 := by
    show StableHlo.after [hostOps0].flatten (fun b => m (c, b)) (Proc.devRef .tc main_v12) = _
    simp only [hostOps0, List.flatten_cons, List.flatten_nil, List.append_nil, List.cons_append, List.nil_append]
    after_results
    rfl
  rw [e]
  exact turned _ g k n

theorem at_v14 (g : Fin 32) (k : Fin 16) (n : Fin 64) : V m c main_v14 (ix2 (line g k) n) = a4 m c (ix3 g n k) := by
  have e : V m c main_v14 = shapeCast S512x64 (transpose S32x16x64 [0, 2, 1] (a4 m c) transposes_S32x64x16_S32x16x64_0_2_1) shapeCasts_S32x16x64_S512x64 := by
    show StableHlo.after [hostOps0].flatten (fun b => m (c, b)) (Proc.devRef .tc main_v14) = _
    simp only [hostOps0, List.flatten_cons, List.flatten_nil, List.append_nil, List.cons_append, List.nil_append]
    after_results
    rfl
  rw [e]
  exact turned _ g k n

/-! ## A call without a grid reads and writes whole arrays -/

theorem iblk0_eq (t : Fin cfg0.N) : iblk m c 0 t = V m c main_v4 := by
  have h0 : (fun a => win0_0.index t a * main_v4.ty.shape.size a) = fun _ => 0 := funext fun a => Nat.zero_mul _
  exact Memref.read_access_unit_zero (Elt Ideal) main_v4 h0 (fun a => by rw [congrFun h0 a]; simp) (V m c main_v4)

theorem iblk1_eq (t : Fin cfg0.N) : iblk m c 1 t = V m c main_v7 := by
  have h0 : (fun a => win0_1.index t a * main_v7.ty.shape.size a) = fun _ => 0 := funext fun a => Nat.zero_mul _
  exact Memref.read_access_unit_zero (Elt Ideal) main_v7 h0 (fun a => by rw [congrFun h0 a]; simp) (V m c main_v7)

theorem iblk2_eq (t : Fin cfg0.N) : iblk m c 2 t = V m c main_v10 := by
  have h0 : (fun a => win0_2.index t a * main_v10.ty.shape.size a) = fun _ => 0 := funext fun a => Nat.zero_mul _
  exact Memref.read_access_unit_zero (Elt Ideal) main_v10 h0 (fun a => by rw [congrFun h0 a]; simp) (V m c main_v10)

theorem iblk3_eq (t : Fin cfg0.N) : iblk m c 3 t = V m c main_v12 := by
  have h0 : (fun a => win0_3.index t a * main_v12.ty.shape.size a) = fun _ => 0 := funext fun a => Nat.zero_mul _
  exact Memref.read_access_unit_zero (Elt Ideal) main_v12 h0 (fun a => by rw [congrFun h0 a]; simp) (V m c main_v12)

theorem iblk4_eq (t : Fin cfg0.N) : iblk m c 4 t = V m c main_v14 := by
  have h0 : (fun a => win0_4.index t a * main_v14.ty.shape.size a) = fun _ => 0 := funext fun a => Nat.zero_mul _
  exact Memref.read_access_unit_zero (Elt Ideal) main_v14 h0 (fun a => by rw [congrFun h0 a]; simp) (V m c main_v14)

abbrev t0 : Fin cfg0.N := ⟨0, by decide⟩

theorem final5 : (dats m 0 c).arrAt 5 cfg0.N = out0_5 (V m c main_v4) (V m c main_v7) (V m c main_v10) (V m c main_v12) (V m c main_v14) := by
  have e : (dats m 0 c).flushed 5 t0 = out0_5 (V m c main_v4) (V m c main_v7) (V m c main_v10) (V m c main_v12) (V m c main_v14) := by
    show (cfg0.win 5).cut (grid0.coords t0) ((dats m 0 c).after 5 t0) = _
    rw [after0_5, iblk0_eq, iblk1_eq, iblk2_eq, iblk3_eq, iblk4_eq]
    rfl
  have h0 : (fun a => win0_5.index t0 a * main_v15_0.ty.shape.size a) = fun _ => 0 := funext fun a => Nat.zero_mul _
  refine (dats m 0 c).arrAt_eq_of_cover 5 _ (fun t hf => ?_) fun i => ?_
  · obtain rfl : t = t0 := Fin.ext (Nat.lt_one_iff.1 t.isLt)
    rw [e]
    generalize out0_5 (V m c main_v4) (V m c main_v7) (V m c main_v10) (V m c main_v12) (V m c main_v14) = G
    exact (Memref.read_access_unit_zero (Elt Ideal) main_v15_0 h0 (fun a => by rw [congrFun h0 a]; simp) G).symm
  · refine ⟨t0, by decide, ?_⟩
    show i ∈ ((View.whole main_v15_0).slice (win0_5.rect t0)).set
    rw [View.set_slice_whole, Rect.mem_set_unit]
    intro a
    have h1 := congrFun h0 a
    exact ⟨h1.le.trans (Nat.zero_le _), lt_of_lt_of_eq (i a).isLt ((zero_add _).symm.trans (congrArg (· + _) h1.symm))⟩

theorem final6 : (dats m 0 c).arrAt 6 cfg0.N = out0_6 (V m c main_v4) (V m c main_v7) (V m c main_v10) (V m c main_v12) (V m c main_v14) := by
  have e : (dats m 0 c).flushed 6 t0 = out0_6 (V m c main_v4) (V m c main_v7) (V m c main_v10) (V m c main_v12) (V m c main_v14) := by
    show (cfg0.win 6).cut (grid0.coords t0) ((dats m 0 c).after 6 t0) = _
    rw [after0_6, iblk0_eq, iblk1_eq, iblk2_eq, iblk3_eq, iblk4_eq]
    rfl
  have h0 : (fun a => win0_6.index t0 a * main_v15_1.ty.shape.size a) = fun _ => 0 := funext fun a => Nat.zero_mul _
  refine (dats m 0 c).arrAt_eq_of_cover 6 _ (fun t hf => ?_) fun i => ?_
  · obtain rfl : t = t0 := Fin.ext (Nat.lt_one_iff.1 t.isLt)
    rw [e]
    generalize out0_6 (V m c main_v4) (V m c main_v7) (V m c main_v10) (V m c main_v12) (V m c main_v14) = G
    exact (Memref.read_access_unit_zero (Elt Ideal) main_v15_1 h0 (fun a => by rw [congrFun h0 a]; simp) G).symm
  · refine ⟨t0, by decide, ?_⟩
    show i ∈ ((View.whole main_v15_1).slice (win0_6.rect t0)).set
    rw [View.set_slice_whole, Rect.mem_set_unit]
    intro a
    have h1 := congrFun h0 a
    exact ⟨h1.le.trans (Nat.zero_le _), lt_of_lt_of_eq (i a).isLt ((zero_add _).symm.trans (congrArg (· + _) h1.symm))⟩

theorem final7 : (dats m 0 c).arrAt 7 cfg0.N = out0_7 (V m c main_v4) (V m c main_v7) (V m c main_v10) (V m c main_v12) (V m c main_v14) := by
  have e : (dats m 0 c).flushed 7 t0 = out0_7 (V m c main_v4) (V m c main_v7) (V m c main_v10) (V m c main_v12) (V m c main_v14) := by
    show (cfg0.win 7).cut (grid0.coords t0) ((dats m 0 c).after 7 t0) = _
    rw [after0_7, iblk0_eq, iblk1_eq, iblk2_eq, iblk3_eq, iblk4_eq]
    rfl
  have h0 : (fun a => win0_7.index t0 a * main_v15_2.ty.shape.size a) = fun _ => 0 := funext fun a => Nat.zero_mul _
  refine (dats m 0 c).arrAt_eq_of_cover 7 _ (fun t hf => ?_) fun i => ?_
  · obtain rfl : t = t0 := Fin.ext (Nat.lt_one_iff.1 t.isLt)
    rw [e]
    generalize out0_7 (V m c main_v4) (V m c main_v7) (V m c main_v10) (V m c main_v12) (V m c main_v14) = G
    exact (Memref.read_access_unit_zero (Elt Ideal) main_v15_2 h0 (fun a => by rw [congrFun h0 a]; simp) G).symm
  · refine ⟨t0, by decide, ?_⟩
    show i ∈ ((View.whole main_v15_2).slice (win0_7.rect t0)).set
    rw [View.set_slice_whole, Rect.mem_set_unit]
    intro a
    have h1 := congrFun h0 a
    exact ⟨h1.le.trans (Nat.zero_le _), lt_of_lt_of_eq (i a).isLt ((zero_add _).symm.trans (congrArg (· + _) h1.symm))⟩

theorem final8 : (dats m 0 c).arrAt 8 cfg0.N = out0_8 (V m c main_v4) (V m c main_v7) (V m c main_v10) (V m c main_v12) (V m c main_v14) := by
  have e : (dats m 0 c).flushed 8 t0 = out0_8 (V m c main_v4) (V m c main_v7) (V m c main_v10) (V m c main_v12) (V m c main_v14) := by
    show (cfg0.win 8).cut (grid0.coords t0) ((dats m 0 c).after 8 t0) = _
    rw [after0_8, iblk0_eq, iblk1_eq, iblk2_eq, iblk3_eq, iblk4_eq]
    rfl
  have h0 : (fun a => win0_8.index t0 a * main_v15_3.ty.shape.size a) = fun _ => 0 := funext fun a => Nat.zero_mul _
  refine (dats m 0 c).arrAt_eq_of_cover 8 _ (fun t hf => ?_) fun i => ?_
  · obtain rfl : t = t0 := Fin.ext (Nat.lt_one_iff.1 t.isLt)
    rw [e]
    generalize out0_8 (V m c main_v4) (V m c main_v7) (V m c main_v10) (V m c main_v12) (V m c main_v14) = G
    exact (Memref.read_access_unit_zero (Elt Ideal) main_v15_3 h0 (fun a => by rw [congrFun h0 a]; simp) G).symm
  · refine ⟨t0, by decide, ?_⟩
    show i ∈ ((View.whole main_v15_3).slice (win0_8.rect t0)).set
    rw [View.set_slice_whole, Rect.mem_set_unit]
    intro a
    have h1 := congrFun h0 a
    exact ⟨h1.le.trans (Nat.zero_le _), lt_of_lt_of_eq (i a).isLt ((zero_add _).symm.trans (congrArg (· + _) h1.symm))⟩

/-! ## The operations after the call -/

/-- The first channel of an array. -/
theorem channel (x : S512x64.Idx → EReal) (g : Fin 32) (n : Fin 64) :
    shapeCast S32x64 (extractStridedSlice S32x1x64 ![0, 0, 0] (shapeCast S32x16x64 x shapeCasts_S512x64_S32x16x64) slices_S32x16x64_S32x1x64_0_0_0) shapeCasts_S32x1x64_S32x64 (ix2 g n) = x (ix2 (line g 0) n) := by
  pointwise
  exact congrArg (fun q => x (ix2 q n)) (Fin.ext (show g.val * 16 = 16 * g.val + 0 by omega))

theorem tail_v18 : Pipeline.afterTail₀ cfgs (dats m) 0 (V0 m) [hostOps1] c main_v18 = shapeCast S32x64 (extractStridedSlice S32x1x64 ![0, 0, 0] (shapeCast S32x16x64 ((dats m 0 c).arrAt 5 cfg0.N) shapeCasts_S512x64_S32x16x64) slices_S32x16x64_S32x1x64_0_0_0) shapeCasts_S32x1x64_S32x64 := by
  unfold Pipeline.afterTail₀
  have e := Pipeline.withArrays_arr (cfgs 0).spec launch0.win.arr_inj c (V0 m c) (fun w => (dats m 0 c).arrAt w (cfgs 0).N) 5
  revert e
  generalize Pipeline.withArrays (cfgs 0).spec c (V0 m c) (fun w => (dats m 0 c).arrAt w (cfgs 0).N) = W
  intro e
  have e' : W (Proc.devRef .tc main_v15_0) = (dats m 0 c).arrAt 5 cfg0.N := e
  rw [← e']
  simp only [hostOps1, List.flatten_cons, List.flatten_nil, List.append_nil, List.cons_append, List.nil_append]
  after_results
  rfl

theorem res_v18 (g : Fin 32) (n : Fin 64) : Pipeline.afterTail₀ cfgs (dats m) 0 (V0 m) [hostOps1] c main_v18 (ix2 g n) = poleRe (a0 m c (ix2 g n)) (a1 m c (ix2 g n)) (a2 m c (ix1 g)) := by
  rw [tail_v18, final5]
  refine (channel _ g n).trans ?_
  rw [out5, at_v4, at_v7, at_v10]

theorem tail_v21 : Pipeline.afterTail₀ cfgs (dats m) 0 (V0 m) [hostOps1] c main_v21 = shapeCast S32x64 (extractStridedSlice S32x1x64 ![0, 0, 0] (shapeCast S32x16x64 ((dats m 0 c).arrAt 6 cfg0.N) shapeCasts_S512x64_S32x16x64) slices_S32x16x64_S32x1x64_0_0_0) shapeCasts_S32x1x64_S32x64 := by
  unfold Pipeline.afterTail₀
  have e := Pipeline.withArrays_arr (cfgs 0).spec launch0.win.arr_inj c (V0 m c) (fun w => (dats m 0 c).arrAt w (cfgs 0).N) 6
  revert e
  generalize Pipeline.withArrays (cfgs 0).spec c (V0 m c) (fun w => (dats m 0 c).arrAt w (cfgs 0).N) = W
  intro e
  have e' : W (Proc.devRef .tc main_v15_1) = (dats m 0 c).arrAt 6 cfg0.N := e
  rw [← e']
  simp only [hostOps1, List.flatten_cons, List.flatten_nil, List.append_nil, List.cons_append, List.nil_append]
  after_results
  rfl

theorem res_v21 (g : Fin 32) (n : Fin 64) : Pipeline.afterTail₀ cfgs (dats m) 0 (V0 m) [hostOps1] c main_v21 (ix2 g n) = poleIm (a0 m c (ix2 g n)) (a1 m c (ix2 g n)) (a2 m c (ix1 g)) := by
  rw [tail_v21, final6]
  refine (channel _ g n).trans ?_
  rw [out6, at_v4, at_v7, at_v10]

theorem tail_v22 : Pipeline.afterTail₀ cfgs (dats m) 0 (V0 m) [hostOps1] c main_v22 = shapeCast S32x16x64 ((dats m 0 c).arrAt 7 cfg0.N) shapeCasts_S512x64_S32x16x64 := by
  unfold Pipeline.afterTail₀
  have e := Pipeline.withArrays_arr (cfgs 0).spec launch0.win.arr_inj c (V0 m c) (fun w => (dats m 0 c).arrAt w (cfgs 0).N) 7
  revert e
  generalize Pipeline.withArrays (cfgs 0).spec c (V0 m c) (fun w => (dats m 0 c).arrAt w (cfgs 0).N) = W
  intro e
  have e' : W (Proc.devRef .tc main_v15_2) = (dats m 0 c).arrAt 7 cfg0.N := e
  rw [← e']
  simp only [hostOps1, List.flatten_cons, List.flatten_nil, List.append_nil, List.cons_append, List.nil_append]
  after_results
  rfl

theorem res_v22 (g : Fin 32) (k : Fin 16) (n : Fin 64) : Pipeline.afterTail₀ cfgs (dats m) 0 (V0 m) [hostOps1] c main_v22 (ix3 g k n) = inRe (a0 m c (ix2 g n)) (a1 m c (ix2 g n)) (a2 m c (ix1 g)) (a3 m c (ix3 g n k)) (a4 m c (ix3 g n k)) := by
  rw [tail_v22, final7]
  refine (unflat _ _ g k n).trans ?_
  rw [out7, at_v4, at_v7, at_v10, at_v12, at_v14]

theorem tail_v23 : Pipeline.afterTail₀ cfgs (dats m) 0 (V0 m) [hostOps1] c main_v23 = shapeCast S32x16x64 ((dats m 0 c).arrAt 8 cfg0.N) shapeCasts_S512x64_S32x16x64 := by
  unfold Pipeline.afterTail₀
  have e := Pipeline.withArrays_arr (cfgs 0).spec launch0.win.arr_inj c (V0 m c) (fun w => (dats m 0 c).arrAt w (cfgs 0).N) 8
  revert e
  generalize Pipeline.withArrays (cfgs 0).spec c (V0 m c) (fun w => (dats m 0 c).arrAt w (cfgs 0).N) = W
  intro e
  have e' : W (Proc.devRef .tc main_v15_3) = (dats m 0 c).arrAt 8 cfg0.N := e
  rw [← e']
  simp only [hostOps1, List.flatten_cons, List.flatten_nil, List.append_nil, List.cons_append, List.nil_append]
  after_results
  rfl

theorem res_v23 (g : Fin 32) (k : Fin 16) (n : Fin 64) : Pipeline.afterTail₀ cfgs (dats m) 0 (V0 m) [hostOps1] c main_v23 (ix3 g k n) = inIm (a0 m c (ix2 g n)) (a1 m c (ix2 g n)) (a2 m c (ix1 g)) (a3 m c (ix3 g n k)) (a4 m c (ix3 g n k)) := by
  rw [tail_v23, final8]
  refine (unflat _ _ g k n).trans ?_
  rw [out8, at_v4, at_v7, at_v10, at_v12, at_v14]

end Cert.FprepIdeal.Rows

namespace Cert.FprepRefIdeal.Rows

open Cert.FprepRefIdeal Cert.FprepRefIdeal.Gen Cert.FprepRefIdeal.Read Cert.RowLib Cert.FprepMath Idealize.ShloMosaic

variable (x0 x1 : S32x64.Idx → EReal) (x2 : S32.Idx → EReal) (x3 x4 : S32x64x16.Idx → EReal) (g : Fin 32) (n : Fin 64) (k : Fin 16)

theorem ref_v8 : val_main_v8 (F := Ideal) x0 x1 x2 (ix2 g n) = poleRe (x0 (ix2 g n)) (x1 (ix2 g n)) (x2 (ix1 g)) := by
  simp only [val_main_v8, val_main_v7, val_main_v6, val_main_v5, val_main_v4, val_main_v3, val_main_v2, val_main_v1, val_main_v0]
  pointwise
  rfl

theorem ref_v12 : val_main_v12 (F := Ideal) x0 x1 x2 (ix2 g n) = poleIm (x0 (ix2 g n)) (x1 (ix2 g n)) (x2 (ix1 g)) := by
  simp only [val_main_v12, val_main_v11, val_main_v10, val_main_v9, val_main_v4, val_main_v3, val_main_v2, val_main_v1, val_main_v0]
  pointwise
  rfl

theorem ref_v21 : val_main_v21 (F := Ideal) x0 x1 x2 (ix2 g n) = holdRe (x0 (ix2 g n)) (x1 (ix2 g n)) (x2 (ix1 g)) := by
  unfold val_main_v21 val_main_v20 val_main_v19 val_main_v18 val_main_v17 val_main_v16 val_main_cst val_main_v15 val_main_v14 val_main_v13
  pointwise [ref_v8, ref_v12]
  rfl

theorem ref_v27 : val_main_v27 (F := Ideal) x0 x1 x2 (ix2 g n) = holdIm (x0 (ix2 g n)) (x1 (ix2 g n)) (x2 (ix1 g)) := by
  unfold val_main_v27 val_main_v26 val_main_v25 val_main_v24 val_main_v23 val_main_v22 val_main_cst_0 val_main_v15 val_main_v14 val_main_v13
  pointwise [ref_v8, ref_v12]
  rfl

theorem ref_v42 : val_main_v42 (F := Ideal) x0 x1 x2 x3 x4 (ix3 g k n) = inRe (x0 (ix2 g n)) (x1 (ix2 g n)) (x2 (ix1 g)) (x3 (ix3 g n k)) (x4 (ix3 g n k)) := by
  unfold val_main_v42 val_main_v34 val_main_v33 val_main_v32 val_main_v31 val_main_v30 val_main_v29 val_main_v28
  pointwise [ref_v21, ref_v27]
  rfl

theorem ref_v43 : val_main_v43 (F := Ideal) x0 x1 x2 x3 x4 (ix3 g k n) = inIm (x0 (ix2 g n)) (x1 (ix2 g n)) (x2 (ix1 g)) (x3 (ix3 g n k)) (x4 (ix3 g n k)) := by
  unfold val_main_v43 val_main_v41 val_main_v40 val_main_v39 val_main_v38 val_main_v37 val_main_v36 val_main_v35
  pointwise [ref_v21, ref_v27]
  rfl

end Cert.FprepRefIdeal.Rows

end
-- ==== Proof.FprepClaim.lean ====
/- The claim about the discretisation. -/
module

public import proofs.«01_k».proof.Defs
public import proofs.«01_k».proof.Proof.FprepKernel
public import proofs.«01_k».proof.Proof.PrepClaim
public import proofs.«01_k».proof.Proof.Gen.FprepRefIdeal.Run

@[expose] public section

set_option maxRecDepth 16384
set_option maxHeartbeats 1600000

noncomputable section

namespace Cert.Proof

open Cert.RowLib Idealize.ShloMosaic Idealize.ShloMosaic.TcCoe Idealize.SL.Sem

/-- The kernel's result arrays are those of the reference. -/
theorem fprep_value :
    Cert.algebraic_FprepIdeal_FprepRefIdeal (hFprepIdeal := Cert.FprepIdeal.Gen.facts) (hFprepRefIdeal := Cert.FprepRefIdeal.Gen.facts) := by
  intro m g m' g' hpre hag
  refine ⟨fun c => Pipeline.afterTail₀ Cert.FprepIdeal.cfgs (Cert.FprepIdeal.Gen.dats m) 0 (Cert.FprepIdeal.Gen.V0 m) [Cert.FprepIdeal.Gen.hostOps1] c Cert.FprepIdeal.main_v18, fun c => Pipeline.afterTail₀ Cert.FprepIdeal.cfgs (Cert.FprepIdeal.Gen.dats m) 0 (Cert.FprepIdeal.Gen.V0 m) [Cert.FprepIdeal.Gen.hostOps1] c Cert.FprepIdeal.main_v21, fun c => Pipeline.afterTail₀ Cert.FprepIdeal.cfgs (Cert.FprepIdeal.Gen.dats m) 0 (Cert.FprepIdeal.Gen.V0 m) [Cert.FprepIdeal.Gen.hostOps1] c Cert.FprepIdeal.main_v22, fun c => Pipeline.afterTail₀ Cert.FprepIdeal.cfgs (Cert.FprepIdeal.Gen.dats m) 0 (Cert.FprepIdeal.Gen.V0 m) [Cert.FprepIdeal.Gen.hostOps1] c Cert.FprepIdeal.main_v23,
    (θ_run _ _ _).mono (fun r h c => ⟨(h.1 c).2 Cert.FprepIdeal.main_v18 (Pipeline.mem_restRefs_of Cert.FprepIdeal.main_v18 (by decide) (by decide)), (h.1 c).2 Cert.FprepIdeal.main_v21 (Pipeline.mem_restRefs_of Cert.FprepIdeal.main_v21 (by decide) (by decide)), (h.1 c).2 Cert.FprepIdeal.main_v22 (Pipeline.mem_restRefs_of Cert.FprepIdeal.main_v22 (by decide) (by decide)), (h.1 c).2 Cert.FprepIdeal.main_v23 (Pipeline.mem_restRefs_of Cert.FprepIdeal.main_v23 (by decide) (by decide)), h.2 c⟩) (θ_run_and (Cert.FprepIdeal.Gen.run_main m g) (Cert.FprepIdeal.Gen.unchanged m g)),
    (θ_run _ _ _).mono (fun r h c => ?_) (Cert.FprepRefIdeal.Value.run m' g')⟩
  obtain ⟨e0, e1, e2, e3, e4⟩ := hag c
  exact ⟨((h c).1.trans (Cert.FprepRefIdeal.Read.val_main_v8_eq _ _ _)).trans (show Cert.FprepRefIdeal.Read.val_main_v8 (F := Ideal) _ _ _ = _ from ext2 fun a b => by
      rw [e0, e1, e2]
      exact (Cert.FprepRefIdeal.Rows.ref_v8 _ _ _ a b).trans (Cert.FprepIdeal.Rows.res_v18 m c a b).symm),
    ((h c).2.1.trans (Cert.FprepRefIdeal.Read.val_main_v12_eq _ _ _)).trans (show Cert.FprepRefIdeal.Read.val_main_v12 (F := Ideal) _ _ _ = _ from ext2 fun a b => by
      rw [e0, e1, e2]
      exact (Cert.FprepRefIdeal.Rows.ref_v12 _ _ _ a b).trans (Cert.FprepIdeal.Rows.res_v21 m c a b).symm),
    ((h c).2.2.1.trans (Cert.FprepRefIdeal.Read.val_main_v42_eq _ _ _ _ _)).trans (show Cert.FprepRefIdeal.Read.val_main_v42 (F := Ideal) _ _ _ _ _ = _ from ext3 fun a b k => by
      rw [e0, e1, e2, e3, e4]
      exact (Cert.FprepRefIdeal.Rows.ref_v42 _ _ _ _ _ a k b).trans (Cert.FprepIdeal.Rows.res_v22 m c a b k).symm),
    ((h c).2.2.2.1.trans (Cert.FprepRefIdeal.Read.val_main_v43_eq _ _ _ _ _)).trans (show Cert.FprepRefIdeal.Read.val_main_v43 (F := Ideal) _ _ _ _ _ = _ from ext3 fun a b k => by
      rw [e0, e1, e2, e3, e4]
      exact (Cert.FprepRefIdeal.Rows.ref_v43 _ _ _ _ _ a k b).trans (Cert.FprepIdeal.Rows.res_v23 m c a b k).symm),
    (h c).2.2.2.2⟩

end Cert.Proof

end
-- ==== Proof.lean ====
/- The proof of the certificate's claim: each program's frame and each pair's value. -/
module

public import proofs.«01_k».proof.Defs
public import proofs.«01_k».proof.Proof.Gen.Ple.Frame
public import proofs.«01_k».proof.Proof.PleClaim
public import proofs.«01_k».proof.Proof.Gen.Loss.Frame
public import proofs.«01_k».proof.Proof.LossClaim
public import proofs.«01_k».proof.Proof.Gen.Bl.Frame
public import proofs.«01_k».proof.Proof.BlClaim
public import proofs.«01_k».proof.Proof.Gen.Conv.Frame
public import proofs.«01_k».proof.Proof.ConvClaim
public import proofs.«01_k».proof.Proof.Gen.S5post.Frame
public import proofs.«01_k».proof.Proof.S5postClaim
public import proofs.«01_k».proof.Proof.Gen.Merge.Frame
public import proofs.«01_k».proof.Proof.MergeClaim
public import proofs.«01_k».proof.Proof.Gen.In.Frame
public import proofs.«01_k».proof.Proof.InClaim
public import proofs.«01_k».proof.Proof.Gen.Gates.Frame
public import proofs.«01_k».proof.Proof.GatesClaim
public import proofs.«01_k».proof.Proof.Gen.Prep.Frame
public import proofs.«01_k».proof.Proof.PrepClaim
public import proofs.«01_k».proof.Proof.Gen.Scanb.Launch
public import proofs.«01_k».proof.Proof.ScanbClaim
public import proofs.«01_k».proof.Proof.Gen.Fgates.Frame
public import proofs.«01_k».proof.Proof.FgatesClaim
public import proofs.«01_k».proof.Proof.Gen.Fmerge.Frame
public import proofs.«01_k».proof.Proof.FmergeClaim
public import proofs.«01_k».proof.Proof.Gen.Fs5post.Frame
public import proofs.«01_k».proof.Proof.Fs5postClaim
public import proofs.«01_k».proof.Proof.Gen.Fin.Frame
public import proofs.«01_k».proof.Proof.FinClaim
public import proofs.«01_k».proof.Proof.Gen.Fple.Frame
public import proofs.«01_k».proof.Proof.FpleClaim
public import proofs.«01_k».proof.Proof.Gen.Fprep.Frame
public import proofs.«01_k».proof.Proof.FprepClaim
public import proofs.«01_k».proof.Proof.Gen.Pre_finite_bl
public import proofs.«01_k».proof.Proof.Gen.Pre_finite_s5post
public import proofs.«01_k».proof.Proof.Gen.Pre_decaying
public import proofs.«01_k».proof.Proof.Gen.Pre_invertible
public import proofs.«01_k».proof.Proof.Gen.Pre_finite_scanb
public import proofs.«01_k».proof.Proof.Gen.Pre_decaying_forward

@[expose] public section

noncomputable section

namespace Cert.Proof

open Idealize.ShloMosaic Idealize.SL.Sem

/-- The certificate: every program's frame, then each pair's value claim. -/
theorem claim : Cert.Claim := ⟨Cert.Ple.Gen.facts, Cert.PleIdeal.Gen.facts, Cert.PleRefIdeal.Gen.facts, Cert.Loss.Gen.facts, Cert.LossIdeal.Gen.facts, Cert.LossRefIdeal.Gen.facts, Cert.Bl.Gen.facts, Cert.BlIdeal.Gen.facts, Cert.BlRefIdeal.Gen.facts, Cert.Conv.Gen.facts, Cert.ConvIdeal.Gen.facts, Cert.ConvRefIdeal.Gen.facts, Cert.S5post.Gen.facts, Cert.S5postIdeal.Gen.facts, Cert.S5postRefIdeal.Gen.facts, Cert.Merge.Gen.facts, Cert.MergeIdeal.Gen.facts, Cert.MergeRefIdeal.Gen.facts, Cert.In.Gen.facts, Cert.InIdeal.Gen.facts, Cert.InRefIdeal.Gen.facts, Cert.Gates.Gen.facts, Cert.GatesIdeal.Gen.facts, Cert.GatesRefIdeal.Gen.facts, Cert.Prep.Gen.facts, Cert.PrepIdeal.Gen.facts, Cert.PrepRefIdeal.Gen.facts, Cert.Scanb.Gen.facts, Cert.ScanbIdeal.Gen.facts, Cert.ScanbRefIdeal.Gen.facts, Cert.Fgates.Gen.facts, Cert.FgatesIdeal.Gen.facts, Cert.FgatesRefIdeal.Gen.facts, Cert.Fmerge.Gen.facts, Cert.FmergeIdeal.Gen.facts, Cert.FmergeRefIdeal.Gen.facts, Cert.Fs5post.Gen.facts, Cert.Fs5postIdeal.Gen.facts, Cert.Fs5postRefIdeal.Gen.facts, Cert.Fin.Gen.facts, Cert.FinIdeal.Gen.facts, Cert.FinRefIdeal.Gen.facts, Cert.Fple.Gen.facts, Cert.FpleIdeal.Gen.facts, Cert.FpleRefIdeal.Gen.facts, Cert.Fprep.Gen.facts, Cert.FprepIdeal.Gen.facts, Cert.FprepRefIdeal.Gen.facts, Cert.Pre_finite_bl.Gen.facts, Cert.Pre_finite_s5post.Gen.facts, Cert.Pre_decaying.Gen.facts, Cert.Pre_invertible.Gen.facts, Cert.Pre_finite_scanb.Gen.facts, Cert.Pre_decaying_forward.Gen.facts,
  fun m ρ _ => Cert.Ple.Gen.frame m ρ,
  fun m ρ _ => Cert.PleIdeal.Gen.frame m ρ,
  fun m ρ _ => (θ_run _ _ _).mono (fun r h => ⟨fun c => (h c).2.2.2, sem_eq_zero_of_no_sems (by decide) r.2⟩)
    (Cert.PleRefIdeal.Value.run m ρ),
  fun m ρ _ => Cert.Loss.Gen.frame m ρ,
  fun m ρ _ => Cert.LossIdeal.Gen.frame m ρ,
  fun m ρ _ => (θ_run _ _ _).mono (fun r h => ⟨fun c => (h c).2.2, sem_eq_zero_of_no_sems (by decide) r.2⟩)
    (Cert.LossRefIdeal.Value.run m ρ),
  fun m ρ _ => Cert.Bl.Gen.frame m ρ,
  fun m ρ _ => Cert.BlIdeal.Gen.frame m ρ,
  fun m ρ _ => Cert.BlIdeal.Gen.frame m ρ,
  fun m ρ _ => (θ_run _ _ _).mono (fun r h => ⟨fun c => (h c).2.2.2, sem_eq_zero_of_no_sems (by decide) r.2⟩)
    (Cert.BlRefIdeal.Value.run m ρ),
  fun m ρ _ => (θ_run _ _ _).mono (fun r h => ⟨fun c => (h c).2.2.2, sem_eq_zero_of_no_sems (by decide) r.2⟩)
    (Cert.BlRefIdeal.Value.run m ρ),
  fun m ρ _ => Cert.Conv.Gen.frame m ρ,
  fun m ρ _ => Cert.ConvIdeal.Gen.frame m ρ,
  fun m ρ _ => (θ_run _ _ _).mono (fun r h => ⟨fun c => (h c).2.2.2, sem_eq_zero_of_no_sems (by decide) r.2⟩)
    (Cert.ConvRefIdeal.Value.run m ρ),
  fun m ρ _ => Cert.S5post.Gen.frame m ρ,
  fun m ρ _ => Cert.S5postIdeal.Gen.frame m ρ,
  fun m ρ _ => Cert.S5postIdeal.Gen.frame m ρ,
  fun m ρ _ => (θ_run _ _ _).mono (fun r h => ⟨fun c => (h c).2.2.2.2, sem_eq_zero_of_no_sems (by decide) r.2⟩)
    (Cert.S5postRefIdeal.Value.run m ρ),
  fun m ρ _ => (θ_run _ _ _).mono (fun r h => ⟨fun c => (h c).2.2.2.2, sem_eq_zero_of_no_sems (by decide) r.2⟩)
    (Cert.S5postRefIdeal.Value.run m ρ),
  fun m ρ _ => Cert.Merge.Gen.frame m ρ,
  fun m ρ _ => Cert.MergeIdeal.Gen.frame m ρ,
  fun m ρ _ => (θ_run _ _ _).mono (fun r h => ⟨fun c => (h c).2.2.2.2.2.2, sem_eq_zero_of_no_sems (by decide) r.2⟩)
    (Cert.MergeRefIdeal.Value.run m ρ),
  fun m ρ _ => Cert.In.Gen.frame m ρ,
  fun m ρ _ => Cert.InIdeal.Gen.frame m ρ,
  fun m ρ _ => (θ_run _ _ _).mono (fun r h => ⟨fun c => (h c).2.2, sem_eq_zero_of_no_sems (by decide) r.2⟩)
    (Cert.InRefIdeal.Value.run m ρ),
  fun m ρ _ => Cert.Gates.Gen.frame m ρ,
  fun m ρ _ => Cert.GatesIdeal.Gen.frame m ρ,
  fun m ρ _ => Cert.GatesIdeal.Gen.frame m ρ,
  fun m ρ _ => (θ_run _ _ _).mono (fun r h => ⟨fun c => (h c).2.2.2.2.2.2, sem_eq_zero_of_no_sems (by decide) r.2⟩)
    (Cert.GatesRefIdeal.Value.run m ρ),
  fun m ρ _ => (θ_run _ _ _).mono (fun r h => ⟨fun c => (h c).2.2.2.2.2.2, sem_eq_zero_of_no_sems (by decide) r.2⟩)
    (Cert.GatesRefIdeal.Value.run m ρ),
  fun m ρ _ => Cert.Prep.Gen.frame m ρ,
  fun m ρ _ => Cert.PrepIdeal.Gen.frame m ρ,
  fun m ρ _ => Cert.PrepIdeal.Gen.frame m ρ,
  fun m ρ _ => (θ_run _ _ _).mono (fun r h => ⟨fun c => (h c).2.2.2.2.2, sem_eq_zero_of_no_sems (by decide) r.2⟩)
    (Cert.PrepRefIdeal.Value.run m ρ),
  fun m ρ _ => (θ_run _ _ _).mono (fun r h => ⟨fun c => (h c).2.2.2.2.2, sem_eq_zero_of_no_sems (by decide) r.2⟩)
    (Cert.PrepRefIdeal.Value.run m ρ),
  scanb_frame,
  fun m ρ _ => Cert.ScanbIdeal.Run.frame m ρ,
  fun m ρ _ => Cert.ScanbIdeal.Run.frame m ρ,
  fun m ρ _ => (θ_run _ _ _).mono (fun r h => ⟨fun c => (h c).2, sem_eq_zero_of_no_sems (by decide) r.2⟩)
    (Cert.ScanbRefIdeal.Value.run m ρ),
  fun m ρ _ => (θ_run _ _ _).mono (fun r h => ⟨fun c => (h c).2, sem_eq_zero_of_no_sems (by decide) r.2⟩)
    (Cert.ScanbRefIdeal.Value.run m ρ),
  fun m ρ _ => Cert.Fgates.Gen.frame m ρ,
  fun m ρ _ => Cert.FgatesIdeal.Gen.frame m ρ,
  fun m ρ _ => Cert.FgatesIdeal.Gen.frame m ρ,
  fun m ρ _ => (θ_run _ _ _).mono (fun r h => ⟨fun c => (h c).2.2, sem_eq_zero_of_no_sems (by decide) r.2⟩)
    (Cert.FgatesRefIdeal.Value.run m ρ),
  fun m ρ _ => (θ_run _ _ _).mono (fun r h => ⟨fun c => (h c).2.2, sem_eq_zero_of_no_sems (by decide) r.2⟩)
    (Cert.FgatesRefIdeal.Value.run m ρ),
  fun m ρ _ => Cert.Fmerge.Gen.frame m ρ,
  fun m ρ _ => Cert.FmergeIdeal.Gen.frame m ρ,
  fun m ρ _ => (θ_run _ _ _).mono (fun r h => ⟨fun c => (h c).2.2.2, sem_eq_zero_of_no_sems (by decide) r.2⟩)
    (Cert.FmergeRefIdeal.Value.run m ρ),
  fun m ρ _ => Cert.Fs5post.Gen.frame m ρ,
  fun m ρ _ => Cert.Fs5postIdeal.Gen.frame m ρ,
  fun m ρ _ => (θ_run _ _ _).mono (fun r h => ⟨fun c => (h c).2, sem_eq_zero_of_no_sems (by decide) r.2⟩)
    (Cert.Fs5postRefIdeal.Value.run m ρ),
  fun m ρ _ => Cert.Fin.Gen.frame m ρ,
  fun m ρ _ => Cert.FinIdeal.Gen.frame m ρ,
  fun m ρ _ => (θ_run _ _ _).mono (fun r h => ⟨fun c => (h c).2.2.2.2.2.2.2, sem_eq_zero_of_no_sems (by decide) r.2⟩)
    (Cert.FinRefIdeal.Value.run m ρ),
  fun m ρ _ => Cert.Fple.Gen.frame m ρ,
  fun m ρ _ => Cert.FpleIdeal.Gen.frame m ρ,
  fun m ρ _ => (θ_run _ _ _).mono (fun r h => ⟨fun c => (h c).2, sem_eq_zero_of_no_sems (by decide) r.2⟩)
    (Cert.FpleRefIdeal.Value.run m ρ),
  fun m ρ _ => Cert.Fprep.Gen.frame m ρ,
  fun m ρ _ => Cert.FprepIdeal.Gen.frame m ρ,
  fun m ρ _ => (θ_run _ _ _).mono (fun r h => ⟨fun c => (h c).2.2.2.2, sem_eq_zero_of_no_sems (by decide) r.2⟩)
    (Cert.FprepRefIdeal.Value.run m ρ),
  trivial,
  ple_value,
  trivial,
  loss_value,
  trivial,
  bl_value,
  trivial,
  conv_value,
  ⟨IdealRules.named_const.statement Cert.S5postIdeal.κ "gelu_c" .f32 0x3D372713#32 ((8943 / 200000 : ℝ) : EReal) rfl,
    IdealRules.named_const.statement Cert.S5postIdeal.κ "gelu_c3" .f32 0x3E095D4F#32 ((26829 / 200000 : ℝ) : EReal) rfl⟩,
  s5post_value,
  trivial,
  merge_value,
  trivial,
  in_value,
  trivial,
  gates_value,
  trivial,
  prep_value,
  trivial,
  scanb_value,
  trivial,
  fgates_value,
  trivial,
  fmerge_value,
  IdealRules.named_const.statement Cert.Fs5postIdeal.κ "gelu_c" .f32 0x3D372713#32 ((8943 / 200000 : ℝ) : EReal) rfl,
  fs5post_value,
  trivial,
  fin_value,
  trivial,
  fple_value,
  trivial,
  fprep_value⟩

end Cert.Proof

end
